-- ==== Defs.lean ====
def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallRefIdeal (m : (ℓ : Loc Cert.UpdateSmallRefIdeal.nD Cert.UpdateSmallRefIdeal.τ Cert.UpdateSmallRefIdeal.sig) → Buf (Elt Ideal) ℓ) : Prop :=
  True

def Pre_UpdateConv (m : (ℓ : Loc Cert.UpdateConv.nD Cert.UpdateConv.τ Cert.UpdateConv.sig) → Buf (Elt Bits) ℓ) : Prop :=
  True

def Pre_UpdateConvIdeal (m : (ℓ : Loc Cert.UpdateConvIdeal.nD Cert.UpdateConvIdeal.τ Cert.UpdateConvIdeal.sig) → Buf (Elt Ideal) ℓ) : Prop :=
  True

def Pre_UpdateConvRefIdeal (m : (ℓ : Loc Cert.UpdateConvRefIdeal.nD Cert.UpdateConvRefIdeal.τ Cert.UpdateConvRefIdeal.sig) → Buf (Elt Ideal) ℓ) : Prop :=
  True

def Pre_UpdateAda (m : (ℓ : Loc Cert.UpdateAda.nD Cert.UpdateAda.τ Cert.UpdateAda.sig) → Buf (Elt Bits) ℓ) : Prop :=
  True

def Pre_UpdateAdaIdeal (m : (ℓ : Loc Cert.UpdateAdaIdeal.nD Cert.UpdateAdaIdeal.τ Cert.UpdateAdaIdeal.sig) → Buf (Elt Ideal) ℓ) : Prop :=
  True

def Pre_UpdateAdaRefIdeal (m : (ℓ : Loc Cert.UpdateAdaRefIdeal.nD Cert.UpdateAdaRefIdeal.τ Cert.UpdateAdaRefIdeal.sig) → Buf (Elt Ideal) ℓ) : Prop :=
  True

def Pre_UpdateCctx (m : (ℓ : Loc Cert.UpdateCctx.nD Cert.UpdateCctx.τ Cert.UpdateCctx.sig) → Buf (Elt Bits) ℓ) : Prop :=
  True

def Pre_UpdateCctxIdeal (m : (ℓ : Loc Cert.UpdateCctxIdeal.nD Cert.UpdateCctxIdeal.τ Cert.UpdateCctxIdeal.sig) → Buf (Elt Ideal) ℓ) : Prop :=
  True

def Pre_UpdateCctxRefIdeal (m : (ℓ : Loc Cert.UpdateCctxRefIdeal.nD Cert.UpdateCctxRefIdeal.τ Cert.UpdateCctxRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_ModulationGrad (m : (ℓ : Loc Cert.ModulationGrad.nD Cert.ModulationGrad.τ Cert.ModulationGrad.sig) → Buf (Elt Bits) ℓ) : Prop :=
  True

def Pre_ModulationGradIdeal (m : (ℓ : Loc Cert.ModulationGradIdeal.nD Cert.ModulationGradIdeal.τ Cert.ModulationGradIdeal.sig) → Buf (Elt Ideal) ℓ) : Prop :=
  True

def Pre_ModulationGradRefIdeal (m : (ℓ : Loc Cert.ModulationGradRefIdeal.nD Cert.ModulationGradRefIdeal.τ Cert.ModulationGradRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_ProjectGrad (m : (ℓ : Loc Cert.ProjectGrad.nD Cert.ProjectGrad.τ Cert.ProjectGrad.sig) → Buf (Elt Bits) ℓ) : Prop :=
  True

def Pre_ProjectGradIdeal (m : (ℓ : Loc Cert.ProjectGradIdeal.nD Cert.ProjectGradIdeal.τ Cert.ProjectGradIdeal.sig) → Buf (Elt Ideal) ℓ) : Prop :=
  True

def Pre_ProjectGradRefIdeal (m : (ℓ : Loc Cert.ProjectGradRefIdeal.nD Cert.ProjectGradRefIdeal.τ Cert.ProjectGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_UpInputGrad (m : (ℓ : Loc Cert.UpInputGrad.nD Cert.UpInputGrad.τ Cert.UpInputGrad.sig) → Buf (Elt Bits) ℓ) : Prop :=
  True

def Pre_UpInputGradIdeal (m : (ℓ : Loc Cert.UpInputGradIdeal.nD Cert.UpInputGradIdeal.τ Cert.UpInputGradIdeal.sig) → Buf (Elt Ideal) ℓ) : Prop :=
  True

def Pre_UpInputGradRefIdeal (m : (ℓ : Loc Cert.UpInputGradRefIdeal.nD Cert.UpInputGradRefIdeal.τ Cert.UpInputGradRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_scores [hPre_finite_scores : Cert.Pre_finite_scores.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_scores.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradRefIdeal (m : (ℓ : Loc Cert.ConvGradRefIdeal.nD Cert.ConvGradRefIdeal.τ Cert.ConvGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallRefIdeal [hUpdateSmallRefIdeal : Cert.UpdateSmallRefIdeal.Facts] : Prop :=
  ∀ (m : (ℓ : Loc Cert.UpdateSmallRefIdeal.nD Cert.UpdateSmallRefIdeal.τ Cert.UpdateSmallRefIdeal.sig) → Buf (Elt Ideal) ℓ) (g : Dev Cert.UpdateSmallRefIdeal.nD → PrngReg), Pre_UpdateSmallRefIdeal m →
    θ_run (Cert.UpdateSmallRefIdeal.defs (F := Ideal)) (onTc (τ := Cert.UpdateSmallRefIdeal.τ) (Cert.UpdateSmallRefIdeal.main (F := Ideal))) ⟨m, fun _ => 0, g⟩ (fun r => (∀ c : Dev Cert.UpdateSmallRefIdeal.nD,
      r.2.mem ((c.tc : Thread Cert.UpdateSmallRefIdeal.nD Cert.UpdateSmallRefIdeal.τ).loc Cert.UpdateSmallRefIdeal.main_arg0) = m ((c.tc : Thread Cert.UpdateSmallRefIdeal.nD Cert.UpdateSmallRefIdeal.τ).loc Cert.UpdateSmallRefIdeal.main_arg0)
      ∧ r.2.mem ((c.tc : Thread Cert.UpdateSmallRefIdeal.nD Cert.UpdateSmallRefIdeal.τ).loc Cert.UpdateSmallRefIdeal.main_arg1) = m ((c.tc : Thread Cert.UpdateSmallRefIdeal.nD Cert.UpdateSmallRefIdeal.τ).loc Cert.UpdateSmallRefIdeal.main_arg1)
      ∧ r.2.mem ((c.tc : Thread Cert.UpdateSmallRefIdeal.nD Cert.UpdateSmallRefIdeal.τ).loc Cert.UpdateSmallRefIdeal.main_arg2) = m ((c.tc : Thread Cert.UpdateSmallRefIdeal.nD Cert.UpdateSmallRefIdeal.τ).loc Cert.UpdateSmallRefIdeal.main_arg2)
      ∧ r.2.mem ((c.tc : Thread Cert.UpdateSmallRefIdeal.nD Cert.UpdateSmallRefIdeal.τ).loc Cert.UpdateSmallRefIdeal.main_arg3) = m ((c.tc : Thread Cert.UpdateSmallRefIdeal.nD Cert.UpdateSmallRefIdeal.τ).loc Cert.UpdateSmallRefIdeal.main_arg3))
      ∧ r.2.sem = fun _ => 0)

def quiescent_UpdateConv [hUpdateConv : Cert.UpdateConv.Facts] : Prop :=
  ∀ (m : (ℓ : Loc Cert.UpdateConv.nD Cert.UpdateConv.τ Cert.UpdateConv.sig) → Buf (Elt Bits) ℓ) (g : Dev Cert.UpdateConv.nD → PrngReg), Pre_UpdateConv m →
    θ_run (Cert.UpdateConv.defs (F := Bits)) (onTc (τ := Cert.UpdateConv.τ) (Cert.UpdateConv.main (F := Bits))) ⟨m, fun _ => 0, g⟩ (fun r => (∀ c : Dev Cert.UpdateConv.nD,
      r.2.mem ((c.tc : Thread Cert.UpdateConv.nD Cert.UpdateConv.τ).loc Cert.UpdateConv.main_arg0) = m ((c.tc : Thread Cert.UpdateConv.nD Cert.UpdateConv.τ).loc Cert.UpdateConv.main_arg0)
      ∧ r.2.mem ((c.tc : Thread Cert.UpdateConv.nD Cert.UpdateConv.τ).loc Cert.UpdateConv.main_arg1) = m ((c.tc : Thread Cert.UpdateConv.nD Cert.UpdateConv.τ).loc Cert.UpdateConv.main_arg1)
      ∧ r.2.mem ((c.tc : Thread Cert.UpdateConv.nD Cert.UpdateConv.τ).loc Cert.UpdateConv.main_arg2) = m ((c.tc : Thread Cert.UpdateConv.nD Cert.UpdateConv.τ).loc Cert.UpdateConv.main_arg2)
      ∧ r.2.mem ((c.tc : Thread Cert.UpdateConv.nD Cert.UpdateConv.τ).loc Cert.UpdateConv.main_arg3) = m ((c.tc : Thread Cert.UpdateConv.nD Cert.UpdateConv.τ).loc Cert.UpdateConv.main_arg3))
      ∧ r.2.sem = fun _ => 0)

def quiescent_UpdateConvIdeal [hUpdateConvIdeal : Cert.UpdateConvIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg), Pre_UpdateConvIdeal m →
    θ_run (Cert.UpdateConvIdeal.defs (F := Ideal)) (onTc (τ := Cert.UpdateConvIdeal.τ) (Cert.UpdateConvIdeal.main (F := Ideal))) ⟨m, fun _ => 0, g⟩ (fun r => (∀ c : Dev Cert.UpdateConvIdeal.nD,
      r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
      ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
      ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
      ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ r.2.sem = fun _ => 0)

def quiescent_UpdateConvRefIdeal [hUpdateConvRefIdeal : Cert.UpdateConvRefIdeal.Facts] : Prop :=
  ∀ (m : (ℓ : Loc Cert.UpdateConvRefIdeal.nD Cert.UpdateConvRefIdeal.τ Cert.UpdateConvRefIdeal.sig) → Buf (Elt Ideal) ℓ) (g : Dev Cert.UpdateConvRefIdeal.nD → PrngReg), Pre_UpdateConvRefIdeal m →
    θ_run (Cert.UpdateConvRefIdeal.defs (F := Ideal)) (onTc (τ := Cert.UpdateConvRefIdeal.τ) (Cert.UpdateConvRefIdeal.main (F := Ideal))) ⟨m, fun _ => 0, g⟩ (fun r => (∀ c : Dev Cert.UpdateConvRefIdeal.nD,
      r.2.mem ((c.tc : Thread Cert.UpdateConvRefIdeal.nD Cert.UpdateConvRefIdeal.τ).loc Cert.UpdateConvRefIdeal.main_arg0) = m ((c.tc : Thread Cert.UpdateConvRefIdeal.nD Cert.UpdateConvRefIdeal.τ).loc Cert.UpdateConvRefIdeal.main_arg0)
      ∧ r.2.mem ((c.tc : Thread Cert.UpdateConvRefIdeal.nD Cert.UpdateConvRefIdeal.τ).loc Cert.UpdateConvRefIdeal.main_arg1) = m ((c.tc : Thread Cert.UpdateConvRefIdeal.nD Cert.UpdateConvRefIdeal.τ).loc Cert.UpdateConvRefIdeal.main_arg1)
      ∧ r.2.mem ((c.tc : Thread Cert.UpdateConvRefIdeal.nD Cert.UpdateConvRefIdeal.τ).loc Cert.UpdateConvRefIdeal.main_arg2) = m ((c.tc : Thread Cert.UpdateConvRefIdeal.nD Cert.UpdateConvRefIdeal.τ).loc Cert.UpdateConvRefIdeal.main_arg2)
      ∧ r.2.mem ((c.tc : Thread Cert.UpdateConvRefIdeal.nD Cert.UpdateConvRefIdeal.τ).loc Cert.UpdateConvRefIdeal.main_arg3) = m ((c.tc : Thread Cert.UpdateConvRefIdeal.nD Cert.UpdateConvRefIdeal.τ).loc Cert.UpdateConvRefIdeal.main_arg3))
      ∧ r.2.sem = fun _ => 0)

def quiescent_UpdateAda [hUpdateAda : Cert.UpdateAda.Facts] : Prop :=
  ∀ (m : (ℓ : Loc Cert.UpdateAda.nD Cert.UpdateAda.τ Cert.UpdateAda.sig) → Buf (Elt Bits) ℓ) (g : Dev Cert.UpdateAda.nD → PrngReg), Pre_UpdateAda m →
    θ_run (Cert.UpdateAda.defs (F := Bits)) (onTc (τ := Cert.UpdateAda.τ) (Cert.UpdateAda.main (F := Bits))) ⟨m, fun _ => 0, g⟩ (fun r => (∀ c : Dev Cert.UpdateAda.nD,
      r.2.mem ((c.tc : Thread Cert.UpdateAda.nD Cert.UpdateAda.τ).loc Cert.UpdateAda.main_arg0) = m ((c.tc : Thread Cert.UpdateAda.nD Cert.UpdateAda.τ).loc Cert.UpdateAda.main_arg0)
      ∧ r.2.mem ((c.tc : Thread Cert.UpdateAda.nD Cert.UpdateAda.τ).loc Cert.UpdateAda.main_arg1) = m ((c.tc : Thread Cert.UpdateAda.nD Cert.UpdateAda.τ).loc Cert.UpdateAda.main_arg1)
      ∧ r.2.mem ((c.tc : Thread Cert.UpdateAda.nD Cert.UpdateAda.τ).loc Cert.UpdateAda.main_arg2) = m ((c.tc : Thread Cert.UpdateAda.nD Cert.UpdateAda.τ).loc Cert.UpdateAda.main_arg2)
      ∧ r.2.mem ((c.tc : Thread Cert.UpdateAda.nD Cert.UpdateAda.τ).loc Cert.UpdateAda.main_arg3) = m ((c.tc : Thread Cert.UpdateAda.nD Cert.UpdateAda.τ).loc Cert.UpdateAda.main_arg3))
      ∧ r.2.sem = fun _ => 0)

def quiescent_UpdateAdaIdeal [hUpdateAdaIdeal : Cert.UpdateAdaIdeal.Facts] : Prop :=
  ∀ (m : (ℓ : Loc Cert.UpdateAdaIdeal.nD Cert.UpdateAdaIdeal.τ Cert.UpdateAdaIdeal.sig) → Buf (Elt Ideal) ℓ) (g : Dev Cert.UpdateAdaIdeal.nD → PrngReg), Pre_UpdateAdaIdeal m →
    θ_run (Cert.UpdateAdaIdeal.defs (F := Ideal)) (onTc (τ := Cert.UpdateAdaIdeal.τ) (Cert.UpdateAdaIdeal.main (F := Ideal))) ⟨m, fun _ => 0, g⟩ (fun r => (∀ c : Dev Cert.UpdateAdaIdeal.nD,
      r.2.mem ((c.tc : Thread Cert.UpdateAdaIdeal.nD Cert.UpdateAdaIdeal.τ).loc Cert.UpdateAdaIdeal.main_arg0) = m ((c.tc : Thread Cert.UpdateAdaIdeal.nD Cert.UpdateAdaIdeal.τ).loc Cert.UpdateAdaIdeal.main_arg0)
      ∧ r.2.mem ((c.tc : Thread Cert.UpdateAdaIdeal.nD Cert.UpdateAdaIdeal.τ).loc Cert.UpdateAdaIdeal.main_arg1) = m ((c.tc : Thread Cert.UpdateAdaIdeal.nD Cert.UpdateAdaIdeal.τ).loc Cert.UpdateAdaIdeal.main_arg1)
      ∧ r.2.mem ((c.tc : Thread Cert.UpdateAdaIdeal.nD Cert.UpdateAdaIdeal.τ).loc Cert.UpdateAdaIdeal.main_arg2) = m ((c.tc : Thread Cert.UpdateAdaIdeal.nD Cert.UpdateAdaIdeal.τ).loc Cert.UpdateAdaIdeal.main_arg2)
      ∧ r.2.mem ((c.tc : Thread Cert.UpdateAdaIdeal.nD Cert.UpdateAdaIdeal.τ).loc Cert.UpdateAdaIdeal.main_arg3) = m ((c.tc : Thread Cert.UpdateAdaIdeal.nD Cert.UpdateAdaIdeal.τ).loc Cert.UpdateAdaIdeal.main_arg3))
      ∧ r.2.sem = fun _ => 0)

def quiescent_UpdateAdaRefIdeal [hUpdateAdaRefIdeal : Cert.UpdateAdaRefIdeal.Facts] : Prop :=
  ∀ (m : (ℓ : Loc Cert.UpdateAdaRefIdeal.nD Cert.UpdateAdaRefIdeal.τ Cert.UpdateAdaRefIdeal.sig) → Buf (Elt Ideal) ℓ) (g : Dev Cert.UpdateAdaRefIdeal.nD → PrngReg), Pre_UpdateAdaRefIdeal m →
    θ_run (Cert.UpdateAdaRefIdeal.defs (F := Ideal)) (onTc (τ := Cert.UpdateAdaRefIdeal.τ) (Cert.UpdateAdaRefIdeal.main (F := Ideal))) ⟨m, fun _ => 0, g⟩ (fun r => (∀ c : Dev Cert.UpdateAdaRefIdeal.nD,
      r.2.mem ((c.tc : Thread Cert.UpdateAdaRefIdeal.nD Cert.UpdateAdaRefIdeal.τ).loc Cert.UpdateAdaRefIdeal.main_arg0) = m ((c.tc : Thread Cert.UpdateAdaRefIdeal.nD Cert.UpdateAdaRefIdeal.τ).loc Cert.UpdateAdaRefIdeal.main_arg0)
      ∧ r.2.mem ((c.tc : Thread Cert.UpdateAdaRefIdeal.nD Cert.UpdateAdaRefIdeal.τ).loc Cert.UpdateAdaRefIdeal.main_arg1) = m ((c.tc : Thread Cert.UpdateAdaRefIdeal.nD Cert.UpdateAdaRefIdeal.τ).loc Cert.UpdateAdaRefIdeal.main_arg1)
      ∧ r.2.mem ((c.tc : Thread Cert.UpdateAdaRefIdeal.nD Cert.UpdateAdaRefIdeal.τ).loc Cert.UpdateAdaRefIdeal.main_arg2) = m ((c.tc : Thread Cert.UpdateAdaRefIdeal.nD Cert.UpdateAdaRefIdeal.τ).loc Cert.UpdateAdaRefIdeal.main_arg2)
      ∧ r.2.mem ((c.tc : Thread Cert.UpdateAdaRefIdeal.nD Cert.UpdateAdaRefIdeal.τ).loc Cert.UpdateAdaRefIdeal.main_arg3) = m ((c.tc : Thread Cert.UpdateAdaRefIdeal.nD Cert.UpdateAdaRefIdeal.τ).loc Cert.UpdateAdaRefIdeal.main_arg3))
      ∧ r.2.sem = fun _ => 0)

def quiescent_UpdateCctx [hUpdateCctx : Cert.UpdateCctx.Facts] : Prop :=
  ∀ (m : (ℓ : Loc Cert.UpdateCctx.nD Cert.UpdateCctx.τ Cert.UpdateCctx.sig) → Buf (Elt Bits) ℓ) (g : Dev Cert.UpdateCctx.nD → PrngReg), Pre_UpdateCctx m →
    θ_run (Cert.UpdateCctx.defs (F := Bits)) (onTc (τ := Cert.UpdateCctx.τ) (Cert.UpdateCctx.main (F := Bits))) ⟨m, fun _ => 0, g⟩ (fun r => (∀ c : Dev Cert.UpdateCctx.nD,
      r.2.mem ((c.tc : Thread Cert.UpdateCctx.nD Cert.UpdateCctx.τ).loc Cert.UpdateCctx.main_arg0) = m ((c.tc : Thread Cert.UpdateCctx.nD Cert.UpdateCctx.τ).loc Cert.UpdateCctx.main_arg0)
      ∧ r.2.mem ((c.tc : Thread Cert.UpdateCctx.nD Cert.UpdateCctx.τ).loc Cert.UpdateCctx.main_arg1) = m ((c.tc : Thread Cert.UpdateCctx.nD Cert.UpdateCctx.τ).loc Cert.UpdateCctx.main_arg1)
      ∧ r.2.mem ((c.tc : Thread Cert.UpdateCctx.nD Cert.UpdateCctx.τ).loc Cert.UpdateCctx.main_arg2) = m ((c.tc : Thread Cert.UpdateCctx.nD Cert.UpdateCctx.τ).loc Cert.UpdateCctx.main_arg2)
      ∧ r.2.mem ((c.tc : Thread Cert.UpdateCctx.nD Cert.UpdateCctx.τ).loc Cert.UpdateCctx.main_arg3) = m ((c.tc : Thread Cert.UpdateCctx.nD Cert.UpdateCctx.τ).loc Cert.UpdateCctx.main_arg3))
      ∧ r.2.sem = fun _ => 0)

def quiescent_UpdateCctxIdeal [hUpdateCctxIdeal : Cert.UpdateCctxIdeal.Facts] : Prop :=
  ∀ (m : (ℓ : Loc Cert.UpdateCctxIdeal.nD Cert.UpdateCctxIdeal.τ Cert.UpdateCctxIdeal.sig) → Buf (Elt Ideal) ℓ) (g : Dev Cert.UpdateCctxIdeal.nD → PrngReg), Pre_UpdateCctxIdeal m →
    θ_run (Cert.UpdateCctxIdeal.defs (F := Ideal)) (onTc (τ := Cert.UpdateCctxIdeal.τ) (Cert.UpdateCctxIdeal.main (F := Ideal))) ⟨m, fun _ => 0, g⟩ (fun r => (∀ c : Dev Cert.UpdateCctxIdeal.nD,
      r.2.mem ((c.tc : Thread Cert.UpdateCctxIdeal.nD Cert.UpdateCctxIdeal.τ).loc Cert.UpdateCctxIdeal.main_arg0) = m ((c.tc : Thread Cert.UpdateCctxIdeal.nD Cert.UpdateCctxIdeal.τ).loc Cert.UpdateCctxIdeal.main_arg0)
      ∧ r.2.mem ((c.tc : Thread Cert.UpdateCctxIdeal.nD Cert.UpdateCctxIdeal.τ).loc Cert.UpdateCctxIdeal.main_arg1) = m ((c.tc : Thread Cert.UpdateCctxIdeal.nD Cert.UpdateCctxIdeal.τ).loc Cert.UpdateCctxIdeal.main_arg1)
      ∧ r.2.mem ((c.tc : Thread Cert.UpdateCctxIdeal.nD Cert.UpdateCctxIdeal.τ).loc Cert.UpdateCctxIdeal.main_arg2) = m ((c.tc : Thread Cert.UpdateCctxIdeal.nD Cert.UpdateCctxIdeal.τ).loc Cert.UpdateCctxIdeal.main_arg2)
      ∧ r.2.mem ((c.tc : Thread Cert.UpdateCctxIdeal.nD Cert.UpdateCctxIdeal.τ).loc Cert.UpdateCctxIdeal.main_arg3) = m ((c.tc : Thread Cert.UpdateCctxIdeal.nD Cert.UpdateCctxIdeal.τ).loc Cert.UpdateCctxIdeal.main_arg3))
      ∧ r.2.sem = fun _ => 0)

def quiescent_UpdateCctxRefIdeal [hUpdateCctxRefIdeal : Cert.UpdateCctxRefIdeal.Facts] : Prop :=
  ∀ (m : (ℓ : Loc Cert.UpdateCctxRefIdeal.nD Cert.UpdateCctxRefIdeal.τ Cert.UpdateCctxRefIdeal.sig) → Buf (Elt Ideal) ℓ) (g : Dev Cert.UpdateCctxRefIdeal.nD → PrngReg), Pre_UpdateCctxRefIdeal m →
    θ_run (Cert.UpdateCctxRefIdeal.defs (F := Ideal)) (onTc (τ := Cert.UpdateCctxRefIdeal.τ) (Cert.UpdateCctxRefIdeal.main (F := Ideal))) ⟨m, fun _ => 0, g⟩ (fun r => (∀ c : Dev Cert.UpdateCctxRefIdeal.nD,
      r.2.mem ((c.tc : Thread Cert.UpdateCctxRefIdeal.nD Cert.UpdateCctxRefIdeal.τ).loc Cert.UpdateCctxRefIdeal.main_arg0) = m ((c.tc : Thread Cert.UpdateCctxRefIdeal.nD Cert.UpdateCctxRefIdeal.τ).loc Cert.UpdateCctxRefIdeal.main_arg0)
      ∧ r.2.mem ((c.tc : Thread Cert.UpdateCctxRefIdeal.nD Cert.UpdateCctxRefIdeal.τ).loc Cert.UpdateCctxRefIdeal.main_arg1) = m ((c.tc : Thread Cert.UpdateCctxRefIdeal.nD Cert.UpdateCctxRefIdeal.τ).loc Cert.UpdateCctxRefIdeal.main_arg1)
      ∧ r.2.mem ((c.tc : Thread Cert.UpdateCctxRefIdeal.nD Cert.UpdateCctxRefIdeal.τ).loc Cert.UpdateCctxRefIdeal.main_arg2) = m ((c.tc : Thread Cert.UpdateCctxRefIdeal.nD Cert.UpdateCctxRefIdeal.τ).loc Cert.UpdateCctxRefIdeal.main_arg2)
      ∧ r.2.mem ((c.tc : Thread Cert.UpdateCctxRefIdeal.nD Cert.UpdateCctxRefIdeal.τ).loc Cert.UpdateCctxRefIdeal.main_arg3) = m ((c.tc : Thread Cert.UpdateCctxRefIdeal.nD Cert.UpdateCctxRefIdeal.τ).loc Cert.UpdateCctxRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3)
      ∧ r.2.mem ((c.tc : Thread Cert.InputGrad.nD Cert.InputGrad.τ).loc Cert.InputGrad.main_arg4) = m ((c.tc : Thread Cert.InputGrad.nD Cert.InputGrad.τ).loc Cert.InputGrad.main_arg4))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
      ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1)
      ∧ r.2.mem ((c.tc : Thread Cert.InputGradRefIdeal.nD Cert.InputGradRefIdeal.τ).loc Cert.InputGradRefIdeal.main_arg2) = m ((c.tc : Thread Cert.InputGradRefIdeal.nD Cert.InputGradRefIdeal.τ).loc Cert.InputGradRefIdeal.main_arg2)
      ∧ r.2.mem ((c.tc : Thread Cert.InputGradRefIdeal.nD Cert.InputGradRefIdeal.τ).loc Cert.InputGradRefIdeal.main_arg3) = m ((c.tc : Thread Cert.InputGradRefIdeal.nD Cert.InputGradRefIdeal.τ).loc Cert.InputGradRefIdeal.main_arg3)
      ∧ r.2.mem ((c.tc : Thread Cert.InputGradRefIdeal.nD Cert.InputGradRefIdeal.τ).loc Cert.InputGradRefIdeal.main_arg4) = m ((c.tc : Thread Cert.InputGradRefIdeal.nD Cert.InputGradRefIdeal.τ).loc Cert.InputGradRefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_ModulationGrad [hModulationGrad : Cert.ModulationGrad.Facts] : Prop :=
  ∀ (m : (ℓ : Loc Cert.ModulationGrad.nD Cert.ModulationGrad.τ Cert.ModulationGrad.sig) → Buf (Elt Bits) ℓ) (g : Dev Cert.ModulationGrad.nD → PrngReg), Pre_ModulationGrad m →
    θ_run (Cert.ModulationGrad.defs (F := Bits)) (onTc (τ := Cert.ModulationGrad.τ) (Cert.ModulationGrad.main (F := Bits))) ⟨m, fun _ => 0, g⟩ (fun r => (∀ c : Dev Cert.ModulationGrad.nD,
      r.2.mem ((c.tc : Thread Cert.ModulationGrad.nD Cert.ModulationGrad.τ).loc Cert.ModulationGrad.main_arg0) = m ((c.tc : Thread Cert.ModulationGrad.nD Cert.ModulationGrad.τ).loc Cert.ModulationGrad.main_arg0)
      ∧ r.2.mem ((c.tc : Thread Cert.ModulationGrad.nD Cert.ModulationGrad.τ).loc Cert.ModulationGrad.main_arg1) = m ((c.tc : Thread Cert.ModulationGrad.nD Cert.ModulationGrad.τ).loc Cert.ModulationGrad.main_arg1)
      ∧ r.2.mem ((c.tc : Thread Cert.ModulationGrad.nD Cert.ModulationGrad.τ).loc Cert.ModulationGrad.main_arg2) = m ((c.tc : Thread Cert.ModulationGrad.nD Cert.ModulationGrad.τ).loc Cert.ModulationGrad.main_arg2))
      ∧ r.2.sem = fun _ => 0)

def quiescent_ModulationGradIdeal [hModulationGradIdeal : Cert.ModulationGradIdeal.Facts] : Prop :=
  ∀ (m : (ℓ : Loc Cert.ModulationGradIdeal.nD Cert.ModulationGradIdeal.τ Cert.ModulationGradIdeal.sig) → Buf (Elt Ideal) ℓ) (g : Dev Cert.ModulationGradIdeal.nD → PrngReg), Pre_ModulationGradIdeal m →
    θ_run (Cert.ModulationGradIdeal.defs (F := Ideal)) (onTc (τ := Cert.ModulationGradIdeal.τ) (Cert.ModulationGradIdeal.main (F := Ideal))) ⟨m, fun _ => 0, g⟩ (fun r => (∀ c : Dev Cert.ModulationGradIdeal.nD,
      r.2.mem ((c.tc : Thread Cert.ModulationGradIdeal.nD Cert.ModulationGradIdeal.τ).loc Cert.ModulationGradIdeal.main_arg0) = m ((c.tc : Thread Cert.ModulationGradIdeal.nD Cert.ModulationGradIdeal.τ).loc Cert.ModulationGradIdeal.main_arg0)
      ∧ r.2.mem ((c.tc : Thread Cert.ModulationGradIdeal.nD Cert.ModulationGradIdeal.τ).loc Cert.ModulationGradIdeal.main_arg1) = m ((c.tc : Thread Cert.ModulationGradIdeal.nD Cert.ModulationGradIdeal.τ).loc Cert.ModulationGradIdeal.main_arg1)
      ∧ r.2.mem ((c.tc : Thread Cert.ModulationGradIdeal.nD Cert.ModulationGradIdeal.τ).loc Cert.ModulationGradIdeal.main_arg2) = m ((c.tc : Thread Cert.ModulationGradIdeal.nD Cert.ModulationGradIdeal.τ).loc Cert.ModulationGradIdeal.main_arg2))
      ∧ r.2.sem = fun _ => 0)

def quiescent_ModulationGradRefIdeal [hModulationGradRefIdeal : Cert.ModulationGradRefIdeal.Facts] : Prop :=
  ∀ (m : (ℓ : Loc Cert.ModulationGradRefIdeal.nD Cert.ModulationGradRefIdeal.τ Cert.ModulationGradRefIdeal.sig) → Buf (Elt Ideal) ℓ) (g : Dev Cert.ModulationGradRefIdeal.nD → PrngReg), Pre_ModulationGradRefIdeal m →
    θ_run (Cert.ModulationGradRefIdeal.defs (F := Ideal)) (onTc (τ := Cert.ModulationGradRefIdeal.τ) (Cert.ModulationGradRefIdeal.main (F := Ideal))) ⟨m, fun _ => 0, g⟩ (fun r => (∀ c : Dev Cert.ModulationGradRefIdeal.nD,
      r.2.mem ((c.tc : Thread Cert.ModulationGradRefIdeal.nD Cert.ModulationGradRefIdeal.τ).loc Cert.ModulationGradRefIdeal.main_arg0) = m ((c.tc : Thread Cert.ModulationGradRefIdeal.nD Cert.ModulationGradRefIdeal.τ).loc Cert.ModulationGradRefIdeal.main_arg0)
      ∧ r.2.mem ((c.tc : Thread Cert.ModulationGradRefIdeal.nD Cert.ModulationGradRefIdeal.τ).loc Cert.ModulationGradRefIdeal.main_arg1) = m ((c.tc : Thread Cert.ModulationGradRefIdeal.nD Cert.ModulationGradRefIdeal.τ).loc Cert.ModulationGradRefIdeal.main_arg1)
      ∧ r.2.mem ((c.tc : Thread Cert.ModulationGradRefIdeal.nD Cert.ModulationGradRefIdeal.τ).loc Cert.ModulationGradRefIdeal.main_arg2) = m ((c.tc : Thread Cert.ModulationGradRefIdeal.nD Cert.ModulationGradRefIdeal.τ).loc Cert.ModulationGradRefIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_ProjectGrad [hProjectGrad : Cert.ProjectGrad.Facts] : Prop :=
  ∀ (m : (ℓ : Loc Cert.ProjectGrad.nD Cert.ProjectGrad.τ Cert.ProjectGrad.sig) → Buf (Elt Bits) ℓ) (g : Dev Cert.ProjectGrad.nD → PrngReg), Pre_ProjectGrad m →
    θ_run (Cert.ProjectGrad.defs (F := Bits)) (onTc (τ := Cert.ProjectGrad.τ) (Cert.ProjectGrad.main (F := Bits))) ⟨m, fun _ => 0, g⟩ (fun r => (∀ c : Dev Cert.ProjectGrad.nD,
      r.2.mem ((c.tc : Thread Cert.ProjectGrad.nD Cert.ProjectGrad.τ).loc Cert.ProjectGrad.main_arg0) = m ((c.tc : Thread Cert.ProjectGrad.nD Cert.ProjectGrad.τ).loc Cert.ProjectGrad.main_arg0)
      ∧ r.2.mem ((c.tc : Thread Cert.ProjectGrad.nD Cert.ProjectGrad.τ).loc Cert.ProjectGrad.main_arg1) = m ((c.tc : Thread Cert.ProjectGrad.nD Cert.ProjectGrad.τ).loc Cert.ProjectGrad.main_arg1)
      ∧ r.2.mem ((c.tc : Thread Cert.ProjectGrad.nD Cert.ProjectGrad.τ).loc Cert.ProjectGrad.main_arg2) = m ((c.tc : Thread Cert.ProjectGrad.nD Cert.ProjectGrad.τ).loc Cert.ProjectGrad.main_arg2))
      ∧ r.2.sem = fun _ => 0)

def quiescent_ProjectGradIdeal [hProjectGradIdeal : Cert.ProjectGradIdeal.Facts] : Prop :=
  ∀ (m : (ℓ : Loc Cert.ProjectGradIdeal.nD Cert.ProjectGradIdeal.τ Cert.ProjectGradIdeal.sig) → Buf (Elt Ideal) ℓ) (g : Dev Cert.ProjectGradIdeal.nD → PrngReg), Pre_ProjectGradIdeal m →
    θ_run (Cert.ProjectGradIdeal.defs (F := Ideal)) (onTc (τ := Cert.ProjectGradIdeal.τ) (Cert.ProjectGradIdeal.main (F := Ideal))) ⟨m, fun _ => 0, g⟩ (fun r => (∀ c : Dev Cert.ProjectGradIdeal.nD,
      r.2.mem ((c.tc : Thread Cert.ProjectGradIdeal.nD Cert.ProjectGradIdeal.τ).loc Cert.ProjectGradIdeal.main_arg0) = m ((c.tc : Thread Cert.ProjectGradIdeal.nD Cert.ProjectGradIdeal.τ).loc Cert.ProjectGradIdeal.main_arg0)
      ∧ r.2.mem ((c.tc : Thread Cert.ProjectGradIdeal.nD Cert.ProjectGradIdeal.τ).loc Cert.ProjectGradIdeal.main_arg1) = m ((c.tc : Thread Cert.ProjectGradIdeal.nD Cert.ProjectGradIdeal.τ).loc Cert.ProjectGradIdeal.main_arg1)
      ∧ r.2.mem ((c.tc : Thread Cert.ProjectGradIdeal.nD Cert.ProjectGradIdeal.τ).loc Cert.ProjectGradIdeal.main_arg2) = m ((c.tc : Thread Cert.ProjectGradIdeal.nD Cert.ProjectGradIdeal.τ).loc Cert.ProjectGradIdeal.main_arg2))
      ∧ r.2.sem = fun _ => 0)

def quiescent_ProjectGradRefIdeal [hProjectGradRefIdeal : Cert.ProjectGradRefIdeal.Facts] : Prop :=
  ∀ (m : (ℓ : Loc Cert.ProjectGradRefIdeal.nD Cert.ProjectGradRefIdeal.τ Cert.ProjectGradRefIdeal.sig) → Buf (Elt Ideal) ℓ) (g : Dev Cert.ProjectGradRefIdeal.nD → PrngReg), Pre_ProjectGradRefIdeal m →
    θ_run (Cert.ProjectGradRefIdeal.defs (F := Ideal)) (onTc (τ := Cert.ProjectGradRefIdeal.τ) (Cert.ProjectGradRefIdeal.main (F := Ideal))) ⟨m, fun _ => 0, g⟩ (fun r => (∀ c : Dev Cert.ProjectGradRefIdeal.nD,
      r.2.mem ((c.tc : Thread Cert.ProjectGradRefIdeal.nD Cert.ProjectGradRefIdeal.τ).loc Cert.ProjectGradRefIdeal.main_arg0) = m ((c.tc : Thread Cert.ProjectGradRefIdeal.nD Cert.ProjectGradRefIdeal.τ).loc Cert.ProjectGradRefIdeal.main_arg0)
      ∧ r.2.mem ((c.tc : Thread Cert.ProjectGradRefIdeal.nD Cert.ProjectGradRefIdeal.τ).loc Cert.ProjectGradRefIdeal.main_arg1) = m ((c.tc : Thread Cert.ProjectGradRefIdeal.nD Cert.ProjectGradRefIdeal.τ).loc Cert.ProjectGradRefIdeal.main_arg1)
      ∧ r.2.mem ((c.tc : Thread Cert.ProjectGradRefIdeal.nD Cert.ProjectGradRefIdeal.τ).loc Cert.ProjectGradRefIdeal.main_arg2) = m ((c.tc : Thread Cert.ProjectGradRefIdeal.nD Cert.ProjectGradRefIdeal.τ).loc Cert.ProjectGradRefIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2))
      ∧ r.2.sem = fun _ => 0)

def quiescent_UpInputGrad [hUpInputGrad : Cert.UpInputGrad.Facts] : Prop :=
  ∀ (m : (ℓ : Loc Cert.UpInputGrad.nD Cert.UpInputGrad.τ Cert.UpInputGrad.sig) → Buf (Elt Bits) ℓ) (g : Dev Cert.UpInputGrad.nD → PrngReg), Pre_UpInputGrad m →
    θ_run (Cert.UpInputGrad.defs (F := Bits)) (onTc (τ := Cert.UpInputGrad.τ) (Cert.UpInputGrad.main (F := Bits))) ⟨m, fun _ => 0, g⟩ (fun r => (∀ c : Dev Cert.UpInputGrad.nD,
      r.2.mem ((c.tc : Thread Cert.UpInputGrad.nD Cert.UpInputGrad.τ).loc Cert.UpInputGrad.main_arg0) = m ((c.tc : Thread Cert.UpInputGrad.nD Cert.UpInputGrad.τ).loc Cert.UpInputGrad.main_arg0)
      ∧ r.2.mem ((c.tc : Thread Cert.UpInputGrad.nD Cert.UpInputGrad.τ).loc Cert.UpInputGrad.main_arg1) = m ((c.tc : Thread Cert.UpInputGrad.nD Cert.UpInputGrad.τ).loc Cert.UpInputGrad.main_arg1)
      ∧ r.2.mem ((c.tc : Thread Cert.UpInputGrad.nD Cert.UpInputGrad.τ).loc Cert.UpInputGrad.main_arg2) = m ((c.tc : Thread Cert.UpInputGrad.nD Cert.UpInputGrad.τ).loc Cert.UpInputGrad.main_arg2)
      ∧ r.2.mem ((c.tc : Thread Cert.UpInputGrad.nD Cert.UpInputGrad.τ).loc Cert.UpInputGrad.main_arg3) = m ((c.tc : Thread Cert.UpInputGrad.nD Cert.UpInputGrad.τ).loc Cert.UpInputGrad.main_arg3)
      ∧ r.2.mem ((c.tc : Thread Cert.UpInputGrad.nD Cert.UpInputGrad.τ).loc Cert.UpInputGrad.main_arg4) = m ((c.tc : Thread Cert.UpInputGrad.nD Cert.UpInputGrad.τ).loc Cert.UpInputGrad.main_arg4))
      ∧ r.2.sem = fun _ => 0)

def quiescent_UpInputGradIdeal [hUpInputGradIdeal : Cert.UpInputGradIdeal.Facts] : Prop :=
  ∀ (m : (ℓ : Loc Cert.UpInputGradIdeal.nD Cert.UpInputGradIdeal.τ Cert.UpInputGradIdeal.sig) → Buf (Elt Ideal) ℓ) (g : Dev Cert.UpInputGradIdeal.nD → PrngReg), Pre_UpInputGradIdeal m →
    θ_run (Cert.UpInputGradIdeal.defs (F := Ideal)) (onTc (τ := Cert.UpInputGradIdeal.τ) (Cert.UpInputGradIdeal.main (F := Ideal))) ⟨m, fun _ => 0, g⟩ (fun r => (∀ c : Dev Cert.UpInputGradIdeal.nD,
      r.2.mem ((c.tc : Thread Cert.UpInputGradIdeal.nD Cert.UpInputGradIdeal.τ).loc Cert.UpInputGradIdeal.main_arg0) = m ((c.tc : Thread Cert.UpInputGradIdeal.nD Cert.UpInputGradIdeal.τ).loc Cert.UpInputGradIdeal.main_arg0)
      ∧ r.2.mem ((c.tc : Thread Cert.UpInputGradIdeal.nD Cert.UpInputGradIdeal.τ).loc Cert.UpInputGradIdeal.main_arg1) = m ((c.tc : Thread Cert.UpInputGradIdeal.nD Cert.UpInputGradIdeal.τ).loc Cert.UpInputGradIdeal.main_arg1)
      ∧ r.2.mem ((c.tc : Thread Cert.UpInputGradIdeal.nD Cert.UpInputGradIdeal.τ).loc Cert.UpInputGradIdeal.main_arg2) = m ((c.tc : Thread Cert.UpInputGradIdeal.nD Cert.UpInputGradIdeal.τ).loc Cert.UpInputGradIdeal.main_arg2)
      ∧ r.2.mem ((c.tc : Thread Cert.UpInputGradIdeal.nD Cert.UpInputGradIdeal.τ).loc Cert.UpInputGradIdeal.main_arg3) = m ((c.tc : Thread Cert.UpInputGradIdeal.nD Cert.UpInputGradIdeal.τ).loc Cert.UpInputGradIdeal.main_arg3)
      ∧ r.2.mem ((c.tc : Thread Cert.UpInputGradIdeal.nD Cert.UpInputGradIdeal.τ).loc Cert.UpInputGradIdeal.main_arg4) = m ((c.tc : Thread Cert.UpInputGradIdeal.nD Cert.UpInputGradIdeal.τ).loc Cert.UpInputGradIdeal.main_arg4))
      ∧ r.2.sem = fun _ => 0)

def quiescent_UpInputGradRefIdeal [hUpInputGradRefIdeal : Cert.UpInputGradRefIdeal.Facts] : Prop :=
  ∀ (m : (ℓ : Loc Cert.UpInputGradRefIdeal.nD Cert.UpInputGradRefIdeal.τ Cert.UpInputGradRefIdeal.sig) → Buf (Elt Ideal) ℓ) (g : Dev Cert.UpInputGradRefIdeal.nD → PrngReg), Pre_UpInputGradRefIdeal m →
    θ_run (Cert.UpInputGradRefIdeal.defs (F := Ideal)) (onTc (τ := Cert.UpInputGradRefIdeal.τ) (Cert.UpInputGradRefIdeal.main (F := Ideal))) ⟨m, fun _ => 0, g⟩ (fun r => (∀ c : Dev Cert.UpInputGradRefIdeal.nD,
      r.2.mem ((c.tc : Thread Cert.UpInputGradRefIdeal.nD Cert.UpInputGradRefIdeal.τ).loc Cert.UpInputGradRefIdeal.main_arg0) = m ((c.tc : Thread Cert.UpInputGradRefIdeal.nD Cert.UpInputGradRefIdeal.τ).loc Cert.UpInputGradRefIdeal.main_arg0)
      ∧ r.2.mem ((c.tc : Thread Cert.UpInputGradRefIdeal.nD Cert.UpInputGradRefIdeal.τ).loc Cert.UpInputGradRefIdeal.main_arg1) = m ((c.tc : Thread Cert.UpInputGradRefIdeal.nD Cert.UpInputGradRefIdeal.τ).loc Cert.UpInputGradRefIdeal.main_arg1)
      ∧ r.2.mem ((c.tc : Thread Cert.UpInputGradRefIdeal.nD Cert.UpInputGradRefIdeal.τ).loc Cert.UpInputGradRefIdeal.main_arg2) = m ((c.tc : Thread Cert.UpInputGradRefIdeal.nD Cert.UpInputGradRefIdeal.τ).loc Cert.UpInputGradRefIdeal.main_arg2)
      ∧ r.2.mem ((c.tc : Thread Cert.UpInputGradRefIdeal.nD Cert.UpInputGradRefIdeal.τ).loc Cert.UpInputGradRefIdeal.main_arg3) = m ((c.tc : Thread Cert.UpInputGradRefIdeal.nD Cert.UpInputGradRefIdeal.τ).loc Cert.UpInputGradRefIdeal.main_arg3)
      ∧ r.2.mem ((c.tc : Thread Cert.UpInputGradRefIdeal.nD Cert.UpInputGradRefIdeal.τ).loc Cert.UpInputGradRefIdeal.main_arg4) = m ((c.tc : Thread Cert.UpInputGradRefIdeal.nD Cert.UpInputGradRefIdeal.τ).loc Cert.UpInputGradRefIdeal.main_arg4))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_scores [hAttentionRefIdeal : Cert.AttentionRefIdeal.Facts] [hPre_finite_scores : Cert.Pre_finite_scores.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_scores m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2))
      ∧ r.2.sem = fun _ => 0)

def quiescent_ConvGradRefIdeal [hConvGradRefIdeal : Cert.ConvGradRefIdeal.Facts] : Prop :=
  ∀ (m : (ℓ : Loc Cert.ConvGradRefIdeal.nD Cert.ConvGradRefIdeal.τ Cert.ConvGradRefIdeal.sig) → Buf (Elt Ideal) ℓ) (g : Dev Cert.ConvGradRefIdeal.nD → PrngReg), Pre_ConvGradRefIdeal m →
    θ_run (Cert.ConvGradRefIdeal.defs (F := Ideal)) (onTc (τ := Cert.ConvGradRefIdeal.τ) (Cert.ConvGradRefIdeal.main (F := Ideal))) ⟨m, fun _ => 0, g⟩ (fun r => (∀ c : Dev Cert.ConvGradRefIdeal.nD,
      r.2.mem ((c.tc : Thread Cert.ConvGradRefIdeal.nD Cert.ConvGradRefIdeal.τ).loc Cert.ConvGradRefIdeal.main_arg0) = m ((c.tc : Thread Cert.ConvGradRefIdeal.nD Cert.ConvGradRefIdeal.τ).loc Cert.ConvGradRefIdeal.main_arg0)
      ∧ r.2.mem ((c.tc : Thread Cert.ConvGradRefIdeal.nD Cert.ConvGradRefIdeal.τ).loc Cert.ConvGradRefIdeal.main_arg1) = m ((c.tc : Thread Cert.ConvGradRefIdeal.nD Cert.ConvGradRefIdeal.τ).loc Cert.ConvGradRefIdeal.main_arg1)
      ∧ r.2.mem ((c.tc : Thread Cert.ConvGradRefIdeal.nD Cert.ConvGradRefIdeal.τ).loc Cert.ConvGradRefIdeal.main_arg2) = m ((c.tc : Thread Cert.ConvGradRefIdeal.nD Cert.ConvGradRefIdeal.τ).loc Cert.ConvGradRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def preserves_Exchange_ExchangeIdeal : Prop :=
  True

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![8, 5888, 1024]⟩ ⟨3, ![64, 5888, 1024]⟩ 0 8 c (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v2)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.block ⟨3, ![8, 5888, 1024]⟩ ⟨3, ![64, 5888, 1024]⟩ 0 8 c v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v2) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![8, 5888, 1024]⟩ ⟨3, ![64, 5888, 1024]⟩ 0 8 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v2)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![8, 5888, 1024]⟩ ⟨3, ![64, 5888, 1024]⟩ 0 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![5888, 1024]⟩ ⟨2, ![47104, 1024]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_arg0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_arg0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![5888, 1024]⟩ ⟨2, ![47104, 1024]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_arg0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v0_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v0_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v1) = v0 c
          ∧ r.2.mem ((c.tc : Thread Cert.UpdateRefIdeal.nD Cert.UpdateRefIdeal.τ).loc Cert.UpdateRefIdeal.main_v25) = v1 c
          ∧ r.2.mem ((c.tc : Thread Cert.UpdateRefIdeal.nD Cert.UpdateRefIdeal.τ).loc Cert.UpdateRefIdeal.main_v6) = v2 c
          ∧ r.2.mem ((c.tc : Thread Cert.UpdateRefIdeal.nD Cert.UpdateRefIdeal.τ).loc Cert.UpdateRefIdeal.main_v12) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3))

def preserves_UpdateSmall_UpdateSmallIdeal : Prop :=
  True

def algebraic_UpdateSmallIdeal_UpdateSmallRefIdeal [hUpdateSmallIdeal : Cert.UpdateSmallIdeal.Facts] [hUpdateSmallRefIdeal : Cert.UpdateSmallRefIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallRefIdeal.nD Cert.UpdateSmallRefIdeal.τ Cert.UpdateSmallRefIdeal.sig) → Buf (Elt Ideal) ℓ) (g' : Dev Cert.UpdateSmallRefIdeal.nD → PrngReg), Pre_UpdateSmallIdeal m →
    (∀ c : Dev Cert.UpdateSmallIdeal.nD,
      m' ((c.tc : Thread Cert.UpdateSmallRefIdeal.nD Cert.UpdateSmallRefIdeal.τ).loc Cert.UpdateSmallRefIdeal.main_arg0) = m ((c.tc : Thread Cert.UpdateSmallIdeal.nD Cert.UpdateSmallIdeal.τ).loc Cert.UpdateSmallIdeal.main_arg0)
      ∧ m' ((c.tc : Thread Cert.UpdateSmallRefIdeal.nD Cert.UpdateSmallRefIdeal.τ).loc Cert.UpdateSmallRefIdeal.main_arg1) = m ((c.tc : Thread Cert.UpdateSmallIdeal.nD Cert.UpdateSmallIdeal.τ).loc Cert.UpdateSmallIdeal.main_arg1)
      ∧ m' ((c.tc : Thread Cert.UpdateSmallRefIdeal.nD Cert.UpdateSmallRefIdeal.τ).loc Cert.UpdateSmallRefIdeal.main_arg2) = m ((c.tc : Thread Cert.UpdateSmallIdeal.nD Cert.UpdateSmallIdeal.τ).loc Cert.UpdateSmallIdeal.main_arg2)
      ∧ m' ((c.tc : Thread Cert.UpdateSmallRefIdeal.nD Cert.UpdateSmallRefIdeal.τ).loc Cert.UpdateSmallRefIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)) (v3 : (c : Dev Cert.UpdateSmallIdeal.nD) → Buf (Elt Ideal) ((c.tc : Thread Cert.UpdateSmallIdeal.nD Cert.UpdateSmallIdeal.τ).loc Cert.UpdateSmallIdeal.main_v0_3)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_v0_3) = v3 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallRefIdeal.defs (F := Ideal)) (onTc (τ := Cert.UpdateSmallRefIdeal.τ) (Cert.UpdateSmallRefIdeal.main (F := Ideal))) ⟨m', fun _ => 0, g'⟩ (fun r => ∀ c : Dev Cert.UpdateSmallRefIdeal.nD,
          r.2.mem ((c.tc : Thread Cert.UpdateSmallRefIdeal.nD Cert.UpdateSmallRefIdeal.τ).loc Cert.UpdateSmallRefIdeal.main_v0) = v0 c
          ∧ r.2.mem ((c.tc : Thread Cert.UpdateSmallRefIdeal.nD Cert.UpdateSmallRefIdeal.τ).loc Cert.UpdateSmallRefIdeal.main_v24) = v1 c
          ∧ r.2.mem ((c.tc : Thread Cert.UpdateSmallRefIdeal.nD Cert.UpdateSmallRefIdeal.τ).loc Cert.UpdateSmallRefIdeal.main_v5) = v2 c
          ∧ r.2.mem ((c.tc : Thread Cert.UpdateSmallRefIdeal.nD Cert.UpdateSmallRefIdeal.τ).loc Cert.UpdateSmallRefIdeal.main_v11) = v3 c
          ∧ r.2.mem ((c.tc : Thread Cert.UpdateSmallRefIdeal.nD Cert.UpdateSmallRefIdeal.τ).loc Cert.UpdateSmallRefIdeal.main_arg0) = m' ((c.tc : Thread Cert.UpdateSmallRefIdeal.nD Cert.UpdateSmallRefIdeal.τ).loc Cert.UpdateSmallRefIdeal.main_arg0)
          ∧ r.2.mem ((c.tc : Thread Cert.UpdateSmallRefIdeal.nD Cert.UpdateSmallRefIdeal.τ).loc Cert.UpdateSmallRefIdeal.main_arg1) = m' ((c.tc : Thread Cert.UpdateSmallRefIdeal.nD Cert.UpdateSmallRefIdeal.τ).loc Cert.UpdateSmallRefIdeal.main_arg1)
          ∧ r.2.mem ((c.tc : Thread Cert.UpdateSmallRefIdeal.nD Cert.UpdateSmallRefIdeal.τ).loc Cert.UpdateSmallRefIdeal.main_arg2) = m' ((c.tc : Thread Cert.UpdateSmallRefIdeal.nD Cert.UpdateSmallRefIdeal.τ).loc Cert.UpdateSmallRefIdeal.main_arg2)
          ∧ r.2.mem ((c.tc : Thread Cert.UpdateSmallRefIdeal.nD Cert.UpdateSmallRefIdeal.τ).loc Cert.UpdateSmallRefIdeal.main_arg3) = m' ((c.tc : Thread Cert.UpdateSmallRefIdeal.nD Cert.UpdateSmallRefIdeal.τ).loc Cert.UpdateSmallRefIdeal.main_arg3))

def preserves_UpdateConv_UpdateConvIdeal : Prop :=
  True

def algebraic_UpdateConvIdeal_UpdateConvRefIdeal [hUpdateConvIdeal : Cert.UpdateConvIdeal.Facts] [hUpdateConvRefIdeal : Cert.UpdateConvRefIdeal.Facts] : Prop :=
  ∀ (m : (ℓ : Loc Cert.UpdateConvIdeal.nD Cert.UpdateConvIdeal.τ Cert.UpdateConvIdeal.sig) → Buf (Elt Ideal) ℓ) (g : Dev Cert.UpdateConvIdeal.nD → PrngReg)
    (m' : (ℓ : Loc Cert.UpdateConvRefIdeal.nD Cert.UpdateConvRefIdeal.τ Cert.UpdateConvRefIdeal.sig) → Buf (Elt Ideal) ℓ) (g' : Dev Cert.UpdateConvRefIdeal.nD → PrngReg), Pre_UpdateConvIdeal m →
    (∀ c : Dev Cert.UpdateConvIdeal.nD,
      m' ((c.tc : Thread Cert.UpdateConvRefIdeal.nD Cert.UpdateConvRefIdeal.τ).loc Cert.UpdateConvRefIdeal.main_arg0) = m ((c.tc : Thread Cert.UpdateConvIdeal.nD Cert.UpdateConvIdeal.τ).loc Cert.UpdateConvIdeal.main_arg0)
      ∧ m' ((c.tc : Thread Cert.UpdateConvRefIdeal.nD Cert.UpdateConvRefIdeal.τ).loc Cert.UpdateConvRefIdeal.main_arg1) = m ((c.tc : Thread Cert.UpdateConvIdeal.nD Cert.UpdateConvIdeal.τ).loc Cert.UpdateConvIdeal.main_arg1)
      ∧ m' ((c.tc : Thread Cert.UpdateConvRefIdeal.nD Cert.UpdateConvRefIdeal.τ).loc Cert.UpdateConvRefIdeal.main_arg2) = m ((c.tc : Thread Cert.UpdateConvIdeal.nD Cert.UpdateConvIdeal.τ).loc Cert.UpdateConvIdeal.main_arg2)
      ∧ m' ((c.tc : Thread Cert.UpdateConvRefIdeal.nD Cert.UpdateConvRefIdeal.τ).loc Cert.UpdateConvRefIdeal.main_arg3) = m ((c.tc : Thread Cert.UpdateConvIdeal.nD Cert.UpdateConvIdeal.τ).loc Cert.UpdateConvIdeal.main_arg3)) →
    ∃ (v0 : (c : Dev Cert.UpdateConvIdeal.nD) → Buf (Elt Ideal) ((c.tc : Thread Cert.UpdateConvIdeal.nD Cert.UpdateConvIdeal.τ).loc Cert.UpdateConvIdeal.main_v0_0)) (v1 : (c : Dev Cert.UpdateConvIdeal.nD) → Buf (Elt Ideal) ((c.tc : Thread Cert.UpdateConvIdeal.nD Cert.UpdateConvIdeal.τ).loc Cert.UpdateConvIdeal.main_v0_1)) (v2 : (c : Dev Cert.UpdateConvIdeal.nD) → Buf (Elt Ideal) ((c.tc : Thread Cert.UpdateConvIdeal.nD Cert.UpdateConvIdeal.τ).loc Cert.UpdateConvIdeal.main_v0_2)) (v3 : (c : Dev Cert.UpdateConvIdeal.nD) → Buf (Elt Ideal) ((c.tc : Thread Cert.UpdateConvIdeal.nD Cert.UpdateConvIdeal.τ).loc Cert.UpdateConvIdeal.main_v0_3)),
      θ_run (Cert.UpdateConvIdeal.defs (F := Ideal)) (onTc (τ := Cert.UpdateConvIdeal.τ) (Cert.UpdateConvIdeal.main (F := Ideal))) ⟨m, fun _ => 0, g⟩ (fun r => ∀ c : Dev Cert.UpdateConvIdeal.nD,
          r.2.mem ((c.tc : Thread Cert.UpdateConvIdeal.nD Cert.UpdateConvIdeal.τ).loc Cert.UpdateConvIdeal.main_v0_0) = v0 c
          ∧ r.2.mem ((c.tc : Thread Cert.UpdateConvIdeal.nD Cert.UpdateConvIdeal.τ).loc Cert.UpdateConvIdeal.main_v0_1) = v1 c
          ∧ r.2.mem ((c.tc : Thread Cert.UpdateConvIdeal.nD Cert.UpdateConvIdeal.τ).loc Cert.UpdateConvIdeal.main_v0_2) = v2 c
          ∧ r.2.mem ((c.tc : Thread Cert.UpdateConvIdeal.nD Cert.UpdateConvIdeal.τ).loc Cert.UpdateConvIdeal.main_v0_3) = v3 c
          ∧ r.2.mem ((c.tc : Thread Cert.UpdateConvIdeal.nD Cert.UpdateConvIdeal.τ).loc Cert.UpdateConvIdeal.main_arg0) = m ((c.tc : Thread Cert.UpdateConvIdeal.nD Cert.UpdateConvIdeal.τ).loc Cert.UpdateConvIdeal.main_arg0)
          ∧ r.2.mem ((c.tc : Thread Cert.UpdateConvIdeal.nD Cert.UpdateConvIdeal.τ).loc Cert.UpdateConvIdeal.main_arg1) = m ((c.tc : Thread Cert.UpdateConvIdeal.nD Cert.UpdateConvIdeal.τ).loc Cert.UpdateConvIdeal.main_arg1)
          ∧ r.2.mem ((c.tc : Thread Cert.UpdateConvIdeal.nD Cert.UpdateConvIdeal.τ).loc Cert.UpdateConvIdeal.main_arg2) = m ((c.tc : Thread Cert.UpdateConvIdeal.nD Cert.UpdateConvIdeal.τ).loc Cert.UpdateConvIdeal.main_arg2)
          ∧ r.2.mem ((c.tc : Thread Cert.UpdateConvIdeal.nD Cert.UpdateConvIdeal.τ).loc Cert.UpdateConvIdeal.main_arg3) = m ((c.tc : Thread Cert.UpdateConvIdeal.nD Cert.UpdateConvIdeal.τ).loc Cert.UpdateConvIdeal.main_arg3))
      ∧ θ_run (Cert.UpdateConvRefIdeal.defs (F := Ideal)) (onTc (τ := Cert.UpdateConvRefIdeal.τ) (Cert.UpdateConvRefIdeal.main (F := Ideal))) ⟨m', fun _ => 0, g'⟩ (fun r => ∀ c : Dev Cert.UpdateConvRefIdeal.nD,
          r.2.mem ((c.tc : Thread Cert.UpdateConvRefIdeal.nD Cert.UpdateConvRefIdeal.τ).loc Cert.UpdateConvRefIdeal.main_v0) = v0 c
          ∧ r.2.mem ((c.tc : Thread Cert.UpdateConvRefIdeal.nD Cert.UpdateConvRefIdeal.τ).loc Cert.UpdateConvRefIdeal.main_v24) = v1 c
          ∧ r.2.mem ((c.tc : Thread Cert.UpdateConvRefIdeal.nD Cert.UpdateConvRefIdeal.τ).loc Cert.UpdateConvRefIdeal.main_v5) = v2 c
          ∧ r.2.mem ((c.tc : Thread Cert.UpdateConvRefIdeal.nD Cert.UpdateConvRefIdeal.τ).loc Cert.UpdateConvRefIdeal.main_v11) = v3 c
          ∧ r.2.mem ((c.tc : Thread Cert.UpdateConvRefIdeal.nD Cert.UpdateConvRefIdeal.τ).loc Cert.UpdateConvRefIdeal.main_arg0) = m' ((c.tc : Thread Cert.UpdateConvRefIdeal.nD Cert.UpdateConvRefIdeal.τ).loc Cert.UpdateConvRefIdeal.main_arg0)
          ∧ r.2.mem ((c.tc : Thread Cert.UpdateConvRefIdeal.nD Cert.UpdateConvRefIdeal.τ).loc Cert.UpdateConvRefIdeal.main_arg1) = m' ((c.tc : Thread Cert.UpdateConvRefIdeal.nD Cert.UpdateConvRefIdeal.τ).loc Cert.UpdateConvRefIdeal.main_arg1)
          ∧ r.2.mem ((c.tc : Thread Cert.UpdateConvRefIdeal.nD Cert.UpdateConvRefIdeal.τ).loc Cert.UpdateConvRefIdeal.main_arg2) = m' ((c.tc : Thread Cert.UpdateConvRefIdeal.nD Cert.UpdateConvRefIdeal.τ).loc Cert.UpdateConvRefIdeal.main_arg2)
          ∧ r.2.mem ((c.tc : Thread Cert.UpdateConvRefIdeal.nD Cert.UpdateConvRefIdeal.τ).loc Cert.UpdateConvRefIdeal.main_arg3) = m' ((c.tc : Thread Cert.UpdateConvRefIdeal.nD Cert.UpdateConvRefIdeal.τ).loc Cert.UpdateConvRefIdeal.main_arg3))

def preserves_UpdateAda_UpdateAdaIdeal : Prop :=
  True

def algebraic_UpdateAdaIdeal_UpdateAdaRefIdeal [hUpdateAdaIdeal : Cert.UpdateAdaIdeal.Facts] [hUpdateAdaRefIdeal : Cert.UpdateAdaRefIdeal.Facts] : Prop :=
  ∀ (m : (ℓ : Loc Cert.UpdateAdaIdeal.nD Cert.UpdateAdaIdeal.τ Cert.UpdateAdaIdeal.sig) → Buf (Elt Ideal) ℓ) (g : Dev Cert.UpdateAdaIdeal.nD → PrngReg)
    (m' : (ℓ : Loc Cert.UpdateAdaRefIdeal.nD Cert.UpdateAdaRefIdeal.τ Cert.UpdateAdaRefIdeal.sig) → Buf (Elt Ideal) ℓ) (g' : Dev Cert.UpdateAdaRefIdeal.nD → PrngReg), Pre_UpdateAdaIdeal m →
    (∀ c : Dev Cert.UpdateAdaIdeal.nD,
      m' ((c.tc : Thread Cert.UpdateAdaRefIdeal.nD Cert.UpdateAdaRefIdeal.τ).loc Cert.UpdateAdaRefIdeal.main_arg0) = m ((c.tc : Thread Cert.UpdateAdaIdeal.nD Cert.UpdateAdaIdeal.τ).loc Cert.UpdateAdaIdeal.main_arg0)
      ∧ m' ((c.tc : Thread Cert.UpdateAdaRefIdeal.nD Cert.UpdateAdaRefIdeal.τ).loc Cert.UpdateAdaRefIdeal.main_arg1) = m ((c.tc : Thread Cert.UpdateAdaIdeal.nD Cert.UpdateAdaIdeal.τ).loc Cert.UpdateAdaIdeal.main_arg1)
      ∧ m' ((c.tc : Thread Cert.UpdateAdaRefIdeal.nD Cert.UpdateAdaRefIdeal.τ).loc Cert.UpdateAdaRefIdeal.main_arg2) = m ((c.tc : Thread Cert.UpdateAdaIdeal.nD Cert.UpdateAdaIdeal.τ).loc Cert.UpdateAdaIdeal.main_arg2)
      ∧ m' ((c.tc : Thread Cert.UpdateAdaRefIdeal.nD Cert.UpdateAdaRefIdeal.τ).loc Cert.UpdateAdaRefIdeal.main_arg3) = m ((c.tc : Thread Cert.UpdateAdaIdeal.nD Cert.UpdateAdaIdeal.τ).loc Cert.UpdateAdaIdeal.main_arg3)) →
    ∃ (v0 : (c : Dev Cert.UpdateAdaIdeal.nD) → Buf (Elt Ideal) ((c.tc : Thread Cert.UpdateAdaIdeal.nD Cert.UpdateAdaIdeal.τ).loc Cert.UpdateAdaIdeal.main_v0_0)) (v1 : (c : Dev Cert.UpdateAdaIdeal.nD) → Buf (Elt Ideal) ((c.tc : Thread Cert.UpdateAdaIdeal.nD Cert.UpdateAdaIdeal.τ).loc Cert.UpdateAdaIdeal.main_v0_1)) (v2 : (c : Dev Cert.UpdateAdaIdeal.nD) → Buf (Elt Ideal) ((c.tc : Thread Cert.UpdateAdaIdeal.nD Cert.UpdateAdaIdeal.τ).loc Cert.UpdateAdaIdeal.main_v0_2)) (v3 : (c : Dev Cert.UpdateAdaIdeal.nD) → Buf (Elt Ideal) ((c.tc : Thread Cert.UpdateAdaIdeal.nD Cert.UpdateAdaIdeal.τ).loc Cert.UpdateAdaIdeal.main_v0_3)),
      θ_run (Cert.UpdateAdaIdeal.defs (F := Ideal)) (onTc (τ := Cert.UpdateAdaIdeal.τ) (Cert.UpdateAdaIdeal.main (F := Ideal))) ⟨m, fun _ => 0, g⟩ (fun r => ∀ c : Dev Cert.UpdateAdaIdeal.nD,
          r.2.mem ((c.tc : Thread Cert.UpdateAdaIdeal.nD Cert.UpdateAdaIdeal.τ).loc Cert.UpdateAdaIdeal.main_v0_0) = v0 c
          ∧ r.2.mem ((c.tc : Thread Cert.UpdateAdaIdeal.nD Cert.UpdateAdaIdeal.τ).loc Cert.UpdateAdaIdeal.main_v0_1) = v1 c
          ∧ r.2.mem ((c.tc : Thread Cert.UpdateAdaIdeal.nD Cert.UpdateAdaIdeal.τ).loc Cert.UpdateAdaIdeal.main_v0_2) = v2 c
          ∧ r.2.mem ((c.tc : Thread Cert.UpdateAdaIdeal.nD Cert.UpdateAdaIdeal.τ).loc Cert.UpdateAdaIdeal.main_v0_3) = v3 c
          ∧ r.2.mem ((c.tc : Thread Cert.UpdateAdaIdeal.nD Cert.UpdateAdaIdeal.τ).loc Cert.UpdateAdaIdeal.main_arg0) = m ((c.tc : Thread Cert.UpdateAdaIdeal.nD Cert.UpdateAdaIdeal.τ).loc Cert.UpdateAdaIdeal.main_arg0)
          ∧ r.2.mem ((c.tc : Thread Cert.UpdateAdaIdeal.nD Cert.UpdateAdaIdeal.τ).loc Cert.UpdateAdaIdeal.main_arg1) = m ((c.tc : Thread Cert.UpdateAdaIdeal.nD Cert.UpdateAdaIdeal.τ).loc Cert.UpdateAdaIdeal.main_arg1)
          ∧ r.2.mem ((c.tc : Thread Cert.UpdateAdaIdeal.nD Cert.UpdateAdaIdeal.τ).loc Cert.UpdateAdaIdeal.main_arg2) = m ((c.tc : Thread Cert.UpdateAdaIdeal.nD Cert.UpdateAdaIdeal.τ).loc Cert.UpdateAdaIdeal.main_arg2)
          ∧ r.2.mem ((c.tc : Thread Cert.UpdateAdaIdeal.nD Cert.UpdateAdaIdeal.τ).loc Cert.UpdateAdaIdeal.main_arg3) = m ((c.tc : Thread Cert.UpdateAdaIdeal.nD Cert.UpdateAdaIdeal.τ).loc Cert.UpdateAdaIdeal.main_arg3))
      ∧ θ_run (Cert.UpdateAdaRefIdeal.defs (F := Ideal)) (onTc (τ := Cert.UpdateAdaRefIdeal.τ) (Cert.UpdateAdaRefIdeal.main (F := Ideal))) ⟨m', fun _ => 0, g'⟩ (fun r => ∀ c : Dev Cert.UpdateAdaRefIdeal.nD,
          r.2.mem ((c.tc : Thread Cert.UpdateAdaRefIdeal.nD Cert.UpdateAdaRefIdeal.τ).loc Cert.UpdateAdaRefIdeal.main_v0) = v0 c
          ∧ r.2.mem ((c.tc : Thread Cert.UpdateAdaRefIdeal.nD Cert.UpdateAdaRefIdeal.τ).loc Cert.UpdateAdaRefIdeal.main_v24) = v1 c
          ∧ r.2.mem ((c.tc : Thread Cert.UpdateAdaRefIdeal.nD Cert.UpdateAdaRefIdeal.τ).loc Cert.UpdateAdaRefIdeal.main_v5) = v2 c
          ∧ r.2.mem ((c.tc : Thread Cert.UpdateAdaRefIdeal.nD Cert.UpdateAdaRefIdeal.τ).loc Cert.UpdateAdaRefIdeal.main_v11) = v3 c
          ∧ r.2.mem ((c.tc : Thread Cert.UpdateAdaRefIdeal.nD Cert.UpdateAdaRefIdeal.τ).loc Cert.UpdateAdaRefIdeal.main_arg0) = m' ((c.tc : Thread Cert.UpdateAdaRefIdeal.nD Cert.UpdateAdaRefIdeal.τ).loc Cert.UpdateAdaRefIdeal.main_arg0)
          ∧ r.2.mem ((c.tc : Thread Cert.UpdateAdaRefIdeal.nD Cert.UpdateAdaRefIdeal.τ).loc Cert.UpdateAdaRefIdeal.main_arg1) = m' ((c.tc : Thread Cert.UpdateAdaRefIdeal.nD Cert.UpdateAdaRefIdeal.τ).loc Cert.UpdateAdaRefIdeal.main_arg1)
          ∧ r.2.mem ((c.tc : Thread Cert.UpdateAdaRefIdeal.nD Cert.UpdateAdaRefIdeal.τ).loc Cert.UpdateAdaRefIdeal.main_arg2) = m' ((c.tc : Thread Cert.UpdateAdaRefIdeal.nD Cert.UpdateAdaRefIdeal.τ).loc Cert.UpdateAdaRefIdeal.main_arg2)
          ∧ r.2.mem ((c.tc : Thread Cert.UpdateAdaRefIdeal.nD Cert.UpdateAdaRefIdeal.τ).loc Cert.UpdateAdaRefIdeal.main_arg3) = m' ((c.tc : Thread Cert.UpdateAdaRefIdeal.nD Cert.UpdateAdaRefIdeal.τ).loc Cert.UpdateAdaRefIdeal.main_arg3))

def preserves_UpdateCctx_UpdateCctxIdeal : Prop :=
  True

def algebraic_UpdateCctxIdeal_UpdateCctxRefIdeal [hUpdateCctxIdeal : Cert.UpdateCctxIdeal.Facts] [hUpdateCctxRefIdeal : Cert.UpdateCctxRefIdeal.Facts] : Prop :=
  ∀ (m : (ℓ : Loc Cert.UpdateCctxIdeal.nD Cert.UpdateCctxIdeal.τ Cert.UpdateCctxIdeal.sig) → Buf (Elt Ideal) ℓ) (g : Dev Cert.UpdateCctxIdeal.nD → PrngReg)
    (m' : (ℓ : Loc Cert.UpdateCctxRefIdeal.nD Cert.UpdateCctxRefIdeal.τ Cert.UpdateCctxRefIdeal.sig) → Buf (Elt Ideal) ℓ) (g' : Dev Cert.UpdateCctxRefIdeal.nD → PrngReg), Pre_UpdateCctxIdeal m →
    (∀ c : Dev Cert.UpdateCctxIdeal.nD,
      m' ((c.tc : Thread Cert.UpdateCctxRefIdeal.nD Cert.UpdateCctxRefIdeal.τ).loc Cert.UpdateCctxRefIdeal.main_arg0) = m ((c.tc : Thread Cert.UpdateCctxIdeal.nD Cert.UpdateCctxIdeal.τ).loc Cert.UpdateCctxIdeal.main_arg0)
      ∧ m' ((c.tc : Thread Cert.UpdateCctxRefIdeal.nD Cert.UpdateCctxRefIdeal.τ).loc Cert.UpdateCctxRefIdeal.main_arg1) = m ((c.tc : Thread Cert.UpdateCctxIdeal.nD Cert.UpdateCctxIdeal.τ).loc Cert.UpdateCctxIdeal.main_arg1)
      ∧ m' ((c.tc : Thread Cert.UpdateCctxRefIdeal.nD Cert.UpdateCctxRefIdeal.τ).loc Cert.UpdateCctxRefIdeal.main_arg2) = m ((c.tc : Thread Cert.UpdateCctxIdeal.nD Cert.UpdateCctxIdeal.τ).loc Cert.UpdateCctxIdeal.main_arg2)
      ∧ m' ((c.tc : Thread Cert.UpdateCctxRefIdeal.nD Cert.UpdateCctxRefIdeal.τ).loc Cert.UpdateCctxRefIdeal.main_arg3) = m ((c.tc : Thread Cert.UpdateCctxIdeal.nD Cert.UpdateCctxIdeal.τ).loc Cert.UpdateCctxIdeal.main_arg3)) →
    ∃ (v0 : (c : Dev Cert.UpdateCctxIdeal.nD) → Buf (Elt Ideal) ((c.tc : Thread Cert.UpdateCctxIdeal.nD Cert.UpdateCctxIdeal.τ).loc Cert.UpdateCctxIdeal.main_v0_0)) (v1 : (c : Dev Cert.UpdateCctxIdeal.nD) → Buf (Elt Ideal) ((c.tc : Thread Cert.UpdateCctxIdeal.nD Cert.UpdateCctxIdeal.τ).loc Cert.UpdateCctxIdeal.main_v0_1)) (v2 : (c : Dev Cert.UpdateCctxIdeal.nD) → Buf (Elt Ideal) ((c.tc : Thread Cert.UpdateCctxIdeal.nD Cert.UpdateCctxIdeal.τ).loc Cert.UpdateCctxIdeal.main_v0_2)) (v3 : (c : Dev Cert.UpdateCctxIdeal.nD) → Buf (Elt Ideal) ((c.tc : Thread Cert.UpdateCctxIdeal.nD Cert.UpdateCctxIdeal.τ).loc Cert.UpdateCctxIdeal.main_v0_3)),
      θ_run (Cert.UpdateCctxIdeal.defs (F := Ideal)) (onTc (τ := Cert.UpdateCctxIdeal.τ) (Cert.UpdateCctxIdeal.main (F := Ideal))) ⟨m, fun _ => 0, g⟩ (fun r => ∀ c : Dev Cert.UpdateCctxIdeal.nD,
          r.2.mem ((c.tc : Thread Cert.UpdateCctxIdeal.nD Cert.UpdateCctxIdeal.τ).loc Cert.UpdateCctxIdeal.main_v0_0) = v0 c
          ∧ r.2.mem ((c.tc : Thread Cert.UpdateCctxIdeal.nD Cert.UpdateCctxIdeal.τ).loc Cert.UpdateCctxIdeal.main_v0_1) = v1 c
          ∧ r.2.mem ((c.tc : Thread Cert.UpdateCctxIdeal.nD Cert.UpdateCctxIdeal.τ).loc Cert.UpdateCctxIdeal.main_v0_2) = v2 c
          ∧ r.2.mem ((c.tc : Thread Cert.UpdateCctxIdeal.nD Cert.UpdateCctxIdeal.τ).loc Cert.UpdateCctxIdeal.main_v0_3) = v3 c
          ∧ r.2.mem ((c.tc : Thread Cert.UpdateCctxIdeal.nD Cert.UpdateCctxIdeal.τ).loc Cert.UpdateCctxIdeal.main_arg0) = m ((c.tc : Thread Cert.UpdateCctxIdeal.nD Cert.UpdateCctxIdeal.τ).loc Cert.UpdateCctxIdeal.main_arg0)
          ∧ r.2.mem ((c.tc : Thread Cert.UpdateCctxIdeal.nD Cert.UpdateCctxIdeal.τ).loc Cert.UpdateCctxIdeal.main_arg1) = m ((c.tc : Thread Cert.UpdateCctxIdeal.nD Cert.UpdateCctxIdeal.τ).loc Cert.UpdateCctxIdeal.main_arg1)
          ∧ r.2.mem ((c.tc : Thread Cert.UpdateCctxIdeal.nD Cert.UpdateCctxIdeal.τ).loc Cert.UpdateCctxIdeal.main_arg2) = m ((c.tc : Thread Cert.UpdateCctxIdeal.nD Cert.UpdateCctxIdeal.τ).loc Cert.UpdateCctxIdeal.main_arg2)
          ∧ r.2.mem ((c.tc : Thread Cert.UpdateCctxIdeal.nD Cert.UpdateCctxIdeal.τ).loc Cert.UpdateCctxIdeal.main_arg3) = m ((c.tc : Thread Cert.UpdateCctxIdeal.nD Cert.UpdateCctxIdeal.τ).loc Cert.UpdateCctxIdeal.main_arg3))
      ∧ θ_run (Cert.UpdateCctxRefIdeal.defs (F := Ideal)) (onTc (τ := Cert.UpdateCctxRefIdeal.τ) (Cert.UpdateCctxRefIdeal.main (F := Ideal))) ⟨m', fun _ => 0, g'⟩ (fun r => ∀ c : Dev Cert.UpdateCctxRefIdeal.nD,
          r.2.mem ((c.tc : Thread Cert.UpdateCctxRefIdeal.nD Cert.UpdateCctxRefIdeal.τ).loc Cert.UpdateCctxRefIdeal.main_v0) = v0 c
          ∧ r.2.mem ((c.tc : Thread Cert.UpdateCctxRefIdeal.nD Cert.UpdateCctxRefIdeal.τ).loc Cert.UpdateCctxRefIdeal.main_v24) = v1 c
          ∧ r.2.mem ((c.tc : Thread Cert.UpdateCctxRefIdeal.nD Cert.UpdateCctxRefIdeal.τ).loc Cert.UpdateCctxRefIdeal.main_v5) = v2 c
          ∧ r.2.mem ((c.tc : Thread Cert.UpdateCctxRefIdeal.nD Cert.UpdateCctxRefIdeal.τ).loc Cert.UpdateCctxRefIdeal.main_v11) = v3 c
          ∧ r.2.mem ((c.tc : Thread Cert.UpdateCctxRefIdeal.nD Cert.UpdateCctxRefIdeal.τ).loc Cert.UpdateCctxRefIdeal.main_arg0) = m' ((c.tc : Thread Cert.UpdateCctxRefIdeal.nD Cert.UpdateCctxRefIdeal.τ).loc Cert.UpdateCctxRefIdeal.main_arg0)
          ∧ r.2.mem ((c.tc : Thread Cert.UpdateCctxRefIdeal.nD Cert.UpdateCctxRefIdeal.τ).loc Cert.UpdateCctxRefIdeal.main_arg1) = m' ((c.tc : Thread Cert.UpdateCctxRefIdeal.nD Cert.UpdateCctxRefIdeal.τ).loc Cert.UpdateCctxRefIdeal.main_arg1)
          ∧ r.2.mem ((c.tc : Thread Cert.UpdateCctxRefIdeal.nD Cert.UpdateCctxRefIdeal.τ).loc Cert.UpdateCctxRefIdeal.main_arg2) = m' ((c.tc : Thread Cert.UpdateCctxRefIdeal.nD Cert.UpdateCctxRefIdeal.τ).loc Cert.UpdateCctxRefIdeal.main_arg2)
          ∧ r.2.mem ((c.tc : Thread Cert.UpdateCctxRefIdeal.nD Cert.UpdateCctxRefIdeal.τ).loc Cert.UpdateCctxRefIdeal.main_arg3) = m' ((c.tc : Thread Cert.UpdateCctxRefIdeal.nD Cert.UpdateCctxRefIdeal.τ).loc Cert.UpdateCctxRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v20) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)
      ∧ m' ((c.tc : Thread Cert.InputGradRefIdeal.nD Cert.InputGradRefIdeal.τ).loc Cert.InputGradRefIdeal.main_arg2) = m ((c.tc : Thread Cert.InputGradIdeal.nD Cert.InputGradIdeal.τ).loc Cert.InputGradIdeal.main_arg2)
      ∧ m' ((c.tc : Thread Cert.InputGradRefIdeal.nD Cert.InputGradRefIdeal.τ).loc Cert.InputGradRefIdeal.main_arg3) = m ((c.tc : Thread Cert.InputGradIdeal.nD Cert.InputGradIdeal.τ).loc Cert.InputGradIdeal.main_arg3)
      ∧ m' ((c.tc : Thread Cert.InputGradRefIdeal.nD Cert.InputGradRefIdeal.τ).loc Cert.InputGradRefIdeal.main_arg4) = m ((c.tc : Thread Cert.InputGradIdeal.nD Cert.InputGradIdeal.τ).loc Cert.InputGradIdeal.main_arg4)) →
    ∃ (v0 : (c : Dev Cert.InputGradIdeal.nD) → Buf (Elt Ideal) ((c.tc : Thread Cert.InputGradIdeal.nD Cert.InputGradIdeal.τ).loc Cert.InputGradIdeal.main_v0_0)) (v1 : (c : Dev Cert.InputGradIdeal.nD) → Buf (Elt Ideal) ((c.tc : Thread Cert.InputGradIdeal.nD Cert.InputGradIdeal.τ).loc Cert.InputGradIdeal.main_v0_1)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0_0) = v0 c
          ∧ r.2.mem ((c.tc : Thread Cert.InputGradIdeal.nD Cert.InputGradIdeal.τ).loc Cert.InputGradIdeal.main_v0_1) = v1 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
          ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v17) = v0 c
          ∧ r.2.mem ((c.tc : Thread Cert.InputGradRefIdeal.nD Cert.InputGradRefIdeal.τ).loc Cert.InputGradRefIdeal.main_v19) = v1 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1)
          ∧ r.2.mem ((c.tc : Thread Cert.InputGradRefIdeal.nD Cert.InputGradRefIdeal.τ).loc Cert.InputGradRefIdeal.main_arg2) = m' ((c.tc : Thread Cert.InputGradRefIdeal.nD Cert.InputGradRefIdeal.τ).loc Cert.InputGradRefIdeal.main_arg2)
          ∧ r.2.mem ((c.tc : Thread Cert.InputGradRefIdeal.nD Cert.InputGradRefIdeal.τ).loc Cert.InputGradRefIdeal.main_arg3) = m' ((c.tc : Thread Cert.InputGradRefIdeal.nD Cert.InputGradRefIdeal.τ).loc Cert.InputGradRefIdeal.main_arg3)
          ∧ r.2.mem ((c.tc : Thread Cert.InputGradRefIdeal.nD Cert.InputGradRefIdeal.τ).loc Cert.InputGradRefIdeal.main_arg4) = m' ((c.tc : Thread Cert.InputGradRefIdeal.nD Cert.InputGradRefIdeal.τ).loc Cert.InputGradRefIdeal.main_arg4))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v3) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_ModulationGrad_ModulationGradIdeal : Prop :=
  True

def algebraic_ModulationGradIdeal_ModulationGradRefIdeal [hModulationGradIdeal : Cert.ModulationGradIdeal.Facts] [hModulationGradRefIdeal : Cert.ModulationGradRefIdeal.Facts] : Prop :=
  ∀ (m : (ℓ : Loc Cert.ModulationGradIdeal.nD Cert.ModulationGradIdeal.τ Cert.ModulationGradIdeal.sig) → Buf (Elt Ideal) ℓ) (g : Dev Cert.ModulationGradIdeal.nD → PrngReg)
    (m' : (ℓ : Loc Cert.ModulationGradRefIdeal.nD Cert.ModulationGradRefIdeal.τ Cert.ModulationGradRefIdeal.sig) → Buf (Elt Ideal) ℓ) (g' : Dev Cert.ModulationGradRefIdeal.nD → PrngReg), Pre_ModulationGradIdeal m →
    (∀ c : Dev Cert.ModulationGradIdeal.nD,
      m' ((c.tc : Thread Cert.ModulationGradRefIdeal.nD Cert.ModulationGradRefIdeal.τ).loc Cert.ModulationGradRefIdeal.main_arg0) = m ((c.tc : Thread Cert.ModulationGradIdeal.nD Cert.ModulationGradIdeal.τ).loc Cert.ModulationGradIdeal.main_arg0)
      ∧ m' ((c.tc : Thread Cert.ModulationGradRefIdeal.nD Cert.ModulationGradRefIdeal.τ).loc Cert.ModulationGradRefIdeal.main_arg1) = m ((c.tc : Thread Cert.ModulationGradIdeal.nD Cert.ModulationGradIdeal.τ).loc Cert.ModulationGradIdeal.main_arg1)
      ∧ m' ((c.tc : Thread Cert.ModulationGradRefIdeal.nD Cert.ModulationGradRefIdeal.τ).loc Cert.ModulationGradRefIdeal.main_arg2) = m ((c.tc : Thread Cert.ModulationGradIdeal.nD Cert.ModulationGradIdeal.τ).loc Cert.ModulationGradIdeal.main_arg2)) →
    ∃ (v0 : (c : Dev Cert.ModulationGradIdeal.nD) → Buf (Elt Ideal) ((c.tc : Thread Cert.ModulationGradIdeal.nD Cert.ModulationGradIdeal.τ).loc Cert.ModulationGradIdeal.main_v0_0)) (v1 : (c : Dev Cert.ModulationGradIdeal.nD) → Buf (Elt Ideal) ((c.tc : Thread Cert.ModulationGradIdeal.nD Cert.ModulationGradIdeal.τ).loc Cert.ModulationGradIdeal.main_v0_1)),
      θ_run (Cert.ModulationGradIdeal.defs (F := Ideal)) (onTc (τ := Cert.ModulationGradIdeal.τ) (Cert.ModulationGradIdeal.main (F := Ideal))) ⟨m, fun _ => 0, g⟩ (fun r => ∀ c : Dev Cert.ModulationGradIdeal.nD,
          r.2.mem ((c.tc : Thread Cert.ModulationGradIdeal.nD Cert.ModulationGradIdeal.τ).loc Cert.ModulationGradIdeal.main_v0_0) = v0 c
          ∧ r.2.mem ((c.tc : Thread Cert.ModulationGradIdeal.nD Cert.ModulationGradIdeal.τ).loc Cert.ModulationGradIdeal.main_v0_1) = v1 c
          ∧ r.2.mem ((c.tc : Thread Cert.ModulationGradIdeal.nD Cert.ModulationGradIdeal.τ).loc Cert.ModulationGradIdeal.main_arg0) = m ((c.tc : Thread Cert.ModulationGradIdeal.nD Cert.ModulationGradIdeal.τ).loc Cert.ModulationGradIdeal.main_arg0)
          ∧ r.2.mem ((c.tc : Thread Cert.ModulationGradIdeal.nD Cert.ModulationGradIdeal.τ).loc Cert.ModulationGradIdeal.main_arg1) = m ((c.tc : Thread Cert.ModulationGradIdeal.nD Cert.ModulationGradIdeal.τ).loc Cert.ModulationGradIdeal.main_arg1)
          ∧ r.2.mem ((c.tc : Thread Cert.ModulationGradIdeal.nD Cert.ModulationGradIdeal.τ).loc Cert.ModulationGradIdeal.main_arg2) = m ((c.tc : Thread Cert.ModulationGradIdeal.nD Cert.ModulationGradIdeal.τ).loc Cert.ModulationGradIdeal.main_arg2))
      ∧ θ_run (Cert.ModulationGradRefIdeal.defs (F := Ideal)) (onTc (τ := Cert.ModulationGradRefIdeal.τ) (Cert.ModulationGradRefIdeal.main (F := Ideal))) ⟨m', fun _ => 0, g'⟩ (fun r => ∀ c : Dev Cert.ModulationGradRefIdeal.nD,
          r.2.mem ((c.tc : Thread Cert.ModulationGradRefIdeal.nD Cert.ModulationGradRefIdeal.τ).loc Cert.ModulationGradRefIdeal.main_v1) = v0 c
          ∧ r.2.mem ((c.tc : Thread Cert.ModulationGradRefIdeal.nD Cert.ModulationGradRefIdeal.τ).loc Cert.ModulationGradRefIdeal.main_v2) = v1 c
          ∧ r.2.mem ((c.tc : Thread Cert.ModulationGradRefIdeal.nD Cert.ModulationGradRefIdeal.τ).loc Cert.ModulationGradRefIdeal.main_arg0) = m' ((c.tc : Thread Cert.ModulationGradRefIdeal.nD Cert.ModulationGradRefIdeal.τ).loc Cert.ModulationGradRefIdeal.main_arg0)
          ∧ r.2.mem ((c.tc : Thread Cert.ModulationGradRefIdeal.nD Cert.ModulationGradRefIdeal.τ).loc Cert.ModulationGradRefIdeal.main_arg1) = m' ((c.tc : Thread Cert.ModulationGradRefIdeal.nD Cert.ModulationGradRefIdeal.τ).loc Cert.ModulationGradRefIdeal.main_arg1)
          ∧ r.2.mem ((c.tc : Thread Cert.ModulationGradRefIdeal.nD Cert.ModulationGradRefIdeal.τ).loc Cert.ModulationGradRefIdeal.main_arg2) = m' ((c.tc : Thread Cert.ModulationGradRefIdeal.nD Cert.ModulationGradRefIdeal.τ).loc Cert.ModulationGradRefIdeal.main_arg2))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v11) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v12) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_ProjectGrad_ProjectGradIdeal : Prop :=
  True

def algebraic_ProjectGradIdeal_ProjectGradRefIdeal [hProjectGradIdeal : Cert.ProjectGradIdeal.Facts] [hProjectGradRefIdeal : Cert.ProjectGradRefIdeal.Facts] : Prop :=
  ∀ (m : (ℓ : Loc Cert.ProjectGradIdeal.nD Cert.ProjectGradIdeal.τ Cert.ProjectGradIdeal.sig) → Buf (Elt Ideal) ℓ) (g : Dev Cert.ProjectGradIdeal.nD → PrngReg)
    (m' : (ℓ : Loc Cert.ProjectGradRefIdeal.nD Cert.ProjectGradRefIdeal.τ Cert.ProjectGradRefIdeal.sig) → Buf (Elt Ideal) ℓ) (g' : Dev Cert.ProjectGradRefIdeal.nD → PrngReg), Pre_ProjectGradIdeal m →
    (∀ c : Dev Cert.ProjectGradIdeal.nD,
      m' ((c.tc : Thread Cert.ProjectGradRefIdeal.nD Cert.ProjectGradRefIdeal.τ).loc Cert.ProjectGradRefIdeal.main_arg0) = m ((c.tc : Thread Cert.ProjectGradIdeal.nD Cert.ProjectGradIdeal.τ).loc Cert.ProjectGradIdeal.main_arg0)
      ∧ m' ((c.tc : Thread Cert.ProjectGradRefIdeal.nD Cert.ProjectGradRefIdeal.τ).loc Cert.ProjectGradRefIdeal.main_arg1) = m ((c.tc : Thread Cert.ProjectGradIdeal.nD Cert.ProjectGradIdeal.τ).loc Cert.ProjectGradIdeal.main_arg1)
      ∧ m' ((c.tc : Thread Cert.ProjectGradRefIdeal.nD Cert.ProjectGradRefIdeal.τ).loc Cert.ProjectGradRefIdeal.main_arg2) = m ((c.tc : Thread Cert.ProjectGradIdeal.nD Cert.ProjectGradIdeal.τ).loc Cert.ProjectGradIdeal.main_arg2)) →
    ∃ (v0 : (c : Dev Cert.ProjectGradIdeal.nD) → Buf (Elt Ideal) ((c.tc : Thread Cert.ProjectGradIdeal.nD Cert.ProjectGradIdeal.τ).loc Cert.ProjectGradIdeal.main_v0)),
      θ_run (Cert.ProjectGradIdeal.defs (F := Ideal)) (onTc (τ := Cert.ProjectGradIdeal.τ) (Cert.ProjectGradIdeal.main (F := Ideal))) ⟨m, fun _ => 0, g⟩ (fun r => ∀ c : Dev Cert.ProjectGradIdeal.nD,
          r.2.mem ((c.tc : Thread Cert.ProjectGradIdeal.nD Cert.ProjectGradIdeal.τ).loc Cert.ProjectGradIdeal.main_v0) = v0 c
          ∧ r.2.mem ((c.tc : Thread Cert.ProjectGradIdeal.nD Cert.ProjectGradIdeal.τ).loc Cert.ProjectGradIdeal.main_arg0) = m ((c.tc : Thread Cert.ProjectGradIdeal.nD Cert.ProjectGradIdeal.τ).loc Cert.ProjectGradIdeal.main_arg0)
          ∧ r.2.mem ((c.tc : Thread Cert.ProjectGradIdeal.nD Cert.ProjectGradIdeal.τ).loc Cert.ProjectGradIdeal.main_arg1) = m ((c.tc : Thread Cert.ProjectGradIdeal.nD Cert.ProjectGradIdeal.τ).loc Cert.ProjectGradIdeal.main_arg1)
          ∧ r.2.mem ((c.tc : Thread Cert.ProjectGradIdeal.nD Cert.ProjectGradIdeal.τ).loc Cert.ProjectGradIdeal.main_arg2) = m ((c.tc : Thread Cert.ProjectGradIdeal.nD Cert.ProjectGradIdeal.τ).loc Cert.ProjectGradIdeal.main_arg2))
      ∧ θ_run (Cert.ProjectGradRefIdeal.defs (F := Ideal)) (onTc (τ := Cert.ProjectGradRefIdeal.τ) (Cert.ProjectGradRefIdeal.main (F := Ideal))) ⟨m', fun _ => 0, g'⟩ (fun r => ∀ c : Dev Cert.ProjectGradRefIdeal.nD,
          r.2.mem ((c.tc : Thread Cert.ProjectGradRefIdeal.nD Cert.ProjectGradRefIdeal.τ).loc Cert.ProjectGradRefIdeal.main_v12) = v0 c
          ∧ r.2.mem ((c.tc : Thread Cert.ProjectGradRefIdeal.nD Cert.ProjectGradRefIdeal.τ).loc Cert.ProjectGradRefIdeal.main_arg0) = m' ((c.tc : Thread Cert.ProjectGradRefIdeal.nD Cert.ProjectGradRefIdeal.τ).loc Cert.ProjectGradRefIdeal.main_arg0)
          ∧ r.2.mem ((c.tc : Thread Cert.ProjectGradRefIdeal.nD Cert.ProjectGradRefIdeal.τ).loc Cert.ProjectGradRefIdeal.main_arg1) = m' ((c.tc : Thread Cert.ProjectGradRefIdeal.nD Cert.ProjectGradRefIdeal.τ).loc Cert.ProjectGradRefIdeal.main_arg1)
          ∧ r.2.mem ((c.tc : Thread Cert.ProjectGradRefIdeal.nD Cert.ProjectGradRefIdeal.τ).loc Cert.ProjectGradRefIdeal.main_arg2) = m' ((c.tc : Thread Cert.ProjectGradRefIdeal.nD Cert.ProjectGradRefIdeal.τ).loc Cert.ProjectGradRefIdeal.main_arg2))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)
      ∧ m' ((c.tc : Thread Cert.UpGradRefIdeal.nD Cert.UpGradRefIdeal.τ).loc Cert.UpGradRefIdeal.main_arg2) = m ((c.tc : Thread Cert.UpGradIdeal.nD Cert.UpGradIdeal.τ).loc Cert.UpGradIdeal.main_arg2)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v12) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1)
          ∧ r.2.mem ((c.tc : Thread Cert.UpGradRefIdeal.nD Cert.UpGradRefIdeal.τ).loc Cert.UpGradRefIdeal.main_arg2) = m' ((c.tc : Thread Cert.UpGradRefIdeal.nD Cert.UpGradRefIdeal.τ).loc Cert.UpGradRefIdeal.main_arg2))

def preserves_UpInputGrad_UpInputGradIdeal : Prop :=
  True

def algebraic_UpInputGradIdeal_UpInputGradRefIdeal [hUpInputGradIdeal : Cert.UpInputGradIdeal.Facts] [hUpInputGradRefIdeal : Cert.UpInputGradRefIdeal.Facts] : Prop :=
  ∀ (m : (ℓ : Loc Cert.UpInputGradIdeal.nD Cert.UpInputGradIdeal.τ Cert.UpInputGradIdeal.sig) → Buf (Elt Ideal) ℓ) (g : Dev Cert.UpInputGradIdeal.nD → PrngReg)
    (m' : (ℓ : Loc Cert.UpInputGradRefIdeal.nD Cert.UpInputGradRefIdeal.τ Cert.UpInputGradRefIdeal.sig) → Buf (Elt Ideal) ℓ) (g' : Dev Cert.UpInputGradRefIdeal.nD → PrngReg), Pre_UpInputGradIdeal m →
    (∀ c : Dev Cert.UpInputGradIdeal.nD,
      m' ((c.tc : Thread Cert.UpInputGradRefIdeal.nD Cert.UpInputGradRefIdeal.τ).loc Cert.UpInputGradRefIdeal.main_arg0) = m ((c.tc : Thread Cert.UpInputGradIdeal.nD Cert.UpInputGradIdeal.τ).loc Cert.UpInputGradIdeal.main_arg0)
      ∧ m' ((c.tc : Thread Cert.UpInputGradRefIdeal.nD Cert.UpInputGradRefIdeal.τ).loc Cert.UpInputGradRefIdeal.main_arg1) = m ((c.tc : Thread Cert.UpInputGradIdeal.nD Cert.UpInputGradIdeal.τ).loc Cert.UpInputGradIdeal.main_arg1)
      ∧ m' ((c.tc : Thread Cert.UpInputGradRefIdeal.nD Cert.UpInputGradRefIdeal.τ).loc Cert.UpInputGradRefIdeal.main_arg2) = m ((c.tc : Thread Cert.UpInputGradIdeal.nD Cert.UpInputGradIdeal.τ).loc Cert.UpInputGradIdeal.main_arg2)
      ∧ m' ((c.tc : Thread Cert.UpInputGradRefIdeal.nD Cert.UpInputGradRefIdeal.τ).loc Cert.UpInputGradRefIdeal.main_arg3) = m ((c.tc : Thread Cert.UpInputGradIdeal.nD Cert.UpInputGradIdeal.τ).loc Cert.UpInputGradIdeal.main_arg3)
      ∧ m' ((c.tc : Thread Cert.UpInputGradRefIdeal.nD Cert.UpInputGradRefIdeal.τ).loc Cert.UpInputGradRefIdeal.main_arg4) = m ((c.tc : Thread Cert.UpInputGradIdeal.nD Cert.UpInputGradIdeal.τ).loc Cert.UpInputGradIdeal.main_arg4)) →
    ∃ (v0 : (c : Dev Cert.UpInputGradIdeal.nD) → Buf (Elt Ideal) ((c.tc : Thread Cert.UpInputGradIdeal.nD Cert.UpInputGradIdeal.τ).loc Cert.UpInputGradIdeal.main_v0_0)) (v1 : (c : Dev Cert.UpInputGradIdeal.nD) → Buf (Elt Ideal) ((c.tc : Thread Cert.UpInputGradIdeal.nD Cert.UpInputGradIdeal.τ).loc Cert.UpInputGradIdeal.main_v0_1)),
      θ_run (Cert.UpInputGradIdeal.defs (F := Ideal)) (onTc (τ := Cert.UpInputGradIdeal.τ) (Cert.UpInputGradIdeal.main (F := Ideal))) ⟨m, fun _ => 0, g⟩ (fun r => ∀ c : Dev Cert.UpInputGradIdeal.nD,
          r.2.mem ((c.tc : Thread Cert.UpInputGradIdeal.nD Cert.UpInputGradIdeal.τ).loc Cert.UpInputGradIdeal.main_v0_0) = v0 c
          ∧ r.2.mem ((c.tc : Thread Cert.UpInputGradIdeal.nD Cert.UpInputGradIdeal.τ).loc Cert.UpInputGradIdeal.main_v0_1) = v1 c
          ∧ r.2.mem ((c.tc : Thread Cert.UpInputGradIdeal.nD Cert.UpInputGradIdeal.τ).loc Cert.UpInputGradIdeal.main_arg0) = m ((c.tc : Thread Cert.UpInputGradIdeal.nD Cert.UpInputGradIdeal.τ).loc Cert.UpInputGradIdeal.main_arg0)
          ∧ r.2.mem ((c.tc : Thread Cert.UpInputGradIdeal.nD Cert.UpInputGradIdeal.τ).loc Cert.UpInputGradIdeal.main_arg1) = m ((c.tc : Thread Cert.UpInputGradIdeal.nD Cert.UpInputGradIdeal.τ).loc Cert.UpInputGradIdeal.main_arg1)
          ∧ r.2.mem ((c.tc : Thread Cert.UpInputGradIdeal.nD Cert.UpInputGradIdeal.τ).loc Cert.UpInputGradIdeal.main_arg2) = m ((c.tc : Thread Cert.UpInputGradIdeal.nD Cert.UpInputGradIdeal.τ).loc Cert.UpInputGradIdeal.main_arg2)
          ∧ r.2.mem ((c.tc : Thread Cert.UpInputGradIdeal.nD Cert.UpInputGradIdeal.τ).loc Cert.UpInputGradIdeal.main_arg3) = m ((c.tc : Thread Cert.UpInputGradIdeal.nD Cert.UpInputGradIdeal.τ).loc Cert.UpInputGradIdeal.main_arg3)
          ∧ r.2.mem ((c.tc : Thread Cert.UpInputGradIdeal.nD Cert.UpInputGradIdeal.τ).loc Cert.UpInputGradIdeal.main_arg4) = m ((c.tc : Thread Cert.UpInputGradIdeal.nD Cert.UpInputGradIdeal.τ).loc Cert.UpInputGradIdeal.main_arg4))
      ∧ θ_run (Cert.UpInputGradRefIdeal.defs (F := Ideal)) (onTc (τ := Cert.UpInputGradRefIdeal.τ) (Cert.UpInputGradRefIdeal.main (F := Ideal))) ⟨m', fun _ => 0, g'⟩ (fun r => ∀ c : Dev Cert.UpInputGradRefIdeal.nD,
          r.2.mem ((c.tc : Thread Cert.UpInputGradRefIdeal.nD Cert.UpInputGradRefIdeal.τ).loc Cert.UpInputGradRefIdeal.main_v19) = v0 c
          ∧ r.2.mem ((c.tc : Thread Cert.UpInputGradRefIdeal.nD Cert.UpInputGradRefIdeal.τ).loc Cert.UpInputGradRefIdeal.main_v20) = v1 c
          ∧ r.2.mem ((c.tc : Thread Cert.UpInputGradRefIdeal.nD Cert.UpInputGradRefIdeal.τ).loc Cert.UpInputGradRefIdeal.main_arg0) = m' ((c.tc : Thread Cert.UpInputGradRefIdeal.nD Cert.UpInputGradRefIdeal.τ).loc Cert.UpInputGradRefIdeal.main_arg0)
          ∧ r.2.mem ((c.tc : Thread Cert.UpInputGradRefIdeal.nD Cert.UpInputGradRefIdeal.τ).loc Cert.UpInputGradRefIdeal.main_arg1) = m' ((c.tc : Thread Cert.UpInputGradRefIdeal.nD Cert.UpInputGradRefIdeal.τ).loc Cert.UpInputGradRefIdeal.main_arg1)
          ∧ r.2.mem ((c.tc : Thread Cert.UpInputGradRefIdeal.nD Cert.UpInputGradRefIdeal.τ).loc Cert.UpInputGradRefIdeal.main_arg2) = m' ((c.tc : Thread Cert.UpInputGradRefIdeal.nD Cert.UpInputGradRefIdeal.τ).loc Cert.UpInputGradRefIdeal.main_arg2)
          ∧ r.2.mem ((c.tc : Thread Cert.UpInputGradRefIdeal.nD Cert.UpInputGradRefIdeal.τ).loc Cert.UpInputGradRefIdeal.main_arg3) = m' ((c.tc : Thread Cert.UpInputGradRefIdeal.nD Cert.UpInputGradRefIdeal.τ).loc Cert.UpInputGradRefIdeal.main_arg3)
          ∧ r.2.mem ((c.tc : Thread Cert.UpInputGradRefIdeal.nD Cert.UpInputGradRefIdeal.τ).loc Cert.UpInputGradRefIdeal.main_arg4) = m' ((c.tc : Thread Cert.UpInputGradRefIdeal.nD Cert.UpInputGradRefIdeal.τ).loc Cert.UpInputGradRefIdeal.main_arg4))

def preserves_Attention_AttentionIdeal : Prop :=
  True

def algebraic_AttentionIdeal_AttentionRefIdeal_pre_finite_scores [hAttentionIdeal : Cert.AttentionIdeal.Facts] [hAttentionRefIdeal : Cert.AttentionRefIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_scores m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v39) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v72) = v0 c
          ∧ r.2.mem ((c.tc : Thread Cert.DownRefIdeal.nD Cert.DownRefIdeal.τ).loc Cert.DownRefIdeal.main_v101) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7))

def preserves_ConvGrad_ConvGradIdeal : Prop :=
  True

def algebraic_ConvGradIdeal_ConvGradRefIdeal [hConvGradIdeal : Cert.ConvGradIdeal.Facts] [hConvGradRefIdeal : Cert.ConvGradRefIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradRefIdeal.nD Cert.ConvGradRefIdeal.τ Cert.ConvGradRefIdeal.sig) → Buf (Elt Ideal) ℓ) (g' : Dev Cert.ConvGradRefIdeal.nD → PrngReg), Pre_ConvGradIdeal m →
    (∀ c : Dev Cert.ConvGradIdeal.nD,
      m' ((c.tc : Thread Cert.ConvGradRefIdeal.nD Cert.ConvGradRefIdeal.τ).loc Cert.ConvGradRefIdeal.main_arg0) = m ((c.tc : Thread Cert.ConvGradIdeal.nD Cert.ConvGradIdeal.τ).loc Cert.ConvGradIdeal.main_arg0)
      ∧ m' ((c.tc : Thread Cert.ConvGradRefIdeal.nD Cert.ConvGradRefIdeal.τ).loc Cert.ConvGradRefIdeal.main_arg1) = m ((c.tc : Thread Cert.ConvGradIdeal.nD Cert.ConvGradIdeal.τ).loc Cert.ConvGradIdeal.main_arg1)
      ∧ m' ((c.tc : Thread Cert.ConvGradRefIdeal.nD Cert.ConvGradRefIdeal.τ).loc Cert.ConvGradRefIdeal.main_arg2) = m ((c.tc : Thread Cert.ConvGradIdeal.nD Cert.ConvGradIdeal.τ).loc Cert.ConvGradIdeal.main_arg2)) →
    ∃ (v0 : (c : Dev Cert.ConvGradIdeal.nD) → Buf (Elt Ideal) ((c.tc : Thread Cert.ConvGradIdeal.nD Cert.ConvGradIdeal.τ).loc Cert.ConvGradIdeal.main_v0_0)) (v1 : (c : Dev Cert.ConvGradIdeal.nD) → Buf (Elt Ideal) ((c.tc : Thread Cert.ConvGradIdeal.nD Cert.ConvGradIdeal.τ).loc Cert.ConvGradIdeal.main_v0_1)) (v2 : (c : Dev Cert.ConvGradIdeal.nD) → Buf (Elt Ideal) ((c.tc : Thread Cert.ConvGradIdeal.nD Cert.ConvGradIdeal.τ).loc Cert.ConvGradIdeal.main_v0_2)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0_0) = v0 c
          ∧ r.2.mem ((c.tc : Thread Cert.ConvGradIdeal.nD Cert.ConvGradIdeal.τ).loc Cert.ConvGradIdeal.main_v0_1) = v1 c
          ∧ r.2.mem ((c.tc : Thread Cert.ConvGradIdeal.nD Cert.ConvGradIdeal.τ).loc Cert.ConvGradIdeal.main_v0_2) = v2 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2))
      ∧ θ_run (Cert.ConvGradRefIdeal.defs (F := Ideal)) (onTc (τ := Cert.ConvGradRefIdeal.τ) (Cert.ConvGradRefIdeal.main (F := Ideal))) ⟨m', fun _ => 0, g'⟩ (fun r => ∀ c : Dev Cert.ConvGradRefIdeal.nD,
          r.2.mem ((c.tc : Thread Cert.ConvGradRefIdeal.nD Cert.ConvGradRefIdeal.τ).loc Cert.ConvGradRefIdeal.main_v147) = v0 c
          ∧ r.2.mem ((c.tc : Thread Cert.ConvGradRefIdeal.nD Cert.ConvGradRefIdeal.τ).loc Cert.ConvGradRefIdeal.main_v140) = v1 c
          ∧ r.2.mem ((c.tc : Thread Cert.ConvGradRefIdeal.nD Cert.ConvGradRefIdeal.τ).loc Cert.ConvGradRefIdeal.main_v108) = v2 c
          ∧ r.2.mem ((c.tc : Thread Cert.ConvGradRefIdeal.nD Cert.ConvGradRefIdeal.τ).loc Cert.ConvGradRefIdeal.main_arg0) = m' ((c.tc : Thread Cert.ConvGradRefIdeal.nD Cert.ConvGradRefIdeal.τ).loc Cert.ConvGradRefIdeal.main_arg0)
          ∧ r.2.mem ((c.tc : Thread Cert.ConvGradRefIdeal.nD Cert.ConvGradRefIdeal.τ).loc Cert.ConvGradRefIdeal.main_arg1) = m' ((c.tc : Thread Cert.ConvGradRefIdeal.nD Cert.ConvGradRefIdeal.τ).loc Cert.ConvGradRefIdeal.main_arg1)
          ∧ r.2.mem ((c.tc : Thread Cert.ConvGradRefIdeal.nD Cert.ConvGradRefIdeal.τ).loc Cert.ConvGradRefIdeal.main_arg2) = m' ((c.tc : Thread Cert.ConvGradRefIdeal.nD Cert.ConvGradRefIdeal.τ).loc Cert.ConvGradRefIdeal.main_arg2))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)
      ∧ m' ((c.tc : Thread Cert.NormGradRefIdeal.nD Cert.NormGradRefIdeal.τ).loc Cert.NormGradRefIdeal.main_arg5) = m ((c.tc : Thread Cert.NormGradIdeal.nD Cert.NormGradIdeal.τ).loc Cert.NormGradIdeal.main_arg5)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)) (v3 : (c : Dev Cert.NormGradIdeal.nD) → Buf (Elt Ideal) ((c.tc : Thread Cert.NormGradIdeal.nD Cert.NormGradIdeal.τ).loc Cert.NormGradIdeal.main_v0_3)) (v4 : (c : Dev Cert.NormGradIdeal.nD) → Buf (Elt Ideal) ((c.tc : Thread Cert.NormGradIdeal.nD Cert.NormGradIdeal.τ).loc Cert.NormGradIdeal.main_v0_4)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_v0_3) = v3 c
          ∧ r.2.mem ((c.tc : Thread Cert.NormGradIdeal.nD Cert.NormGradIdeal.τ).loc Cert.NormGradIdeal.main_v0_4) = v4 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v72) = v0 c
          ∧ r.2.mem ((c.tc : Thread Cert.NormGradRefIdeal.nD Cert.NormGradRefIdeal.τ).loc Cert.NormGradRefIdeal.main_v68) = v1 c
          ∧ r.2.mem ((c.tc : Thread Cert.NormGradRefIdeal.nD Cert.NormGradRefIdeal.τ).loc Cert.NormGradRefIdeal.main_v69) = v2 c
          ∧ r.2.mem ((c.tc : Thread Cert.NormGradRefIdeal.nD Cert.NormGradRefIdeal.τ).loc Cert.NormGradRefIdeal.main_v39) = v3 c
          ∧ r.2.mem ((c.tc : Thread Cert.NormGradRefIdeal.nD Cert.NormGradRefIdeal.τ).loc Cert.NormGradRefIdeal.main_v36) = v4 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4)
          ∧ r.2.mem ((c.tc : Thread Cert.NormGradRefIdeal.nD Cert.NormGradRefIdeal.τ).loc Cert.NormGradRefIdeal.main_arg5) = m' ((c.tc : Thread Cert.NormGradRefIdeal.nD Cert.NormGradRefIdeal.τ).loc Cert.NormGradRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v87) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def Claim : Prop :=
  ∃ (hExchange : Cert.Exchange.Facts) (hExchangeIdeal : Cert.ExchangeIdeal.Facts) (hExchangeRefIdeal : Cert.ExchangeRefIdeal.Facts) (hExchangeRef : Cert.ExchangeRef.Facts) (hGather : Cert.Gather.Facts) (hGatherIdeal : Cert.GatherIdeal.Facts) (hGatherRefIdeal : Cert.GatherRefIdeal.Facts) (hGatherRef : Cert.GatherRef.Facts) (hUpdate : Cert.Update.Facts) (hUpdateIdeal : Cert.UpdateIdeal.Facts) (hUpdateRefIdeal : Cert.UpdateRefIdeal.Facts) (hUpdateSmall : Cert.UpdateSmall.Facts) (hUpdateSmallIdeal : Cert.UpdateSmallIdeal.Facts) (hUpdateSmallRefIdeal : Cert.UpdateSmallRefIdeal.Facts) (hUpdateConv : Cert.UpdateConv.Facts) (hUpdateConvIdeal : Cert.UpdateConvIdeal.Facts) (hUpdateConvRefIdeal : Cert.UpdateConvRefIdeal.Facts) (hUpdateAda : Cert.UpdateAda.Facts) (hUpdateAdaIdeal : Cert.UpdateAdaIdeal.Facts) (hUpdateAdaRefIdeal : Cert.UpdateAdaRefIdeal.Facts) (hUpdateCctx : Cert.UpdateCctx.Facts) (hUpdateCctxIdeal : Cert.UpdateCctxIdeal.Facts) (hUpdateCctxRefIdeal : Cert.UpdateCctxRefIdeal.Facts) (hLoss : Cert.Loss.Facts) (hLossIdeal : Cert.LossIdeal.Facts) (hLossRefIdeal : Cert.LossRefIdeal.Facts) (hInputGrad : Cert.InputGrad.Facts) (hInputGradIdeal : Cert.InputGradIdeal.Facts) (hInputGradRefIdeal : Cert.InputGradRefIdeal.Facts) (hModulation : Cert.Modulation.Facts) (hModulationIdeal : Cert.ModulationIdeal.Facts) (hModulationRefIdeal : Cert.ModulationRefIdeal.Facts) (hModulationGrad : Cert.ModulationGrad.Facts) (hModulationGradIdeal : Cert.ModulationGradIdeal.Facts) (hModulationGradRefIdeal : Cert.ModulationGradRefIdeal.Facts) (hProject : Cert.Project.Facts) (hProjectIdeal : Cert.ProjectIdeal.Facts) (hProjectRefIdeal : Cert.ProjectRefIdeal.Facts) (hUp : Cert.Up.Facts) (hUpIdeal : Cert.UpIdeal.Facts) (hUpRefIdeal : Cert.UpRefIdeal.Facts) (hProjectGrad : Cert.ProjectGrad.Facts) (hProjectGradIdeal : Cert.ProjectGradIdeal.Facts) (hProjectGradRefIdeal : Cert.ProjectGradRefIdeal.Facts) (hUpGrad : Cert.UpGrad.Facts) (hUpGradIdeal : Cert.UpGradIdeal.Facts) (hUpGradRefIdeal : Cert.UpGradRefIdeal.Facts) (hUpInputGrad : Cert.UpInputGrad.Facts) (hUpInputGradIdeal : Cert.UpInputGradIdeal.Facts) (hUpInputGradRefIdeal : Cert.UpInputGradRefIdeal.Facts) (hAttention : Cert.Attention.Facts) (hAttentionIdeal : Cert.AttentionIdeal.Facts) (hAttentionRefIdeal : Cert.AttentionRefIdeal.Facts) (hDown : Cert.Down.Facts) (hDownIdeal : Cert.DownIdeal.Facts) (hDownRefIdeal : Cert.DownRefIdeal.Facts) (hConvGrad : Cert.ConvGrad.Facts) (hConvGradIdeal : Cert.ConvGradIdeal.Facts) (hConvGradRefIdeal : Cert.ConvGradRefIdeal.Facts) (hNormGrad : Cert.NormGrad.Facts) (hNormGradIdeal : Cert.NormGradIdeal.Facts) (hNormGradRefIdeal : Cert.NormGradRefIdeal.Facts) (hMix : Cert.Mix.Facts) (hMixIdeal : Cert.MixIdeal.Facts) (hMixRefIdeal : Cert.MixRefIdeal.Facts) (hPre_finite_scores : Cert.Pre_finite_scores.Facts),
    quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Update (hUpdate := hUpdate)
    ∧ quiescent_UpdateIdeal (hUpdateIdeal := hUpdateIdeal)
    ∧ quiescent_UpdateRefIdeal (hUpdateRefIdeal := hUpdateRefIdeal)
    ∧ quiescent_UpdateSmall (hUpdateSmall := hUpdateSmall)
    ∧ quiescent_UpdateSmallIdeal (hUpdateSmallIdeal := hUpdateSmallIdeal)
    ∧ quiescent_UpdateSmallRefIdeal (hUpdateSmallRefIdeal := hUpdateSmallRefIdeal)
    ∧ quiescent_UpdateConv (hUpdateConv := hUpdateConv)
    ∧ quiescent_UpdateConvIdeal (hUpdateConvIdeal := hUpdateConvIdeal)
    ∧ quiescent_UpdateConvRefIdeal (hUpdateConvRefIdeal := hUpdateConvRefIdeal)
    ∧ quiescent_UpdateAda (hUpdateAda := hUpdateAda)
    ∧ quiescent_UpdateAdaIdeal (hUpdateAdaIdeal := hUpdateAdaIdeal)
    ∧ quiescent_UpdateAdaRefIdeal (hUpdateAdaRefIdeal := hUpdateAdaRefIdeal)
    ∧ quiescent_UpdateCctx (hUpdateCctx := hUpdateCctx)
    ∧ quiescent_UpdateCctxIdeal (hUpdateCctxIdeal := hUpdateCctxIdeal)
    ∧ quiescent_UpdateCctxRefIdeal (hUpdateCctxRefIdeal := hUpdateCctxRefIdeal)
    ∧ quiescent_Loss (hLoss := hLoss)
    ∧ quiescent_LossIdeal (hLossIdeal := hLossIdeal)
    ∧ quiescent_LossRefIdeal (hLossRefIdeal := hLossRefIdeal)
    ∧ quiescent_InputGrad (hInputGrad := hInputGrad)
    ∧ quiescent_InputGradIdeal (hInputGradIdeal := hInputGradIdeal)
    ∧ quiescent_InputGradRefIdeal (hInputGradRefIdeal := hInputGradRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_ModulationGrad (hModulationGrad := hModulationGrad)
    ∧ quiescent_ModulationGradIdeal (hModulationGradIdeal := hModulationGradIdeal)
    ∧ quiescent_ModulationGradRefIdeal (hModulationGradRefIdeal := hModulationGradRefIdeal)
    ∧ quiescent_Project (hProject := hProject)
    ∧ quiescent_ProjectIdeal (hProjectIdeal := hProjectIdeal)
    ∧ quiescent_ProjectRefIdeal (hProjectRefIdeal := hProjectRefIdeal)
    ∧ quiescent_Up (hUp := hUp)
    ∧ quiescent_UpIdeal (hUpIdeal := hUpIdeal)
    ∧ quiescent_UpRefIdeal (hUpRefIdeal := hUpRefIdeal)
    ∧ quiescent_ProjectGrad (hProjectGrad := hProjectGrad)
    ∧ quiescent_ProjectGradIdeal (hProjectGradIdeal := hProjectGradIdeal)
    ∧ quiescent_ProjectGradRefIdeal (hProjectGradRefIdeal := hProjectGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_UpInputGrad (hUpInputGrad := hUpInputGrad)
    ∧ quiescent_UpInputGradIdeal (hUpInputGradIdeal := hUpInputGradIdeal)
    ∧ quiescent_UpInputGradRefIdeal (hUpInputGradRefIdeal := hUpInputGradRefIdeal)
    ∧ quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionRefIdeal (hAttentionRefIdeal := hAttentionRefIdeal)
    ∧ quiescent_AttentionRefIdeal_pre_finite_scores (hAttentionRefIdeal := hAttentionRefIdeal) (hPre_finite_scores := hPre_finite_scores)
    ∧ quiescent_Down (hDown := hDown)
    ∧ quiescent_DownIdeal (hDownIdeal := hDownIdeal)
    ∧ quiescent_DownRefIdeal (hDownRefIdeal := hDownRefIdeal)
    ∧ quiescent_ConvGrad (hConvGrad := hConvGrad)
    ∧ quiescent_ConvGradIdeal (hConvGradIdeal := hConvGradIdeal)
    ∧ quiescent_ConvGradRefIdeal (hConvGradRefIdeal := hConvGradRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_Mix (hMix := hMix)
    ∧ quiescent_MixIdeal (hMixIdeal := hMixIdeal)
    ∧ quiescent_MixRefIdeal (hMixRefIdeal := hMixRefIdeal)
    ∧ preserves_Exchange_ExchangeIdeal
    ∧ bitexact_Exchange_ExchangeRef (hExchange := hExchange) (hExchangeRef := hExchangeRef)
    ∧ algebraic_ExchangeIdeal_ExchangeRefIdeal (hExchangeIdeal := hExchangeIdeal) (hExchangeRefIdeal := hExchangeRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_Update_UpdateIdeal
    ∧ algebraic_UpdateIdeal_UpdateRefIdeal (hUpdateIdeal := hUpdateIdeal) (hUpdateRefIdeal := hUpdateRefIdeal)
    ∧ preserves_UpdateSmall_UpdateSmallIdeal
    ∧ algebraic_UpdateSmallIdeal_UpdateSmallRefIdeal (hUpdateSmallIdeal := hUpdateSmallIdeal) (hUpdateSmallRefIdeal := hUpdateSmallRefIdeal)
    ∧ preserves_UpdateConv_UpdateConvIdeal
    ∧ algebraic_UpdateConvIdeal_UpdateConvRefIdeal (hUpdateConvIdeal := hUpdateConvIdeal) (hUpdateConvRefIdeal := hUpdateConvRefIdeal)
    ∧ preserves_UpdateAda_UpdateAdaIdeal
    ∧ algebraic_UpdateAdaIdeal_UpdateAdaRefIdeal (hUpdateAdaIdeal := hUpdateAdaIdeal) (hUpdateAdaRefIdeal := hUpdateAdaRefIdeal)
    ∧ preserves_UpdateCctx_UpdateCctxIdeal
    ∧ algebraic_UpdateCctxIdeal_UpdateCctxRefIdeal (hUpdateCctxIdeal := hUpdateCctxIdeal) (hUpdateCctxRefIdeal := hUpdateCctxRefIdeal)
    ∧ preserves_Loss_LossIdeal
    ∧ algebraic_LossIdeal_LossRefIdeal (hLossIdeal := hLossIdeal) (hLossRefIdeal := hLossRefIdeal)
    ∧ preserves_InputGrad_InputGradIdeal
    ∧ algebraic_InputGradIdeal_InputGradRefIdeal (hInputGradIdeal := hInputGradIdeal) (hInputGradRefIdeal := hInputGradRefIdeal)
    ∧ preserves_Modulation_ModulationIdeal
    ∧ algebraic_ModulationIdeal_ModulationRefIdeal (hModulationIdeal := hModulationIdeal) (hModulationRefIdeal := hModulationRefIdeal)
    ∧ preserves_ModulationGrad_ModulationGradIdeal
    ∧ algebraic_ModulationGradIdeal_ModulationGradRefIdeal (hModulationGradIdeal := hModulationGradIdeal) (hModulationGradRefIdeal := hModulationGradRefIdeal)
    ∧ preserves_Project_ProjectIdeal
    ∧ algebraic_ProjectIdeal_ProjectRefIdeal (hProjectIdeal := hProjectIdeal) (hProjectRefIdeal := hProjectRefIdeal)
    ∧ preserves_Up_UpIdeal
    ∧ algebraic_UpIdeal_UpRefIdeal (hUpIdeal := hUpIdeal) (hUpRefIdeal := hUpRefIdeal)
    ∧ preserves_ProjectGrad_ProjectGradIdeal
    ∧ algebraic_ProjectGradIdeal_ProjectGradRefIdeal (hProjectGradIdeal := hProjectGradIdeal) (hProjectGradRefIdeal := hProjectGradRefIdeal)
    ∧ preserves_UpGrad_UpGradIdeal
    ∧ algebraic_UpGradIdeal_UpGradRefIdeal (hUpGradIdeal := hUpGradIdeal) (hUpGradRefIdeal := hUpGradRefIdeal)
    ∧ preserves_UpInputGrad_UpInputGradIdeal
    ∧ algebraic_UpInputGradIdeal_UpInputGradRefIdeal (hUpInputGradIdeal := hUpInputGradIdeal) (hUpInputGradRefIdeal := hUpInputGradRefIdeal)
    ∧ preserves_Attention_AttentionIdeal
    ∧ algebraic_AttentionIdeal_AttentionRefIdeal_pre_finite_scores (hAttentionIdeal := hAttentionIdeal) (hAttentionRefIdeal := hAttentionRefIdeal) (hPre_finite_scores := hPre_finite_scores)
    ∧ preserves_Down_DownIdeal
    ∧ algebraic_DownIdeal_DownRefIdeal (hDownIdeal := hDownIdeal) (hDownRefIdeal := hDownRefIdeal)
    ∧ preserves_ConvGrad_ConvGradIdeal
    ∧ algebraic_ConvGradIdeal_ConvGradRefIdeal (hConvGradIdeal := hConvGradIdeal) (hConvGradRefIdeal := hConvGradRefIdeal)
    ∧ preserves_NormGrad_NormGradIdeal
    ∧ algebraic_NormGradIdeal_NormGradRefIdeal (hNormGradIdeal := hNormGradIdeal) (hNormGradRefIdeal := hNormGradRefIdeal)
    ∧ preserves_Mix_MixIdeal
    ∧ algebraic_MixIdeal_MixRefIdeal (hMixIdeal := hMixIdeal) (hMixRefIdeal := hMixRefIdeal)
-- ==== Pre_finite_scores.lean ====
abbrev S9216x1024 : Shape := ⟨2, ![9216, 1024]⟩
abbrev S9216x512 : Shape := ⟨2, ![9216, 512]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)

variable [Facts]

def fn {F : FTy → Type} [FloatOps F] (main_arg0 : FVec F S9216x1024 .bf16) (main_arg1 : FVec F S9216x1024 .bf16) (main_arg2 : FVec F S9216x512 .bf16) : IVec S9216x1024 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_v4 : FVec F S9216x1024 .f32 := (extf .f32 · bitsLt_bf16_f32) main_arg1
  let main_v5 : FVec F S9216x1024 .f32 := Host.absf main_v4
  let main_cst_0 : FVec F S_ .f32 := constant S_ .f32 0x7F800000#32
  let main_v6 : FVec F S9216x1024 .f32 := broadcastInDim S9216x1024 ![] bcast_S_S9216x1024 main_cst_0
  let main_v7 : IVec S9216x1024 1 := cmpf .olt main_v5 main_v6
  let main_v8 : IVec S9216x1024 1 := andi main_v3 main_v7
  main_v8
-- ==== Exchange.lean ====
abbrev S8x5888x1024 : Shape := ⟨3, ![8, 5888, 1024]⟩
abbrev S7 : Shape := ⟨1, ![7]⟩
abbrev S_ : Shape := ⟨0, ![]⟩
abbrev S1x5888x1024 : Shape := ⟨3, ![1, 5888, 1024]⟩
abbrev S5888x1024 : Shape := ⟨2, ![5888, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x5888x1024, .bf16⟩
  | .hbm, ⟨1, _⟩ => ⟨S8x5888x1024, .bf16⟩
  | _, _ => ⟨S8x5888x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) (c0_i32_8 : BitVec 32) (c0_i32_9 : BitVec 32) (c1_i32_10 : BitVec 32) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.xori v2 c0_i32_8
  let v20 : BitVec 32 := Scalar.muli c4_i32_11 v17
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.xori v5 c0_i32_9
  let v21 : BitVec 32 := Scalar.muli c2_i32_12 v18
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.xori v8 c1_i32_10
  let v23 : BitVec 32 := Scalar.addi v22 v19
  let c0_i32_51 : BitVec 32 := 0#32
  let c0_i32_52 : BitVec 32 := 0#32
  ![v23.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v17 : BitVec 32 := Scalar.xori v2 c0_i32_8
  let c4_i32_45 : BitVec 32 := 4#32
  let v66 : BitVec 32 := Scalar.muli v17 c4_i32_45
  let v67 : BitVec 32 := Scalar.addi c0_i32_46 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v18 : BitVec 32 := Scalar.xori v5 c0_i32_9
  let c2_i32_47 : BitVec 32 := 2#32
  let v68 : BitVec 32 := Scalar.muli v18 c2_i32_47
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.xori v8 c1_i32_10
  let c1_i32_48 : BitVec 32 := 1#32
  let v70 : BitVec 32 := Scalar.muli v19 c1_i32_48
  let v71 : BitVec 32 := Scalar.addi v69 v70
  v71.toNat
def k0_dev2 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_13 : BitVec 32 := 0#32
  let v24 : BitVec 32 := Scalar.xori v2 c0_i32_13
  let c4_i32_55 : BitVec 32 := 4#32
  let v80 : BitVec 32 := Scalar.muli v24 c4_i32_55
  let v81 : BitVec 32 := Scalar.addi c0_i32_56 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v25 : BitVec 32 := Scalar.xori v5 c1_i32_14
  let c2_i32_57 : BitVec 32 := 2#32
  let v82 : BitVec 32 := Scalar.muli v25 c2_i32_57
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v26 : BitVec 32 := Scalar.xori v8 c0_i32_15
  let c1_i32_58 : BitVec 32 := 1#32
  let v84 : BitVec 32 := Scalar.muli v26 c1_i32_58
  let v85 : BitVec 32 := Scalar.addi v83 v84
  v85.toNat
def k0_dev3 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_18 : BitVec 32 := 0#32
  let v31 : BitVec 32 := Scalar.xori v2 c0_i32_18
  let c4_i32_65 : BitVec 32 := 4#32
  let v94 : BitVec 32 := Scalar.muli v31 c4_i32_65
  let v95 : BitVec 32 := Scalar.addi c0_i32_66 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v32 : BitVec 32 := Scalar.xori v5 c1_i32_19
  let c2_i32_67 : BitVec 32 := 2#32
  let v96 : BitVec 32 := Scalar.muli v32 c2_i32_67
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.xori v8 c1_i32_20
  let c1_i32_68 : BitVec 32 := 1#32
  let v98 : BitVec 32 := Scalar.muli v33 c1_i32_68
  let v99 : BitVec 32 := Scalar.addi v97 v98
  v99.toNat
def k0_dev4 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_23 : BitVec 32 := 1#32
  let v38 : BitVec 32 := Scalar.xori v2 c1_i32_23
  let c4_i32_74 : BitVec 32 := 4#32
  let v108 : BitVec 32 := Scalar.muli v38 c4_i32_74
  let v109 : BitVec 32 := Scalar.addi c0_i32_75 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_24 : BitVec 32 := 0#32
  let v39 : BitVec 32 := Scalar.xori v5 c0_i32_24
  let c2_i32_76 : BitVec 32 := 2#32
  let v110 : BitVec 32 := Scalar.muli v39 c2_i32_76
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_25 : BitVec 32 := 0#32
  let v40 : BitVec 32 := Scalar.xori v8 c0_i32_25
  let c1_i32_77 : BitVec 32 := 1#32
  let v112 : BitVec 32 := Scalar.muli v40 c1_i32_77
  let v113 : BitVec 32 := Scalar.addi v111 v112
  v113.toNat
def k0_dev5 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_28 : BitVec 32 := 1#32
  let v45 : BitVec 32 := Scalar.xori v2 c1_i32_28
  let c4_i32_84 : BitVec 32 := 4#32
  let v122 : BitVec 32 := Scalar.muli v45 c4_i32_84
  let v123 : BitVec 32 := Scalar.addi c0_i32_85 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v46 : BitVec 32 := Scalar.xori v5 c0_i32_29
  let c2_i32_86 : BitVec 32 := 2#32
  let v124 : BitVec 32 := Scalar.muli v46 c2_i32_86
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v47 : BitVec 32 := Scalar.xori v8 c1_i32_30
  let c1_i32_87 : BitVec 32 := 1#32
  let v126 : BitVec 32 := Scalar.muli v47 c1_i32_87
  let v127 : BitVec 32 := Scalar.addi v125 v126
  v127.toNat
def k0_dev6 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_33 : BitVec 32 := 1#32
  let v52 : BitVec 32 := Scalar.xori v2 c1_i32_33
  let c4_i32_93 : BitVec 32 := 4#32
  let v136 : BitVec 32 := Scalar.muli v52 c4_i32_93
  let v137 : BitVec 32 := Scalar.addi c0_i32_94 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v53 : BitVec 32 := Scalar.xori v5 c1_i32_34
  let c2_i32_95 : BitVec 32 := 2#32
  let v138 : BitVec 32 := Scalar.muli v53 c2_i32_95
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v54 : BitVec 32 := Scalar.xori v8 c0_i32_35
  let c1_i32_96 : BitVec 32 := 1#32
  let v140 : BitVec 32 := Scalar.muli v54 c1_i32_96
  let v141 : BitVec 32 := Scalar.addi v139 v140
  v141.toNat
def k0_dev7 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_38 : BitVec 32 := 1#32
  let v59 : BitVec 32 := Scalar.xori v2 c1_i32_38
  let c4_i32_102 : BitVec 32 := 4#32
  let v150 : BitVec 32 := Scalar.muli v59 c4_i32_102
  let v151 : BitVec 32 := Scalar.addi c0_i32_103 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v60 : BitVec 32 := Scalar.xori v5 c1_i32_39
  let c2_i32_104 : BitVec 32 := 2#32
  let v152 : BitVec 32 := Scalar.muli v60 c2_i32_104
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v61 : BitVec 32 := Scalar.xori v8 c1_i32_40
  let c1_i32_105 : BitVec 32 := 1#32
  let v154 : BitVec 32 := Scalar.muli v61 c1_i32_105
  let v155 : BitVec 32 := Scalar.addi v153 v154
  v155.toNat
-- ==== ExchangeRef.lean ====
abbrev S64x5888x1024 : Shape := ⟨3, ![64, 5888, 1024]⟩
abbrev S8x8x5888x1024 : Shape := ⟨4, ![8, 8, 5888, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x5888x1024, .bf16⟩
  | .hbm, ⟨1, _⟩ => ⟨S8x8x5888x1024, .bf16⟩
  | .hbm, ⟨2, _⟩ => ⟨S8x8x5888x1024, .bf16⟩
  | .hbm, ⟨3, _⟩ => ⟨S64x5888x1024, .bf16⟩
  | _, _ => ⟨S64x5888x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Gather.lean ====
abbrev S5888x1024 : Shape := ⟨2, ![5888, 1024]⟩
abbrev S47104x1024 : Shape := ⟨2, ![47104, 1024]⟩
abbrev S7 : Shape := ⟨1, ![7]⟩
abbrev S_ : Shape := ⟨0, ![]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S5888x1024, .bf16⟩
  | .hbm, ⟨1, _⟩ => ⟨S47104x1024, .bf16⟩
  | _, _ => ⟨S5888x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c5888_i32 : BitVec 32 := 5888#32
  let v18 : BitVec 32 := Scalar.muli v17 c5888_i32
  let c0_i32 : BitVec 32 := 0#32
  ![v18.toNat, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v40 : BitVec 32 := Scalar.muli v2 c4_i32_24
  let v41 : BitVec 32 := Scalar.addi c0_i32_25 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v42 : BitVec 32 := Scalar.muli v5 c2_i32_26
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v44 : BitVec 32 := Scalar.muli v9 c1_i32_27
  let v45 : BitVec 32 := Scalar.addi v43 v44
  v45.toNat
def k0_dev2 (d0 : Dev nD) : Nat :=
  let c0_i32_32 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_31 : BitVec 32 := 4#32
  let v51 : BitVec 32 := Scalar.muli v10 c4_i32_31
  let v52 : BitVec 32 := Scalar.addi c0_i32_32 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v53 : BitVec 32 := Scalar.muli v5 c2_i32_33
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v55 : BitVec 32 := Scalar.muli v8 c1_i32_34
  let v56 : BitVec 32 := Scalar.addi v54 v55
  v56.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_40 : BitVec 32 := 2#32
  let v64 : BitVec 32 := Scalar.muli v11 c2_i32_40
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v66 : BitVec 32 := Scalar.muli v8 c1_i32_41
  let v67 : BitVec 32 := Scalar.addi v65 v66
  v67.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v73 : BitVec 32 := Scalar.muli v12 c4_i32_44
  let v74 : BitVec 32 := Scalar.addi c0_i32_45 v73
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v75 : BitVec 32 := Scalar.muli v13 c2_i32_46
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v77 : BitVec 32 := Scalar.muli v8 c1_i32_47
  let v78 : BitVec 32 := Scalar.addi v76 v77
  v78.toNat
def k0_off2 (d0 : Dev nD) : Fin 2 → Nat :=
  let c4_i32_70 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v119 : BitVec 32 := Scalar.muli c4_i32_70 v10
  let c2_i32_71 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v120 : BitVec 32 := Scalar.muli c2_i32_71 v5
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v122 : BitVec 32 := Scalar.addi v121 v8
  let c5888_i32_72 : BitVec 32 := 5888#32
  let v123 : BitVec 32 := Scalar.muli v122 c5888_i32_72
  let c0_i32_79 : BitVec 32 := 0#32
  ![v123.toNat, 0]
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v134 : BitVec 32 := Scalar.muli v2 c4_i32_83
  let v135 : BitVec 32 := Scalar.addi c0_i32_84 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v136 : BitVec 32 := Scalar.muli v5 c2_i32_85
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v138 : BitVec 32 := Scalar.muli v9 c1_i32_86
  let v139 : BitVec 32 := Scalar.addi v137 v138
  v139.toNat
def k0_off3 (d0 : Dev nD) : Fin 2 → Nat :=
  let c4_i32_92 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v151 : BitVec 32 := Scalar.muli c4_i32_92 v2
  let c2_i32_93 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v152 : BitVec 32 := Scalar.muli c2_i32_93 v11
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v154 : BitVec 32 := Scalar.addi v153 v8
  let c5888_i32_94 : BitVec 32 := 5888#32
  let v155 : BitVec 32 := Scalar.muli v154 c5888_i32_94
  let c0_i32_101 : BitVec 32 := 0#32
  ![v155.toNat, 0]
def k0_dev6 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v166 : BitVec 32 := Scalar.muli v2 c4_i32_104
  let v167 : BitVec 32 := Scalar.addi c0_i32_105 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v168 : BitVec 32 := Scalar.muli v5 c2_i32_106
  let v169 : BitVec 32 := Scalar.addi v167 v168
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v170 : BitVec 32 := Scalar.muli v9 c1_i32_107
  let v171 : BitVec 32 := Scalar.addi v169 v170
  v171.toNat
def k0_off4 (d0 : Dev nD) : Fin 2 → Nat :=
  let c4_i32_113 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v183 : BitVec 32 := Scalar.muli c4_i32_113 v12
  let c2_i32_114 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v184 : BitVec 32 := Scalar.muli c2_i32_114 v13
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi v185 v8
  let c5888_i32_115 : BitVec 32 := 5888#32
  let v187 : BitVec 32 := Scalar.muli v186 c5888_i32_115
  let c0_i32_122 : BitVec 32 := 0#32
  ![v187.toNat, 0]
def k0_dev7 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v198 : BitVec 32 := Scalar.muli v2 c4_i32_125
  let v199 : BitVec 32 := Scalar.addi c0_i32_126 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v200 : BitVec 32 := Scalar.muli v5 c2_i32_127
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_128 : BitVec 32 := 1#32
  let v202 : BitVec 32 := Scalar.muli v9 c1_i32_128
  let v203 : BitVec 32 := Scalar.addi v201 v202
  v203.toNat
def k0_off5 (d0 : Dev nD) : Fin 2 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v215 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v216 : BitVec 32 := Scalar.muli c2_i32_135 v5
  let v217 : BitVec 32 := Scalar.addi v215 v216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v218 : BitVec 32 := Scalar.addi v217 v9
  let c5888_i32_136 : BitVec 32 := 5888#32
  let v219 : BitVec 32 := Scalar.muli v218 c5888_i32_136
  let c0_i32_143 : BitVec 32 := 0#32
  ![v219.toNat, 0]
def k0_off6 (d0 : Dev nD) : Fin 2 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v236 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v237 : BitVec 32 := Scalar.muli c2_i32_150 v5
  let v238 : BitVec 32 := Scalar.addi v236 v237
  let c1_i32_145 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_145 v8
  let v239 : BitVec 32 := Scalar.addi v238 v230
  let c5888_i32_151 : BitVec 32 := 5888#32
  let v240 : BitVec 32 := Scalar.muli v239 c5888_i32_151
  let c0_i32_158 : BitVec 32 := 0#32
  ![v240.toNat, 0]
def k0_off7 (d0 : Dev nD) : Fin 2 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v258 : BitVec 32 := Scalar.muli c2_i32_165 v11
  let v259 : BitVec 32 := Scalar.addi v257 v258
  let c1_i32_160 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_160 v8
  let v260 : BitVec 32 := Scalar.addi v259 v251
  let c5888_i32_166 : BitVec 32 := 5888#32
  let v261 : BitVec 32 := Scalar.muli v260 c5888_i32_166
  let c0_i32_173 : BitVec 32 := 0#32
  ![v261.toNat, 0]
def k0_off8 (d0 : Dev nD) : Fin 2 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v278 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v279 : BitVec 32 := Scalar.muli c2_i32_180 v13
  let v280 : BitVec 32 := Scalar.addi v278 v279
  let c1_i32_175 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_175 v8
  let v281 : BitVec 32 := Scalar.addi v280 v272
  let c5888_i32_181 : BitVec 32 := 5888#32
  let v282 : BitVec 32 := Scalar.muli v281 c5888_i32_181
  let c0_i32_188 : BitVec 32 := 0#32
  ![v282.toNat, 0]
-- ==== GatherRef.lean ====
abbrev S47104x1024 : Shape := ⟨2, ![47104, 1024]⟩

abbrev nBuf : Space → Nat
  | .hbm => 1
  | .vmem => 0
  | .smem => 0
  | _ => 0

abbrev bufTy : (tb : Table) → Fin (tcTables nBuf tb) → BufTy
  | .hbm, ⟨0, _⟩ => ⟨S47104x1024, .bf16⟩
  | _, _ => ⟨S47104x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Update.lean ====
abbrev S5888x1024 : Shape := ⟨2, ![5888, 1024]⟩
abbrev S8x5888x1024 : Shape := ⟨3, ![8, 5888, 1024]⟩
abbrev S368x1024 : Shape := ⟨2, ![368, 1024]⟩
abbrev S8x368x1024 : Shape := ⟨3, ![8, 368, 1024]⟩
abbrev S1x368x1024 : Shape := ⟨3, ![1, 368, 1024]⟩

abbrev nBuf : Space → Nat
  | .hbm => 8
  | .vmem => 16
  | .smem => 0
  | _ => 0

abbrev bufTy : (tb : Table) → Fin (tcTables nBuf tb) → BufTy
  | .hbm, ⟨0, _⟩ => ⟨S5888x1024, .f32⟩
  | .hbm, ⟨1, _⟩ => ⟨S5888x1024, .f32⟩
  | .hbm, ⟨2, _⟩ => ⟨S5888x1024, .f32⟩
  | .hbm, ⟨3, _⟩ => ⟨S8x5888x1024, .bf16⟩
  | .hbm, ⟨4, _⟩ => ⟨S5888x1024, .f32⟩
  | .hbm, ⟨5, _⟩ => ⟨S5888x1024, .f32⟩
  | .hbm, ⟨6, _⟩ => ⟨S5888x1024, .f32⟩
  | .hbm, ⟨7, _⟩ => ⟨S5888x1024, .f32⟩
  | .local _ .vmem, ⟨0, _⟩ => ⟨S368x1024, .f32⟩
  | .local _ .vmem, ⟨1, _⟩ => ⟨S368x1024, .f32⟩
  | .local _ .vmem, ⟨2, _⟩ => ⟨S368x1024, .f32⟩
  | .local _ .vmem, ⟨3, _⟩ => ⟨S368x1024, .f32⟩
  | .local _ .vmem, ⟨4, _⟩ => ⟨S368x1024, .f32⟩
  | .local _ .vmem, ⟨5, _⟩ => ⟨S368x1024, .f32⟩
  | .local _ .vmem, ⟨6, _⟩ => ⟨S8x368x1024, .bf16⟩
  | .local _ .vmem, ⟨7, _⟩ => ⟨S8x368x1024, .bf16⟩
  | .local _ .vmem, ⟨8, _⟩ => ⟨S368x1024, .f32⟩
  | .local _ .vmem, ⟨9, _⟩ => ⟨S368x1024, .f32⟩
  | .local _ .vmem, ⟨10, _⟩ => ⟨S368x1024, .f32⟩
  | .local _ .vmem, ⟨11, _⟩ => ⟨S368x1024, .f32⟩
  | .local _ .vmem, ⟨12, _⟩ => ⟨S368x1024, .f32⟩
  | .local _ .vmem, ⟨13, _⟩ => ⟨S368x1024, .f32⟩
  | .local _ .vmem, ⟨14, _⟩ => ⟨S368x1024, .f32⟩
  | .local _ .vmem, ⟨15, _⟩ => ⟨S368x1024, .f32⟩
  | _, _ => ⟨S5888x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S368x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x368x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S368x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S368x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateRefIdeal.lean ====
abbrev S5888x1024 : Shape := ⟨2, ![5888, 1024]⟩
abbrev S8x5888x1024 : Shape := ⟨3, ![8, 5888, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S5888x1024, .f32⟩
  | .hbm, ⟨1, _⟩ => ⟨S5888x1024, .f32⟩
  | .hbm, ⟨2, _⟩ => ⟨S5888x1024, .f32⟩
  | .hbm, ⟨3, _⟩ => ⟨S8x5888x1024, .bf16⟩
  | .hbm, ⟨4, _⟩ => ⟨S8x5888x1024, .f32⟩
  | .hbm, ⟨5, _⟩ => ⟨S_, .f32⟩
  | .hbm, ⟨6, _⟩ => ⟨S5888x1024, .f32⟩
  | .hbm, ⟨7, _⟩ => ⟨S_, .f32⟩
  | .hbm, ⟨8, _⟩ => ⟨S5888x1024, .f32⟩
  | .hbm, ⟨9, _⟩ => ⟨S5888x1024, .f32⟩
  | .hbm, ⟨10, _⟩ => ⟨S_, .f32⟩
  | .hbm, ⟨11, _⟩ => ⟨S5888x1024, .f32⟩
  | .hbm, ⟨12, _⟩ => ⟨S5888x1024, .f32⟩
  | .hbm, ⟨13, _⟩ => ⟨S5888x1024, .f32⟩
  | .hbm, ⟨14, _⟩ => ⟨S_, .f32⟩
  | .hbm, ⟨15, _⟩ => ⟨S5888x1024, .f32⟩
  | .hbm, ⟨16, _⟩ => ⟨S5888x1024, .f32⟩
  | .hbm, ⟨17, _⟩ => ⟨S5888x1024, .f32⟩
  | .hbm, ⟨18, _⟩ => ⟨S_, .f32⟩
  | .hbm, ⟨19, _⟩ => ⟨S5888x1024, .f32⟩
  | .hbm, ⟨20, _⟩ => ⟨S5888x1024, .f32⟩
  | .hbm, ⟨21, _⟩ => ⟨S5888x1024, .f32⟩
  | .hbm, ⟨22, _⟩ => ⟨S_, .f32⟩
  | .hbm, ⟨23, _⟩ => ⟨S5888x1024, .f32⟩
  | .hbm, ⟨24, _⟩ => ⟨S5888x1024, .f32⟩
  | .hbm, ⟨25, _⟩ => ⟨S_, .f32⟩
  | .hbm, ⟨26, _⟩ => ⟨S5888x1024, .f32⟩
  | .hbm, ⟨27, _⟩ => ⟨S5888x1024, .f32⟩
  | .hbm, ⟨28, _⟩ => ⟨S5888x1024, .f32⟩
  | .hbm, ⟨29, _⟩ => ⟨S_, .f32⟩
  | .hbm, ⟨30, _⟩ => ⟨S5888x1024, .f32⟩
  | .hbm, ⟨31, _⟩ => ⟨S5888x1024, .f32⟩
  | .hbm, ⟨32, _⟩ => ⟨S5888x1024, .f32⟩
  | .hbm, ⟨33, _⟩ => ⟨S_, .f32⟩
  | .hbm, ⟨34, _⟩ => ⟨S5888x1024, .f32⟩
  | .hbm, ⟨35, _⟩ => ⟨S5888x1024, .f32⟩
  | .hbm, ⟨36, _⟩ => ⟨S5888x1024, .f32⟩
  | .hbm, ⟨37, _⟩ => ⟨S_, .f32⟩
  | .hbm, ⟨38, _⟩ => ⟨S5888x1024, .f32⟩
  | .hbm, ⟨39, _⟩ => ⟨S5888x1024, .f32⟩
  | _, _ => ⟨S5888x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateSmall.lean ====
abbrev S88x1024 : Shape := ⟨2, ![88, 1024]⟩
abbrev S8x88x1024 : Shape := ⟨3, ![8, 88, 1024]⟩
abbrev S1x88x1024 : Shape := ⟨3, ![1, 88, 1024]⟩

abbrev nBuf : Space → Nat
  | .hbm => 8
  | .vmem => 8
  | .smem => 0
  | _ => 0

abbrev bufTy : (tb : Table) → Fin (tcTables nBuf tb) → BufTy
  | .hbm, ⟨0, _⟩ => ⟨S88x1024, .f32⟩
  | .hbm, ⟨1, _⟩ => ⟨S88x1024, .f32⟩
  | .hbm, ⟨2, _⟩ => ⟨S88x1024, .f32⟩
  | .hbm, ⟨3, _⟩ => ⟨S8x88x1024, .f32⟩
  | .hbm, ⟨4, _⟩ => ⟨S88x1024, .f32⟩
  | .hbm, ⟨5, _⟩ => ⟨S88x1024, .f32⟩
  | .hbm, ⟨6, _⟩ => ⟨S88x1024, .f32⟩
  | .hbm, ⟨7, _⟩ => ⟨S88x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S8x88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | _, _ => ⟨S88x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x88x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S88x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateSmallRefIdeal.lean ====
abbrev S88x1024 : Shape := ⟨2, ![88, 1024]⟩
abbrev S8x88x1024 : Shape := ⟨3, ![8, 88, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S88x1024, .f32⟩
  | .hbm, ⟨1, _⟩ => ⟨S88x1024, .f32⟩
  | .hbm, ⟨2, _⟩ => ⟨S88x1024, .f32⟩
  | .hbm, ⟨3, _⟩ => ⟨S8x88x1024, .f32⟩
  | .hbm, ⟨4, _⟩ => ⟨S_, .f32⟩
  | .hbm, ⟨5, _⟩ => ⟨S88x1024, .f32⟩
  | .hbm, ⟨6, _⟩ => ⟨S_, .f32⟩
  | .hbm, ⟨7, _⟩ => ⟨S88x1024, .f32⟩
  | .hbm, ⟨8, _⟩ => ⟨S88x1024, .f32⟩
  | .hbm, ⟨9, _⟩ => ⟨S_, .f32⟩
  | .hbm, ⟨10, _⟩ => ⟨S88x1024, .f32⟩
  | .hbm, ⟨11, _⟩ => ⟨S88x1024, .f32⟩
  | .hbm, ⟨12, _⟩ => ⟨S88x1024, .f32⟩
  | .hbm, ⟨13, _⟩ => ⟨S_, .f32⟩
  | .hbm, ⟨14, _⟩ => ⟨S88x1024, .f32⟩
  | .hbm, ⟨15, _⟩ => ⟨S88x1024, .f32⟩
  | .hbm, ⟨16, _⟩ => ⟨S88x1024, .f32⟩
  | .hbm, ⟨17, _⟩ => ⟨S_, .f32⟩
  | .hbm, ⟨18, _⟩ => ⟨S88x1024, .f32⟩
  | .hbm, ⟨19, _⟩ => ⟨S88x1024, .f32⟩
  | .hbm, ⟨20, _⟩ => ⟨S88x1024, .f32⟩
  | .hbm, ⟨21, _⟩ => ⟨S_, .f32⟩
  | .hbm, ⟨22, _⟩ => ⟨S88x1024, .f32⟩
  | .hbm, ⟨23, _⟩ => ⟨S88x1024, .f32⟩
  | .hbm, ⟨24, _⟩ => ⟨S_, .f32⟩
  | .hbm, ⟨25, _⟩ => ⟨S88x1024, .f32⟩
  | .hbm, ⟨26, _⟩ => ⟨S88x1024, .f32⟩
  | .hbm, ⟨27, _⟩ => ⟨S88x1024, .f32⟩
  | .hbm, ⟨28, _⟩ => ⟨S_, .f32⟩
  | .hbm, ⟨29, _⟩ => ⟨S88x1024, .f32⟩
  | .hbm, ⟨30, _⟩ => ⟨S88x1024, .f32⟩
  | .hbm, ⟨31, _⟩ => ⟨S88x1024, .f32⟩
  | .hbm, ⟨32, _⟩ => ⟨S_, .f32⟩
  | .hbm, ⟨33, _⟩ => ⟨S88x1024, .f32⟩
  | .hbm, ⟨34, _⟩ => ⟨S88x1024, .f32⟩
  | .hbm, ⟨35, _⟩ => ⟨S88x1024, .f32⟩
  | .hbm, ⟨36, _⟩ => ⟨S_, .f32⟩
  | .hbm, ⟨37, _⟩ => ⟨S88x1024, .f32⟩
  | .hbm, ⟨38, _⟩ => ⟨S88x1024, .f32⟩
  | _, _ => ⟨S88x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateConv.lean ====
abbrev S16x1024 : Shape := ⟨2, ![16, 1024]⟩
abbrev S8x16x1024 : Shape := ⟨3, ![8, 16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S8x16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S8x16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateConvRefIdeal.lean ====
abbrev S16x1024 : Shape := ⟨2, ![16, 1024]⟩
abbrev S8x16x1024 : Shape := ⟨3, ![8, 16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S8x16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateAda.lean ====
abbrev S3072x1024 : Shape := ⟨2, ![3072, 1024]⟩
abbrev S1x3072x1024 : Shape := ⟨3, ![1, 3072, 1024]⟩
abbrev S512x1024 : Shape := ⟨2, ![512, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S1x3072x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .hbm, ⟨7, _⟩ => ⟨S3072x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateAdaRefIdeal.lean ====
abbrev S3072x1024 : Shape := ⟨2, ![3072, 1024]⟩
abbrev S1x3072x1024 : Shape := ⟨3, ![1, 3072, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S1x3072x1024, .f32⟩
  | .hbm, ⟨4, _⟩ => ⟨S_, .f32⟩
  | .hbm, ⟨5, _⟩ => ⟨S3072x1024, .f32⟩
  | .hbm, ⟨6, _⟩ => ⟨S_, .f32⟩
  | .hbm, ⟨7, _⟩ => ⟨S3072x1024, .f32⟩
  | .hbm, ⟨8, _⟩ => ⟨S3072x1024, .f32⟩
  | .hbm, ⟨9, _⟩ => ⟨S_, .f32⟩
  | .hbm, ⟨10, _⟩ => ⟨S3072x1024, .f32⟩
  | .hbm, ⟨11, _⟩ => ⟨S3072x1024, .f32⟩
  | .hbm, ⟨12, _⟩ => ⟨S3072x1024, .f32⟩
  | .hbm, ⟨13, _⟩ => ⟨S_, .f32⟩
  | .hbm, ⟨14, _⟩ => ⟨S3072x1024, .f32⟩
  | .hbm, ⟨15, _⟩ => ⟨S3072x1024, .f32⟩
  | .hbm, ⟨16, _⟩ => ⟨S3072x1024, .f32⟩
  | .hbm, ⟨17, _⟩ => ⟨S_, .f32⟩
  | .hbm, ⟨18, _⟩ => ⟨S3072x1024, .f32⟩
  | .hbm, ⟨19, _⟩ => ⟨S3072x1024, .f32⟩
  | .hbm, ⟨20, _⟩ => ⟨S3072x1024, .f32⟩
  | .hbm, ⟨21, _⟩ => ⟨S_, .f32⟩
  | .hbm, ⟨22, _⟩ => ⟨S3072x1024, .f32⟩
  | .hbm, ⟨23, _⟩ => ⟨S3072x1024, .f32⟩
  | .hbm, ⟨24, _⟩ => ⟨S_, .f32⟩
  | .hbm, ⟨25, _⟩ => ⟨S3072x1024, .f32⟩
  | .hbm, ⟨26, _⟩ => ⟨S3072x1024, .f32⟩
  | .hbm, ⟨27, _⟩ => ⟨S3072x1024, .f32⟩
  | .hbm, ⟨28, _⟩ => ⟨S_, .f32⟩
  | .hbm, ⟨29, _⟩ => ⟨S3072x1024, .f32⟩
  | .hbm, ⟨30, _⟩ => ⟨S3072x1024, .f32⟩
  | .hbm, ⟨31, _⟩ => ⟨S3072x1024, .f32⟩
  | .hbm, ⟨32, _⟩ => ⟨S_, .f32⟩
  | .hbm, ⟨33, _⟩ => ⟨S3072x1024, .f32⟩
  | .hbm, ⟨34, _⟩ => ⟨S3072x1024, .f32⟩
  | .hbm, ⟨35, _⟩ => ⟨S3072x1024, .f32⟩
  | .hbm, ⟨36, _⟩ => ⟨S_, .f32⟩
  | .hbm, ⟨37, _⟩ => ⟨S3072x1024, .f32⟩
  | .hbm, ⟨38, _⟩ => ⟨S3072x1024, .f32⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateCctx.lean ====
abbrev S8x1024 : Shape := ⟨2, ![8, 1024]⟩
abbrev S8x8x1024 : Shape := ⟨3, ![8, 8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateCctxRefIdeal.lean ====
abbrev S8x1024 : Shape := ⟨2, ![8, 1024]⟩
abbrev S8x8x1024 : Shape := ⟨3, ![8, 8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Loss.lean ====
abbrev S9216x1024 : Shape := ⟨2, ![9216, 1024]⟩
abbrev S8192x1024 : Shape := ⟨2, ![8192, 1024]⟩
abbrev S36x8x128 : Shape := ⟨3, ![36, 8, 128]⟩
abbrev S256x1024 : Shape := ⟨2, ![256, 1024]⟩
abbrev S1x8x128 : Shape := ⟨3, ![1, 8, 128]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S8192x1024, .f32⟩
  | .hbm, ⟨2, _⟩ => ⟨S9216x1024, .f32⟩
  | .hbm, ⟨3, _⟩ => ⟨S36x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x8x128, .f32⟩
  | .local _ .vmem, ⟨7, _⟩ => ⟨S1x8x128, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S9216x1024 : Shape := ⟨2, ![9216, 1024]⟩
abbrev S8192x1024 : Shape := ⟨2, ![8192, 1024]⟩
abbrev S4x9x256x1024 : Shape := ⟨4, ![4, 9, 256, 1024]⟩
abbrev S4x8x256x1024 : Shape := ⟨4, ![4, 8, 256, 1024]⟩
abbrev S_ : Shape := ⟨0, ![]⟩
abbrev S4x8x256 : Shape := ⟨3, ![4, 8, 256]⟩
abbrev S4x8 : Shape := ⟨2, ![4, 8]⟩
abbrev S4x1 : Shape := ⟨2, ![4, 1]⟩
abbrev S4x9 : Shape := ⟨2, ![4, 9]⟩
abbrev S36 : Shape := ⟨1, ![36]⟩
abbrev S4x1x256x1024 : Shape := ⟨4, ![4, 1, 256, 1024]⟩
abbrev S36x1x1 : Shape := ⟨3, ![36, 1, 1]⟩
abbrev S36x8x128 : Shape := ⟨3, ![36, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8192x1024, .f32⟩
  | .hbm, ⟨2, _⟩ => ⟨S4x9x256x1024, .f32⟩
  | .hbm, ⟨3, _⟩ => ⟨S4x8x256x1024, .f32⟩
  | .hbm, ⟨4, _⟩ => ⟨S4x8x256x1024, .f32⟩
  | .hbm, ⟨5, _⟩ => ⟨S4x8x256x1024, .f32⟩
  | .hbm, ⟨6, _⟩ => ⟨S4x8x256x1024, .f32⟩
  | .hbm, ⟨7, _⟩ => ⟨S_, .f32⟩
  | .hbm, ⟨8, _⟩ => ⟨S4x8x256, .f32⟩
  | .hbm, ⟨9, _⟩ => ⟨S_, .f32⟩
  | .hbm, ⟨10, _⟩ => ⟨S4x8x256, .f32⟩
  | .hbm, ⟨11, _⟩ => ⟨S4x8x256, .f32⟩
  | .hbm, ⟨12, _⟩ => ⟨S_, .f32⟩
  | .hbm, ⟨13, _⟩ => ⟨S4x8, .f32⟩
  | .hbm, ⟨14, _⟩ => ⟨S_, .f32⟩
  | .hbm, ⟨15, _⟩ => ⟨S4x8, .f32⟩
  | .hbm, ⟨16, _⟩ => ⟨S4x8, .f32⟩
  | .hbm, ⟨17, _⟩ => ⟨S_, .f32⟩
  | .hbm, ⟨18, _⟩ => ⟨S4x1, .f32⟩
  | .hbm, ⟨19, _⟩ => ⟨S4x9, .f32⟩
  | .hbm, ⟨20, _⟩ => ⟨S36, .f32⟩
  | .hbm, ⟨21, _⟩ => ⟨S_, .f32⟩
  | .hbm, ⟨22, _⟩ => ⟨S4x1x256x1024, .f32⟩
  | .hbm, ⟨23, _⟩ => ⟨S_, .f32⟩
  | .hbm, ⟨24, _⟩ => ⟨S4x8x256x1024, .f32⟩
  | .hbm, ⟨25, _⟩ => ⟨S4x8x256x1024, .f32⟩
  | .hbm, ⟨26, _⟩ => ⟨S4x9x256x1024, .f32⟩
  | .hbm, ⟨27, _⟩ => ⟨S9216x1024, .f32⟩
  | .hbm, ⟨28, _⟩ => ⟨S36x1x1, .f32⟩
  | .hbm, ⟨29, _⟩ => ⟨S36x8x128, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== InputGrad.lean ====
abbrev S9216x2048 : Shape := ⟨2, ![9216, 2048]⟩
abbrev S2048x1024 : Shape := ⟨2, ![2048, 1024]⟩
abbrev S9216x1024 : Shape := ⟨2, ![9216, 1024]⟩
abbrev S36x8x1024 : Shape := ⟨3, ![36, 8, 1024]⟩
abbrev S256x2048 : Shape := ⟨2, ![256, 2048]⟩
abbrev S256x1024 : Shape := ⟨2, ![256, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S9216x2048, .bf16⟩
  | .hbm, ⟨1, _⟩ => ⟨S2048x1024, .bf16⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S9216x1024, .f32⟩
  | .hbm, ⟨6, _⟩ => ⟨S36x8x1024, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x8x1024, .f32⟩
  | .local _ .vmem, ⟨12, _⟩ => ⟨S1x8x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InputGradRefIdeal.lean ====
abbrev S9216x2048 : Shape := ⟨2, ![9216, 2048]⟩
abbrev S2048x1024 : Shape := ⟨2, ![2048, 1024]⟩
abbrev S9216x1024 : Shape := ⟨2, ![9216, 1024]⟩
abbrev S36x8x1024 : Shape := ⟨3, ![36, 8, 1024]⟩
abbrev S36x256x1024 : Shape := ⟨3, ![36, 256, 1024]⟩
abbrev S36x1x1024 : Shape := ⟨3, ![36, 1, 1024]⟩
abbrev S_ : Shape := ⟨0, ![]⟩
abbrev S36x1024 : Shape := ⟨2, ![36, 1024]⟩
abbrev S36x6x1024 : Shape := ⟨3, ![36, 6, 1024]⟩

abbrev nBuf : Space → Nat
  | .hbm => 29
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x1024, .bf16⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S9216x2048, .f32⟩
  | .hbm, ⟨6, _⟩ => ⟨S2048x1024, .f32⟩
  | .hbm, ⟨7, _⟩ => ⟨S9216x1024, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S_, .f32⟩
  | .hbm, ⟨12, _⟩ => ⟨S36x1x1024, .f32⟩
  | .hbm, ⟨13, _⟩ => ⟨S36x1x1024, .f32⟩
  | .hbm, ⟨14, _⟩ => ⟨S36x256x1024, .f32⟩
  | .hbm, ⟨15, _⟩ => ⟨S36x256x1024, .f32⟩
  | .hbm, ⟨16, _⟩ => ⟨S36x256x1024, .f32⟩
  | .hbm, ⟨17, _⟩ => ⟨S36x256x1024, .f32⟩
  | .hbm, ⟨18, _⟩ => ⟨S36x256x1024, .f32⟩
  | .hbm, ⟨19, _⟩ => ⟨S_, .f32⟩
  | .hbm, ⟨20, _⟩ => ⟨S36x1024, .f32⟩
  | .hbm, ⟨21, _⟩ => ⟨S36x1x1024, .f32⟩
  | .hbm, ⟨22, _⟩ => ⟨S_, .f32⟩
  | .hbm, ⟨23, _⟩ => ⟨S36x1024, .f32⟩
  | .hbm, ⟨24, _⟩ => ⟨S36x1x1024, .f32⟩
  | .hbm, ⟨25, _⟩ => ⟨S9216x1024, .f32⟩
  | .hbm, ⟨26, _⟩ => ⟨S_, .f32⟩
  | .hbm, ⟨27, _⟩ => ⟨S36x6x1024, .f32⟩
  | .hbm, ⟨28, _⟩ => ⟨S36x8x1024, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Modulation.lean ====
abbrev S40x1024 : Shape := ⟨2, ![40, 1024]⟩
abbrev S4x1024x768 : Shape := ⟨3, ![4, 1024, 768]⟩
abbrev S4x1x768 : Shape := ⟨3, ![4, 1, 768]⟩
abbrev S4x40x768 : Shape := ⟨3, ![4, 40, 768]⟩
abbrev S1x1024x768 : Shape := ⟨3, ![1, 1024, 768]⟩
abbrev S1x1x768 : Shape := ⟨3, ![1, 1, 768]⟩
abbrev S1x40x768 : Shape := ⟨3, ![1, 40, 768]⟩
abbrev S1024x768 : Shape := ⟨2, ![1024, 768]⟩
abbrev S40x768 : Shape := ⟨2, ![40, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S4x1024x768, .f32⟩
  | .hbm, ⟨2, _⟩ => ⟨S4x1x768, .f32⟩
  | .hbm, ⟨3, _⟩ => ⟨S4x40x768, .f32⟩
  | .local _ .vmem, ⟨0, _⟩ => ⟨S40x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x40x768, .f32⟩
  | .local _ .vmem, ⟨6, _⟩ => ⟨S1x40x768, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S40x1024 : Shape := ⟨2, ![40, 1024]⟩
abbrev S4x1024x768 : Shape := ⟨3, ![4, 1024, 768]⟩
abbrev S4x1x768 : Shape := ⟨3, ![4, 1, 768]⟩
abbrev S4x768x40 : Shape := ⟨3, ![4, 768, 40]⟩
abbrev S4x40x768 : Shape := ⟨3, ![4, 40, 768]⟩

abbrev nBuf : Space → Nat
  | .hbm => 7
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x768, .f32⟩
  | .hbm, ⟨2, _⟩ => ⟨S4x1x768, .f32⟩
  | .hbm, ⟨3, _⟩ => ⟨S4x768x40, .f32⟩
  | .hbm, ⟨4, _⟩ => ⟨S4x40x768, .f32⟩
  | .hbm, ⟨5, _⟩ => ⟨S4x40x768, .f32⟩
  | .hbm, ⟨6, _⟩ => ⟨S4x40x768, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ModulationGrad.lean ====
abbrev S40x1024 : Shape := ⟨2, ![40, 1024]⟩
abbrev S4x1024x768 : Shape := ⟨3, ![4, 1024, 768]⟩
abbrev S4x40x768 : Shape := ⟨3, ![4, 40, 768]⟩
abbrev S4x40x1024 : Shape := ⟨3, ![4, 40, 1024]⟩
abbrev S1x1024x768 : Shape := ⟨3, ![1, 1024, 768]⟩
abbrev S1x40x768 : Shape := ⟨3, ![1, 40, 768]⟩
abbrev S1x40x1024 : Shape := ⟨3, ![1, 40, 1024]⟩
abbrev S40x768 : Shape := ⟨2, ![40, 768]⟩
abbrev S1024x768 : Shape := ⟨2, ![1024, 768]⟩

abbrev nBuf : Space → Nat
  | .hbm => 5
  | .vmem => 9
  | .smem => 0
  | _ => 0

abbrev bufTy : (tb : Table) → Fin (tcTables nBuf tb) → BufTy
  | .hbm, ⟨0, _⟩ => ⟨S40x1024, .f32⟩
  | .hbm, ⟨1, _⟩ => ⟨S4x1024x768, .f32⟩
  | .hbm, ⟨2, _⟩ => ⟨S4x40x768, .f32⟩
  | .hbm, ⟨3, _⟩ => ⟨S4x1024x768, .f32⟩
  | .hbm, ⟨4, _⟩ => ⟨S4x40x1024, .f32⟩
  | .local _ .vmem, ⟨0, _⟩ => ⟨S40x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x40x768, .f32⟩
  | .local _ .vmem, ⟨4, _⟩ => ⟨S1x40x768, .f32⟩
  | .local _ .vmem, ⟨5, _⟩ => ⟨S1x1024x768, .f32⟩
  | .local _ .vmem, ⟨6, _⟩ => ⟨S1x1024x768, .f32⟩
  | .local _ .vmem, ⟨7, _⟩ => ⟨S1x40x1024, .f32⟩
  | .local _ .vmem, ⟨8, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x40x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x40x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModulationGradRefIdeal.lean ====
abbrev S40x1024 : Shape := ⟨2, ![40, 1024]⟩
abbrev S4x1024x768 : Shape := ⟨3, ![4, 1024, 768]⟩
abbrev S4x40x768 : Shape := ⟨3, ![4, 40, 768]⟩
abbrev S4x768x1024 : Shape := ⟨3, ![4, 768, 1024]⟩
abbrev S4x40x1024 : Shape := ⟨3, ![4, 40, 1024]⟩

abbrev nBuf : Space → Nat
  | .hbm => 6
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x768, .f32⟩
  | .hbm, ⟨2, _⟩ => ⟨S4x40x768, .f32⟩
  | .hbm, ⟨3, _⟩ => ⟨S4x768x1024, .f32⟩
  | .hbm, ⟨4, _⟩ => ⟨S4x1024x768, .f32⟩
  | .hbm, ⟨5, _⟩ => ⟨S4x40x1024, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Project.lean ====
abbrev S9216x1024 : Shape := ⟨2, ![9216, 1024]⟩
abbrev S36x8x1024 : Shape := ⟨3, ![36, 8, 1024]⟩
abbrev S1024x2048 : Shape := ⟨2, ![1024, 2048]⟩
abbrev S9216x2048 : Shape := ⟨2, ![9216, 2048]⟩
abbrev S256x1024 : Shape := ⟨2, ![256, 1024]⟩
abbrev S1x8x1024 : Shape := ⟨3, ![1, 8, 1024]⟩
abbrev S256x2048 : Shape := ⟨2, ![256, 2048]⟩
abbrev S8x1024 : Shape := ⟨2, ![8, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S1024x2048, .bf16⟩
  | .hbm, ⟨3, _⟩ => ⟨S9216x2048, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x2048, .bf16⟩
  | .local _ .vmem, ⟨5, _⟩ => ⟨S256x2048, .f32⟩
  | .local _ .vmem, ⟨6, _⟩ => ⟨S256x2048, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectRefIdeal.lean ====
abbrev S9216x1024 : Shape := ⟨2, ![9216, 1024]⟩
abbrev S36x8x1024 : Shape := ⟨3, ![36, 8, 1024]⟩
abbrev S1024x2048 : Shape := ⟨2, ![1024, 2048]⟩
abbrev S36x256x1024 : Shape := ⟨3, ![36, 256, 1024]⟩
abbrev S36x1x1024 : Shape := ⟨3, ![36, 1, 1024]⟩
abbrev S_ : Shape := ⟨0, ![]⟩
abbrev S9216x2048 : Shape := ⟨2, ![9216, 2048]⟩

abbrev nBuf : Space → Nat
  | .hbm => 16
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S1024x2048, .bf16⟩
  | .hbm, ⟨3, _⟩ => ⟨S36x256x1024, .f32⟩
  | .hbm, ⟨4, _⟩ => ⟨S36x1x1024, .f32⟩
  | .hbm, ⟨5, _⟩ => ⟨S_, .f32⟩
  | .hbm, ⟨6, _⟩ => ⟨S36x1x1024, .f32⟩
  | .hbm, ⟨7, _⟩ => ⟨S36x1x1024, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S36x256x1024, .f32⟩
  | .hbm, ⟨12, _⟩ => ⟨S36x256x1024, .f32⟩
  | .hbm, ⟨13, _⟩ => ⟨S9216x1024, .f32⟩
  | .hbm, ⟨14, _⟩ => ⟨S1024x2048, .f32⟩
  | .hbm, ⟨15, _⟩ => ⟨S9216x2048, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Up.lean ====
abbrev S9216x1024 : Shape := ⟨2, ![9216, 1024]⟩
abbrev S36x8x1024 : Shape := ⟨3, ![36, 8, 1024]⟩
abbrev S1024x5632 : Shape := ⟨2, ![1024, 5632]⟩
abbrev S9216x5632 : Shape := ⟨2, ![9216, 5632]⟩
abbrev S256x1024 : Shape := ⟨2, ![256, 1024]⟩
abbrev S1x8x1024 : Shape := ⟨3, ![1, 8, 1024]⟩
abbrev S1024x1408 : Shape := ⟨2, ![1024, 1408]⟩
abbrev S256x1408 : Shape := ⟨2, ![256, 1408]⟩
abbrev S8x1024 : Shape := ⟨2, ![8, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S1024x5632, .bf16⟩
  | .hbm, ⟨3, _⟩ => ⟨S9216x5632, .bf16⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x1408, .bf16⟩
  | .local _ .vmem, ⟨5, _⟩ => ⟨S1024x1408, .bf16⟩
  | .local _ .vmem, ⟨6, _⟩ => ⟨S256x1408, .bf16⟩
  | .local _ .vmem, ⟨7, _⟩ => ⟨S256x1408, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S9216x1024 : Shape := ⟨2, ![9216, 1024]⟩
abbrev S36x8x1024 : Shape := ⟨3, ![36, 8, 1024]⟩
abbrev S1024x5632 : Shape := ⟨2, ![1024, 5632]⟩
abbrev S36x256x1024 : Shape := ⟨3, ![36, 256, 1024]⟩
abbrev S36x1x1024 : Shape := ⟨3, ![36, 1, 1024]⟩
abbrev S_ : Shape := ⟨0, ![]⟩
abbrev S9216x5632 : Shape := ⟨2, ![9216, 5632]⟩

abbrev nBuf : Space → Nat
  | .hbm => 17
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S1024x5632, .bf16⟩
  | .hbm, ⟨3, _⟩ => ⟨S36x256x1024, .f32⟩
  | .hbm, ⟨4, _⟩ => ⟨S36x1x1024, .f32⟩
  | .hbm, ⟨5, _⟩ => ⟨S_, .f32⟩
  | .hbm, ⟨6, _⟩ => ⟨S36x1x1024, .f32⟩
  | .hbm, ⟨7, _⟩ => ⟨S36x1x1024, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S36x256x1024, .f32⟩
  | .hbm, ⟨12, _⟩ => ⟨S36x256x1024, .f32⟩
  | .hbm, ⟨13, _⟩ => ⟨S9216x1024, .f32⟩
  | .hbm, ⟨14, _⟩ => ⟨S1024x5632, .f32⟩
  | .hbm, ⟨15, _⟩ => ⟨S9216x5632, .f32⟩
  | .hbm, ⟨16, _⟩ => ⟨S9216x5632, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== ProjectGrad.lean ====
abbrev S9216x1024 : Shape := ⟨2, ![9216, 1024]⟩
abbrev S36x8x1024 : Shape := ⟨3, ![36, 8, 1024]⟩
abbrev S9216x2048 : Shape := ⟨2, ![9216, 2048]⟩
abbrev S1024x2048 : Shape := ⟨2, ![1024, 2048]⟩
abbrev S256x1024 : Shape := ⟨2, ![256, 1024]⟩
abbrev S1x8x1024 : Shape := ⟨3, ![1, 8, 1024]⟩
abbrev S256x2048 : Shape := ⟨2, ![256, 2048]⟩
abbrev S8x1024 : Shape := ⟨2, ![8, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S9216x2048, .bf16⟩
  | .hbm, ⟨3, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x2048, .bf16⟩
  | .local _ .vmem, ⟨5, _⟩ => ⟨S256x2048, .bf16⟩
  | .local _ .vmem, ⟨6, _⟩ => ⟨S1024x2048, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== ProjectGradRefIdeal.lean ====
abbrev S9216x1024 : Shape := ⟨2, ![9216, 1024]⟩
abbrev S36x8x1024 : Shape := ⟨3, ![36, 8, 1024]⟩
abbrev S9216x2048 : Shape := ⟨2, ![9216, 2048]⟩
abbrev S36x256x1024 : Shape := ⟨3, ![36, 256, 1024]⟩
abbrev S36x1x1024 : Shape := ⟨3, ![36, 1, 1024]⟩
abbrev S_ : Shape := ⟨0, ![]⟩
abbrev S1024x9216 : Shape := ⟨2, ![1024, 9216]⟩
abbrev S1024x2048 : Shape := ⟨2, ![1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S9216x2048, .bf16⟩
  | .hbm, ⟨3, _⟩ => ⟨S36x256x1024, .f32⟩
  | .hbm, ⟨4, _⟩ => ⟨S36x1x1024, .f32⟩
  | .hbm, ⟨5, _⟩ => ⟨S_, .f32⟩
  | .hbm, ⟨6, _⟩ => ⟨S36x1x1024, .f32⟩
  | .hbm, ⟨7, _⟩ => ⟨S36x1x1024, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S36x256x1024, .f32⟩
  | .hbm, ⟨12, _⟩ => ⟨S36x256x1024, .f32⟩
  | .hbm, ⟨13, _⟩ => ⟨S9216x1024, .f32⟩
  | .hbm, ⟨14, _⟩ => ⟨S1024x9216, .f32⟩
  | .hbm, ⟨15, _⟩ => ⟨S9216x2048, .f32⟩
  | .hbm, ⟨16, _⟩ => ⟨S1024x2048, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== UpGrad.lean ====
abbrev S9216x1024 : Shape := ⟨2, ![9216, 1024]⟩
abbrev S36x8x1024 : Shape := ⟨3, ![36, 8, 1024]⟩
abbrev S9216x5632 : Shape := ⟨2, ![9216, 5632]⟩
abbrev S1024x5632 : Shape := ⟨2, ![1024, 5632]⟩
abbrev S256x1024 : Shape := ⟨2, ![256, 1024]⟩
abbrev S1x8x1024 : Shape := ⟨3, ![1, 8, 1024]⟩
abbrev S256x1408 : Shape := ⟨2, ![256, 1408]⟩
abbrev S1024x1408 : Shape := ⟨2, ![1024, 1408]⟩
abbrev S8x1024 : Shape := ⟨2, ![8, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S9216x5632, .bf16⟩
  | .hbm, ⟨3, _⟩ => ⟨S1024x5632, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x1408, .bf16⟩
  | .local _ .vmem, ⟨5, _⟩ => ⟨S256x1408, .bf16⟩
  | .local _ .vmem, ⟨6, _⟩ => ⟨S1024x1408, .f32⟩
  | .local _ .vmem, ⟨7, _⟩ => ⟨S1024x1408, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpGradRefIdeal.lean ====
abbrev S9216x1024 : Shape := ⟨2, ![9216, 1024]⟩
abbrev S36x8x1024 : Shape := ⟨3, ![36, 8, 1024]⟩
abbrev S9216x5632 : Shape := ⟨2, ![9216, 5632]⟩
abbrev S36x256x1024 : Shape := ⟨3, ![36, 256, 1024]⟩
abbrev S36x1x1024 : Shape := ⟨3, ![36, 1, 1024]⟩
abbrev S_ : Shape := ⟨0, ![]⟩
abbrev S1024x9216 : Shape := ⟨2, ![1024, 9216]⟩
abbrev S1024x5632 : Shape := ⟨2, ![1024, 5632]⟩

abbrev nBuf : Space → Nat
  | .hbm => 17
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S9216x5632, .bf16⟩
  | .hbm, ⟨3, _⟩ => ⟨S36x256x1024, .f32⟩
  | .hbm, ⟨4, _⟩ => ⟨S36x1x1024, .f32⟩
  | .hbm, ⟨5, _⟩ => ⟨S_, .f32⟩
  | .hbm, ⟨6, _⟩ => ⟨S36x1x1024, .f32⟩
  | .hbm, ⟨7, _⟩ => ⟨S36x1x1024, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S36x256x1024, .f32⟩
  | .hbm, ⟨12, _⟩ => ⟨S36x256x1024, .f32⟩
  | .hbm, ⟨13, _⟩ => ⟨S9216x1024, .f32⟩
  | .hbm, ⟨14, _⟩ => ⟨S1024x9216, .f32⟩
  | .hbm, ⟨15, _⟩ => ⟨S9216x5632, .f32⟩
  | .hbm, ⟨16, _⟩ => ⟨S1024x5632, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== UpInputGrad.lean ====
abbrev S9216x5632 : Shape := ⟨2, ![9216, 5632]⟩
abbrev S5632x1024 : Shape := ⟨2, ![5632, 1024]⟩
abbrev S9216x1024 : Shape := ⟨2, ![9216, 1024]⟩
abbrev S36x8x1024 : Shape := ⟨3, ![36, 8, 1024]⟩
abbrev S256x5632 : Shape := ⟨2, ![256, 5632]⟩
abbrev S256x1024 : Shape := ⟨2, ![256, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S9216x5632, .bf16⟩
  | .hbm, ⟨1, _⟩ => ⟨S5632x1024, .bf16⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S9216x1024, .f32⟩
  | .hbm, ⟨6, _⟩ => ⟨S36x8x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x8x1024, .f32⟩
  | .local _ .vmem, ⟨12, _⟩ => ⟨S1x8x1024, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpInputGradRefIdeal.lean ====
abbrev S9216x5632 : Shape := ⟨2, ![9216, 5632]⟩
abbrev S5632x1024 : Shape := ⟨2, ![5632, 1024]⟩
abbrev S9216x1024 : Shape := ⟨2, ![9216, 1024]⟩
abbrev S36x8x1024 : Shape := ⟨3, ![36, 8, 1024]⟩
abbrev S36x256x1024 : Shape := ⟨3, ![36, 256, 1024]⟩
abbrev S36x1x1024 : Shape := ⟨3, ![36, 1, 1024]⟩
abbrev S_ : Shape := ⟨0, ![]⟩
abbrev S36x1024 : Shape := ⟨2, ![36, 1024]⟩
abbrev S36x3x1024 : Shape := ⟨3, ![36, 3, 1024]⟩

abbrev nBuf : Space → Nat
  | .hbm => 31
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S5632x1024, .bf16⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S9216x5632, .f32⟩
  | .hbm, ⟨6, _⟩ => ⟨S5632x1024, .f32⟩
  | .hbm, ⟨7, _⟩ => ⟨S9216x1024, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S_, .f32⟩
  | .hbm, ⟨12, _⟩ => ⟨S36x1x1024, .f32⟩
  | .hbm, ⟨13, _⟩ => ⟨S36x1x1024, .f32⟩
  | .hbm, ⟨14, _⟩ => ⟨S36x256x1024, .f32⟩
  | .hbm, ⟨15, _⟩ => ⟨S36x256x1024, .f32⟩
  | .hbm, ⟨16, _⟩ => ⟨S36x256x1024, .f32⟩
  | .hbm, ⟨17, _⟩ => ⟨S36x256x1024, .f32⟩
  | .hbm, ⟨18, _⟩ => ⟨S36x256x1024, .f32⟩
  | .hbm, ⟨19, _⟩ => ⟨S_, .f32⟩
  | .hbm, ⟨20, _⟩ => ⟨S36x1024, .f32⟩
  | .hbm, ⟨21, _⟩ => ⟨S36x1x1024, .f32⟩
  | .hbm, ⟨22, _⟩ => ⟨S_, .f32⟩
  | .hbm, ⟨23, _⟩ => ⟨S36x1024, .f32⟩
  | .hbm, ⟨24, _⟩ => ⟨S36x1x1024, .f32⟩
  | .hbm, ⟨25, _⟩ => ⟨S_, .f32⟩
  | .hbm, ⟨26, _⟩ => ⟨S36x3x1024, .f32⟩
  | .hbm, ⟨27, _⟩ => ⟨S_, .f32⟩
  | .hbm, ⟨28, _⟩ => ⟨S36x3x1024, .f32⟩
  | .hbm, ⟨29, _⟩ => ⟨S9216x1024, .f32⟩
  | .hbm, ⟨30, _⟩ => ⟨S36x8x1024, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Attention.lean ====
abbrev S9216x1024 : Shape := ⟨2, ![9216, 1024]⟩
abbrev S9216x512 : Shape := ⟨2, ![9216, 512]⟩
abbrev S256x256 : Shape := ⟨2, ![256, 256]⟩
abbrev S2304x256 : Shape := ⟨2, ![2304, 256]⟩
abbrev S2304x128 : Shape := ⟨2, ![2304, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S256x2304 : Shape := ⟨2, ![256, 2304]⟩
abbrev S2304x64 : Shape := ⟨2, ![2304, 64]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x512, .f32⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionRefIdeal.lean ====
abbrev S9216x1024 : Shape := ⟨2, ![9216, 1024]⟩
abbrev S9216x512 : Shape := ⟨2, ![9216, 512]⟩
abbrev S4x2304x8x128 : Shape := ⟨4, ![4, 2304, 8, 128]⟩
abbrev S4x2304x8x64 : Shape := ⟨4, ![4, 2304, 8, 64]⟩
abbrev S4x256x8x128 : Shape := ⟨4, ![4, 256, 8, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x128 : Shape := ⟨4, ![4, 2048, 8, 128]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩

abbrev nBuf : Space → Nat
  | .hbm => 49
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x1024, .f32⟩
  | .hbm, ⟨4, _⟩ => ⟨S4x2304x8x128, .f32⟩
  | .hbm, ⟨5, _⟩ => ⟨S9216x1024, .f32⟩
  | .hbm, ⟨6, _⟩ => ⟨S4x2304x8x128, .f32⟩
  | .hbm, ⟨7, _⟩ => ⟨S9216x512, .f32⟩
  | .hbm, ⟨8, _⟩ => ⟨S4x2304x8x64, .f32⟩
  | .hbm, ⟨9, _⟩ => ⟨S4x256x8x128, .f32⟩
  | .hbm, ⟨10, _⟩ => ⟨S4x256x8x128, .f32⟩
  | .hbm, ⟨11, _⟩ => ⟨S4x256x8x64, .f32⟩
  | .hbm, ⟨12, _⟩ => ⟨S4x8x256x256, .f32⟩
  | .hbm, ⟨13, _⟩ => ⟨S_, .f32⟩
  | .hbm, ⟨14, _⟩ => ⟨S4x8x256, .f32⟩
  | .hbm, ⟨15, _⟩ => ⟨S_, .f32⟩
  | .hbm, ⟨16, _⟩ => ⟨S4x8x256, .f32⟩
  | .hbm, ⟨17, _⟩ => ⟨S4x8x256, .f32⟩
  | .hbm, ⟨18, _⟩ => ⟨S4x8x256x1, .f32⟩
  | .hbm, ⟨19, _⟩ => ⟨S4x8x256x256, .f32⟩
  | .hbm, ⟨20, _⟩ => ⟨S4x8x256x256, .f32⟩
  | .hbm, ⟨21, _⟩ => ⟨S4x8x256x256, .f32⟩
  | .hbm, ⟨22, _⟩ => ⟨S_, .f32⟩
  | .hbm, ⟨23, _⟩ => ⟨S4x8x256, .f32⟩
  | .hbm, ⟨24, _⟩ => ⟨S4x8x256x1, .f32⟩
  | .hbm, ⟨25, _⟩ => ⟨S4x8x256x256, .f32⟩
  | .hbm, ⟨26, _⟩ => ⟨S4x8x256x256, .f32⟩
  | .hbm, ⟨27, _⟩ => ⟨S4x8x64x256, .f32⟩
  | .hbm, ⟨28, _⟩ => ⟨S4x256x8x64, .f32⟩
  | .hbm, ⟨29, _⟩ => ⟨S4x2048x8x128, .f32⟩
  | .hbm, ⟨30, _⟩ => ⟨S4x8x2048x2304, .f32⟩
  | .hbm, ⟨31, _⟩ => ⟨S_, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S4x8x2048, .f32⟩
  | .hbm, ⟨36, _⟩ => ⟨S4x8x2048x1, .f32⟩
  | .hbm, ⟨37, _⟩ => ⟨S4x8x2048x2304, .f32⟩
  | .hbm, ⟨38, _⟩ => ⟨S4x8x2048x2304, .f32⟩
  | .hbm, ⟨39, _⟩ => ⟨S4x8x2048x2304, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x2304, .f32⟩
  | .hbm, ⟨44, _⟩ => ⟨S4x8x2048x2304, .f32⟩
  | .hbm, ⟨45, _⟩ => ⟨S4x8x64x2048, .f32⟩
  | .hbm, ⟨46, _⟩ => ⟨S4x2048x8x64, .f32⟩
  | .hbm, ⟨47, _⟩ => ⟨S4x2304x8x64, .f32⟩
  | .hbm, ⟨48, _⟩ => ⟨S9216x512, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Down.lean ====
abbrev S9216x5632 : Shape := ⟨2, ![9216, 5632]⟩
abbrev S8x5632 : Shape := ⟨2, ![8, 5632]⟩
abbrev S1x5632 : Shape := ⟨2, ![1, 5632]⟩
abbrev S2816x1024 : Shape := ⟨2, ![2816, 1024]⟩
abbrev S9216x1024 : Shape := ⟨2, ![9216, 1024]⟩
abbrev S36x8x1024 : Shape := ⟨3, ![36, 8, 1024]⟩
abbrev S1x1024 : Shape := ⟨2, ![1, 1024]⟩
abbrev S256x2816 : Shape := ⟨2, ![256, 2816]⟩
abbrev S16x2816 : Shape := ⟨2, ![16, 2816]⟩
abbrev S8x2816 : Shape := ⟨2, ![8, 2816]⟩
abbrev S1x2816 : Shape := ⟨2, ![1, 2816]⟩
abbrev S1408x1024 : Shape := ⟨2, ![1408, 1024]⟩
abbrev S256x1024 : Shape := ⟨2, ![256, 1024]⟩
abbrev S1x8x1024 : Shape := ⟨3, ![1, 8, 1024]⟩
abbrev S256x1408 : Shape := ⟨2, ![256, 1408]⟩
abbrev S8x1024 : Shape := ⟨2, ![8, 1024]⟩
abbrev S256 : Shape := ⟨1, ![256]⟩
abbrev S256x1 : Shape := ⟨2, ![256, 1]⟩

abbrev nBuf : Space → Nat
  | .hbm => 10
  | .vmem => 23
  | .smem => 0
  | _ => 0

abbrev bufTy : (tb : Table) → Fin (tcTables nBuf tb) → BufTy
  | .hbm, ⟨0, _⟩ => ⟨S9216x5632, .bf16⟩
  | .hbm, ⟨1, _⟩ => ⟨S8x5632, .f32⟩
  | .hbm, ⟨2, _⟩ => ⟨S1x5632, .f32⟩
  | .hbm, ⟨3, _⟩ => ⟨S2816x1024, .bf16⟩
  | .hbm, ⟨4, _⟩ => ⟨S9216x1024, .f32⟩
  | .hbm, ⟨5, _⟩ => ⟨S36x8x1024, .f32⟩
  | .hbm, ⟨6, _⟩ => ⟨S1x1024, .f32⟩
  | .hbm, ⟨7, _⟩ => ⟨S1x1024, .f32⟩
  | .hbm, ⟨8, _⟩ => ⟨S9216x1024, .f32⟩
  | .hbm, ⟨9, _⟩ => ⟨S9216x1024, .f32⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S16x2816, .bf16⟩
  | .local _ .vmem, ⟨5, _⟩ => ⟨S16x2816, .bf16⟩
  | .local _ .vmem, ⟨6, _⟩ => ⟨S8x2816, .f32⟩
  | .local _ .vmem, ⟨7, _⟩ => ⟨S8x2816, .f32⟩
  | .local _ .vmem, ⟨8, _⟩ => ⟨S1x2816, .f32⟩
  | .local _ .vmem, ⟨9, _⟩ => ⟨S1x2816, .f32⟩
  | .local _ .vmem, ⟨10, _⟩ => ⟨S1408x1024, .bf16⟩
  | .local _ .vmem, ⟨11, _⟩ => ⟨S1408x1024, .bf16⟩
  | .local _ .vmem, ⟨12, _⟩ => ⟨S256x1024, .f32⟩
  | .local _ .vmem, ⟨13, _⟩ => ⟨S256x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![36, 2], ![false, false]⟩

def k0_cond2 (i : grid0.Coords) : BitVec 1 :=
  let arg1 : BitVec 32 := BitVec.ofNat 32 (i 1).val
  let c1_i32_20 : BitVec 32 := 1#32
  let v69 : BitVec 1 := Scalar.cmpi .eq arg1 c1_i32_20
  let v70 : BitVec 32 := Scalar.extui v69
  let c0_i32_21 : BitVec 32 := 0#32
  let v71 : BitVec 1 := Scalar.cmpi .ne v70 c0_i32_21
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== DownRefIdeal.lean ====
abbrev S9216x5632 : Shape := ⟨2, ![9216, 5632]⟩
abbrev S8x5632 : Shape := ⟨2, ![8, 5632]⟩
abbrev S1x5632 : Shape := ⟨2, ![1, 5632]⟩
abbrev S2816x1024 : Shape := ⟨2, ![2816, 1024]⟩
abbrev S9216x1024 : Shape := ⟨2, ![9216, 1024]⟩
abbrev S36x8x1024 : Shape := ⟨3, ![36, 8, 1024]⟩
abbrev S1x1024 : Shape := ⟨2, ![1, 1024]⟩
abbrev S4x2304x5632 : Shape := ⟨3, ![4, 2304, 5632]⟩
abbrev S4x256x5632 : Shape := ⟨3, ![4, 256, 5632]⟩
abbrev S_ : Shape := ⟨0, ![]⟩
abbrev S4x1x5632 : Shape := ⟨3, ![4, 1, 5632]⟩
abbrev S4x258x5632 : Shape := ⟨3, ![4, 258, 5632]⟩
abbrev S5632 : Shape := ⟨1, ![5632]⟩
abbrev S1x1x5632 : Shape := ⟨3, ![1, 1, 5632]⟩
abbrev S4x2048x5632 : Shape := ⟨3, ![4, 2048, 5632]⟩
abbrev S4x2050x5632 : Shape := ⟨3, ![4, 2050, 5632]⟩
abbrev S9216x2x2x1408 : Shape := ⟨4, ![9216, 2, 2, 1408]⟩
abbrev S9216x2x1x1408 : Shape := ⟨4, ![9216, 2, 1, 1408]⟩
abbrev S9216x2x1408 : Shape := ⟨3, ![9216, 2, 1408]⟩
abbrev S9216x2816 : Shape := ⟨2, ![9216, 2816]⟩
abbrev S36x256x1024 : Shape := ⟨3, ![36, 256, 1024]⟩
abbrev S36x1x1024 : Shape := ⟨3, ![36, 1, 1024]⟩
abbrev S9216 : Shape := ⟨1, ![9216]⟩
abbrev S9216x1 : Shape := ⟨2, ![9216, 1]⟩

abbrev nBuf : Space → Nat
  | .hbm => 120
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S8x5632, .f32⟩
  | .hbm, ⟨2, _⟩ => ⟨S1x5632, .f32⟩
  | .hbm, ⟨3, _⟩ => ⟨S2816x1024, .bf16⟩
  | .hbm, ⟨4, _⟩ => ⟨S9216x1024, .f32⟩
  | .hbm, ⟨5, _⟩ => ⟨S36x8x1024, .f32⟩
  | .hbm, ⟨6, _⟩ => ⟨S1x1024, .f32⟩
  | .hbm, ⟨7, _⟩ => ⟨S1x1024, .f32⟩
  | .hbm, ⟨8, _⟩ => ⟨S9216x5632, .f32⟩
  | .hbm, ⟨9, _⟩ => ⟨S4x2304x5632, .f32⟩
  | .hbm, ⟨10, _⟩ => ⟨S4x256x5632, .f32⟩
  | .hbm, ⟨11, _⟩ => ⟨S_, .f32⟩
  | .hbm, ⟨12, _⟩ => ⟨S4x1x5632, .f32⟩
  | .hbm, ⟨13, _⟩ => ⟨S4x258x5632, .f32⟩
  | .hbm, ⟨14, _⟩ => ⟨S1x5632, .f32⟩
  | .hbm, ⟨15, _⟩ => ⟨S5632, .f32⟩
  | .hbm, ⟨16, _⟩ => ⟨S4x256x5632, .f32⟩
  | .hbm, ⟨17, _⟩ => ⟨S1x1x5632, .f32⟩
  | .hbm, ⟨18, _⟩ => ⟨S4x256x5632, .f32⟩
  | .hbm, ⟨19, _⟩ => ⟨S4x256x5632, .f32⟩
  | .hbm, ⟨20, _⟩ => ⟨S1x5632, .f32⟩
  | .hbm, ⟨21, _⟩ => ⟨S5632, .f32⟩
  | .hbm, ⟨22, _⟩ => ⟨S4x256x5632, .f32⟩
  | .hbm, ⟨23, _⟩ => ⟨S1x1x5632, .f32⟩
  | .hbm, ⟨24, _⟩ => ⟨S4x256x5632, .f32⟩
  | .hbm, ⟨25, _⟩ => ⟨S4x256x5632, .f32⟩
  | .hbm, ⟨26, _⟩ => ⟨S4x256x5632, .f32⟩
  | .hbm, ⟨27, _⟩ => ⟨S1x5632, .f32⟩
  | .hbm, ⟨28, _⟩ => ⟨S5632, .f32⟩
  | .hbm, ⟨29, _⟩ => ⟨S4x256x5632, .f32⟩
  | .hbm, ⟨30, _⟩ => ⟨S1x1x5632, .f32⟩
  | .hbm, ⟨31, _⟩ => ⟨S4x256x5632, .f32⟩
  | .hbm, ⟨32, _⟩ => ⟨S4x256x5632, .f32⟩
  | .hbm, ⟨33, _⟩ => ⟨S4x256x5632, .f32⟩
  | .hbm, ⟨34, _⟩ => ⟨S1x1x5632, .f32⟩
  | .hbm, ⟨35, _⟩ => ⟨S4x256x5632, .f32⟩
  | .hbm, ⟨36, _⟩ => ⟨S4x256x5632, .f32⟩
  | .hbm, ⟨37, _⟩ => ⟨S4x2048x5632, .f32⟩
  | .hbm, ⟨38, _⟩ => ⟨S_, .f32⟩
  | .hbm, ⟨39, _⟩ => ⟨S4x1x5632, .f32⟩
  | .hbm, ⟨40, _⟩ => ⟨S4x2050x5632, .f32⟩
  | .hbm, ⟨41, _⟩ => ⟨S1x5632, .f32⟩
  | .hbm, ⟨42, _⟩ => ⟨S5632, .f32⟩
  | .hbm, ⟨43, _⟩ => ⟨S4x2048x5632, .f32⟩
  | .hbm, ⟨44, _⟩ => ⟨S1x1x5632, .f32⟩
  | .hbm, ⟨45, _⟩ => ⟨S4x2048x5632, .f32⟩
  | .hbm, ⟨46, _⟩ => ⟨S4x2048x5632, .f32⟩
  | .hbm, ⟨47, _⟩ => ⟨S1x5632, .f32⟩
  | .hbm, ⟨48, _⟩ => ⟨S5632, .f32⟩
  | .hbm, ⟨49, _⟩ => ⟨S4x2048x5632, .f32⟩
  | .hbm, ⟨50, _⟩ => ⟨S1x1x5632, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S1x5632, .f32⟩
  | .hbm, ⟨55, _⟩ => ⟨S5632, .f32⟩
  | .hbm, ⟨56, _⟩ => ⟨S4x2048x5632, .f32⟩
  | .hbm, ⟨57, _⟩ => ⟨S1x1x5632, .f32⟩
  | .hbm, ⟨58, _⟩ => ⟨S4x2048x5632, .f32⟩
  | .hbm, ⟨59, _⟩ => ⟨S4x2048x5632, .f32⟩
  | .hbm, ⟨60, _⟩ => ⟨S4x2048x5632, .f32⟩
  | .hbm, ⟨61, _⟩ => ⟨S1x1x5632, .f32⟩
  | .hbm, ⟨62, _⟩ => ⟨S4x2048x5632, .f32⟩
  | .hbm, ⟨63, _⟩ => ⟨S4x2048x5632, .f32⟩
  | .hbm, ⟨64, _⟩ => ⟨S4x2304x5632, .f32⟩
  | .hbm, ⟨65, _⟩ => ⟨S9216x2x2x1408, .f32⟩
  | .hbm, ⟨66, _⟩ => ⟨S9216x2x1x1408, .f32⟩
  | .hbm, ⟨67, _⟩ => ⟨S9216x2x1408, .f32⟩
  | .hbm, ⟨68, _⟩ => ⟨S9216x2x1x1408, .f32⟩
  | .hbm, ⟨69, _⟩ => ⟨S9216x2x1408, .f32⟩
  | .hbm, ⟨70, _⟩ => ⟨S9216x2x1408, .f32⟩
  | .hbm, ⟨71, _⟩ => ⟨S9216x2x1408, .f32⟩
  | .hbm, ⟨72, _⟩ => ⟨S_, .f32⟩
  | .hbm, ⟨73, _⟩ => ⟨S9216x2x1408, .f32⟩
  | .hbm, ⟨74, _⟩ => ⟨S9216x2x1408, .f32⟩
  | .hbm, ⟨75, _⟩ => ⟨S_, .f32⟩
  | .hbm, ⟨76, _⟩ => ⟨S9216x2x1408, .f32⟩
  | .hbm, ⟨77, _⟩ => ⟨S9216x2x1408, .f32⟩
  | .hbm, ⟨78, _⟩ => ⟨S9216x2x1408, .f32⟩
  | .hbm, ⟨79, _⟩ => ⟨S9216x2x1x1408, .f32⟩
  | .hbm, ⟨80, _⟩ => ⟨S9216x2x1408, .f32⟩
  | .hbm, ⟨81, _⟩ => ⟨S9216x2x1408, .f32⟩
  | .hbm, ⟨82, _⟩ => ⟨S9216x2816, .f32⟩
  | .hbm, ⟨83, _⟩ => ⟨S2816x1024, .f32⟩
  | .hbm, ⟨84, _⟩ => ⟨S9216x1024, .f32⟩
  | .hbm, ⟨85, _⟩ => ⟨S36x256x1024, .f32⟩
  | .hbm, ⟨86, _⟩ => ⟨S_, .f32⟩
  | .hbm, ⟨87, _⟩ => ⟨S36x256x1024, .f32⟩
  | .hbm, ⟨88, _⟩ => ⟨S36x256x1024, .f32⟩
  | .hbm, ⟨89, _⟩ => ⟨S36x1x1024, .f32⟩
  | .hbm, ⟨90, _⟩ => ⟨S36x256x1024, .f32⟩
  | .hbm, ⟨91, _⟩ => ⟨S36x256x1024, .f32⟩
  | .hbm, ⟨92, _⟩ => ⟨S36x256x1024, .f32⟩
  | .hbm, ⟨93, _⟩ => ⟨S36x256x1024, .f32⟩
  | .hbm, ⟨94, _⟩ => ⟨S9216x1024, .f32⟩
  | .hbm, ⟨95, _⟩ => ⟨S_, .f32⟩
  | .hbm, ⟨96, _⟩ => ⟨S9216, .f32⟩
  | .hbm, ⟨97, _⟩ => ⟨S9216x1, .f32⟩
  | .hbm, ⟨98, _⟩ => ⟨S_, .f32⟩
  | .hbm, ⟨99, _⟩ => ⟨S9216x1, .f32⟩
  | .hbm, ⟨100, _⟩ => ⟨S9216x1, .f32⟩
  | .hbm, ⟨101, _⟩ => ⟨S9216x1024, .f32⟩
  | .hbm, ⟨102, _⟩ => ⟨S9216x1024, .f32⟩
  | .hbm, ⟨103, _⟩ => ⟨S9216x1024, .f32⟩
  | .hbm, ⟨104, _⟩ => ⟨S_, .f32⟩
  | .hbm, ⟨105, _⟩ => ⟨S9216, .f32⟩
  | .hbm, ⟨106, _⟩ => ⟨S9216x1, .f32⟩
  | .hbm, ⟨107, _⟩ => ⟨S_, .f32⟩
  | .hbm, ⟨108, _⟩ => ⟨S9216x1, .f32⟩
  | .hbm, ⟨109, _⟩ => ⟨S9216x1, .f32⟩
  | .hbm, ⟨110, _⟩ => ⟨S_, .f32⟩
  | .hbm, ⟨111, _⟩ => ⟨S9216x1, .f32⟩
  | .hbm, ⟨112, _⟩ => ⟨S9216x1, .f32⟩
  | .hbm, ⟨113, _⟩ => ⟨S9216x1, .f32⟩
  | .hbm, ⟨114, _⟩ => ⟨S9216x1024, .f32⟩
  | .hbm, ⟨115, _⟩ => ⟨S9216x1024, .f32⟩
  | .hbm, ⟨116, _⟩ => ⟨S9216x1024, .f32⟩
  | .hbm, ⟨117, _⟩ => ⟨S9216x1024, .f32⟩
  | .hbm, ⟨118, _⟩ => ⟨S9216x1024, .f32⟩
  | .hbm, ⟨119, _⟩ => ⟨S9216x1024, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_1 : Ref sig .tc := ⟨.hbm, 72, rfl⟩
abbrev main_v62 : Ref sig .tc := ⟨.hbm, 73, rfl⟩
abbrev main_v63 : Ref sig .tc := ⟨.hbm, 74, rfl⟩
abbrev main_cst_2 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_3 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_4 : Ref sig .tc := ⟨.hbm, 95, rfl⟩
abbrev main_v82 : Ref sig .tc := ⟨.hbm, 96, rfl⟩
abbrev main_v83 : Ref sig .tc := ⟨.hbm, 97, rfl⟩
abbrev main_cst_5 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_6 : Ref sig .tc := ⟨.hbm, 104, rfl⟩
abbrev main_v89 : Ref sig .tc := ⟨.hbm, 105, rfl⟩
abbrev main_v90 : Ref sig .tc := ⟨.hbm, 106, rfl⟩
abbrev main_cst_7 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩

abbrev nD : Nat := 1
abbrev τ : Topo := Topo.v7x

variable {F : FTy → Type} [FloatOps F]
-- ==== ConvGrad.lean ====
abbrev S9216x5632 : Shape := ⟨2, ![9216, 5632]⟩
abbrev S8x5632 : Shape := ⟨2, ![8, 5632]⟩
abbrev S1x5632 : Shape := ⟨2, ![1, 5632]⟩
abbrev S256x2816 : Shape := ⟨2, ![256, 2816]⟩
abbrev S16x2816 : Shape := ⟨2, ![16, 2816]⟩
abbrev S8x2816 : Shape := ⟨2, ![8, 2816]⟩
abbrev S1x2816 : Shape := ⟨2, ![1, 2816]⟩
abbrev S2816 : Shape := ⟨1, ![2816]⟩

abbrev nBuf : Space → Nat
  | .hbm => 6
  | .vmem => 20
  | .smem => 0
  | _ => 0

abbrev bufTy : (tb : Table) → Fin (tcTables nBuf tb) → BufTy
  | .hbm, ⟨0, _⟩ => ⟨S9216x5632, .bf16⟩
  | .hbm, ⟨1, _⟩ => ⟨S9216x5632, .bf16⟩
  | .hbm, ⟨2, _⟩ => ⟨S8x5632, .f32⟩
  | .hbm, ⟨3, _⟩ => ⟨S9216x5632, .bf16⟩
  | .hbm, ⟨4, _⟩ => ⟨S8x5632, .f32⟩
  | .hbm, ⟨5, _⟩ => ⟨S1x5632, .f32⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S16x2816, .bf16⟩
  | .local _ .vmem, ⟨5, _⟩ => ⟨S16x2816, .bf16⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S16x2816, .bf16⟩
  | .local _ .vmem, ⟨11, _⟩ => ⟨S16x2816, .bf16⟩
  | .local _ .vmem, ⟨12, _⟩ => ⟨S8x2816, .f32⟩
  | .local _ .vmem, ⟨13, _⟩ => ⟨S8x2816, .f32⟩
  | .local _ .vmem, ⟨14, _⟩ => ⟨S256x2816, .bf16⟩
  | .local _ .vmem, ⟨15, _⟩ => ⟨S256x2816, .bf16⟩
  | .local _ .vmem, ⟨16, _⟩ => ⟨S8x2816, .f32⟩
  | .local _ .vmem, ⟨17, _⟩ => ⟨S8x2816, .f32⟩
  | .local _ .vmem, ⟨18, _⟩ => ⟨S1x2816, .f32⟩
  | .local _ .vmem, ⟨19, _⟩ => ⟨S1x2816, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvGradRefIdeal.lean ====
abbrev S9216x5632 : Shape := ⟨2, ![9216, 5632]⟩
abbrev S8x5632 : Shape := ⟨2, ![8, 5632]⟩
abbrev S_ : Shape := ⟨0, ![]⟩
abbrev S1x5632 : Shape := ⟨2, ![1, 5632]⟩
abbrev S4x2304x5632 : Shape := ⟨3, ![4, 2304, 5632]⟩
abbrev S4x256x5632 : Shape := ⟨3, ![4, 256, 5632]⟩
abbrev S4x1x5632 : Shape := ⟨3, ![4, 1, 5632]⟩
abbrev S4x258x5632 : Shape := ⟨3, ![4, 258, 5632]⟩
abbrev S5632 : Shape := ⟨1, ![5632]⟩
abbrev S1x1x5632 : Shape := ⟨3, ![1, 1, 5632]⟩
abbrev S4x2048x5632 : Shape := ⟨3, ![4, 2048, 5632]⟩
abbrev S4x2050x5632 : Shape := ⟨3, ![4, 2050, 5632]⟩

abbrev nBuf : Space → Nat
  | .hbm => 188
  | .vmem => 0
  | .smem => 0
  | _ => 0

abbrev hbmTy0_0 (i : Nat) : BufTy := match i % 128 with
  | 0 => ⟨S9216x5632, .bf16⟩
  | 1 => ⟨S9216x5632, .bf16⟩
  | 2 => ⟨S8x5632, .f32⟩
  | 3 => ⟨S9216x5632, .f32⟩
  | 4 => ⟨S_, .f32⟩
  | 5 => ⟨S1x5632, .f32⟩
  | 6 => ⟨S4x2304x5632, .f32⟩
  | 7 => ⟨S4x256x5632, .f32⟩
  | 8 => ⟨S_, .f32⟩
  | 9 => ⟨S4x1x5632, .f32⟩
  | 10 => ⟨S4x258x5632, .f32⟩
  | 11 => ⟨S_, .f32⟩
  | 12 => ⟨S4x1x5632, .f32⟩
  | 13 => ⟨S_, .f32⟩
  | 14 => ⟨S4x1x5632, .f32⟩
  | 15 => ⟨S1x5632, .f32⟩
  | 16 => ⟨S5632, .f32⟩
  | 17 => ⟨S4x256x5632, .f32⟩
  | 18 => ⟨S1x1x5632, .f32⟩
  | 19 => ⟨S4x256x5632, .f32⟩
  | 20 => ⟨S4x256x5632, .f32⟩
  | 21 => ⟨S1x5632, .f32⟩
  | 22 => ⟨S5632, .f32⟩
  | 23 => ⟨S4x256x5632, .f32⟩
  | 24 => ⟨S1x1x5632, .f32⟩
  | 25 => ⟨S4x256x5632, .f32⟩
  | 26 => ⟨S4x256x5632, .f32⟩
  | 27 => ⟨S4x256x5632, .f32⟩
  | 28 => ⟨S1x5632, .f32⟩
  | 29 => ⟨S5632, .f32⟩
  | 30 => ⟨S4x256x5632, .f32⟩
  | 31 => ⟨S1x1x5632, .f32⟩
  | 32 => ⟨S4x256x5632, .f32⟩
  | 33 => ⟨S4x256x5632, .f32⟩
  | 34 => ⟨S4x256x5632, .f32⟩
  | 35 => ⟨S1x1x5632, .f32⟩
  | 36 => ⟨S4x256x5632, .f32⟩
  | 37 => ⟨S4x256x5632, .f32⟩
  | 38 => ⟨S4x2048x5632, .f32⟩
  | 39 => ⟨S_, .f32⟩
  | 40 => ⟨S4x1x5632, .f32⟩
  | 41 => ⟨S4x2050x5632, .f32⟩
  | 42 => ⟨S_, .f32⟩
  | 43 => ⟨S4x1x5632, .f32⟩
  | 44 => ⟨S_, .f32⟩
  | 45 => ⟨S4x1x5632, .f32⟩
  | 46 => ⟨S1x5632, .f32⟩
  | 47 => ⟨S5632, .f32⟩
  | 48 => ⟨S4x2048x5632, .f32⟩
  | 49 => ⟨S1x1x5632, .f32⟩
  | 50 => ⟨S4x2048x5632, .f32⟩
  | 51 => ⟨S4x2048x5632, .f32⟩
  | 52 => ⟨S1x5632, .f32⟩
  | 53 => ⟨S5632, .f32⟩
  | 54 => ⟨S4x2048x5632, .f32⟩
  | 55 => ⟨S1x1x5632, .f32⟩
  | 56 => ⟨S4x2048x5632, .f32⟩
  | 57 => ⟨S4x2048x5632, .f32⟩
  | 58 => ⟨S4x2048x5632, .f32⟩
  | 59 => ⟨S1x5632, .f32⟩
  | 60 => ⟨S5632, .f32⟩
  | 61 => ⟨S4x2048x5632, .f32⟩
  | 62 => ⟨S1x1x5632, .f32⟩
  | 63 => ⟨S4x2048x5632, .f32⟩
  | 64 => ⟨S4x2048x5632, .f32⟩
  | 65 => ⟨S4x2048x5632, .f32⟩
  | 66 => ⟨S1x1x5632, .f32⟩
  | 67 => ⟨S4x2048x5632, .f32⟩
  | 68 => ⟨S4x2048x5632, .f32⟩
  | 69 => ⟨S4x2304x5632, .f32⟩
  | 70 => ⟨S9216x5632, .f32⟩
  | 71 => ⟨S9216x5632, .f32⟩
  | 72 => ⟨S4x2304x5632, .f32⟩
  | 73 => ⟨S4x256x5632, .f32⟩
  | 74 => ⟨S4x2048x5632, .f32⟩
  | 75 => ⟨S_, .f32⟩
  | 76 => ⟨S5632, .f32⟩
  | 77 => ⟨S1x1x5632, .f32⟩
  | 78 => ⟨S_, .f32⟩
  | 79 => ⟨S5632, .f32⟩
  | 80 => ⟨S1x5632, .f32⟩
  | 81 => ⟨S4x2048x5632, .f32⟩
  | 82 => ⟨S4x2048x5632, .f32⟩
  | 83 => ⟨S4x2048x5632, .f32⟩
  | 84 => ⟨S_, .f32⟩
  | 85 => ⟨S5632, .f32⟩
  | 86 => ⟨S1x1x5632, .f32⟩
  | 87 => ⟨S_, .f32⟩
  | 88 => ⟨S5632, .f32⟩
  | 89 => ⟨S_, .f32⟩
  | 90 => ⟨S4x2050x5632, .f32⟩
  | 91 => ⟨S1x5632, .f32⟩
  | 92 => ⟨S_, .f32⟩
  | 93 => ⟨S8x5632, .f32⟩
  | 94 => ⟨S4x2048x5632, .f32⟩
  | 95 => ⟨S4x2048x5632, .f32⟩
  | 96 => ⟨S4x2048x5632, .f32⟩
  | 97 => ⟨S_, .f32⟩
  | 98 => ⟨S5632, .f32⟩
  | 99 => ⟨S1x1x5632, .f32⟩
  | 100 => ⟨S_, .f32⟩
  | 101 => ⟨S5632, .f32⟩
  | 102 => ⟨S_, .f32⟩
  | 103 => ⟨S4x2050x5632, .f32⟩
  | 104 => ⟨S4x2050x5632, .f32⟩
  | 105 => ⟨S1x5632, .f32⟩
  | 106 => ⟨S_, .f32⟩
  | 107 => ⟨S8x5632, .f32⟩
  | 108 => ⟨S8x5632, .f32⟩
  | 109 => ⟨S4x2048x5632, .f32⟩
  | 110 => ⟨S4x2048x5632, .f32⟩
  | 111 => ⟨S4x2048x5632, .f32⟩
  | 112 => ⟨S_, .f32⟩
  | 113 => ⟨S5632, .f32⟩
  | 114 => ⟨S1x1x5632, .f32⟩
  | 115 => ⟨S_, .f32⟩
  | 116 => ⟨S5632, .f32⟩
  | 117 => ⟨S_, .f32⟩
  | 118 => ⟨S4x2050x5632, .f32⟩
  | 119 => ⟨S4x2050x5632, .f32⟩
  | 120 => ⟨S1x5632, .f32⟩
  | 121 => ⟨S_, .f32⟩
  | 122 => ⟨S8x5632, .f32⟩
  | 123 => ⟨S8x5632, .f32⟩
  | 124 => ⟨S4x1x5632, .f32⟩
  | 125 => ⟨S4x2048x5632, .f32⟩
  | 126 => ⟨S4x1x5632, .f32⟩
  | 127 => ⟨S_, .f32⟩
  | _ => ⟨S9216x5632, .bf16⟩

abbrev hbmTy0_1 (i : Nat) : BufTy := match i % 128 with
  | 0 => ⟨S4x2304x5632, .f32⟩
  | 1 => ⟨S_, .f32⟩
  | 2 => ⟨S5632, .f32⟩
  | 3 => ⟨S1x1x5632, .f32⟩
  | 4 => ⟨S_, .f32⟩
  | 5 => ⟨S5632, .f32⟩
  | 6 => ⟨S1x5632, .f32⟩
  | 7 => ⟨S1x5632, .f32⟩
  | 8 => ⟨S4x256x5632, .f32⟩
  | 9 => ⟨S4x256x5632, .f32⟩
  | 10 => ⟨S4x256x5632, .f32⟩
  | 11 => ⟨S_, .f32⟩
  | 12 => ⟨S5632, .f32⟩
  | 13 => ⟨S1x1x5632, .f32⟩
  | 14 => ⟨S_, .f32⟩
  | 15 => ⟨S5632, .f32⟩
  | 16 => ⟨S_, .f32⟩
  | 17 => ⟨S4x258x5632, .f32⟩
  | 18 => ⟨S1x5632, .f32⟩
  | 19 => ⟨S_, .f32⟩
  | 20 => ⟨S8x5632, .f32⟩
  | 21 => ⟨S8x5632, .f32⟩
  | 22 => ⟨S4x256x5632, .f32⟩
  | 23 => ⟨S4x256x5632, .f32⟩
  | 24 => ⟨S4x256x5632, .f32⟩
  | 25 => ⟨S_, .f32⟩
  | 26 => ⟨S5632, .f32⟩
  | 27 => ⟨S1x1x5632, .f32⟩
  | 28 => ⟨S_, .f32⟩
  | 29 => ⟨S5632, .f32⟩
  | 30 => ⟨S_, .f32⟩
  | 31 => ⟨S4x258x5632, .f32⟩
  | 32 => ⟨S4x258x5632, .f32⟩
  | 33 => ⟨S1x5632, .f32⟩
  | 34 => ⟨S_, .f32⟩
  | 35 => ⟨S8x5632, .f32⟩
  | 36 => ⟨S8x5632, .f32⟩
  | 37 => ⟨S4x256x5632, .f32⟩
  | 38 => ⟨S4x256x5632, .f32⟩
  | 39 => ⟨S4x256x5632, .f32⟩
  | 40 => ⟨S_, .f32⟩
  | 41 => ⟨S5632, .f32⟩
  | 42 => ⟨S1x1x5632, .f32⟩
  | 43 => ⟨S_, .f32⟩
  | 44 => ⟨S5632, .f32⟩
  | 45 => ⟨S_, .f32⟩
  | 46 => ⟨S4x258x5632, .f32⟩
  | 47 => ⟨S4x258x5632, .f32⟩
  | 48 => ⟨S1x5632, .f32⟩
  | 49 => ⟨S_, .f32⟩
  | 50 => ⟨S8x5632, .f32⟩
  | 51 => ⟨S8x5632, .f32⟩
  | 52 => ⟨S4x1x5632, .f32⟩
  | 53 => ⟨S4x256x5632, .f32⟩
  | 54 => ⟨S4x1x5632, .f32⟩
  | 55 => ⟨S_, .f32⟩
  | 56 => ⟨S4x2304x5632, .f32⟩
  | 57 => ⟨S4x2304x5632, .f32⟩
  | 58 => ⟨S9216x5632, .f32⟩
  | 59 => ⟨S9216x5632, .bf16⟩
  | _ => ⟨S9216x5632, .bf16⟩

abbrev hbmTy (i : Nat) : BufTy := match i / 128 with
  | 0 => hbmTy0_0 i
  | 1 => hbmTy0_1 i
  | _ => ⟨S9216x5632, .bf16⟩

abbrev bufTy : (tb : Table) → Fin (tcTables nBuf tb) → BufTy
  | .hbm, ⟨i, _⟩ => hbmTy i
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_cst_7 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_cst_10 : Ref sig .tc := ⟨.hbm, 89, rfl⟩
abbrev main_v75 : Ref sig .tc := ⟨.hbm, 90, rfl⟩
abbrev main_v76 : Ref sig .tc := ⟨.hbm, 91, rfl⟩
abbrev main_cst_11 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_12 : Ref sig .tc := ⟨.hbm, 97, rfl⟩
abbrev main_v81 : Ref sig .tc := ⟨.hbm, 98, rfl⟩
abbrev main_v82 : Ref sig .tc := ⟨.hbm, 99, rfl⟩
abbrev main_cst_13 : Ref sig .tc := ⟨.hbm, 100, rfl⟩
abbrev main_v83 : Ref sig .tc := ⟨.hbm, 101, rfl⟩
abbrev main_cst_14 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_15 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_16 : Ref sig .tc := ⟨.hbm, 112, rfl⟩
abbrev main_v92 : Ref sig .tc := ⟨.hbm, 113, rfl⟩
abbrev main_v93 : Ref sig .tc := ⟨.hbm, 114, rfl⟩
abbrev main_cst_17 : Ref sig .tc := ⟨.hbm, 115, rfl⟩
abbrev main_v94 : Ref sig .tc := ⟨.hbm, 116, rfl⟩
abbrev main_cst_18 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_19 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_20 : Ref sig .tc := ⟨.hbm, 127, rfl⟩
abbrev main_v103 : Ref sig .tc := ⟨.hbm, 128, rfl⟩
abbrev main_cst_21 : Ref sig .tc := ⟨.hbm, 129, rfl⟩
abbrev main_v104 : Ref sig .tc := ⟨.hbm, 130, rfl⟩
abbrev main_v105 : Ref sig .tc := ⟨.hbm, 131, rfl⟩
abbrev main_cst_22 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_23 : Ref sig .tc := ⟨.hbm, 139, rfl⟩
abbrev main_v112 : Ref sig .tc := ⟨.hbm, 140, rfl⟩
abbrev main_v113 : Ref sig .tc := ⟨.hbm, 141, rfl⟩
abbrev main_cst_24 : Ref sig .tc := ⟨.hbm, 142, rfl⟩
abbrev main_v114 : Ref sig .tc := ⟨.hbm, 143, rfl⟩
abbrev main_cst_25 : Ref sig .tc := ⟨.hbm, 144, rfl⟩
abbrev main_v115 : Ref sig .tc := ⟨.hbm, 145, rfl⟩
abbrev main_v116 : Ref sig .tc := ⟨.hbm, 146, rfl⟩
abbrev main_cst_26 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_27 : Ref sig .tc := ⟨.hbm, 153, rfl⟩
abbrev main_v122 : Ref sig .tc := ⟨.hbm, 154, rfl⟩
abbrev main_v123 : Ref sig .tc := ⟨.hbm, 155, rfl⟩
abbrev main_cst_28 : Ref sig .tc := ⟨.hbm, 156, rfl⟩
abbrev main_v124 : Ref sig .tc := ⟨.hbm, 157, rfl⟩
abbrev main_cst_29 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_30 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_31 : Ref sig .tc := ⟨.hbm, 168, rfl⟩
abbrev main_v133 : Ref sig .tc := ⟨.hbm, 169, rfl⟩
abbrev main_v134 : Ref sig .tc := ⟨.hbm, 170, rfl⟩
abbrev main_cst_32 : Ref sig .tc := ⟨.hbm, 171, rfl⟩
abbrev main_v135 : Ref sig .tc := ⟨.hbm, 172, rfl⟩
abbrev main_cst_33 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_34 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_35 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]
-- ==== NormGrad.lean ====
abbrev S9216x1024 : Shape := ⟨2, ![9216, 1024]⟩
abbrev S36x8x1024 : Shape := ⟨3, ![36, 8, 1024]⟩
abbrev S1x1024 : Shape := ⟨2, ![1, 1024]⟩
abbrev S256x1024 : Shape := ⟨2, ![256, 1024]⟩
abbrev S1x8x1024 : Shape := ⟨3, ![1, 8, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S5x1024 : Shape := ⟨2, ![5, 1024]⟩
abbrev S6x1024 : Shape := ⟨2, ![6, 1024]⟩
abbrev S2x1024 : Shape := ⟨2, ![2, 1024]⟩

abbrev nBuf : Space → Nat
  | .hbm => 11
  | .vmem => 18
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S36x8x1024, .f32⟩
  | .hbm, ⟨3, _⟩ => ⟨S1x1024, .f32⟩
  | .hbm, ⟨4, _⟩ => ⟨S1x1024, .f32⟩
  | .hbm, ⟨5, _⟩ => ⟨S9216x1024, .f32⟩
  | .hbm, ⟨6, _⟩ => ⟨S9216x1024, .f32⟩
  | .hbm, ⟨7, _⟩ => ⟨S9216x1024, .f32⟩
  | .hbm, ⟨8, _⟩ => ⟨S36x8x1024, .f32⟩
  | .hbm, ⟨9, _⟩ => ⟨S1x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x1024, .f32⟩
  | .local _ .vmem, ⟨17, _⟩ => ⟨S1x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormGradRefIdeal.lean ====
abbrev S9216x1024 : Shape := ⟨2, ![9216, 1024]⟩
abbrev S36x8x1024 : Shape := ⟨3, ![36, 8, 1024]⟩
abbrev S1x1024 : Shape := ⟨2, ![1, 1024]⟩
abbrev S36x256x1024 : Shape := ⟨3, ![36, 256, 1024]⟩
abbrev S_ : Shape := ⟨0, ![]⟩
abbrev S36x1x1024 : Shape := ⟨3, ![36, 1, 1024]⟩
abbrev S9216 : Shape := ⟨1, ![9216]⟩
abbrev S9216x1 : Shape := ⟨2, ![9216, 1]⟩
abbrev S1024 : Shape := ⟨1, ![1024]⟩
abbrev S36x1024 : Shape := ⟨2, ![36, 1024]⟩

abbrev nBuf : Space → Nat
  | .hbm => 98
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S36x8x1024, .f32⟩
  | .hbm, ⟨3, _⟩ => ⟨S1x1024, .f32⟩
  | .hbm, ⟨4, _⟩ => ⟨S1x1024, .f32⟩
  | .hbm, ⟨5, _⟩ => ⟨S9216x1024, .f32⟩
  | .hbm, ⟨6, _⟩ => ⟨S36x256x1024, .f32⟩
  | .hbm, ⟨7, _⟩ => ⟨S_, .f32⟩
  | .hbm, ⟨8, _⟩ => ⟨S36x256x1024, .f32⟩
  | .hbm, ⟨9, _⟩ => ⟨S36x256x1024, .f32⟩
  | .hbm, ⟨10, _⟩ => ⟨S36x1x1024, .f32⟩
  | .hbm, ⟨11, _⟩ => ⟨S36x256x1024, .f32⟩
  | .hbm, ⟨12, _⟩ => ⟨S36x256x1024, .f32⟩
  | .hbm, ⟨13, _⟩ => ⟨S36x256x1024, .f32⟩
  | .hbm, ⟨14, _⟩ => ⟨S36x256x1024, .f32⟩
  | .hbm, ⟨15, _⟩ => ⟨S9216x1024, .f32⟩
  | .hbm, ⟨16, _⟩ => ⟨S_, .f32⟩
  | .hbm, ⟨17, _⟩ => ⟨S9216, .f32⟩
  | .hbm, ⟨18, _⟩ => ⟨S9216x1, .f32⟩
  | .hbm, ⟨19, _⟩ => ⟨S_, .f32⟩
  | .hbm, ⟨20, _⟩ => ⟨S9216x1, .f32⟩
  | .hbm, ⟨21, _⟩ => ⟨S9216x1, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S_, .f32⟩
  | .hbm, ⟨26, _⟩ => ⟨S9216x1024, .f32⟩
  | .hbm, ⟨27, _⟩ => ⟨S9216x1024, .f32⟩
  | .hbm, ⟨28, _⟩ => ⟨S_, .f32⟩
  | .hbm, ⟨29, _⟩ => ⟨S9216, .f32⟩
  | .hbm, ⟨30, _⟩ => ⟨S9216x1, .f32⟩
  | .hbm, ⟨31, _⟩ => ⟨S_, .f32⟩
  | .hbm, ⟨32, _⟩ => ⟨S9216x1, .f32⟩
  | .hbm, ⟨33, _⟩ => ⟨S9216x1, .f32⟩
  | .hbm, ⟨34, _⟩ => ⟨S_, .f32⟩
  | .hbm, ⟨35, _⟩ => ⟨S9216x1, .f32⟩
  | .hbm, ⟨36, _⟩ => ⟨S9216x1, .f32⟩
  | .hbm, ⟨37, _⟩ => ⟨S9216x1, .f32⟩
  | .hbm, ⟨38, _⟩ => ⟨S9216x1, .f32⟩
  | .hbm, ⟨39, _⟩ => ⟨S_, .f32⟩
  | .hbm, ⟨40, _⟩ => ⟨S9216x1, .f32⟩
  | .hbm, ⟨41, _⟩ => ⟨S9216x1, .f32⟩
  | .hbm, ⟨42, _⟩ => ⟨S9216x1024, .f32⟩
  | .hbm, ⟨43, _⟩ => ⟨S9216x1024, .f32⟩
  | .hbm, ⟨44, _⟩ => ⟨S9216x1024, .f32⟩
  | .hbm, ⟨45, _⟩ => ⟨S9216x1024, .f32⟩
  | .hbm, ⟨46, _⟩ => ⟨S9216x1024, .f32⟩
  | .hbm, ⟨47, _⟩ => ⟨S9216x1024, .f32⟩
  | .hbm, ⟨48, _⟩ => ⟨S9216x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S9216x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S9216x1024, .f32⟩
  | .hbm, ⟨57, _⟩ => ⟨S9216x1024, .f32⟩
  | .hbm, ⟨58, _⟩ => ⟨S9216x1024, .f32⟩
  | .hbm, ⟨59, _⟩ => ⟨S_, .f32⟩
  | .hbm, ⟨60, _⟩ => ⟨S9216, .f32⟩
  | .hbm, ⟨61, _⟩ => ⟨S9216x1, .f32⟩
  | .hbm, ⟨62, _⟩ => ⟨S9216x1024, .f32⟩
  | .hbm, ⟨63, _⟩ => ⟨S9216x1024, .f32⟩
  | .hbm, ⟨64, _⟩ => ⟨S9216x1, .f32⟩
  | .hbm, ⟨65, _⟩ => ⟨S_, .f32⟩
  | .hbm, ⟨66, _⟩ => ⟨S9216x1, .f32⟩
  | .hbm, ⟨67, _⟩ => ⟨S9216x1, .f32⟩
  | .hbm, ⟨68, _⟩ => ⟨S_, .f32⟩
  | .hbm, ⟨69, _⟩ => ⟨S9216, .f32⟩
  | .hbm, ⟨70, _⟩ => ⟨S9216x1024, .f32⟩
  | .hbm, ⟨71, _⟩ => ⟨S9216x1024, .f32⟩
  | .hbm, ⟨72, _⟩ => ⟨S9216x1024, .f32⟩
  | .hbm, ⟨73, _⟩ => ⟨S9216x1024, .f32⟩
  | .hbm, ⟨74, _⟩ => ⟨S_, .f32⟩
  | .hbm, ⟨75, _⟩ => ⟨S9216, .f32⟩
  | .hbm, ⟨76, _⟩ => ⟨S9216x1, .f32⟩
  | .hbm, ⟨77, _⟩ => ⟨S_, .f32⟩
  | .hbm, ⟨78, _⟩ => ⟨S9216x1, .f32⟩
  | .hbm, ⟨79, _⟩ => ⟨S9216x1, .f32⟩
  | .hbm, ⟨80, _⟩ => ⟨S_, .f32⟩
  | .hbm, ⟨81, _⟩ => ⟨S9216, .f32⟩
  | .hbm, ⟨82, _⟩ => ⟨S9216x1024, .f32⟩
  | .hbm, ⟨83, _⟩ => ⟨S9216x1024, .f32⟩
  | .hbm, ⟨84, _⟩ => ⟨S36x256x1024, .f32⟩
  | .hbm, ⟨85, _⟩ => ⟨S36x256x1024, .f32⟩
  | .hbm, ⟨86, _⟩ => ⟨S36x256x1024, .f32⟩
  | .hbm, ⟨87, _⟩ => ⟨S36x256x1024, .f32⟩
  | .hbm, ⟨88, _⟩ => ⟨S_, .f32⟩
  | .hbm, ⟨89, _⟩ => ⟨S36x1024, .f32⟩
  | .hbm, ⟨90, _⟩ => ⟨S36x1x1024, .f32⟩
  | .hbm, ⟨91, _⟩ => ⟨S9216x1024, .f32⟩
  | .hbm, ⟨92, _⟩ => ⟨S_, .f32⟩
  | .hbm, ⟨93, _⟩ => ⟨S36x8x1024, .f32⟩
  | .hbm, ⟨94, _⟩ => ⟨S_, .f32⟩
  | .hbm, ⟨95, _⟩ => ⟨S36x256x1024, .f32⟩
  | .hbm, ⟨96, _⟩ => ⟨S36x256x1024, .f32⟩
  | .hbm, ⟨97, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Mix.lean ====
abbrev S9216x256 : Shape := ⟨2, ![9216, 256]⟩
abbrev S9216x512 : Shape := ⟨2, ![9216, 512]⟩
abbrev S9216x2048 : Shape := ⟨2, ![9216, 2048]⟩
abbrev S9216x1024 : Shape := ⟨2, ![9216, 1024]⟩
abbrev S36x8x1024 : Shape := ⟨3, ![36, 8, 1024]⟩
abbrev S1x256 : Shape := ⟨2, ![1, 256]⟩
abbrev S1024x1024 : Shape := ⟨2, ![1024, 1024]⟩
abbrev S1x1024 : Shape := ⟨2, ![1, 1024]⟩
abbrev S256x256 : Shape := ⟨2, ![256, 256]⟩
abbrev S256x512 : Shape := ⟨2, ![256, 512]⟩
abbrev S256x1024 : Shape := ⟨2, ![256, 1024]⟩
abbrev S1x8x1024 : Shape := ⟨3, ![1, 8, 1024]⟩
abbrev S8x1024 : Shape := ⟨2, ![8, 1024]⟩
abbrev S256 : Shape := ⟨1, ![256]⟩
abbrev S256x1 : Shape := ⟨2, ![256, 1]⟩

abbrev nBuf : Space → Nat
  | .hbm => 13
  | .vmem => 24
  | .smem => 0
  | _ => 0

abbrev bufTy : (tb : Table) → Fin (tcTables nBuf tb) → BufTy
  | .hbm, ⟨0, _⟩ => ⟨S9216x256, .f32⟩
  | .hbm, ⟨1, _⟩ => ⟨S9216x256, .f32⟩
  | .hbm, ⟨2, _⟩ => ⟨S9216x256, .f32⟩
  | .hbm, ⟨3, _⟩ => ⟨S9216x256, .f32⟩
  | .hbm, ⟨4, _⟩ => ⟨S9216x512, .f32⟩
  | .hbm, ⟨5, _⟩ => ⟨S9216x2048, .f32⟩
  | .hbm, ⟨6, _⟩ => ⟨S9216x1024, .f32⟩
  | .hbm, ⟨7, _⟩ => ⟨S36x8x1024, .f32⟩
  | .hbm, ⟨8, _⟩ => ⟨S1x256, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S9216x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x256, .f32⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S9216x256 : Shape := ⟨2, ![9216, 256]⟩
abbrev S9216x512 : Shape := ⟨2, ![9216, 512]⟩
abbrev S9216x2048 : Shape := ⟨2, ![9216, 2048]⟩
abbrev S9216x1024 : Shape := ⟨2, ![9216, 1024]⟩
abbrev S36x8x1024 : Shape := ⟨3, ![36, 8, 1024]⟩
abbrev S1x256 : Shape := ⟨2, ![1, 256]⟩
abbrev S1024x1024 : Shape := ⟨2, ![1024, 1024]⟩
abbrev S1x1024 : Shape := ⟨2, ![1, 1024]⟩
abbrev S9216x4x64 : Shape := ⟨3, ![9216, 4, 64]⟩
abbrev S_ : Shape := ⟨0, ![]⟩
abbrev S9216x4 : Shape := ⟨2, ![9216, 4]⟩
abbrev S9216x4x1 : Shape := ⟨3, ![9216, 4, 1]⟩
abbrev S4x64 : Shape := ⟨2, ![4, 64]⟩
abbrev S1x4x64 : Shape := ⟨3, ![1, 4, 64]⟩
abbrev S36x256x1024 : Shape := ⟨3, ![36, 256, 1024]⟩
abbrev S36x1x1024 : Shape := ⟨3, ![36, 1, 1024]⟩
abbrev S9216 : Shape := ⟨1, ![9216]⟩
abbrev S9216x1 : Shape := ⟨2, ![9216, 1]⟩

abbrev nBuf : Space → Nat
  | .hbm => 118
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S9216x256, .f32⟩
  | .hbm, ⟨2, _⟩ => ⟨S9216x256, .f32⟩
  | .hbm, ⟨3, _⟩ => ⟨S9216x256, .f32⟩
  | .hbm, ⟨4, _⟩ => ⟨S9216x512, .f32⟩
  | .hbm, ⟨5, _⟩ => ⟨S9216x2048, .f32⟩
  | .hbm, ⟨6, _⟩ => ⟨S9216x1024, .f32⟩
  | .hbm, ⟨7, _⟩ => ⟨S36x8x1024, .f32⟩
  | .hbm, ⟨8, _⟩ => ⟨S1x256, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S9216x256, .f32⟩
  | .hbm, ⟨13, _⟩ => ⟨S9216x4x64, .f32⟩
  | .hbm, ⟨14, _⟩ => ⟨S9216x4x64, .f32⟩
  | .hbm, ⟨15, _⟩ => ⟨S_, .f32⟩
  | .hbm, ⟨16, _⟩ => ⟨S9216x4, .f32⟩
  | .hbm, ⟨17, _⟩ => ⟨S9216x4x1, .f32⟩
  | .hbm, ⟨18, _⟩ => ⟨S_, .f32⟩
  | .hbm, ⟨19, _⟩ => ⟨S9216x4x1, .f32⟩
  | .hbm, ⟨20, _⟩ => ⟨S9216x4x1, .f32⟩
  | .hbm, ⟨21, _⟩ => ⟨S_, .f32⟩
  | .hbm, ⟨22, _⟩ => ⟨S9216x4x1, .f32⟩
  | .hbm, ⟨23, _⟩ => ⟨S9216x4x1, .f32⟩
  | .hbm, ⟨24, _⟩ => ⟨S9216x4x1, .f32⟩
  | .hbm, ⟨25, _⟩ => ⟨S9216x4x64, .f32⟩
  | .hbm, ⟨26, _⟩ => ⟨S9216x4x64, .f32⟩
  | .hbm, ⟨27, _⟩ => ⟨S4x64, .f32⟩
  | .hbm, ⟨28, _⟩ => ⟨S1x4x64, .f32⟩
  | .hbm, ⟨29, _⟩ => ⟨S9216x4x64, .f32⟩
  | .hbm, ⟨30, _⟩ => ⟨S9216x4x64, .f32⟩
  | .hbm, ⟨31, _⟩ => ⟨S9216x256, .f32⟩
  | .hbm, ⟨32, _⟩ => ⟨S9216x4x64, .f32⟩
  | .hbm, ⟨33, _⟩ => ⟨S_, .f32⟩
  | .hbm, ⟨34, _⟩ => ⟨S9216x4, .f32⟩
  | .hbm, ⟨35, _⟩ => ⟨S9216x4x1, .f32⟩
  | .hbm, ⟨36, _⟩ => ⟨S_, .f32⟩
  | .hbm, ⟨37, _⟩ => ⟨S9216x4x1, .f32⟩
  | .hbm, ⟨38, _⟩ => ⟨S9216x4x1, .f32⟩
  | .hbm, ⟨39, _⟩ => ⟨S9216x4x64, .f32⟩
  | .hbm, ⟨40, _⟩ => ⟨S9216x4x64, .f32⟩
  | .hbm, ⟨41, _⟩ => ⟨S9216x4x64, .f32⟩
  | .hbm, ⟨42, _⟩ => ⟨S_, .f32⟩
  | .hbm, ⟨43, _⟩ => ⟨S9216x4, .f32⟩
  | .hbm, ⟨44, _⟩ => ⟨S9216x4x1, .f32⟩
  | .hbm, ⟨45, _⟩ => ⟨S_, .f32⟩
  | .hbm, ⟨46, _⟩ => ⟨S9216x4x1, .f32⟩
  | .hbm, ⟨47, _⟩ => ⟨S9216x4x1, .f32⟩
  | .hbm, ⟨48, _⟩ => ⟨S_, .f32⟩
  | .hbm, ⟨49, _⟩ => ⟨S9216x4x1, .f32⟩
  | .hbm, ⟨50, _⟩ => ⟨S9216x4x1, .f32⟩
  | .hbm, ⟨51, _⟩ => ⟨S9216x4x1, .f32⟩
  | .hbm, ⟨52, _⟩ => ⟨S9216x4x64, .f32⟩
  | .hbm, ⟨53, _⟩ => ⟨S9216x4x64, .f32⟩
  | .hbm, ⟨54, _⟩ => ⟨S9216x256, .f32⟩
  | .hbm, ⟨55, _⟩ => ⟨S9216x256, .f32⟩
  | .hbm, ⟨56, _⟩ => ⟨S9216x256, .f32⟩
  | .hbm, ⟨57, _⟩ => ⟨S_, .f32⟩
  | .hbm, ⟨58, _⟩ => ⟨S9216x256, .f32⟩
  | .hbm, ⟨59, _⟩ => ⟨S9216x256, .f32⟩
  | .hbm, ⟨60, _⟩ => ⟨S_, .f32⟩
  | .hbm, ⟨61, _⟩ => ⟨S9216x256, .f32⟩
  | .hbm, ⟨62, _⟩ => ⟨S9216x256, .f32⟩
  | .hbm, ⟨63, _⟩ => ⟨S9216x256, .f32⟩
  | .hbm, ⟨64, _⟩ => ⟨S9216x4x64, .f32⟩
  | .hbm, ⟨65, _⟩ => ⟨S9216x4x64, .f32⟩
  | .hbm, ⟨66, _⟩ => ⟨S9216x256, .f32⟩
  | .hbm, ⟨67, _⟩ => ⟨S9216x256, .f32⟩
  | .hbm, ⟨68, _⟩ => ⟨S9216x256, .f32⟩
  | .hbm, ⟨69, _⟩ => ⟨S9216x256, .f32⟩
  | .hbm, ⟨70, _⟩ => ⟨S_, .f32⟩
  | .hbm, ⟨71, _⟩ => ⟨S9216x256, .f32⟩
  | .hbm, ⟨72, _⟩ => ⟨S9216x256, .f32⟩
  | .hbm, ⟨73, _⟩ => ⟨S_, .f32⟩
  | .hbm, ⟨74, _⟩ => ⟨S9216x256, .f32⟩
  | .hbm, ⟨75, _⟩ => ⟨S9216x256, .f32⟩
  | .hbm, ⟨76, _⟩ => ⟨S9216x256, .f32⟩
  | .hbm, ⟨77, _⟩ => ⟨S9216x4x64, .f32⟩
  | .hbm, ⟨78, _⟩ => ⟨S9216x4x64, .f32⟩
  | .hbm, ⟨79, _⟩ => ⟨S9216x256, .f32⟩
  | .hbm, ⟨80, _⟩ => ⟨S9216x1024, .f32⟩
  | .hbm, ⟨81, _⟩ => ⟨S1024x1024, .f32⟩
  | .hbm, ⟨82, _⟩ => ⟨S9216x1024, .f32⟩
  | .hbm, ⟨83, _⟩ => ⟨S36x256x1024, .f32⟩
  | .hbm, ⟨84, _⟩ => ⟨S_, .f32⟩
  | .hbm, ⟨85, _⟩ => ⟨S36x256x1024, .f32⟩
  | .hbm, ⟨86, _⟩ => ⟨S36x256x1024, .f32⟩
  | .hbm, ⟨87, _⟩ => ⟨S36x1x1024, .f32⟩
  | .hbm, ⟨88, _⟩ => ⟨S36x256x1024, .f32⟩
  | .hbm, ⟨89, _⟩ => ⟨S36x256x1024, .f32⟩
  | .hbm, ⟨90, _⟩ => ⟨S36x256x1024, .f32⟩
  | .hbm, ⟨91, _⟩ => ⟨S36x256x1024, .f32⟩
  | .hbm, ⟨92, _⟩ => ⟨S9216x1024, .f32⟩
  | .hbm, ⟨93, _⟩ => ⟨S_, .f32⟩
  | .hbm, ⟨94, _⟩ => ⟨S9216, .f32⟩
  | .hbm, ⟨95, _⟩ => ⟨S9216x1, .f32⟩
  | .hbm, ⟨96, _⟩ => ⟨S_, .f32⟩
  | .hbm, ⟨97, _⟩ => ⟨S9216x1, .f32⟩
  | .hbm, ⟨98, _⟩ => ⟨S9216x1, .f32⟩
  | .hbm, ⟨99, _⟩ => ⟨S9216x1024, .f32⟩
  | .hbm, ⟨100, _⟩ => ⟨S9216x1024, .f32⟩
  | .hbm, ⟨101, _⟩ => ⟨S9216x1024, .f32⟩
  | .hbm, ⟨102, _⟩ => ⟨S_, .f32⟩
  | .hbm, ⟨103, _⟩ => ⟨S9216, .f32⟩
  | .hbm, ⟨104, _⟩ => ⟨S9216x1, .f32⟩
  | .hbm, ⟨105, _⟩ => ⟨S_, .f32⟩
  | .hbm, ⟨106, _⟩ => ⟨S9216x1, .f32⟩
  | .hbm, ⟨107, _⟩ => ⟨S9216x1, .f32⟩
  | .hbm, ⟨108, _⟩ => ⟨S_, .f32⟩
  | .hbm, ⟨109, _⟩ => ⟨S9216x1, .f32⟩
  | .hbm, ⟨110, _⟩ => ⟨S9216x1, .f32⟩
  | .hbm, ⟨111, _⟩ => ⟨S9216x1, .f32⟩
  | .hbm, ⟨112, _⟩ => ⟨S9216x1024, .f32⟩
  | .hbm, ⟨113, _⟩ => ⟨S9216x1024, .f32⟩
  | .hbm, ⟨114, _⟩ => ⟨S9216x1024, .f32⟩
  | .hbm, ⟨115, _⟩ => ⟨S9216x1024, .f32⟩
  | .hbm, ⟨116, _⟩ => ⟨S9216x1024, .f32⟩
  | .hbm, ⟨117, _⟩ => ⟨S9216x1024, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== Proof.OneShot.lean ====
/-
# Cells that one transfer raises once

Every semaphore of the two exchanges is raised by ONE transfer, in full, and waited for once. The schedule of such a
family of cells is one duty in round 0; what differs between the kernels is the PAYLOAD, that is which part of which
array, at which contents, the wait hands back. This file states that schedule for any payload, allocates its cells from
the semaphores at zero, and states the three steps a kernel makes with them: a copy on the device, a copy to another
device, a wait.
-/
module

public import Idealize.ShloMosaic.Lib.Pipeline.Launch
public import Idealize.ShloMosaic.Lib.Pipeline.Kit
public import Idealize.ShloMosaic.Lib.Tactic

@[expose] public section

noncomputable section

namespace Cert.OneShot

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}

abbrev UU (nD : Nat) (τ : Topo) (sig : RefSig) : Type := URounds (GSem nD τ sig) Unit

local notation "𝕄" => MT nD τ sig Unit Val ℕ (UU nD τ sig) ℕ

/-- Where the cells' ghost state lives. -/
def E : Emb (UU nD τ sig) (MT nD τ sig Unit Val ℕ (UU nD τ sig) ℕ) :=
  (uEmb (nD := nD) (τ := τ) (sig := sig) (Ix := Unit) (Val := Val) (Name := ℕ) (U := UU nD τ sig) (Lvl := ℕ)).toEmb
instance E_landsIn : (E (nD := nD) (τ := τ) (sig := sig) (Val := Val)).LandsIn (upEmb : UEmb _ 𝕄) := by unfold E; infer_instance

variable {K : Type} [Fintype K] [DecidableEq K] (osem : K → SemLoc sig)

/-- Cell `k` of device `c`. -/
abbrev kcell (ck : Dev nD × K) : GSem nD τ sig := ((ck.1.tc : Thread nD τ), osem ck.2)

variable (hinj : Function.Injective osem) (Pay : Dev nD → K → sProp (MT nD τ sig Unit Val ℕ (UU nD τ sig) ℕ))
  (hst : ∀ c k, BI.Storable (upEmb : UEmb _ (MT nD τ sig Unit Val ℕ (UU nD τ sig) ℕ)) (Pay c k)) (N : ℕ) (hN : 0 < N)

open Classical in
/-- The schedule: one duty of `N` units in round 0 of each cell, which hands its owner `Pay c k`. -/
def sched : Rounds.Schedule (GSem nD τ sig) Unit 𝕄 where
  duties g r := if r = 0 ∧ g.1.2 = .tc ∧ g.2 ∈ Set.range osem then {()} else ∅
  unitless _ := False
  amount _ _ _ := N
  payload g _ _ := if h : g.2 ∈ Set.range osem then Pay g.1.1 h.choose else iprop(emp)
  amount_pos _ _ _ _ := hN

include hst in
theorem sched_storable (g : GSem nD τ sig) (r : ℕ) (d : Unit) : BI.Storable (upEmb : UEmb _ 𝕄) ((sched osem Pay N hN).payload g r d) := by
  dsimp only [sched]
  split
  · exact hst _ _
  · infer_instance

theorem duties_zero (c : Dev nD) (k : K) : (sched osem Pay N hN).duties (kcell osem (c, k)) 0 = {()} := by
  dsimp only [sched]; exact if_pos ⟨rfl, rfl, k, rfl⟩

theorem duties_later (g : GSem nD τ sig) : ∀ r, 1 ≤ r → (sched osem Pay N hN).duties g r = ∅ :=
  fun r hr => by dsimp only [sched]; exact if_neg fun h => by omega

include hinj in
theorem payload_eq (c : Dev nD) (k : K) (u : Unit) : (sched osem Pay N hN).payload (kcell osem (c, k)) 0 u = Pay c k := by
  dsimp only [sched]
  have h : osem k ∈ Set.range osem := ⟨k, rfl⟩
  rw [dif_pos h, hinj h.choose_spec]

theorem expect_zero (c : Dev nD) (k : K) : (sched osem Pay N hN).expect (kcell osem (c, k)) 0 = N := by
  unfold Schedule.expect Schedule.amountOf
  rw [duties_zero, Finset.sum_singleton]; rfl

include hinj in
theorem rest_eq (c : Dev nD) (k : K) :
    bigSep ((sched osem Pay N hN).duties (kcell osem (c, k)) 0 \ ∅) (fun u => (sched osem Pay N hN).payload (kcell osem (c, k)) 0 u) = Pay c k := by
  rw [Finset.sdiff_empty, duties_zero, bigSep_singleton, payload_eq osem hinj]

include hinj in
theorem kcell_injective : Function.Injective (kcell (nD := nD) (τ := τ) osem) := by
  rintro ⟨c, k⟩ ⟨c', k'⟩ h
  have h1 : c = c' := congrArg (fun g : GSem nD τ sig => g.1.1) h
  have h2 : k = k' := hinj (congrArg Prod.snd h)
  rw [h1, h2]

/-! ## The cells at launch -/

def cells : Finset (GSem nD τ sig) := Finset.univ.map ⟨kcell (nD := nD) (τ := τ) osem, kcell_injective osem hinj⟩
def toks : Finset (GSem nD τ sig × ℕ × Unit) :=
  Finset.univ.map ⟨fun ck : Dev nD × K => (kcell (nD := nD) (τ := τ) osem ck, 0, ()), fun _ _ h => kcell_injective osem hinj (congrArg Prod.fst h)⟩

/-- The launch element: every cell's round state and every duty's token. -/
def u₀ : UU nD τ sig := initOf (cells osem hinj) (toks osem hinj)

/-- What is known of all the cells for good: each cell's invariant, and that its round 0 is reached. -/
def records (κ : Dev nD × K → ℕ) : sProp 𝕄 :=
  iprop((bigSep Finset.univ fun ck : Dev nD × K => (cellInv E (sched osem Pay N hN) (κ ck) (kcell osem ck) : sProp 𝕄))
    ∗ bigSep Finset.univ fun ck : Dev nD × K => (reached E (kcell osem ck) 0 : sProp 𝕄))
instance records_persistent (κ : Dev nD × K → ℕ) : BI.Persistent (records (τ := τ) osem Pay N hN κ) := by unfold records; infer_instance

theorem rec_inv (κ : Dev nD × K → ℕ) (ck : Dev nD × K) :
    (records osem Pay N hN κ : sProp 𝕄) ⊢ cellInv E (sched osem Pay N hN) (κ ck) (kcell osem ck) := by
  unfold records
  iintro ⟨H, -⟩
  iapply (show (bigSep Finset.univ fun ck : Dev nD × K => cellInv E (sched osem Pay N hN) (κ ck) (kcell osem ck) : sProp 𝕄) ⊢ _ from
    bigSep_elim (Finset.mem_univ ck))
  iexact H

theorem rec_reached (κ : Dev nD × K → ℕ) (ck : Dev nD × K) :
    (records osem Pay N hN κ : sProp 𝕄) ⊢ reached E (kcell osem ck) 0 := by
  unfold records
  iintro ⟨-, H⟩
  iapply (show (bigSep Finset.univ fun ck : Dev nD × K => reached E (kcell osem ck) 0 : sProp 𝕄) ⊢ _ from
    bigSep_elim (Finset.mem_univ ck))
  iexact H

include hst in
/-- All the cells allocated from the semaphores at zero and the launch element: the records, every cell's owner at the
    start of round 0, every duty's token. -/
theorem alloc :
    iprop((bigSep Finset.univ fun c : Dev nD => ownSems0 (Ix := Unit) (Name := ℕ) (U := UU nD τ sig) (Lvl := ℕ) (Val := Val) (τ := τ) osem c)
        ∗ ownU (u₀ osem hinj))
      ⊢ (|={Set.univ}=> iprop(∃ κ : Dev nD × K → ℕ, records osem Pay N hN κ
          ∗ (bigSep Finset.univ fun ck : Dev nD × K => atPos E (kcell osem ck) 0 ∅ 0)
          ∗ bigSep Finset.univ fun ck : Dev nD × K => dutyTok E (kcell osem ck) 0 ()) : sProp 𝕄) := by
  have hS := sched_storable osem Pay hst N hN
  have hX (Φ : GSem nD τ sig → sProp 𝕄) : bigSep (cells osem hinj) Φ = bigSep Finset.univ fun ck : Dev nD × K => Φ (kcell osem ck) := by
    unfold cells; rw [bigSep_map]; rfl
  have hT : bigSep (toks osem hinj) (fun x => (dutyTok E x.1 x.2.1 x.2.2 : sProp 𝕄)) = bigSep Finset.univ fun ck : Dev nD × K => dutyTok E (kcell osem ck) 0 () := by
    unfold toks; rw [bigSep_map]; rfl
  have hsem : (bigSep Finset.univ fun c : Dev nD => ownSems0 (Ix := Unit) (Name := ℕ) (U := UU nD τ sig) (Lvl := ℕ) (Val := Val) (τ := τ) osem c)
      = (bigSep Finset.univ fun ck : Dev nD × K => semVal (kcell (τ := τ) osem ck) 0 : sProp 𝕄) := by
    rw [bigSep_univ_prod]; rfl
  have hinv : iprop((bigSep Finset.univ fun ck : Dev nD × K => semVal (kcell (τ := τ) osem ck) 0)
        ∗ bigSep Finset.univ fun ck : Dev nD × K => roundState E (sched osem Pay N hN) (kcell osem ck) 0)
      ⊢ (|={Set.univ}=> bigSep Finset.univ fun ck : Dev nD × K => iprop(∃ κ : ℕ, cellInv E (sched osem Pay N hN) κ (kcell osem ck)) : sProp 𝕄) := by
    rw [← bigSep_sep']
    exact (bigSep_mono fun ck _ => (Rounds.body_intro E (sched osem Pay N hN) (kcell osem ck)).trans inv_alloc).trans (bigSep_fupd _ _)
  have hfund := Rounds.fund (E (nD := nD) (τ := τ) (sig := sig) (Val := Val)) (sched osem Pay N hN) (cells osem hinj) (toks osem hinj)
  rw [hX, hX, hX, hT] at hfund
  rw [hsem]
  iintro ⟨Hv, Hu⟩
  ihave Hu' := (show ownU (u₀ osem hinj) ⊢ (BI.own (E (initOf (cells osem hinj) (toks osem hinj))) : sProp 𝕄) from BI.Entails.refl _) $$ Hu
  imod hfund $$ Hu' with ⟨Hst, Hr, Hat, Htok⟩
  imod hinv $$ [Hv Hst] with HI
  · isplitl [Hv] <;> iassumption
  ihave HK := (BI.bigSep_exists_pi Finset.univ (fun (ck : Dev nD × K) (κ : ℕ) => (cellInv E (sched osem Pay N hN) κ (kcell osem ck) : sProp 𝕄))) $$ HI
  icases HK with ⟨%κ, HI⟩
  imodintro
  iexists κ
  isplitl [HI Hr]; · unfold records; isplitl [HI] <;> iassumption
  isplitl [Hat] <;> iassumption

/-! ## The steps -/

section Steps

variable {Λ : Labels} {defs : Defs nD τ sig Val Λ} (𝒱 : Variants) (κ : Dev nD × K → ℕ)
  {α : Type} {Q : α → sProp (MT nD τ sig Unit Val ℕ (UU nD τ sig) ℕ)} {sp sp' : Space} {s : Shape} {e : EltTy}

include hinj in
/-- A copy on device `c` that raises its cell `k`. -/
theorem wp_copy (c : Dev nD) (k : K) {src : Memref sig (c.tc : Thread nD τ).2.kind sp s e} {dst : Memref sig (c.tc : Thread nD τ).2.kind sp' s e} {sem : SemLoc sig}
    {hsrc : src.view.WordExact} {hdst : dst.view.WordExact} {hsem : DmaTarget.Typed (nD := nD) sp sem (.here dst)}
    {kont : PUnit → Prog (TpuEff nD τ sig Val Λ (c.tc : Thread nD τ).2) α} {q : PosShare TreeShare}
    {fs : Buf Val (src.view.loc (c.tc : Thread nD τ))} {fd : Buf Val (dst.view.loc (c.tc : Thread nD τ))}
    (hk : sem = osem k) (hamt : dst.view.amount sem = N)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ Pay c k) :
    iprop(records osem Pay N hN κ ∗ (src.view.loc (c.tc : Thread nD τ) ↦[src.view.set]{q} fs) ∗ (dst.view.loc (c.tc : Thread nD τ) ↦[dst.view.set]{fullShare} fd)
        ∗ dutyTok E (kcell osem (c, k)) 0 ())
      ⊢ iprop((cred (tallyAt (kcell osem (c, k)) () N) -∗ wp frame (wpE defs 𝒱 (c.tc : Thread nD τ) none) Set.univ (kont ⟨⟩) Q)
          -∗ wp frame (wpE defs 𝒱 (c.tc : Thread nD τ) none) Set.univ (.op (.enqueueDma src (.here dst) sem hsrc hdst hsem) kont) Q) := by
  subst hk
  have h := Rounds.wp_copy_pointsTo (defs := defs) (Γ := PendingWaitsCtx.empty) (Q := Q) 𝒱 E (sched osem Pay N hN) (c.tc : Thread nD τ) none (src := src) (dst := dst) (sem := osem k) (hsrc := hsrc) (hdst := hdst) (hsem := hsem) (k := kont)
    (κ := κ (c, k)) (q := q) (fs := fs) (fd := fd) (r := 0) (d := ())
    (by rw [duties_zero]; exact Finset.mem_singleton_self _) () N hamt rfl (by rw [payload_eq osem hinj]; exact hpay) (Es := Set.univ)
  iintro ⟨#HR, Hs, Hd, Ht⟩
  iapply h
  isplitr; · iapply (rec_inv osem Pay N hN κ (c, k)); iexact HR
  isplitl [Hs]; · iexact Hs
  isplitl [Hd]; · iexact Hd
  isplitl [Ht]; · iexact Ht
  iapply (rec_reached osem Pay N hN κ (c, k)); iexact HR

include hinj in
/-- A copy from device `c` to device `c'` that raises `c`'s cell `k` when it has left and the cell `k'` of `c'` when it
    has landed: the sender pays the landing off what it owes. -/
theorem wp_send (c c' n : Dev nD) (hn : n = c') (k k' : K) {src : Memref sig (c.tc : Thread nD τ).2.kind sp s e} {dst : Memref sig (n.tc : Thread nD τ).2.kind sp' s e}
    {hsc : dst.view.ref.isScScratch = false} {sS sem : SemLoc sig}
    {hsrc : src.view.WordExact} {hdst : dst.view.WordExact} {hsem : DmaTarget.Typed sp sem (.remote (Dev.tc n : Thread nD τ) dst sS hsc)}
    {kont : PUnit → Prog (TpuEff nD τ sig Val Λ (c.tc : Thread nD τ).2) α} {q : PosShare TreeShare}
    {fs : Buf Val (src.view.loc (c.tc : Thread nD τ))} {fd : Buf Val (dst.view.loc (n.tc : Thread nD τ))}
    (hk : sS = osem k) (hk' : sem = osem k') (hamt : dst.view.amount sem = N)
    {O₀ : CellTallies nD τ sig Unit} (O : CellTallies nD τ sig Unit) (hO : O₀ = O + tallyAt (kcell osem (c', k')) () N) {W : Waits sig Unit}
    (hpay : (src.view.loc (c.tc : Thread nD τ) ↦[src.view.set]{q} fs) ⊢ Pay c k)
    (hpay' : (dst.view.loc (n.tc : Thread nD τ) ↦[dst.view.set]{fullShare} (dst.view.write Val fd (src.view.read Val fs) Finset.univ)) ⊢ Pay c' k')
    (hr : τ.routes (c.tc : Thread nD τ) (n.tc : Thread nD τ) = true := by routes) :
    iprop(records osem Pay N hN κ ∗ (src.view.loc (c.tc : Thread nD τ) ↦[src.view.set]{q} fs) ∗ (dst.view.loc (n.tc : Thread nD τ) ↦[dst.view.set]{fullShare} fd)
        ∗ owes (c.tc : Thread nD τ) O₀ W ∗ dutyTok E (kcell osem (c, k)) 0 () ∗ dutyTok E (kcell osem (c', k')) 0 ())
      ⊢ iprop(((cred (tallyAt (kcell osem (c, k)) () N) ∗ owes (c.tc : Thread nD τ) O W)
            -∗ wp frame (wpE defs 𝒱 (c.tc : Thread nD τ) none) Set.univ (kont ⟨⟩) Q)
          -∗ wp frame (wpE defs 𝒱 (c.tc : Thread nD τ) none) Set.univ
              (.op (.enqueueDma src (.remote (Dev.tc n : Thread nD τ) dst sS hsc) sem hsrc hdst hsem) kont) Q) := by
  subst hk hk' hn
  have h := Rounds.wp_send_pointsTo (defs := defs) (Γ := PendingWaitsCtx.empty) (Q := Q) 𝒱 E (sched osem Pay N hN) (c.tc : Thread nD τ) none (c' := (n.tc : Thread nD τ)) (src := src) (dst := dst) (hsc := hsc) (sS := osem k) (sem := osem k')
    (hsrc := hsrc) (hdst := hdst) (hsem := hsem) (k := kont)
    (κ₁ := κ (c, k)) (κ₂ := κ (n, k')) (q := q) (fs := fs) (fd := fd) (r₁ := 0) (r₂ := 0) (d₁ := ()) (d₂ := ())
    (by rw [duties_zero]; exact Finset.mem_singleton_self _) (by rw [duties_zero]; exact Finset.mem_singleton_self _) () () N hamt rfl rfl O hO (W := W)
    (by rw [payload_eq osem hinj]; exact hpay) (by rw [payload_eq osem hinj]; exact hpay') (Es := Set.univ) hr
  iintro ⟨#HR, Hs, Hd, HO, Ht, Ht'⟩
  iapply h
  isplitr; · iapply (rec_inv osem Pay N hN κ (c, k)); iexact HR
  isplitr; · iapply (rec_inv osem Pay N hN κ (n, k')); iexact HR
  isplitl [Hs]; · iexact Hs
  isplitl [Hd]; · iexact Hd
  isplitl [HO]; · iexact HO
  isplitl [Ht]; · iexact Ht
  isplitr; · iapply (rec_reached osem Pay N hN κ (c, k)); iexact HR
  isplitl [Ht']; · iexact Ht'
  iapply (rec_reached osem Pay N hN κ (n, k')); iexact HR

include hinj in
/-- Device `c`'s wait for its cell `k`: the payload, and the cell closed with its counter at zero. -/
theorem wp_wait (c : Dev nD) (k : K) {s' : Shape} {e' : EltTy} {sem : DmaSem sig} {src : Memref sig (c.tc : Thread nD τ).2.kind sp' s' e'} {dst : Memref sig (c.tc : Thread nD τ).2.kind sp s e}
    {hsrc : src.view.WordExact} {hdst : dst.view.WordExact}
    {kont : PUnit → Prog (TpuEff nD τ sig Val Λ (c.tc : Thread nD τ).2) α} (hk : SemLoc.dma sem = osem k) (hamt : dst.view.dmaCredit = N)
    {O : CellTallies nD τ sig Unit} {W : Waits sig Unit} :
    iprop(records osem Pay N hN κ ∗ cred (tallyAt (kcell osem (c, k)) () N) ∗ owes (c.tc : Thread nD τ) O W
        ∗ MayWait (c.tc : Thread nD τ) (osem k) () O ∗ atPos E (kcell osem (c, k)) 0 ∅ 0)
      ⊢ iprop(((owes (c.tc : Thread nD τ) O (insert (osem k, ()) W) ∗ semVal (kcell osem (c, k)) 0 ∗ Pay c k)
            -∗ wp frame (wpE defs 𝒱 (c.tc : Thread nD τ) none) Set.univ (kont ⟨⟩) Q)
          -∗ wp frame (wpE defs 𝒱 (c.tc : Thread nD τ) none) Set.univ (.op (.waitDma2 sem src dst hsrc hdst) kont) Q) := by
  have h := Rounds.wp_wait_rest_token (Q := Q) 𝒱 E (sched osem Pay N hN) (c.tc : Thread nD τ) none (κ := κ (c, k)) (k := kont)
    (wpE_waitDma2_eq (defs := defs) (sem := sem) (src := src) (dst := dst) (hsrc := hsrc) (hdst := hdst) 𝒱 (c.tc : Thread nD τ) none Set.univ) (Set.mem_univ _) () (O := O) (W := W) (R := 0) (m := 0) (T := ∅)
    (by rw [Nat.zero_add, hamt, hk, expect_zero])
  rw [hk, hamt, rest_eq osem hinj] at h
  iintro ⟨#HR, Hc, HO, Hm, Hat⟩ Hk
  iapply h $$ [Hc HO Hm Hat]
  · isplitr; · iapply (rec_inv osem Pay N hN κ (c, k)); iexact HR
    isplitl [Hc]; · iexact Hc
    isplitl [HO]; · iexact HO
    isplitl [Hm] <;> iassumption
  iintro ⟨HO, Hat, -, Hp⟩
  iapply (fupd_wp frame (wpE defs 𝒱 (c.tc : Thread nD τ) none) Set.univ _ _)
  imod (Rounds.cell_close E (sched osem Pay N hN) (Set.mem_univ (κ (c, k))) (fun h => h) (R := 0 + 1) (duties_later osem Pay N hN (kcell osem (c, k)))) $$ [Hat] with Hz
  · isplitr; · iapply (rec_inv osem Pay N hN κ (c, k)); iexact HR
    iexact Hat
  imodintro
  iapply Hk
  isplitl [HO]; · iexact HO
  isplitl [Hz] <;> iassumption

end Steps

end Cert.OneShot
end
-- ==== Proof.Rows.lean ====
/-
# Fifteen one-transfer cells: seven sends, seven landings, a copy

Both exchanges give every device the same fifteen DMA semaphores: cell `snd j` is raised when send `j` has left, cell
`rcv j` when the block another device sends with ITS send `j` has landed here, the last one by the copy of the device's own
block. Send `j` of device `c` goes to `dest c j`, and `dest · j` is its own inverse. This file deals the launch out (each
device gets the tokens of its own sends, of the landings it causes and of its copy, and credit for the landings it waits
for) and states a RUN of sends and a RUN of waits one step at a time.
-/
module

public import proofs.«01_k».proof.Proof.OneShot
public import Idealize.ShloMosaic.Lib.SparseCore.ProtocolKit

@[expose] public section

noncomputable section

namespace Cert.OneShot

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.SparseCore.ProtocolKit

variable {nD : Nat} {τ : Topo} {sig : RefSig} {Val : EltTy → Type}

local notation "𝕄" => MT nD τ sig Unit Val ℕ (UU nD τ sig) ℕ

/-- The cell send `j` raises on its own device. -/
def snd (j : Fin 7) : Fin 15 := ⟨j.val, by omega⟩
/-- The cell the landing of a send `j` raises. -/
def rcv (j : Fin 7) : Fin 15 := ⟨7 + j.val, by omega⟩
/-- The cell of the copy. -/
def loc15 : Fin 15 := 14

theorem snd_inj : Function.Injective snd := by decide
theorem rcv_inj : Function.Injective rcv := by decide

theorem univ15 : (Finset.univ : Finset (Fin 15)) = insert loc15 (Finset.univ.map ⟨snd, snd_inj⟩ ∪ Finset.univ.map ⟨rcv, rcv_inj⟩) := by decide

/-- The two orders of a double family. -/
theorem bigSep_swap {M : Type} [URA M] {A B : Type} [Fintype A] [Fintype B] (Φ : A → B → sProp M) :
    (bigSep Finset.univ fun a => bigSep Finset.univ fun b => Φ a b) = bigSep Finset.univ fun b => bigSep Finset.univ fun a => Φ a b := by
  rw [← bigSep_univ_prod fun p : A × B => Φ p.1 p.2, ← bigSep_univ_prod fun p : B × A => Φ p.2 p.1]
  exact bigSep_univ_equiv (Equiv.prodComm B A) _

/-- A family over the fifteen cells: the sends', the landings', the copy's. -/
theorem bigSep15 (Φ : Fin 15 → sProp 𝕄) :
    bigSep Finset.univ Φ = iprop((bigSep Finset.univ fun j => Φ (snd j)) ∗ (bigSep Finset.univ fun j => Φ (rcv j)) ∗ Φ loc15) := by
  rw [univ15, SparseCore.bigSep_insert' (by decide), SparseCore.bigSep_union' (by decide), bigSep_map, bigSep_map]
  have h1 : iprop(Φ loc15 ∗ (bigSep Finset.univ fun j => Φ (snd j)) ∗ bigSep Finset.univ fun j => Φ (rcv j))
      ⊢ iprop((bigSep Finset.univ fun j => Φ (snd j)) ∗ (bigSep Finset.univ fun j => Φ (rcv j)) ∗ Φ loc15) := by
    iintro ⟨H, H1, H2⟩; isplitl [H1]; · iexact H1
    isplitl [H2] <;> iassumption
  have h2 : iprop((bigSep Finset.univ fun j => Φ (snd j)) ∗ (bigSep Finset.univ fun j => Φ (rcv j)) ∗ Φ loc15)
      ⊢ iprop(Φ loc15 ∗ (bigSep Finset.univ fun j => Φ (snd j)) ∗ bigSep Finset.univ fun j => Φ (rcv j)) := by
    iintro ⟨H1, H2, H⟩; isplitl [H]; · iexact H
    isplitl [H1] <;> iassumption
  exact BI.Entails.antisymm h1 h2

variable (osem : Fin 15 → SemLoc sig) (hinj : Function.Injective osem) (dest : Dev nD → Fin 7 → Dev nD)
  (hdest : ∀ c j, dest (dest c j) j = c)
variable (Pay : Dev nD → Fin 15 → sProp (MT nD τ sig Unit Val ℕ (UU nD τ sig) ℕ)) (N : ℕ) (hN : 0 < N)

/-! ## The launch -/

/-- What device `c` starts with: the owner's side of its cells, the tokens of the transfers it starts. -/
def ghost (c : Dev nD) : sProp 𝕄 :=
  iprop((bigSep Finset.univ fun k : Fin 15 => atPos E (kcell osem (c, k)) 0 ∅ 0)
    ∗ (bigSep Finset.univ fun j : Fin 7 => iprop(dutyTok E (kcell osem (c, snd j)) 0 () ∗ dutyTok E (kcell osem (dest c j, rcv j)) 0 ()))
    ∗ dutyTok E (kcell osem (c, loc15)) 0 ())

include hdest in
/-- Every cell's owner and every duty's token, dealt to the devices that use them. -/
theorem deal :
    iprop((bigSep Finset.univ fun ck : Dev nD × Fin 15 => atPos E (kcell osem ck) 0 ∅ 0)
        ∗ bigSep Finset.univ fun ck : Dev nD × Fin 15 => dutyTok E (kcell osem ck) 0 ())
      ⊢ (bigSep Finset.univ fun c : Dev nD => ghost osem dest c : sProp 𝕄) := by
  have hsw : (bigSep Finset.univ fun c : Dev nD => bigSep Finset.univ fun j : Fin 7 => (dutyTok E (kcell osem (c, rcv j)) 0 () : sProp 𝕄))
      = bigSep Finset.univ fun c : Dev nD => bigSep Finset.univ fun j : Fin 7 => dutyTok E (kcell osem (dest c j, rcv j)) 0 () := by
    rw [bigSep_swap, bigSep_swap fun (c : Dev nD) (j : Fin 7) => (dutyTok E (kcell osem (dest c j, rcv j)) 0 () : sProp 𝕄)]
    refine bigSep_congr fun j _ => ?_
    exact bigSep_univ_equiv (⟨fun c => dest c j, fun c => dest c j, fun c => hdest c j, fun c => hdest c j⟩ : Dev nD ≃ Dev nD) _
  have ht : (bigSep Finset.univ fun ck : Dev nD × Fin 15 => (dutyTok E (kcell osem ck) 0 () : sProp 𝕄))
      = iprop((bigSep Finset.univ fun c : Dev nD => bigSep Finset.univ fun j : Fin 7 => dutyTok E (kcell osem (c, snd j)) 0 ())
        ∗ (bigSep Finset.univ fun c : Dev nD => bigSep Finset.univ fun j : Fin 7 => dutyTok E (kcell osem (dest c j, rcv j)) 0 ())
        ∗ bigSep Finset.univ fun c : Dev nD => dutyTok E (kcell osem (c, loc15)) 0 ()) := by
    rw [bigSep_univ_prod, bigSep_congr fun c _ => bigSep15 _, bigSep_sep', bigSep_sep', hsw]
  have hg : (bigSep Finset.univ fun c : Dev nD => ghost osem dest c : sProp 𝕄)
      = iprop((bigSep Finset.univ fun c : Dev nD => bigSep Finset.univ fun k : Fin 15 => atPos E (kcell osem (c, k)) 0 ∅ 0)
        ∗ ((bigSep Finset.univ fun c : Dev nD => bigSep Finset.univ fun j : Fin 7 => dutyTok E (kcell osem (c, snd j)) 0 ())
          ∗ (bigSep Finset.univ fun c : Dev nD => bigSep Finset.univ fun j : Fin 7 => dutyTok E (kcell osem (dest c j, rcv j)) 0 ()))
        ∗ bigSep Finset.univ fun c : Dev nD => dutyTok E (kcell osem (c, loc15)) 0 ()) := by
    unfold ghost
    rw [bigSep_sep', bigSep_sep', bigSep_congr fun c _ => bigSep_sep' _ _ _, bigSep_sep']
  rw [ht, hg, bigSep_univ_prod]
  iintro ⟨Ha, H1, H2, H3⟩
  isplitl [Ha]; · iexact Ha
  isplitl [H1 H2]
  · isplitl [H1] <;> iassumption
  iexact H3

/-- What device `c` still owes when sends `k`, `k + 1`, … are ahead: their landings. -/
def owed (c : Dev nD) (k : ℕ) : CellTallies nD τ sig Unit := ∑ j ∈ finFrom 7 k, tallyAt (kcell osem (dest c j, rcv j)) () N

theorem owed_succ (c : Dev nD) {k : ℕ} (hk : k < 7) :
    owed osem dest N c k = owed (τ := τ) osem dest N c (k + 1) + tallyAt (kcell osem (dest c ⟨k, hk⟩, rcv ⟨k, hk⟩)) () N := by
  unfold owed; exact sum_finFrom_succ hk _
theorem owed_done (c : Dev nD) : owed (τ := τ) osem dest N c 7 = 0 := by
  unfold owed; rw [finFrom_self, Finset.sum_empty]

include hinj hdest in
theorem owed_at (d c : Dev nD) (j : Fin 7) :
    owed (τ := τ) osem dest N d 0 (kcell osem (c, rcv j)) () = if d = dest c j then N else 0 := by
  unfold owed
  rw [finFrom_zero, Finset.sum_apply, Finsupp.finset_sum_apply, Finset.sum_eq_single j]
  · rw [tallyAt_apply]
    by_cases h : d = dest c j
    · subst h; rw [hdest, if_pos ⟨rfl, rfl⟩, if_pos rfl]
    · rw [if_neg h, if_neg]
      rintro ⟨h1, -⟩
      have h2 : c = dest d j := congrArg Prod.fst (kcell_injective (τ := τ) osem hinj h1)
      exact h (by rw [h2, hdest])
  · intro j' _ hj
    rw [tallyAt_apply, if_neg]
    rintro ⟨h1, -⟩
    exact hj (rcv_inj (congrArg Prod.snd (kcell_injective (τ := τ) osem hinj h1))).symm
  · intro h; exact absurd (Finset.mem_univ j) h

include hinj hdest in
/-- The launch credit of device `c` covers its seven landings. -/
theorem creds (c : Dev nD) :
    (launchCred (fun d => owed osem dest N d 0) c : sProp 𝕄) ⊢ bigSep Finset.univ fun j : Fin 7 => cred (tallyAt (kcell osem (c, rcv j)) () N) := by
  have hone (j : Fin 7) : tallyOn (kcell (τ := τ) osem (c, rcv j)) (launchCredit (Pipeline.owing fun d => owed (τ := τ) osem dest N d 0) 0 (kcell (τ := τ) osem (c, rcv j)))
      = (tallyAt (kcell osem (c, rcv j)) () N : CellTallies nD τ sig Unit) := by
    unfold tallyAt
    refine congrArg _ (Finsupp.ext fun u => ?_)
    cases u
    rw [Pipeline.launchCredit_owing, Finsupp.single_eq_same, Finset.sum_congr rfl fun d _ => owed_at osem hinj dest hdest N d c j,
      Finset.sum_ite_eq' Finset.univ (dest c j) fun _ => N, if_pos (Finset.mem_univ _)]
  have hsub : (bigSep (Finset.univ.map ⟨fun j : Fin 7 => osem (rcv j), fun _ _ h => rcv_inj (hinj h)⟩) fun sm : SemLoc sig =>
        (cred (tallyOn ((c.tc : Thread nD τ), sm) (launchCredit (Pipeline.owing fun d => owed osem dest N d 0) 0 ((c.tc : Thread nD τ), sm))) : sProp 𝕄))
      = bigSep Finset.univ fun j : Fin 7 => cred (tallyAt (kcell osem (c, rcv j)) () N) := by
    rw [bigSep_map]
    exact bigSep_congr fun j _ => congrArg cred (hone j)
  rw [← hsub]
  unfold Pipeline.launchCred
  rw [← Finset.union_sdiff_of_subset (Finset.subset_univ (Finset.univ.map ⟨fun j : Fin 7 => osem (rcv j), fun _ _ h => rcv_inj (hinj h)⟩)),
    SparseCore.bigSep_union' Finset.disjoint_sdiff]
  iintro ⟨H, -⟩
  iexact H

/-! ## A run of sends, a run of waits -/

section Steps

variable {Λ : Labels} {defs : Defs nD τ sig Val Λ} (𝒱 : Variants) (κ : Dev nD × Fin 15 → ℕ)
  {α : Type} {Q : α → sProp (MT nD τ sig Unit Val ℕ (UU nD τ sig) ℕ)} {sp sp' : Space} {s : Shape} {e : EltTy}

/-- Before send `k`: what the sends ahead need, `R j` and the tokens; credit for the ones started; what is owed. -/
def sending (R : Fin 7 → sProp (MT nD τ sig Unit Val ℕ (UU nD τ sig) ℕ)) (c : Dev nD) (k : ℕ) : sProp 𝕄 :=
  iprop((bigSep (finFrom 7 k) fun j => iprop(R j ∗ dutyTok E (kcell osem (c, snd j)) 0 () ∗ dutyTok E (kcell osem (dest c j, rcv j)) 0 ()))
    ∗ (bigSep (finUpTo 7 k) fun j => cred (tallyAt (kcell osem (c, snd j)) () N))
    ∗ ∃ W, owes (c.tc : Thread nD τ) (owed osem dest N c k) W)

/-- Before wait `k` of the waits for cells `f`: credit and the owner's side for the ones ahead, counter at zero and payload
    for the ones done, nothing owed. -/
def waiting {n : ℕ} (f : Fin n → Fin 15) (c : Dev nD) (k : ℕ) : sProp 𝕄 :=
  iprop((bigSep (finFrom n k) fun j => iprop(cred (tallyAt (kcell osem (c, f j)) () N) ∗ atPos E (kcell osem (c, f j)) 0 ∅ 0))
    ∗ (bigSep (finUpTo n k) fun j => iprop(semVal (kcell osem (c, f j)) 0 ∗ Pay c (f j)))
    ∗ ∃ W, owes (c.tc : Thread nD τ) 0 W)

include hinj in
/-- Send `k`, from `R k` and `X`. -/
theorem wp_send_row (R : Fin 7 → sProp (MT nD τ sig Unit Val ℕ (UU nD τ sig) ℕ)) (X : sProp (MT nD τ sig Unit Val ℕ (UU nD τ sig) ℕ))
    (c n : Dev nD) {k : ℕ} (hk : k < 7) (hn : n = dest c ⟨k, hk⟩)
    {src : Memref sig (c.tc : Thread nD τ).2.kind sp s e} {dst : Memref sig (n.tc : Thread nD τ).2.kind sp' s e}
    {hsc : dst.view.ref.isScScratch = false} {sS sem : SemLoc sig}
    {hsrc : src.view.WordExact} {hdst : dst.view.WordExact} {hsem : DmaTarget.Typed sp sem (.remote (Dev.tc n : Thread nD τ) dst sS hsc)}
    {kont : PUnit → Prog (TpuEff nD τ sig Val Λ (c.tc : Thread nD τ).2) α} {q : PosShare TreeShare}
    {fs : Buf Val (src.view.loc (c.tc : Thread nD τ))} {fd : Buf Val (dst.view.loc (n.tc : Thread nD τ))}
    (hS : sS = osem (snd ⟨k, hk⟩)) (hR : sem = osem (rcv ⟨k, hk⟩)) (hamt : dst.view.amount sem = N)
    (hX : iprop(X ∗ R ⟨k, hk⟩) ⊢ iprop((src.view.loc (c.tc : Thread nD τ) ↦[src.view.set]{q} fs) ∗ (dst.view.loc (n.tc : Thread nD τ) ↦[dst.view.set]{fullShare} fd)))
    (hpay : (src.view.loc (c.tc : Thread nD τ) ↦[src.view.set]{q} fs) ⊢ Pay c (snd ⟨k, hk⟩))
    (hpay' : (dst.view.loc (n.tc : Thread nD τ) ↦[dst.view.set]{fullShare} (dst.view.write Val fd (src.view.read Val fs) Finset.univ)) ⊢ Pay n (rcv ⟨k, hk⟩))
    (hr : τ.routes (c.tc : Thread nD τ) (n.tc : Thread nD τ) = true := by routes) :
    iprop(records osem Pay N hN κ ∗ X ∗ sending osem dest N R c k)
      ⊢ iprop((sending osem dest N R c (k + 1) -∗ wp frame (wpE defs 𝒱 (c.tc : Thread nD τ) none) Set.univ (kont ⟨⟩) Q)
          -∗ wp frame (wpE defs 𝒱 (c.tc : Thread nD τ) none) Set.univ
              (.op (.enqueueDma src (.remote (Dev.tc n : Thread nD τ) dst sS hsc) sem hsrc hdst hsem) kont) Q) := by
  subst hn
  unfold sending
  rw [bigSep_finFrom_succ hk, bigSep_finUpTo_succ hk]
  iintro ⟨#HR, HX, ⟨⟨HRk, Ht, Ht'⟩, Hrest⟩, Hcr, ⟨%W, HO⟩⟩ Hk
  ihave HM := hX $$ [HX HRk]
  · isplitl [HX] <;> iassumption
  icases HM with ⟨Hs, Hd⟩
  iapply (wp_send osem hinj Pay N hN 𝒱 κ c (dest c ⟨k, hk⟩) (dest c ⟨k, hk⟩) rfl (snd ⟨k, hk⟩) (rcv ⟨k, hk⟩) (fs := fs) (fd := fd) (q := q) hS hR hamt
    (owed osem dest N c (k + 1)) (owed_succ osem dest N c hk) (W := W) hpay hpay' hr) $$ [Hs Hd HO Ht Ht']
  · isplitr; · iexact HR
    isplitl [Hs]; · iexact Hs
    isplitl [Hd]; · iexact Hd
    isplitl [HO]; · iexact HO
    isplitl [Ht] <;> iassumption
  iintro ⟨Hc, HO⟩
  iapply Hk
  isplitl [Hrest]; · iexact Hrest
  isplitl [Hc Hcr]
  · isplitl [Hc] <;> iassumption
  iexists W; iexact HO

include hinj in
/-- Wait `k` of the waits for the cells `f`. -/
theorem wp_wait_row {n : ℕ} (f : Fin n → Fin 15) (c : Dev nD) {k : ℕ} (hk : k < n) {s' : Shape} {e' : EltTy} {sem : DmaSem sig}
    {src : Memref sig (c.tc : Thread nD τ).2.kind sp' s' e'} {dst : Memref sig (c.tc : Thread nD τ).2.kind sp s e}
    {hsrc : src.view.WordExact} {hdst : dst.view.WordExact}
    {kont : PUnit → Prog (TpuEff nD τ sig Val Λ (c.tc : Thread nD τ).2) α} (hS : SemLoc.dma sem = osem (f ⟨k, hk⟩)) (hamt : dst.view.dmaCredit = N) :
    iprop(records osem Pay N hN κ ∗ waiting osem Pay N f c k)
      ⊢ iprop((waiting osem Pay N f c (k + 1) -∗ wp frame (wpE defs 𝒱 (c.tc : Thread nD τ) none) Set.univ (kont ⟨⟩) Q)
          -∗ wp frame (wpE defs 𝒱 (c.tc : Thread nD τ) none) Set.univ (.op (.waitDma2 sem src dst hsrc hdst) kont) Q) := by
  unfold waiting
  rw [bigSep_finFrom_succ hk, bigSep_finUpTo_succ hk]
  iintro ⟨#HR, ⟨⟨Hc, Hat⟩, Hrest⟩, Hdone, ⟨%W, HO⟩⟩ Hk
  iapply (wp_wait osem hinj Pay N hN 𝒱 κ c (f ⟨k, hk⟩) hS hamt (O := 0) (W := W)) $$ [Hc Hat HO]
  · isplitr; · iexact HR
    isplitl [Hc]; · iexact Hc
    isplitl [HO]; · iexact HO
    isplitr; · rw [MayWait_zero]; iempintro
    iexact Hat
  iintro ⟨HO, Hz, Hp⟩
  iapply Hk
  isplitl [Hrest]; · iexact Hrest
  isplitl [Hz Hp Hdone]
  · isplitl [Hz Hp]
    · isplitl [Hz] <;> iassumption
    iexact Hdone
  iexists _; iexact HO

end Steps

end Cert.OneShot
end
-- ==== Proof.Launch.lean ====
/-
# The launch of a program that is one windowless kernel exchanging data through HBM

The two kernels of this certificate receive into an HBM array of another device. The sender therefore holds, from the
launch on, the part of the RECEIVER's array that it writes. The launch theorem of this file hands one global step the
kernel's own semaphores at zero AND the unscoped arrays of all devices at once, so that the step can deal them out
across the devices.
-/
module

public import Idealize.ShloMosaic.Lib.Pipeline.Launch
public import Idealize.ShloMosaic.Lib.Pipeline.Kit
public import Idealize.ShloMosaic.Lib.Tactic

@[expose] public section

noncomputable section

namespace Cert.HbmLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} [∀ e, Nonempty (Val e)]
variable {U : Type} [URA U]

local notation "𝕄" => MT nD τ sig Unit Val ℕ U ℕ

/-! ## The levels, and the machine's run from each core's -/

/-- Every TensorCore's rights to assign levels, spent on the levels `lv` of the indices `L`. -/
theorem levels_assign (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  classical
  have hone (d : Dev nD) (p : Proc τ) (hp : p ∈ Finset.univ.erase Proc.tc) : (coreLevAts ((d, p) : Thread nD τ) L lv : sProp 𝕄) = BI.emp := by
    unfold coreLevAts
    refine (bigSep_congr (Ψ := fun _ : SemLoc sig => (BI.emp : sProp 𝕄)) fun sm _ => ?_).trans (BI.bigSep_emp_const _)
    rw [hL (((d, p) : Thread nD τ), sm) (Finset.ne_of_mem_erase hp), BI.bigSep_empty]
  have hoff : (bigSep Finset.univ fun d : Dev nD => bigSep (Finset.univ.erase Proc.tc) fun p => (coreLevAts ((d, p) : Thread nD τ) L lv : sProp 𝕄)) = BI.emp :=
    (bigSep_congr (Ψ := fun _ : Dev nD => (BI.emp : sProp 𝕄)) fun d _ =>
      (bigSep_congr (Ψ := fun _ : Proc τ => (BI.emp : sProp 𝕄)) fun p hp => hone d p hp).trans (BI.bigSep_emp_const _)).trans (BI.bigSep_emp_const _)
  have hall : (levAts L lv : sProp 𝕄) = bigSep Finset.univ fun d : Dev nD => coreLevAts (d.tc : Thread nD τ) L lv := by
    refine (bigSep_univ_prod fun g : GSem nD τ sig => bigSep (L g) fun ι => levAt g ι (lv g ι)).trans
      ((bigSep_threads (fun c : Thread nD τ => coreLevAts c L lv)).trans ?_)
    rw [hoff]; exact sep_emp_eq _
  have hdrop : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_sep']
    iintro ⟨-, H⟩
    iexact H
  exact (bigSep_mono fun c _ => lev_assign_cells (c.tc : Thread nD τ) L lv).trans ((BI.bigSep_bupd _ _).trans (BI.bupd_mono hdrop))

variable {Λ : Labels}

/-- The run of a mesh program from its cores' runs: the launch hands `hinit` every core's scoped semaphores at zero, its
    unscoped arrays whole at the launch contents, its unscoped semaphores and the ghost state `u₀`; each core then runs
    from its share `T c` with its scoped buffers, what it owes, the levels and its launch credit, and ends in `fin c`
    with its scoped semaphores at zero; the final memory is read off the `fin c`. -/
theorem run_of_cores (defs : Defs nD τ sig Val Λ) (𝒱 : Variants)
    (m : (ℓ : Loc nD τ sig) → Buf Val ℓ) (g : Dev nD → PrngReg) (main : Dev nD → Prog (TpuEff nD τ sig Val Λ .tc) PUnit)
    (O₀ : Dev nD → CellTallies nD τ sig Unit)
    (L : GSem nD τ sig → Finset Unit) (lv : GSem nD τ sig → Unit → ℕ) (hL : ∀ g : GSem nD τ sig, g.1.2 ≠ .tc → L g = ∅)
    (u₀ : U) (T fin : Dev nD → sProp 𝕄)
    (hinit : iprop((bigSep Finset.univ fun c : Dev nD => iprop(scopedSems0 (c.tc : Thread nD τ) ∗ unscopedBufs c (fun b => m ((c.tc : Thread nD τ).loc b)))) ∗ ownU u₀)
      ⊢ (|={Set.univ}=> bigSep Finset.univ T : sProp 𝕄))
    (hwp : ∀ c : Dev nD, iprop(T c ∗ scopedBufs (c.tc : Thread nD τ) ∗ opIdle (c.tc : Thread nD τ) ∗ owes (c.tc : Thread nD τ) (O₀ c) ∅
        ∗ levAts L lv ∗ launchCred O₀ c)
      ⊢ wp frame (wpE defs 𝒱 (c.tc : Thread nD τ) none) Set.univ (main c)
          (fun _ => iprop((fin c ∗ scopedSems0 (c.tc : Thread nD τ)) ∗ ∃ W, owes (c.tc : Thread nD τ) (0 : CellTallies nD τ sig Unit) W)))
    (QY : Dev nD → MemSt nD τ sig Val → Prop)
    (hY : ∀ c (s' : Phys nD τ sig Val), iprop(fin c ∗ SI s') ⊢ (|={Set.univ}=> iprop(⌜QY c s'.mem⌝ ∗ SI s') : sProp 𝕄))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let pre : Dev nD → sProp 𝕄 := fun c => iprop(T c ∗ scopedBufs (c.tc : Thread nD τ) ∗ opIdle (c.tc : Thread nD τ)
    ∗ owes (c.tc : Thread nD τ) (O₀ c) ∅ ∗ levAts L lv ∗ launchCred O₀ c)
  let post' : Dev nD → sProp 𝕄 := fun c => iprop(fin c ∗ scopedSems0 (c.tc : Thread nD τ))
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => pre) (fun _ => post')
      (fun _ => iprop(emp)) Set.univ ?_ (fun _ c => ?_) fun _ => ?_))
  · have hcore (c : Dev nD) :
        coreInit (Ix := Unit) (Name := ℕ) (U := U) (Lvl := ℕ) (owing O₀) 0 (⟨m, fun _ => 0, g⟩ : MemSt nD τ sig Val) (c.tc : Thread nD τ)
          ⊢ iprop(iprop(scopedSems0 (c.tc : Thread nD τ) ∗ unscopedBufs c (fun b => m ((c.tc : Thread nD τ).loc b)))
              ∗ levels0 c ∗ scopedBufs (c.tc : Thread nD τ) ∗ opIdle (c.tc : Thread nD τ) ∗ owes (c.tc : Thread nD τ) (O₀ c) ∅ ∗ launchCred O₀ c) := by
      refine (coreInit_boundary_owing O₀ m g c).trans ?_
      unfold boundary
      iintro ⟨⟨Hsb, Hss, Hop⟩, Hub, -, HL, Hlv, -, Hcr⟩
      isplitl [Hss Hub]; · isplitl [Hss] <;> iassumption
      isplitl [Hlv]; · iexact Hlv
      isplitl [Hsb]; · iexact Hsb
      isplitl [Hop]; · iexact Hop
      isplitl [HL] <;> iassumption
    have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ (bigSep Finset.univ fun c : Dev nD => iprop(iprop(scopedSems0 (c.tc : Thread nD τ) ∗ unscopedBufs c (fun b => m ((c.tc : Thread nD τ).loc b)))
          ∗ levels0 c ∗ scopedBufs (c.tc : Thread nD τ) ∗ opIdle (c.tc : Thread nD τ) ∗ owes (c.tc : Thread nD τ) (O₀ c) ∅ ∗ launchCred O₀ c) : sProp 𝕄) :=
      bigSep_mono fun c _ => hcore c
    simp only [bigSep_sep' (Finset.univ : Finset (Dev nD))] at hcores hinit
    iintro ⟨Hcores, Hu⟩
    ihave Hc := hcores $$ Hcores
    icases Hc with ⟨H0, Hlv, Hsb, Hop, HL, Hcr⟩
    imod (levels_assign L lv hL) $$ Hlv with Hla
    imod hinit $$ [H0 Hu] with HT
    · isplitl [H0] <;> iassumption
    imodintro
    iexists ()
    isplitl
    · simp only [pre, bigSep_sep']
      isplitl [HT]; · iexact HT
      isplitl [Hsb]; · iexact Hsb
      isplitl [Hop]; · iexact Hop
      isplitl [HL]; · iexact HL
      isplitl [Hla]; · iapply (BI.bigSep_intro_persistent (S := Finset.univ) fun (c : Dev nD) _ => (BI.Entails.refl (levAts L lv : sProp 𝕄))); iexact Hla
      iexact Hcr
    · iempintro
  · exact (hwp c)
  · have hread (c : Dev nD) (s' : Phys nD τ sig Val) : iprop(post' c ∗ SI s') ⊢ (|={Set.univ}=>
        iprop(⌜QY c s'.mem ∧ ∀ sm : SemLoc sig, sm.isScoped .tc = true → s'.mem.sem ((c.tc : Thread nD τ), sm) = 0⌝ ∗ SI s') : sProp 𝕄) := by
      simp only [post']
      iintro ⟨⟨Hf, Hss⟩, HSI⟩
      ihave %hz := (tcScoped_read_pers c s') $$ [Hss HSI]
      · isplitl [Hss] <;> iassumption
      imod (hY c s') $$ [Hf HSI] with ⟨%hy, HSI⟩
      · isplitl [Hf] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

/-! ## The one region of a windowless kernel -/

section Region

variable {Λ₀ : Labels} {P : Type} [Fintype P] [DecidableEq P] (cfgs : P → Cfg sig Λ₀)
  (dats : (p : P) → (c : Dev nD) → Dat τ Val Unit ℕ U ℕ (cfgs p) c)
  (E : Emb (URounds (GSem nD τ sig) Unit) (MT nD τ sig Unit Val ℕ U ℕ))
  (hinj : Function.Injective (cellOf (nD := nD) (τ := τ) cfgs)) (p : P) {K : Type} [Fintype K] {osem : K → SemLoc sig}
  (hw : WinFacts (cfgs p).spec) (ho : OwnSemFacts (cfgs p).spec osem) (defs₀ : Defs nD τ sig Val Λ₀) (𝒱₀ : Variants)

local notation "𝔻" => Pipeline.defs (fun q => Cfg.toPCfg (Val := Val) (cfgs q)) defs₀
local notation "𝕍" => Variants.lift 𝒱₀

variable (hempty : IsEmpty (Fin (cfgs p).W))

include hw hempty in
/-- A core's scoped semaphores at zero, of a kernel without windows: the kernel's own and the idle ones. -/
theorem sems_split (c : Dev nD) :
    (scopedSems0 (c.tc : Thread nD τ) : sProp 𝕄) = iprop(ownSems0 osem c ∗ idleSems0 cfgs hinj p ho c) := by
  have h0 : (cellsSems0 cfgs p c : sProp 𝕄) = BI.emp := by
    unfold cellsSems0 PerCore.cellsSems0
    rw [Finset.univ_eq_empty, BI.bigSep_empty]
  rw [scopedSems0_split cfgs hinj p hw.to₀ ho c, h0]
  exact congrArg (fun X => iprop(X ∗ idleSems0 cfgs hinj p ho c)) (emp_sep_eq _)

include E hw hempty in
/-- The region of a kernel without windows that stages nothing, on one core: from what the kernel's invariant starts
    from (`X`), its scoped buffers and what it owes, to what the invariant ends with (`Y`), the scoped semaphores back at
    zero and nothing owed. -/
theorem wp_region (c : Dev nD) (hbody : BodyObligationLoose (dats p c) defs₀ 𝒱₀ () Set.univ)
    (O₀ : CellTallies nD τ sig Unit) (howed₀ : (dats p c).owed 0 = O₀) (howedN : (dats p c).owed (Fin.last _) = 0)
    (X Y : sProp 𝕄) (hin : iprop(X ∗ scopedRest (cfgs p).spec c) ⊢ (dats p c).Φ 0)
    (hout : (dats p c).Φ (Fin.last (cfgs p).N) ⊢ iprop(Y ∗ ownSems0 osem c ∗ scopedRest (cfgs p).spec c))
    {α : Type} {k : PUnit → Prog (TpuEff nD τ sig Val (Sig Λ₀ P fun q => (Cfg.toPCfg (Val := Val) (cfgs q)).Adm) Proc.tc) α} {Q : α → sProp 𝕄} :
    iprop(X ∗ idleSems0 cfgs hinj p ho c ∗ scopedBufs (c.tc : Thread nD τ) ∗ owes (c.tc : Thread nD τ) O₀ ∅)
      ⊢ iprop(((Y ∗ scopedSems0 (c.tc : Thread nD τ) ∗ scopedBufs (c.tc : Thread nD τ) ∗ ∃ W, owes (c.tc : Thread nD τ) (0 : CellTallies nD τ sig Unit) W)
          -∗ wp frame (wpE 𝔻 𝕍 (c.tc : Thread nD τ) none) Set.univ (k ⟨⟩) Q)
        -∗ wp frame (wpE 𝔻 𝕍 (c.tc : Thread nD τ) none) Set.univ (.op (.customCall (entry p) ()) k) Q) := by
  have hst : (Dat.staging (cfgs p) c : sProp 𝕄) = BI.emp := by
    unfold Dat.staging
    rw [Finset.univ_eq_empty, BI.bigSep_empty]
  have h0 : (cellsSems0 cfgs p c : sProp 𝕄) = BI.emp := by
    unfold cellsSems0 PerCore.cellsSems0
    rw [Finset.univ_eq_empty, BI.bigSep_empty]
  have hbufs : (scopedBufs (c.tc : Thread nD τ) : sProp 𝕄) = iprop(Dat.staging (cfgs p) c ∗ scopedRest (cfgs p).spec c) :=
    scopedBufs_split cfgs p hw.stage_scoped hw.stage_inj (fun w => hempty.elim w) c
  have hentry := wp_customCall_entry_frame (fun q => Cfg.toPCfg (Val := Val) (cfgs q)) (fun q => (cfgs q).toPCfg_adm) dats () E (fun _ => 0) hinj p defs₀ 𝒱₀
    (fun _ => fullShare) c Set.univ (fun _ _ => Set.mem_univ _) hbody (fun w => hempty.elim w) none (fun u h => nomatch h)
    (X := X) (Y := Y) (R := scopedRest (cfgs p).spec c) (I := idleSems0 cfgs hinj p ho c)
    (Entails.of_eq hbufs) ?_ ?_ (k := k) (Q := Q)
  · have hpost : EntryPost (pin (fun q => Cfg.toPCfg (Val := Val) (cfgs q)) (fun q => (cfgs q).toPCfg_adm)) dats () p c
        ⊢ iprop(∃ W, owes (c.tc : Thread nD τ) (0 : CellTallies nD τ sig Unit) W) := by
      unfold EntryPost PerCore.EntryPost Dat.owesAt owesWithin
      rw [howedN]
      iintro ⟨-, ⟨%W, -, HW⟩⟩
      iexists W; iexact HW
    iintro ⟨HX, Hidle, Hsb, HO⟩ Hk
    iapply hentry $$ [HX Hidle Hsb HO]
    · isplitl [HO]
      · unfold EntryPre PerCore.EntryPre Dat.owesAt owesWithin
        rw [howed₀]
        isplitr
        · unfold Dat.arrays; rw [Finset.univ_eq_empty, BI.bigSep_empty]; iempintro
        isplitl
        · iexists ∅; isplitr; · ipureintro; rw [Finset.coe_empty]; exact Set.empty_subset _
          iexact HO
        isplitr
        · unfold PerCore.cellsWaits PerCore.RDat.cellsWaits; rw [Finset.univ_eq_empty, BI.bigSep_empty]; iempintro
        isplitr
        · unfold PerCore.cellsInit PerCore.RDat.cellsInit; rw [Finset.univ_eq_empty, BI.bigSep_empty]; iempintro
        · unfold PerCore.toksInit; rw [Finset.univ_eq_empty, BI.bigSep_empty]; iempintro
      isplitr
      · unfold prefHeld; rw [Finset.univ_eq_empty, BI.bigSep_empty]; iempintro
      isplitl [HX]; · iexact HX
      isplitl [Hidle] <;> iassumption
    · iintro ⟨Hp, HY, Hss, Hsb⟩
      iapply Hk
      isplitl [HY]; · iexact HY
      isplitl [Hss]; · iexact Hss
      isplitl [Hsb]; · iexact Hsb
      iapply hpost; iexact Hp
  · iintro ⟨HX, -, HR⟩
    iapply hin
    isplitl [HX] <;> iassumption
  · rw [sems_split cfgs hinj p hw ho hempty c, hbufs]
    iintro ⟨HΦ, -, Hst, Hidle⟩
    ihave H := hout $$ HΦ
    icases H with ⟨HY, Hos, HR⟩
    isplitl [HY]; · iexact HY
    isplitl [Hos Hidle]; · isplitl [Hos] <;> iassumption
    isplitl [Hst] <;> iassumption

include E hinj hw ho hempty in
/-- The run of a program whose @main is one windowless kernel: from what one global step makes of every device's own
    semaphores, unscoped arrays and ghost state (`hglob`), through each core's body, to what the bodies end with. -/
theorem run_region (m : (ℓ : Loc nD τ sig) → Buf Val ℓ) (g : Dev nD → PrngReg)
    (main : Dev nD → Prog (TpuEff nD τ sig Val (Sig Λ₀ P fun q => (Cfg.toPCfg (Val := Val) (cfgs q)).Adm) .tc) PUnit)
    (hmain : ∀ c, main c = .op (.customCall (entry p) ()) fun _ => .ret ⟨⟩)
    (hbody : ∀ c, BodyObligationLoose (dats p c) defs₀ 𝒱₀ () Set.univ)
    (O₀ : Dev nD → CellTallies nD τ sig Unit) (howed₀ : ∀ c, (dats p c).owed 0 = O₀ c) (howedN : ∀ c, (dats p c).owed (Fin.last _) = 0)
    (L : GSem nD τ sig → Finset Unit) (lv : GSem nD τ sig → Unit → ℕ) (hL : ∀ g : GSem nD τ sig, g.1.2 ≠ .tc → L g = ∅)
    (u₀ : U) (T fin : Dev nD → sProp 𝕄)
    (hglob : iprop((bigSep Finset.univ fun c : Dev nD => iprop(ownSems0 osem c ∗ unscopedBufs c (fun b => m ((c.tc : Thread nD τ).loc b)))) ∗ ownU u₀)
      ⊢ (|={Set.univ}=> bigSep Finset.univ T : sProp 𝕄))
    (hin : ∀ c, iprop((T c ∗ levAts L lv ∗ launchCred O₀ c) ∗ scopedRest (cfgs p).spec c) ⊢ (dats p c).Φ 0)
    (hout : ∀ c, (dats p c).Φ (Fin.last (cfgs p).N) ⊢ iprop(fin c ∗ ownSems0 osem c ∗ scopedRest (cfgs p).spec c))
    (QY : Dev nD → MemSt nD τ sig Val → Prop)
    (hY : ∀ c (s' : Phys nD τ sig Val), iprop(fin c ∗ SI s') ⊢ (|={Set.univ}=> iprop(⌜QY c s'.mem⌝ ∗ SI s') : sProp 𝕄))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  refine run_of_cores 𝔻 𝕍 m g main O₀ L lv hL u₀ (fun c => iprop(T c ∗ idleSems0 cfgs hinj p ho c)) fin ?_ (fun c => ?_) QY hY hQ
  · simp only [sems_split cfgs hinj p hw ho hempty, bigSep_sep' (Finset.univ : Finset (Dev nD))] at hglob ⊢
    iintro ⟨⟨⟨Hos, Hidle⟩, Hub⟩, Hu⟩
    imod hglob $$ [Hos Hub Hu] with HT
    · isplitl [Hos Hub]; · isplitl [Hos] <;> iassumption
      iexact Hu
    imodintro
    isplitl [HT] <;> iassumption
  · rw [hmain c]
    iintro ⟨⟨HT, Hidle⟩, Hsb, -, HO, Hla, Hcr⟩
    iapply (wp_region cfgs dats E hinj p hw ho defs₀ 𝒱₀ hempty c (hbody c) (O₀ c) (howed₀ c) (howedN c)
      iprop(T c ∗ levAts L lv ∗ launchCred O₀ c) (fin c) (hin c) (hout c) (k := fun _ => .ret ⟨⟩)) $$ [HT Hla Hcr Hidle Hsb HO]
    · isplitl [HT Hla Hcr]
      · isplitl [HT]; · iexact HT
        isplitl [Hla] <;> iassumption
      isplitl [Hidle]; · iexact Hidle
      isplitl [Hsb] <;> iassumption
    iintro ⟨HY, Hss, -, HO⟩
    rw [wp_ret]; imodintro
    isplitl [HY Hss]; · isplitl [HY] <;> iassumption
    iexact HO

end Region

end Cert.HbmLaunch
end
-- ==== Proof.AllToAll.lean ====
/-
  The all-to-all on eight devices: what its buffers hold.
-/
module

public import proofs.«01_k».proof.Proof.Rows
public import proofs.«01_k».proof.Proof.Launch
public import proofs.«01_k».proof.Proof.Gen.ExchangeIdeal
public import proofs.«01_k».proof.Proof.Gen.ExchangeIdeal.Skeleton
public import proofs.«01_k».proof.Proof.Gen.ExchangeIdeal.Launch
public import Idealize.ShloMosaic.Lib.Tactic

@[expose] public section

noncomputable section

namespace Cert.AllToAll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.ExchangeIdeal Cert.ExchangeIdeal.Gen Cert.OneShot

/-! ## Devices -/

/-- The device that device `c` exchanges block `j` with: the one whose number differs in the bits of `j + 1`. -/
def peer (c : Dev nD) (j : Fin 7) : Dev nD :=
  ⟨c.val ^^^ (j.val + 1), Nat.xor_lt_two_pow (n := 3) c.isLt (by have := j.isLt; omega)⟩

theorem peer_peer (c : Dev nD) (j : Fin 7) : peer (peer c j) j = c := by revert c j; decide

/-- A device and its seven peers are all the devices. -/
theorem univ_peers (c : Dev nD) : (Finset.univ : Finset (Dev nD)) = insert c (Finset.univ.image (peer c)) := by
  revert c; decide

theorem peer_inj (c : Dev nD) : Function.Injective (peer c) := by revert c; decide

theorem self_notMem (c : Dev nD) : c ∉ Finset.univ.image (peer c) := by revert c; decide

/-- The fifteen semaphores: seven for sending, seven for receiving, one for the copy a device makes to itself. -/
def osem : Fin 15 → SemLoc sig := fun k => .dma k

theorem osem_inj : Function.Injective osem := fun a b h => by
  have h' : (SemLoc.dma a : SemLoc sig) = .dma b := h
  injection h'

/-! ## The eight slots of a buffer -/

abbrev xloc (c : Dev nD) : Loc nD τ sig := c.tc.loc main_arg0
abbrev yloc (c : Dev nD) : Loc nD τ sig := c.tc.loc main_v1

abbrev xM : Memref sig .tc .hbm S8x5888x1024 .bf16 := Memref.whole main_arg0
abbrev yM : Memref sig .tc .hbm S8x5888x1024 .bf16 := Memref.whole main_v1

/-- Where slot `q` begins. -/
def slotOff (q : Dev nD) : Fin 3 → ℕ := ![q.val, 0, 0]

/-- The slot of a buffer that begins at `o`, as a matrix. -/
abbrev slotAt (M : Memref sig .tc .hbm S8x5888x1024 .bf16) (o : Fin 3 → ℕ)
    (h : ∀ a, o a + S1x5888x1024.size a ≤ S8x5888x1024.size a) : Memref sig .tc .hbm S5888x1024 .bf16 :=
  (M.slice (Rect.unit (s := S8x5888x1024) o S1x5888x1024.size h) (fun _ => rfl)).squeeze S5888x1024
    squeezes_S1x5888x1024_S5888x1024

/-- The indices of slot `q`. -/
def slot (q : Dev nD) : Finset S8x5888x1024.Idx := Finset.univ.filter fun i => (i 0).val = q.val

theorem mem_slot (q : Dev nD) (i : S8x5888x1024.Idx) : i ∈ slot q ↔ i 0 = q := by
  rw [slot, Finset.mem_filter]
  exact ⟨fun h => Fin.ext h.2, fun h => ⟨Finset.mem_univ _, congrArg Fin.val h⟩⟩

theorem mem_unit_slot (q : Dev nD) (o : Fin 3 → ℕ) (ho : o = slotOff q)
    (h : ∀ a, o a + S1x5888x1024.size a ≤ S8x5888x1024.size a) :
    (Rect.unit (s := S8x5888x1024) o S1x5888x1024.size h).set = slot q := by
  subst ho
  ext i
  rw [Rect.mem_set_unit, mem_slot]
  constructor
  · intro H
    have h0 := H 0
    have e1 : slotOff q 0 = q.val := rfl
    have e2 : S1x5888x1024.size 0 = 1 := rfl
    apply Fin.ext
    have : (i 0).val = q.val := by omega
    exact this
  · intro H a
    have hq : (i 0).val = q.val := congrArg Fin.val H
    have hi := (i a).isLt
    fin_cases a
    · have e1 : slotOff q 0 = q.val := rfl
      have e2 : S1x5888x1024.size 0 = 1 := rfl
      show slotOff q 0 ≤ (i 0).val ∧ (i 0).val < slotOff q 0 + S1x5888x1024.size 0
      omega
    · exact ⟨Nat.zero_le _, (Nat.zero_add _).symm ▸ hi⟩
    · exact ⟨Nat.zero_le _, (Nat.zero_add _).symm ▸ hi⟩

theorem x_set (q : Dev nD) (o : Fin 3 → ℕ) (ho : o = slotOff q)
    (h : ∀ a, o a + S1x5888x1024.size a ≤ S8x5888x1024.size a) : (slotAt xM o h).view.set = slot q :=
  (View.set_reshape _ _).trans ((View.set_slice_whole _ _).trans (mem_unit_slot q o ho h))

theorem y_set (q : Dev nD) (o : Fin 3 → ℕ) (ho : o = slotOff q)
    (h : ∀ a, o a + S1x5888x1024.size a ≤ S8x5888x1024.size a) : (slotAt yM o h).view.set = slot q :=
  (View.set_reshape _ _).trans ((View.set_slice_whole _ _).trans (mem_unit_slot q o ho h))

theorem slot_disjoint (p q : Dev nD) (h : p ≠ q) : Disjoint (slot p) (slot q) := by
  rw [Finset.disjoint_left]
  intro i hp hq
  exact h (((mem_slot _ _).1 hp).symm.trans ((mem_slot _ _).1 hq))

theorem slot_cover : (Finset.univ.biUnion slot : Finset S8x5888x1024.Idx) = Finset.univ := by
  ext i
  simp only [Finset.mem_biUnion, Finset.mem_univ, true_and, iff_true]
  exact ⟨i 0, (mem_slot _ _).2 rfl⟩

/-! ## The contents -/

variable {F : FTy → Type} [FloatOps F]
variable (m : (ℓ : Loc nD τ sig) → Buf (Elt F) ℓ)

/-- What device `c` is given. -/
def given (c : Dev nD) : S8x5888x1024.Idx → Elt F .bf16 := m (xloc c)

/-- What device `c` ends with: in slot `q`, slot `c` of what device `q` is given. -/
def taken (c : Dev nD) : S8x5888x1024.Idx → Elt F .bf16 := fun i =>
  given m (i 0) (Function.update (β := fun a => Fin (S8x5888x1024.size a)) i 0 c)

/-- Slot `p` of what device `q` is given, written to slot `q` anywhere, is what device `p` is to end with there. -/
theorem landed (p q : Dev nD) (o o' : Fin 3 → ℕ) (ho : o = slotOff q) (ho' : o' = slotOff p)
    (h : ∀ a, o a + S1x5888x1024.size a ≤ S8x5888x1024.size a)
    (h' : ∀ a, o' a + S1x5888x1024.size a ≤ S8x5888x1024.size a)
    (fd : S8x5888x1024.Idx → Elt F .bf16) (i : S8x5888x1024.Idx) (hi : i ∈ slot q) :
    (slotAt yM o h).view.write (Val := Elt F) fd ((slotAt xM o' h').view.read (Val := Elt F) (given m q)) Finset.univ i = taken m p i := by
  have hr : (slotAt xM o' h').view.read (Val := Elt F) (given m q) = (slotAt yM o h).view.read (Val := Elt F) (taken m p) := by
    subst ho ho'
    funext k
    have key : ∀ j : S1x5888x1024.Idx, given m q ((Rect.unit (s := S8x5888x1024) (slotOff p) S1x5888x1024.size h').emb j)
        = taken m p ((Rect.unit (s := S8x5888x1024) (slotOff q) S1x5888x1024.size h).emb j) := by
      intro j
      have hj : (j 0).val = 0 := Nat.lt_one_iff.1 (j 0).isLt
      have hq : (Rect.unit (s := S8x5888x1024) (slotOff q) S1x5888x1024.size h).emb j 0 = q := by
        apply Fin.ext
        rw [Rect.emb_apply]
        show q.val + 1 * (j 0).val = q.val
        omega
      unfold taken
      rw [hq]
      congr 1
      funext a
      apply Fin.ext
      rw [Rect.emb_apply]
      fin_cases a
      · show p.val + 1 * (j 0).val = p.val
        omega
      · show _ = ((Rect.unit (s := S8x5888x1024) (slotOff q) S1x5888x1024.size h).emb j 1).val
        rw [Rect.emb_apply]; rfl
      · show _ = ((Rect.unit (s := S8x5888x1024) (slotOff q) S1x5888x1024.size h).emb j 2).val
        rw [Rect.emb_apply]; rfl
    exact key _
  rw [hr, View.write_read_eq_piecewise, View.setOn_univ]
  exact Finset.piecewise_eq_of_mem _ _ _ ((y_set q o ho h).symm ▸ hi)

end Cert.AllToAll
-- ==== Proof.AllToAllBody.lean ====
/-
  The all-to-all on eight devices: its protocol and the kernel's body.

  Cell `snd j` of device `c` hands back the slot of `c`'s input sent to `peer c j`; cell `rcv j` hands over the slot of
  `c`'s output that `peer c j` has filled; the last cell the slot the device fills itself. Device `c` starts with its
  whole input and, of EVERY device's output, slot `c`: what it writes is its own to write, whoever's memory it lies in.
-/
module

public import proofs.«01_k».proof.Proof.AllToAll

@[expose] public section

noncomputable section

namespace Cert.AllToAll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.SparseCore.ProtocolKit
open Cert.ExchangeIdeal Cert.ExchangeIdeal.Gen Cert.OneShot

variable {F : FTy → Type} [FloatOps F]
variable (m : (ℓ : Loc nD τ sig) → Buf (Elt F) ℓ)

local notation "𝕄" => MT nD τ sig Unit (Elt F) ℕ (UU nD τ sig) ℕ

/-! ## Ownership of slots -/

/-- Slot `q` of device `c`'s input. -/
def xS (c q : Dev nD) : sProp 𝕄 := xloc c ↦[slot q]{fullShare} given m c
/-- Slot `q` of device `c`'s output, as launched. -/
def y0 (c q : Dev nD) : sProp 𝕄 := yloc c ↦[slot q]{fullShare} m (yloc c)
/-- Slot `q` of device `c`'s output, as it ends. -/
def y1 (c q : Dev nD) : sProp 𝕄 := yloc c ↦[slot q]{fullShare} taken m c

/-- A buffer is its eight slots. -/
theorem x_slots (c : Dev nD) : (xloc c ↦{fullShare} given m c : sProp 𝕄) = bigSep Finset.univ (xS m c) := by
  have h := pointsTo_biUnion (Ix := Unit) (Name := ℕ) (U := UU nD τ sig) (Lvl := ℕ) (q := fullShare) (f := given m c) (ℓ := xloc c) Finset.univ slot
    (fun p _ q _ h => slot_disjoint p q h)
  rw [slot_cover] at h
  exact h
theorem y0_slots (c : Dev nD) : (yloc c ↦{fullShare} m (yloc c) : sProp 𝕄) = bigSep Finset.univ (y0 m c) := by
  have h := pointsTo_biUnion (Ix := Unit) (Name := ℕ) (U := UU nD τ sig) (Lvl := ℕ) (q := fullShare) (f := m (yloc c)) (ℓ := yloc c) Finset.univ slot
    (fun p _ q _ h => slot_disjoint p q h)
  rw [slot_cover] at h
  exact h
theorem y1_slots (c : Dev nD) : (yloc c ↦{fullShare} taken m c : sProp 𝕄) = bigSep Finset.univ (y1 m c) := by
  have h := pointsTo_biUnion (Ix := Unit) (Name := ℕ) (U := UU nD τ sig) (Lvl := ℕ) (q := fullShare) (f := taken m c) (ℓ := yloc c) Finset.univ slot
    (fun p _ q _ h => slot_disjoint p q h)
  rw [slot_cover] at h
  exact h

/-- Over all devices: one and its seven peers. -/
theorem bigSep_peers (c : Dev nD) (Φ : Dev nD → sProp 𝕄) :
    bigSep Finset.univ Φ = iprop(Φ c ∗ bigSep Finset.univ fun j : Fin 7 => Φ (peer c j)) := by
  rw [univ_peers c, SparseCore.bigSep_insert' (self_notMem c),
    show Finset.univ.image (peer c) = Finset.univ.map ⟨peer c, peer_inj c⟩ from by ext; simp, BI.bigSep_map]
  rfl

/-! ## The protocol -/

/-- What each cell hands its device. -/
def Pay (c : Dev nD) (k : Fin 15) : sProp 𝕄 :=
  if h : k.val < 7 then xS m c (peer c ⟨k.val, h⟩)
  else if h' : k.val - 7 < 7 then y1 m c (peer c ⟨k.val - 7, h'⟩)
  else iprop(y1 m c c ∗ xS m c c)

theorem Pay_snd (c : Dev nD) (j : Fin 7) : Pay m c (snd j) = xS m c (peer c j) := by
  unfold Pay; rw [dif_pos (show (snd j).val < 7 from j.isLt)]; rfl
theorem Pay_rcv (c : Dev nD) (j : Fin 7) : Pay m c (rcv j) = y1 m c (peer c j) := by
  have h : (rcv j).val = 7 + j.val := rfl
  have hj := j.isLt
  unfold Pay
  rw [dif_neg (by omega), dif_pos (by omega)]
  congr 2
  exact Fin.ext (by show (rcv j).val - 7 = j.val; omega)
theorem Pay_loc (c : Dev nD) : Pay m c loc15 = iprop(y1 m c c ∗ xS m c c) := by
  unfold Pay; rw [dif_neg (by decide), dif_neg (by decide)]

theorem Pay_storable (c : Dev nD) (k : Fin 15) : BI.Storable (upEmb : UEmb _ 𝕄) (Pay m c k) := by
  unfold Pay
  split
  · unfold xS; infer_instance
  · split
    · unfold y1; infer_instance
    · unfold xS y1; infer_instance

/-- What one slot's transfer adds to its cells. -/
def N : ℕ := (slotAt yM (slotOff 0) (by decide)).view.dmaCredit
theorem N_pos : 0 < N := View.dmaCredit_pos _ (by decide)
theorem credit (M : Memref sig .tc .hbm S8x5888x1024 .bf16) (o : Fin 3 → ℕ)
    (h : ∀ a, o a + S1x5888x1024.size a ≤ S8x5888x1024.size a) : (slotAt M o h).view.dmaCredit = N := rfl

/-! ## The steps of the body -/

/-- The slot a device sends by copying, or keeps: the printed offset. -/
theorem off1_eq (c : Dev nD) : k0_off1 c = slotOff c := by rw [k0_off1_eq]; revert c; decide

theorem off2_eq (c : Dev nD) (j : Fin 7) : k0_off2 c (k0_off2_at j).1 (k0_off2_at j).2.1 (k0_off2_at j).2.2 = slotOff (peer c j) := by
  revert c j; decide

theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 3 := by revert c; decide
theorem dev5_eq (c : Dev nD) : (⟨k0_dev5 c, k0_dev5_lt c⟩ : Dev nD) = peer c 4 := by revert c; decide
theorem dev6_eq (c : Dev nD) : (⟨k0_dev6 c, k0_dev6_lt c⟩ : Dev nD) = peer c 5 := by revert c; decide
theorem dev7_eq (c : Dev nD) : (⟨k0_dev7 c, k0_dev7_lt c⟩ : Dev nD) = peer c 6 := by revert c; decide

variable (κ : Dev nD × Fin 15 → ℕ)

/-- What send `j` takes: the slot it reads and the slot it fills. -/
def R (c : Dev nD) (j : Fin 7) : sProp 𝕄 := iprop(xS m c (peer c j) ∗ y0 m (peer c j) c)

abbrev 𝒱₀ : Variants := Variants.none

/-- Send `k` of device `c`. -/
theorem wp_send_slot (c n : Dev nD) {k : ℕ} (hk : k < 7) (hn : n = peer c ⟨k, hk⟩)
    {o o' : Fin 3 → ℕ} (ho : o = slotOff (peer c ⟨k, hk⟩)) (ho' : o' = slotOff c)
    {h : ∀ a, o a + S1x5888x1024.size a ≤ S8x5888x1024.size a} {h' : ∀ a, o' a + S1x5888x1024.size a ≤ S8x5888x1024.size a}
    {hsc : (slotAt yM o' h').view.ref.isScScratch = false} {sS sem : SemLoc sig}
    {hsrc : (slotAt xM o h).view.WordExact} {hdst : (slotAt yM o' h').view.WordExact}
    {hsem : DmaTarget.Typed .hbm sem (.remote (Dev.tc n : Thread nD τ) (slotAt yM o' h') sS hsc)}
    {α : Type} {Q : α → sProp 𝕄} {kont : PUnit → Prog (TpuEff nD τ sig (Elt F) Λ₀ .tc) α}
    (hS : sS = osem (snd ⟨k, hk⟩)) (hR : sem = osem (rcv ⟨k, hk⟩)) :
    iprop(records osem (Pay m) N N_pos κ ∗ sending osem peer N (R m c) c k)
      ⊢ iprop((sending osem peer N (R m c) c (k + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotAt xM o h) (.remote (Dev.tc n : Thread nD τ) (slotAt yM o' h') sS hsc) sem hsrc hdst hsem) kont) Q) := by
  subst hn
  have hx := x_set (peer c ⟨k, hk⟩) o ho h
  have hy := y_set c o' ho' h'
  have H := wp_send_row (defs := defs₀ (F := F)) (τ := τ) osem osem_inj peer (Pay m) N N_pos 𝒱₀ κ (R m c) iprop(emp) c (peer c ⟨k, hk⟩) hk rfl (src := slotAt xM o h) (dst := slotAt yM o' h')
    (hsc := hsc) (hsrc := hsrc) (hdst := hdst) (hsem := hsem) (kont := kont) (Q := Q) (q := fullShare) (fs := given m c) (fd := m (yloc (peer c ⟨k, hk⟩))) hS hR
    (by subst hR; exact credit yM o' h')
    (by
      rw [hx, hy]; unfold R xS y0
      iintro ⟨-, H1, H2⟩
      isplitl [H1] <;> iassumption)
    (by rw [hx, Pay_snd]; unfold xS; exact Entails.refl _)
    (by
      rw [hy, Pay_rcv, peer_peer]; unfold y1
      refine Entails.of_eq (pointsTo_congr fun i hi => ?_)
      exact landed m (peer c ⟨k, hk⟩) c o' o ho' ho h' h _ i hi)
  iintro ⟨#HR, HS⟩ Hk
  iapply H $$ [HS]
  · isplitr; · iexact HR
    isplitr; · iempintro
    iexact HS
  iexact Hk

/-- The copy of a device's own slot. -/
theorem wp_copy_slot (c : Dev nD) {o o' : Fin 3 → ℕ} (ho : o = slotOff c) (ho' : o' = slotOff c)
    {h : ∀ a, o a + S1x5888x1024.size a ≤ S8x5888x1024.size a} {h' : ∀ a, o' a + S1x5888x1024.size a ≤ S8x5888x1024.size a}
    {sem : SemLoc sig} {hsrc : (slotAt xM o h).view.WordExact} {hdst : (slotAt yM o' h').view.WordExact}
    {hsem : DmaTarget.Typed (nD := nD) .hbm sem (DmaTarget.here (nD := nD) (τ := τ) (p := Proc.tc) (slotAt yM o' h'))}
    {α : Type} {Q : α → sProp 𝕄} {kont : PUnit → Prog (TpuEff nD τ sig (Elt F) Λ₀ .tc) α} (hS : sem = osem loc15) :
    iprop(records osem (Pay m) N N_pos κ ∗ xS m c c ∗ y0 m c c ∗ dutyTok E (kcell osem (c, loc15)) 0 ())
      ⊢ iprop((cred (tallyAt (kcell osem (c, loc15)) () N) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotAt xM o h) (.here (slotAt yM o' h')) sem hsrc hdst hsem) kont) Q) := by
  have hx := x_set c o ho h
  have hy := y_set c o' ho' h'
  have H := wp_copy (defs := defs₀ (F := F)) (τ := τ) osem osem_inj (Pay m) N N_pos 𝒱₀ κ c loc15 (src := slotAt xM o h) (dst := slotAt yM o' h')
    (hsrc := hsrc) (hdst := hdst) (hsem := hsem) (kont := kont) (Q := Q) (q := fullShare) (fs := given m c) (fd := m (yloc c)) hS
    (by subst hS; exact credit yM o' h')
    (by
      rw [hx, hy, Pay_loc]; unfold y1 xS
      have e : (yloc c ↦[slot c]{fullShare} (slotAt yM o' h').view.write (Elt F) (m (yloc c)) ((slotAt xM o h).view.read (Elt F) (given m c)) Finset.univ : sProp 𝕄)
          = (yloc c ↦[slot c]{fullShare} taken m c) := pointsTo_congr fun i hi => landed m c c o' o ho' ho h' h _ i hi
      exact Entails.of_eq (congrArg (fun P : sProp 𝕄 => iprop(P ∗ (xloc c ↦[slot c]{fullShare} given m c))) e))
  rw [hx, hy] at H
  exact H

/-- What a device holds when the body begins, but for what it owes. -/
def before (c : Dev nD) : sProp 𝕄 :=
  iprop((∃ κ : Dev nD × Fin 15 → ℕ, records osem (Pay m) N N_pos κ ∗ ghost osem peer c) ∗ (bigSep Finset.univ (xS m c)) ∗ (bigSep Finset.univ fun q => y0 m q c))

def Φ₀ (c : Dev nD) : sProp 𝕄 := iprop(before m c ∗ bigSep Finset.univ fun j : Fin 7 => cred (tallyAt (kcell osem (c, rcv j)) () N))

/-- What it holds when the body ends: its input as given, its output as it is to be, its semaphores at zero. -/
def Φ₁ (c : Dev nD) : sProp 𝕄 :=
  iprop(((xloc c ↦{fullShare} given m c) ∗ (yloc c ↦{fullShare} taken m c)) ∗ ownSems0 osem c)

/-- From the state after the sends to the state before the waits. -/
theorem to_waiting (c : Dev nD) :
    iprop((bigSep Finset.univ fun k : Fin 15 => atPos E (kcell osem (c, k)) 0 ∅ 0)
        ∗ (bigSep Finset.univ fun j : Fin 7 => cred (tallyAt (kcell osem (c, rcv j)) () N))
        ∗ cred (tallyAt (kcell osem (c, loc15)) () N) ∗ sending osem peer N (R m c) c 7)
      ⊢ (waiting osem (Pay m) N (id : Fin 15 → Fin 15) c 0 : sProp 𝕄) := by
  unfold sending waiting
  rw [owed_done, finFrom_zero, show finUpTo 15 0 = ∅ from by decide, show finUpTo 7 7 = Finset.univ from by decide, BI.bigSep_empty, bigSep_sep' (Finset.univ : Finset (Fin 15))]
  simp only [id_eq]
  rw [bigSep15 (fun k => (cred (tallyAt (kcell osem (c, k)) () N) : sProp 𝕄))]
  iintro ⟨Ha, Hr, Hl, -, Hs, HO⟩
  isplitl [Ha Hr Hl Hs]
  · isplitr [Ha]
    · isplitl [Hs]; · iexact Hs
      isplitl [Hr]; · iexact Hr
      iexact Hl
    iexact Ha
  isplitr; · iempintro
  iexact HO

/-- From the state after the waits to what the body ends with. -/
theorem from_waiting (c : Dev nD) :
    (waiting osem (Pay m) N (id : Fin 15 → Fin 15) c 15 : sProp 𝕄) ⊢ iprop(Φ₁ m c ∗ ∃ W, owes (c : Thread nD τ) 0 W) := by
  unfold waiting Φ₁ ownSems0
  rw [show finUpTo 15 15 = Finset.univ from by decide, bigSep_sep' (Finset.univ : Finset (Fin 15))]
  simp only [id_eq]
  rw [bigSep15 (Pay m c), Pay_loc, x_slots, y1_slots, bigSep_peers c (xS m c), bigSep_peers c (y1 m c),
    bigSep_congr fun j _ => Pay_snd m c j, bigSep_congr fun j _ => Pay_rcv m c j]
  iintro ⟨-, ⟨Hz, Hs, Hr, Hy, Hx⟩, HO⟩
  isplitr [HO]
  · isplitr [Hz]
    · isplitl [Hx Hs]
      · isplitl [Hx] <;> iassumption
      isplitl [Hy] <;> iassumption
    iexact Hz
  iexact HO

end Cert.AllToAll
-- ==== Proof.AllToAllRun.lean ====
/-
  The all-to-all on eight devices: the kernel's body walked once, at a symbolic device, and the run of the program.
-/
module
public import proofs.«01_k».proof.Proof.AllToAllBody
public import proofs.«01_k».proof.Proof.Gen.ExchangeIdeal.Points
@[expose] public section

noncomputable section
namespace Cert.AllToAll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.SparseCore.ProtocolKit
open Cert.ExchangeIdeal Cert.ExchangeIdeal.Gen Cert.OneShot

variable {F : FTy → Type} [FloatOps F]
variable (m : (ℓ : Loc nD τ sig) → Buf (Elt F) ℓ)

local notation "𝕄" => MT nD τ sig Unit (Elt F) ℕ (UU nD τ sig) ℕ

/-- What the sends need, and what the copy needs, from what the body begins with. -/
theorem to_sending (c : Dev nD) :
    iprop(((bigSep Finset.univ fun j : Fin 7 => iprop(dutyTok E (kcell osem (c, snd j)) 0 () ∗ dutyTok E (kcell osem (peer c j, rcv j)) 0 ()))
        ∗ (bigSep Finset.univ (xS m c)) ∗ (bigSep Finset.univ fun q => y0 m q c)) ∗ ∃ W, owes (c : Thread nD τ) (owed osem peer N c 0) W)
      ⊢ (iprop((xS m c c ∗ y0 m c c) ∗ sending osem peer N (R m c) c 0) : sProp 𝕄) := by
  unfold sending R
  rw [finFrom_zero, show finUpTo 7 0 = ∅ from by decide, BI.bigSep_empty, bigSep_sep' (Finset.univ : Finset (Fin 7)), bigSep_sep' (Finset.univ : Finset (Fin 7)),
    bigSep_sep' (Finset.univ : Finset (Fin 7)), bigSep_sep' (Finset.univ : Finset (Fin 7)),
    bigSep_peers c (xS m c), bigSep_peers c (fun q => y0 m q c)]
  iintro ⟨⟨⟨Ht, Ht'⟩, ⟨Hx, Hxs⟩, ⟨Hy, Hys⟩⟩, HO⟩
  isplitl [Hx Hy]
  · isplitl [Hx] <;> iassumption
  isplitr [HO]
  · isplitl [Hxs Hys]
    · isplitl [Hxs] <;> iassumption
    isplitl [Ht] <;> iassumption
  isplitr; · iempintro
  iexact HO

set_option maxHeartbeats 4000000 in
/-- The body on device `c`: the copy, the seven sends, the fifteen waits. -/
theorem sound_body (κ : Dev nD × Fin 15 → ℕ) (c : Dev nD) (Kt : PUnit → sProp 𝕄) :
    iprop((records osem (Pay m) N N_pos κ ∗ ghost osem peer c ∗ ((bigSep Finset.univ (xS m c)) ∗ (bigSep Finset.univ fun q => y0 m q c))
        ∗ (bigSep Finset.univ fun j : Fin 7 => cred (tallyAt (kcell osem (c, rcv j)) () N))
        ∗ ∃ W, owes (c : Thread nD τ) (owed osem peer N c 0) W)
        ∗ ((Φ₁ m c ∗ ∃ W, owes (c : Thread nD τ) 0 W) -∗ Kt ⟨⟩))
      ⊢ wp frame (wpE (defs₀ (F := F)) 𝒱₀ (c : Thread nD τ) none) Set.univ (bodyAt0 (F := F) t0_0) Kt := by
  unfold bodyAt0
  simp only [cc0_grad_all_to_all_eq_skeleton]; unfold cc0_grad_all_to_all_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.lift, Prog.bind_op, Prog.bind_ret, Prog.pure_eq_ret, wp_deviceId]
  unfold ghost
  iintro ⟨⟨#HR, ⟨Hat, Htok, Hl⟩, Hmem, Hcr, HO⟩, Hk⟩
  ihave HS := (to_sending m c) $$ [Htok Hmem HO]
  · isplitr [HO]
    · isplitl [Htok] <;> iassumption
    iexact HO
  icases HS with ⟨⟨Hx, Hy⟩, HS⟩
  iapply (wp_copy_slot m κ c (off1_eq c) (off1_eq c) rfl) $$ [Hx Hy Hl]
  · isplitr; · iexact HR
    isplitl [Hx]; · iexact Hx
    isplitl [Hy] <;> iassumption
  iintro Hcl
  iapply (wp_send_slot m κ c _ (k := 0) (by decide) (dev1_eq c) (off2_eq c 0) (off1_eq c) rfl rfl) $$ [HS]
  · isplitr; · iexact HR
    iexact HS
  iintro HS
  iapply (wp_send_slot m κ c _ (k := 1) (by decide) (dev2_eq c) (off2_eq c 1) (off1_eq c) rfl rfl) $$ [HS]
  · isplitr; · iexact HR
    iexact HS
  iintro HS
  iapply (wp_send_slot m κ c _ (k := 2) (by decide) (dev3_eq c) (off2_eq c 2) (off1_eq c) rfl rfl) $$ [HS]
  · isplitr; · iexact HR
    iexact HS
  iintro HS
  iapply (wp_send_slot m κ c _ (k := 3) (by decide) (dev4_eq c) (off2_eq c 3) (off1_eq c) rfl rfl) $$ [HS]
  · isplitr; · iexact HR
    iexact HS
  iintro HS
  iapply (wp_send_slot m κ c _ (k := 4) (by decide) (dev5_eq c) (off2_eq c 4) (off1_eq c) rfl rfl) $$ [HS]
  · isplitr; · iexact HR
    iexact HS
  iintro HS
  iapply (wp_send_slot m κ c _ (k := 5) (by decide) (dev6_eq c) (off2_eq c 5) (off1_eq c) rfl rfl) $$ [HS]
  · isplitr; · iexact HR
    iexact HS
  iintro HS
  iapply (wp_send_slot m κ c _ (k := 6) (by decide) (dev7_eq c) (off2_eq c 6) (off1_eq c) rfl rfl) $$ [HS]
  · isplitr; · iexact HR
    iexact HS
  iintro HS
  ihave HW := (to_waiting m c) $$ [Hat Hcr Hcl HS]
  · isplitl [Hat]; · iexact Hat
    isplitl [Hcr]; · iexact Hcr
    isplitl [Hcl] <;> iassumption
  iapply (wp_wait_row osem osem_inj (Pay m) N N_pos 𝒱₀ κ id c (k := 0) (by decide) rfl (credit _ _ _)) $$ [HW]
  · isplitr; · iexact HR
    iexact HW
  iintro HW
  iapply (wp_wait_row osem osem_inj (Pay m) N N_pos 𝒱₀ κ id c (k := 1) (by decide) rfl (credit _ _ _)) $$ [HW]
  · isplitr; · iexact HR
    iexact HW
  iintro HW
  iapply (wp_wait_row osem osem_inj (Pay m) N N_pos 𝒱₀ κ id c (k := 2) (by decide) rfl (credit _ _ _)) $$ [HW]
  · isplitr; · iexact HR
    iexact HW
  iintro HW
  iapply (wp_wait_row osem osem_inj (Pay m) N N_pos 𝒱₀ κ id c (k := 3) (by decide) rfl (credit _ _ _)) $$ [HW]
  · isplitr; · iexact HR
    iexact HW
  iintro HW
  iapply (wp_wait_row osem osem_inj (Pay m) N N_pos 𝒱₀ κ id c (k := 4) (by decide) rfl (credit _ _ _)) $$ [HW]
  · isplitr; · iexact HR
    iexact HW
  iintro HW
  iapply (wp_wait_row osem osem_inj (Pay m) N N_pos 𝒱₀ κ id c (k := 5) (by decide) rfl (credit _ _ _)) $$ [HW]
  · isplitr; · iexact HR
    iexact HW
  iintro HW
  iapply (wp_wait_row osem osem_inj (Pay m) N N_pos 𝒱₀ κ id c (k := 6) (by decide) rfl (credit _ _ _)) $$ [HW]
  · isplitr; · iexact HR
    iexact HW
  iintro HW
  iapply (wp_wait_row osem osem_inj (Pay m) N N_pos 𝒱₀ κ id c (k := 7) (by decide) rfl (credit _ _ _)) $$ [HW]
  · isplitr; · iexact HR
    iexact HW
  iintro HW
  iapply (wp_wait_row osem osem_inj (Pay m) N N_pos 𝒱₀ κ id c (k := 8) (by decide) rfl (credit _ _ _)) $$ [HW]
  · isplitr; · iexact HR
    iexact HW
  iintro HW
  iapply (wp_wait_row osem osem_inj (Pay m) N N_pos 𝒱₀ κ id c (k := 9) (by decide) rfl (credit _ _ _)) $$ [HW]
  · isplitr; · iexact HR
    iexact HW
  iintro HW
  iapply (wp_wait_row osem osem_inj (Pay m) N N_pos 𝒱₀ κ id c (k := 10) (by decide) rfl (credit _ _ _)) $$ [HW]
  · isplitr; · iexact HR
    iexact HW
  iintro HW
  iapply (wp_wait_row osem osem_inj (Pay m) N N_pos 𝒱₀ κ id c (k := 11) (by decide) rfl (credit _ _ _)) $$ [HW]
  · isplitr; · iexact HR
    iexact HW
  iintro HW
  iapply (wp_wait_row osem osem_inj (Pay m) N N_pos 𝒱₀ κ id c (k := 12) (by decide) rfl (credit _ _ _)) $$ [HW]
  · isplitr; · iexact HR
    iexact HW
  iintro HW
  iapply (wp_wait_row osem osem_inj (Pay m) N N_pos 𝒱₀ κ id c (k := 13) (by decide) rfl (credit _ _ _)) $$ [HW]
  · isplitr; · iexact HR
    iexact HW
  iintro HW
  iapply (wp_wait_row osem osem_inj (Pay m) N N_pos 𝒱₀ κ id c (k := 14) (by decide) rfl (credit _ _ _)) $$ [HW]
  · isplitr; · iexact HR
    iexact HW
  iintro HW
  rw [wp_ret]; imodintro
  iapply Hk
  iapply (from_waiting m c)
  iexact HW

/-! ## The region's proof data -/

/-- The kernel has no window and one point: what holds before it and after it, and what is owed. -/
def dats (_ : Fin 1) (c : Dev nD) : Dat τ (Elt F) Unit ℕ (UU nD τ sig) ℕ cfg0 c where
  A w := m ((cfg0.win w).arr.view.loc (c : Thread nD τ))
  after w _ := Fin.elim0 (show Fin 0 from w)
  Φ t := match t with
    | ⟨0, _⟩ => Φ₀ m c
    | ⟨_ + 1, _⟩ => Φ₁ m c
  q _ := fullShare
  owed t := match t with
    | ⟨0, _⟩ => owed osem peer N c 0
    | ⟨_ + 1, _⟩ => 0

theorem no_windows : IsEmpty (Fin cfg0.W) := ⟨fun w => Fin.elim0 (show Fin 0 from w)⟩

theorem body_obligation (c : Dev nD) : BodyObligationLoose (dats m 0 c) (defs₀ (F := F)) 𝒱₀ () Set.univ := fun t => by
  obtain rfl : t = t0_0 := fin_N0 t
  have := no_windows
  rw [Finset.univ_eq_empty, BI.bigSep_empty, BI.bigSep_empty]
  show iprop(Φ₀ m c ∗ (dats m 0 c).owesAt () t0_0.castSucc ∗ BI.emp)
    ⊢ wp frame (wpE (defs₀ (F := F)) 𝒱₀ (c : Thread nD τ) none) Set.univ (bodyAt0 (F := F) t0_0)
      fun _ => iprop(Φ₁ m c ∗ (dats m 0 c).owesAt () t0_0.succ ∗ BI.emp)
  unfold Φ₀ before Dat.owesAt Pipeline.owesWithin
  rw [show (dats m 0 c).owed t0_0.castSucc = owed osem peer N c 0 from rfl, show (dats m 0 c).owed t0_0.succ = 0 from rfl]
  iintro ⟨⟨⟨⟨%κ, HR, Hg⟩, Hx, Hy⟩, Hcr⟩, ⟨%W, %hW, HO⟩, -⟩
  iapply (sound_body m κ c _)
  isplitl
  · isplitl [HR]; · iexact HR
    isplitl [Hg]; · iexact Hg
    isplitl [Hx Hy]
    · isplitl [Hx] <;> iassumption
    isplitl [Hcr]; · iexact Hcr
    iexists W; iexact HO
  · iintro ⟨HΦ, ⟨%W', HO⟩⟩
    isplitl [HΦ]; · iexact HΦ
    isplitl
    · iexists W'
      isplitr; · ipureintro; exact fun _ _ => Or.inl trivial
      iexact HO
    iempintro

/-! ## The launch -/

theorem ownSemFacts : OwnSemFacts cfg0.spec osem := by decide

/-- A device's unscoped arrays: its input and its output. -/
theorem arrays_eq (c : Dev nD) :
    (unscopedBufs c (fun b => m (c.tc.loc b)) : sProp 𝕄) = iprop((bigSep Finset.univ (xS m c)) ∗ bigSep Finset.univ (y0 m c)) := by
  have := no_windows
  rw [unscopedBufs_split cfgs 0 winFacts0.arr_unscoped winFacts0.arr_inj c, unscopedRest0_eq, Finset.univ_eq_empty, BI.bigSep_empty,
    ← x_slots, ← y0_slots]
  exact emp_sep_eq _

/-- One global step: the cells' ghost state is made, and every device is dealt slot `c` of every output. -/
theorem glob :
    iprop((bigSep Finset.univ fun c : Dev nD => iprop(ownSems0 osem c ∗ unscopedBufs c (fun b => m ((c.tc : Thread nD τ).loc b)))) ∗ ownU (u₀ osem osem_inj))
      ⊢ (|={Set.univ}=> bigSep Finset.univ (before m) : sProp 𝕄) := by
  have hmem : (bigSep Finset.univ fun c : Dev nD => (unscopedBufs c (fun b => m ((c.tc : Thread nD τ).loc b)) : sProp 𝕄))
      = iprop((bigSep Finset.univ fun c => bigSep Finset.univ (xS m c)) ∗ bigSep Finset.univ fun c => bigSep Finset.univ fun q => y0 m q c) := by
    rw [bigSep_congr fun c _ => arrays_eq m c, bigSep_sep', bigSep_swap fun c q => y0 m c q]
  rw [bigSep_sep', hmem]
  iintro ⟨⟨Hs, Hx, Hy⟩, Hu⟩
  imod (alloc osem osem_inj (Pay m) (Pay_storable m) N N_pos) $$ [Hs Hu] with ⟨%κ, #HR, Hat, Htok⟩
  · isplitl [Hs] <;> iassumption
  imodintro
  ihave Hg := (deal osem peer peer_peer) $$ [Hat Htok]
  · isplitl [Hat] <;> iassumption
  have hone (c : Dev nD) : iprop(records osem (Pay m) N N_pos κ ∗ ghost osem peer c ∗ (bigSep Finset.univ (xS m c)) ∗ bigSep Finset.univ fun q => y0 m q c)
      ⊢ (before m c : sProp 𝕄) := by
    unfold before
    iintro ⟨HR, Hg, Hx, Hy⟩
    isplitr [Hx Hy]
    · iexists κ
      isplitl [HR] <;> iassumption
    isplitl [Hx] <;> iassumption
  have hb : iprop(records osem (Pay m) N N_pos κ
        ∗ bigSep Finset.univ fun c : Dev nD => iprop(ghost osem peer c ∗ (bigSep Finset.univ (xS m c)) ∗ bigSep Finset.univ fun q => y0 m q c))
      ⊢ (bigSep Finset.univ (before m) : sProp 𝕄) := by
    refine (sep_mono_left (BI.bigSep_of_persistent (Finset.univ : Finset (Dev nD)) _)).trans ?_
    rw [← bigSep_sep']
    exact bigSep_mono fun c _ => hone c
  iapply hb
  rw [bigSep_sep', bigSep_sep']
  isplitr; · iexact HR
  isplitl [Hg]; · iexact Hg
  isplitl [Hx] <;> iassumption

/-- THE RUN, over any reading of the floats: the program ends, every device's output is slot by slot what its peers sent it,
    every input is as it was, and no semaphore is left raised. -/
theorem run_main (g : Dev nD → PrngReg) :
    θ_run (defs (F := F)) (onTc (τ := τ) (main (F := F))) ⟨m, fun _ => 0, g⟩
      (fun r => (∀ c : Dev nD, r.2.mem (xloc c) = m (xloc c) ∧ r.2.mem (yloc c) = taken m c) ∧ r.2.sem = fun _ => 0) :=
  HbmLaunch.run_region cfgs (dats m) (OneShot.E) cellOf_inj 0 winFacts0 ownSemFacts (defs₀ (F := F)) 𝒱₀ no_windows m g main (fun _ => rfl)
    (body_obligation m) (fun c => owed osem peer N c 0) (fun _ => rfl) (fun _ => rfl) (fun _ => ∅) (fun _ _ => 0) (fun _ _ => rfl)
    (u₀ osem osem_inj) (before m) (fun c => iprop((xloc c ↦{fullShare} given m c) ∗ (yloc c ↦{fullShare} taken m c))) (glob m)
    (fun c => by
      rw [show (dats m 0 c).Φ 0 = Φ₀ m c from rfl]
      unfold Φ₀
      have hc := creds (τ := τ) (Val := Elt F) osem osem_inj peer peer_peer N c
      iintro ⟨⟨Hb, -, Hcr⟩, -⟩
      isplitl [Hb]; · iexact Hb
      iapply hc; iexact Hcr)
    (fun c => by
      rw [show (dats m 0 c).Φ (Fin.last (cfgs 0).N) = Φ₁ m c from rfl, scopedRest0_eq]
      unfold Φ₁
      iintro ⟨H, Hs⟩
      isplitl [H]; · iexact H
      isplitl [Hs]; · iexact Hs
      iempintro)
    (fun c s => s.mem (xloc c) = m (xloc c) ∧ s.mem (yloc c) = taken m c)
    (fun c s' => by
      iintro ⟨⟨Hx, Hy⟩, HSI⟩
      icombine HSI Hx gives %hx
      icombine HSI Hy gives %hy
      imodintro
      isplitr
      · ipureintro
        exact ⟨funext fun i => hx i (Finset.mem_univ i), funext fun i => hy i (Finset.mem_univ i)⟩
      · iexact HSI)
    (fun s h hs => ⟨h, sem_eq_zero_of_scoped (by decide) hs⟩)

end Cert.AllToAll
-- ==== Proof.AllToAllClaims.lean ====
/-
  The all-to-all on eight devices against the reference on one device: the reference's result, cut into eight blocks,
  is what the eight devices end with.
-/
module
public import proofs.«01_k».proof.Proof.AllToAllRun
public import proofs.«01_k».proof.Proof.Gen.ExchangeRefIdeal.Run
public import Idealize.ShloMosaic.Lib.Layout
public import Idealize.ShloMosaic.Lib.Claim
public import Idealize.ShloMosaic.Lib.Pipeline.Value
@[expose] public section

noncomputable section
namespace Cert.AllToAll

open Idealize.ShloMosaic Idealize.ShloMosaic.TcCoe Idealize.SL.Sem

variable {F : FTy → Type} [FloatOps F]

/-- The whole result of the reference: its argument as eight rows of eight blocks, rows and columns exchanged. -/
abbrev exchanged (w : Cert.ExchangeRefIdeal.S64x5888x1024.Idx → Elt F .bf16) : Cert.ExchangeRefIdeal.S64x5888x1024.Idx → Elt F .bf16 :=
  shapeCast _ (transpose Cert.ExchangeRefIdeal.S8x8x5888x1024 [1, 0, 2, 3]
    (shapeCast _ w Cert.ExchangeRefIdeal.Gen.shapeCasts_S64x5888x1024_S8x8x5888x1024)
    Cert.ExchangeRefIdeal.Gen.transposes_S8x8x5888x1024_S8x8x5888x1024_1_0_2_3)
    Cert.ExchangeRefIdeal.Gen.shapeCasts_S8x8x5888x1024_S64x5888x1024

/-- Block `b` of device `a`'s eight blocks, at row `r` and column `q`. -/
def at4 (a b : Fin 8) (r : Fin 5888) (q : Fin 1024) : Cert.ExchangeRefIdeal.S8x8x5888x1024.Idx := fun
  | ⟨0, _⟩ => a | ⟨1, _⟩ => b | ⟨2, _⟩ => r | ⟨3, _⟩ => q

/-- Entry `k` of the exchanged array, in the block at place `8 a + b`, is the argument's entry in the block at place `8 b + a`. -/
theorem exchanged_apply (w : Cert.ExchangeRefIdeal.S64x5888x1024.Idx → Elt F .bf16) (j k : Cert.ExchangeRefIdeal.S64x5888x1024.Idx)
    (a b : Fin 8) (r : Fin 5888) (q : Fin 1024)
    (hj0 : (j 0).val = a.val * 8 + b.val) (hj1 : (j 1).val = r.val) (hj2 : (j 2).val = q.val)
    (hk0 : (k 0).val = b.val * 8 + a.val) (hk1 : (k 1).val = r.val) (hk2 : (k 2).val = q.val) :
    exchanged w j = w k := by
  refine (shapeCast_apply _ _ j (at4 a b r q) ?_).trans ((transpose_apply _ _ _ (at4 a b r q) (at4 b a r q) ?_).trans
    (shapeCast_apply w _ (at4 b a r q) k ?_))
  · rw [Shape.rowMajor_val_four, Shape.rowMajor_val_three, hj0, hj1, hj2]; rfl
  · intro x
    match x with
    | ⟨0, _⟩ => rfl
    | ⟨1, _⟩ => rfl
    | ⟨2, _⟩ => rfl
    | ⟨3, _⟩ => rfl
  · rw [Shape.rowMajor_val_four, Shape.rowMajor_val_three, hk0, hk1, hk2]; rfl

open Cert.ExchangeIdeal in
/-- What device `c` ends with is block `c` of the exchanged array. -/
theorem taken_eq (m : (ℓ : Loc nD τ sig) → Buf (Elt F) ℓ) (w : Cert.ExchangeRefIdeal.S64x5888x1024.Idx → Elt F .bf16)
    (hw : ∀ q : Dev nD, given m q = Layout.block ⟨3, ![8, 5888, 1024]⟩ ⟨3, ![64, 5888, 1024]⟩ 0 8 q w) (c : Dev nD) :
    taken m c = Layout.block ⟨3, ![8, 5888, 1024]⟩ ⟨3, ![64, 5888, 1024]⟩ 0 8 c (exchanged w) := by
  funext i
  refine (congrFun (hw (i 0)) (Function.update (β := fun a => Fin (S8x5888x1024.size a)) i 0 c)).trans ?_
  refine (exchanged_apply w _ _ c (i 0) (i 1) (i 2) ?_ ?_ ?_ ?_ ?_ ?_).symm <;> rfl

/-- The kernel on eight devices, started with the eight blocks of an array, and the reference on one, started with the
    whole array, end with the eight blocks of one array and with that array; neither touches its argument. -/
theorem pair (m : (ℓ : Loc Cert.ExchangeIdeal.nD Cert.ExchangeIdeal.τ Cert.ExchangeIdeal.sig) → Buf (Elt F) ℓ) (g : Dev Cert.ExchangeIdeal.nD → PrngReg)
    (m' : (ℓ : Loc Cert.ExchangeRefIdeal.nD Cert.ExchangeRefIdeal.τ Cert.ExchangeRefIdeal.sig) → Buf (Elt F) ℓ) (g' : Dev Cert.ExchangeRefIdeal.nD → PrngReg)
    (hw : ∀ q : Dev Cert.ExchangeIdeal.nD, given m q = Layout.block ⟨3, ![8, 5888, 1024]⟩ ⟨3, ![64, 5888, 1024]⟩ 0 8 q
      (m' (((0 : Dev Cert.ExchangeRefIdeal.nD).tc : Thread Cert.ExchangeRefIdeal.nD Cert.ExchangeRefIdeal.τ).loc Cert.ExchangeRefIdeal.main_arg0))) :
    ∃ (v0 : Buf (Elt F) (((0 : Dev Cert.ExchangeRefIdeal.nD).tc : Thread Cert.ExchangeRefIdeal.nD Cert.ExchangeRefIdeal.τ).loc Cert.ExchangeRefIdeal.main_v2)),
      θ_run (Cert.ExchangeIdeal.defs (F := F)) (onTc (τ := Cert.ExchangeIdeal.τ) (Cert.ExchangeIdeal.main (F := F))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![8, 5888, 1024]⟩ ⟨3, ![64, 5888, 1024]⟩ 0 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := F)) (onTc (τ := Cert.ExchangeRefIdeal.τ) (Cert.ExchangeRefIdeal.main (F := F))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)) :=
  ⟨exchanged (m' (((0 : Dev Cert.ExchangeRefIdeal.nD).tc : Thread Cert.ExchangeRefIdeal.nD Cert.ExchangeRefIdeal.τ).loc Cert.ExchangeRefIdeal.main_arg0)),
    (θ_run _ _ _).mono (fun r h c => ⟨((h.1 c).2).trans (taken_eq m _ hw c), (h.1 c).1⟩) (run_main m g),
    (θ_run _ _ _).mono (fun r h => h 0) (Cert.ExchangeRefIdeal.Value.run m' g')⟩

end Cert.AllToAll
end
-- ==== Proof.AllGather.lean ====
/-
  The all-gather on eight devices: who sends what to whom, and what the buffers hold.

  Every device sends its own block to four others, its sibling and the three devices that differ from it in the first two
  axes alone; what it receives from those three it passes on to its sibling.
-/
module

public import proofs.«01_k».proof.Proof.Rows
public import proofs.«01_k».proof.Proof.Launch
public import proofs.«01_k».proof.Proof.Gen.GatherIdeal
public import proofs.«01_k».proof.Proof.Gen.GatherIdeal.Skeleton
public import proofs.«01_k».proof.Proof.Gen.GatherIdeal.Launch
public import Idealize.ShloMosaic.Lib.Tactic

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.GatherIdeal Cert.GatherIdeal.Gen Cert.OneShot

/-! ## Devices -/

/-- The device whose number differs from `c`'s in the bits of `b`. -/
def flip (c : Dev nD) (b : Fin 8) : Dev nD := ⟨c.val ^^^ b.val, Nat.xor_lt_two_pow (n := 3) c.isLt b.isLt⟩

/-- Where device `c`'s send `j` goes. -/
def dest (c : Dev nD) (j : Fin 7) : Dev nD := flip c ((![1, 4, 2, 6, 1, 1, 1] : Fin 7 → Fin 8) j)
/-- Whose block it carries: the device's own, or one received before. -/
def blk (c : Dev nD) (j : Fin 7) : Dev nD := flip c ((![0, 0, 0, 0, 4, 2, 6] : Fin 7 → Fin 8) j)
/-- Whose block another device's send `j` brings to `c`. -/
def src (c : Dev nD) (j : Fin 7) : Dev nD := flip c ((![1, 4, 2, 6, 5, 3, 7] : Fin 7 → Fin 8) j)

theorem dest_dest (c : Dev nD) (j : Fin 7) : dest (dest c j) j = c := by revert c j; decide
theorem src_dest (c : Dev nD) (j : Fin 7) : src (dest c j) j = blk c j := by revert c j; decide

/-- A device's own block and the seven it receives are all the blocks. -/
theorem univ_srcs (c : Dev nD) : (Finset.univ : Finset (Dev nD)) = insert c (Finset.univ.image (src c)) := by revert c; decide
theorem src_inj (c : Dev nD) : Function.Injective (src c) := by revert c; decide
theorem self_notMem (c : Dev nD) : c ∉ Finset.univ.image (src c) := by revert c; decide

/-- The fifteen semaphores: seven for sending, seven for receiving, one for the copy a device makes to itself. -/
def osem : Fin 15 → SemLoc sig := fun k => .dma k

theorem osem_inj : Function.Injective osem := fun a b h => by
  have h' : (SemLoc.dma a : SemLoc sig) = .dma b := h
  injection h'

/-! ## The eight blocks of an output -/

abbrev xloc (c : Dev nD) : Loc nD τ sig := c.tc.loc main_arg0
abbrev yloc (c : Dev nD) : Loc nD τ sig := c.tc.loc main_v1

abbrev xM : Memref sig .tc .hbm S5888x1024 .bf16 := Memref.whole main_arg0
abbrev yM : Memref sig .tc .hbm S47104x1024 .bf16 := Memref.whole main_v1

/-- Where block `q` begins. -/
def rowOff (q : Dev nD) : Fin 2 → ℕ := ![q.val * 5888, 0]

/-- The block of an output that begins at `o`. -/
abbrev rowsAt (o : Fin 2 → ℕ) (h : ∀ a, o a + S5888x1024.size a ≤ S47104x1024.size a) : Memref sig .tc .hbm S5888x1024 .bf16 :=
  yM.slice (Rect.unit (s := S47104x1024) o S5888x1024.size h) (fun _ => rfl)

/-- Which block an index lies in. -/
def blockOf (i : S47104x1024.Idx) : Dev nD := ⟨(i 0).val / 5888, by have h : (i 0).val < 47104 := (i 0).isLt; show (i 0).val / 5888 < 8; omega⟩
/-- Where in its block. -/
def within (i : S47104x1024.Idx) : S5888x1024.Idx := fun
  | ⟨0, _⟩ => ⟨(i 0).val % 5888, Nat.mod_lt _ (by decide)⟩
  | ⟨1, _⟩ => i 1

/-- The indices of block `q`. -/
def rows (q : Dev nD) : Finset S47104x1024.Idx := Finset.univ.filter fun i => blockOf i = q

theorem mem_rows (q : Dev nD) (i : S47104x1024.Idx) : i ∈ rows q ↔ blockOf i = q := by
  rw [rows, Finset.mem_filter]
  exact ⟨fun h => h.2, fun h => ⟨Finset.mem_univ _, h⟩⟩

theorem mem_unit_rows (q : Dev nD) (o : Fin 2 → ℕ) (ho : o = rowOff q)
    (h : ∀ a, o a + S5888x1024.size a ≤ S47104x1024.size a) :
    (Rect.unit (s := S47104x1024) o S5888x1024.size h).set = rows q := by
  subst ho
  ext i
  rw [Rect.mem_set_unit, mem_rows]
  have e1 : rowOff q 0 = q.val * 5888 := rfl
  have e2 : S5888x1024.size 0 = 5888 := rfl
  constructor
  · intro H
    have h0 := H 0
    rw [e1, e2] at h0
    apply Fin.ext
    show (i 0).val / 5888 = q.val
    omega
  · intro H a
    have hq : (i 0).val / 5888 = q.val := congrArg Fin.val H
    have hi := (i a).isLt
    fin_cases a
    · show rowOff q 0 ≤ (i 0).val ∧ (i 0).val < rowOff q 0 + S5888x1024.size 0
      rw [e1, e2]
      omega
    · exact ⟨Nat.zero_le _, (Nat.zero_add _).symm ▸ hi⟩

theorem y_set (q : Dev nD) (o : Fin 2 → ℕ) (ho : o = rowOff q)
    (h : ∀ a, o a + S5888x1024.size a ≤ S47104x1024.size a) : (rowsAt o h).view.set = rows q :=
  (View.set_slice_whole _ _).trans (mem_unit_rows q o ho h)

theorem rows_disjoint (p q : Dev nD) (h : p ≠ q) : Disjoint (rows p) (rows q) := by
  rw [Finset.disjoint_left]
  intro i hp hq
  exact h (((mem_rows _ _).1 hp).symm.trans ((mem_rows _ _).1 hq))

theorem rows_cover : (Finset.univ.biUnion rows : Finset S47104x1024.Idx) = Finset.univ := by
  ext i
  simp only [Finset.mem_biUnion, Finset.mem_univ, true_and, iff_true]
  exact ⟨blockOf i, (mem_rows _ _).2 rfl⟩

/-! ## The contents -/

variable {F : FTy → Type} [FloatOps F]
variable (m : (ℓ : Loc nD τ sig) → Buf (Elt F) ℓ)

/-- What device `c` is given. -/
def given (c : Dev nD) : S5888x1024.Idx → Elt F .bf16 := m (xloc c)

/-- What every device ends with: the blocks of all the devices, one after the other. -/
def gathered : S47104x1024.Idx → Elt F .bf16 := fun i => given m (blockOf i) (within i)

/-- What device `q` is given, written to block `q` of any output, is what is to end there. -/
theorem landed_own (q : Dev nD) (o : Fin 2 → ℕ) (ho : o = rowOff q)
    (h : ∀ a, o a + S5888x1024.size a ≤ S47104x1024.size a)
    (fd : S47104x1024.Idx → Elt F .bf16) (i : S47104x1024.Idx) (hi : i ∈ rows q) :
    (rowsAt o h).view.write (Val := Elt F) fd (xM.view.read (Val := Elt F) (given m q)) Finset.univ i = gathered m i := by
  have hr : xM.view.read (Val := Elt F) (given m q) = (rowsAt o h).view.read (Val := Elt F) (gathered m) := by
    subst ho
    funext k
    have key : ∀ j : S5888x1024.Idx, given m q j = gathered m ((Rect.unit (s := S47104x1024) (rowOff q) S5888x1024.size h).emb j) := by
      intro j
      have h0 : ((Rect.unit (s := S47104x1024) (rowOff q) S5888x1024.size h).emb j 0).val = q.val * 5888 + 1 * (j 0).val := by
        rw [Rect.emb_apply]; rfl
      have h1 : ((Rect.unit (s := S47104x1024) (rowOff q) S5888x1024.size h).emb j 1).val = 0 + 1 * (j 1).val := by
        rw [Rect.emb_apply]; rfl
      have hj : (j 0).val < 5888 := (j 0).isLt
      have hb : blockOf ((Rect.unit (s := S47104x1024) (rowOff q) S5888x1024.size h).emb j) = q := by
        apply Fin.ext
        show ((Rect.unit (s := S47104x1024) (rowOff q) S5888x1024.size h).emb j 0).val / 5888 = q.val
        rw [h0]; omega
      have hw : within ((Rect.unit (s := S47104x1024) (rowOff q) S5888x1024.size h).emb j) = j := by
        funext a
        apply Fin.ext
        fin_cases a
        · show ((Rect.unit (s := S47104x1024) (rowOff q) S5888x1024.size h).emb j 0).val % 5888 = (j 0).val
          rw [h0]; omega
        · show ((Rect.unit (s := S47104x1024) (rowOff q) S5888x1024.size h).emb j 1).val = (j 1).val
          rw [h1]; omega
      unfold gathered
      rw [hb, hw]
    exact key _
  rw [hr, View.write_read_eq_piecewise, View.setOn_univ]
  exact Finset.piecewise_eq_of_mem _ _ _ ((y_set q o ho h).symm ▸ hi)

/-- Block `q` passed on from one output to another is what is to end there. -/
theorem landed_pass (q : Dev nD) (o : Fin 2 → ℕ) (ho : o = rowOff q)
    (h h' : ∀ a, o a + S5888x1024.size a ≤ S47104x1024.size a)
    (fd : S47104x1024.Idx → Elt F .bf16) (i : S47104x1024.Idx) (hi : i ∈ rows q) :
    (rowsAt o h).view.write (Val := Elt F) fd ((rowsAt o h').view.read (Val := Elt F) (gathered m)) Finset.univ i = gathered m i := by
  rw [View.write_read_eq_piecewise, View.setOn_univ]
  exact Finset.piecewise_eq_of_mem _ _ _ ((y_set q o ho h).symm ▸ hi)

end Cert.AllGather
-- ==== Proof.AllGatherBody.lean ====
/-
  The all-gather on eight devices: its protocol and the steps of the kernel's body.

  Cell `snd j` of device `c` hands back what send `j` read: a fifth of the device's input for the first four, a block of
  its output for the three that pass one on. Cell `rcv j` hands over the block that a send `j` has brought. The last cell
  hands back the block the device copied itself and the last fifth of its input. Three of the landings are waited for
  while sends are still ahead; the order of the cells that permits it is `lv`.
-/
module

public import proofs.«01_k».proof.Proof.AllGather

@[expose] public section

noncomputable section

namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.SparseCore.ProtocolKit
open Cert.GatherIdeal Cert.GatherIdeal.Gen Cert.OneShot

variable {F : FTy → Type} [FloatOps F]
variable (m : (ℓ : Loc nD τ sig) → Buf (Elt F) ℓ)

local notation "𝕄" => MT nD τ sig Unit (Elt F) ℕ (UU nD τ sig) ℕ

/-! ## Ownership -/

/-- Five shares that make the whole one. -/
def part : ℕ → PosShare TreeShare
  | 0 => fullShare.left
  | 1 => fullShare.right.left
  | 2 => fullShare.right.right.left
  | 3 => fullShare.right.right.right.left
  | _ => fullShare.right.right.right.right

/-- One of the five shares of device `c`'s input. -/
def xP (c : Dev nD) (i : ℕ) : sProp 𝕄 := xloc c ↦{part i} given m c
/-- Block `q` of device `c`'s output, as launched. -/
def y0 (c q : Dev nD) : sProp 𝕄 := yloc c ↦[rows q]{fullShare} m (yloc c)
/-- Block `q` of device `c`'s output, as it ends. -/
def y1 (c q : Dev nD) : sProp 𝕄 := yloc c ↦[rows q]{fullShare} gathered m

/-- A device's input is its five shares. -/
theorem x_parts (c : Dev nD) :
    (xloc c ↦{fullShare} given m c : sProp 𝕄) = iprop(xP m c 0 ∗ xP m c 1 ∗ xP m c 2 ∗ xP m c 3 ∗ xP m c 4) := by
  have h (q : PosShare TreeShare) : (xloc c ↦{q} given m c : sProp 𝕄) = iprop((xloc c ↦{q.left} given m c) ∗ xloc c ↦{q.right} given m c) :=
    BI.Entails.antisymm (pointsTo_share (PosShare.mem_left_op_right q)).1 (pointsTo_share (PosShare.mem_left_op_right q)).2
  rw [h fullShare, h fullShare.right, h fullShare.right.right, h fullShare.right.right.right]
  rfl

/-- A device's output is its eight blocks. -/
theorem y0_rows (c : Dev nD) : (yloc c ↦{fullShare} m (yloc c) : sProp 𝕄) = bigSep Finset.univ (y0 m c) := by
  have h := pointsTo_biUnion (Ix := Unit) (Name := ℕ) (U := UU nD τ sig) (Lvl := ℕ) (q := fullShare) (f := m (yloc c)) (ℓ := yloc c) Finset.univ rows
    (fun p _ q _ h => rows_disjoint p q h)
  rw [rows_cover] at h
  exact h
theorem y1_rows (c : Dev nD) : (yloc c ↦{fullShare} gathered m : sProp 𝕄) = bigSep Finset.univ (y1 m c) := by
  have h := pointsTo_biUnion (Ix := Unit) (Name := ℕ) (U := UU nD τ sig) (Lvl := ℕ) (q := fullShare) (f := gathered m) (ℓ := yloc c) Finset.univ rows
    (fun p _ q _ h => rows_disjoint p q h)
  rw [rows_cover] at h
  exact h

/-- Over all devices: one and those whose blocks it receives. -/
theorem bigSep_srcs (c : Dev nD) (Φ : Dev nD → sProp 𝕄) :
    bigSep Finset.univ Φ = iprop(Φ c ∗ bigSep Finset.univ fun j : Fin 7 => Φ (src c j)) := by
  rw [univ_srcs c, SparseCore.bigSep_insert' (self_notMem c),
    show Finset.univ.image (src c) = Finset.univ.map ⟨src c, src_inj c⟩ from by ext; simp, BI.bigSep_map]
  rfl

/-- The blocks device `c` writes: its own in its own output, and the one each send carries, where the send goes. -/
def places (c : Dev nD) : sProp 𝕄 := iprop(y0 m c c ∗ bigSep Finset.univ fun j : Fin 7 => y0 m (dest c j) (blk c j))

/-- All the outputs, dealt to the devices that write them. -/
theorem deal_places : (bigSep Finset.univ fun c : Dev nD => bigSep Finset.univ (y0 m c)) = bigSep Finset.univ (places m) := by
  have hsw : (bigSep Finset.univ fun c : Dev nD => bigSep Finset.univ fun j : Fin 7 => y0 m c (src c j))
      = bigSep Finset.univ fun c : Dev nD => bigSep Finset.univ fun j : Fin 7 => y0 m (dest c j) (blk c j) := by
    rw [bigSep_swap, bigSep_swap fun (c : Dev nD) (j : Fin 7) => y0 m (dest c j) (blk c j)]
    refine bigSep_congr fun j _ => ?_
    rw [bigSep_univ_equiv (⟨fun c => dest c j, fun c => dest c j, fun c => dest_dest c j, fun c => dest_dest c j⟩ : Dev nD ≃ Dev nD)]
    refine bigSep_congr fun c _ => ?_
    show y0 m (dest c j) (src (dest c j) j) = _
    rw [src_dest]
  unfold places
  rw [bigSep_congr fun c _ => bigSep_srcs c (y0 m c), bigSep_sep', bigSep_sep', hsw]

/-! ## The protocol -/

/-- What send `j` reads, and gets back. -/
def Src (c : Dev nD) (j : Fin 7) : sProp 𝕄 := if j.val < 4 then xP m c j.val else y1 m c (blk c j)

/-- What each cell hands its device. -/
def Pay (c : Dev nD) (k : Fin 15) : sProp 𝕄 :=
  if h : k.val < 7 then Src m c ⟨k.val, h⟩
  else if h' : k.val - 7 < 7 then y1 m c (src c ⟨k.val - 7, h'⟩)
  else iprop(y1 m c c ∗ xP m c 4)

theorem Pay_snd (c : Dev nD) (j : Fin 7) : Pay m c (snd j) = Src m c j := by
  unfold Pay; rw [dif_pos (show (snd j).val < 7 from j.isLt)]; rfl
theorem Pay_rcv (c : Dev nD) (j : Fin 7) : Pay m c (rcv j) = y1 m c (src c j) := by
  have h : (rcv j).val = 7 + j.val := rfl
  have hj := j.isLt
  unfold Pay
  rw [dif_neg (by omega), dif_pos (by omega)]
  congr 2
  exact Fin.ext (by show (rcv j).val - 7 = j.val; omega)
theorem Pay_loc (c : Dev nD) : Pay m c loc15 = iprop(y1 m c c ∗ xP m c 4) := by
  unfold Pay; rw [dif_neg (by decide), dif_neg (by decide)]

theorem Pay_storable (c : Dev nD) (k : Fin 15) : BI.Storable (upEmb : UEmb _ 𝕄) (Pay m c k) := by
  unfold Pay
  split
  · unfold Src xP y1; split <;> infer_instance
  · split
    · unfold y1; infer_instance
    · unfold xP y1; infer_instance

/-- What one block's transfer adds to its cells. -/
def N : ℕ := (rowsAt (rowOff 0) (by decide)).view.dmaCredit
theorem N_pos : 0 < N := View.dmaCredit_pos _ (by decide)
theorem credit (o : Fin 2 → ℕ) (h : ∀ a, o a + S5888x1024.size a ≤ S47104x1024.size a) : (rowsAt o h).view.dmaCredit = N := rfl
theorem credit_x : xM.view.dmaCredit = N := rfl

/-! ## The printed offsets and devices -/

theorem off1_eq (c : Dev nD) : k0_off1 c = rowOff c := by rw [k0_off1_eq]; revert c; decide
theorem off2_eq (c : Dev nD) : k0_off2 c = rowOff (blk c 4) := by rw [k0_off2_eq]; revert c; decide
theorem off3_eq (c : Dev nD) : k0_off3 c = rowOff (blk c 5) := by rw [k0_off3_eq]; revert c; decide
theorem off4_eq (c : Dev nD) : k0_off4 c = rowOff (blk c 6) := by rw [k0_off4_eq]; revert c; decide

theorem dev1_eq (c : Dev nD) : (⟨k0_dev1 c, k0_dev1_lt c⟩ : Dev nD) = dest c 0 := by revert c; decide
theorem dev2_eq (c : Dev nD) : (⟨k0_dev2 c, k0_dev2_lt c⟩ : Dev nD) = dest c 1 := by revert c; decide
theorem dev3_eq (c : Dev nD) : (⟨k0_dev3 c, k0_dev3_lt c⟩ : Dev nD) = dest c 2 := by revert c; decide
theorem dev4_eq (c : Dev nD) : (⟨k0_dev4 c, k0_dev4_lt c⟩ : Dev nD) = dest c 3 := by revert c; decide
theorem dev5_eq (c : Dev nD) : (⟨k0_dev5 c, k0_dev5_lt c⟩ : Dev nD) = dest c 4 := by revert c; decide
theorem dev6_eq (c : Dev nD) : (⟨k0_dev6 c, k0_dev6_lt c⟩ : Dev nD) = dest c 5 := by revert c; decide
theorem dev7_eq (c : Dev nD) : (⟨k0_dev7 c, k0_dev7_lt c⟩ : Dev nD) = dest c 6 := by revert c; decide

/-- What is passed on is what was received. -/
theorem blk4 (c : Dev nD) : blk c 4 = src c 1 := by revert c; decide
theorem blk5 (c : Dev nD) : blk c 5 = src c 2 := by revert c; decide
theorem blk6 (c : Dev nD) : blk c 6 = src c 3 := by revert c; decide

/-- The first four sends carry the device's own block. -/
theorem blk_own (c : Dev nD) (j : Fin 7) (h : j.val < 4) : blk c j = c := by revert c j; decide

/-! ## The order of the cells -/

/-- One row of levels: the TensorCores' cells. -/
def L (g : GSem nD τ sig) : Finset Unit := if g.1.2 = .tc then {()} else ∅
open Classical in
/-- The landings of what is passed on come after every other cell. -/
def lv (g : GSem nD τ sig) (_ : Unit) : ℕ := if ∃ j : Fin 7, 4 ≤ j.val ∧ g.2 = osem (rcv j) then 1 else 0

/-- What is owed is owed at the landings of the sends ahead. -/
theorem owed_pos {c : Dev nD} {k : ℕ} {g : GSem nD τ sig} {u : Unit} (h : 0 < OneShot.owed osem dest N c k g u) :
    ∃ j : Fin 7, k ≤ j.val ∧ g = kcell osem (dest c j, rcv j) := by
  by_contra hn
  apply Nat.lt_irrefl 0
  refine lt_of_lt_of_eq h ?_
  unfold OneShot.owed
  rw [Finset.sum_apply, Finsupp.finset_sum_apply]
  refine Finset.sum_eq_zero fun j hj => ?_
  rw [tallyAt_apply, if_neg]
  rintro ⟨h1, -⟩
  exact hn ⟨j, mem_finFrom.1 hj, h1⟩

/-- A landing of a device's own block may be waited for when only sends that pass a block on are ahead. -/
theorem mayWait_own (c : Dev nD) {k : ℕ} (hk : 4 ≤ k) (j : Fin 7) (hj : j.val < 4) :
    (levAts L lv : sProp 𝕄) ⊢ MayWait (c : Thread nD τ) (osem (rcv j)) () (owed osem dest N c k) :=
  MayOwe.of_cut (L := L) (lev := lv) 0
    (fun p hp => by rw [Finset.mem_singleton.mp hp]; unfold L; rw [if_pos rfl]; exact Finset.mem_singleton_self _)
    (fun g u hg => by
      obtain ⟨j', -, rfl⟩ := owed_pos hg
      unfold L; rw [if_pos rfl]; exact Finset.mem_singleton_self _)
    (fun p hp => by
      rw [Finset.mem_singleton.mp hp]
      unfold lv
      rw [if_neg]
      rintro ⟨j', h4, h⟩
      have := rcv_inj (osem_inj h)
      subst this
      omega)
    (fun g u hg => by
      obtain ⟨j', h4, rfl⟩ := owed_pos hg
      unfold lv
      rw [if_pos ⟨j', by omega, rfl⟩]
      exact Nat.one_pos)

/-! ## The steps of the body -/

variable (κ : Dev nD × Fin 15 → ℕ)

/-- What send `j` takes from the start: a share of the input, if it reads that, and the block it fills. -/
def R (c : Dev nD) (j : Fin 7) : sProp 𝕄 := iprop((if j.val < 4 then xP m c j.val else iprop(emp)) ∗ y0 m (dest c j) (blk c j))

abbrev 𝒱₀ : Variants := Variants.none

/-- A send of the device's own block. -/
theorem wp_send_own (c n : Dev nD) {k : ℕ} (hk : k < 7) (hk4 : k < 4) (hn : n = dest c ⟨k, hk⟩)
    {o : Fin 2 → ℕ} (ho : o = rowOff c) {h : ∀ a, o a + S5888x1024.size a ≤ S47104x1024.size a}
    {hsc : (rowsAt o h).view.ref.isScScratch = false} {sS sem : SemLoc sig}
    {hsrc : xM.view.WordExact} {hdst : (rowsAt o h).view.WordExact}
    {hsem : DmaTarget.Typed .hbm sem (.remote (Dev.tc n : Thread nD τ) (rowsAt o h) sS hsc)}
    {α : Type} {Q : α → sProp 𝕄} {kont : PUnit → Prog (TpuEff nD τ sig (Elt F) Λ₀ .tc) α}
    (hS : sS = osem (snd ⟨k, hk⟩)) (hR : sem = osem (rcv ⟨k, hk⟩)) :
    iprop(records osem (Pay m) N N_pos κ ∗ sending osem dest N (R m c) c k)
      ⊢ iprop((sending osem dest N (R m c) c (k + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma xM (.remote (Dev.tc n : Thread nD τ) (rowsAt o h) sS hsc) sem hsrc hdst hsem) kont) Q) := by
  subst hn
  have hx : xM.view.set = Finset.univ := View.set_whole _
  have hy := y_set c o ho h
  have hb : blk c ⟨k, hk⟩ = c := blk_own c _ hk4
  have H := wp_send_row (defs := defs₀ (F := F)) (τ := τ) osem osem_inj dest (Pay m) N N_pos 𝒱₀ κ (R m c) iprop(emp) c (dest c ⟨k, hk⟩) hk rfl (src := xM) (dst := rowsAt o h)
    (hsc := hsc) (hsrc := hsrc) (hdst := hdst) (hsem := hsem) (kont := kont) (Q := Q) (q := part k) (fs := given m c) (fd := m (yloc (dest c ⟨k, hk⟩))) hS hR
    (by subst hR; exact credit o h)
    (by
      rw [hx, hy]; unfold R y0
      rw [if_pos hk4, hb]
      unfold xP
      iintro ⟨-, H1, H2⟩
      isplitl [H1] <;> iassumption)
    (by rw [hx, Pay_snd]; unfold Src; rw [if_pos hk4]; unfold xP; exact Entails.refl _)
    (by
      rw [hy, Pay_rcv, src_dest, hb]; unfold y1
      refine Entails.of_eq (pointsTo_congr fun i hi => ?_)
      exact landed_own m c o ho h _ i hi)
  iintro ⟨#HR, HS⟩ Hk
  iapply H $$ [HS]
  · isplitr; · iexact HR
    isplitr; · iempintro
    iexact HS
  iexact Hk

/-- A send that passes on a block of the device's own output. -/
theorem wp_send_pass (c n : Dev nD) {k : ℕ} (hk : k < 7) (hk4 : ¬ k < 4) (hn : n = dest c ⟨k, hk⟩)
    {o : Fin 2 → ℕ} (ho : o = rowOff (blk c ⟨k, hk⟩)) {h h' : ∀ a, o a + S5888x1024.size a ≤ S47104x1024.size a}
    {hsc : (rowsAt o h).view.ref.isScScratch = false} {sS sem : SemLoc sig}
    {hsrc : (rowsAt o h').view.WordExact} {hdst : (rowsAt o h).view.WordExact}
    {hsem : DmaTarget.Typed .hbm sem (.remote (Dev.tc n : Thread nD τ) (rowsAt o h) sS hsc)}
    {α : Type} {Q : α → sProp 𝕄} {kont : PUnit → Prog (TpuEff nD τ sig (Elt F) Λ₀ .tc) α}
    (hS : sS = osem (snd ⟨k, hk⟩)) (hR : sem = osem (rcv ⟨k, hk⟩)) :
    iprop(records osem (Pay m) N N_pos κ ∗ y1 m c (blk c ⟨k, hk⟩) ∗ sending osem dest N (R m c) c k)
      ⊢ iprop((sending osem dest N (R m c) c (k + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowsAt o h') (.remote (Dev.tc n : Thread nD τ) (rowsAt o h) sS hsc) sem hsrc hdst hsem) kont) Q) := by
  subst hn
  have hx := y_set _ o ho h'
  have hy := y_set _ o ho h
  exact wp_send_row (defs := defs₀ (F := F)) (τ := τ) osem osem_inj dest (Pay m) N N_pos 𝒱₀ κ (R m c) (y1 m c (blk c ⟨k, hk⟩)) c (dest c ⟨k, hk⟩) hk rfl (src := rowsAt o h') (dst := rowsAt o h)
    (hsc := hsc) (hsrc := hsrc) (hdst := hdst) (hsem := hsem) (kont := kont) (Q := Q) (q := fullShare) (fs := gathered m) (fd := m (yloc (dest c ⟨k, hk⟩))) hS hR
    (by subst hR; exact credit o h)
    (by
      rw [hx]; unfold R y0 y1
      iintro ⟨H1, -, H2⟩
      isplitl [H1] <;> iassumption)
    (by rw [hx, Pay_snd]; unfold Src; rw [if_neg hk4]; unfold y1; exact Entails.refl _)
    (by
      rw [hy, Pay_rcv, src_dest]; unfold y1
      refine Entails.of_eq (pointsTo_congr fun i hi => ?_)
      exact landed_pass m _ o ho h h' _ i hi)

/-- The copy of a device's own block. -/
theorem wp_copy_own (c : Dev nD) {o : Fin 2 → ℕ} (ho : o = rowOff c)
    {h : ∀ a, o a + S5888x1024.size a ≤ S47104x1024.size a}
    {sem : SemLoc sig} {hsrc : xM.view.WordExact} {hdst : (rowsAt o h).view.WordExact}
    {hsem : DmaTarget.Typed (nD := nD) .hbm sem (DmaTarget.here (nD := nD) (τ := τ) (p := Proc.tc) (rowsAt o h))}
    {α : Type} {Q : α → sProp 𝕄} {kont : PUnit → Prog (TpuEff nD τ sig (Elt F) Λ₀ .tc) α} (hS : sem = osem loc15) :
    iprop(records osem (Pay m) N N_pos κ ∗ xP m c 4 ∗ y0 m c c ∗ dutyTok E (kcell osem (c, loc15)) 0 ())
      ⊢ iprop((cred (tallyAt (kcell osem (c, loc15)) () N) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma xM (.here (rowsAt o h)) sem hsrc hdst hsem) kont) Q) := by
  have hx : xM.view.set = Finset.univ := View.set_whole _
  have hy := y_set c o ho h
  have H := wp_copy (defs := defs₀ (F := F)) (τ := τ) osem osem_inj (Pay m) N N_pos 𝒱₀ κ c loc15 (src := xM) (dst := rowsAt o h)
    (hsrc := hsrc) (hdst := hdst) (hsem := hsem) (kont := kont) (Q := Q) (q := part 4) (fs := given m c) (fd := m (yloc c)) hS
    (by subst hS; exact credit o h)
    (by
      rw [hx, hy, Pay_loc]; unfold y1 xP
      have e : (yloc c ↦[rows c]{fullShare} (rowsAt o h).view.write (Elt F) (m (yloc c)) (xM.view.read (Elt F) (given m c)) Finset.univ : sProp 𝕄)
          = (yloc c ↦[rows c]{fullShare} gathered m) := pointsTo_congr fun i hi => landed_own m c o ho h _ i hi
      exact Entails.of_eq (congrArg (fun P : sProp 𝕄 => iprop(P ∗ (xloc c ↦{part 4} given m c))) e))
  rw [hx, hy] at H
  exact H

/-- A wait for a landing of another device's own block, with sends that pass blocks on still ahead. -/
theorem wp_wait_between (c : Dev nD) {k : ℕ} (hk : 4 ≤ k) (j : Fin 7) (hj : j.val < 4) {s' : Shape} {e' : EltTy} {sp : Space} {sem : DmaSem sig}
    {sm : Memref sig .tc sp s' e'} {o : Fin 2 → ℕ} {h : ∀ a, o a + S5888x1024.size a ≤ S47104x1024.size a}
    {hsrc : sm.view.WordExact} {hdst : (rowsAt o h).view.WordExact}
    {α : Type} {Q : α → sProp 𝕄} {kont : PUnit → Prog (TpuEff nD τ sig (Elt F) Λ₀ .tc) α} (hS : SemLoc.dma sem = osem (rcv j)) :
    iprop(records osem (Pay m) N N_pos κ ∗ levAts L lv ∗ cred (tallyAt (kcell osem (c, rcv j)) () N) ∗ atPos E (kcell osem (c, rcv j)) 0 ∅ 0
        ∗ sending osem dest N (R m c) c k)
      ⊢ iprop(((sending osem dest N (R m c) c k ∗ semVal (kcell osem (c, rcv j)) 0 ∗ y1 m c (src c j))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem sm (rowsAt o h) hsrc hdst) kont) Q) := by
  unfold sending
  iintro ⟨#HR, #HL, Hc, Hat, Hs, Hcr, ⟨%W, HO⟩⟩ Hk
  iapply (wp_wait osem osem_inj (Pay m) N N_pos 𝒱₀ κ c (rcv j) hS (credit o h) (O := owed osem dest N c k) (W := W)) $$ [Hc Hat HO]
  · isplitr; · iexact HR
    isplitl [Hc]; · iexact Hc
    isplitl [HO]; · iexact HO
    isplitr; · iapply (mayWait_own c hk j hj); iexact HL
    iexact Hat
  rw [Pay_rcv]
  iintro ⟨HO, Hz, Hp⟩
  iapply Hk
  isplitl [HO Hs Hcr]
  · isplitl [Hs]; · iexact Hs
    isplitl [Hcr]; · iexact Hcr
    iexists _; iexact HO
  isplitl [Hz] <;> iassumption

end Cert.AllGather
-- ==== Proof.AllGatherRun.lean ====
/-
  The all-gather on eight devices: the kernel's body walked once, at a symbolic device, and the run of the program.
-/
module
public import proofs.«01_k».proof.Proof.AllGatherBody
public import proofs.«01_k».proof.Proof.Gen.GatherIdeal.Points
@[expose] public section

noncomputable section
namespace Cert.AllGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.SparseCore.ProtocolKit
open Cert.GatherIdeal Cert.GatherIdeal.Gen Cert.OneShot

variable {F : FTy → Type} [FloatOps F]
variable (m : (ℓ : Loc nD τ sig) → Buf (Elt F) ℓ)

local notation "𝕄" => MT nD τ sig Unit (Elt F) ℕ (UU nD τ sig) ℕ

/-! ## Families written out -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The cells waited for after every send is started, in the order of the waits. -/
def late : Fin 12 → Fin 15
  | ⟨0, _⟩ => rcv 0
  | ⟨1, _⟩ => rcv 4
  | ⟨2, _⟩ => rcv 5
  | ⟨3, _⟩ => rcv 6
  | ⟨4, _⟩ => snd 0
  | ⟨5, _⟩ => snd 1
  | ⟨6, _⟩ => snd 2
  | ⟨7, _⟩ => snd 3
  | ⟨8, _⟩ => snd 4
  | ⟨9, _⟩ => snd 5
  | ⟨10, _⟩ => snd 6
  | ⟨11, _⟩ => loc15
theorem late_inj : Function.Injective late := by decide

theorem twelve (Φ : Fin 15 → sProp 𝕄) : (bigSep Finset.univ fun j => Φ (late j))
    = iprop(Φ (rcv 0) ∗ Φ (rcv 4) ∗ Φ (rcv 5) ∗ Φ (rcv 6) ∗ Φ (snd 0) ∗ Φ (snd 1) ∗ Φ (snd 2) ∗ Φ (snd 3) ∗ Φ (snd 4) ∗ Φ (snd 5) ∗ Φ (snd 6) ∗ Φ loc15) :=
  bigSep_univ_eq_bigSepL ([0, 1, 2, 3, 4, 5, 6, 7, 8, 9, 10, 11] : List (Fin 12)) (by decide) (by decide) fun j => Φ (late j)

theorem univ_late : (Finset.univ : Finset (Fin 15)) = insert (rcv 1) (insert (rcv 2) (insert (rcv 3) (Finset.univ.map ⟨late, late_inj⟩))) := by decide

/-- A family over the fifteen cells: the three landings waited for early, and the rest. -/
theorem early_late (Φ : Fin 15 → sProp 𝕄) :
    bigSep Finset.univ Φ = iprop(Φ (rcv 1) ∗ Φ (rcv 2) ∗ Φ (rcv 3) ∗ bigSep Finset.univ fun j => Φ (late j)) := by
  rw [univ_late, SparseCore.bigSep_insert' (by decide), SparseCore.bigSep_insert' (by decide), SparseCore.bigSep_insert' (by decide), bigSep_map]
  rfl

/-! ## The body -/

/-- What a device holds when the body begins, but for what it owes. -/
def before (c : Dev nD) : sProp 𝕄 :=
  iprop((∃ κ : Dev nD × Fin 15 → ℕ, records osem (Pay m) N N_pos κ ∗ ghost osem dest c) ∗ (xloc c ↦{fullShare} given m c) ∗ places m c)

def Φ₀ (c : Dev nD) : sProp 𝕄 :=
  iprop(before m c ∗ levAts L lv ∗ bigSep Finset.univ fun j : Fin 7 => cred (tallyAt (kcell osem (c, rcv j)) () N))

/-- What it holds when the body ends: its input as given, its output as it is to be, its semaphores at zero. -/
def Φ₁ (c : Dev nD) : sProp 𝕄 :=
  iprop(((xloc c ↦{fullShare} given m c) ∗ (yloc c ↦{fullShare} gathered m)) ∗ ownSems0 osem c)

/-- What the sends need, and what the copy needs, from what the body begins with. -/
theorem to_sending (c : Dev nD) :
    iprop(((bigSep Finset.univ fun j : Fin 7 => iprop(dutyTok E (kcell osem (c, snd j)) 0 () ∗ dutyTok E (kcell osem (dest c j, rcv j)) 0 ()))
        ∗ (xloc c ↦{fullShare} given m c) ∗ places m c) ∗ ∃ W, owes (c : Thread nD τ) (OneShot.owed osem dest N c 0) W)
      ⊢ (iprop((xP m c 4 ∗ y0 m c c) ∗ sending osem dest N (R m c) c 0) : sProp 𝕄) := by
  have hx : (bigSep Finset.univ fun j : Fin 7 => (if j.val < 4 then xP m c j.val else iprop(emp)))
      = iprop(xP m c 0 ∗ xP m c 1 ∗ xP m c 2 ∗ xP m c 3 ∗ emp ∗ emp ∗ emp) := seven _
  unfold sending R places
  rw [finFrom_zero, show finUpTo 7 0 = ∅ from by decide, BI.bigSep_empty, bigSep_sep' (Finset.univ : Finset (Fin 7)) (fun j => iprop(_ ∗ _)), bigSep_sep' (Finset.univ : Finset (Fin 7)) (fun j => ite _ _ _),
    hx, x_parts]
  iintro ⟨⟨Ht, ⟨H0, H1, H2, H3, H4⟩, ⟨Hy, Hys⟩⟩, HO⟩
  isplitl [H4 Hy]
  · isplitl [H4] <;> iassumption
  isplitr [HO]
  · isplitr [Ht]
    · isplitr [Hys]
      · isplitl [H0]; · iexact H0
        isplitl [H1]; · iexact H1
        isplitl [H2]; · iexact H2
        isplitl [H3]; · iexact H3
        isplitr; · iempintro
        isplitr <;> iempintro
      iexact Hys
    iexact Ht
  isplitr; · iempintro
  iexact HO

/-- From the state after the sends to the state before the last waits. -/
theorem to_waiting (c : Dev nD) :
    iprop((bigSep Finset.univ fun j => atPos E (kcell osem (c, late j)) 0 ∅ 0)
        ∗ (cred (tallyAt (kcell osem (c, rcv 0)) () N) ∗ cred (tallyAt (kcell osem (c, rcv 4)) () N)
          ∗ cred (tallyAt (kcell osem (c, rcv 5)) () N) ∗ cred (tallyAt (kcell osem (c, rcv 6)) () N))
        ∗ cred (tallyAt (kcell osem (c, loc15)) () N) ∗ sending osem dest N (R m c) c 7)
      ⊢ (waiting osem (Pay m) N late c 0 : sProp 𝕄) := by
  unfold sending waiting
  rw [owed_done, finFrom_zero, show finUpTo 12 0 = ∅ from by decide, show finUpTo 7 7 = Finset.univ from by decide, BI.bigSep_empty, bigSep_sep' (Finset.univ : Finset (Fin 12)),
    twelve (fun k => (cred (tallyAt (kcell osem (c, k)) () N) : sProp 𝕄)), seven (fun j => (cred (tallyAt (kcell osem (c, snd j)) () N) : sProp 𝕄))]
  iintro ⟨Ha, ⟨R0, R4, R5, R6⟩, Hl, -, ⟨S0, S1, S2, S3, S4, S5, S6⟩, HO⟩
  isplitr [HO]
  · isplitr [Ha]
    · isplitl [R0]; · iexact R0
      isplitl [R4]; · iexact R4
      isplitl [R5]; · iexact R5
      isplitl [R6]; · iexact R6
      isplitl [S0]; · iexact S0
      isplitl [S1]; · iexact S1
      isplitl [S2]; · iexact S2
      isplitl [S3]; · iexact S3
      isplitl [S4]; · iexact S4
      isplitl [S5]; · iexact S5
      isplitl [S6]; · iexact S6
      iexact Hl
    iexact Ha
  isplitr; · iempintro
  iexact HO

theorem Src_own (c : Dev nD) (j : Fin 7) (h : j.val < 4) : Src m c j = xP m c j.val := by unfold Src; exact if_pos h
theorem Src_pass (c : Dev nD) (j : Fin 7) (h : ¬ j.val < 4) : Src m c j = y1 m c (blk c j) := by unfold Src; exact if_neg h

/-- From the state after the waits to what the body ends with. -/
theorem from_waiting (c : Dev nD) :
    (iprop((semVal (kcell osem (c, rcv 1)) 0 ∗ semVal (kcell osem (c, rcv 2)) 0 ∗ semVal (kcell osem (c, rcv 3)) 0)
        ∗ waiting osem (Pay m) N late c 12) : sProp 𝕄) ⊢ iprop(Φ₁ m c ∗ ∃ W, owes (c : Thread nD τ) 0 W) := by
  unfold waiting Φ₁ ownSems0
  rw [show finUpTo 12 12 = Finset.univ from by decide, bigSep_sep' (Finset.univ : Finset (Fin 12)),
    early_late (fun k => (semVal (kcell (τ := τ) osem (c, k)) 0 : sProp 𝕄)),
    twelve (Pay m c), Pay_loc, x_parts, y1_rows, bigSep_srcs c (y1 m c), seven (fun j => y1 m c (src c j)),
    Pay_rcv, Pay_rcv, Pay_rcv, Pay_rcv, Pay_snd, Pay_snd, Pay_snd, Pay_snd, Pay_snd, Pay_snd, Pay_snd,
    Src_own m c 0 (by decide), Src_own m c 1 (by decide), Src_own m c 2 (by decide), Src_own m c 3 (by decide),
    Src_pass m c 4 (by decide), Src_pass m c 5 (by decide), Src_pass m c 6 (by decide), blk4, blk5, blk6]
  iintro ⟨⟨Z1, Z2, Z3⟩, -, ⟨Hz, Y0, Y4, Y5, Y6, X0, X1, X2, X3, Y1, Y2, Y3, Y, X4⟩, HO⟩
  isplitr [HO]
  · isplitr [Hz Z1 Z2 Z3]
    · isplitl [X0 X1 X2 X3 X4]
      · isplitl [X0]; · iexact X0
        isplitl [X1]; · iexact X1
        isplitl [X2]; · iexact X2
        isplitl [X3]; · iexact X3
        iexact X4
      isplitl [Y]; · iexact Y
      isplitl [Y0]; · iexact Y0
      isplitl [Y1]; · iexact Y1
      isplitl [Y2]; · iexact Y2
      isplitl [Y3]; · iexact Y3
      isplitl [Y4]; · iexact Y4
      isplitl [Y5]; · iexact Y5
      iexact Y6
    isplitl [Z1]; · iexact Z1
    isplitl [Z2]; · iexact Z2
    isplitl [Z3]; · iexact Z3
    iexact Hz
  iexact HO

set_option maxHeartbeats 4000000 in
/-- The body on device `c`: the copy, the four sends of its own block, three times a wait and a pass, the last waits. -/
theorem sound_body (κ : Dev nD × Fin 15 → ℕ) (c : Dev nD) (Kt : PUnit → sProp 𝕄) :
    iprop((records osem (Pay m) N N_pos κ ∗ levAts L lv ∗ ghost osem dest c ∗ ((xloc c ↦{fullShare} given m c) ∗ places m c)
        ∗ (bigSep Finset.univ fun j : Fin 7 => cred (tallyAt (kcell osem (c, rcv j)) () N))
        ∗ ∃ W, owes (c : Thread nD τ) (OneShot.owed osem dest N c 0) W)
        ∗ ((Φ₁ m c ∗ ∃ W, owes (c : Thread nD τ) 0 W) -∗ Kt ⟨⟩))
      ⊢ wp frame (wpE (defs₀ (F := F)) 𝒱₀ (c : Thread nD τ) none) Set.univ (bodyAt0 (F := F) t0_0) Kt := by
  unfold bodyAt0
  simp only [cc0_gather_weights_eq_skeleton]; unfold cc0_gather_weights_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  unfold ghost
  rw [early_late (fun k => (atPos E (kcell osem (c, k)) 0 ∅ 0 : sProp 𝕄)), seven (fun j => (cred (tallyAt (kcell osem (c, rcv j)) () N) : sProp 𝕄))]
  iintro ⟨⟨#HR, #HL, ⟨⟨A1, A2, A3, Hat⟩, Htok, Hl⟩, Hmem, ⟨C0, C1, C2, C3, C4, C5, C6⟩, HO⟩, Hk⟩
  ihave HS := (to_sending m c) $$ [Htok Hmem HO]
  · isplitr [HO]
    · isplitl [Htok] <;> iassumption
    iexact HO
  icases HS with ⟨⟨Hx, Hy⟩, HS⟩
  iapply (wp_copy_own m κ c (off1_eq c) rfl) $$ [Hx Hy Hl]
  · isplitr; · iexact HR
    isplitl [Hx]; · iexact Hx
    isplitl [Hy] <;> iassumption
  iintro Hcl
  iapply (wp_send_own m κ c _ (k := 0) (by decide) (by decide) (dev1_eq c) (off1_eq c) rfl rfl) $$ [HS]
  · isplitr; · iexact HR
    iexact HS
  iintro HS
  iapply (wp_send_own m κ c _ (k := 1) (by decide) (by decide) (dev2_eq c) (off1_eq c) rfl rfl) $$ [HS]
  · isplitr; · iexact HR
    iexact HS
  iintro HS
  iapply (wp_send_own m κ c _ (k := 2) (by decide) (by decide) (dev3_eq c) (off1_eq c) rfl rfl) $$ [HS]
  · isplitr; · iexact HR
    iexact HS
  iintro HS
  iapply (wp_send_own m κ c _ (k := 3) (by decide) (by decide) (dev4_eq c) (off1_eq c) rfl rfl) $$ [HS]
  · isplitr; · iexact HR
    iexact HS
  iintro HS
  iapply (wp_wait_between m κ c (k := 4) (by decide) 1 (by decide) rfl) $$ [C1 A1 HS]
  · isplitr; · iexact HR
    isplitr; · iexact HL
    isplitl [C1]; · iexact C1
    isplitl [A1] <;> iassumption
  iintro ⟨HS, Z1, Y⟩
  rw [← blk4]
  iapply (wp_send_pass m κ c _ (k := 4) (by decide) (by decide) (dev5_eq c) (off2_eq c) rfl rfl) $$ [Y HS]
  · isplitr; · iexact HR
    isplitl [Y]; · iexact Y
    iexact HS
  iintro HS
  iapply (wp_wait_between m κ c (k := 5) (by decide) 2 (by decide) rfl) $$ [C2 A2 HS]
  · isplitr; · iexact HR
    isplitr; · iexact HL
    isplitl [C2]; · iexact C2
    isplitl [A2] <;> iassumption
  iintro ⟨HS, Z2, Y⟩
  rw [← blk5]
  iapply (wp_send_pass m κ c _ (k := 5) (by decide) (by decide) (dev6_eq c) (off3_eq c) rfl rfl) $$ [Y HS]
  · isplitr; · iexact HR
    isplitl [Y]; · iexact Y
    iexact HS
  iintro HS
  iapply (wp_wait_between m κ c (k := 6) (by decide) 3 (by decide) rfl) $$ [C3 A3 HS]
  · isplitr; · iexact HR
    isplitr; · iexact HL
    isplitl [C3]; · iexact C3
    isplitl [A3] <;> iassumption
  iintro ⟨HS, Z3, Y⟩
  rw [← blk6]
  iapply (wp_send_pass m κ c _ (k := 6) (by decide) (by decide) (dev7_eq c) (off4_eq c) rfl rfl) $$ [Y HS]
  · isplitr; · iexact HR
    isplitl [Y]; · iexact Y
    iexact HS
  iintro HS
  ihave HW := (to_waiting m c) $$ [Hat C0 C4 C5 C6 Hcl HS]
  · isplitl [Hat]; · iexact Hat
    isplitl [C0 C4 C5 C6]
    · isplitl [C0]; · iexact C0
      isplitl [C4]; · iexact C4
      isplitl [C5] <;> iassumption
    isplitl [Hcl] <;> iassumption
  iapply (wp_wait_row osem osem_inj (Pay m) N N_pos 𝒱₀ κ late c (k := 0) (by decide) rfl (credit _ _)) $$ [HW]
  · isplitr; · iexact HR
    iexact HW
  iintro HW
  iapply (wp_wait_row osem osem_inj (Pay m) N N_pos 𝒱₀ κ late c (k := 1) (by decide) rfl (credit _ _)) $$ [HW]
  · isplitr; · iexact HR
    iexact HW
  iintro HW
  iapply (wp_wait_row osem osem_inj (Pay m) N N_pos 𝒱₀ κ late c (k := 2) (by decide) rfl (credit _ _)) $$ [HW]
  · isplitr; · iexact HR
    iexact HW
  iintro HW
  iapply (wp_wait_row osem osem_inj (Pay m) N N_pos 𝒱₀ κ late c (k := 3) (by decide) rfl (credit _ _)) $$ [HW]
  · isplitr; · iexact HR
    iexact HW
  iintro HW
  iapply (wp_wait_row osem osem_inj (Pay m) N N_pos 𝒱₀ κ late c (k := 4) (by decide) rfl credit_x) $$ [HW]
  · isplitr; · iexact HR
    iexact HW
  iintro HW
  iapply (wp_wait_row osem osem_inj (Pay m) N N_pos 𝒱₀ κ late c (k := 5) (by decide) rfl credit_x) $$ [HW]
  · isplitr; · iexact HR
    iexact HW
  iintro HW
  iapply (wp_wait_row osem osem_inj (Pay m) N N_pos 𝒱₀ κ late c (k := 6) (by decide) rfl credit_x) $$ [HW]
  · isplitr; · iexact HR
    iexact HW
  iintro HW
  iapply (wp_wait_row osem osem_inj (Pay m) N N_pos 𝒱₀ κ late c (k := 7) (by decide) rfl credit_x) $$ [HW]
  · isplitr; · iexact HR
    iexact HW
  iintro HW
  iapply (wp_wait_row osem osem_inj (Pay m) N N_pos 𝒱₀ κ late c (k := 8) (by decide) rfl (credit _ _)) $$ [HW]
  · isplitr; · iexact HR
    iexact HW
  iintro HW
  iapply (wp_wait_row osem osem_inj (Pay m) N N_pos 𝒱₀ κ late c (k := 9) (by decide) rfl (credit _ _)) $$ [HW]
  · isplitr; · iexact HR
    iexact HW
  iintro HW
  iapply (wp_wait_row osem osem_inj (Pay m) N N_pos 𝒱₀ κ late c (k := 10) (by decide) rfl (credit _ _)) $$ [HW]
  · isplitr; · iexact HR
    iexact HW
  iintro HW
  iapply (wp_wait_row osem osem_inj (Pay m) N N_pos 𝒱₀ κ late c (k := 11) (by decide) rfl (credit _ _)) $$ [HW]
  · isplitr; · iexact HR
    iexact HW
  iintro HW
  rw [wp_ret]; imodintro
  iapply Hk
  iapply (from_waiting m c)
  isplitr [HW]
  · isplitl [Z1]; · iexact Z1
    isplitl [Z2] <;> iassumption
  iexact HW

/-! ## The region's proof data -/

/-- The kernel has no window and one point: what holds before it and after it, and what is owed. -/
def dats (_ : Fin 1) (c : Dev nD) : Dat τ (Elt F) Unit ℕ (UU nD τ sig) ℕ cfg0 c where
  A w := m ((cfg0.win w).arr.view.loc (c : Thread nD τ))
  after w _ := Fin.elim0 (show Fin 0 from w)
  Φ t := match t with
    | ⟨0, _⟩ => Φ₀ m c
    | ⟨_ + 1, _⟩ => Φ₁ m c
  q _ := fullShare
  owed t := match t with
    | ⟨0, _⟩ => OneShot.owed osem dest N c 0
    | ⟨_ + 1, _⟩ => 0

theorem no_windows : IsEmpty (Fin cfg0.W) := ⟨fun w => Fin.elim0 (show Fin 0 from w)⟩

theorem body_obligation (c : Dev nD) : BodyObligationLoose (dats m 0 c) (defs₀ (F := F)) 𝒱₀ () Set.univ := fun t => by
  obtain rfl : t = t0_0 := fin_N0 t
  have := no_windows
  rw [Finset.univ_eq_empty, BI.bigSep_empty, BI.bigSep_empty]
  show iprop(Φ₀ m c ∗ (dats m 0 c).owesAt () t0_0.castSucc ∗ BI.emp)
    ⊢ wp frame (wpE (defs₀ (F := F)) 𝒱₀ (c : Thread nD τ) none) Set.univ (bodyAt0 (F := F) t0_0)
      fun _ => iprop(Φ₁ m c ∗ (dats m 0 c).owesAt () t0_0.succ ∗ BI.emp)
  unfold Φ₀ before Dat.owesAt Pipeline.owesWithin
  rw [show (dats m 0 c).owed t0_0.castSucc = OneShot.owed osem dest N c 0 from rfl, show (dats m 0 c).owed t0_0.succ = 0 from rfl]
  iintro ⟨⟨⟨⟨%κ, HR, Hg⟩, Hx, Hy⟩, HL, Hcr⟩, ⟨%W, %hW, HO⟩, -⟩
  iapply (sound_body m κ c _)
  isplitl
  · isplitl [HR]; · iexact HR
    isplitl [HL]; · iexact HL
    isplitl [Hg]; · iexact Hg
    isplitl [Hx Hy]
    · isplitl [Hx] <;> iassumption
    isplitl [Hcr]; · iexact Hcr
    iexists W; iexact HO
  · iintro ⟨HΦ, ⟨%W', HO⟩⟩
    isplitl [HΦ]; · iexact HΦ
    isplitl
    · iexists W'
      isplitr; · ipureintro; exact fun _ _ => Or.inl trivial
      iexact HO
    iempintro

/-! ## The launch -/

theorem ownSemFacts : OwnSemFacts cfg0.spec osem := by decide

/-- A device's unscoped arrays: its input and its output. -/
theorem arrays_eq (c : Dev nD) :
    (unscopedBufs c (fun b => m (c.tc.loc b)) : sProp 𝕄) = iprop((xloc c ↦{fullShare} given m c) ∗ bigSep Finset.univ (y0 m c)) := by
  have := no_windows
  rw [unscopedBufs_split cfgs 0 winFacts0.arr_unscoped winFacts0.arr_inj c, unscopedRest0_eq, Finset.univ_eq_empty, BI.bigSep_empty, ← y0_rows]
  exact emp_sep_eq _

/-- One global step: the cells' ghost state is made, and every device is dealt the blocks it writes. -/
theorem glob :
    iprop((bigSep Finset.univ fun c : Dev nD => iprop(ownSems0 osem c ∗ unscopedBufs c (fun b => m ((c.tc : Thread nD τ).loc b)))) ∗ ownU (u₀ osem osem_inj))
      ⊢ (|={Set.univ}=> bigSep Finset.univ (before m) : sProp 𝕄) := by
  have hmem : (bigSep Finset.univ fun c : Dev nD => (unscopedBufs c (fun b => m ((c.tc : Thread nD τ).loc b)) : sProp 𝕄))
      = iprop((bigSep Finset.univ fun c => (xloc c ↦{fullShare} given m c)) ∗ bigSep Finset.univ (places m)) := by
    rw [bigSep_congr fun c _ => arrays_eq m c, bigSep_sep', deal_places]
  rw [bigSep_sep', hmem]
  iintro ⟨⟨Hs, Hx, Hy⟩, Hu⟩
  imod (alloc osem osem_inj (Pay m) (Pay_storable m) N N_pos) $$ [Hs Hu] with ⟨%κ, #HR, Hat, Htok⟩
  · isplitl [Hs] <;> iassumption
  imodintro
  ihave Hg := (deal osem dest dest_dest) $$ [Hat Htok]
  · isplitl [Hat] <;> iassumption
  have hone (c : Dev nD) : iprop(records osem (Pay m) N N_pos κ ∗ ghost osem dest c ∗ (xloc c ↦{fullShare} given m c) ∗ places m c)
      ⊢ (before m c : sProp 𝕄) := by
    unfold before
    iintro ⟨HR, Hg, Hx, Hy⟩
    isplitr [Hx Hy]
    · iexists κ
      isplitl [HR] <;> iassumption
    isplitl [Hx] <;> iassumption
  have hb : iprop(records osem (Pay m) N N_pos κ
        ∗ bigSep Finset.univ fun c : Dev nD => iprop(ghost osem dest c ∗ (xloc c ↦{fullShare} given m c) ∗ places m c))
      ⊢ (bigSep Finset.univ (before m) : sProp 𝕄) := by
    refine (sep_mono_left (BI.bigSep_of_persistent (Finset.univ : Finset (Dev nD)) _)).trans ?_
    rw [← bigSep_sep']
    exact bigSep_mono fun c _ => hone c
  iapply hb
  rw [bigSep_sep', bigSep_sep']
  isplitr; · iexact HR
  isplitl [Hg]; · iexact Hg
  isplitl [Hx] <;> iassumption

/-- THE RUN, over any reading of the floats: the program ends, every device's output is the blocks of all the devices,
    every input is as it was, and no semaphore is left raised. -/
theorem run_main (g : Dev nD → PrngReg) :
    θ_run (defs (F := F)) (onTc (τ := τ) (main (F := F))) ⟨m, fun _ => 0, g⟩
      (fun r => (∀ c : Dev nD, r.2.mem (xloc c) = m (xloc c) ∧ r.2.mem (yloc c) = gathered m) ∧ r.2.sem = fun _ => 0) :=
  HbmLaunch.run_region cfgs (dats m) (OneShot.E) cellOf_inj 0 winFacts0 ownSemFacts (defs₀ (F := F)) 𝒱₀ no_windows m g main (fun _ => rfl)
    (body_obligation m) (fun c => OneShot.owed osem dest N c 0) (fun _ => rfl) (fun _ => rfl) L lv (fun g hg => if_neg hg)
    (u₀ osem osem_inj) (before m) (fun c => iprop((xloc c ↦{fullShare} given m c) ∗ (yloc c ↦{fullShare} gathered m))) (glob m)
    (fun c => by
      rw [show (dats m 0 c).Φ 0 = Φ₀ m c from rfl]
      unfold Φ₀
      have hc := creds (τ := τ) (Val := Elt F) osem osem_inj dest dest_dest N c
      iintro ⟨⟨Hb, HL, Hcr⟩, -⟩
      isplitl [Hb]; · iexact Hb
      isplitl [HL]; · iexact HL
      iapply hc; iexact Hcr)
    (fun c => by
      rw [show (dats m 0 c).Φ (Fin.last (cfgs 0).N) = Φ₁ m c from rfl, scopedRest0_eq]
      unfold Φ₁
      iintro ⟨H, Hs⟩
      isplitl [H]; · iexact H
      isplitl [Hs]; · iexact Hs
      iempintro)
    (fun c s => s.mem (xloc c) = m (xloc c) ∧ s.mem (yloc c) = gathered m)
    (fun c s' => by
      iintro ⟨⟨Hx, Hy⟩, HSI⟩
      icombine HSI Hx gives %hx
      icombine HSI Hy gives %hy
      imodintro
      isplitr
      · ipureintro
        exact ⟨funext fun i => hx i (Finset.mem_univ i), funext fun i => hy i (Finset.mem_univ i)⟩
      · iexact HSI)
    (fun s h hs => ⟨h, sem_eq_zero_of_scoped (by decide) hs⟩)

end Cert.AllGather
-- ==== Proof.AllGatherClaims.lean ====
/-
  The all-gather on eight devices against the reference on one device: the reference's array is what every device ends
  with.
-/
module
public import proofs.«01_k».proof.Proof.AllGatherRun
public import proofs.«01_k».proof.Proof.Gen.GatherRefIdeal
public import Idealize.ShloMosaic.Lib.Layout
public import Idealize.ShloMosaic.Lib.Claim
public import Idealize.ShloMosaic.Lib.Pipeline.Value
public import Idealize.ShloMosaic.Lib.StableHlo.Run
@[expose] public section

noncomputable section
namespace Cert.AllGather

open Idealize.ShloMosaic Idealize.ShloMosaic.TcCoe Idealize.SL.Sem

variable {F : FTy → Type} [FloatOps F]

open Cert.GatherRefIdeal in
/-- The reference has nothing to do: it runs, and its argument, which is its result, is as it was. -/
theorem ref_run (m : (ℓ : Loc nD τ sig) → Buf (Elt F) ℓ) (g : Dev nD → PrngReg) :
    θ_run (defs (F := F)) (onTc (τ := τ) (main (F := F))) ⟨m, fun _ => 0, g⟩
      (fun r => ∀ c : Dev nD, r.2.mem ((c.tc : Thread nD τ).loc main_arg0) = m ((c.tc : Thread nD τ).loc main_arg0)) :=
  (θ_run _ _ _).mono (fun _ h c => h c main_arg0)
    (StableHlo.run_seq (by decide) (by decide) defs main (fun _ => []) (fun _ => rfl) (fun _ => trivial) m g)

open Cert.GatherIdeal in
/-- What every device ends with is the array whose blocks they start with. -/
theorem gathered_eq (m : (ℓ : Loc nD τ sig) → Buf (Elt F) ℓ) (w : S47104x1024.Idx → Elt F .bf16)
    (hw : ∀ q : Dev nD, given m q = Layout.block ⟨2, ![5888, 1024]⟩ ⟨2, ![47104, 1024]⟩ 0 8 q w) : gathered m = w := by
  funext i
  refine (congrFun (hw (blockOf i)) (within i)).trans (congrArg w ?_)
  funext a
  apply Fin.ext
  have h0 : (i 0).val < 47104 := (i 0).isLt
  match a with
  | ⟨0, _⟩ =>
    show (i 0).val / 5888 * 5888 + (i 0).val % 5888 = (i 0).val
    omega
  | ⟨1, _⟩ => rfl

/-- The kernel on eight devices, started with the eight blocks of an array, ends with that array on every device, which
    is what the reference on one device, started with the whole array, ends with; neither touches its argument. -/
theorem pair (m : (ℓ : Loc Cert.GatherIdeal.nD Cert.GatherIdeal.τ Cert.GatherIdeal.sig) → Buf (Elt F) ℓ) (g : Dev Cert.GatherIdeal.nD → PrngReg)
    (m' : (ℓ : Loc Cert.GatherRefIdeal.nD Cert.GatherRefIdeal.τ Cert.GatherRefIdeal.sig) → Buf (Elt F) ℓ) (g' : Dev Cert.GatherRefIdeal.nD → PrngReg)
    (hw : ∀ q : Dev Cert.GatherIdeal.nD, given m q = Layout.block ⟨2, ![5888, 1024]⟩ ⟨2, ![47104, 1024]⟩ 0 8 q
      (m' (((0 : Dev Cert.GatherRefIdeal.nD).tc : Thread Cert.GatherRefIdeal.nD Cert.GatherRefIdeal.τ).loc Cert.GatherRefIdeal.main_arg0))) :
    ∃ (v0 : Buf (Elt F) (((0 : Dev Cert.GatherRefIdeal.nD).tc : Thread Cert.GatherRefIdeal.nD Cert.GatherRefIdeal.τ).loc Cert.GatherRefIdeal.main_arg0)),
      θ_run (Cert.GatherIdeal.defs (F := F)) (onTc (τ := Cert.GatherIdeal.τ) (Cert.GatherIdeal.main (F := F))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_arg0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)) :=
  ⟨m' (((0 : Dev Cert.GatherRefIdeal.nD).tc : Thread Cert.GatherRefIdeal.nD Cert.GatherRefIdeal.τ).loc Cert.GatherRefIdeal.main_arg0),
    (θ_run _ _ _).mono (fun r h c => ⟨((h.1 c).2).trans (gathered_eq m _ hw), (h.1 c).1⟩) (run_main m g),
    (θ_run _ _ _).mono (fun r h => ⟨h 0, h 0⟩) (ref_run m' g')⟩

end Cert.AllGather
end
-- ==== Proof.Adam.lean ====
/-
  One AdamW step, over any float values: the sum of the devices' gradients, the two moments, the change of the weight, first
  on one entry, then on arrays of any number of rows of 1024. The kernels' blocks and the references' arrays are both read
  in these words.
-/
module

public import Idealize.ShloMosaic.Lib.Pipeline.Value
public import Idealize.ShloMosaic.PureOps.Ideal
public import Idealize.ShloMosaic.Lib.Pointwise.Reduce

@[expose] public section

noncomputable section

namespace Cert.Adam

open Idealize.ShloMosaic

variable {F : FTy → Type} [FloatOps F]

/-- The first moment after a step with gradient `g`. -/
def newM (m g : F .f32) : F .f32 :=
  FloatOps.addf (FloatOps.mulf (Scalar.ofBits .f32 0x3F666666#32) m) (FloatOps.mulf (Scalar.ofBits .f32 0x3DCCCCCD#32) g)

/-- The second moment after a step with gradient `g`. -/
def newV (v g : F .f32) : F .f32 :=
  FloatOps.addf (FloatOps.mulf (Scalar.ofBits .f32 0x3F7FBE77#32) v)
    (FloatOps.mulf (Scalar.ofBits .f32 0x3A83126F#32) (FloatOps.mulf g g))

/-- The change of a weight `w` whose moments after the step are `m` and `v`. -/
def delta (w m v : F .f32) : F .f32 :=
  FloatOps.mulf (Scalar.ofBits .f32 0xBA83126F#32)
    (FloatOps.addf
      (FloatOps.divf (FloatOps.divf m (Scalar.ofBits .f32 0x3F26BD02#32))
        (FloatOps.addf (FloatOps.sqrt (FloatOps.divf v (Scalar.ofBits .f32 0x3C231ACC#32))) (Scalar.ofBits .f32 0x322BCC77#32)))
      (FloatOps.mulf (Scalar.ofBits .f32 0x3C23D70A#32) w))

/-- Eight gradients added from the first to the last. -/
def total (g : Fin 8 → F .f32) : F .f32 :=
  FloatOps.addf (FloatOps.addf (FloatOps.addf (FloatOps.addf (FloatOps.addf (FloatOps.addf (FloatOps.addf
    (g 0) (g 1)) (g 2)) (g 3)) (g 4)) (g 5)) (g 6)) (g 7)

/-- Over the extended reals that is their sum. -/
theorem total_ideal (g : Fin 8 → Ideal .f32) : total g = (∑ k, g k : EReal) :=
  (Fin.sum_univ_eight (M := EReal) g).symm

/-- Arrays of `n` rows. -/
abbrev Rows (n : ℕ) : Shape := ⟨2, ![n, 1024]⟩

/-- `K` arrays of `n` rows, one for each device. -/
abbrev Stack (K n : ℕ) : Shape := ⟨3, ![K, n, 1024]⟩

/-- Entry `i` of the `k`-th array. -/
def at_ {K n : ℕ} (k : Fin K) (i : (Rows n).Idx) : (Stack K n).Idx := fun a => match a with
  | ⟨0, _⟩ => k
  | ⟨1, _⟩ => i 0
  | ⟨2, _⟩ => i 1

/-- The eight arrays, summed. -/
def sum8 {n : ℕ} (x : Vec F (Stack 8 n) .f32) : Vec F (Rows n) .f32 := fun i => total fun k => x (at_ k i)

/-- The first of the arrays. -/
def first {K n : ℕ} [NeZero K] (x : Vec F (Stack K n) .f32) : Vec F (Rows n) .f32 := fun i => x (at_ 0 i)

/-- The first moments after the step. -/
def moment1 {n : ℕ} (b g : Vec F (Rows n) .f32) : Vec F (Rows n) .f32 := fun i => newM (b i) (g i)

/-- The second moments after the step. -/
def moment2 {n : ℕ} (v g : Vec F (Rows n) .f32) : Vec F (Rows n) .f32 := fun i => newV (v i) (g i)

/-- The change of the weights. -/
def change {n : ℕ} (w b v g : Vec F (Rows n) .f32) : Vec F (Rows n) .f32 := fun i =>
  delta (w i) (newM (b i) (g i)) (newV (v i) (g i))

theorem hz : (![0, 0] : Fin 2 → Nat) = fun _ => 0 := funext fun a => by fin_cases a <;> rfl

/-- The `k`-th array loaded from a stack, its unit axis dropped, is read at an entry. -/
theorem load_at {α : Type} {K n : ℕ} (x : (Stack K n).Idx → α) (k : Fin K) (off : Fin 3 → Nat) (h : off = ![k.val, 0, 0])
    (inb : ∀ a, off a + (Stack 1 n).size a ≤ (Stack K n).size a) (hc : (Stack 1 n).ShapeCasts (Rows n)) (y : (Rows n).Idx) :
    shapeCast (Rows n) (fun j => x ((Rect.unit (s := Stack K n) off (Stack 1 n).size inb).idx j)) hc y = x (at_ k y) := by
  subst h
  refine (shapeCast_dropUnit_apply ![n, 1024] _ hc y).trans (congrArg x (funext fun a => Fin.ext ?_))
  match a with
  | ⟨0, _⟩ => show k.val + 1 * 0 = k.val; omega
  | ⟨1, _⟩ => show 0 + 1 * (y 0).val = (y 0).val; omega
  | ⟨2, _⟩ => show 0 + 1 * (y 1).val = (y 1).val; omega

/-- Eight arrays added in order are the sum of the stack they are read from. -/
theorem sum8_of {n : ℕ} (x : Vec F (Stack 8 n) .f32) {p0 p1 p2 p3 p4 p5 p6 p7 : FVec F (Rows n) .f32}
    (h0 : ∀ y, p0 y = x (at_ 0 y)) (h1 : ∀ y, p1 y = x (at_ 1 y)) (h2 : ∀ y, p2 y = x (at_ 2 y)) (h3 : ∀ y, p3 y = x (at_ 3 y))
    (h4 : ∀ y, p4 y = x (at_ 4 y)) (h5 : ∀ y, p5 y = x (at_ 5 y)) (h6 : ∀ y, p6 y = x (at_ 6 y)) (h7 : ∀ y, p7 y = x (at_ 7 y)) :
    addf (addf (addf (addf (addf (addf (addf p0 p1) p2) p3) p4) p5) p6) p7 = sum8 x :=
  funext fun y => congrArg₂ FloatOps.addf (congrArg₂ FloatOps.addf (congrArg₂ FloatOps.addf (congrArg₂ FloatOps.addf
    (congrArg₂ FloatOps.addf (congrArg₂ FloatOps.addf (congrArg₂ FloatOps.addf (h0 y) (h1 y)) (h2 y)) (h3 y)) (h4 y)) (h5 y))
    (h6 y)) (h7 y)

/-- Where row `y` of the `t`-th block of `B` rows lies. -/
def block {n B : ℕ} (t : ℕ) (h : t * B + B ≤ n) (y : (Rows B).Idx) : (Rows n).Idx := fun a => match a with
  | ⟨0, _⟩ => ⟨t * B + (y 0).val, lt_of_lt_of_le (Nat.add_lt_add_left (y 0).isLt _) h⟩
  | ⟨1, _⟩ => y 1

/-- Blocks that fill the array reach every row. -/
theorem block_onto {n B N : ℕ} (hB : 0 < B) (hn : N * B = n) (hb : ∀ t : Fin N, t.val * B + B ≤ n) (i : (Rows n).Idx) :
    ∃ (t : Fin N) (y : (Rows B).Idx), block t.val (hb t) y = i := by
  have hi : (i 0).val < N * B := hn.symm ▸ (i 0).isLt
  refine ⟨⟨(i 0).val / B, (Nat.div_lt_iff_lt_mul hB).2 hi⟩, (fun a => match a with
    | ⟨0, _⟩ => ⟨(i 0).val % B, Nat.mod_lt _ hB⟩
    | ⟨1, _⟩ => i 1), funext fun a => Fin.ext ?_⟩
  match a with
  | ⟨0, _⟩ => exact Nat.div_add_mod' (i 0).val B
  | ⟨1, _⟩ => rfl

section Host

/-- Over the extended reals the host's sum over eight arrays is theirs added in order. -/
theorem host_sum8 {n : ℕ} (x : Vec Ideal (Stack 8 n) .f32) (h : (Stack 8 n).ReducesTo [0] (Rows n))
    (h' : 0 < (Shape.mk 0 ![]).numel) :
    Host.reduceAdd (F := Ideal) x (constant (Shape.mk 0 ![]) .f32 0x00000000#32) h h' = sum8 x := by
  funext i
  refine (Host.reduceAdd_apply _ _ _ _ i).trans ?_
  refine (Ideal.hostReduceAdd_r3_a0 (n0 := 8) (n1 := n) (n2 := 1024) _ _ _ i).trans ?_
  refine (congrArg (· + _) Ideal.ofBits_zero_f32).trans ?_
  refine (zero_add _).trans ((total_ideal _).trans ?_).symm
  refine Finset.sum_congr rfl fun k _ => congrArg x (funext fun a => ?_)
  match a with
  | ⟨0, _⟩ => rfl
  | ⟨1, _⟩ => rfl
  | ⟨2, _⟩ => rfl

/-- The host's sum over one array is that array. -/
theorem host_sum1 {n : ℕ} (x : Vec Ideal (Stack 1 n) .f32) (h : (Stack 1 n).ReducesTo [0] (Rows n))
    (h' : 0 < (Shape.mk 0 ![]).numel) :
    Host.reduceAdd (F := Ideal) x (constant (Shape.mk 0 ![]) .f32 0x00000000#32) h h' = first x := by
  funext i
  refine (Host.reduceAdd_apply _ _ _ _ i).trans ?_
  refine (Ideal.hostReduceAdd_r3_a0 (n0 := 1) (n1 := n) (n2 := 1024) _ _ _ i).trans ?_
  refine (congrArg (· + _) Ideal.ofBits_zero_f32).trans ?_
  refine (zero_add _).trans ((Fin.sum_univ_one _).trans (congrArg x (funext fun a => ?_)))
  match a with
  | ⟨0, _⟩ => rfl
  | ⟨1, _⟩ => rfl
  | ⟨2, _⟩ => rfl

variable {n : ℕ} (h : (Shape.mk 0 ![]).BroadcastsInDim (Rows n) (![] : Fin 0 → Fin (Rows n).rank)) (w b v g : Vec Ideal (Rows n) .f32)

/-- The reference's first moments. -/
theorem host_moment1 : addf (F := Ideal) (mulf (broadcastInDim (Rows n) ![] h (constant (Shape.mk 0 ![]) .f32 0x3F666666#32)) b)
    (mulf (broadcastInDim (Rows n) ![] h (constant (Shape.mk 0 ![]) .f32 0x3DCCCCCD#32)) g) = moment1 b g := rfl

/-- The reference's second moments. -/
theorem host_moment2 : addf (F := Ideal) (mulf (broadcastInDim (Rows n) ![] h (constant (Shape.mk 0 ![]) .f32 0x3F7FBE77#32)) v)
    (mulf (broadcastInDim (Rows n) ![] h (constant (Shape.mk 0 ![]) .f32 0x3A83126F#32)) (mulf g g)) = moment2 v g := rfl

/-- The reference's changes of the weights: over the extended reals the host divides and takes roots as the kernels do. -/
theorem host_change : mulf (F := Ideal) (broadcastInDim (Rows n) ![] h (constant (Shape.mk 0 ![]) .f32 0xBA83126F#32))
    (addf (Host.divf (Host.divf (F := Ideal) (moment1 b g) (broadcastInDim (Rows n) ![] h (constant (Shape.mk 0 ![]) .f32 0x3F26BD02#32)))
        (addf (Host.sqrt (Host.divf (F := Ideal) (moment2 v g) (broadcastInDim (Rows n) ![] h (constant (Shape.mk 0 ![]) .f32 0x3C231ACC#32))))
          (broadcastInDim (Rows n) ![] h (constant (Shape.mk 0 ![]) .f32 0x322BCC77#32))))
      (mulf (broadcastInDim (Rows n) ![] h (constant (Shape.mk 0 ![]) .f32 0x3C23D70A#32)) w)) = change w b v g := rfl

end Host

end Cert.Adam

end
-- ==== Proof.AdamBig.lean ====
/-
  The AdamW call of the packed big weights: eight gradients, in sixteen blocks of 368 rows. It ends with the gradients summed
  and the step done with the sum, and so does its reference over the extended reals.
-/
module

public import proofs.«01_k».proof.Proof.Gen.UpdateIdeal.Value
public import proofs.«01_k».proof.Proof.Adam
public import proofs.«01_k».proof.Defs
public import proofs.«01_k».proof.Proof.Gen.UpdateRefIdeal.Run
public import Idealize.ShloMosaic.Lib.Pointwise.Reduce
public import Idealize.ShloMosaic.Lib.Claim

@[expose] public section

noncomputable section

namespace Cert.Adam.Big

open Cert.UpdateIdeal Cert.UpdateIdeal.Gen Cert.UpdateIdeal.Value Idealize.ShloMosaic Idealize.ShloMosaic.TcCoe Idealize.SL.Sem

variable {F : FTy → Type} [FloatOps F]

/-- The gradients at an index of a block, summed. -/
theorem sum_eq (x0 x1 x2 : Vec F S368x1024 .f32) (x3 : Vec F S8x368x1024 .bf16) :
    k0_pay5 x0 x1 x2 x3 = sum8 (n := 368) (extf .f32 x3 bitsLt_bf16_f32) := by
  unfold k0_pay5
  rw [lay4_0_eq]
  have e : ∀ (k : Fin 8) (off : Fin 3 → Nat) (h : off = ![k.val, 0, 0]) (inb : ∀ a, off a + S1x368x1024.size a ≤ S8x368x1024.size a) y,
      extf .f32 (shapeCast S368x1024 (View.ld x3 (Rect.unit (s := S8x368x1024) off S1x368x1024.size inb) : Vec F S1x368x1024 .bf16)
        shapeCasts_S1x368x1024_S368x1024) bitsLt_bf16_f32 y = extf .f32 x3 bitsLt_bf16_f32 (at_ k y) :=
    fun k off h inb y => congrArg (FloatOps.extf .f32 bitsLt_bf16_f32) (load_at (n := 368) x3 k off h inb _ y)
  exact sum8_of (n := 368) (extf .f32 x3 bitsLt_bf16_f32) (e 0 _ rfl _) (e 1 _ rfl _) (e 2 _ rfl _) (e 3 _ rfl _) (e 4 _ rfl _)
    (e 5 _ rfl _) (e 6 _ rfl _) (e 7 _ rfl _)

/-- The summed gradients of a block. -/
abbrev gBlk (x : Vec F S8x368x1024 .bf16) : Vec F S368x1024 .f32 := sum8 (n := 368) (extf .f32 x bitsLt_bf16_f32)

theorem out4_eq (x0 x1 x2 : Vec F S368x1024 .f32) (x3 : Vec F S8x368x1024 .bf16) : out0_4 x0 x1 x2 x3 = gBlk x3 := by
  unfold out0_4; rw [View.canon_unit_zero hz, sum_eq]

theorem out6_eq (x0 x1 x2 : Vec F S368x1024 .f32) (x3 : Vec F S8x368x1024 .bf16) :
    out0_6 x0 x1 x2 x3 = fun y => newM (x1 y) (gBlk x3 y) := by
  unfold out0_6; rw [View.canon_unit_zero hz, sum_eq, View.ld_unit_zero hz]; rfl

theorem out7_eq (x0 x1 x2 : Vec F S368x1024 .f32) (x3 : Vec F S8x368x1024 .bf16) :
    out0_7 x0 x1 x2 x3 = fun y => newV (x2 y) (gBlk x3 y) := by
  unfold out0_7; rw [View.canon_unit_zero hz, sum_eq, View.ld_unit_zero hz]; rfl

theorem out5_eq (x0 x1 x2 : Vec F S368x1024 .f32) (x3 : Vec F S8x368x1024 .bf16) :
    out0_5 x0 x1 x2 x3 = fun y => delta (x0 y) (newM (x1 y) (gBlk x3 y)) (newV (x2 y) (gBlk x3 y)) := by
  unfold out0_5
  rw [View.canon_unit_zero hz, sum_eq, View.ld_unit_zero hz, View.ld_unit_zero hz, View.ld_unit_zero hz]; rfl

variable (m : (ℓ : Loc nD τ sig) → Buf (Elt F) ℓ) (ρ : Dev nD → PrngReg)

/-- Point `t`'s blocks are the `t`-th groups of rows: of the weights, and so of every array of their shape; of the
    gradients. -/
theorem idx_facts : ∀ t : Fin cfg0.N,
    (win0_0.index t (0 : Fin 2) = t.val ∧ win0_0.index t (1 : Fin 2) = 0)
    ∧ (win0_3.index t (0 : Fin 3) = 0 ∧ win0_3.index t (1 : Fin 3) = t.val ∧ win0_3.index t (2 : Fin 3) = 0) :=
  (by decide +kernel : ∀ t : Fin grid0.N, _)

theorem fits (t : Fin cfg0.N) : t.val * 368 + 368 ≤ 5888 := by
  have h : t.val < 16 := t.isLt
  omega

/-- Where entry `y` of point `t`'s block lies in the array. -/
abbrev row (t : Fin cfg0.N) (y : S368x1024.Idx) : S5888x1024.Idx := block t.val (fits t) y

theorem emb0 (t : Fin cfg0.N) (y : S368x1024.Idx) : ((cfg0.win 0).blk t).view.emb y = row t y := by
  obtain ⟨⟨h, h'⟩, -⟩ := idx_facts t
  refine funext fun a => Fin.ext ?_
  match a with
  | ⟨0, _⟩ => show win0_0.index t (0 : Fin 2) * 368 + 1 * (y 0).val = t.val * 368 + (y 0).val; rw [h, Nat.one_mul]
  | ⟨1, _⟩ => show win0_0.index t (1 : Fin 2) * 1024 + 1 * (y 1).val = (y 1).val; rw [h']; omega

theorem emb3 (t : Fin cfg0.N) (k : Fin 8) (y : S368x1024.Idx) :
    ((cfg0.win 3).blk t).view.emb (at_ k y) = at_ k (row t y) := by
  obtain ⟨-, h, h', h''⟩ := idx_facts t
  refine funext fun a => Fin.ext ?_
  match a with
  | ⟨0, _⟩ => show win0_3.index t (0 : Fin 3) * 8 + 1 * k.val = k.val; rw [h]; omega
  | ⟨1, _⟩ => show win0_3.index t (1 : Fin 3) * 368 + 1 * (y 0).val = t.val * 368 + (y 0).val; rw [h', Nat.one_mul]
  | ⟨2, _⟩ => show win0_3.index t (2 : Fin 3) * 1024 + 1 * (y 1).val = (y 1).val; rw [h'']; omega

/-- The summed gradients as one function of the eight devices' gradients. -/
abbrev grad (x : Vec F S8x5888x1024 .bf16) : Vec F S5888x1024 .f32 := sum8 (n := 5888) (extf .f32 x bitsLt_bf16_f32)

theorem blk0 (c : Dev nD) (t : Fin cfg0.N) (y : S368x1024.Idx) : iblk m c 0 t y = V m c main_arg0 (row t y) :=
  congrArg (V m c main_arg0) (emb0 t y)

theorem blk1 (c : Dev nD) (t : Fin cfg0.N) (y : S368x1024.Idx) : iblk m c 1 t y = V m c main_arg1 (row t y) :=
  congrArg (V m c main_arg1) (emb0 t y)

theorem blk2 (c : Dev nD) (t : Fin cfg0.N) (y : S368x1024.Idx) : iblk m c 2 t y = V m c main_arg2 (row t y) :=
  congrArg (V m c main_arg2) (emb0 t y)

/-- A block's summed gradients are the array's there. -/
theorem blk3 (c : Dev nD) (t : Fin cfg0.N) (y : S368x1024.Idx) :
    gBlk (iblk m c 3 t) y = grad (V m c main_arg3) (row t y) := by
  refine congrArg total (funext fun k => congrArg (FloatOps.extf .f32 bitsLt_bf16_f32) ?_)
  show V m c main_arg3 (((cfg0.win 3).blk t).view.emb (at_ k y)) = _; rw [emb3]

theorem flushed4_eq (c : Dev nD) (t : Fin cfg0.N) :
    (dats m 0 c).flushed 4 t = ((cfg0.win 4).blk t).view.read (Elt F) (grad (V m c main_arg3)) := by
  rw [flushed4, out4_eq]
  exact funext fun y => (blk3 m c t y).trans (congrArg _ (emb0 t y).symm)

theorem flushed5_eq (c : Dev nD) (t : Fin cfg0.N) :
    (dats m 0 c).flushed 5 t = ((cfg0.win 5).blk t).view.read (Elt F)
      (change (V m c main_arg0) (V m c main_arg1) (V m c main_arg2) (grad (V m c main_arg3))) := by
  rw [flushed5, out5_eq]
  exact funext fun y => (show delta (iblk m c 0 t y) (newM (iblk m c 1 t y) (gBlk (iblk m c 3 t) y))
      (newV (iblk m c 2 t y) (gBlk (iblk m c 3 t) y)) = change _ _ _ _ (row t y) by rw [blk0, blk1, blk2, blk3]; rfl).trans (congrArg _ (emb0 t y).symm)

theorem flushed6_eq (c : Dev nD) (t : Fin cfg0.N) :
    (dats m 0 c).flushed 6 t = ((cfg0.win 6).blk t).view.read (Elt F) (moment1 (V m c main_arg1) (grad (V m c main_arg3))) := by
  rw [flushed6, out6_eq]
  exact funext fun y => (show newM (iblk m c 1 t y) (gBlk (iblk m c 3 t) y) = moment1 _ _ (row t y) by rw [blk1, blk3]; rfl).trans (congrArg _ (emb0 t y).symm)

theorem flushed7_eq (c : Dev nD) (t : Fin cfg0.N) :
    (dats m 0 c).flushed 7 t = ((cfg0.win 7).blk t).view.read (Elt F) (moment2 (V m c main_arg2) (grad (V m c main_arg3))) := by
  rw [flushed7, out7_eq]
  exact funext fun y => (show newV (iblk m c 2 t y) (gBlk (iblk m c 3 t) y) = moment2 _ _ (row t y) by rw [blk2, blk3]; rfl).trans (congrArg _ (emb0 t y).symm)

/-- Every row is in some point's block. -/
theorem mem (i : S5888x1024.Idx) : ∃ t : Fin cfg0.N, i ∈ ((cfg0.win 4).blk t).view.set := by
  obtain ⟨t, y, rfl⟩ := block_onto (n := 5888) (B := 368) (N := 16) (by norm_num) rfl (fun t => fits t) i
  have h := ((cfg0.win 4).blk t).view.emb_mem_set y
  rw [show ((cfg0.win 4).blk t).view.emb y = row t y from emb0 t y] at h
  exact ⟨t, h⟩

/-- The call ends with its four results at these functions of its arguments, and the arguments unchanged. -/
theorem run : θ_run defs (onTc (τ := τ) (main (F := F))) ⟨m, fun _ => 0, ρ⟩ fun r => ∀ c : Dev nD,
      r.2.mem ((c : Thread nD τ).loc main_v0_0) = grad (m ((c : Thread nD τ).loc main_arg3))
      ∧ r.2.mem ((c : Thread nD τ).loc main_v0_1) = change (m ((c : Thread nD τ).loc main_arg0))
          (m ((c : Thread nD τ).loc main_arg1)) (m ((c : Thread nD τ).loc main_arg2)) (grad (m ((c : Thread nD τ).loc main_arg3)))
      ∧ r.2.mem ((c : Thread nD τ).loc main_v0_2)
        = moment1 (m ((c : Thread nD τ).loc main_arg1)) (grad (m ((c : Thread nD τ).loc main_arg3)))
      ∧ r.2.mem ((c : Thread nD τ).loc main_v0_3)
        = moment2 (m ((c : Thread nD τ).loc main_arg2)) (grad (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨h4, h5, h6, h7, hk⟩ := h c
  refine ⟨h4.trans ?_, h5.trans ?_, h6.trans ?_, h7.trans ?_, hk⟩
  · rw [(dats m 0 c).arrAt_eq_of_cover 4 _ (fun t _ => flushed4_eq m c t)
        fun i => (mem i).imp fun t h => ⟨flush0_4 t, h⟩, V_main_arg3]
  · rw [(dats m 0 c).arrAt_eq_of_cover 5 _ (fun t _ => flushed5_eq m c t)
        fun i => (mem i).imp fun t h => ⟨flush0_5 t, h⟩, V_main_arg0, V_main_arg1, V_main_arg2,
      V_main_arg3]
  · rw [(dats m 0 c).arrAt_eq_of_cover 6 _ (fun t _ => flushed6_eq m c t)
        fun i => (mem i).imp fun t h => ⟨flush0_6 t, h⟩, V_main_arg1, V_main_arg3]
  · rw [(dats m 0 c).arrAt_eq_of_cover 7 _ (fun t _ => flushed7_eq m c t)
        fun i => (mem i).imp fun t h => ⟨flush0_7 t, h⟩, V_main_arg2, V_main_arg3]

/-- With equal arguments the call and its reference end with equal results. -/
theorem meets : Cert.algebraic_UpdateIdeal_UpdateRefIdeal := fun m g m' g' _ hw =>
  ⟨fun c => grad (m ((c : Thread nD τ).loc main_arg3)),
    fun c => change (m ((c : Thread nD τ).loc main_arg0)) (m ((c : Thread nD τ).loc main_arg1))
      (m ((c : Thread nD τ).loc main_arg2)) (grad (m ((c : Thread nD τ).loc main_arg3))),
    fun c => moment1 (m ((c : Thread nD τ).loc main_arg1)) (grad (m ((c : Thread nD τ).loc main_arg3))),
    fun c => moment2 (m ((c : Thread nD τ).loc main_arg2)) (grad (m ((c : Thread nD τ).loc main_arg3))),
    run (F := Ideal) m g,
    (θ_run Cert.UpdateRefIdeal.defs _ _).mono (fun r h c => by
      obtain ⟨h0, h1, h2, h3, hk⟩ := h c
      obtain ⟨e0, e1, e2, e3⟩ := hw c
      rw [host_sum8] at h0
      rw [host_sum8, host_moment1, host_moment2, host_change] at h1
      rw [host_sum8, host_moment1] at h2
      rw [host_sum8, host_moment2] at h3
      rw [e3] at h0
      rw [e0, e1, e2, e3] at h1
      rw [e1, e3] at h2
      rw [e2, e3] at h3
      exact ⟨h0, h1, h2, h3, hk⟩)
      (Cert.UpdateRefIdeal.Value.run (F := Ideal) m' g')⟩

end Cert.Adam.Big

end
-- ==== Proof.AdamOneBlock.lean ====
/-
  The AdamW calls whose arrays are one block: the packed small weights (88 rows), the convolution's weights (16 rows) and the
  context's conditioning (8 rows, of which the first holds it). Each ends with the eight devices' gradients summed and the
  step done with them, and so does its reference over the extended reals.
-/
module

public import proofs.«01_k».proof.Proof.Adam
public import proofs.«01_k».proof.Defs
public import proofs.«01_k».proof.Proof.Gen.UpdateSmallIdeal.Value
public import proofs.«01_k».proof.Proof.Gen.UpdateSmallRefIdeal.Run
public import proofs.«01_k».proof.Proof.Gen.UpdateConvIdeal.Value
public import proofs.«01_k».proof.Proof.Gen.UpdateConvRefIdeal.Run
public import proofs.«01_k».proof.Proof.Gen.UpdateCctxIdeal.Value
public import proofs.«01_k».proof.Proof.Gen.UpdateCctxRefIdeal.Run
public import Idealize.ShloMosaic.Lib.Claim

@[expose] public section

noncomputable section

namespace Cert.Adam.Small

open Cert.UpdateSmallIdeal Cert.UpdateSmallIdeal.Gen Cert.UpdateSmallIdeal.Value Idealize.ShloMosaic Idealize.ShloMosaic.TcCoe Idealize.SL.Sem

variable {F : FTy → Type} [FloatOps F] (w b v : Vec F S88x1024 .f32) (x : Vec F S8x88x1024 .f32)

/-- The first result is the summed gradients. -/
theorem grad_eq : G4 w b v x = sum8 (n := 88) x := by
  show k0_pay5 w b v x = _
  unfold k0_pay5
  rw [lay4_0_eq]
  have e := fun k off h inb y => load_at (n := 88) x k off h inb shapeCasts_S1x88x1024_S88x1024 y
  exact sum8_of (n := 88) x (e 0 _ rfl _) (e 1 _ rfl _) (e 2 _ rfl _) (e 3 _ rfl _) (e 4 _ rfl _) (e 5 _ rfl _) (e 6 _ rfl _)
    (e 7 _ rfl _)

/-- The third is the first moments. -/
theorem moment1_eq : G6 w b v x = moment1 (n := 88) b (sum8 (n := 88) x) := by
  rw [← grad_eq w b v x]
  show k0_pay6 w b v x = _
  unfold k0_pay6
  rw [View.ld_unit_zero hz]; rfl

/-- The fourth is the second moments. -/
theorem moment2_eq : G7 w b v x = moment2 (n := 88) v (sum8 (n := 88) x) := by
  rw [← grad_eq w b v x]; rfl

/-- The second is the changes of the weights. -/
theorem change_eq : G5 w b v x = change (n := 88) w b v (sum8 (n := 88) x) := by
  show k0_pay2 (G4 w b v x) (G6 w b v x) v w = _
  rw [moment1_eq, grad_eq]; rfl

/-- With equal arguments the call and its reference end with equal results. -/
theorem meets : Cert.algebraic_UpdateSmallIdeal_UpdateSmallRefIdeal := fun m g m' g' _ hw =>
  ⟨_, _, _, _, Cert.UpdateSmallIdeal.Value.run (F := Ideal) m g,
    (θ_run Cert.UpdateSmallRefIdeal.defs _ _).mono (fun r h c => by
      obtain ⟨h0, h1, h2, h3, hk⟩ := h c
      obtain ⟨e0, e1, e2, e3⟩ := hw c
      rw [host_sum8, e3] at h0
      rw [host_sum8, host_moment1, host_moment2, host_change, e0, e1, e2, e3] at h1
      rw [host_sum8, host_moment1, e1, e3] at h2
      rw [host_sum8, host_moment2, e2, e3] at h3
      exact ⟨h0.trans (grad_eq _ _ _ _).symm, h1.trans (change_eq _ _ _ _).symm, h2.trans (moment1_eq _ _ _ _).symm,
        h3.trans (moment2_eq _ _ _ _).symm, hk⟩)
      (Cert.UpdateSmallRefIdeal.Value.run (F := Ideal) m' g')⟩

end Cert.Adam.Small

namespace Cert.Adam.Conv

open Cert.UpdateConvIdeal Cert.UpdateConvIdeal.Gen Cert.UpdateConvIdeal.Value Idealize.ShloMosaic Idealize.ShloMosaic.TcCoe Idealize.SL.Sem

variable {F : FTy → Type} [FloatOps F] (w b v : Vec F S16x1024 .f32) (x : Vec F S8x16x1024 .f32)

/-- The first result is the summed gradients. -/
theorem grad_eq : G4 w b v x = sum8 (n := 16) x := by
  show k0_pay5 w b v x = _
  unfold k0_pay5
  rw [lay4_0_eq]
  have e := fun k off h inb y => load_at (n := 16) x k off h inb shapeCasts_S1x16x1024_S16x1024 y
  exact sum8_of (n := 16) x (e 0 _ rfl _) (e 1 _ rfl _) (e 2 _ rfl _) (e 3 _ rfl _) (e 4 _ rfl _) (e 5 _ rfl _) (e 6 _ rfl _)
    (e 7 _ rfl _)

/-- The third is the first moments. -/
theorem moment1_eq : G6 w b v x = moment1 (n := 16) b (sum8 (n := 16) x) := by
  rw [← grad_eq w b v x]
  show k0_pay6 w b v x = _
  unfold k0_pay6
  rw [View.ld_unit_zero hz]; rfl

/-- The fourth is the second moments. -/
theorem moment2_eq : G7 w b v x = moment2 (n := 16) v (sum8 (n := 16) x) := by
  rw [← grad_eq w b v x]; rfl

/-- The second is the changes of the weights. -/
theorem change_eq : G5 w b v x = change (n := 16) w b v (sum8 (n := 16) x) := by
  show k0_pay2 (G4 w b v x) (G6 w b v x) v w = _
  rw [moment1_eq, grad_eq]; rfl

/-- With equal arguments the call and its reference end with equal results. -/
theorem meets : Cert.algebraic_UpdateConvIdeal_UpdateConvRefIdeal := fun m g m' g' _ hw =>
  ⟨_, _, _, _, Cert.UpdateConvIdeal.Value.run (F := Ideal) m g,
    (θ_run Cert.UpdateConvRefIdeal.defs _ _).mono (fun r h c => by
      obtain ⟨h0, h1, h2, h3, hk⟩ := h c
      obtain ⟨e0, e1, e2, e3⟩ := hw c
      rw [host_sum8, e3] at h0
      rw [host_sum8, host_moment1, host_moment2, host_change, e0, e1, e2, e3] at h1
      rw [host_sum8, host_moment1, e1, e3] at h2
      rw [host_sum8, host_moment2, e2, e3] at h3
      exact ⟨h0.trans (grad_eq _ _ _ _).symm, h1.trans (change_eq _ _ _ _).symm, h2.trans (moment1_eq _ _ _ _).symm,
        h3.trans (moment2_eq _ _ _ _).symm, hk⟩)
      (Cert.UpdateConvRefIdeal.Value.run (F := Ideal) m' g')⟩

end Cert.Adam.Conv

namespace Cert.Adam.Cctx

open Cert.UpdateCctxIdeal Cert.UpdateCctxIdeal.Gen Cert.UpdateCctxIdeal.Value Idealize.ShloMosaic Idealize.ShloMosaic.TcCoe Idealize.SL.Sem

variable {F : FTy → Type} [FloatOps F] (w b v : Vec F S8x1024 .f32) (x : Vec F S8x8x1024 .f32)

/-- The first result is the summed gradients. -/
theorem grad_eq : G4 w b v x = sum8 (n := 8) x := by
  show k0_pay5 w b v x = _
  unfold k0_pay5
  rw [lay4_0_eq]
  have e := fun k off h inb y => load_at (n := 8) x k off h inb shapeCasts_S1x8x1024_S8x1024 y
  exact sum8_of (n := 8) x (e 0 _ rfl _) (e 1 _ rfl _) (e 2 _ rfl _) (e 3 _ rfl _) (e 4 _ rfl _) (e 5 _ rfl _) (e 6 _ rfl _)
    (e 7 _ rfl _)

/-- The third is the first moments. -/
theorem moment1_eq : G6 w b v x = moment1 (n := 8) b (sum8 (n := 8) x) := by
  rw [← grad_eq w b v x]
  show k0_pay6 w b v x = _
  unfold k0_pay6
  rw [View.ld_unit_zero hz]; rfl

/-- The fourth is the second moments. -/
theorem moment2_eq : G7 w b v x = moment2 (n := 8) v (sum8 (n := 8) x) := by
  rw [← grad_eq w b v x]; rfl

/-- The second is the changes of the weights. -/
theorem change_eq : G5 w b v x = change (n := 8) w b v (sum8 (n := 8) x) := by
  show k0_pay2 (G4 w b v x) (G6 w b v x) v w = _
  rw [moment1_eq, grad_eq]; rfl

/-- With equal arguments the call and its reference end with equal results. -/
theorem meets : Cert.algebraic_UpdateCctxIdeal_UpdateCctxRefIdeal := fun m g m' g' _ hw =>
  ⟨_, _, _, _, Cert.UpdateCctxIdeal.Value.run (F := Ideal) m g,
    (θ_run Cert.UpdateCctxRefIdeal.defs _ _).mono (fun r h c => by
      obtain ⟨h0, h1, h2, h3, hk⟩ := h c
      obtain ⟨e0, e1, e2, e3⟩ := hw c
      rw [host_sum8, e3] at h0
      rw [host_sum8, host_moment1, host_moment2, host_change, e0, e1, e2, e3] at h1
      rw [host_sum8, host_moment1, e1, e3] at h2
      rw [host_sum8, host_moment2, e2, e3] at h3
      exact ⟨h0.trans (grad_eq _ _ _ _).symm, h1.trans (change_eq _ _ _ _).symm, h2.trans (moment1_eq _ _ _ _).symm,
        h3.trans (moment2_eq _ _ _ _).symm, hk⟩)
      (Cert.UpdateCctxRefIdeal.Value.run (F := Ideal) m' g')⟩

end Cert.Adam.Cctx

end
-- ==== Proof.AdamAda.lean ====
/-
  The AdamW call of the conditioning's projection: one gradient, in six blocks of 512 rows. It ends with that gradient and
  the step done with it, and so does its reference over the extended reals.
-/
module

public import proofs.«01_k».proof.Proof.Gen.UpdateAdaIdeal.Value
public import proofs.«01_k».proof.Proof.Adam
public import proofs.«01_k».proof.Defs
public import proofs.«01_k».proof.Proof.Gen.UpdateAdaRefIdeal.Run
public import Idealize.ShloMosaic.Lib.Pointwise.Reduce
public import Idealize.ShloMosaic.Lib.Claim

@[expose] public section

noncomputable section

namespace Cert.Adam.Ada

open Cert.UpdateAdaIdeal Cert.UpdateAdaIdeal.Gen Cert.UpdateAdaIdeal.Value Idealize.ShloMosaic Idealize.ShloMosaic.TcCoe Idealize.SL.Sem

variable {F : FTy → Type} [FloatOps F]

/-- The gradient of a block, its unit axis dropped. -/
abbrev gBlk (x : Vec F S1x512x1024 .f32) : Vec F S512x1024 .f32 := first (n := 512) x

theorem one_eq (x3 : Vec F S1x512x1024 .f32) : k0_pay1 (View.ld x3 r0_0) = gBlk x3 :=
  funext fun y => load_at (n := 512) x3 0 _ rfl _ shapeCasts_S1x512x1024_S512x1024 y

theorem out4_eq (x0 x1 x2 : Vec F S512x1024 .f32) (x3 : Vec F S1x512x1024 .f32) : out0_4 x0 x1 x2 x3 = gBlk x3 := by
  unfold out0_4; rw [View.canon_unit_zero hz, one_eq]

/-- A load of a whole block is the block. -/
theorem whole (x : Vec F S512x1024 .f32) : View.ld x r0_1 = x := by rw [View.ld_unit_zero hz]

theorem out6_eq (x0 x1 x2 : Vec F S512x1024 .f32) (x3 : Vec F S1x512x1024 .f32) :
    out0_6 x0 x1 x2 x3 = fun y => newM (x1 y) (gBlk x3 y) := by
  unfold out0_6; rw [View.canon_unit_zero hz, whole, ← one_eq]; rfl

theorem out7_eq (x0 x1 x2 : Vec F S512x1024 .f32) (x3 : Vec F S1x512x1024 .f32) :
    out0_7 x0 x1 x2 x3 = fun y => newV (x2 y) (gBlk x3 y) := by
  unfold out0_7; rw [View.canon_unit_zero hz, whole, ← one_eq]; rfl

theorem out5_eq (x0 x1 x2 : Vec F S512x1024 .f32) (x3 : Vec F S1x512x1024 .f32) :
    out0_5 x0 x1 x2 x3 = fun y => delta (x0 y) (newM (x1 y) (gBlk x3 y)) (newV (x2 y) (gBlk x3 y)) := by
  unfold out0_5
  rw [View.canon_unit_zero hz, whole, whole, whole, ← one_eq]; rfl

variable (m : (ℓ : Loc nD τ sig) → Buf (Elt F) ℓ) (ρ : Dev nD → PrngReg)

/-- Point `t`'s blocks are the `t`-th groups of rows: of the weights, and so of every array of their shape; of the
    gradients. -/
theorem idx_facts : ∀ t : Fin cfg0.N,
    (win0_0.index t (0 : Fin 2) = t.val ∧ win0_0.index t (1 : Fin 2) = 0)
    ∧ (win0_3.index t (0 : Fin 3) = 0 ∧ win0_3.index t (1 : Fin 3) = t.val ∧ win0_3.index t (2 : Fin 3) = 0) :=
  (by decide +kernel : ∀ t : Fin grid0.N, _)

theorem fits (t : Fin cfg0.N) : t.val * 512 + 512 ≤ 3072 := by
  have h : t.val < 6 := t.isLt
  omega

/-- Where entry `y` of point `t`'s block lies in the array. -/
abbrev row (t : Fin cfg0.N) (y : S512x1024.Idx) : S3072x1024.Idx := block t.val (fits t) y

theorem emb0 (t : Fin cfg0.N) (y : S512x1024.Idx) : ((cfg0.win 0).blk t).view.emb y = row t y := by
  obtain ⟨⟨h, h'⟩, -⟩ := idx_facts t
  refine funext fun a => Fin.ext ?_
  match a with
  | ⟨0, _⟩ => show win0_0.index t (0 : Fin 2) * 512 + 1 * (y 0).val = t.val * 512 + (y 0).val; rw [h, Nat.one_mul]
  | ⟨1, _⟩ => show win0_0.index t (1 : Fin 2) * 1024 + 1 * (y 1).val = (y 1).val; rw [h']; omega

theorem emb3 (t : Fin cfg0.N) (k : Fin 1) (y : S512x1024.Idx) :
    ((cfg0.win 3).blk t).view.emb (at_ k y) = at_ k (row t y) := by
  obtain ⟨-, h, h', h''⟩ := idx_facts t
  refine funext fun a => Fin.ext ?_
  match a with
  | ⟨0, _⟩ => show win0_3.index t (0 : Fin 3) * 1 + 1 * k.val = k.val; rw [h]; omega
  | ⟨1, _⟩ => show win0_3.index t (1 : Fin 3) * 512 + 1 * (y 0).val = t.val * 512 + (y 0).val; rw [h', Nat.one_mul]
  | ⟨2, _⟩ => show win0_3.index t (2 : Fin 3) * 1024 + 1 * (y 1).val = (y 1).val; rw [h'']; omega

/-- The gradient, its unit axis dropped. -/
abbrev grad (x : Vec F S1x3072x1024 .f32) : Vec F S3072x1024 .f32 := first (n := 3072) x

theorem blk0 (c : Dev nD) (t : Fin cfg0.N) (y : S512x1024.Idx) : iblk m c 0 t y = V m c main_arg0 (row t y) :=
  congrArg (V m c main_arg0) (emb0 t y)

theorem blk1 (c : Dev nD) (t : Fin cfg0.N) (y : S512x1024.Idx) : iblk m c 1 t y = V m c main_arg1 (row t y) :=
  congrArg (V m c main_arg1) (emb0 t y)

theorem blk2 (c : Dev nD) (t : Fin cfg0.N) (y : S512x1024.Idx) : iblk m c 2 t y = V m c main_arg2 (row t y) :=
  congrArg (V m c main_arg2) (emb0 t y)

/-- A block's gradient is the array's there. -/
theorem blk3 (c : Dev nD) (t : Fin cfg0.N) (y : S512x1024.Idx) :
    gBlk (iblk m c 3 t) y = grad (V m c main_arg3) (row t y) := by
  show V m c main_arg3 (((cfg0.win 3).blk t).view.emb (at_ 0 y)) = _; rw [emb3]; rfl

theorem flushed4_eq (c : Dev nD) (t : Fin cfg0.N) :
    (dats m 0 c).flushed 4 t = ((cfg0.win 4).blk t).view.read (Elt F) (grad (V m c main_arg3)) := by
  rw [flushed4, out4_eq]
  exact funext fun y => (blk3 m c t y).trans (congrArg _ (emb0 t y).symm)

theorem flushed5_eq (c : Dev nD) (t : Fin cfg0.N) :
    (dats m 0 c).flushed 5 t = ((cfg0.win 5).blk t).view.read (Elt F)
      (change (V m c main_arg0) (V m c main_arg1) (V m c main_arg2) (grad (V m c main_arg3))) := by
  rw [flushed5, out5_eq]
  exact funext fun y => (show delta (iblk m c 0 t y) (newM (iblk m c 1 t y) (gBlk (iblk m c 3 t) y))
      (newV (iblk m c 2 t y) (gBlk (iblk m c 3 t) y)) = change _ _ _ _ (row t y) by rw [blk0, blk1, blk2, blk3]; rfl).trans (congrArg _ (emb0 t y).symm)

theorem flushed6_eq (c : Dev nD) (t : Fin cfg0.N) :
    (dats m 0 c).flushed 6 t = ((cfg0.win 6).blk t).view.read (Elt F) (moment1 (V m c main_arg1) (grad (V m c main_arg3))) := by
  rw [flushed6, out6_eq]
  exact funext fun y => (show newM (iblk m c 1 t y) (gBlk (iblk m c 3 t) y) = moment1 _ _ (row t y) by rw [blk1, blk3]; rfl).trans (congrArg _ (emb0 t y).symm)

theorem flushed7_eq (c : Dev nD) (t : Fin cfg0.N) :
    (dats m 0 c).flushed 7 t = ((cfg0.win 7).blk t).view.read (Elt F) (moment2 (V m c main_arg2) (grad (V m c main_arg3))) := by
  rw [flushed7, out7_eq]
  exact funext fun y => (show newV (iblk m c 2 t y) (gBlk (iblk m c 3 t) y) = moment2 _ _ (row t y) by rw [blk2, blk3]; rfl).trans (congrArg _ (emb0 t y).symm)

/-- Every row is in some point's block. -/
theorem mem (i : S3072x1024.Idx) : ∃ t : Fin cfg0.N, i ∈ ((cfg0.win 4).blk t).view.set := by
  obtain ⟨t, y, rfl⟩ := block_onto (n := 3072) (B := 512) (N := 6) (by norm_num) rfl (fun t => fits t) i
  have h := ((cfg0.win 4).blk t).view.emb_mem_set y
  rw [show ((cfg0.win 4).blk t).view.emb y = row t y from emb0 t y] at h
  exact ⟨t, h⟩

/-- The call ends with its four results at these functions of its arguments, and the arguments unchanged. -/
theorem run : θ_run defs (onTc (τ := τ) (main (F := F))) ⟨m, fun _ => 0, ρ⟩ fun r => ∀ c : Dev nD,
      r.2.mem ((c : Thread nD τ).loc main_v0_0) = grad (m ((c : Thread nD τ).loc main_arg3))
      ∧ r.2.mem ((c : Thread nD τ).loc main_v0_1) = change (m ((c : Thread nD τ).loc main_arg0))
          (m ((c : Thread nD τ).loc main_arg1)) (m ((c : Thread nD τ).loc main_arg2)) (grad (m ((c : Thread nD τ).loc main_arg3)))
      ∧ r.2.mem ((c : Thread nD τ).loc main_v0_2)
        = moment1 (m ((c : Thread nD τ).loc main_arg1)) (grad (m ((c : Thread nD τ).loc main_arg3)))
      ∧ r.2.mem ((c : Thread nD τ).loc main_v0_3)
        = moment2 (m ((c : Thread nD τ).loc main_arg2)) (grad (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨h4, h5, h6, h7, hk⟩ := h c
  refine ⟨h4.trans ?_, h5.trans ?_, h6.trans ?_, h7.trans ?_, hk⟩
  · rw [(dats m 0 c).arrAt_eq_of_cover 4 _ (fun t _ => flushed4_eq m c t)
        fun i => (mem i).imp fun t h => ⟨flush0_4 t, h⟩, V_main_arg3]
  · rw [(dats m 0 c).arrAt_eq_of_cover 5 _ (fun t _ => flushed5_eq m c t)
        fun i => (mem i).imp fun t h => ⟨flush0_5 t, h⟩, V_main_arg0, V_main_arg1, V_main_arg2,
      V_main_arg3]
  · rw [(dats m 0 c).arrAt_eq_of_cover 6 _ (fun t _ => flushed6_eq m c t)
        fun i => (mem i).imp fun t h => ⟨flush0_6 t, h⟩, V_main_arg1, V_main_arg3]
  · rw [(dats m 0 c).arrAt_eq_of_cover 7 _ (fun t _ => flushed7_eq m c t)
        fun i => (mem i).imp fun t h => ⟨flush0_7 t, h⟩, V_main_arg2, V_main_arg3]

/-- With equal arguments the call and its reference end with equal results. -/
theorem meets : Cert.algebraic_UpdateAdaIdeal_UpdateAdaRefIdeal := fun m g m' g' _ hw =>
  ⟨fun c => grad (m ((c : Thread nD τ).loc main_arg3)),
    fun c => change (m ((c : Thread nD τ).loc main_arg0)) (m ((c : Thread nD τ).loc main_arg1))
      (m ((c : Thread nD τ).loc main_arg2)) (grad (m ((c : Thread nD τ).loc main_arg3))),
    fun c => moment1 (m ((c : Thread nD τ).loc main_arg1)) (grad (m ((c : Thread nD τ).loc main_arg3))),
    fun c => moment2 (m ((c : Thread nD τ).loc main_arg2)) (grad (m ((c : Thread nD τ).loc main_arg3))),
    run (F := Ideal) m g,
    (θ_run Cert.UpdateAdaRefIdeal.defs _ _).mono (fun r h c => by
      obtain ⟨h0, h1, h2, h3, hk⟩ := h c
      obtain ⟨e0, e1, e2, e3⟩ := hw c
      rw [host_sum1] at h0
      rw [host_sum1, host_moment1, host_moment2, host_change] at h1
      rw [host_sum1, host_moment1] at h2
      rw [host_sum1, host_moment2] at h3
      rw [e3] at h0
      rw [e0, e1, e2, e3] at h1
      rw [e1, e3] at h2
      rw [e2, e3] at h3
      exact ⟨h0, h1, h2, h3, hk⟩)
      (Cert.UpdateAdaRefIdeal.Value.run (F := Ideal) m' g')⟩

end Cert.Adam.Ada

end
-- ==== Proof.InputGrad.lean ====
/-
  The gradient of the input: the projection's cotangent times its transposed weight, taken back through the modulation, in
  36 tiles of 256 rows, and the gradient of each tile's modulation. The call and its reference end with the same arrays over
  the extended reals.
-/
module

public import proofs.«01_k».proof.Proof.Gen.InputGradIdeal.Value
public import proofs.«01_k».proof.Proof.Adam
public import proofs.«01_k».proof.Defs
public import proofs.«01_k».proof.Proof.Gen.InputGradRefIdeal.Run
public import Idealize.ShloMosaic.Lib.Pointwise.Reduce
public import Idealize.ShloMosaic.Lib.Pointwise
public import Idealize.ShloMosaic.Lib.Claim

@[expose] public section

set_option maxRecDepth 16384

noncomputable section

namespace Cert.DxProj

open Cert.InputGradIdeal Cert.InputGradIdeal.Gen Cert.InputGradIdeal.Value Idealize.ShloMosaic Idealize.ShloMosaic.TcCoe Idealize.SL.Sem

open Cert.Adam (hz)

theorem hz3 : (![0, 0, 0] : Fin 3 → Nat) = fun _ => 0 := funext fun a => by fin_cases a <;> rfl

/-- Row `r` of tile `t`. -/
def rowOf (t : Fin 36) (r : Fin 256) : Fin 9216 := ⟨t.val * 256 + r.val, by omega⟩

/-- The tile of a row. -/
def tileOf (r : Fin 9216) : Fin 36 := ⟨r.val / 256, by omega⟩

/-- The gradient of the modulated input, at a row and a column. -/
def back (p : Vec Ideal S9216x2048 .bf16) (w : Vec Ideal S2048x1024 .bf16) (r : Fin 9216) (d : Fin 1024) : EReal :=
  ∑ k : Fin 2048, (p (ix2 r k) : EReal) * w (ix2 k d)

/-- The gradient of the input. -/
def gradX (p : Vec Ideal S9216x2048 .bf16) (w : Vec Ideal S2048x1024 .bf16) (mod : Vec Ideal S36x8x1024 .f32)
    (add : Vec Ideal S9216x1024 .f32) : Vec Ideal S9216x1024 .f32 := fun i =>
  ((add i : EReal) + back p w (i 0) (i 1) * (1 + mod (ix3 (tileOf (i 0)) 1 (i 1))) : EReal)

/-- The gradient of the modulation: each tile's shift, then its scale, then six rows of zeros. -/
def gradMod (p : Vec Ideal S9216x2048 .bf16) (w : Vec Ideal S2048x1024 .bf16) (x : Vec Ideal S9216x1024 .f32) :
    Vec Ideal S36x8x1024 .f32 := fun j =>
  (if (j 1).val = 0 then ∑ r : Fin 256, back p w (rowOf (j 0) r) (j 2)
    else if (j 1).val = 1 then ∑ r : Fin 256, back p w (rowOf (j 0) r) (j 2) * x (ix2 (rowOf (j 0) r) (j 2))
    else 0 : EReal)

variable (x0 : Vec Ideal S256x2048 .bf16) (x1 : Vec Ideal S2048x1024 .bf16) (x2 : Vec Ideal S256x1024 .f32)
  (x3 : Vec Ideal S1x8x1024 .f32) (x4 : Vec Ideal S256x1024 .f32)

theorem dot_eq (y : S256x1024.Idx) : k0_pay2 x0 x1 y = (∑ k : Fin 2048, (x0 (ix2 (y 0) k) : EReal) * x1 (ix2 k (y 1)) : EReal) := by
  idx_vars y
  pointwise [k0_pay2]

/-- A load of a whole block is the block. -/
theorem whole0 : View.ld x0 r0_0 = x0 := by rw [View.ld_unit_zero hz]

theorem whole1 : View.ld x1 r0_1 = x1 := by rw [View.ld_unit_zero hz]

theorem whole2 : View.ld x3 r0_2 = x3 := by rw [View.ld_unit_zero hz3]

theorem whole3 : View.ld x2 r0_3 = x2 := by rw [View.ld_unit_zero hz]

/-- A tile of the input's gradient, at an entry. -/
theorem out5_eq (r : Fin 256) (d : Fin 1024) :
    out0_5 x0 x1 x2 x3 x4 (ix2 r d) = (x4 (ix2 r d) + k0_pay2 x0 x1 (ix2 r d) * (1 + x3 (ix3 0 1 d)) : EReal) := by
  unfold out0_5
  rw [View.canon_unit_zero hz, whole0, whole1, whole2, whole3]
  pointwise [k0_pay3]

/-- A tile's gradient of its modulation, at an entry. -/
theorem out6_eq (z : Fin 1) (j : Fin 8) (d : Fin 1024) :
    out0_6 x0 x1 x2 x3 x4 (ix3 z j d) = (if j.val = 0 then ∑ r : Fin 256, (k0_pay2 x0 x1 (ix2 r d) : EReal)
      else if j.val = 1 then ∑ r : Fin 256, (k0_pay2 x0 x1 (ix2 r d) : EReal) * x2 (ix2 r d) else 0 : EReal) := by
  unfold out0_6
  rw [View.canon_unit_zero hz3, whole0, whole1, whole3]
  pointwise [k0_pay1, k0_pay4]
  fin_cases j <;> simp [Scalar.select, IntOp.cmpi]

variable (m : (ℓ : Loc nD τ sig) → Buf (Elt Ideal) ℓ) (ρ : Dev nD → PrngReg)

/-- Point `t`'s blocks are the `t`-th groups of 256 rows, the whole weight, and the `t`-th modulation. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

theorem emb0 (t : Fin cfg0.N) (r : Fin 256) (k : Fin 2048) :
    ((cfg0.win 0).blk t).view.emb (ix2 r k) = (ix2 (rowOf t r) k : S9216x2048.Idx) := by
  obtain ⟨⟨h, h'⟩, -⟩ := idx_facts t
  refine funext fun a => Fin.ext ?_
  match a with
  | ⟨0, _⟩ => show win0_0.index t (0 : Fin 2) * 256 + 1 * r.val = t.val * 256 + r.val; rw [h, Nat.one_mul]
  | ⟨1, _⟩ => show win0_0.index t (1 : Fin 2) * 2048 + 1 * k.val = k.val; rw [h']; omega

theorem emb1 (t : Fin cfg0.N) (k : Fin 2048) (d : Fin 1024) :
    ((cfg0.win 1).blk t).view.emb (ix2 k d) = (ix2 k d : S2048x1024.Idx) := by
  obtain ⟨-, ⟨h, h'⟩, -⟩ := idx_facts t
  refine funext fun a => Fin.ext ?_
  match a with
  | ⟨0, _⟩ => show win0_1.index t (0 : Fin 2) * 2048 + 1 * k.val = k.val; rw [h]; omega
  | ⟨1, _⟩ => show win0_1.index t (1 : Fin 2) * 1024 + 1 * d.val = d.val; rw [h']; omega

theorem emb2 (t : Fin cfg0.N) (r : Fin 256) (d : Fin 1024) :
    ((cfg0.win 2).blk t).view.emb (ix2 r d) = (ix2 (rowOf t r) d : S9216x1024.Idx) := by
  obtain ⟨-, -, ⟨h, h'⟩, -⟩ := idx_facts t
  refine funext fun a => Fin.ext ?_
  match a with
  | ⟨0, _⟩ => show win0_2.index t (0 : Fin 2) * 256 + 1 * r.val = t.val * 256 + r.val; rw [h, Nat.one_mul]
  | ⟨1, _⟩ => show win0_2.index t (1 : Fin 2) * 1024 + 1 * d.val = d.val; rw [h']; omega

theorem emb3 (t : Fin cfg0.N) (z : Fin 1) (j : Fin 8) (d : Fin 1024) :
    ((cfg0.win 3).blk t).view.emb (ix3 z j d) = (ix3 t j d : S36x8x1024.Idx) := by
  obtain ⟨-, -, -, h, h', h''⟩ := idx_facts t
  refine funext fun a => Fin.ext ?_
  match a with
  | ⟨0, _⟩ => show win0_3.index t (0 : Fin 3) * 1 + 1 * z.val = t.val; rw [h]; omega
  | ⟨1, _⟩ => show win0_3.index t (1 : Fin 3) * 8 + 1 * j.val = j.val; rw [h']; omega
  | ⟨2, _⟩ => show win0_3.index t (2 : Fin 3) * 1024 + 1 * d.val = d.val; rw [h'']; omega

/-- A block of the product is the product's rows there. -/
theorem dot_blk (c : Dev nD) (t : Fin cfg0.N) (r : Fin 256) (d : Fin 1024) :
    k0_pay2 (iblk m c 0 t) (iblk m c 1 t) (ix2 r d) = back (V m c main_arg0) (V m c main_arg1) (rowOf t r) d :=
  (dot_eq _ _ _).trans <| Finset.sum_congr rfl fun k _ => congrArg₂ (fun a b : EReal => a * b)
    (congrArg (V m c main_arg0) (emb0 t r k)) (congrArg (V m c main_arg1) (emb1 t k d))

theorem blk2 (c : Dev nD) (t : Fin cfg0.N) (r : Fin 256) (d : Fin 1024) :
    iblk m c 2 t (ix2 r d) = V m c main_arg2 (ix2 (rowOf t r) d) := congrArg (V m c main_arg2) (emb2 t r d)

theorem blk3 (c : Dev nD) (t : Fin cfg0.N) (z : Fin 1) (j : Fin 8) (d : Fin 1024) :
    iblk m c 3 t (ix3 z j d) = V m c main_arg3 (ix3 t j d) := congrArg (V m c main_arg3) (emb3 t z j d)

theorem blk4 (c : Dev nD) (t : Fin cfg0.N) (r : Fin 256) (d : Fin 1024) :
    iblk m c 4 t (ix2 r d) = V m c main_arg4 (ix2 (rowOf t r) d) := congrArg (V m c main_arg4) (emb2 t r d)

theorem tile_row (t : Fin 36) (r : Fin 256) : tileOf (rowOf t r) = t :=
  Fin.ext (show (t.val * 256 + r.val) / 256 = t.val by omega)

theorem gradX_at (p : Vec Ideal S9216x2048 .bf16) (w : Vec Ideal S2048x1024 .bf16) (mod : Vec Ideal S36x8x1024 .f32)
    (add : Vec Ideal S9216x1024 .f32) (t : Fin 36) (r : Fin 256) (d : Fin 1024) :
    gradX p w mod add (ix2 (rowOf t r) d)
      = (add (ix2 (rowOf t r) d) + back p w (rowOf t r) d * (1 + mod (ix3 t 1 d)) : EReal) := by
  show (_ + _ * (1 + mod (ix3 (tileOf (rowOf t r)) 1 d)) : EReal) = _
  rw [tile_row]; rfl

theorem flushed5_eq (c : Dev nD) (t : Fin cfg0.N) :
    (dats m 0 c).flushed 5 t = ((cfg0.win 5).blk t).view.read (Elt Ideal)
      (gradX (V m c main_arg0) (V m c main_arg1) (V m c main_arg3) (V m c main_arg4)) := by
  rw [flushed5]
  refine funext fun y => ?_
  obtain ⟨r, d, rfl⟩ : ∃ (r : Fin 256) (d : Fin 1024), y = ix2 r d := ⟨y 0, y 1, eq_ix2 y⟩
  refine (out5_eq _ _ _ _ _ r d).trans (Eq.trans ?_ (congrArg (gradX _ _ _ _) (emb2 t r d).symm))
  rw [dot_blk, blk3, blk4]
  exact (gradX_at _ _ _ _ t r d).symm

theorem flushed6_eq (c : Dev nD) (t : Fin cfg0.N) :
    (dats m 0 c).flushed 6 t = ((cfg0.win 6).blk t).view.read (Elt Ideal)
      (gradMod (V m c main_arg0) (V m c main_arg1) (V m c main_arg2)) := by
  rw [flushed6]
  refine funext fun y => ?_
  obtain ⟨z, j, d, rfl⟩ : ∃ (z : Fin 1) (j : Fin 8) (d : Fin 1024), y = ix3 z j d := ⟨y 0, y 1, y 2, eq_ix3 y⟩
  refine (out6_eq _ _ _ _ _ z j d).trans (Eq.trans ?_ (congrArg (gradMod _ _ _) (emb3 t z j d).symm))
  simp only [dot_blk, blk2]
  rfl

/-- Every row is in some tile. -/
theorem mem5 (i : S9216x1024.Idx) : ∃ t : Fin cfg0.N, i ∈ ((cfg0.win 5).blk t).view.set := by
  obtain ⟨a, d, rfl⟩ : ∃ (a : Fin 9216) (d : Fin 1024), i = ix2 a d := ⟨i 0, i 1, eq_ix2 i⟩
  have h := ((cfg0.win 5).blk (tileOf a)).view.emb_mem_set (ix2 (⟨a.val % 256, by omega⟩ : Fin 256) d)
  rw [show ((cfg0.win 5).blk (tileOf a)).view.emb (ix2 (⟨a.val % 256, by omega⟩ : Fin 256) d) = ix2 a d from
    (emb2 (tileOf a) _ d).trans (congrArg (fun a => ix2 a d) (Fin.ext (show a.val / 256 * 256 + a.val % 256 = a.val by omega)))] at h
  exact ⟨tileOf a, h⟩

/-- Every modulation is some tile's. -/
theorem mem6 (i : S36x8x1024.Idx) : ∃ t : Fin cfg0.N, i ∈ ((cfg0.win 6).blk t).view.set := by
  obtain ⟨t, j, d, rfl⟩ : ∃ (t : Fin 36) (j : Fin 8) (d : Fin 1024), i = ix3 t j d := ⟨i 0, i 1, i 2, eq_ix3 i⟩
  have h := ((cfg0.win 6).blk t).view.emb_mem_set (ix3 (0 : Fin 1) j d)
  rw [show ((cfg0.win 6).blk t).view.emb (ix3 (0 : Fin 1) j d) = ix3 t j d from emb3 t 0 j d] at h
  exact ⟨t, h⟩

/-- The call ends with its two results at these functions of its arguments, and the arguments unchanged. -/
theorem run : θ_run defs (onTc (τ := τ) (main (F := Ideal))) ⟨m, fun _ => 0, ρ⟩ fun r => ∀ c : Dev nD,
      r.2.mem ((c : Thread nD τ).loc main_v0_0) = gradX (m ((c : Thread nD τ).loc main_arg0))
          (m ((c : Thread nD τ).loc main_arg1)) (m ((c : Thread nD τ).loc main_arg3)) (m ((c : Thread nD τ).loc main_arg4))
      ∧ r.2.mem ((c : Thread nD τ).loc main_v0_1) = gradMod (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_blocks m ρ)
  obtain ⟨h5, h6, hk⟩ := h c
  refine ⟨h5.trans ?_, h6.trans ?_, hk⟩
  · rw [(dats m 0 c).arrAt_eq_of_cover 5 _ (fun t _ => flushed5_eq m c t)
        fun i => (mem5 i).imp fun t h => ⟨flush0_5 t, h⟩, V_main_arg0, V_main_arg1, V_main_arg3, V_main_arg4]
  · rw [(dats m 0 c).arrAt_eq_of_cover 6 _ (fun t _ => flushed6_eq m c t)
        fun i => (mem6 i).imp fun t h => ⟨flush0_6 t, h⟩, V_main_arg0, V_main_arg1, V_main_arg2]

/-- The product, as the reference writes it. -/
theorem host_dot (p : Vec Ideal S9216x2048 .bf16) (w : Vec Ideal S2048x1024 .bf16) :
    Host.dotGeneral (F := Ideal) Cert.InputGradRefIdeal.dot_S9216x2048_S2048x1024_S9216x1024_1_0_0_1_n_n none
      (extf .f32 p Cert.InputGradRefIdeal.Facts₀.bitsLt_bf16_f32) (extf .f32 w Cert.InputGradRefIdeal.Facts₀.bitsLt_bf16_f32)
      = fun i : S9216x1024.Idx => back p w (i 0) (i 1) := by
  refine funext fun i => ?_
  idx_vars i
  pointwise [back]

section Host

open Cert.InputGradRefIdeal (S36x256x1024 S36x1x1024 S36x6x1024 S36x1024 S_)
open Cert.InputGradRefIdeal.Facts₀

variable (x : Vec Ideal S9216x1024 .f32)

/-- An array in tiles. -/
abbrev tiled : Vec Ideal S36x256x1024 .f32 := shapeCast S36x256x1024 x shapeCasts_S9216x1024_S36x256x1024

theorem tiled_at (t : Fin 36) (r : Fin 256) (d : Fin 1024) : tiled x (ix3 t r d) = x (ix2 (rowOf t r) d) := by
  pointwise [rowOf]

theorem rows_at (y : Vec Ideal S36x256x1024 .f32) (a : Fin 9216) (d : Fin 1024) :
    shapeCast S9216x1024 y shapeCasts_S36x256x1024_S9216x1024 (ix2 a d)
      = y (ix3 (tileOf a) ⟨a.val % 256, by omega⟩ d) := by
  pointwise [tileOf]

theorem row_tile (a : Fin 9216) : rowOf (tileOf a) ⟨a.val % 256, by omega⟩ = a :=
  Fin.ext (show a.val / 256 * 256 + a.val % 256 = a.val by omega)

/-- One more than the scales, as the reference writes it. -/
abbrev scales (mod : Vec Ideal S36x8x1024 .f32) : Vec Ideal S36x256x1024 .f32 :=
  broadcastInDim S36x256x1024 ![0, 1, 2] bcast_S36x1x1024_S36x256x1024_0_1_2
    (addf (F := Ideal) (φ := .f32) (broadcastInDim S36x1x1024 ![] bcast_S_S36x1x1024 (constant (F := Ideal) S_ .f32 0x3F800000#32))
      (extractStridedSlice S36x1x1024 ![0, 1, 0] mod slices_S36x8x1024_S36x1x1024_0_1_0))

theorem scales_at (mod : Vec Ideal S36x8x1024 .f32) (t : Fin 36) (r : Fin 256) (d : Fin 1024) :
    scales mod (ix3 t r d) = (1 + mod (ix3 t 1 d) : EReal) := by
  pointwise

/-- A sum over each tile's rows, as the reference writes it. -/
abbrev tileSum (y : Vec Ideal S36x256x1024 .f32) : Vec Ideal S36x1x1024 .f32 :=
  broadcastInDim S36x1x1024 ![0, 2] bcast_S36x1024_S36x1x1024_0_2
    (Host.reduceAdd y (constant (F := Ideal) S_ .f32 0x00000000#32) reducesTo_S36x256x1024_S36x1024_d1 h_S_)

theorem tileSum_at (y : Vec Ideal S36x256x1024 .f32) (t : Fin 36) (z : Fin 1) (d : Fin 1024) :
    tileSum y (ix3 t z d) = (∑ r : Fin 256, (y (ix3 t r d) : EReal) : EReal) := by
  pointwise

/-- The three pieces of the modulation's gradient, one after another. -/
theorem pieces_at (u v : Vec Ideal S36x1x1024 .f32) (t : Fin 36) (j : Fin 8) (d : Fin 1024) :
    concatenate S36x8x1024 1 [⟨S36x1x1024, u⟩, ⟨S36x1x1024, v⟩,
        ⟨S36x6x1024, broadcastInDim S36x6x1024 ![] bcast_S_S36x6x1024 (constant (F := Ideal) S_ .f32 0x00000000#32)⟩]
        concatenates_S36x1x1024_S36x1x1024_S36x6x1024_S36x8x1024_d1 (ix3 t j d)
      = (if j.val = 0 then u (ix3 t 0 d) else if j.val = 1 then v (ix3 t 0 d) else 0 : EReal) := by
  pointwise
  fin_cases j <;> rfl

theorem host_gradX (p : Vec Ideal S9216x2048 .bf16) (w : Vec Ideal S2048x1024 .bf16) (mod : Vec Ideal S36x8x1024 .f32) :
    shapeCast S9216x1024 (addf (F := Ideal) (φ := .f32) (tiled x) (mulf (F := Ideal) (φ := .f32) (tiled fun i => back p w (i 0) (i 1)) (scales mod)))
      shapeCasts_S36x256x1024_S9216x1024 = gradX p w mod x := by
  refine funext fun i => ?_
  obtain ⟨a, d, rfl⟩ : ∃ (a : Fin 9216) (d : Fin 1024), i = ix2 a d := ⟨i 0, i 1, eq_ix2 i⟩
  rw [rows_at]
  show (tiled _ _ + tiled _ _ * scales mod _ : EReal) = _
  rw [tiled_at, tiled_at, scales_at, row_tile]
  rfl

theorem host_gradMod (p : Vec Ideal S9216x2048 .bf16) (w : Vec Ideal S2048x1024 .bf16) :
    concatenate S36x8x1024 1 [⟨S36x1x1024, tileSum (tiled fun i => back p w (i 0) (i 1))⟩,
        ⟨S36x1x1024, tileSum (mulf (F := Ideal) (φ := .f32) (tiled fun i => back p w (i 0) (i 1)) (tiled x))⟩,
        ⟨S36x6x1024, broadcastInDim S36x6x1024 ![] bcast_S_S36x6x1024 (constant (F := Ideal) S_ .f32 0x00000000#32)⟩]
        concatenates_S36x1x1024_S36x1x1024_S36x6x1024_S36x8x1024_d1 = gradMod p w x := by
  refine funext fun i => ?_
  obtain ⟨t, j, d, rfl⟩ : ∃ (t : Fin 36) (j : Fin 8) (d : Fin 1024), i = ix3 t j d := ⟨i 0, i 1, i 2, eq_ix3 i⟩
  rw [pieces_at, tileSum_at, tileSum_at]
  exact congrArg₂ (fun a b : EReal => if j.val = 0 then a else if j.val = 1 then b else 0)
    (Finset.sum_congr rfl fun r _ => tiled_at _ t r d)
    (Finset.sum_congr rfl fun r _ => congrArg₂ (fun a b : EReal => a * b) (tiled_at _ t r d) (tiled_at x t r d))

end Host

/-- With equal arguments the call and its reference end with equal results. -/
theorem meets : Cert.algebraic_InputGradIdeal_InputGradRefIdeal := fun m g m' g' _ hw =>
  ⟨fun c => gradX (m ((c : Thread nD τ).loc main_arg0)) (m ((c : Thread nD τ).loc main_arg1))
      (m ((c : Thread nD τ).loc main_arg3)) (m ((c : Thread nD τ).loc main_arg4)),
    fun c => gradMod (m ((c : Thread nD τ).loc main_arg0)) (m ((c : Thread nD τ).loc main_arg1))
      (m ((c : Thread nD τ).loc main_arg2)),
    run m g,
    (θ_run Cert.InputGradRefIdeal.defs _ _).mono (fun r h c => by
      obtain ⟨h0, h1, hk⟩ := h c
      obtain ⟨e0, e1, e2, e3, e4⟩ := hw c
      refine ⟨h0.trans ?_, h1.trans ?_, hk⟩
      · rw [e0, e1, e3, e4, host_dot]
        exact host_gradX _ _ _ _
      · rw [e0, e1, e2, host_dot]
        exact host_gradMod _ _ _)
      (Cert.InputGradRefIdeal.Value.run (F := Ideal) m' g')⟩

end Cert.DxProj

end
-- ==== Proof.LossHead.lean ====
/-
  The loss: half the mean squared error of each tile of 256 rows of the final stream, nothing for the tiles of the
  conditioning, and its gradient. The call and its reference end with the same arrays over the extended reals.
-/
module

public import proofs.«01_k».proof.Proof.Gen.LossIdeal.Value
public import proofs.«01_k».proof.Proof.InputGrad
public import proofs.«01_k».proof.Proof.Gen.LossRefIdeal.Run
public import Idealize.ShloMosaic.Lib.IdealHost

@[expose] public section

set_option maxRecDepth 16384

noncomputable section

namespace Cert.LossHead

open Cert.LossIdeal Cert.LossIdeal.Gen Cert.LossIdeal.Value Idealize.ShloMosaic Idealize.ShloMosaic.TcCoe Idealize.SL.Sem

open Cert.Adam (hz)
open Cert.DxProj (hz3 rowOf tileOf tile_row row_tile)

/-! ## Constants, and sums of squares -/

/-- The factor the call scales by. -/
theorem scale_eq : Ideal.ofBits .f32 0x3A800000#32 = (((1024 : ℝ)⁻¹ : ℝ) : EReal) := by
  simp [Ideal.ofBits, Ideal.ieee, -EReal.coe_mul]; norm_num

/-- The number the reference divides by. -/
theorem width_eq : Ideal.ofBits .f32 0x44800000#32 = ((1024 : ℝ) : EReal) := by
  simp [Ideal.ofBits, Ideal.ieee, -EReal.coe_mul]; norm_num

theorem sq_nonneg' (e : EReal) : 0 ≤ e * e := by
  induction e with
  | bot => simp
  | top => simp
  | coe a => exact_mod_cast mul_self_nonneg a

/-- A factor goes over a sum of nonnegative numbers. -/
theorem sum_scale {ι : Type} (s : Finset ι) (f : ι → EReal) (c : EReal) (h : ∀ i, 0 ≤ f i) :
    ∑ i ∈ s, f i * c = (∑ i ∈ s, f i) * c := by
  classical
  induction s using Finset.induction_on with
  | empty => simp
  | insert a s ha ih =>
    rw [Finset.sum_insert ha, Finset.sum_insert ha, ih,
      EReal.right_distrib_of_nonneg (h a) (Finset.sum_nonneg fun i _ => h i)]

/-- Whether a tile is of the stream, and not of the conditioning. -/
def flag (t : Fin 36) : EReal := if t.val % 9 = 0 then 0 else 1

theorem flag_eq (t : Fin 36) : flag t = (((if t.val % 9 = 0 then 0 else 1 : ℤ) : ℝ) : EReal) := by
  unfold flag; split <;> simp

/-- The tile of the target that a tile is compared with. -/
def tileTo (t : Fin 36) : Fin 32 := ⟨t.val / 9 * 8 + (t.val % 9 - 1), by omega⟩

variable (a b : Vec Ideal S256x1024 .f32)

theorem pay1_eq (i : grid0.Coords) (r : Fin 256) (d : Fin 1024) :
    k0_pay1 i a b (ix2 r d) = ((a (ix2 r d) - b (ix2 r d)) * flag (i 0) : EReal) := by
  pointwise [k0_pay1]
  refine Eq.trans ?_ (congrArg (fun q : EReal => ((a (ix2 r d) - b (ix2 r d)) * q : EReal)) (flag_eq (i 0)).symm)
  refine congrArg (fun z : ℤ => ((a (ix2 r d) - b (ix2 r d)) * ((z : ℝ) : EReal) : EReal)) ?_
  generalize i 0 = t
  revert t
  decide +kernel

theorem whole : View.ld a r0_0 = a := by rw [View.ld_unit_zero hz]

theorem out2_eq (i : grid0.Coords) (r : Fin 256) (d : Fin 1024) :
    out0_2 i a b (ix2 r d) = (k0_pay1 i a b (ix2 r d) * (((1024 : ℝ)⁻¹ : ℝ) : EReal) : EReal) := by
  unfold out0_2
  rw [View.canon_unit_zero hz, whole, whole, ← scale_eq]
  pointwise [k0_pay2]

theorem out3_eq (i : grid0.Coords) (z : Fin 1) (j : Fin 8) (l : Fin 128) :
    out0_3 i a b (ix3 z j l) = (Ideal.ofBits .f32 0x3F000000#32
      * (∑ r : Fin 256, ∑ d : Fin 1024, (k0_pay1 i a b (ix2 r d) * k0_pay1 i a b (ix2 r d) : EReal))
      * (((1024 : ℝ)⁻¹ : ℝ) : EReal) : EReal) := by
  unfold out0_3
  rw [View.canon_unit_zero hz3, whole, whole, ← scale_eq]
  pointwise [k0_pay3]

/-- Point `t`'s blocks: a tile of the stream, the tile of the target it is compared with, a tile's loss. -/
theorem idx_facts : ∀ t : Fin cfg0.N,
    (win0_0.index t (0 : Fin 2) = t.val ∧ win0_0.index t (1 : Fin 2) = 0)
    ∧ (win0_1.index t (0 : Fin 2) = t.val / 9 * 8 + (t.val % 9 - 1) ∧ win0_1.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

theorem emb0 (t : Fin cfg0.N) (r : Fin 256) (d : Fin 1024) :
    ((cfg0.win 0).blk t).view.emb (ix2 r d) = (ix2 (rowOf t r) d : S9216x1024.Idx) := by
  obtain ⟨⟨h, h'⟩, -⟩ := idx_facts t
  refine funext fun a => Fin.ext ?_
  match a with
  | ⟨0, _⟩ => show win0_0.index t (0 : Fin 2) * 256 + 1 * r.val = t.val * 256 + r.val; rw [h, Nat.one_mul]
  | ⟨1, _⟩ => show win0_0.index t (1 : Fin 2) * 1024 + 1 * d.val = d.val; rw [h']; omega

/-- Row `r` of a tile of the target. -/
def targetRow (t : Fin 32) (r : Fin 256) : Fin 8192 := ⟨t.val * 256 + r.val, by omega⟩

theorem emb1 (t : Fin cfg0.N) (r : Fin 256) (d : Fin 1024) :
    ((cfg0.win 1).blk t).view.emb (ix2 r d) = (ix2 (targetRow (tileTo t) r) d : S8192x1024.Idx) := by
  obtain ⟨-, ⟨h, h'⟩, -⟩ := idx_facts t
  refine funext fun a => Fin.ext ?_
  match a with
  | ⟨0, _⟩ =>
    show win0_1.index t (0 : Fin 2) * 256 + 1 * r.val = (t.val / 9 * 8 + (t.val % 9 - 1)) * 256 + r.val
    rw [h, Nat.one_mul]
  | ⟨1, _⟩ => show win0_1.index t (1 : Fin 2) * 1024 + 1 * d.val = d.val; rw [h']; omega

theorem emb3 (t : Fin cfg0.N) (z : Fin 1) (j : Fin 8) (l : Fin 128) :
    ((cfg0.win 3).blk t).view.emb (ix3 z j l) = (ix3 t j l : S36x8x128.Idx) := by
  obtain ⟨-, -, h, h', h''⟩ := idx_facts t
  refine funext fun a => Fin.ext ?_
  match a with
  | ⟨0, _⟩ => show win0_3.index t (0 : Fin 3) * 1 + 1 * z.val = t.val; rw [h]; omega
  | ⟨1, _⟩ => show win0_3.index t (1 : Fin 3) * 8 + 1 * j.val = j.val; rw [h']; omega
  | ⟨2, _⟩ => show win0_3.index t (2 : Fin 3) * 128 + 1 * l.val = l.val; rw [h'']; omega

/-! ## What both compute -/

variable (y : Vec Ideal S9216x1024 .f32) (g : Vec Ideal S8192x1024 .f32)

/-- The error of a tile's entry: none in a tile of the conditioning. -/
def err (t : Fin 36) (r : Fin 256) (d : Fin 1024) : EReal :=
  ((y (ix2 (rowOf t r) d) : EReal) - g (ix2 (targetRow (tileTo t) r) d)) * flag t

/-- The gradient of the loss. -/
def gradY : Vec Ideal S9216x1024 .f32 := fun i =>
  (err y g (tileOf (i 0)) ⟨(i 0).val % 256, Nat.mod_lt _ (by norm_num)⟩ (i 1) * (((1024 : ℝ)⁻¹ : ℝ) : EReal) : EReal)

/-- A tile's loss. -/
def tileLoss (t : Fin 36) : EReal :=
  Ideal.ofBits .f32 0x3F000000#32 * (∑ r : Fin 256, ∑ d : Fin 1024, err y g t r d * err y g t r d)
    * (((1024 : ℝ)⁻¹ : ℝ) : EReal)

/-- Every tile's loss, repeated over its entries. -/
def losses : Vec Ideal S36x8x128 .f32 := fun i => (tileLoss y g (i 0) : EReal)

theorem gradY_at (t : Fin 36) (r : Fin 256) (d : Fin 1024) :
    gradY y g (ix2 (rowOf t r) d) = (err y g t r d * (((1024 : ℝ)⁻¹ : ℝ) : EReal) : EReal) := by
  show (err y g (tileOf (rowOf t r)) ⟨(t.val * 256 + r.val) % 256, _⟩ d * _ : EReal) = _
  rw [tile_row, show (⟨(t.val * 256 + r.val) % 256, Nat.mod_lt _ (by norm_num)⟩ : Fin 256) = r from Fin.ext (by
    show (t.val * 256 + r.val) % 256 = r.val; omega)]

variable (m : (ℓ : Loc nD τ sig) → Buf (Elt Ideal) ℓ) (ρ : Dev nD → PrngReg)

theorem coord (t : Fin cfg0.N) : grid0.coords t 0 = t :=
  Fin.ext ((by decide +kernel : ∀ t : Fin grid0.N, (grid0.coords t 0).val = t.val) t)

theorem err_blk (c : Dev nD) (t : Fin cfg0.N) (r : Fin 256) (d : Fin 1024) :
    k0_pay1 (grid0.coords t) (iblk m c 0 t) (iblk m c 1 t) (ix2 r d) = err (V m c main_arg0) (V m c main_arg1) t r d := by
  rw [pay1_eq, coord]
  exact congrArg₂ (fun a b : EReal => (a - b) * flag t)
    (congrArg (V m c main_arg0) (emb0 t r d)) (congrArg (V m c main_arg1) (emb1 t r d))

theorem flushed2_eq (c : Dev nD) (t : Fin cfg0.N) :
    (dats m 0 c).flushed 2 t = ((cfg0.win 2).blk t).view.read (Elt Ideal) (gradY (V m c main_arg0) (V m c main_arg1)) := by
  rw [flushed2]
  refine funext fun i => ?_
  obtain ⟨r, d, rfl⟩ : ∃ (r : Fin 256) (d : Fin 1024), i = ix2 r d := ⟨i 0, i 1, eq_ix2 i⟩
  refine (out2_eq _ _ _ r d).trans (Eq.trans ?_ (congrArg (gradY _ _) (emb0 t r d).symm))
  rw [err_blk]
  exact (gradY_at _ _ t r d).symm

theorem flushed3_eq (c : Dev nD) (t : Fin cfg0.N) :
    (dats m 0 c).flushed 3 t = ((cfg0.win 3).blk t).view.read (Elt Ideal) (losses (V m c main_arg0) (V m c main_arg1)) := by
  rw [flushed3]
  refine funext fun i => ?_
  obtain ⟨z, j, l, rfl⟩ : ∃ (z : Fin 1) (j : Fin 8) (l : Fin 128), i = ix3 z j l := ⟨i 0, i 1, i 2, eq_ix3 i⟩
  refine (out3_eq _ _ _ z j l).trans (Eq.trans ?_ (congrArg (losses _ _) (emb3 t z j l).symm))
  simp only [err_blk]
  rfl

/-- Every row is in some tile. -/
theorem mem2 (i : S9216x1024.Idx) : ∃ t : Fin cfg0.N, i ∈ ((cfg0.win 2).blk t).view.set := by
  obtain ⟨a, d, rfl⟩ : ∃ (a : Fin 9216) (d : Fin 1024), i = ix2 a d := ⟨i 0, i 1, eq_ix2 i⟩
  have h := ((cfg0.win 2).blk (tileOf a)).view.emb_mem_set (ix2 (⟨a.val % 256, by omega⟩ : Fin 256) d)
  rw [show ((cfg0.win 2).blk (tileOf a)).view.emb (ix2 (⟨a.val % 256, by omega⟩ : Fin 256) d) = ix2 a d from
    (emb0 (tileOf a) _ d).trans (congrArg (fun a => ix2 a d) (row_tile a))] at h
  exact ⟨tileOf a, h⟩

theorem mem3 (i : S36x8x128.Idx) : ∃ t : Fin cfg0.N, i ∈ ((cfg0.win 3).blk t).view.set := by
  obtain ⟨t, j, l, rfl⟩ : ∃ (t : Fin 36) (j : Fin 8) (l : Fin 128), i = ix3 t j l := ⟨i 0, i 1, i 2, eq_ix3 i⟩
  have h := ((cfg0.win 3).blk t).view.emb_mem_set (ix3 (0 : Fin 1) j l)
  rw [show ((cfg0.win 3).blk t).view.emb (ix3 (0 : Fin 1) j l) = ix3 t j l from emb3 t 0 j l] at h
  exact ⟨t, h⟩

/-- The call ends with its two results at these functions of its arguments, and the arguments unchanged. -/
theorem run : θ_run defs (onTc (τ := τ) (main (F := Ideal))) ⟨m, fun _ => 0, ρ⟩ fun r => ∀ c : Dev nD,
      r.2.mem ((c : Thread nD τ).loc main_v0_0)
        = gradY (m ((c : Thread nD τ).loc main_arg0)) (m ((c : Thread nD τ).loc main_arg1))
      ∧ r.2.mem ((c : Thread nD τ).loc main_v0_1)
        = losses (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_blocks m ρ)
  obtain ⟨h2, h3, hk⟩ := h c
  refine ⟨h2.trans ?_, h3.trans ?_, hk⟩
  · rw [(dats m 0 c).arrAt_eq_of_cover 2 _ (fun t _ => flushed2_eq m c t)
        fun i => (mem2 i).imp fun t h => ⟨flush0_2 t, h⟩, V_main_arg0, V_main_arg1]
  · rw [(dats m 0 c).arrAt_eq_of_cover 3 _ (fun t _ => flushed3_eq m c t)
        fun i => (mem3 i).imp fun t h => ⟨flush0_3 t, h⟩, V_main_arg0, V_main_arg1]

/-! ## The reference -/

section Host

open Cert.LossRefIdeal (S4x9x256x1024 S4x8x256x1024 S4x1x256x1024 S4x8x256 S4x8 S4x1 S4x9 S36x1x1 S36 S_)
open Cert.LossRefIdeal.Facts₀

/-- The errors of the stream's tiles, as the reference writes them. -/
abbrev hostErr : FVec Ideal S4x8x256x1024 .f32 :=
  subf (F := Ideal) (φ := .f32) (extractStridedSlice S4x8x256x1024 ![0, 1, 0, 0]
      (shapeCast S4x9x256x1024 y shapeCasts_S9216x1024_S4x9x256x1024) slices_S4x9x256x1024_S4x8x256x1024_0_1_0_0)
    (shapeCast S4x8x256x1024 g shapeCasts_S8192x1024_S4x8x256x1024)

/-- Tile `q` of batch `b`, the conditioning's tile counted. -/
def tileAt (b : Fin 4) (q : Fin 8) : Fin 36 := ⟨b.val * 9 + (q.val + 1), by omega⟩

theorem tileAt_flag (b : Fin 4) (q : Fin 8) : flag (tileAt b q) = 1 :=
  if_neg (show ¬ (b.val * 9 + (q.val + 1)) % 9 = 0 by omega)

theorem hostErr_at (b : Fin 4) (q : Fin 8) (r : Fin 256) (d : Fin 1024) :
    hostErr y g (ix4 b q r d) = err y g (tileAt b q) r d := by
  unfold err
  rw [tileAt_flag, mul_one]
  pointwise
  refine congrArg₂ (fun i j => (y (ix2 i d) - g (ix2 j d) : EReal)) (Fin.ext ?_) (Fin.ext ?_)
  · show b.val * 2304 + (1 + q.val) * 256 + r.val = (b.val * 9 + (q.val + 1)) * 256 + r.val
    omega
  · show b.val * 2048 + q.val * 256 + r.val
      = ((b.val * 9 + (q.val + 1)) / 9 * 8 + ((b.val * 9 + (q.val + 1)) % 9 - 1)) * 256 + r.val
    omega

/-- A tile of the stream is one of the eight of its batch. -/
theorem tileAt_of (t : Fin 36) (h : ¬ t.val % 9 < 1) :
    tileAt ⟨t.val / 9, by omega⟩ ⟨t.val % 9 - 1, by omega⟩ = t :=
  Fin.ext (show t.val / 9 * 9 + (t.val % 9 - 1 + 1) = t.val by omega)

/-- A tile of the conditioning has no error. -/
theorem err_zero (t : Fin 36) (h : t.val % 9 < 1) (r : Fin 256) (d : Fin 1024) : err y g t r d = 0 := by
  unfold err flag
  rw [if_pos (by omega), mul_zero]

/-- To divide by the width is to scale by its inverse. -/
theorem div_width (x : EReal) : Ideal.div x (Ideal.ofBits .f32 0x44800000#32) = x * (((1024 : ℝ)⁻¹ : ℝ) : EReal) := by
  rw [width_eq, Ideal.div_coe (by norm_num), one_div]

theorem hostGrad_eq :
    shapeCast S9216x1024 (concatenate S4x9x256x1024 1 [⟨S4x1x256x1024,
          (broadcastInDim S4x1x256x1024 ![] bcast_S_S4x1x256x1024 (constant (F := Ideal) S_ .f32 0x00000000#32))⟩,
        ⟨S4x8x256x1024, (Host.divf (hostErr y g) (broadcastInDim S4x8x256x1024 ![] bcast_S_S4x8x256x1024
          (constant (F := Ideal) S_ .f32 0x44800000#32)))⟩]
        concatenates_S4x1x256x1024_S4x8x256x1024_S4x9x256x1024_d1) shapeCasts_S4x9x256x1024_S9216x1024 = gradY y g := by
  generalize he : hostErr y g = e
  refine funext fun i => ?_
  obtain ⟨a, d, rfl⟩ : ∃ (a : Fin 9216) (d : Fin 1024), i = ix2 a d := ⟨i 0, i 1, eq_ix2 i⟩
  refine Eq.trans ?_ (show (err y g (tileOf a) ⟨a.val % 256, by omega⟩ d * (((1024 : ℝ)⁻¹ : ℝ) : EReal) : EReal) = _ from rfl)
  pointwise
  split
  · rename_i h
    rw [err_zero y g _ h, zero_mul]
  · rename_i h
    rw [div_width, ← he, hostErr_at]
    refine congrArg (fun t => (err y g t ⟨a.val % 256, _⟩ d * (((1024 : ℝ)⁻¹ : ℝ) : EReal) : EReal)) (Fin.ext ?_)
    show a.val / 2304 * 9 + (a.val / 256 % 9 - 1 + 1) = a.val / 256
    omega

theorem hostLoss_eq :
    broadcastInDim Cert.LossRefIdeal.S36x8x128 ![0, 1, 2] bcast_S36x1x1_S36x8x128_0_1_2 (broadcastInDim S36x1x1 ![0] bcast_S36_S36x1x1_0
      (shapeCast S36 (concatenate S4x9 1 [⟨S4x1, (broadcastInDim S4x1 ![] bcast_S_S4x1 (constant (F := Ideal) S_ .f32 0x00000000#32))⟩,
        ⟨S4x8, (mulf (F := Ideal) (φ := .f32) (broadcastInDim S4x8 ![] bcast_S_S4x8 (constant (F := Ideal) S_ .f32 0x3F000000#32))
          (Host.reduceAdd (Host.divf (Host.reduceAdd (mulf (hostErr y g) (hostErr y g)) (constant (F := Ideal) S_ .f32 0x00000000#32)
              reducesTo_S4x8x256x1024_S4x8x256_d3 h_S_)
            (broadcastInDim S4x8x256 ![] bcast_S_S4x8x256 (constant (F := Ideal) S_ .f32 0x44800000#32)))
          (constant (F := Ideal) S_ .f32 0x00000000#32) reducesTo_S4x8x256_S4x8_d2 h_S_))⟩] concatenates_S4x1_S4x8_S4x9_d1)
        shapeCasts_S4x9_S36)) = losses y g := by
  generalize he : hostErr y g = e
  refine funext fun i => ?_
  obtain ⟨t, j, l, rfl⟩ : ∃ (t : Fin 36) (j : Fin 8) (l : Fin 128), i = ix3 t j l := ⟨i 0, i 1, i 2, eq_ix3 i⟩
  refine Eq.trans ?_ (show tileLoss y g t = _ from rfl)
  unfold tileLoss
  pointwise
  split
  · rename_i h
    simp [err_zero y g _ h]
  · rename_i h
    simp only [div_width, ← he, hostErr_at, tileAt_of t h]
    rw [sum_scale _ _ _ fun r => Finset.sum_nonneg fun d _ => sq_nonneg' _, mul_assoc]

end Host

/-- With equal arguments the call and its reference end with equal results. -/
theorem meets : Cert.algebraic_LossIdeal_LossRefIdeal := fun m g m' g' _ hw =>
  ⟨fun c => gradY (m ((c : Thread nD τ).loc main_arg0)) (m ((c : Thread nD τ).loc main_arg1)),
    fun c => losses (m ((c : Thread nD τ).loc main_arg0)) (m ((c : Thread nD τ).loc main_arg1)),
    run m g,
    (θ_run Cert.LossRefIdeal.defs _ _).mono (fun r h c => by
      obtain ⟨h0, h1, hk⟩ := h c
      obtain ⟨e0, e1⟩ := hw c
      refine ⟨h0.trans ?_, h1.trans ?_, hk⟩
      · rw [e0, e1]
        exact hostGrad_eq _ _
      · rw [e0, e1]
        exact hostLoss_eq _ _)
      (Cert.LossRefIdeal.Value.run (F := Ideal) m' g')⟩

end Cert.LossHead

end
-- ==== Proof.Conditioning.lean ====
/-
  The conditioning of the four layers: the activations of 40 rows times each layer's weight, and its bias added. The call
  and its reference end with the same array over the extended reals.
-/
module

public import proofs.«01_k».proof.Proof.Gen.ModulationIdeal.Value
public import proofs.«01_k».proof.Proof.InputGrad
public import proofs.«01_k».proof.Defs
public import proofs.«01_k».proof.Proof.Gen.ModulationRefIdeal.Run
public import Idealize.ShloMosaic.Lib.Pointwise.Reduce
public import Idealize.ShloMosaic.Lib.Pointwise
public import Idealize.ShloMosaic.Lib.Claim

@[expose] public section

set_option maxRecDepth 16384

noncomputable section

namespace Cert.Conditioning

open Cert.ModulationIdeal Cert.ModulationIdeal.Gen Cert.ModulationIdeal.Value Idealize.ShloMosaic Idealize.ShloMosaic.TcCoe Idealize.SL.Sem

open Cert.Adam (hz)
open Cert.DxProj (hz3)

/-- A layer's modulation at a row and a column. -/
def modRows (s : Vec Ideal S40x1024 .f32) (w : Vec Ideal S4x1024x768 .f32) (b : Vec Ideal S4x1x768 .f32) :
    Vec Ideal S4x40x768 .f32 := fun i =>
  ((∑ k : Fin 1024, (s (ix2 (i 1) k) : EReal) * w (ix3 (i 0) k (i 2))) + b (ix3 (i 0) 0 (i 2)) : EReal)

variable (x0 : Vec Ideal S40x1024 .f32) (x1 : Vec Ideal S1x1024x768 .f32) (x2 : Vec Ideal S1x1x768 .f32)

theorem whole0 : View.ld x0 r0_0 = x0 := by rw [View.ld_unit_zero hz]

theorem whole1 : View.ld x1 r0_1 = x1 := by rw [View.ld_unit_zero hz3]

theorem whole2 : View.ld x2 r0_2 = x2 := by rw [View.ld_unit_zero hz3]

/-- One layer's rows, at an entry. -/
theorem out3_eq (z : Fin 1) (r : Fin 40) (d : Fin 768) :
    out0_3 x0 x1 x2 (ix3 z r d)
      = ((∑ k : Fin 1024, (x0 (ix2 r k) : EReal) * x1 (ix3 0 k d)) + x2 (ix3 0 0 d) : EReal) := by
  unfold out0_3
  rw [View.canon_unit_zero hz3, whole0, whole1, whole2]
  pointwise [k0_pay1]

variable (m : (ℓ : Loc nD τ sig) → Buf (Elt Ideal) ℓ) (ρ : Dev nD → PrngReg)

/-- Point `t`'s blocks are all the rows, and the `t`-th weight and bias. -/
theorem idx_facts : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem emb0 (t : Fin cfg0.N) (r : Fin 40) (k : Fin 1024) :
    ((cfg0.win 0).blk t).view.emb (ix2 r k) = (ix2 r k : S40x1024.Idx) := by
  obtain ⟨⟨h, h'⟩, -⟩ := idx_facts t
  refine funext fun a => Fin.ext ?_
  match a with
  | ⟨0, _⟩ => show win0_0.index t (0 : Fin 2) * 40 + 1 * r.val = r.val; rw [h]; omega
  | ⟨1, _⟩ => show win0_0.index t (1 : Fin 2) * 1024 + 1 * k.val = k.val; rw [h']; omega

theorem emb1 (t : Fin cfg0.N) (z : Fin 1) (k : Fin 1024) (d : Fin 768) :
    ((cfg0.win 1).blk t).view.emb (ix3 z k d) = (ix3 t k d : S4x1024x768.Idx) := by
  obtain ⟨-, ⟨h, h', h''⟩, -⟩ := idx_facts t
  refine funext fun a => Fin.ext ?_
  match a with
  | ⟨0, _⟩ => show win0_1.index t (0 : Fin 3) * 1 + 1 * z.val = t.val; rw [h]; omega
  | ⟨1, _⟩ => show win0_1.index t (1 : Fin 3) * 1024 + 1 * k.val = k.val; rw [h']; omega
  | ⟨2, _⟩ => show win0_1.index t (2 : Fin 3) * 768 + 1 * d.val = d.val; rw [h'']; omega

theorem emb2 (t : Fin cfg0.N) (z : Fin 1) (j : Fin 1) (d : Fin 768) :
    ((cfg0.win 2).blk t).view.emb (ix3 z j d) = (ix3 t j d : S4x1x768.Idx) := by
  obtain ⟨-, -, ⟨h, h', h''⟩, -⟩ := idx_facts t
  refine funext fun a => Fin.ext ?_
  match a with
  | ⟨0, _⟩ => show win0_2.index t (0 : Fin 3) * 1 + 1 * z.val = t.val; rw [h]; omega
  | ⟨1, _⟩ => show win0_2.index t (1 : Fin 3) * 1 + 1 * j.val = j.val; rw [h']; omega
  | ⟨2, _⟩ => show win0_2.index t (2 : Fin 3) * 768 + 1 * d.val = d.val; rw [h'']; omega

theorem emb3 (t : Fin cfg0.N) (z : Fin 1) (r : Fin 40) (d : Fin 768) :
    ((cfg0.win 3).blk t).view.emb (ix3 z r d) = (ix3 t r d : S4x40x768.Idx) := by
  obtain ⟨-, -, -, h, h', h''⟩ := idx_facts t
  refine funext fun a => Fin.ext ?_
  match a with
  | ⟨0, _⟩ => show win0_3.index t (0 : Fin 3) * 1 + 1 * z.val = t.val; rw [h]; omega
  | ⟨1, _⟩ => show win0_3.index t (1 : Fin 3) * 40 + 1 * r.val = r.val; rw [h']; omega
  | ⟨2, _⟩ => show win0_3.index t (2 : Fin 3) * 768 + 1 * d.val = d.val; rw [h'']; omega

theorem flushed3_eq (c : Dev nD) (t : Fin cfg0.N) :
    (dats m 0 c).flushed 3 t = ((cfg0.win 3).blk t).view.read (Elt Ideal)
      (modRows (V m c main_arg0) (V m c main_arg1) (V m c main_arg2)) := by
  rw [flushed3]
  refine funext fun y => ?_
  obtain ⟨z, r, d, rfl⟩ : ∃ (z : Fin 1) (r : Fin 40) (d : Fin 768), y = ix3 z r d := ⟨y 0, y 1, y 2, eq_ix3 y⟩
  refine (out3_eq _ _ _ z r d).trans (Eq.trans ?_ (congrArg (modRows _ _ _) (emb3 t z r d).symm))
  exact congrArg₂ (fun a b : EReal => a + b)
    (Finset.sum_congr rfl fun k _ => congrArg₂ (fun a b : EReal => a * b)
      (congrArg (V m c main_arg0) (emb0 t r k)) (congrArg (V m c main_arg1) (emb1 t 0 k d)))
    (congrArg (V m c main_arg2) (emb2 t 0 0 d))

/-- Every entry is in some layer. -/
theorem mem3 (i : S4x40x768.Idx) : ∃ t : Fin cfg0.N, i ∈ ((cfg0.win 3).blk t).view.set := by
  obtain ⟨t, j, d, rfl⟩ : ∃ (t : Fin 4) (j : Fin 40) (d : Fin 768), i = ix3 t j d := ⟨i 0, i 1, i 2, eq_ix3 i⟩
  have h := ((cfg0.win 3).blk t).view.emb_mem_set (ix3 (0 : Fin 1) j d)
  rw [show ((cfg0.win 3).blk t).view.emb (ix3 (0 : Fin 1) j d) = ix3 t j d from emb3 t 0 j d] at h
  exact ⟨t, h⟩

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = modRows (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h3, hk⟩ := h c
  refine ⟨h3.trans ?_, hk⟩
  rw [(dats m 0 c).arrAt_eq_of_cover 3 _ (fun t _ => flushed3_eq m c t)
    fun i => (mem3 i).imp fun t h => ⟨flush0_3 t, h⟩, V_main_arg0, V_main_arg1, V_main_arg2]

section Host

open Cert.ModulationRefIdeal (S4x768x40)
open Cert.ModulationRefIdeal.Facts₀

/-- The reference's array. -/
theorem host_rows (s : Vec Ideal S40x1024 .f32) (w : Vec Ideal S4x1024x768 .f32) (b : Vec Ideal S4x1x768 .f32) :
    addf (F := Ideal) (φ := .f32) (transpose S4x40x768 [0, 2, 1] (Host.dotGeneral (F := Ideal) (φ₁ := .f32) (φ₂ := .f32)
        Cert.ModulationRefIdeal.dot_S4x1024x768_S40x1024_S4x768x40_1_1_02_0_n_n none w s) transposes_S4x768x40_S4x40x768_0_2_1)
        (broadcastInDim S4x40x768 ![0, 1, 2] bcast_S4x1x768_S4x40x768_0_1_2 b)
      = modRows s w b := by
  refine funext fun i => ?_
  idx_vars i
  pointwise [modRows]
  simp only [mul_comm]

end Host

/-- With equal arguments the call and its reference end with equal results. -/
theorem meets : Cert.algebraic_ModulationIdeal_ModulationRefIdeal := fun m g m' g' _ hw =>
  ⟨fun c => modRows (m ((c : Thread nD τ).loc main_arg0)) (m ((c : Thread nD τ).loc main_arg1))
      (m ((c : Thread nD τ).loc main_arg2)),
    run m g,
    (θ_run Cert.ModulationRefIdeal.defs _ _).mono (fun r h c => by
      obtain ⟨h0, hk⟩ := h c
      obtain ⟨e0, e1, e2⟩ := hw c
      refine ⟨h0.trans ?_, hk⟩
      rw [e0, e1, e2]
      exact host_rows _ _ _)
      (Cert.ModulationRefIdeal.Value.run (F := Ideal) m' g')⟩

end Cert.Conditioning

end
-- ==== Proof.CondGrad.lean ====
/-
  The gradients of the conditioning's weight and of its activations: of each layer, the product over the 40 rows, and over
  the columns. The call and its reference end with the same arrays over the extended reals.
-/
module

public import proofs.«01_k».proof.Proof.Gen.ModulationGradIdeal.Value
public import proofs.«01_k».proof.Proof.InputGrad
public import proofs.«01_k».proof.Defs
public import proofs.«01_k».proof.Proof.Gen.ModulationGradRefIdeal.Run
public import Idealize.ShloMosaic.Lib.Pointwise.Reduce
public import Idealize.ShloMosaic.Lib.Pointwise
public import Idealize.ShloMosaic.Lib.Claim

@[expose] public section

set_option maxRecDepth 16384

noncomputable section

namespace Cert.CondGrad

open Cert.ModulationGradIdeal Cert.ModulationGradIdeal.Gen Cert.ModulationGradIdeal.Value Idealize.ShloMosaic Idealize.ShloMosaic.TcCoe Idealize.SL.Sem

open Cert.Adam (hz)
open Cert.DxProj (hz3)

/-- The gradient of each layer's weight. -/
def gradW (s : Vec Ideal S40x1024 .f32) (d : Vec Ideal S4x40x768 .f32) : Vec Ideal S4x1024x768 .f32 := fun i =>
  (∑ r : Fin 40, (s (ix2 r (i 1)) : EReal) * d (ix3 (i 0) r (i 2)) : EReal)

/-- The gradient of the activations, from each layer. -/
def gradS (w : Vec Ideal S4x1024x768 .f32) (d : Vec Ideal S4x40x768 .f32) : Vec Ideal S4x40x1024 .f32 := fun i =>
  (∑ k : Fin 768, (d (ix3 (i 0) (i 1) k) : EReal) * w (ix3 (i 0) (i 2) k) : EReal)

variable (x0 : Vec Ideal S40x1024 .f32) (x1 : Vec Ideal S1x1024x768 .f32) (x2 : Vec Ideal S1x40x768 .f32)

theorem whole0 : View.ld x0 r0_0 = x0 := by rw [View.ld_unit_zero hz]

theorem whole1 : View.ld x2 r0_1 = x2 := by rw [View.ld_unit_zero hz3]

theorem whole2 : View.ld x1 r0_2 = x1 := by rw [View.ld_unit_zero hz3]

/-- One layer's gradient of its weight, at an entry. -/
theorem out3_eq (z : Fin 1) (k : Fin 1024) (d : Fin 768) :
    out0_3 x0 x1 x2 (ix3 z k d) = (∑ r : Fin 40, (x0 (ix2 r k) : EReal) * x2 (ix3 0 r d) : EReal) := by
  unfold out0_3
  rw [View.canon_unit_zero hz3, whole0, whole1]
  pointwise [k0_pay1]

/-- One layer's gradient of the activations, at an entry. -/
theorem out4_eq (z : Fin 1) (r : Fin 40) (d : Fin 1024) :
    out0_4 x0 x1 x2 (ix3 z r d) = (∑ k : Fin 768, (x2 (ix3 0 r k) : EReal) * x1 (ix3 0 d k) : EReal) := by
  unfold out0_4
  rw [View.canon_unit_zero hz3, whole1, whole2]
  pointwise [k0_pay2]

variable (m : (ℓ : Loc nD τ sig) → Buf (Elt Ideal) ℓ) (ρ : Dev nD → PrngReg)

/-- Point `t`'s blocks are all the rows, and the `t`-th layer of the others. -/
theorem idx_facts : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem emb0 (t : Fin cfg0.N) (r : Fin 40) (k : Fin 1024) :
    ((cfg0.win 0).blk t).view.emb (ix2 r k) = (ix2 r k : S40x1024.Idx) := by
  obtain ⟨⟨h, h'⟩, -⟩ := idx_facts t
  refine funext fun a => Fin.ext ?_
  match a with
  | ⟨0, _⟩ => show win0_0.index t (0 : Fin 2) * 40 + 1 * r.val = r.val; rw [h]; omega
  | ⟨1, _⟩ => show win0_0.index t (1 : Fin 2) * 1024 + 1 * k.val = k.val; rw [h']; omega

theorem emb1 (t : Fin cfg0.N) (z : Fin 1) (j : Fin 1024) (d : Fin 768) :
    ((cfg0.win 1).blk t).view.emb (ix3 z j d) = (ix3 t j d : S4x1024x768.Idx) := by
  obtain ⟨-, ⟨h, h', h''⟩, -⟩ := idx_facts t
  refine funext fun a => Fin.ext ?_
  match a with
  | ⟨0, _⟩ => show win0_1.index t (0 : Fin 3) * 1 + 1 * z.val = t.val; rw [h]; omega
  | ⟨1, _⟩ => show win0_1.index t (1 : Fin 3) * 1024 + 1 * j.val = j.val; rw [h']; omega
  | ⟨2, _⟩ => show win0_1.index t (2 : Fin 3) * 768 + 1 * d.val = d.val; rw [h'']; omega

theorem emb2 (t : Fin cfg0.N) (z : Fin 1) (j : Fin 40) (d : Fin 768) :
    ((cfg0.win 2).blk t).view.emb (ix3 z j d) = (ix3 t j d : S4x40x768.Idx) := by
  obtain ⟨-, -, ⟨h, h', h''⟩, -⟩ := idx_facts t
  refine funext fun a => Fin.ext ?_
  match a with
  | ⟨0, _⟩ => show win0_2.index t (0 : Fin 3) * 1 + 1 * z.val = t.val; rw [h]; omega
  | ⟨1, _⟩ => show win0_2.index t (1 : Fin 3) * 40 + 1 * j.val = j.val; rw [h']; omega
  | ⟨2, _⟩ => show win0_2.index t (2 : Fin 3) * 768 + 1 * d.val = d.val; rw [h'']; omega

theorem emb4 (t : Fin cfg0.N) (z : Fin 1) (j : Fin 40) (d : Fin 1024) :
    ((cfg0.win 4).blk t).view.emb (ix3 z j d) = (ix3 t j d : S4x40x1024.Idx) := by
  obtain ⟨-, -, -, h, h', h''⟩ := idx_facts t
  refine funext fun a => Fin.ext ?_
  match a with
  | ⟨0, _⟩ => show win0_4.index t (0 : Fin 3) * 1 + 1 * z.val = t.val; rw [h]; omega
  | ⟨1, _⟩ => show win0_4.index t (1 : Fin 3) * 40 + 1 * j.val = j.val; rw [h']; omega
  | ⟨2, _⟩ => show win0_4.index t (2 : Fin 3) * 1024 + 1 * d.val = d.val; rw [h'']; omega

theorem flushed3_eq (c : Dev nD) (t : Fin cfg0.N) :
    (dats m 0 c).flushed 3 t = ((cfg0.win 3).blk t).view.read (Elt Ideal)
      (gradW (V m c main_arg0) (V m c main_arg2)) := by
  rw [flushed3]
  refine funext fun y => ?_
  obtain ⟨z, j, d, rfl⟩ : ∃ (z : Fin 1) (j : Fin 1024) (d : Fin 768), y = ix3 z j d := ⟨y 0, y 1, y 2, eq_ix3 y⟩
  refine (out3_eq _ _ _ z j d).trans (Eq.trans ?_ (congrArg (gradW _ _) (emb1 t z j d).symm))
  exact Finset.sum_congr rfl fun k _ => congrArg₂ (fun a b : EReal => a * b) (congrArg (V m c main_arg0) (emb0 t k j)) (congrArg (V m c main_arg2) (emb2 t 0 k d))

/-- Every entry is in some layer. -/
theorem mem3 (i : S4x1024x768.Idx) : ∃ t : Fin cfg0.N, i ∈ ((cfg0.win 3).blk t).view.set := by
  obtain ⟨t, j, d, rfl⟩ : ∃ (t : Fin 4) (j : Fin 1024) (d : Fin 768), i = ix3 t j d := ⟨i 0, i 1, i 2, eq_ix3 i⟩
  have h := ((cfg0.win 3).blk t).view.emb_mem_set (ix3 (0 : Fin 1) j d)
  rw [show ((cfg0.win 3).blk t).view.emb (ix3 (0 : Fin 1) j d) = ix3 t j d from emb1 t 0 j d] at h
  exact ⟨t, h⟩

theorem flushed4_eq (c : Dev nD) (t : Fin cfg0.N) :
    (dats m 0 c).flushed 4 t = ((cfg0.win 4).blk t).view.read (Elt Ideal)
      (gradS (V m c main_arg1) (V m c main_arg2)) := by
  rw [flushed4]
  refine funext fun y => ?_
  obtain ⟨z, j, d, rfl⟩ : ∃ (z : Fin 1) (j : Fin 40) (d : Fin 1024), y = ix3 z j d := ⟨y 0, y 1, y 2, eq_ix3 y⟩
  refine (out4_eq _ _ _ z j d).trans (Eq.trans ?_ (congrArg (gradS _ _) (emb4 t z j d).symm))
  exact Finset.sum_congr rfl fun k _ => congrArg₂ (fun a b : EReal => a * b) (congrArg (V m c main_arg2) (emb2 t 0 j k)) (congrArg (V m c main_arg1) (emb1 t 0 d k))

/-- Every entry is in some layer. -/
theorem mem4 (i : S4x40x1024.Idx) : ∃ t : Fin cfg0.N, i ∈ ((cfg0.win 4).blk t).view.set := by
  obtain ⟨t, j, d, rfl⟩ : ∃ (t : Fin 4) (j : Fin 40) (d : Fin 1024), i = ix3 t j d := ⟨i 0, i 1, i 2, eq_ix3 i⟩
  have h := ((cfg0.win 4).blk t).view.emb_mem_set (ix3 (0 : Fin 1) j d)
  rw [show ((cfg0.win 4).blk t).view.emb (ix3 (0 : Fin 1) j d) = ix3 t j d from emb4 t 0 j d] at h
  exact ⟨t, h⟩

/-- The call ends with its two results at these functions of its arguments, and the arguments unchanged. -/
theorem run : θ_run defs (onTc (τ := τ) (main (F := Ideal))) ⟨m, fun _ => 0, ρ⟩ fun r => ∀ c : Dev nD,
      r.2.mem ((c : Thread nD τ).loc main_v0_0) = gradW (m ((c : Thread nD τ).loc main_arg0)) (m ((c : Thread nD τ).loc main_arg2))
      ∧ r.2.mem ((c : Thread nD τ).loc main_v0_1) = gradS (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h3, h4, hk⟩ := h c
  refine ⟨h3.trans ?_, h4.trans ?_, hk⟩
  · rw [(dats m 0 c).arrAt_eq_of_cover 3 _ (fun t _ => flushed3_eq m c t)
      fun i => (mem3 i).imp fun t h => ⟨flush0_3 t, h⟩, V_main_arg0, V_main_arg2]
  · rw [(dats m 0 c).arrAt_eq_of_cover 4 _ (fun t _ => flushed4_eq m c t)
      fun i => (mem4 i).imp fun t h => ⟨flush0_4 t, h⟩, V_main_arg1, V_main_arg2]

section Host

open Cert.ModulationGradRefIdeal.Facts₀

/-- The reference's gradient of the weights. -/
theorem host_gradW (s : Vec Ideal S40x1024 .f32) (d : Vec Ideal S4x40x768 .f32) :
    transpose S4x1024x768 [0, 2, 1] (Host.dotGeneral (F := Ideal) (φ₁ := .f32) (φ₂ := .f32)
        Cert.ModulationGradRefIdeal.dot_S4x40x768_S40x1024_S4x768x1024_1_0_02_1_n_n none d s) transposes_S4x768x1024_S4x1024x768_0_2_1
      = gradW s d := by
  refine funext fun i => ?_
  idx_vars i
  pointwise [gradW]
  simp only [mul_comm]

/-- The reference's gradient of the activations. -/
theorem host_gradS (w : Vec Ideal S4x1024x768 .f32) (d : Vec Ideal S4x40x768 .f32) :
    Host.dotGeneral (F := Ideal) (φ₁ := .f32) (φ₂ := .f32)
        Cert.ModulationGradRefIdeal.dot_S4x40x768_S4x1024x768_S4x40x1024_2_2_1_1_0_0 none d w = gradS w d := by
  refine funext fun i => ?_
  idx_vars i
  pointwise [gradS]

end Host

/-- With equal arguments the call and its reference end with equal results. -/
theorem meets : Cert.algebraic_ModulationGradIdeal_ModulationGradRefIdeal := fun m g m' g' _ hw =>
  ⟨fun c => gradW (m ((c : Thread nD τ).loc main_arg0)) (m ((c : Thread nD τ).loc main_arg2)),
    fun c => gradS (m ((c : Thread nD τ).loc main_arg1)) (m ((c : Thread nD τ).loc main_arg2)),
    run m g,
    (θ_run Cert.ModulationGradRefIdeal.defs _ _).mono (fun r h c => by
      obtain ⟨h0, h1, hk⟩ := h c
      obtain ⟨e0, e1, e2⟩ := hw c
      refine ⟨h0.trans ?_, h1.trans ?_, hk⟩
      · rw [e0, e2]
        exact host_gradW _ _
      · rw [e1, e2]
        exact host_gradS _ _)
      (Cert.ModulationGradRefIdeal.Value.run (F := Ideal) m' g')⟩

end Cert.CondGrad

end
-- ==== Proof.InProj.lean ====
/-
  The input projection of a layer: the modulated input, in 36 tiles of 256 rows each with its own modulation, times the
  weight. The call and its reference end with the same array over the extended reals.
-/
module

public import proofs.«01_k».proof.Proof.Gen.ProjectIdeal.Value
public import proofs.«01_k».proof.Proof.InputGrad
public import proofs.«01_k».proof.Defs
public import proofs.«01_k».proof.Proof.Gen.ProjectRefIdeal.Run
public import Idealize.ShloMosaic.Lib.Pointwise.Reduce
public import Idealize.ShloMosaic.Lib.Pointwise
public import Idealize.ShloMosaic.Lib.Claim

@[expose] public section

set_option maxRecDepth 16384

noncomputable section

namespace Cert.InProj

open Cert.ProjectIdeal Cert.ProjectIdeal.Gen Cert.ProjectIdeal.Value Idealize.ShloMosaic Idealize.ShloMosaic.TcCoe Idealize.SL.Sem

open Cert.Adam (hz)
open Cert.DxProj (hz3 rowOf tileOf tile_row row_tile tiled tiled_at rows_at)

/-- The input of a projection, modulated: scaled by one more than the row's tile's row `s` of the modulation, and shifted by
    its row `b`. -/
def modded (x : Vec Ideal S9216x1024 .f32) (mod : Vec Ideal S36x8x1024 .f32) (s b : Fin 8) (r : Fin 9216) (k : Fin 1024) : EReal :=
  (x (ix2 r k) * (1 + mod (ix3 (tileOf r) s k)) + mod (ix3 (tileOf r) b k) : EReal)

/-- The projection of the modulated input. -/
def projected (x : Vec Ideal S9216x1024 .f32) (mod : Vec Ideal S36x8x1024 .f32) (w : Vec Ideal S1024x2048 .bf16) :
    Vec Ideal S9216x2048 .f32 := fun i =>
  (∑ k : Fin 1024, modded x mod 1 0 (i 0) k * w (ix2 k (i 1)) : EReal)

/-- Column `d` of the `c`-th group of 2048. -/
def colOf (c : Fin 1) (d : Fin 2048) : Fin 2048 := ⟨c.val * 2048 + d.val, by omega⟩

/-- The tile of rows and the group of columns of a grid point. -/
def rowPt (t : Fin 36) : Fin 36 := ⟨t.val % 36, by omega⟩

def colPt (t : Fin 36) : Fin 1 := ⟨t.val / 36, by omega⟩

variable (x0 : Vec Ideal S256x1024 .f32) (x1 : Vec Ideal S1x8x1024 .f32) (x2 : Vec Ideal S1024x2048 .bf16)

theorem whole0 : View.ld x1 r0_0 = x1 := by rw [View.ld_unit_zero hz3]

theorem whole1 : View.ld x0 r0_1 = x0 := by rw [View.ld_unit_zero hz]

theorem whole2 : View.ld x2 r0_2 = x2 := by rw [View.ld_unit_zero hz]

/-- A block of the result, at an entry. -/
theorem out3_eq (r : Fin 256) (d : Fin 2048) :
    out0_3 x0 x1 x2 (ix2 r d)
      = (∑ k : Fin 1024, (x0 (ix2 r k) * (1 + x1 (ix3 0 1 k)) + x1 (ix3 0 0 k)) * x2 (ix2 k d) : EReal) := by
  unfold out0_3
  rw [View.canon_unit_zero hz, whole0, whole1, whole2]
  pointwise [k0_pay1]

variable (m : (ℓ : Loc nD τ sig) → Buf (Elt Ideal) ℓ) (ρ : Dev nD → PrngReg)

/-- Point `t`'s blocks are its tile's rows and modulation, and its columns of the weight and of the result. -/
theorem idx_facts : ∀ t : Fin cfg0.N,
    (win0_0.index t (0 : Fin 2) = t.val % 36 ∧ win0_0.index t (1 : Fin 2) = 0)
    ∧ (win0_1.index t (0 : Fin 3) = t.val % 36 ∧ win0_1.index t (1 : Fin 3) = 0 ∧ win0_1.index t (2 : Fin 3) = 0)
    ∧ (win0_2.index t (0 : Fin 2) = 0 ∧ win0_2.index t (1 : Fin 2) = t.val / 36)
    ∧ (win0_3.index t (0 : Fin 2) = t.val % 36 ∧ win0_3.index t (1 : Fin 2) = t.val / 36) :=
  (by decide +kernel : ∀ t : Fin grid0.N, _)

theorem emb0 (t : Fin cfg0.N) (r : Fin 256) (k : Fin 1024) :
    ((cfg0.win 0).blk t).view.emb (ix2 r k) = (ix2 (rowOf (rowPt t) r) k : S9216x1024.Idx) := by
  obtain ⟨⟨h, h'⟩, -⟩ := idx_facts t
  refine funext fun a => Fin.ext ?_
  match a with
  | ⟨0, _⟩ => show win0_0.index t (0 : Fin 2) * 256 + 1 * r.val = t.val % 36 * 256 + r.val; rw [h, Nat.one_mul]
  | ⟨1, _⟩ => show win0_0.index t (1 : Fin 2) * 1024 + 1 * k.val = k.val; rw [h']; omega

theorem emb1 (t : Fin cfg0.N) (z : Fin 1) (j : Fin 8) (k : Fin 1024) :
    ((cfg0.win 1).blk t).view.emb (ix3 z j k) = (ix3 (rowPt t) j k : S36x8x1024.Idx) := by
  obtain ⟨-, ⟨h, h', h''⟩, -⟩ := idx_facts t
  refine funext fun a => Fin.ext ?_
  match a with
  | ⟨0, _⟩ => show win0_1.index t (0 : Fin 3) * 1 + 1 * z.val = t.val % 36; rw [h]; omega
  | ⟨1, _⟩ => show win0_1.index t (1 : Fin 3) * 8 + 1 * j.val = j.val; rw [h']; omega
  | ⟨2, _⟩ => show win0_1.index t (2 : Fin 3) * 1024 + 1 * k.val = k.val; rw [h'']; omega

theorem emb2 (t : Fin cfg0.N) (k : Fin 1024) (d : Fin 2048) :
    ((cfg0.win 2).blk t).view.emb (ix2 k d) = (ix2 k (colOf (colPt t) d) : S1024x2048.Idx) := by
  obtain ⟨-, -, ⟨h, h'⟩, -⟩ := idx_facts t
  refine funext fun a => Fin.ext ?_
  match a with
  | ⟨0, _⟩ => show win0_2.index t (0 : Fin 2) * 1024 + 1 * k.val = k.val; rw [h]; omega
  | ⟨1, _⟩ => show win0_2.index t (1 : Fin 2) * 2048 + 1 * d.val = t.val / 36 * 2048 + d.val; rw [h', Nat.one_mul]

theorem emb3 (t : Fin cfg0.N) (r : Fin 256) (d : Fin 2048) :
    ((cfg0.win 3).blk t).view.emb (ix2 r d) = (ix2 (rowOf (rowPt t) r) (colOf (colPt t) d) : S9216x2048.Idx) := by
  obtain ⟨-, -, -, h, h'⟩ := idx_facts t
  refine funext fun a => Fin.ext ?_
  match a with
  | ⟨0, _⟩ => show win0_3.index t (0 : Fin 2) * 256 + 1 * r.val = t.val % 36 * 256 + r.val; rw [h, Nat.one_mul]
  | ⟨1, _⟩ => show win0_3.index t (1 : Fin 2) * 2048 + 1 * d.val = t.val / 36 * 2048 + d.val; rw [h', Nat.one_mul]

theorem modded_row (x : Vec Ideal S9216x1024 .f32) (mod : Vec Ideal S36x8x1024 .f32) (s b : Fin 8) (t : Fin 36) (r : Fin 256)
    (k : Fin 1024) : modded x mod s b (rowOf t r) k
      = (x (ix2 (rowOf t r) k) * (1 + mod (ix3 t s k)) + mod (ix3 t b k) : EReal) := by
  unfold modded
  rw [tile_row]

theorem blk0 (c : Dev nD) (t : Fin cfg0.N) (r : Fin 256) (k : Fin 1024) :
    iblk m c 0 t (ix2 r k) = V m c main_arg0 (ix2 (rowOf (rowPt t) r) k) := congrArg (V m c main_arg0) (emb0 t r k)

theorem blk1 (c : Dev nD) (t : Fin cfg0.N) (z : Fin 1) (j : Fin 8) (k : Fin 1024) :
    iblk m c 1 t (ix3 z j k) = V m c main_arg1 (ix3 (rowPt t) j k) := congrArg (V m c main_arg1) (emb1 t z j k)

theorem blk2 (c : Dev nD) (t : Fin cfg0.N) (k : Fin 1024) (d : Fin 2048) :
    iblk m c 2 t (ix2 k d) = V m c main_arg2 (ix2 k (colOf (colPt t) d)) := congrArg (V m c main_arg2) (emb2 t k d)

theorem flushed3_eq (c : Dev nD) (t : Fin cfg0.N) :
    (dats m 0 c).flushed 3 t = ((cfg0.win 3).blk t).view.read (Elt Ideal)
      (projected (V m c main_arg0) (V m c main_arg1) (V m c main_arg2)) := by
  rw [flushed3]
  refine funext fun y => ?_
  obtain ⟨r, d, rfl⟩ : ∃ (r : Fin 256) (d : Fin 2048), y = ix2 r d := ⟨y 0, y 1, eq_ix2 y⟩
  refine (out3_eq _ _ _ r d).trans (Eq.trans ?_ (congrArg (projected _ _ _) (emb3 t r d).symm))
  refine Finset.sum_congr rfl fun k _ => congrArg₂ (fun a b : EReal => a * b) ?_ (blk2 m c t k d)
  rw [blk0, blk1, blk1]
  exact (modded_row _ _ _ _ (rowPt t) r k).symm

/-- Every entry is in some block. -/
theorem mem3 (i : S9216x2048.Idx) : ∃ t : Fin cfg0.N, i ∈ ((cfg0.win 3).blk t).view.set := by
  obtain ⟨a, d, rfl⟩ : ∃ (a : Fin 9216) (d : Fin 2048), i = ix2 a d := ⟨i 0, i 1, eq_ix2 i⟩
  let t : Fin 36 := ⟨d.val / 2048 * 36 + a.val / 256, by omega⟩
  have h := ((cfg0.win 3).blk t).view.emb_mem_set (ix2 (⟨a.val % 256, by omega⟩ : Fin 256) (⟨d.val % 2048, by omega⟩ : Fin 2048))
  rw [show ((cfg0.win 3).blk t).view.emb (ix2 (⟨a.val % 256, by omega⟩ : Fin 256) (⟨d.val % 2048, by omega⟩ : Fin 2048)) = ix2 a d from
    (emb3 t _ _).trans (congrArg₂ (fun a d => ix2 a d)
      (Fin.ext (show (d.val / 2048 * 36 + a.val / 256) % 36 * 256 + a.val % 256 = a.val by omega))
      (Fin.ext (show (d.val / 2048 * 36 + a.val / 256) / 36 * 2048 + d.val % 2048 = d.val by omega)))] at h
  exact ⟨t, h⟩

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = projected (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h3, hk⟩ := h c
  refine ⟨h3.trans ?_, hk⟩
  rw [(dats m 0 c).arrAt_eq_of_cover 3 _ (fun t _ => flushed3_eq m c t)
    fun i => (mem3 i).imp fun t h => ⟨flush0_3 t, h⟩, V_main_arg0, V_main_arg1, V_main_arg2]

section Host

open Cert.ProjectRefIdeal (S36x256x1024 S36x1x1024 S_)
open Cert.ProjectRefIdeal.Facts₀

/-- The modulated input in tiles, as the reference writes it. -/
abbrev modTiles (x : Vec Ideal S36x256x1024 .f32) (mod : Vec Ideal S36x8x1024 .f32) : Vec Ideal S36x256x1024 .f32 :=
  addf (F := Ideal) (φ := .f32) (mulf (F := Ideal) (φ := .f32) x
    (broadcastInDim S36x256x1024 ![0, 1, 2] bcast_S36x1x1024_S36x256x1024_0_1_2
      (addf (F := Ideal) (φ := .f32) (broadcastInDim S36x1x1024 ![] bcast_S_S36x1x1024 (constant (F := Ideal) S_ .f32 0x3F800000#32))
        (extractStridedSlice S36x1x1024 ![0, 1, 0] mod slices_S36x8x1024_S36x1x1024_0_1_0))))
    (broadcastInDim S36x256x1024 ![0, 1, 2] bcast_S36x1x1024_S36x256x1024_0_1_2
      (extractStridedSlice S36x1x1024 ![0, 0, 0] mod slices_S36x8x1024_S36x1x1024_0_0_0))

theorem modTiles_at (x : Vec Ideal S36x256x1024 .f32) (mod : Vec Ideal S36x8x1024 .f32) (t : Fin 36) (r : Fin 256) (k : Fin 1024) :
    modTiles x mod (ix3 t r k) = (x (ix3 t r k) * (1 + mod (ix3 t 1 k)) + mod (ix3 t 0 k) : EReal) := by
  pointwise

/-- The modulated input, as the reference writes it. -/
abbrev modRows (x : Vec Ideal S9216x1024 .f32) (mod : Vec Ideal S36x8x1024 .f32) : Vec Ideal S9216x1024 .f32 :=
  shapeCast S9216x1024 (modTiles (tiled x) mod) shapeCasts_S36x256x1024_S9216x1024

theorem modRows_at (x : Vec Ideal S9216x1024 .f32) (mod : Vec Ideal S36x8x1024 .f32) (a : Fin 9216) (k : Fin 1024) :
    modRows x mod (ix2 a k) = modded x mod 1 0 a k := by
  refine (rows_at _ a k).trans ?_
  rw [modTiles_at, tiled_at, row_tile]
  rfl

theorem host_dot (h : Vec Ideal S9216x1024 .f32) (w : Vec Ideal S1024x2048 .bf16) (a : Fin 9216) (d : Fin 2048) :
    Host.dotGeneral (F := Ideal) (φ₁ := .f32) (φ₂ := .f32) Cert.ProjectRefIdeal.dot_S9216x1024_S1024x2048_S9216x2048_1_0_0_1_n_n none h
        (extf .f32 w Cert.ProjectRefIdeal.Facts₀.bitsLt_bf16_f32) (ix2 a d)
      = (∑ k : Fin 1024, (h (ix2 a k) : EReal) * w (ix2 k d) : EReal) := by
  pointwise

theorem host_projected (x : Vec Ideal S9216x1024 .f32) (mod : Vec Ideal S36x8x1024 .f32) (w : Vec Ideal S1024x2048 .bf16) :
    Host.dotGeneral (F := Ideal) (φ₁ := .f32) (φ₂ := .f32) Cert.ProjectRefIdeal.dot_S9216x1024_S1024x2048_S9216x2048_1_0_0_1_n_n none (modRows x mod)
        (extf .f32 w Cert.ProjectRefIdeal.Facts₀.bitsLt_bf16_f32) = projected x mod w := by
  refine funext fun i => ?_
  obtain ⟨a, d, rfl⟩ : ∃ (a : Fin 9216) (d : Fin 2048), i = ix2 a d := ⟨i 0, i 1, eq_ix2 i⟩
  refine (host_dot (modRows x mod) w a d).trans ?_
  exact Finset.sum_congr rfl fun k _ => congrArg (fun a : EReal => a * w (ix2 k d)) (modRows_at x mod a k)

end Host

/-- With equal arguments the call and its reference end with equal results. -/
theorem meets : Cert.algebraic_ProjectIdeal_ProjectRefIdeal := fun m g m' g' _ hw =>
  ⟨fun c => projected (m ((c : Thread nD τ).loc main_arg0)) (m ((c : Thread nD τ).loc main_arg1)) (m ((c : Thread nD τ).loc main_arg2)),
    run m g,
    (θ_run Cert.ProjectRefIdeal.defs _ _).mono (fun r h c => by
      obtain ⟨h0, hk⟩ := h c
      obtain ⟨e0, e1, e2⟩ := hw c
      refine ⟨h0.trans ?_, hk⟩
      rw [e0, e1, e2]
      exact host_projected _ _ _)
      (Cert.ProjectRefIdeal.Value.run (F := Ideal) m' g')⟩

end Cert.InProj

end
-- ==== Proof.FfnUp.lean ====
/-
  The upward projection of the feed-forward layer: the modulated input, in 36 tiles of 256 rows each with its own
  modulation, times the weight in four groups of columns. The call and its reference end with the same array over the
  extended reals.
-/
module

public import proofs.«01_k».proof.Proof.Gen.UpIdeal.Value
public import proofs.«01_k».proof.Proof.InProj
public import proofs.«01_k».proof.Defs
public import proofs.«01_k».proof.Proof.Gen.UpRefIdeal.Run
public import Idealize.ShloMosaic.Lib.Pointwise.Reduce
public import Idealize.ShloMosaic.Lib.Pointwise
public import Idealize.ShloMosaic.Lib.Claim

@[expose] public section

set_option maxRecDepth 16384

noncomputable section

namespace Cert.FfnUp

open Cert.UpIdeal Cert.UpIdeal.Gen Cert.UpIdeal.Value Idealize.ShloMosaic Idealize.ShloMosaic.TcCoe Idealize.SL.Sem

open Cert.Adam (hz)
open Cert.DxProj (hz3 rowOf tileOf tile_row row_tile tiled tiled_at rows_at)
open Cert.InProj (modded)

/-- The projection of the modulated input. -/
def projected (x : Vec Ideal S9216x1024 .f32) (mod : Vec Ideal S36x8x1024 .f32) (w : Vec Ideal S1024x5632 .bf16) :
    Vec Ideal S9216x5632 .bf16 := fun i =>
  (∑ k : Fin 1024, modded x mod 4 3 (i 0) k * w (ix2 k (i 1)) : EReal)

/-- Column `d` of the `c`-th group of 1408. -/
def colOf (c : Fin 4) (d : Fin 1408) : Fin 5632 := ⟨c.val * 1408 + d.val, by omega⟩

/-- The tile of rows and the group of columns of a grid point. -/
def rowPt (t : Fin 144) : Fin 36 := ⟨t.val % 36, by omega⟩

def colPt (t : Fin 144) : Fin 4 := ⟨t.val / 36, by omega⟩

variable (x0 : Vec Ideal S256x1024 .f32) (x1 : Vec Ideal S1x8x1024 .f32) (x2 : Vec Ideal S1024x1408 .bf16)

theorem whole0 : View.ld x1 r0_0 = x1 := by rw [View.ld_unit_zero hz3]

theorem whole1 : View.ld x0 r0_1 = x0 := by rw [View.ld_unit_zero hz]

theorem whole2 : View.ld x2 r0_2 = x2 := by rw [View.ld_unit_zero hz]

/-- A block of the result, at an entry. -/
theorem out3_eq (r : Fin 256) (d : Fin 1408) :
    out0_3 x0 x1 x2 (ix2 r d)
      = (∑ k : Fin 1024, (x0 (ix2 r k) * (1 + x1 (ix3 0 4 k)) + x1 (ix3 0 3 k)) * x2 (ix2 k d) : EReal) := by
  unfold out0_3
  rw [View.canon_unit_zero hz, whole0, whole1, whole2]
  pointwise [k0_pay1]

variable (m : (ℓ : Loc nD τ sig) → Buf (Elt Ideal) ℓ) (ρ : Dev nD → PrngReg)

/-- Point `t`'s blocks are its tile's rows and modulation, and its columns of the weight and of the result. -/
theorem idx_facts : ∀ t : Fin cfg0.N,
    (win0_0.index t (0 : Fin 2) = t.val % 36 ∧ win0_0.index t (1 : Fin 2) = 0)
    ∧ (win0_1.index t (0 : Fin 3) = t.val % 36 ∧ win0_1.index t (1 : Fin 3) = 0 ∧ win0_1.index t (2 : Fin 3) = 0)
    ∧ (win0_2.index t (0 : Fin 2) = 0 ∧ win0_2.index t (1 : Fin 2) = t.val / 36)
    ∧ (win0_3.index t (0 : Fin 2) = t.val % 36 ∧ win0_3.index t (1 : Fin 2) = t.val / 36) :=
  (by decide +kernel : ∀ t : Fin grid0.N, _)

theorem emb0 (t : Fin cfg0.N) (r : Fin 256) (k : Fin 1024) :
    ((cfg0.win 0).blk t).view.emb (ix2 r k) = (ix2 (rowOf (rowPt t) r) k : S9216x1024.Idx) := by
  obtain ⟨⟨h, h'⟩, -⟩ := idx_facts t
  refine funext fun a => Fin.ext ?_
  match a with
  | ⟨0, _⟩ => show win0_0.index t (0 : Fin 2) * 256 + 1 * r.val = t.val % 36 * 256 + r.val; rw [h, Nat.one_mul]
  | ⟨1, _⟩ => show win0_0.index t (1 : Fin 2) * 1024 + 1 * k.val = k.val; rw [h']; omega

theorem emb1 (t : Fin cfg0.N) (z : Fin 1) (j : Fin 8) (k : Fin 1024) :
    ((cfg0.win 1).blk t).view.emb (ix3 z j k) = (ix3 (rowPt t) j k : S36x8x1024.Idx) := by
  obtain ⟨-, ⟨h, h', h''⟩, -⟩ := idx_facts t
  refine funext fun a => Fin.ext ?_
  match a with
  | ⟨0, _⟩ => show win0_1.index t (0 : Fin 3) * 1 + 1 * z.val = t.val % 36; rw [h]; omega
  | ⟨1, _⟩ => show win0_1.index t (1 : Fin 3) * 8 + 1 * j.val = j.val; rw [h']; omega
  | ⟨2, _⟩ => show win0_1.index t (2 : Fin 3) * 1024 + 1 * k.val = k.val; rw [h'']; omega

theorem emb2 (t : Fin cfg0.N) (k : Fin 1024) (d : Fin 1408) :
    ((cfg0.win 2).blk t).view.emb (ix2 k d) = (ix2 k (colOf (colPt t) d) : S1024x5632.Idx) := by
  obtain ⟨-, -, ⟨h, h'⟩, -⟩ := idx_facts t
  refine funext fun a => Fin.ext ?_
  match a with
  | ⟨0, _⟩ => show win0_2.index t (0 : Fin 2) * 1024 + 1 * k.val = k.val; rw [h]; omega
  | ⟨1, _⟩ => show win0_2.index t (1 : Fin 2) * 1408 + 1 * d.val = t.val / 36 * 1408 + d.val; rw [h', Nat.one_mul]

theorem emb3 (t : Fin cfg0.N) (r : Fin 256) (d : Fin 1408) :
    ((cfg0.win 3).blk t).view.emb (ix2 r d) = (ix2 (rowOf (rowPt t) r) (colOf (colPt t) d) : S9216x5632.Idx) := by
  obtain ⟨-, -, -, h, h'⟩ := idx_facts t
  refine funext fun a => Fin.ext ?_
  match a with
  | ⟨0, _⟩ => show win0_3.index t (0 : Fin 2) * 256 + 1 * r.val = t.val % 36 * 256 + r.val; rw [h, Nat.one_mul]
  | ⟨1, _⟩ => show win0_3.index t (1 : Fin 2) * 1408 + 1 * d.val = t.val / 36 * 1408 + d.val; rw [h', Nat.one_mul]

theorem modded_row (x : Vec Ideal S9216x1024 .f32) (mod : Vec Ideal S36x8x1024 .f32) (s b : Fin 8) (t : Fin 36) (r : Fin 256)
    (k : Fin 1024) : modded x mod s b (rowOf t r) k
      = (x (ix2 (rowOf t r) k) * (1 + mod (ix3 t s k)) + mod (ix3 t b k) : EReal) := by
  unfold modded
  rw [tile_row]

theorem blk0 (c : Dev nD) (t : Fin cfg0.N) (r : Fin 256) (k : Fin 1024) :
    iblk m c 0 t (ix2 r k) = V m c main_arg0 (ix2 (rowOf (rowPt t) r) k) := congrArg (V m c main_arg0) (emb0 t r k)

theorem blk1 (c : Dev nD) (t : Fin cfg0.N) (z : Fin 1) (j : Fin 8) (k : Fin 1024) :
    iblk m c 1 t (ix3 z j k) = V m c main_arg1 (ix3 (rowPt t) j k) := congrArg (V m c main_arg1) (emb1 t z j k)

theorem blk2 (c : Dev nD) (t : Fin cfg0.N) (k : Fin 1024) (d : Fin 1408) :
    iblk m c 2 t (ix2 k d) = V m c main_arg2 (ix2 k (colOf (colPt t) d)) := congrArg (V m c main_arg2) (emb2 t k d)

theorem flushed3_eq (c : Dev nD) (t : Fin cfg0.N) :
    (dats m 0 c).flushed 3 t = ((cfg0.win 3).blk t).view.read (Elt Ideal)
      (projected (V m c main_arg0) (V m c main_arg1) (V m c main_arg2)) := by
  rw [flushed3]
  refine funext fun y => ?_
  obtain ⟨r, d, rfl⟩ : ∃ (r : Fin 256) (d : Fin 1408), y = ix2 r d := ⟨y 0, y 1, eq_ix2 y⟩
  refine (out3_eq _ _ _ r d).trans (Eq.trans ?_ (congrArg (projected _ _ _) (emb3 t r d).symm))
  refine Finset.sum_congr rfl fun k _ => congrArg₂ (fun a b : EReal => a * b) ?_ (blk2 m c t k d)
  rw [blk0, blk1, blk1]
  exact (modded_row _ _ _ _ (rowPt t) r k).symm

/-- Every entry is in some block. -/
theorem mem3 (i : S9216x5632.Idx) : ∃ t : Fin cfg0.N, i ∈ ((cfg0.win 3).blk t).view.set := by
  obtain ⟨a, d, rfl⟩ : ∃ (a : Fin 9216) (d : Fin 5632), i = ix2 a d := ⟨i 0, i 1, eq_ix2 i⟩
  let t : Fin 144 := ⟨d.val / 1408 * 36 + a.val / 256, by omega⟩
  have h := ((cfg0.win 3).blk t).view.emb_mem_set (ix2 (⟨a.val % 256, by omega⟩ : Fin 256) (⟨d.val % 1408, by omega⟩ : Fin 1408))
  rw [show ((cfg0.win 3).blk t).view.emb (ix2 (⟨a.val % 256, by omega⟩ : Fin 256) (⟨d.val % 1408, by omega⟩ : Fin 1408)) = ix2 a d from
    (emb3 t _ _).trans (congrArg₂ (fun a d => ix2 a d)
      (Fin.ext (show (d.val / 1408 * 36 + a.val / 256) % 36 * 256 + a.val % 256 = a.val by omega))
      (Fin.ext (show (d.val / 1408 * 36 + a.val / 256) / 36 * 1408 + d.val % 1408 = d.val by omega)))] at h
  exact ⟨t, h⟩

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = projected (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h3, hk⟩ := h c
  refine ⟨h3.trans ?_, hk⟩
  rw [(dats m 0 c).arrAt_eq_of_cover 3 _ (fun t _ => flushed3_eq m c t)
    fun i => (mem3 i).imp fun t h => ⟨flush0_3 t, h⟩, V_main_arg0, V_main_arg1, V_main_arg2]

section Host

open Cert.UpRefIdeal (S36x256x1024 S36x1x1024 S_)
open Cert.UpRefIdeal.Facts₀

/-- The modulated input in tiles, as the reference writes it. -/
abbrev modTiles (x : Vec Ideal S36x256x1024 .f32) (mod : Vec Ideal S36x8x1024 .f32) : Vec Ideal S36x256x1024 .f32 :=
  addf (F := Ideal) (φ := .f32) (mulf (F := Ideal) (φ := .f32) x
    (broadcastInDim S36x256x1024 ![0, 1, 2] bcast_S36x1x1024_S36x256x1024_0_1_2
      (addf (F := Ideal) (φ := .f32) (broadcastInDim S36x1x1024 ![] bcast_S_S36x1x1024 (constant (F := Ideal) S_ .f32 0x3F800000#32))
        (extractStridedSlice S36x1x1024 ![0, 4, 0] mod slices_S36x8x1024_S36x1x1024_0_4_0))))
    (broadcastInDim S36x256x1024 ![0, 1, 2] bcast_S36x1x1024_S36x256x1024_0_1_2
      (extractStridedSlice S36x1x1024 ![0, 3, 0] mod slices_S36x8x1024_S36x1x1024_0_3_0))

theorem modTiles_at (x : Vec Ideal S36x256x1024 .f32) (mod : Vec Ideal S36x8x1024 .f32) (t : Fin 36) (r : Fin 256) (k : Fin 1024) :
    modTiles x mod (ix3 t r k) = (x (ix3 t r k) * (1 + mod (ix3 t 4 k)) + mod (ix3 t 3 k) : EReal) := by
  pointwise

/-- The modulated input, as the reference writes it. -/
abbrev modRows (x : Vec Ideal S9216x1024 .f32) (mod : Vec Ideal S36x8x1024 .f32) : Vec Ideal S9216x1024 .f32 :=
  shapeCast S9216x1024 (modTiles (tiled x) mod) shapeCasts_S36x256x1024_S9216x1024

theorem modRows_at (x : Vec Ideal S9216x1024 .f32) (mod : Vec Ideal S36x8x1024 .f32) (a : Fin 9216) (k : Fin 1024) :
    modRows x mod (ix2 a k) = modded x mod 4 3 a k := by
  refine (rows_at _ a k).trans ?_
  rw [modTiles_at, tiled_at, row_tile]
  rfl

theorem host_dot (h : Vec Ideal S9216x1024 .f32) (w : Vec Ideal S1024x5632 .bf16) (a : Fin 9216) (d : Fin 5632) :
    Host.dotGeneral (F := Ideal) (φ₁ := .f32) (φ₂ := .f32) Cert.UpRefIdeal.dot_S9216x1024_S1024x5632_S9216x5632_1_0_0_1_n_n none h
        (extf .f32 w Cert.UpRefIdeal.Facts₀.bitsLt_bf16_f32) (ix2 a d)
      = (∑ k : Fin 1024, (h (ix2 a k) : EReal) * w (ix2 k d) : EReal) := by
  pointwise

theorem host_projected (x : Vec Ideal S9216x1024 .f32) (mod : Vec Ideal S36x8x1024 .f32) (w : Vec Ideal S1024x5632 .bf16) :
    truncf (F := Ideal) .bf16 (Host.dotGeneral (F := Ideal) (φ₁ := .f32) (φ₂ := .f32) Cert.UpRefIdeal.dot_S9216x1024_S1024x5632_S9216x5632_1_0_0_1_n_n none (modRows x mod)
        (extf .f32 w Cert.UpRefIdeal.Facts₀.bitsLt_bf16_f32)) Cert.UpRefIdeal.Facts₀.bitsLt_bf16_f32 = projected x mod w := by
  refine funext fun i => ?_
  obtain ⟨a, d, rfl⟩ : ∃ (a : Fin 9216) (d : Fin 5632), i = ix2 a d := ⟨i 0, i 1, eq_ix2 i⟩
  refine (host_dot (modRows x mod) w a d).trans ?_
  exact Finset.sum_congr rfl fun k _ => congrArg (fun a : EReal => a * w (ix2 k d)) (modRows_at x mod a k)

end Host

/-- With equal arguments the call and its reference end with equal results. -/
theorem meets : Cert.algebraic_UpIdeal_UpRefIdeal := fun m g m' g' _ hw =>
  ⟨fun c => projected (m ((c : Thread nD τ).loc main_arg0)) (m ((c : Thread nD τ).loc main_arg1)) (m ((c : Thread nD τ).loc main_arg2)),
    run m g,
    (θ_run Cert.UpRefIdeal.defs _ _).mono (fun r h c => by
      obtain ⟨h0, hk⟩ := h c
      obtain ⟨e0, e1, e2⟩ := hw c
      refine ⟨h0.trans ?_, hk⟩
      rw [e0, e1, e2]
      exact host_projected _ _ _)
      (Cert.UpRefIdeal.Value.run (F := Ideal) m' g')⟩

end Cert.FfnUp

end
-- ==== Proof.InProjGrad.lean ====
/-
  The gradient of the input projection's weight: over 36 tiles of rows, the sum of the products of the modulated input and
  the cotangent. The call and its reference end with the same array over the extended reals.
-/
module

public import proofs.«01_k».proof.Proof.Gen.ProjectGradIdeal.Value
public import proofs.«01_k».proof.Proof.InProj
public import proofs.«01_k».proof.Defs
public import proofs.«01_k».proof.Proof.Gen.ProjectGradRefIdeal.Run
public import Idealize.ShloMosaic.Lib.Pointwise.Reduce
public import Idealize.ShloMosaic.Lib.Pointwise
public import Idealize.ShloMosaic.Lib.Claim

@[expose] public section

set_option maxRecDepth 16384

noncomputable section

namespace Cert.InProjGrad

open Cert.ProjectGradIdeal Cert.ProjectGradIdeal.Gen Cert.ProjectGradIdeal.Value Idealize.ShloMosaic Idealize.ShloMosaic.TcCoe Idealize.SL.Sem

open Cert.DxProj (rowOf)
open Cert.InProj (modded modded_row)
open Cert.InProj (colOf rowPt colPt modRows modRows_at)

/-- A sum over the rows is the sum over the tiles of the sums over their rows. -/
theorem sum_tiles (f : Fin 9216 → EReal) : (∑ t : Fin 36, ∑ r : Fin 256, f (rowOf t r)) = ∑ a : Fin 9216, f a := by
  rw [← Fintype.sum_prod_type' (f := fun t r => f (rowOf t r))]
  exact Fintype.sum_equiv (finProdFinEquiv : Fin 36 × Fin 256 ≃ Fin (36 * 256)) _ _ fun p =>
    congrArg f (Fin.ext (show p.1.val * 256 + p.2.val = p.2.val + 256 * p.1.val by omega))

/-- The gradient of the weight: over all rows, the modulated input times the cotangent. -/
def gradW (x : Vec Ideal S9216x1024 .f32) (mod : Vec Ideal S36x8x1024 .f32) (p : Vec Ideal S9216x2048 .bf16) :
    Vec Ideal S1024x2048 .f32 := fun i =>
  (∑ a : Fin 9216, modded x mod 1 0 a (i 0) * p (ix2 a (i 1)) : EReal)

/-- One tile's part of it, at an entry. -/
def part (x : Vec Ideal S9216x1024 .f32) (mod : Vec Ideal S36x8x1024 .f32) (p : Vec Ideal S9216x2048 .bf16) (k : Fin 1024)
    (d : Fin 2048) (t : Fin 36) : EReal :=
  ∑ r : Fin 256, modded x mod 1 0 (rowOf t r) k * p (ix2 (rowOf t r) d)

/-- What a point adds to the block that it is given, at an entry. -/
theorem pay2_eq (x1 : Vec Ideal S1x8x1024 .f32) (x0 : Vec Ideal S256x1024 .f32) (acc : Vec Ideal S1024x2048 .f32)
    (x2 : Vec Ideal S256x2048 .bf16) (k : Fin 1024) (d : Fin 2048) :
    k0_pay2 x1 x0 acc x2 (ix2 k d)
      = (acc (ix2 k d) + ∑ r : Fin 256, (x0 (ix2 r k) * (1 + x1 (ix3 0 1 k)) + x1 (ix3 0 0 k)) * x2 (ix2 r d) : EReal) := by
  pointwise [k0_pay2]

/-- A run starts from zero. -/
theorem pay1_eq (k : Fin 1024) (d : Fin 2048) : (k0_pay1 (F := Ideal)) (ix2 k d) = (0 : EReal) := by
  pointwise [k0_pay1]

variable (m : (ℓ : Loc nD τ sig) → Buf (Elt Ideal) ℓ) (ρ : Dev nD → PrngReg)

/-- Point `t`'s blocks are its tile's rows and modulation, and its rows and columns of the cotangent. -/
theorem idx_facts : ∀ t : Fin cfg0.N,
    (win0_0.index t (0 : Fin 2) = t.val % 36 ∧ win0_0.index t (1 : Fin 2) = 0)
    ∧ (win0_1.index t (0 : Fin 3) = t.val % 36 ∧ win0_1.index t (1 : Fin 3) = 0 ∧ win0_1.index t (2 : Fin 3) = 0)
    ∧ (win0_2.index t (0 : Fin 2) = t.val % 36 ∧ win0_2.index t (1 : Fin 2) = t.val / 36) :=
  (by decide +kernel : ∀ t : Fin grid0.N, _)

theorem emb0 (t : Fin cfg0.N) (r : Fin 256) (k : Fin 1024) :
    ((cfg0.win 0).blk t).view.emb (ix2 r k) = (ix2 (rowOf (rowPt t) r) k : S9216x1024.Idx) := by
  obtain ⟨⟨h, h'⟩, -⟩ := idx_facts t
  refine funext fun a => Fin.ext ?_
  match a with
  | ⟨0, _⟩ => show win0_0.index t (0 : Fin 2) * 256 + 1 * r.val = t.val % 36 * 256 + r.val; rw [h, Nat.one_mul]
  | ⟨1, _⟩ => show win0_0.index t (1 : Fin 2) * 1024 + 1 * k.val = k.val; rw [h']; omega

theorem emb1 (t : Fin cfg0.N) (z : Fin 1) (j : Fin 8) (k : Fin 1024) :
    ((cfg0.win 1).blk t).view.emb (ix3 z j k) = (ix3 (rowPt t) j k : S36x8x1024.Idx) := by
  obtain ⟨-, ⟨h, h', h''⟩, -⟩ := idx_facts t
  refine funext fun a => Fin.ext ?_
  match a with
  | ⟨0, _⟩ => show win0_1.index t (0 : Fin 3) * 1 + 1 * z.val = t.val % 36; rw [h]; omega
  | ⟨1, _⟩ => show win0_1.index t (1 : Fin 3) * 8 + 1 * j.val = j.val; rw [h']; omega
  | ⟨2, _⟩ => show win0_1.index t (2 : Fin 3) * 1024 + 1 * k.val = k.val; rw [h'']; omega

theorem emb2 (t : Fin cfg0.N) (r : Fin 256) (d : Fin 2048) :
    ((cfg0.win 2).blk t).view.emb (ix2 r d) = (ix2 (rowOf (rowPt t) r) (colOf (colPt t) d) : S9216x2048.Idx) := by
  obtain ⟨-, -, h, h'⟩ := idx_facts t
  refine funext fun a => Fin.ext ?_
  match a with
  | ⟨0, _⟩ => show win0_2.index t (0 : Fin 2) * 256 + 1 * r.val = t.val % 36 * 256 + r.val; rw [h, Nat.one_mul]
  | ⟨1, _⟩ => show win0_2.index t (1 : Fin 2) * 2048 + 1 * d.val = t.val / 36 * 2048 + d.val; rw [h', Nat.one_mul]

theorem blk0 (c : Dev nD) (t : Fin cfg0.N) (r : Fin 256) (k : Fin 1024) :
    iblk m c 0 t (ix2 r k) = V m c main_arg0 (ix2 (rowOf (rowPt t) r) k) := congrArg (V m c main_arg0) (emb0 t r k)

theorem blk1 (c : Dev nD) (t : Fin cfg0.N) (z : Fin 1) (j : Fin 8) (k : Fin 1024) :
    iblk m c 1 t (ix3 z j k) = V m c main_arg1 (ix3 (rowPt t) j k) := congrArg (V m c main_arg1) (emb1 t z j k)

theorem blk2 (c : Dev nD) (t : Fin cfg0.N) (r : Fin 256) (d : Fin 2048) :
    iblk m c 2 t (ix2 r d) = V m c main_arg2 (ix2 (rowOf (rowPt t) r) (colOf (colPt t) d)) :=
  congrArg (V m c main_arg2) (emb2 t r d)

/-- What point `t` adds to its block is its tile's part. -/
theorem adds (c : Dev nD) (t : Fin cfg0.N) (acc : Vec Ideal S1024x2048 .f32) (k : Fin 1024) (d : Fin 2048) :
    k0_pay2 (iblk m c 1 t) (iblk m c 0 t) acc (iblk m c 2 t) (ix2 k d)
      = (acc (ix2 k d) + part (V m c main_arg0) (V m c main_arg1) (V m c main_arg2) k (colOf (colPt t) d) (rowPt t) : EReal) := by
  refine (pay2_eq _ _ _ _ k d).trans (congrArg (fun b : EReal => acc (ix2 k d) + b) ?_)
  refine Finset.sum_congr rfl fun r _ => congrArg₂ (fun a b : EReal => a * b) ?_ (blk2 m c t r d)
  rw [blk0, blk1, blk1]
  exact (modded_row _ _ _ _ (rowPt t) r k).symm

/-- The same of the parts, numbered by the naturals. -/
def partN (c : Dev nD) (k : Fin 1024) (d : Fin 2048) (n : ℕ) : EReal :=
  if h : n < 36 then part (V m c main_arg0) (V m c main_arg1) (V m c main_arg2) k d ⟨n, h⟩ else 0

theorem part_at (c : Dev nD) (k : Fin 1024) (d : Fin 2048) (q : Fin 1) (j : ℕ) (hj : j < 36) (h : 36 * q.val + j < cfg0.N) :
    part (V m c main_arg0) (V m c main_arg1) (V m c main_arg2) k (colOf (colPt ⟨36 * q.val + j, h⟩) d) (rowPt ⟨36 * q.val + j, h⟩)
      = partN m c k (colOf q d) j := by
  unfold partN
  rw [dif_pos hj]
  congr 2
  · exact Fin.ext (show (36 * q.val + j) / 36 = q.val by omega)
  · exact Fin.ext (show (36 * q.val + j) % 36 = j by omega)

/-- A run's block after `j + 1` of its points, at an entry: the sum of their parts. -/
theorem acc_eq (c : Dev nD) (k : Fin 1024) (d : Fin 2048) (q : Fin 1) (j : ℕ) (hj : j < 36) (h : 36 * q.val + j < cfg0.N) :
    Pipeline.accAt (reset3 m c) (step3 m c) (36 * q.val) j h (ix2 k d)
      = (∑ n ∈ Finset.range (j + 1), partN m c k (colOf q d) n : EReal) := by
  induction j with
  | zero =>
    refine (adds m c ⟨36 * q.val + 0, h⟩ _ k d).trans ?_
    refine (congrArg₂ (fun a b : EReal => a + b) (pay1_eq k d) (part_at m c k d q 0 hj h)).trans ?_
    rw [zero_add, Finset.sum_range_one]
  | succ j ih =>
    refine (adds m c ⟨36 * q.val + (j + 1), h⟩ _ k d).trans ?_
    refine (congrArg₂ (fun a b : EReal => a + b) (ih (by omega) (Nat.lt_of_succ_lt h)) (part_at m c k d q (j + 1) hj h)).trans ?_
    exact (Finset.sum_range_succ _ (j + 1)).symm

/-- A whole run's block is the gradient there. -/
theorem run_eq (c : Dev nD) (k : Fin 1024) (d : Fin 2048) (q : Fin 1) (h : 36 * q.val + 35 < cfg0.N) :
    Pipeline.accAt (reset3 m c) (step3 m c) (36 * q.val) 35 h (ix2 k d)
      = gradW (V m c main_arg0) (V m c main_arg1) (V m c main_arg2) (ix2 k (colOf q d)) := by
  rw [acc_eq m c k d q 35 (by decide) h, Finset.sum_range]
  refine Eq.trans (Finset.sum_congr rfl fun t _ => ?_) (sum_tiles fun a =>
    modded (V m c main_arg0) (V m c main_arg1) 1 0 a k * V m c main_arg2 (ix2 a (colOf q d)))
  exact dif_pos t.isLt

theorem final_eq (c : Dev nD) : G3 m c = gradW (V m c main_arg0) (V m c main_arg1) (V m c main_arg2) := by
  refine funext fun i => ?_
  obtain ⟨k, e, rfl⟩ : ∃ (k : Fin 1024) (e : Fin 2048), i = ix2 k e := ⟨i 0, i 1, eq_ix2 i⟩
  obtain ⟨q, d, rfl⟩ : ∃ (q : Fin 1) (d : Fin 2048), e = colOf q d :=
    ⟨⟨e.val / 2048, by omega⟩, ⟨e.val % 2048, by omega⟩, Fin.ext (show e.val = e.val / 2048 * 2048 + e.val % 2048 by omega)⟩
  have hq : run3Of (ix2 k (colOf q d)) = q.val := by
    have hk : k.val / 1024 = 0 := by omega
    have hd : (q.val * 2048 + d.val) / 2048 = q.val := by omega
    show 1 * (k.val / 1024 - 0) + 1 * ((q.val * 2048 + d.val) / 2048 - 0) = q.val
    omega
  have hl : loc3Of (ix2 k (colOf q d)) = ix2 k d := by
    refine funext fun a => Fin.ext ?_
    match a with
    | ⟨0, _⟩ => show k.val % 1024 = k.val; omega
    | ⟨1, _⟩ => show (q.val * 2048 + d.val) % 2048 = d.val; omega
  have hN : 36 * q.val + 35 < cfg0.N := lt_of_lt_of_eq (by omega : 36 * q.val + 35 < 36) N_0.symm
  unfold G3
  rw [dif_pos (by rw [hq]; exact hN), hl]
  have e : ∀ (b b' : ℕ) (h : b + 35 < cfg0.N) (h' : b' + 35 < cfg0.N), b = b' →
      Pipeline.accAt (reset3 m c) (step3 m c) b 35 h = Pipeline.accAt (reset3 m c) (step3 m c) b' 35 h' := by
    intro b b' h h' hb; subst hb; rfl
  exact (congrFun (e _ _ _ hN (by rw [hq])) _).trans (run_eq m c k d q hN)

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = gradW (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Cert.ProjectGradIdeal.Value.run m ρ)
  obtain ⟨h3, hk⟩ := h c
  refine ⟨h3.trans ?_, hk⟩
  rw [final_eq, V_main_arg0, V_main_arg1, V_main_arg2]

section Host

open Cert.ProjectGradRefIdeal.Facts₀

theorem host_dot (h : Vec Ideal S9216x1024 .f32) (p : Vec Ideal S9216x2048 .bf16) (k : Fin 1024) (d : Fin 2048) :
    Host.dotGeneral (F := Ideal) (φ₁ := .f32) (φ₂ := .f32) Cert.ProjectGradRefIdeal.dot_S1024x9216_S9216x2048_S1024x2048_1_0_0_1_n_n none
        (transpose Cert.ProjectGradRefIdeal.S1024x9216 [1, 0] h transposes_S9216x1024_S1024x9216_1_0)
        (extf .f32 p Cert.ProjectGradRefIdeal.Facts₀.bitsLt_bf16_f32) (ix2 k d)
      = (∑ a : Fin 9216, (h (ix2 a k) : EReal) * p (ix2 a d) : EReal) := by
  pointwise

theorem host_gradW (x : Vec Ideal S9216x1024 .f32) (mod : Vec Ideal S36x8x1024 .f32) (p : Vec Ideal S9216x2048 .bf16) :
    Host.dotGeneral (F := Ideal) (φ₁ := .f32) (φ₂ := .f32) Cert.ProjectGradRefIdeal.dot_S1024x9216_S9216x2048_S1024x2048_1_0_0_1_n_n none
        (transpose Cert.ProjectGradRefIdeal.S1024x9216 [1, 0] (modRows x mod) transposes_S9216x1024_S1024x9216_1_0)
        (extf .f32 p Cert.ProjectGradRefIdeal.Facts₀.bitsLt_bf16_f32) = gradW x mod p := by
  refine funext fun i => ?_
  obtain ⟨k, d, rfl⟩ : ∃ (k : Fin 1024) (d : Fin 2048), i = ix2 k d := ⟨i 0, i 1, eq_ix2 i⟩
  refine (host_dot (modRows x mod) p k d).trans ?_
  exact Finset.sum_congr rfl fun a _ => congrArg (fun b : EReal => b * p (ix2 a d)) (modRows_at x mod a k)

end Host

/-- With equal arguments the call and its reference end with equal results. -/
theorem meets : Cert.algebraic_ProjectGradIdeal_ProjectGradRefIdeal := fun m g m' g' _ hw =>
  ⟨fun c => gradW (m ((c : Thread nD τ).loc main_arg0)) (m ((c : Thread nD τ).loc main_arg1)) (m ((c : Thread nD τ).loc main_arg2)),
    run m g,
    (θ_run Cert.ProjectGradRefIdeal.defs _ _).mono (fun r h c => by
      obtain ⟨h0, hk⟩ := h c
      obtain ⟨e0, e1, e2⟩ := hw c
      refine ⟨h0.trans ?_, hk⟩
      rw [e0, e1, e2]
      exact host_gradW _ _ _)
      (Cert.ProjectGradRefIdeal.Value.run (F := Ideal) m' g')⟩

end Cert.InProjGrad

end
-- ==== Proof.FfnUpGrad.lean ====
/-
  The gradient of the upward projection's weight: over 36 tiles of rows, for each of four groups of columns, the sum of the
  products of the modulated input and the cotangent. The call and its reference end with the same array over the extended
  reals.
-/
module

public import proofs.«01_k».proof.Proof.Gen.UpGradIdeal.Value
public import proofs.«01_k».proof.Proof.FfnUp
public import proofs.«01_k».proof.Proof.InProjGrad
public import proofs.«01_k».proof.Defs
public import proofs.«01_k».proof.Proof.Gen.UpGradRefIdeal.Run
public import Idealize.ShloMosaic.Lib.Pointwise.Reduce
public import Idealize.ShloMosaic.Lib.Pointwise
public import Idealize.ShloMosaic.Lib.Claim

@[expose] public section

set_option maxRecDepth 16384

noncomputable section

namespace Cert.FfnUpGrad

open Cert.UpGradIdeal Cert.UpGradIdeal.Gen Cert.UpGradIdeal.Value Idealize.ShloMosaic Idealize.ShloMosaic.TcCoe Idealize.SL.Sem

open Cert.DxProj (rowOf)
open Cert.InProj (modded modded_row)
open Cert.FfnUp (colOf rowPt colPt modRows modRows_at)
open Cert.InProjGrad (sum_tiles)

/-- The gradient of the weight: over all rows, the modulated input times the cotangent. -/
def gradW (x : Vec Ideal S9216x1024 .f32) (mod : Vec Ideal S36x8x1024 .f32) (p : Vec Ideal S9216x5632 .bf16) :
    Vec Ideal S1024x5632 .f32 := fun i =>
  (∑ a : Fin 9216, modded x mod 4 3 a (i 0) * p (ix2 a (i 1)) : EReal)

/-- One tile's part of it, at an entry. -/
def part (x : Vec Ideal S9216x1024 .f32) (mod : Vec Ideal S36x8x1024 .f32) (p : Vec Ideal S9216x5632 .bf16) (k : Fin 1024)
    (d : Fin 5632) (t : Fin 36) : EReal :=
  ∑ r : Fin 256, modded x mod 4 3 (rowOf t r) k * p (ix2 (rowOf t r) d)

/-- What a point adds to the block that it is given, at an entry. -/
theorem pay2_eq (x1 : Vec Ideal S1x8x1024 .f32) (x0 : Vec Ideal S256x1024 .f32) (acc : Vec Ideal S1024x1408 .f32)
    (x2 : Vec Ideal S256x1408 .bf16) (k : Fin 1024) (d : Fin 1408) :
    k0_pay2 x1 x0 acc x2 (ix2 k d)
      = (acc (ix2 k d) + ∑ r : Fin 256, (x0 (ix2 r k) * (1 + x1 (ix3 0 4 k)) + x1 (ix3 0 3 k)) * x2 (ix2 r d) : EReal) := by
  pointwise [k0_pay2]

/-- A run starts from zero. -/
theorem pay1_eq (k : Fin 1024) (d : Fin 1408) : (k0_pay1 (F := Ideal)) (ix2 k d) = (0 : EReal) := by
  pointwise [k0_pay1]

variable (m : (ℓ : Loc nD τ sig) → Buf (Elt Ideal) ℓ) (ρ : Dev nD → PrngReg)

/-- Point `t`'s blocks are its tile's rows and modulation, and its rows and columns of the cotangent. -/
theorem idx_facts : ∀ t : Fin cfg0.N,
    (win0_0.index t (0 : Fin 2) = t.val % 36 ∧ win0_0.index t (1 : Fin 2) = 0)
    ∧ (win0_1.index t (0 : Fin 3) = t.val % 36 ∧ win0_1.index t (1 : Fin 3) = 0 ∧ win0_1.index t (2 : Fin 3) = 0)
    ∧ (win0_2.index t (0 : Fin 2) = t.val % 36 ∧ win0_2.index t (1 : Fin 2) = t.val / 36) :=
  (by decide +kernel : ∀ t : Fin grid0.N, _)

theorem emb0 (t : Fin cfg0.N) (r : Fin 256) (k : Fin 1024) :
    ((cfg0.win 0).blk t).view.emb (ix2 r k) = (ix2 (rowOf (rowPt t) r) k : S9216x1024.Idx) := by
  obtain ⟨⟨h, h'⟩, -⟩ := idx_facts t
  refine funext fun a => Fin.ext ?_
  match a with
  | ⟨0, _⟩ => show win0_0.index t (0 : Fin 2) * 256 + 1 * r.val = t.val % 36 * 256 + r.val; rw [h, Nat.one_mul]
  | ⟨1, _⟩ => show win0_0.index t (1 : Fin 2) * 1024 + 1 * k.val = k.val; rw [h']; omega

theorem emb1 (t : Fin cfg0.N) (z : Fin 1) (j : Fin 8) (k : Fin 1024) :
    ((cfg0.win 1).blk t).view.emb (ix3 z j k) = (ix3 (rowPt t) j k : S36x8x1024.Idx) := by
  obtain ⟨-, ⟨h, h', h''⟩, -⟩ := idx_facts t
  refine funext fun a => Fin.ext ?_
  match a with
  | ⟨0, _⟩ => show win0_1.index t (0 : Fin 3) * 1 + 1 * z.val = t.val % 36; rw [h]; omega
  | ⟨1, _⟩ => show win0_1.index t (1 : Fin 3) * 8 + 1 * j.val = j.val; rw [h']; omega
  | ⟨2, _⟩ => show win0_1.index t (2 : Fin 3) * 1024 + 1 * k.val = k.val; rw [h'']; omega

theorem emb2 (t : Fin cfg0.N) (r : Fin 256) (d : Fin 1408) :
    ((cfg0.win 2).blk t).view.emb (ix2 r d) = (ix2 (rowOf (rowPt t) r) (colOf (colPt t) d) : S9216x5632.Idx) := by
  obtain ⟨-, -, h, h'⟩ := idx_facts t
  refine funext fun a => Fin.ext ?_
  match a with
  | ⟨0, _⟩ => show win0_2.index t (0 : Fin 2) * 256 + 1 * r.val = t.val % 36 * 256 + r.val; rw [h, Nat.one_mul]
  | ⟨1, _⟩ => show win0_2.index t (1 : Fin 2) * 1408 + 1 * d.val = t.val / 36 * 1408 + d.val; rw [h', Nat.one_mul]

theorem blk0 (c : Dev nD) (t : Fin cfg0.N) (r : Fin 256) (k : Fin 1024) :
    iblk m c 0 t (ix2 r k) = V m c main_arg0 (ix2 (rowOf (rowPt t) r) k) := congrArg (V m c main_arg0) (emb0 t r k)

theorem blk1 (c : Dev nD) (t : Fin cfg0.N) (z : Fin 1) (j : Fin 8) (k : Fin 1024) :
    iblk m c 1 t (ix3 z j k) = V m c main_arg1 (ix3 (rowPt t) j k) := congrArg (V m c main_arg1) (emb1 t z j k)

theorem blk2 (c : Dev nD) (t : Fin cfg0.N) (r : Fin 256) (d : Fin 1408) :
    iblk m c 2 t (ix2 r d) = V m c main_arg2 (ix2 (rowOf (rowPt t) r) (colOf (colPt t) d)) :=
  congrArg (V m c main_arg2) (emb2 t r d)

/-- What point `t` adds to its block is its tile's part. -/
theorem adds (c : Dev nD) (t : Fin cfg0.N) (acc : Vec Ideal S1024x1408 .f32) (k : Fin 1024) (d : Fin 1408) :
    k0_pay2 (iblk m c 1 t) (iblk m c 0 t) acc (iblk m c 2 t) (ix2 k d)
      = (acc (ix2 k d) + part (V m c main_arg0) (V m c main_arg1) (V m c main_arg2) k (colOf (colPt t) d) (rowPt t) : EReal) := by
  refine (pay2_eq _ _ _ _ k d).trans (congrArg (fun b : EReal => acc (ix2 k d) + b) ?_)
  refine Finset.sum_congr rfl fun r _ => congrArg₂ (fun a b : EReal => a * b) ?_ (blk2 m c t r d)
  rw [blk0, blk1, blk1]
  exact (modded_row _ _ _ _ (rowPt t) r k).symm

/-- The same of the parts, numbered by the naturals. -/
def partN (c : Dev nD) (k : Fin 1024) (d : Fin 5632) (n : ℕ) : EReal :=
  if h : n < 36 then part (V m c main_arg0) (V m c main_arg1) (V m c main_arg2) k d ⟨n, h⟩ else 0

theorem part_at (c : Dev nD) (k : Fin 1024) (d : Fin 1408) (q : Fin 4) (j : ℕ) (hj : j < 36) (h : 36 * q.val + j < cfg0.N) :
    part (V m c main_arg0) (V m c main_arg1) (V m c main_arg2) k (colOf (colPt ⟨36 * q.val + j, h⟩) d) (rowPt ⟨36 * q.val + j, h⟩)
      = partN m c k (colOf q d) j := by
  unfold partN
  rw [dif_pos hj]
  congr 2
  · exact Fin.ext (show (36 * q.val + j) / 36 = q.val by omega)
  · exact Fin.ext (show (36 * q.val + j) % 36 = j by omega)

/-- A run's block after `j + 1` of its points, at an entry: the sum of their parts. -/
theorem acc_eq (c : Dev nD) (k : Fin 1024) (d : Fin 1408) (q : Fin 4) (j : ℕ) (hj : j < 36) (h : 36 * q.val + j < cfg0.N) :
    Pipeline.accAt (reset3 m c) (step3 m c) (36 * q.val) j h (ix2 k d)
      = (∑ n ∈ Finset.range (j + 1), partN m c k (colOf q d) n : EReal) := by
  induction j with
  | zero =>
    refine (adds m c ⟨36 * q.val + 0, h⟩ _ k d).trans ?_
    refine (congrArg₂ (fun a b : EReal => a + b) (pay1_eq k d) (part_at m c k d q 0 hj h)).trans ?_
    rw [zero_add, Finset.sum_range_one]
  | succ j ih =>
    refine (adds m c ⟨36 * q.val + (j + 1), h⟩ _ k d).trans ?_
    refine (congrArg₂ (fun a b : EReal => a + b) (ih (by omega) (Nat.lt_of_succ_lt h)) (part_at m c k d q (j + 1) hj h)).trans ?_
    exact (Finset.sum_range_succ _ (j + 1)).symm

/-- A whole run's block is the gradient there. -/
theorem run_eq (c : Dev nD) (k : Fin 1024) (d : Fin 1408) (q : Fin 4) (h : 36 * q.val + 35 < cfg0.N) :
    Pipeline.accAt (reset3 m c) (step3 m c) (36 * q.val) 35 h (ix2 k d)
      = gradW (V m c main_arg0) (V m c main_arg1) (V m c main_arg2) (ix2 k (colOf q d)) := by
  rw [acc_eq m c k d q 35 (by decide) h, Finset.sum_range]
  refine Eq.trans (Finset.sum_congr rfl fun t _ => ?_) (sum_tiles fun a =>
    modded (V m c main_arg0) (V m c main_arg1) 4 3 a k * V m c main_arg2 (ix2 a (colOf q d)))
  exact dif_pos t.isLt

theorem final_eq (c : Dev nD) : G3 m c = gradW (V m c main_arg0) (V m c main_arg1) (V m c main_arg2) := by
  refine funext fun i => ?_
  obtain ⟨k, e, rfl⟩ : ∃ (k : Fin 1024) (e : Fin 5632), i = ix2 k e := ⟨i 0, i 1, eq_ix2 i⟩
  obtain ⟨q, d, rfl⟩ : ∃ (q : Fin 4) (d : Fin 1408), e = colOf q d :=
    ⟨⟨e.val / 1408, by omega⟩, ⟨e.val % 1408, by omega⟩, Fin.ext (show e.val = e.val / 1408 * 1408 + e.val % 1408 by omega)⟩
  have hq : run3Of (ix2 k (colOf q d)) = q.val := by
    have hk : k.val / 1024 = 0 := by omega
    have hd : (q.val * 1408 + d.val) / 1408 = q.val := by omega
    show 4 * (k.val / 1024 - 0) + 1 * ((q.val * 1408 + d.val) / 1408 - 0) = q.val
    omega
  have hl : loc3Of (ix2 k (colOf q d)) = ix2 k d := by
    refine funext fun a => Fin.ext ?_
    match a with
    | ⟨0, _⟩ => show k.val % 1024 = k.val; omega
    | ⟨1, _⟩ => show (q.val * 1408 + d.val) % 1408 = d.val; omega
  have hN : 36 * q.val + 35 < cfg0.N := lt_of_lt_of_eq (by omega : 36 * q.val + 35 < 144) N_0.symm
  unfold G3
  rw [dif_pos (by rw [hq]; exact hN), hl]
  have e : ∀ (b b' : ℕ) (h : b + 35 < cfg0.N) (h' : b' + 35 < cfg0.N), b = b' →
      Pipeline.accAt (reset3 m c) (step3 m c) b 35 h = Pipeline.accAt (reset3 m c) (step3 m c) b' 35 h' := by
    intro b b' h h' hb; subst hb; rfl
  exact (congrFun (e _ _ _ hN (by rw [hq])) _).trans (run_eq m c k d q hN)

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = gradW (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Cert.UpGradIdeal.Value.run m ρ)
  obtain ⟨h3, hk⟩ := h c
  refine ⟨h3.trans ?_, hk⟩
  rw [final_eq, V_main_arg0, V_main_arg1, V_main_arg2]

section Host

open Cert.UpGradRefIdeal.Facts₀

theorem host_dot (h : Vec Ideal S9216x1024 .f32) (p : Vec Ideal S9216x5632 .bf16) (k : Fin 1024) (d : Fin 5632) :
    Host.dotGeneral (F := Ideal) (φ₁ := .f32) (φ₂ := .f32) Cert.UpGradRefIdeal.dot_S1024x9216_S9216x5632_S1024x5632_1_0_0_1_n_n none
        (transpose Cert.UpGradRefIdeal.S1024x9216 [1, 0] h transposes_S9216x1024_S1024x9216_1_0)
        (extf .f32 p Cert.UpGradRefIdeal.Facts₀.bitsLt_bf16_f32) (ix2 k d)
      = (∑ a : Fin 9216, (h (ix2 a k) : EReal) * p (ix2 a d) : EReal) := by
  pointwise

theorem host_gradW (x : Vec Ideal S9216x1024 .f32) (mod : Vec Ideal S36x8x1024 .f32) (p : Vec Ideal S9216x5632 .bf16) :
    Host.dotGeneral (F := Ideal) (φ₁ := .f32) (φ₂ := .f32) Cert.UpGradRefIdeal.dot_S1024x9216_S9216x5632_S1024x5632_1_0_0_1_n_n none
        (transpose Cert.UpGradRefIdeal.S1024x9216 [1, 0] (modRows x mod) transposes_S9216x1024_S1024x9216_1_0)
        (extf .f32 p Cert.UpGradRefIdeal.Facts₀.bitsLt_bf16_f32) = gradW x mod p := by
  refine funext fun i => ?_
  obtain ⟨k, d, rfl⟩ : ∃ (k : Fin 1024) (d : Fin 5632), i = ix2 k d := ⟨i 0, i 1, eq_ix2 i⟩
  refine (host_dot (modRows x mod) p k d).trans ?_
  exact Finset.sum_congr rfl fun a _ => congrArg (fun b : EReal => b * p (ix2 a d)) (modRows_at x mod a k)

end Host

/-- With equal arguments the call and its reference end with equal results. -/
theorem meets : Cert.algebraic_UpGradIdeal_UpGradRefIdeal := fun m g m' g' _ hw =>
  ⟨fun c => gradW (m ((c : Thread nD τ).loc main_arg0)) (m ((c : Thread nD τ).loc main_arg1)) (m ((c : Thread nD τ).loc main_arg2)),
    run m g,
    (θ_run Cert.UpGradRefIdeal.defs _ _).mono (fun r h c => by
      obtain ⟨h0, hk⟩ := h c
      obtain ⟨e0, e1, e2⟩ := hw c
      refine ⟨h0.trans ?_, hk⟩
      rw [e0, e1, e2]
      exact host_gradW _ _ _)
      (Cert.UpGradRefIdeal.Value.run (F := Ideal) m' g')⟩

end Cert.FfnUpGrad

end
-- ==== Proof.FfnUpDx.lean ====
/-
  The gradient of the feed-forward layer's input: the upward projection's cotangent times its transposed weight, taken back
  through the modulation, in 36 tiles of 256 rows, and the gradient of each tile's modulation. The call and its reference end
  with the same arrays over the extended reals.
-/
module

public import proofs.«01_k».proof.Proof.Gen.UpInputGradIdeal.Value
public import proofs.«01_k».proof.Proof.InputGrad
public import proofs.«01_k».proof.Proof.Adam
public import proofs.«01_k».proof.Defs
public import proofs.«01_k».proof.Proof.Gen.UpInputGradRefIdeal.Run
public import Idealize.ShloMosaic.Lib.Pointwise.Reduce
public import Idealize.ShloMosaic.Lib.Pointwise
public import Idealize.ShloMosaic.Lib.Claim

@[expose] public section

set_option maxRecDepth 16384

noncomputable section

namespace Cert.FfnUpDx

open Cert.UpInputGradIdeal Cert.UpInputGradIdeal.Gen Cert.UpInputGradIdeal.Value Idealize.ShloMosaic Idealize.ShloMosaic.TcCoe Idealize.SL.Sem

open Cert.Adam (hz)

open Cert.DxProj (hz3 rowOf tileOf tile_row row_tile)

/-- The gradient of the modulated input, at a row and a column. -/
def back (p : Vec Ideal S9216x5632 .bf16) (w : Vec Ideal S5632x1024 .bf16) (r : Fin 9216) (d : Fin 1024) : EReal :=
  ∑ k : Fin 5632, (p (ix2 r k) : EReal) * w (ix2 k d)

/-- The gradient of the input. -/
def gradX (p : Vec Ideal S9216x5632 .bf16) (w : Vec Ideal S5632x1024 .bf16) (mod : Vec Ideal S36x8x1024 .f32)
    (add : Vec Ideal S9216x1024 .f32) : Vec Ideal S9216x1024 .f32 := fun i =>
  ((add i : EReal) + back p w (i 0) (i 1) * (1 + mod (ix3 (tileOf (i 0)) 4 (i 1))) : EReal)

/-- The gradient of the modulation: three rows of zeros, each tile's shift, its scale, three rows of zeros. -/
def gradMod (p : Vec Ideal S9216x5632 .bf16) (w : Vec Ideal S5632x1024 .bf16) (x : Vec Ideal S9216x1024 .f32) :
    Vec Ideal S36x8x1024 .f32 := fun j =>
  (if (j 1).val = 3 then ∑ r : Fin 256, back p w (rowOf (j 0) r) (j 2)
    else if (j 1).val = 4 then ∑ r : Fin 256, back p w (rowOf (j 0) r) (j 2) * x (ix2 (rowOf (j 0) r) (j 2))
    else 0 : EReal)

variable (x0 : Vec Ideal S256x5632 .bf16) (x1 : Vec Ideal S5632x1024 .bf16) (x2 : Vec Ideal S256x1024 .f32)
  (x3 : Vec Ideal S1x8x1024 .f32) (x4 : Vec Ideal S256x1024 .f32)

theorem dot_eq (y : S256x1024.Idx) : k0_pay2 x0 x1 y = (∑ k : Fin 5632, (x0 (ix2 (y 0) k) : EReal) * x1 (ix2 k (y 1)) : EReal) := by
  idx_vars y
  pointwise [k0_pay2]

/-- A load of a whole block is the block. -/
theorem whole0 : View.ld x0 r0_0 = x0 := by rw [View.ld_unit_zero hz]

theorem whole1 : View.ld x1 r0_1 = x1 := by rw [View.ld_unit_zero hz]

theorem whole2 : View.ld x3 r0_2 = x3 := by rw [View.ld_unit_zero hz3]

theorem whole3 : View.ld x2 r0_3 = x2 := by rw [View.ld_unit_zero hz]

/-- A tile of the input's gradient, at an entry. -/
theorem out5_eq (r : Fin 256) (d : Fin 1024) :
    out0_5 x0 x1 x2 x3 x4 (ix2 r d) = (x4 (ix2 r d) + k0_pay2 x0 x1 (ix2 r d) * (1 + x3 (ix3 0 4 d)) : EReal) := by
  unfold out0_5
  rw [View.canon_unit_zero hz, whole0, whole1, whole2, whole3]
  pointwise [k0_pay3]

/-- A tile's gradient of its modulation, at an entry. -/
theorem out6_eq (z : Fin 1) (j : Fin 8) (d : Fin 1024) :
    out0_6 x0 x1 x2 x3 x4 (ix3 z j d) = (if j.val = 3 then ∑ r : Fin 256, (k0_pay2 x0 x1 (ix2 r d) : EReal)
      else if j.val = 4 then ∑ r : Fin 256, (k0_pay2 x0 x1 (ix2 r d) : EReal) * x2 (ix2 r d) else 0 : EReal) := by
  unfold out0_6
  rw [View.canon_unit_zero hz3, whole0, whole1, whole3]
  pointwise [k0_pay1, k0_pay4]
  fin_cases j <;> simp [Scalar.select, IntOp.cmpi]

variable (m : (ℓ : Loc nD τ sig) → Buf (Elt Ideal) ℓ) (ρ : Dev nD → PrngReg)

/-- Point `t`'s blocks are the `t`-th groups of 256 rows, the whole weight, and the `t`-th modulation. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

theorem emb0 (t : Fin cfg0.N) (r : Fin 256) (k : Fin 5632) :
    ((cfg0.win 0).blk t).view.emb (ix2 r k) = (ix2 (rowOf t r) k : S9216x5632.Idx) := by
  obtain ⟨⟨h, h'⟩, -⟩ := idx_facts t
  refine funext fun a => Fin.ext ?_
  match a with
  | ⟨0, _⟩ => show win0_0.index t (0 : Fin 2) * 256 + 1 * r.val = t.val * 256 + r.val; rw [h, Nat.one_mul]
  | ⟨1, _⟩ => show win0_0.index t (1 : Fin 2) * 5632 + 1 * k.val = k.val; rw [h']; omega

theorem emb1 (t : Fin cfg0.N) (k : Fin 5632) (d : Fin 1024) :
    ((cfg0.win 1).blk t).view.emb (ix2 k d) = (ix2 k d : S5632x1024.Idx) := by
  obtain ⟨-, ⟨h, h'⟩, -⟩ := idx_facts t
  refine funext fun a => Fin.ext ?_
  match a with
  | ⟨0, _⟩ => show win0_1.index t (0 : Fin 2) * 5632 + 1 * k.val = k.val; rw [h]; omega
  | ⟨1, _⟩ => show win0_1.index t (1 : Fin 2) * 1024 + 1 * d.val = d.val; rw [h']; omega

theorem emb2 (t : Fin cfg0.N) (r : Fin 256) (d : Fin 1024) :
    ((cfg0.win 2).blk t).view.emb (ix2 r d) = (ix2 (rowOf t r) d : S9216x1024.Idx) := by
  obtain ⟨-, -, ⟨h, h'⟩, -⟩ := idx_facts t
  refine funext fun a => Fin.ext ?_
  match a with
  | ⟨0, _⟩ => show win0_2.index t (0 : Fin 2) * 256 + 1 * r.val = t.val * 256 + r.val; rw [h, Nat.one_mul]
  | ⟨1, _⟩ => show win0_2.index t (1 : Fin 2) * 1024 + 1 * d.val = d.val; rw [h']; omega

theorem emb3 (t : Fin cfg0.N) (z : Fin 1) (j : Fin 8) (d : Fin 1024) :
    ((cfg0.win 3).blk t).view.emb (ix3 z j d) = (ix3 t j d : S36x8x1024.Idx) := by
  obtain ⟨-, -, -, h, h', h''⟩ := idx_facts t
  refine funext fun a => Fin.ext ?_
  match a with
  | ⟨0, _⟩ => show win0_3.index t (0 : Fin 3) * 1 + 1 * z.val = t.val; rw [h]; omega
  | ⟨1, _⟩ => show win0_3.index t (1 : Fin 3) * 8 + 1 * j.val = j.val; rw [h']; omega
  | ⟨2, _⟩ => show win0_3.index t (2 : Fin 3) * 1024 + 1 * d.val = d.val; rw [h'']; omega

/-- A block of the product is the product's rows there. -/
theorem dot_blk (c : Dev nD) (t : Fin cfg0.N) (r : Fin 256) (d : Fin 1024) :
    k0_pay2 (iblk m c 0 t) (iblk m c 1 t) (ix2 r d) = back (V m c main_arg0) (V m c main_arg1) (rowOf t r) d :=
  (dot_eq _ _ _).trans <| Finset.sum_congr rfl fun k _ => congrArg₂ (fun a b : EReal => a * b)
    (congrArg (V m c main_arg0) (emb0 t r k)) (congrArg (V m c main_arg1) (emb1 t k d))

theorem blk2 (c : Dev nD) (t : Fin cfg0.N) (r : Fin 256) (d : Fin 1024) :
    iblk m c 2 t (ix2 r d) = V m c main_arg2 (ix2 (rowOf t r) d) := congrArg (V m c main_arg2) (emb2 t r d)

theorem blk3 (c : Dev nD) (t : Fin cfg0.N) (z : Fin 1) (j : Fin 8) (d : Fin 1024) :
    iblk m c 3 t (ix3 z j d) = V m c main_arg3 (ix3 t j d) := congrArg (V m c main_arg3) (emb3 t z j d)

theorem blk4 (c : Dev nD) (t : Fin cfg0.N) (r : Fin 256) (d : Fin 1024) :
    iblk m c 4 t (ix2 r d) = V m c main_arg4 (ix2 (rowOf t r) d) := congrArg (V m c main_arg4) (emb2 t r d)

theorem gradX_at (p : Vec Ideal S9216x5632 .bf16) (w : Vec Ideal S5632x1024 .bf16) (mod : Vec Ideal S36x8x1024 .f32)
    (add : Vec Ideal S9216x1024 .f32) (t : Fin 36) (r : Fin 256) (d : Fin 1024) :
    gradX p w mod add (ix2 (rowOf t r) d)
      = (add (ix2 (rowOf t r) d) + back p w (rowOf t r) d * (1 + mod (ix3 t 4 d)) : EReal) := by
  show (_ + _ * (1 + mod (ix3 (tileOf (rowOf t r)) 4 d)) : EReal) = _
  rw [tile_row]; rfl

theorem flushed5_eq (c : Dev nD) (t : Fin cfg0.N) :
    (dats m 0 c).flushed 5 t = ((cfg0.win 5).blk t).view.read (Elt Ideal)
      (gradX (V m c main_arg0) (V m c main_arg1) (V m c main_arg3) (V m c main_arg4)) := by
  rw [flushed5]
  refine funext fun y => ?_
  obtain ⟨r, d, rfl⟩ : ∃ (r : Fin 256) (d : Fin 1024), y = ix2 r d := ⟨y 0, y 1, eq_ix2 y⟩
  refine (out5_eq _ _ _ _ _ r d).trans (Eq.trans ?_ (congrArg (gradX _ _ _ _) (emb2 t r d).symm))
  rw [dot_blk, blk3, blk4]
  exact (gradX_at _ _ _ _ t r d).symm

theorem flushed6_eq (c : Dev nD) (t : Fin cfg0.N) :
    (dats m 0 c).flushed 6 t = ((cfg0.win 6).blk t).view.read (Elt Ideal)
      (gradMod (V m c main_arg0) (V m c main_arg1) (V m c main_arg2)) := by
  rw [flushed6]
  refine funext fun y => ?_
  obtain ⟨z, j, d, rfl⟩ : ∃ (z : Fin 1) (j : Fin 8) (d : Fin 1024), y = ix3 z j d := ⟨y 0, y 1, y 2, eq_ix3 y⟩
  refine (out6_eq _ _ _ _ _ z j d).trans (Eq.trans ?_ (congrArg (gradMod _ _ _) (emb3 t z j d).symm))
  simp only [dot_blk, blk2]
  rfl

/-- Every row is in some tile. -/
theorem mem5 (i : S9216x1024.Idx) : ∃ t : Fin cfg0.N, i ∈ ((cfg0.win 5).blk t).view.set := by
  obtain ⟨a, d, rfl⟩ : ∃ (a : Fin 9216) (d : Fin 1024), i = ix2 a d := ⟨i 0, i 1, eq_ix2 i⟩
  have h := ((cfg0.win 5).blk (tileOf a)).view.emb_mem_set (ix2 (⟨a.val % 256, by omega⟩ : Fin 256) d)
  rw [show ((cfg0.win 5).blk (tileOf a)).view.emb (ix2 (⟨a.val % 256, by omega⟩ : Fin 256) d) = ix2 a d from
    (emb2 (tileOf a) _ d).trans (congrArg (fun a => ix2 a d) (Fin.ext (show a.val / 256 * 256 + a.val % 256 = a.val by omega)))] at h
  exact ⟨tileOf a, h⟩

/-- Every modulation is some tile's. -/
theorem mem6 (i : S36x8x1024.Idx) : ∃ t : Fin cfg0.N, i ∈ ((cfg0.win 6).blk t).view.set := by
  obtain ⟨t, j, d, rfl⟩ : ∃ (t : Fin 36) (j : Fin 8) (d : Fin 1024), i = ix3 t j d := ⟨i 0, i 1, i 2, eq_ix3 i⟩
  have h := ((cfg0.win 6).blk t).view.emb_mem_set (ix3 (0 : Fin 1) j d)
  rw [show ((cfg0.win 6).blk t).view.emb (ix3 (0 : Fin 1) j d) = ix3 t j d from emb3 t 0 j d] at h
  exact ⟨t, h⟩

/-- The call ends with its two results at these functions of its arguments, and the arguments unchanged. -/
theorem run : θ_run defs (onTc (τ := τ) (main (F := Ideal))) ⟨m, fun _ => 0, ρ⟩ fun r => ∀ c : Dev nD,
      r.2.mem ((c : Thread nD τ).loc main_v0_0) = gradX (m ((c : Thread nD τ).loc main_arg0))
          (m ((c : Thread nD τ).loc main_arg1)) (m ((c : Thread nD τ).loc main_arg3)) (m ((c : Thread nD τ).loc main_arg4))
      ∧ r.2.mem ((c : Thread nD τ).loc main_v0_1) = gradMod (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_blocks m ρ)
  obtain ⟨h5, h6, hk⟩ := h c
  refine ⟨h5.trans ?_, h6.trans ?_, hk⟩
  · rw [(dats m 0 c).arrAt_eq_of_cover 5 _ (fun t _ => flushed5_eq m c t)
        fun i => (mem5 i).imp fun t h => ⟨flush0_5 t, h⟩, V_main_arg0, V_main_arg1, V_main_arg3, V_main_arg4]
  · rw [(dats m 0 c).arrAt_eq_of_cover 6 _ (fun t _ => flushed6_eq m c t)
        fun i => (mem6 i).imp fun t h => ⟨flush0_6 t, h⟩, V_main_arg0, V_main_arg1, V_main_arg2]

/-- The product, as the reference writes it. -/
theorem host_dot (p : Vec Ideal S9216x5632 .bf16) (w : Vec Ideal S5632x1024 .bf16) :
    Host.dotGeneral (F := Ideal) Cert.UpInputGradRefIdeal.dot_S9216x5632_S5632x1024_S9216x1024_1_0_0_1_n_n none
      (extf .f32 p Cert.UpInputGradRefIdeal.Facts₀.bitsLt_bf16_f32) (extf .f32 w Cert.UpInputGradRefIdeal.Facts₀.bitsLt_bf16_f32)
      = fun i : S9216x1024.Idx => back p w (i 0) (i 1) := by
  refine funext fun i => ?_
  idx_vars i
  pointwise [back]

section Host

open Cert.UpInputGradRefIdeal (S36x256x1024 S36x1x1024 S36x3x1024 S36x1024 S_)
open Cert.UpInputGradRefIdeal.Facts₀

variable (x : Vec Ideal S9216x1024 .f32)

/-- An array in tiles. -/
abbrev tiled : Vec Ideal S36x256x1024 .f32 := shapeCast S36x256x1024 x shapeCasts_S9216x1024_S36x256x1024

theorem tiled_at (t : Fin 36) (r : Fin 256) (d : Fin 1024) : tiled x (ix3 t r d) = x (ix2 (rowOf t r) d) := by
  pointwise [rowOf]

theorem rows_at (y : Vec Ideal S36x256x1024 .f32) (a : Fin 9216) (d : Fin 1024) :
    shapeCast S9216x1024 y shapeCasts_S36x256x1024_S9216x1024 (ix2 a d)
      = y (ix3 (tileOf a) ⟨a.val % 256, by omega⟩ d) := by
  pointwise [tileOf]

/-- One more than the scales, as the reference writes it. -/
abbrev scales (mod : Vec Ideal S36x8x1024 .f32) : Vec Ideal S36x256x1024 .f32 :=
  broadcastInDim S36x256x1024 ![0, 1, 2] bcast_S36x1x1024_S36x256x1024_0_1_2
    (addf (F := Ideal) (φ := .f32) (broadcastInDim S36x1x1024 ![] bcast_S_S36x1x1024 (constant (F := Ideal) S_ .f32 0x3F800000#32))
      (extractStridedSlice S36x1x1024 ![0, 4, 0] mod slices_S36x8x1024_S36x1x1024_0_4_0))

theorem scales_at (mod : Vec Ideal S36x8x1024 .f32) (t : Fin 36) (r : Fin 256) (d : Fin 1024) :
    scales mod (ix3 t r d) = (1 + mod (ix3 t 4 d) : EReal) := by
  pointwise

/-- A sum over each tile's rows, as the reference writes it. -/
abbrev tileSum (y : Vec Ideal S36x256x1024 .f32) : Vec Ideal S36x1x1024 .f32 :=
  broadcastInDim S36x1x1024 ![0, 2] bcast_S36x1024_S36x1x1024_0_2
    (Host.reduceAdd y (constant (F := Ideal) S_ .f32 0x00000000#32) reducesTo_S36x256x1024_S36x1024_d1 h_S_)

theorem tileSum_at (y : Vec Ideal S36x256x1024 .f32) (t : Fin 36) (z : Fin 1) (d : Fin 1024) :
    tileSum y (ix3 t z d) = (∑ r : Fin 256, (y (ix3 t r d) : EReal) : EReal) := by
  pointwise

/-- The pieces of the modulation's gradient, one after another. -/
theorem pieces_at (u v : Vec Ideal S36x1x1024 .f32) (t : Fin 36) (j : Fin 8) (d : Fin 1024) :
    concatenate S36x8x1024 1 [⟨S36x3x1024, broadcastInDim S36x3x1024 ![] bcast_S_S36x3x1024 (constant (F := Ideal) S_ .f32 0x00000000#32)⟩,
        ⟨S36x1x1024, u⟩, ⟨S36x1x1024, v⟩,
        ⟨S36x3x1024, broadcastInDim S36x3x1024 ![] bcast_S_S36x3x1024 (constant (F := Ideal) S_ .f32 0x00000000#32)⟩]
        concatenates_S36x3x1024_S36x1x1024_S36x1x1024_S36x3x1024_S36x8x1024_d1 (ix3 t j d)
      = (if j.val = 3 then u (ix3 t 0 d) else if j.val = 4 then v (ix3 t 0 d) else 0 : EReal) := by
  pointwise
  fin_cases j <;> rfl

theorem host_gradX (p : Vec Ideal S9216x5632 .bf16) (w : Vec Ideal S5632x1024 .bf16) (mod : Vec Ideal S36x8x1024 .f32) :
    shapeCast S9216x1024 (addf (F := Ideal) (φ := .f32) (tiled x) (mulf (F := Ideal) (φ := .f32) (tiled fun i => back p w (i 0) (i 1)) (scales mod)))
      shapeCasts_S36x256x1024_S9216x1024 = gradX p w mod x := by
  refine funext fun i => ?_
  obtain ⟨a, d, rfl⟩ : ∃ (a : Fin 9216) (d : Fin 1024), i = ix2 a d := ⟨i 0, i 1, eq_ix2 i⟩
  rw [rows_at]
  show (tiled _ _ + tiled _ _ * scales mod _ : EReal) = _
  rw [tiled_at, tiled_at, scales_at, row_tile]
  rfl

theorem host_gradMod (p : Vec Ideal S9216x5632 .bf16) (w : Vec Ideal S5632x1024 .bf16) :
    concatenate S36x8x1024 1 [⟨S36x3x1024, broadcastInDim S36x3x1024 ![] bcast_S_S36x3x1024 (constant (F := Ideal) S_ .f32 0x00000000#32)⟩,
        ⟨S36x1x1024, tileSum (tiled fun i => back p w (i 0) (i 1))⟩,
        ⟨S36x1x1024, tileSum (mulf (F := Ideal) (φ := .f32) (tiled fun i => back p w (i 0) (i 1)) (tiled x))⟩,
        ⟨S36x3x1024, broadcastInDim S36x3x1024 ![] bcast_S_S36x3x1024 (constant (F := Ideal) S_ .f32 0x00000000#32)⟩]
        concatenates_S36x3x1024_S36x1x1024_S36x1x1024_S36x3x1024_S36x8x1024_d1 = gradMod p w x := by
  refine funext fun i => ?_
  obtain ⟨t, j, d, rfl⟩ : ∃ (t : Fin 36) (j : Fin 8) (d : Fin 1024), i = ix3 t j d := ⟨i 0, i 1, i 2, eq_ix3 i⟩
  rw [pieces_at, tileSum_at, tileSum_at]
  exact congrArg₂ (fun a b : EReal => if j.val = 3 then a else if j.val = 4 then b else 0)
    (Finset.sum_congr rfl fun r _ => tiled_at _ t r d)
    (Finset.sum_congr rfl fun r _ => congrArg₂ (fun a b : EReal => a * b) (tiled_at _ t r d) (tiled_at x t r d))

end Host

/-- With equal arguments the call and its reference end with equal results. -/
theorem meets : Cert.algebraic_UpInputGradIdeal_UpInputGradRefIdeal := fun m g m' g' _ hw =>
  ⟨fun c => gradX (m ((c : Thread nD τ).loc main_arg0)) (m ((c : Thread nD τ).loc main_arg1))
      (m ((c : Thread nD τ).loc main_arg3)) (m ((c : Thread nD τ).loc main_arg4)),
    fun c => gradMod (m ((c : Thread nD τ).loc main_arg0)) (m ((c : Thread nD τ).loc main_arg1))
      (m ((c : Thread nD τ).loc main_arg2)),
    run m g,
    (θ_run Cert.UpInputGradRefIdeal.defs _ _).mono (fun r h c => by
      obtain ⟨h0, h1, hk⟩ := h c
      obtain ⟨e0, e1, e2, e3, e4⟩ := hw c
      refine ⟨h0.trans ?_, h1.trans ?_, hk⟩
      · rw [e0, e1, e3, e4, host_dot]
        exact host_gradX _ _ _ _
      · rw [e0, e1, e2, host_dot]
        exact host_gradMod _ _ _)
      (Cert.UpInputGradRefIdeal.Value.run (F := Ideal) m' g')⟩

end Cert.FfnUpDx

end
-- ==== Proof.Attend.lean ====
/-
  The attention of the context and of the rest: for each of four sequences and eight heads, the softmax of the queries' products
  with the keys, applied to the values. The first 256 queries of a sequence see its first 256 keys, the others see all 2304.
  The call and its reference end with the same array over the extended reals.
-/
module

public import proofs.«01_k».proof.Proof.Gen.AttentionIdeal.Value
public import proofs.«01_k».proof.Proof.Adam
public import proofs.«01_k».proof.Defs
public import proofs.«01_k».proof.Proof.Gen.AttentionRefIdeal.Run
public import Idealize.ShloMosaic.Lib.Pointwise.Reduce
public import Idealize.ShloMosaic.Lib.Pointwise
public import Idealize.ShloMosaic.Lib.Claim

@[expose] public section

set_option maxRecDepth 16384

noncomputable section

namespace Cert.Attend

open Cert.AttentionIdeal Cert.AttentionIdeal.Gen Cert.AttentionIdeal.Value Idealize.ShloMosaic Idealize.ShloMosaic.TcCoe Idealize.SL.Sem

open Cert.Adam (hz)

/-- A score's weight: the exponential of its distance below the largest. -/
def weight {n : ℕ} (s : Fin n → EReal) (j : Fin n) : EReal :=
  Ideal.exp (s j - Finset.univ.fold max (Ideal.ofBits .f32 0xFF800000#32) s)

/-- One query's weighted mean of the values, in one column. -/
def attend {n : ℕ} (q : Fin 128 → EReal) (k : Fin n → Fin 128 → EReal) (v : Fin n → EReal) : EReal :=
  Ideal.div (∑ j, weight (fun j => ∑ c, q c * k j c) j * v j) (∑ j, weight (fun j => ∑ c, q c * k j c) j)

/-- The sequence of a row. -/
def seqOf (a : Fin 9216) : Fin 4 := ⟨a.val / 2304, by omega⟩

/-- Row `p` of sequence `b`. -/
def rowIn (b : Fin 4) (p : Fin 2304) : Fin 9216 := ⟨b.val * 2304 + p.val, by omega⟩

/-- One of the first 256 rows of a sequence, among all of them. -/
def early (p : Fin 256) : Fin 2304 := ⟨p.val, by omega⟩

/-- Entry `c` of the query or key of an output column's head. -/
def headCol (d : Fin 512) (c : Fin 128) : Fin 1024 := ⟨d.val / 64 * 128 + c.val, by omega⟩

/-! ## The softmax -/

/-- One query's mean of the values in one column, weighted by the softmax of its scores. -/
def softAttend {n : ℕ} (q : Fin 128 → EReal) (k : Fin n → Fin 128 → EReal) (v : Fin n → EReal) : EReal :=
  ∑ j, v j * Ideal.div (weight (fun j => ∑ c, q c * k j c) j) (∑ j, weight (fun j => ∑ c, q c * k j c) j)

theorem soft_congr {n : ℕ} {q q' : Fin 128 → EReal} {k k' : Fin n → Fin 128 → EReal} {v v' : Fin n → EReal}
    (hq : ∀ c, q c = q' c) (hk : ∀ j c, k j c = k' j c) (hv : ∀ j, v j = v' j) : softAttend q k v = softAttend q' k' v' := by
  rw [funext hq, funext fun j => funext (hk j), funext hv]

/-- A finite extended real. -/
def Finite (x : EReal) : Prop := ∃ r : ℝ, x = r

theorem negInf_eq : (Ideal.ofBits .f32 0xFF800000#32 : EReal) = ⊥ := by
  simp [Ideal.ofBits, Ideal.ieee]

theorem posInf_eq : (Ideal.ofBits .f32 0x7F800000#32 : EReal) = ⊤ := by
  simp [Ideal.ofBits, Ideal.ieee]

theorem finite_of_abs_lt {x : EReal} (h : max x (-x) < ⊤) : Finite x := by
  induction x with
  | bot => exact absurd h (by simp)
  | top => exact absurd h (by simp)
  | coe r => exact ⟨r, rfl⟩

theorem Finite.mul {x y : EReal} : Finite x → Finite y → Finite (x * y) := by
  rintro ⟨a, rfl⟩ ⟨b, rfl⟩
  exact ⟨a * b, (EReal.coe_mul a b).symm⟩

theorem finite_sum {ι : Type} (t : Finset ι) (f : ι → EReal) (h : ∀ i, Finite (f i)) : Finite (∑ i ∈ t, f i) := by
  classical
  induction t using Finset.induction_on with
  | empty => exact ⟨0, by simp⟩
  | insert a t ha ih =>
    obtain ⟨x, hx⟩ := h a
    obtain ⟨y, hy⟩ := ih
    exact ⟨x + y, by rw [Finset.sum_insert ha, hx, hy, EReal.coe_add]⟩

theorem finite_max {ι : Type} (t : Finset ι) (ht : t.Nonempty) (f : ι → EReal) (h : ∀ i, Finite (f i)) :
    Finite (t.fold max (Ideal.ofBits .f32 0xFF800000#32) f) := by
  have hb : (Ideal.ofBits .f32 0xFF800000#32 : EReal) = ⊥ := negInf_eq
  rw [hb]
  classical
  induction ht using Finset.Nonempty.cons_induction with
  | singleton a => simpa using h a
  | cons a t ha ht ih =>
    obtain ⟨x, hx⟩ := h a
    obtain ⟨y, hy⟩ := ih
    exact ⟨max x y, by rw [Finset.fold_cons, hx, hy]; exact (EReal.coe_strictMono.monotone.map_max).symm⟩

/-- With finite scores every weight is a positive real. -/
theorem weight_pos {n : ℕ} (s : Fin n → EReal) (h : ∀ i, Finite (s i)) (j : Fin n) : ∃ r : ℝ, 0 < r ∧ weight s j = r := by
  obtain ⟨a, ha⟩ := h j
  obtain ⟨b, hb⟩ := finite_max Finset.univ ⟨j, Finset.mem_univ j⟩ s h
  refine ⟨Real.exp (a - b), Real.exp_pos _, ?_⟩
  unfold weight
  rw [hb, ha, ← EReal.coe_sub]
  rfl

theorem sum_pos_real {ι : Type} (t : Finset ι) (ht : t.Nonempty) (f : ι → EReal) (h : ∀ i, ∃ r : ℝ, 0 < r ∧ f i = r) :
    ∃ r : ℝ, 0 < r ∧ ∑ i ∈ t, f i = r := by
  classical
  induction ht using Finset.Nonempty.cons_induction with
  | singleton a => simpa using h a
  | cons a t ha ht ih =>
    obtain ⟨x, hx0, hx⟩ := h a
    obtain ⟨y, hy0, hy⟩ := ih
    exact ⟨x + y, add_pos hx0 hy0, by rw [Finset.sum_cons, hx, hy, EReal.coe_add]⟩

/-- Division by a positive real goes into a sum. -/
theorem div_sum {ι : Type} (t : Finset ι) (f : ι → EReal) {l : ℝ} (hl : 0 < l) :
    Ideal.div (∑ i ∈ t, f i) (l : EReal) = ∑ i ∈ t, Ideal.div (f i) (l : EReal) := by
  classical
  have hc : ∀ x : EReal, Ideal.div x (l : EReal) = ((1 / l : ℝ) : EReal) * x := fun x => by
    rw [Ideal.div_coe hl.ne', mul_comm]
  simp only [hc]
  induction t using Finset.induction_on with
  | empty => simp
  | insert a t ha ih =>
    rw [Finset.sum_insert ha, Finset.sum_insert ha, ← ih]
    exact EReal.left_distrib_of_nonneg_of_ne_top (EReal.coe_nonneg.mpr (one_div_pos.mpr hl).le) (EReal.coe_ne_top _) _ _

/-- With finite queries and keys the weighted mean is the mean by the softmax. -/
theorem soft_eq {n : ℕ} (q : Fin 128 → EReal) (k : Fin (n + 1) → Fin 128 → EReal) (v : Fin (n + 1) → EReal) (hq : ∀ c, Finite (q c))
    (hk : ∀ j c, Finite (k j c)) : softAttend q k v = attend q k v := by
  have hs : ∀ j, Finite (∑ c, q c * k j c) := fun j => finite_sum _ _ fun c => (hq c).mul (hk j c)
  obtain ⟨l, hl, he⟩ := sum_pos_real Finset.univ ⟨0, Finset.mem_univ _⟩ (weight fun j => ∑ c, q c * k j c) (weight_pos _ hs)
  unfold softAttend attend
  rw [he, div_sum _ _ hl]
  refine Finset.sum_congr rfl fun j _ => ?_
  rw [Ideal.div_coe hl.ne', Ideal.div_coe hl.ne']
  ac_rfl

section
variable (q k : Vec Ideal S9216x1024 .bf16) (v : Vec Ideal S9216x512 .bf16)

/-- A query's output over its sequence's first 256 keys. -/
def ctxAt (a : Fin 9216) (d : Fin 512) : EReal :=
  attend (fun c => q (ix2 a (headCol d c))) (fun (j : Fin 256) c => k (ix2 (rowIn (seqOf a) (early j)) (headCol d c)))
    (fun j => v (ix2 (rowIn (seqOf a) (early j)) d))

/-- A query's output over all of its sequence's keys. -/
def allAt (a : Fin 9216) (d : Fin 512) : EReal :=
  attend (fun c => q (ix2 a (headCol d c))) (fun (j : Fin 2304) c => k (ix2 (rowIn (seqOf a) j) (headCol d c)))
    (fun j => v (ix2 (rowIn (seqOf a) j) d))

/-- The attention's output. -/
def attention : Vec Ideal S9216x512 .f32 := fun i =>
  (if (i 0).val % 2304 < 256 then ctxAt q k v (i 0) (i 1) else allAt q k v (i 0) (i 1) : EReal)

end

/-! ## A block over 256 keys -/

/-- A block's scores. -/
abbrev scoresC (q : Vec Ideal S256x128 .bf16) (k : Vec Ideal S256x128 .bf16) : Vec Ideal S256x256 .f32 :=
  matmul (F := Ideal) (φ₁ := .bf16) (φ₂ := .bf16) dot_S256x128_S256x128_S256x256_1_1_0_0_n_n none q k (constant (F := Ideal) S256x256 .f32 0x00000000#32)

theorem scoresC_at (q : Vec Ideal S256x128 .bf16) (k : Vec Ideal S256x128 .bf16) (r : Fin 256) (j : Fin 256) :
    scoresC q k (ix2 r j) = (∑ c : Fin 128, q (ix2 r c) * k (ix2 j c) : EReal) := by
  pointwise

/-- A block's weights. -/
abbrev weightsC (s : Vec Ideal S256x256 .f32) : Vec Ideal S256x256 .f32 :=
  exp (F := Ideal) (φ := .f32) (subf (F := Ideal) (φ := .f32) s (broadcastTo S256x256 (shapeCast S256x1
    (multiReduction (F := Ideal) (φ := .f32) .maximumf [1] S256 s 0xFF800000#32 reduces_S256x256_S256 (.inl rfl) rfl)
    shapeCasts_S256_S256x1) broadcasts_S256x1_S256x256))

theorem weightsC_at (s : Vec Ideal S256x256 .f32) (r : Fin 256) (j : Fin 256) :
    weightsC s (ix2 r j) = (weight (fun j => s (ix2 r j)) j : EReal) := by
  unfold weight
  pointwise

/-- A block's weighted means. -/
abbrev meansC (e : Vec Ideal S256x256 .f32) (v : Vec Ideal S256x64 .bf16) : Vec Ideal S256x64 .f32 :=
  divf (F := Ideal) (φ := .f32) (matmul (F := Ideal) (φ₁ := .bf16) (φ₂ := .bf16) dot_S256x256_S256x64_S256x64_1_0_0_1_n_n none
      (truncf (F := Ideal) .bf16 e bitsLt_bf16_f32) v (constant (F := Ideal) S256x64 .f32 0x00000000#32))
    (broadcastTo S256x64 (shapeCast S256x1
      (multiReduction (F := Ideal) (φ := .f32) .add [1] S256 e 0x00000000#32 reduces_S256x256_S256 (.inl rfl) rfl)
      shapeCasts_S256_S256x1) broadcasts_S256x1_S256x64)

theorem meansC_at (e : Vec Ideal S256x256 .f32) (v : Vec Ideal S256x64 .bf16) (r : Fin 256) (d : Fin 64) :
    meansC e v (ix2 r d) = (Ideal.div (∑ j : Fin 256, e (ix2 r j) * v (ix2 j d)) (∑ j : Fin 256, (e (ix2 r j) : EReal)) : EReal) := by
  pointwise

/-- One head's output. -/
abbrev headC (q : Vec Ideal S256x128 .bf16) (k : Vec Ideal S256x128 .bf16) (v : Vec Ideal S256x64 .bf16) : Vec Ideal S256x64 .f32 :=
  meansC (weightsC (scoresC q k)) v

theorem headC_at (q : Vec Ideal S256x128 .bf16) (k : Vec Ideal S256x128 .bf16) (v : Vec Ideal S256x64 .bf16) (r : Fin 256)
    (d : Fin 64) : headC q k v (ix2 r d) = (attend (fun c => q (ix2 r c)) (fun (j : Fin 256) c => k (ix2 j c)) (fun j => v (ix2 j d)) : EReal) := by
  have hs : ∀ j : Fin 256, scoresC q k (ix2 r j) = (∑ c : Fin 128, q (ix2 r c) * k (ix2 j c) : EReal) := scoresC_at q k r
  have hw : ∀ j : Fin 256, weightsC (scoresC q k) (ix2 r j)
      = (weight (fun j : Fin 256 => (∑ c : Fin 128, q (ix2 r c) * k (ix2 j c) : EReal)) j : EReal) := fun j =>
    (weightsC_at _ r j).trans (congrArg (fun s => weight s j) (funext hs))
  exact (meansC_at _ v r d).trans (congrArg₂ Ideal.div
    (Finset.sum_congr rfl fun j _ => congrArg (fun a : EReal => a * v (ix2 j d)) (hw j)) (Finset.sum_congr rfl fun j _ => hw j))

theorem k0_pay1_two (q q' : Vec Ideal S256x128 .bf16) (k k' : Vec Ideal S256x128 .bf16) (v v' : Vec Ideal S256x64 .bf16) :
    k0_pay1 q k v q' k' v' = concatenate S256x128 1 [⟨S256x64, headC q k v⟩, ⟨S256x64, headC q' k' v'⟩]
      concatenates_S256x64_S256x64_S256x128_d1 := rfl

/-! ## A block over 2304 keys -/

/-- A block's scores. -/
abbrev scoresA (q : Vec Ideal S256x128 .bf16) (k : Vec Ideal S2304x128 .bf16) : Vec Ideal S256x2304 .f32 :=
  matmul (F := Ideal) (φ₁ := .bf16) (φ₂ := .bf16) dot_S256x128_S2304x128_S256x2304_1_1_0_0_n_n none q k (constant (F := Ideal) S256x2304 .f32 0x00000000#32)

theorem scoresA_at (q : Vec Ideal S256x128 .bf16) (k : Vec Ideal S2304x128 .bf16) (r : Fin 256) (j : Fin 2304) :
    scoresA q k (ix2 r j) = (∑ c : Fin 128, q (ix2 r c) * k (ix2 j c) : EReal) := by
  pointwise

/-- A block's weights. -/
abbrev weightsA (s : Vec Ideal S256x2304 .f32) : Vec Ideal S256x2304 .f32 :=
  exp (F := Ideal) (φ := .f32) (subf (F := Ideal) (φ := .f32) s (broadcastTo S256x2304 (shapeCast S256x1
    (multiReduction (F := Ideal) (φ := .f32) .maximumf [1] S256 s 0xFF800000#32 reduces_S256x2304_S256 (.inl rfl) rfl)
    shapeCasts_S256_S256x1) broadcasts_S256x1_S256x2304))

theorem weightsA_at (s : Vec Ideal S256x2304 .f32) (r : Fin 256) (j : Fin 2304) :
    weightsA s (ix2 r j) = (weight (fun j => s (ix2 r j)) j : EReal) := by
  unfold weight
  pointwise

/-- A block's weighted means. -/
abbrev meansA (e : Vec Ideal S256x2304 .f32) (v : Vec Ideal S2304x64 .bf16) : Vec Ideal S256x64 .f32 :=
  divf (F := Ideal) (φ := .f32) (matmul (F := Ideal) (φ₁ := .bf16) (φ₂ := .bf16) dot_S256x2304_S2304x64_S256x64_1_0_0_1_n_n none
      (truncf (F := Ideal) .bf16 e bitsLt_bf16_f32) v (constant (F := Ideal) S256x64 .f32 0x00000000#32))
    (broadcastTo S256x64 (shapeCast S256x1
      (multiReduction (F := Ideal) (φ := .f32) .add [1] S256 e 0x00000000#32 reduces_S256x2304_S256 (.inl rfl) rfl)
      shapeCasts_S256_S256x1) broadcasts_S256x1_S256x64)

theorem meansA_at (e : Vec Ideal S256x2304 .f32) (v : Vec Ideal S2304x64 .bf16) (r : Fin 256) (d : Fin 64) :
    meansA e v (ix2 r d) = (Ideal.div (∑ j : Fin 2304, e (ix2 r j) * v (ix2 j d)) (∑ j : Fin 2304, (e (ix2 r j) : EReal)) : EReal) := by
  pointwise

/-- One head's output. -/
abbrev headA (q : Vec Ideal S256x128 .bf16) (k : Vec Ideal S2304x128 .bf16) (v : Vec Ideal S2304x64 .bf16) : Vec Ideal S256x64 .f32 :=
  meansA (weightsA (scoresA q k)) v

theorem headA_at (q : Vec Ideal S256x128 .bf16) (k : Vec Ideal S2304x128 .bf16) (v : Vec Ideal S2304x64 .bf16) (r : Fin 256)
    (d : Fin 64) : headA q k v (ix2 r d) = (attend (fun c => q (ix2 r c)) (fun (j : Fin 2304) c => k (ix2 j c)) (fun j => v (ix2 j d)) : EReal) := by
  have hs : ∀ j : Fin 2304, scoresA q k (ix2 r j) = (∑ c : Fin 128, q (ix2 r c) * k (ix2 j c) : EReal) := scoresA_at q k r
  have hw : ∀ j : Fin 2304, weightsA (scoresA q k) (ix2 r j)
      = (weight (fun j : Fin 2304 => (∑ c : Fin 128, q (ix2 r c) * k (ix2 j c) : EReal)) j : EReal) := fun j =>
    (weightsA_at _ r j).trans (congrArg (fun s => weight s j) (funext hs))
  exact (meansA_at _ v r d).trans (congrArg₂ Ideal.div
    (Finset.sum_congr rfl fun j _ => congrArg (fun a : EReal => a * v (ix2 j d)) (hw j)) (Finset.sum_congr rfl fun j _ => hw j))

theorem k0_pay2_two (q q' : Vec Ideal S256x128 .bf16) (k k' : Vec Ideal S2304x128 .bf16) (v v' : Vec Ideal S2304x64 .bf16) :
    k0_pay2 q k v q' k' v' = concatenate S256x128 1 [⟨S256x64, headA q k v⟩, ⟨S256x64, headA q' k' v'⟩]
      concatenates_S256x64_S256x64_S256x128_d1 := rfl

/-! ## The grid's blocks -/

theorem attend_congr {n : ℕ} {q q' : Fin 128 → EReal} {k k' : Fin n → Fin 128 → EReal} {v v' : Fin n → EReal}
    (hq : ∀ c, q c = q' c) (hk : ∀ j c, k j c = k' j c) (hv : ∀ j, v j = v' j) : attend q k v = attend q' k' v' := by
  rw [funext hq, funext fun j => funext (hk j), funext hv]

theorem cat_left (u v : Vec Ideal S256x64 .f32) (r : Fin 256) (d : Fin 128) (h : d.val < 64) :
    concatenate S256x128 1 [⟨S256x64, u⟩, ⟨S256x64, v⟩] concatenates_S256x64_S256x64_S256x128_d1 (ix2 r d) = u (ix2 r ⟨d.val, h⟩) := by
  pointwise
  simp [h]

theorem cat_right (u v : Vec Ideal S256x64 .f32) (r : Fin 256) (d : Fin 128) (h : ¬d.val < 64) :
    concatenate S256x128 1 [⟨S256x64, u⟩, ⟨S256x64, v⟩] concatenates_S256x64_S256x64_S256x128_d1 (ix2 r d)
      = v (ix2 r ⟨d.val - 64, by omega⟩) := by
  pointwise
  simp [h]

/-- Entry `c` of a block's query or key, for the head of the block's column `d`. -/
def blkCol (d c : Fin 128) : Fin 256 := ⟨d.val / 64 * 128 + c.val, by omega⟩

/-- A block's output over the first 256 keys, at an entry. -/
theorem outC_eq (c : Dev nD) (i : grid0.Coords) (arg3 : Memref sig .tc .vmem S256x256 .bf16) (harg3 : arg3.IsWhole)
    (arg4 : Memref sig .tc .vmem S2304x256 .bf16) (harg4 : arg4.IsWhole) (arg5 : Memref sig .tc .vmem S2304x128 .bf16)
    (harg5 : arg5.IsWhole) (arg6 : Memref sig .tc .vmem S256x128 .f32) (harg6 : arg6.IsWhole) (hc0 : cond0_0 i) (hc1 : ¬cond0_1 i)
    (x0 : Vec Ideal S256x256 .bf16) (x1 : Vec Ideal S2304x256 .bf16) (x2 : Vec Ideal S2304x128 .bf16) (r : Fin 256) (d : Fin 128) :
    out0_A_3 c i arg3 harg3 arg4 harg4 arg5 harg5 arg6 harg6 hc0 hc1 x0 x1 x2 (ix2 r d)
      = (attend (fun c => x0 (ix2 r (blkCol d c))) (fun (j : Fin 256) c => x1 (ix2 (early j) (blkCol d c))) (fun j => x2 (ix2 (early j) d)) : EReal) := by
  unfold out0_A_3
  rw [View.read_writes_eq_canon _ _ _ (cover0_A_3 c i arg3 harg3 arg4 harg4 arg5 harg5 arg6 harg6 hc0 hc1 x0 x1 x2)]
  unfold kernelRun0_A
  dsimp only
  rw [View.canon_unit_zero hz]
  simp only [View.readAt_eq_ld, harg3.read_unread, harg4.read_unread, harg5.read_unread]
  rw [k0_pay1_two]
  by_cases h : d.val < 64
  · refine (cat_left _ _ r d h).trans ((headC_at _ _ _ r ⟨d.val, h⟩).trans (attend_congr (fun c => ?_) (fun j c => ?_) (fun j => ?_)))
    · refine congrArg x0 (funext fun a => Fin.ext ?_)
      match a with
      | ⟨0, _⟩ => show 0 + 1 * r.val = r.val; omega
      | ⟨1, _⟩ => show 0 + 1 * c.val = d.val / 64 * 128 + c.val; omega
    · refine congrArg x1 (funext fun a => Fin.ext ?_)
      match a with
      | ⟨0, _⟩ => show 0 + 1 * j.val = j.val; omega
      | ⟨1, _⟩ => show 0 + 1 * c.val = d.val / 64 * 128 + c.val; omega
    · refine congrArg x2 (funext fun a => Fin.ext ?_)
      match a with
      | ⟨0, _⟩ => show 0 + 1 * j.val = j.val; omega
      | ⟨1, _⟩ => show 0 + 1 * d.val = d.val; omega
  · refine (cat_right _ _ r d h).trans ((headC_at _ _ _ r ⟨d.val - 64, by omega⟩).trans (attend_congr (fun c => ?_) (fun j c => ?_) (fun j => ?_)))
    · refine congrArg x0 (funext fun a => Fin.ext ?_)
      match a with
      | ⟨0, _⟩ => show 0 + 1 * r.val = r.val; omega
      | ⟨1, _⟩ => show 128 + 1 * c.val = d.val / 64 * 128 + c.val; omega
    · refine congrArg x1 (funext fun a => Fin.ext ?_)
      match a with
      | ⟨0, _⟩ => show 0 + 1 * j.val = j.val; omega
      | ⟨1, _⟩ => show 128 + 1 * c.val = d.val / 64 * 128 + c.val; omega
    · refine congrArg x2 (funext fun a => Fin.ext ?_)
      match a with
      | ⟨0, _⟩ => show 0 + 1 * j.val = j.val; omega
      | ⟨1, _⟩ => show 64 + 1 * (d.val - 64) = d.val; omega

/-- A block's output over all keys, at an entry. -/
theorem outA_eq (c : Dev nD) (i : grid0.Coords) (arg3 : Memref sig .tc .vmem S256x256 .bf16) (harg3 : arg3.IsWhole)
    (arg4 : Memref sig .tc .vmem S2304x256 .bf16) (harg4 : arg4.IsWhole) (arg5 : Memref sig .tc .vmem S2304x128 .bf16)
    (harg5 : arg5.IsWhole) (arg6 : Memref sig .tc .vmem S256x128 .f32) (harg6 : arg6.IsWhole) (hc0 : ¬cond0_0 i) (hc1 : cond0_1 i)
    (x0 : Vec Ideal S256x256 .bf16) (x1 : Vec Ideal S2304x256 .bf16) (x2 : Vec Ideal S2304x128 .bf16) (r : Fin 256) (d : Fin 128) :
    out0_B_3 c i arg3 harg3 arg4 harg4 arg5 harg5 arg6 harg6 hc0 hc1 x0 x1 x2 (ix2 r d)
      = (attend (fun c => x0 (ix2 r (blkCol d c))) (fun (j : Fin 2304) c => x1 (ix2 j (blkCol d c))) (fun j => x2 (ix2 j d)) : EReal) := by
  unfold out0_B_3
  rw [View.read_writes_eq_canon _ _ _ (cover0_B_3 c i arg3 harg3 arg4 harg4 arg5 harg5 arg6 harg6 hc0 hc1 x0 x1 x2)]
  unfold kernelRun0_B
  dsimp only
  rw [View.canon_unit_zero hz]
  simp only [View.readAt_eq_ld, harg3.read_unread, harg4.read_unread, harg5.read_unread]
  rw [k0_pay2_two]
  by_cases h : d.val < 64
  · refine (cat_left _ _ r d h).trans ((headA_at _ _ _ r ⟨d.val, h⟩).trans (attend_congr (fun c => ?_) (fun j c => ?_) (fun j => ?_)))
    · refine congrArg x0 (funext fun a => Fin.ext ?_)
      match a with
      | ⟨0, _⟩ => show 0 + 1 * r.val = r.val; omega
      | ⟨1, _⟩ => show 0 + 1 * c.val = d.val / 64 * 128 + c.val; omega
    · refine congrArg x1 (funext fun a => Fin.ext ?_)
      match a with
      | ⟨0, _⟩ => show 0 + 1 * j.val = j.val; omega
      | ⟨1, _⟩ => show 0 + 1 * c.val = d.val / 64 * 128 + c.val; omega
    · refine congrArg x2 (funext fun a => Fin.ext ?_)
      match a with
      | ⟨0, _⟩ => show 0 + 1 * j.val = j.val; omega
      | ⟨1, _⟩ => show 0 + 1 * d.val = d.val; omega
  · refine (cat_right _ _ r d h).trans ((headA_at _ _ _ r ⟨d.val - 64, by omega⟩).trans (attend_congr (fun c => ?_) (fun j c => ?_) (fun j => ?_)))
    · refine congrArg x0 (funext fun a => Fin.ext ?_)
      match a with
      | ⟨0, _⟩ => show 0 + 1 * r.val = r.val; omega
      | ⟨1, _⟩ => show 128 + 1 * c.val = d.val / 64 * 128 + c.val; omega
    · refine congrArg x1 (funext fun a => Fin.ext ?_)
      match a with
      | ⟨0, _⟩ => show 0 + 1 * j.val = j.val; omega
      | ⟨1, _⟩ => show 128 + 1 * c.val = d.val / 64 * 128 + c.val; omega
    · refine congrArg x2 (funext fun a => Fin.ext ?_)
      match a with
      | ⟨0, _⟩ => show 0 + 1 * j.val = j.val; omega
      | ⟨1, _⟩ => show 64 + 1 * (d.val - 64) = d.val; omega

/-- Point `t`'s sequence. -/
def seqPt (t : Fin 144) : Fin 4 := ⟨t.val / 36, by omega⟩

/-- Row `r` of point `t`'s queries. -/
def queryRow (t : Fin 144) (r : Fin 256) : Fin 9216 := ⟨(t.val / 36 * 9 + t.val % 9) * 256 + r.val, by omega⟩

/-- Column `c` of point `t`'s queries and keys. -/
def wideCol (t : Fin 144) (c : Fin 256) : Fin 1024 := ⟨t.val / 9 % 4 * 256 + c.val, by omega⟩

/-- Column `d` of point `t`'s values and output. -/
def outCol (t : Fin 144) (d : Fin 128) : Fin 512 := ⟨t.val / 9 % 4 * 128 + d.val, by omega⟩

theorem head_col (t : Fin 144) (d c : Fin 128) : wideCol t (blkCol d c) = headCol (outCol t d) c :=
  Fin.ext (show t.val / 9 % 4 * 256 + (d.val / 64 * 128 + c.val) = (t.val / 9 % 4 * 128 + d.val) / 64 * 128 + c.val by omega)

theorem seq_row (t : Fin 144) (r : Fin 256) : seqPt t = seqOf (queryRow t r) :=
  Fin.ext (show t.val / 36 = ((t.val / 36 * 9 + t.val % 9) * 256 + r.val) / 2304 by omega)

theorem early_iff (t : Fin 144) (r : Fin 256) : (queryRow t r).val % 2304 < 256 ↔ t.val % 9 = 0 := by
  show ((t.val / 36 * 9 + t.val % 9) * 256 + r.val) % 2304 < 256 ↔ _
  omega

variable (m : (ℓ : Loc nD τ sig) → Buf (Elt Ideal) ℓ) (ρ : Dev nD → PrngReg)

/-- Point `t`'s blocks: its queries, its sequence's keys and values, and its output. -/
theorem idx_facts : ∀ t : Fin cfg0.N,
    (win0_0.index t (0 : Fin 2) = t.val / 36 * 9 + t.val % 9 ∧ win0_0.index t (1 : Fin 2) = t.val / 9 % 4)
    ∧ (win0_1.index t (0 : Fin 2) = t.val / 36 ∧ win0_1.index t (1 : Fin 2) = t.val / 9 % 4)
    ∧ (win0_2.index t (0 : Fin 2) = t.val / 36 ∧ win0_2.index t (1 : Fin 2) = t.val / 9 % 4)
    ∧ (win0_3.index t (0 : Fin 2) = t.val / 36 * 9 + t.val % 9 ∧ win0_3.index t (1 : Fin 2) = t.val / 9 % 4) :=
  (by decide +kernel : ∀ t : Fin grid0.N, _)

theorem emb0 (t : Fin cfg0.N) (r : Fin 256) (k : Fin 256) :
    ((cfg0.win 0).blk t).view.emb (ix2 r k) = (ix2 (queryRow t r) (wideCol t k) : S9216x1024.Idx) := by
  obtain ⟨⟨h, h'⟩, -⟩ := idx_facts t
  refine funext fun a => Fin.ext ?_
  match a with
  | ⟨0, _⟩ => show win0_0.index t (0 : Fin 2) * 256 + 1 * r.val = (t.val / 36 * 9 + t.val % 9) * 256 + r.val; rw [h, Nat.one_mul]
  | ⟨1, _⟩ => show win0_0.index t (1 : Fin 2) * 256 + 1 * k.val = t.val / 9 % 4 * 256 + k.val; rw [h', Nat.one_mul]

theorem emb1 (t : Fin cfg0.N) (p : Fin 2304) (k : Fin 256) :
    ((cfg0.win 1).blk t).view.emb (ix2 p k) = (ix2 (rowIn (seqPt t) p) (wideCol t k) : S9216x1024.Idx) := by
  obtain ⟨-, ⟨h, h'⟩, -⟩ := idx_facts t
  refine funext fun a => Fin.ext ?_
  match a with
  | ⟨0, _⟩ => show win0_1.index t (0 : Fin 2) * 2304 + 1 * p.val = t.val / 36 * 2304 + p.val; rw [h, Nat.one_mul]
  | ⟨1, _⟩ => show win0_1.index t (1 : Fin 2) * 256 + 1 * k.val = t.val / 9 % 4 * 256 + k.val; rw [h', Nat.one_mul]

theorem emb2 (t : Fin cfg0.N) (p : Fin 2304) (d : Fin 128) :
    ((cfg0.win 2).blk t).view.emb (ix2 p d) = (ix2 (rowIn (seqPt t) p) (outCol t d) : S9216x512.Idx) := by
  obtain ⟨-, -, ⟨h, h'⟩, -⟩ := idx_facts t
  refine funext fun a => Fin.ext ?_
  match a with
  | ⟨0, _⟩ => show win0_2.index t (0 : Fin 2) * 2304 + 1 * p.val = t.val / 36 * 2304 + p.val; rw [h, Nat.one_mul]
  | ⟨1, _⟩ => show win0_2.index t (1 : Fin 2) * 128 + 1 * d.val = t.val / 9 % 4 * 128 + d.val; rw [h', Nat.one_mul]

theorem emb3 (t : Fin cfg0.N) (r : Fin 256) (d : Fin 128) :
    ((cfg0.win 3).blk t).view.emb (ix2 r d) = (ix2 (queryRow t r) (outCol t d) : S9216x512.Idx) := by
  obtain ⟨-, -, -, h, h'⟩ := idx_facts t
  refine funext fun a => Fin.ext ?_
  match a with
  | ⟨0, _⟩ => show win0_3.index t (0 : Fin 2) * 256 + 1 * r.val = (t.val / 36 * 9 + t.val % 9) * 256 + r.val; rw [h, Nat.one_mul]
  | ⟨1, _⟩ => show win0_3.index t (1 : Fin 2) * 128 + 1 * d.val = t.val / 9 % 4 * 128 + d.val; rw [h', Nat.one_mul]

theorem blk0 (c : Dev nD) (t : Fin cfg0.N) (r : Fin 256) (d k : Fin 128) :
    iblk m c 0 t (ix2 r (blkCol d k)) = V m c main_arg0 (ix2 (queryRow t r) (headCol (outCol t d) k)) :=
  (congrArg (V m c main_arg0) (emb0 t r (blkCol d k))).trans
    (congrArg (fun h => V m c main_arg0 (ix2 (queryRow t r) h)) (head_col t d k))

theorem blk1 (c : Dev nD) (t : Fin cfg0.N) (r : Fin 256) (p : Fin 2304) (d k : Fin 128) :
    iblk m c 1 t (ix2 p (blkCol d k)) = V m c main_arg1 (ix2 (rowIn (seqOf (queryRow t r)) p) (headCol (outCol t d) k)) :=
  (congrArg (V m c main_arg1) (emb1 t p (blkCol d k))).trans
    (congrArg₂ (fun b h => V m c main_arg1 (ix2 (rowIn b p) h)) (seq_row t r) (head_col t d k))

theorem blk2 (c : Dev nD) (t : Fin cfg0.N) (r : Fin 256) (p : Fin 2304) (d : Fin 128) :
    iblk m c 2 t (ix2 p d) = V m c main_arg2 (ix2 (rowIn (seqOf (queryRow t r)) p) (outCol t d)) :=
  (congrArg (V m c main_arg2) (emb2 t p d)).trans
    (congrArg (fun b => V m c main_arg2 (ix2 (rowIn b p) (outCol t d))) (seq_row t r))

theorem attention_early (q k : Vec Ideal S9216x1024 .bf16) (v : Vec Ideal S9216x512 .bf16) (a : Fin 9216) (d : Fin 512)
    (h : a.val % 2304 < 256) : attention q k v (ix2 a d) = ctxAt q k v a d := if_pos h

theorem attention_late (q k : Vec Ideal S9216x1024 .bf16) (v : Vec Ideal S9216x512 .bf16) (a : Fin 9216) (d : Fin 512)
    (h : ¬a.val % 2304 < 256) : attention q k v (ix2 a d) = allAt q k v a d := if_neg h

theorem flushed3_eq (c : Dev nD) (t : Fin cfg0.N) :
    (dats m 0 c).flushed 3 t = ((cfg0.win 3).blk t).view.read (Elt Ideal)
      (attention (V m c main_arg0) (V m c main_arg1) (V m c main_arg2)) := by
  by_cases h0 : t.val % 9 = 0
  · rw [flushed3_A m c t h0 (by omega)]
    refine funext fun y => ?_
    obtain ⟨r, d, rfl⟩ : ∃ (r : Fin 256) (d : Fin 128), y = ix2 r d := ⟨y 0, y 1, eq_ix2 y⟩
    refine (outC_eq c _ _ _ _ _ _ _ _ _ _ _ _ _ _ r d).trans (Eq.trans ?_ (congrArg (attention _ _ _) (emb3 t r d).symm))
    refine Eq.trans (attend_congr (fun k => ?_) (fun j k => ?_) (fun j => ?_))
      (attention_early _ _ _ (queryRow t r) (outCol t d) ((early_iff t r).mpr h0)).symm
    · exact blk0 m c t r d k
    · exact blk1 m c t r (early j) d k
    · exact blk2 m c t r (early j) d
  · rw [flushed3_B m c t h0 (by omega)]
    refine funext fun y => ?_
    obtain ⟨r, d, rfl⟩ : ∃ (r : Fin 256) (d : Fin 128), y = ix2 r d := ⟨y 0, y 1, eq_ix2 y⟩
    refine (outA_eq c _ _ _ _ _ _ _ _ _ _ _ _ _ _ r d).trans (Eq.trans ?_ (congrArg (attention _ _ _) (emb3 t r d).symm))
    refine Eq.trans (attend_congr (fun k => ?_) (fun j k => ?_) (fun j => ?_))
      (attention_late _ _ _ (queryRow t r) (outCol t d) (fun h => h0 ((early_iff t r).mp h))).symm
    · exact blk0 m c t r d k
    · exact blk1 m c t r j d k
    · exact blk2 m c t r j d

/-- Every entry is in some point's block. -/
theorem mem3 (i : S9216x512.Idx) : ∃ t : Fin cfg0.N, i ∈ ((cfg0.win 3).blk t).view.set := by
  obtain ⟨a, d, rfl⟩ : ∃ (a : Fin 9216) (d : Fin 512), i = ix2 a d := ⟨i 0, i 1, eq_ix2 i⟩
  have hN : a.val / 2304 * 36 + d.val / 128 * 9 + a.val % 2304 / 256 < cfg0.N :=
    lt_of_lt_of_eq (by omega : a.val / 2304 * 36 + d.val / 128 * 9 + a.val % 2304 / 256 < 144) N_0.symm
  have h := ((cfg0.win 3).blk ⟨_, hN⟩).view.emb_mem_set (ix2 (⟨a.val % 256, by omega⟩ : Fin 256) (⟨d.val % 128, by omega⟩ : Fin 128))
  rw [show ((cfg0.win 3).blk ⟨_, hN⟩).view.emb (ix2 (⟨a.val % 256, by omega⟩ : Fin 256) (⟨d.val % 128, by omega⟩ : Fin 128)) = ix2 a d from
    (emb3 ⟨_, hN⟩ _ _).trans (congrArg₂ (fun (a : Fin 9216) (d : Fin 512) => ix2 a d)
      (Fin.ext (show ((a.val / 2304 * 36 + d.val / 128 * 9 + a.val % 2304 / 256) / 36 * 9
          + (a.val / 2304 * 36 + d.val / 128 * 9 + a.val % 2304 / 256) % 9) * 256 + a.val % 256 = a.val by omega))
      (Fin.ext (show (a.val / 2304 * 36 + d.val / 128 * 9 + a.val % 2304 / 256) / 9 % 4 * 128 + d.val % 128 = d.val by omega)))] at h
  exact ⟨_, h⟩

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = attention (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h3, hk⟩ := h c
  refine ⟨h3.trans ?_, hk⟩
  rw [(dats m 0 c).arrAt_eq_of_cover 3 _ (fun t _ => flushed3_eq m c t)
      fun i => (mem3 i).imp fun t h => ⟨flush0_3 t, h⟩, V_main_arg0, V_main_arg1, V_main_arg2]

/-! ## The reference -/

section Host

open Cert.AttentionRefIdeal (S_ S4x2304x8x128 S4x2304x8x64 S4x256x8x128 S4x256x8x64 S4x8x256x256 S4x8x64x256 S4x8x256x1 S4x8x256 S4x2048x8x128 S4x2048x8x64 S4x8x2048x2304 S4x8x64x2048 S4x8x2048x1 S4x8x2048)
open Cert.AttentionRefIdeal.Facts₀

/-- Entry `c` of head `h`. -/
def headEntry (h : Fin 8) (c : Fin 128) : Fin 1024 := ⟨h.val * 128 + c.val, by omega⟩

/-- Output column `e` of head `h`. -/
def headOut (h : Fin 8) (e : Fin 64) : Fin 512 := ⟨h.val * 64 + e.val, by omega⟩

/-- One of the later 2048 rows of a sequence, among all of them. -/
def late (p : Fin 2048) : Fin 2304 := ⟨256 + p.val, by omega⟩

/-- Queries or keys by sequence and head. -/
abbrev byHead (x : Vec Ideal S9216x1024 .bf16) : Vec Ideal S4x2304x8x128 .f32 :=
  shapeCast S4x2304x8x128 (extf (F := Ideal) .f32 x Cert.AttentionRefIdeal.Facts₀.bitsLt_bf16_f32) shapeCasts_S9216x1024_S4x2304x8x128

theorem byHead_at (x : Vec Ideal S9216x1024 .bf16) (b : Fin 4) (p : Fin 2304) (h : Fin 8) (c : Fin 128) :
    byHead x (ix4 b p h c) = x (ix2 (rowIn b p) (headEntry h c)) := by
  pointwise [rowIn, headEntry]

/-- Values by sequence and head. -/
abbrev valByHead (x : Vec Ideal S9216x512 .bf16) : Vec Ideal S4x2304x8x64 .f32 :=
  shapeCast S4x2304x8x64 (extf (F := Ideal) .f32 x Cert.AttentionRefIdeal.Facts₀.bitsLt_bf16_f32) shapeCasts_S9216x512_S4x2304x8x64

theorem valByHead_at (x : Vec Ideal S9216x512 .bf16) (b : Fin 4) (p : Fin 2304) (h : Fin 8) (e : Fin 64) :
    valByHead x (ix4 b p h e) = x (ix2 (rowIn b p) (headOut h e)) := by
  pointwise [rowIn, headOut]

abbrev firstRows (x : Vec Ideal S4x2304x8x128 .f32) : Vec Ideal S4x256x8x128 .f32 :=
  extractStridedSlice S4x256x8x128 ![0, 0, 0, 0] x slices_S4x2304x8x128_S4x256x8x128_0_0_0_0

theorem firstRows_at (x : Vec Ideal S4x2304x8x128 .f32) (b : Fin 4) (p : Fin 256) (h : Fin 8) (c : Fin 128) :
    firstRows x (ix4 b p h c) = x (ix4 b (early p) h c) := by
  pointwise [early]

abbrev firstVals (x : Vec Ideal S4x2304x8x64 .f32) : Vec Ideal S4x256x8x64 .f32 :=
  extractStridedSlice S4x256x8x64 ![0, 0, 0, 0] x slices_S4x2304x8x64_S4x256x8x64_0_0_0_0

theorem firstVals_at (x : Vec Ideal S4x2304x8x64 .f32) (b : Fin 4) (p : Fin 256) (h : Fin 8) (e : Fin 64) :
    firstVals x (ix4 b p h e) = x (ix4 b (early p) h e) := by
  pointwise [early]

abbrev lastRows (x : Vec Ideal S4x2304x8x128 .f32) : Vec Ideal S4x2048x8x128 .f32 :=
  extractStridedSlice S4x2048x8x128 ![0, 256, 0, 0] x slices_S4x2304x8x128_S4x2048x8x128_0_256_0_0

theorem lastRows_at (x : Vec Ideal S4x2304x8x128 .f32) (b : Fin 4) (p : Fin 2048) (h : Fin 8) (c : Fin 128) :
    lastRows x (ix4 b p h c) = x (ix4 b (late p) h c) := by
  pointwise [late]

/-- The scores of 256 queries and 256 keys, as the reference writes them. -/
abbrev hostScoresC (q : Vec Ideal S4x256x8x128 .f32) (k : Vec Ideal S4x256x8x128 .f32) : Vec Ideal S4x8x256x256 .f32 :=
  Host.dotGeneral (F := Ideal) (φ₁ := .f32) (φ₂ := .f32) Cert.AttentionRefIdeal.dot_S4x256x8x128_S4x256x8x128_S4x8x256x256_3_3_1_1_02_02 none q k

theorem hostScoresC_at (q : Vec Ideal S4x256x8x128 .f32) (k : Vec Ideal S4x256x8x128 .f32) (b : Fin 4) (h : Fin 8) (r : Fin 256)
    (j : Fin 256) : hostScoresC q k (ix4 b h r j) = (∑ c : Fin 128, q (ix4 b r h c) * k (ix4 b j h c) : EReal) := by
  pointwise

/-- The largest score of each query. -/
abbrev hostTopC (s : Vec Ideal S4x8x256x256 .f32) : Vec Ideal S4x8x256 .f32 :=
  Host.reduce (FloatOps.maximumf (F := Ideal) (φ := .f32)) s (constant (F := Ideal) S_ .f32 0xFF800000#32) reducesTo_S4x8x256x256_S4x8x256_d3 h_S_

theorem hostTopC_at (s : Vec Ideal S4x8x256x256 .f32) (b : Fin 4) (h : Fin 8) (r : Fin 256) : hostTopC s (ix3 b h r)
    = ((Finset.univ : Finset (Fin 256)).fold max (Ideal.ofBits .f32 0xFF800000#32) (fun j => (s (ix4 b h r j) : EReal)) : EReal) := by
  pointwise

/-- The same, kept above the least value. -/
abbrev hostMaxC (x : Vec Ideal S4x8x256 .f32) : Vec Ideal S4x8x256 .f32 :=
  maximumf (F := Ideal) (φ := .f32) (broadcastInDim S4x8x256 ![] bcast_S_S4x8x256 (constant (F := Ideal) S_ .f32 0xFF800000#32)) x

theorem hostMaxC_at (x : Vec Ideal S4x8x256 .f32) (b : Fin 4) (h : Fin 8) (r : Fin 256) : hostMaxC x (ix3 b h r) = x (ix3 b h r) := by
  have hp : hostMaxC x (ix3 b h r) = (max (Ideal.ofBits .f32 0xFF800000#32 : EReal) (x (ix3 b h r)) : EReal) := by
    pointwise
  refine hp.trans (max_eq_right ?_)
  rw [negInf_eq]
  exact bot_le

/-- A number for each query, repeated over the keys. -/
abbrev perQueryC (x : Vec Ideal S4x8x256 .f32) : Vec Ideal S4x8x256x256 .f32 :=
  broadcastInDim S4x8x256x256 ![0, 1, 2, 3] bcast_S4x8x256x1_S4x8x256x256_0_1_2_3 (broadcastInDim S4x8x256x1 ![0, 1, 2] bcast_S4x8x256_S4x8x256x1_0_1_2 x)

theorem perQueryC_at (x : Vec Ideal S4x8x256 .f32) (b : Fin 4) (h : Fin 8) (r : Fin 256) (j : Fin 256) :
    perQueryC x (ix4 b h r j) = x (ix3 b h r) := by
  pointwise

/-- Their weights. -/
abbrev hostWeightsC (s : Vec Ideal S4x8x256x256 .f32) : Vec Ideal S4x8x256x256 .f32 :=
  Host.exp (F := Ideal) (φ := .f32) (subf (F := Ideal) (φ := .f32) s (perQueryC (hostMaxC (hostTopC s))))

theorem hostWeightsC_at (s : Vec Ideal S4x8x256x256 .f32) (b : Fin 4) (h : Fin 8) (r : Fin 256) (j : Fin 256) :
    hostWeightsC s (ix4 b h r j) = (weight (fun j => s (ix4 b h r j)) j : EReal) :=
  congrArg (fun a : EReal => Ideal.exp ((s (ix4 b h r j) : EReal) - a)) ((perQueryC_at _ b h r j).trans ((hostMaxC_at _ b h r).trans (hostTopC_at s b h r)))

/-- The sum of each query's weights. -/
abbrev hostTotalC (e : Vec Ideal S4x8x256x256 .f32) : Vec Ideal S4x8x256 .f32 :=
  Host.reduceAdd e (constant (F := Ideal) S_ .f32 0x00000000#32) reducesTo_S4x8x256x256_S4x8x256_d3 h_S_

theorem hostTotalC_at (e : Vec Ideal S4x8x256x256 .f32) (b : Fin 4) (h : Fin 8) (r : Fin 256) :
    hostTotalC e (ix3 b h r) = (∑ j : Fin 256, (e (ix4 b h r j) : EReal) : EReal) := by
  pointwise

/-- The softmax of the scores from their weights. -/
abbrev hostSoftC (e : Vec Ideal S4x8x256x256 .f32) : Vec Ideal S4x8x256x256 .f32 :=
  Host.divf (F := Ideal) (φ := .f32) e (perQueryC (hostTotalC e))

theorem hostSoftC_at (e : Vec Ideal S4x8x256x256 .f32) (b : Fin 4) (h : Fin 8) (r : Fin 256) (j : Fin 256) :
    hostSoftC e (ix4 b h r j) = (Ideal.div (e (ix4 b h r j)) (∑ j : Fin 256, (e (ix4 b h r j) : EReal)) : EReal) :=
  congrArg (fun a : EReal => Ideal.div (e (ix4 b h r j)) a) ((perQueryC_at _ b h r j).trans (hostTotalC_at e b h r))

/-- The values' means by a softmax. -/
abbrev hostMeansC (p : Vec Ideal S4x8x256x256 .f32) (v : Vec Ideal S4x256x8x64 .f32) : Vec Ideal S4x256x8x64 .f32 :=
  transpose S4x256x8x64 [0, 3, 1, 2] (Host.dotGeneral (F := Ideal) (φ₁ := .f32) (φ₂ := .f32)
    Cert.AttentionRefIdeal.dot_S4x256x8x64_S4x8x256x256_S4x8x64x256_1_3_3_2_02_01 none v p) transposes_S4x8x64x256_S4x256x8x64_0_3_1_2

theorem hostMeansC_at (p : Vec Ideal S4x8x256x256 .f32) (v : Vec Ideal S4x256x8x64 .f32) (b : Fin 4) (r : Fin 256) (h : Fin 8) (d : Fin 64) :
    hostMeansC p v (ix4 b r h d) = (∑ j : Fin 256, v (ix4 b j h d) * p (ix4 b h r j) : EReal) := by
  pointwise

theorem hostHeadC_at (q : Vec Ideal S4x256x8x128 .f32) (k : Vec Ideal S4x256x8x128 .f32) (v : Vec Ideal S4x256x8x64 .f32) (b : Fin 4)
    (r : Fin 256) (h : Fin 8) (d : Fin 64) : hostMeansC (hostSoftC (hostWeightsC (hostScoresC q k))) v (ix4 b r h d)
      = (softAttend (fun c => q (ix4 b r h c)) (fun (j : Fin 256) c => k (ix4 b j h c)) (fun j => v (ix4 b j h d)) : EReal) := by
  have hw : ∀ j : Fin 256, hostWeightsC (hostScoresC q k) (ix4 b h r j)
      = (weight (fun j : Fin 256 => (∑ c : Fin 128, q (ix4 b r h c) * k (ix4 b j h c) : EReal)) j : EReal) := fun j =>
    (hostWeightsC_at _ b h r j).trans (congrArg (fun s => weight s j) (funext (hostScoresC_at q k b h r)))
  exact (hostMeansC_at _ v b r h d).trans (Finset.sum_congr rfl fun j _ => congrArg (fun a : EReal => (v (ix4 b j h d) : EReal) * a)
    ((hostSoftC_at _ b h r j).trans (congrArg₂ Ideal.div (hw j) (Finset.sum_congr rfl fun j _ => hw j))))

/-- The scores of 2048 queries and 2304 keys, as the reference writes them. -/
abbrev hostScoresA (q : Vec Ideal S4x2048x8x128 .f32) (k : Vec Ideal S4x2304x8x128 .f32) : Vec Ideal S4x8x2048x2304 .f32 :=
  Host.dotGeneral (F := Ideal) (φ₁ := .f32) (φ₂ := .f32) Cert.AttentionRefIdeal.dot_S4x2048x8x128_S4x2304x8x128_S4x8x2048x2304_3_3_1_1_02_02 none q k

theorem hostScoresA_at (q : Vec Ideal S4x2048x8x128 .f32) (k : Vec Ideal S4x2304x8x128 .f32) (b : Fin 4) (h : Fin 8) (r : Fin 2048)
    (j : Fin 2304) : hostScoresA q k (ix4 b h r j) = (∑ c : Fin 128, q (ix4 b r h c) * k (ix4 b j h c) : EReal) := by
  pointwise

/-- The largest score of each query. -/
abbrev hostTopA (s : Vec Ideal S4x8x2048x2304 .f32) : Vec Ideal S4x8x2048 .f32 :=
  Host.reduce (FloatOps.maximumf (F := Ideal) (φ := .f32)) s (constant (F := Ideal) S_ .f32 0xFF800000#32) reducesTo_S4x8x2048x2304_S4x8x2048_d3 h_S_

theorem hostTopA_at (s : Vec Ideal S4x8x2048x2304 .f32) (b : Fin 4) (h : Fin 8) (r : Fin 2048) : hostTopA s (ix3 b h r)
    = ((Finset.univ : Finset (Fin 2304)).fold max (Ideal.ofBits .f32 0xFF800000#32) (fun j => (s (ix4 b h r j) : EReal)) : EReal) := by
  pointwise

/-- The same, kept above the least value. -/
abbrev hostMaxA (x : Vec Ideal S4x8x2048 .f32) : Vec Ideal S4x8x2048 .f32 :=
  maximumf (F := Ideal) (φ := .f32) (broadcastInDim S4x8x2048 ![] bcast_S_S4x8x2048 (constant (F := Ideal) S_ .f32 0xFF800000#32)) x

theorem hostMaxA_at (x : Vec Ideal S4x8x2048 .f32) (b : Fin 4) (h : Fin 8) (r : Fin 2048) : hostMaxA x (ix3 b h r) = x (ix3 b h r) := by
  have hp : hostMaxA x (ix3 b h r) = (max (Ideal.ofBits .f32 0xFF800000#32 : EReal) (x (ix3 b h r)) : EReal) := by
    pointwise
  refine hp.trans (max_eq_right ?_)
  rw [negInf_eq]
  exact bot_le

/-- A number for each query, repeated over the keys. -/
abbrev perQueryA (x : Vec Ideal S4x8x2048 .f32) : Vec Ideal S4x8x2048x2304 .f32 :=
  broadcastInDim S4x8x2048x2304 ![0, 1, 2, 3] bcast_S4x8x2048x1_S4x8x2048x2304_0_1_2_3 (broadcastInDim S4x8x2048x1 ![0, 1, 2] bcast_S4x8x2048_S4x8x2048x1_0_1_2 x)

theorem perQueryA_at (x : Vec Ideal S4x8x2048 .f32) (b : Fin 4) (h : Fin 8) (r : Fin 2048) (j : Fin 2304) :
    perQueryA x (ix4 b h r j) = x (ix3 b h r) := by
  pointwise

/-- Their weights. -/
abbrev hostWeightsA (s : Vec Ideal S4x8x2048x2304 .f32) : Vec Ideal S4x8x2048x2304 .f32 :=
  Host.exp (F := Ideal) (φ := .f32) (subf (F := Ideal) (φ := .f32) s (perQueryA (hostMaxA (hostTopA s))))

theorem hostWeightsA_at (s : Vec Ideal S4x8x2048x2304 .f32) (b : Fin 4) (h : Fin 8) (r : Fin 2048) (j : Fin 2304) :
    hostWeightsA s (ix4 b h r j) = (weight (fun j => s (ix4 b h r j)) j : EReal) :=
  congrArg (fun a : EReal => Ideal.exp ((s (ix4 b h r j) : EReal) - a)) ((perQueryA_at _ b h r j).trans ((hostMaxA_at _ b h r).trans (hostTopA_at s b h r)))

/-- The sum of each query's weights. -/
abbrev hostTotalA (e : Vec Ideal S4x8x2048x2304 .f32) : Vec Ideal S4x8x2048 .f32 :=
  Host.reduceAdd e (constant (F := Ideal) S_ .f32 0x00000000#32) reducesTo_S4x8x2048x2304_S4x8x2048_d3 h_S_

theorem hostTotalA_at (e : Vec Ideal S4x8x2048x2304 .f32) (b : Fin 4) (h : Fin 8) (r : Fin 2048) :
    hostTotalA e (ix3 b h r) = (∑ j : Fin 2304, (e (ix4 b h r j) : EReal) : EReal) := by
  pointwise

/-- The softmax of the scores from their weights. -/
abbrev hostSoftA (e : Vec Ideal S4x8x2048x2304 .f32) : Vec Ideal S4x8x2048x2304 .f32 :=
  Host.divf (F := Ideal) (φ := .f32) e (perQueryA (hostTotalA e))

theorem hostSoftA_at (e : Vec Ideal S4x8x2048x2304 .f32) (b : Fin 4) (h : Fin 8) (r : Fin 2048) (j : Fin 2304) :
    hostSoftA e (ix4 b h r j) = (Ideal.div (e (ix4 b h r j)) (∑ j : Fin 2304, (e (ix4 b h r j) : EReal)) : EReal) :=
  congrArg (fun a : EReal => Ideal.div (e (ix4 b h r j)) a) ((perQueryA_at _ b h r j).trans (hostTotalA_at e b h r))

/-- The values' means by a softmax. -/
abbrev hostMeansA (p : Vec Ideal S4x8x2048x2304 .f32) (v : Vec Ideal S4x2304x8x64 .f32) : Vec Ideal S4x2048x8x64 .f32 :=
  transpose S4x2048x8x64 [0, 3, 1, 2] (Host.dotGeneral (F := Ideal) (φ₁ := .f32) (φ₂ := .f32)
    Cert.AttentionRefIdeal.dot_S4x2304x8x64_S4x8x2048x2304_S4x8x64x2048_1_3_3_2_02_01 none v p) transposes_S4x8x64x2048_S4x2048x8x64_0_3_1_2

theorem hostMeansA_at (p : Vec Ideal S4x8x2048x2304 .f32) (v : Vec Ideal S4x2304x8x64 .f32) (b : Fin 4) (r : Fin 2048) (h : Fin 8) (d : Fin 64) :
    hostMeansA p v (ix4 b r h d) = (∑ j : Fin 2304, v (ix4 b j h d) * p (ix4 b h r j) : EReal) := by
  pointwise

theorem hostHeadA_at (q : Vec Ideal S4x2048x8x128 .f32) (k : Vec Ideal S4x2304x8x128 .f32) (v : Vec Ideal S4x2304x8x64 .f32) (b : Fin 4)
    (r : Fin 2048) (h : Fin 8) (d : Fin 64) : hostMeansA (hostSoftA (hostWeightsA (hostScoresA q k))) v (ix4 b r h d)
      = (softAttend (fun c => q (ix4 b r h c)) (fun (j : Fin 2304) c => k (ix4 b j h c)) (fun j => v (ix4 b j h d)) : EReal) := by
  have hw : ∀ j : Fin 2304, hostWeightsA (hostScoresA q k) (ix4 b h r j)
      = (weight (fun j : Fin 2304 => (∑ c : Fin 128, q (ix4 b r h c) * k (ix4 b j h c) : EReal)) j : EReal) := fun j =>
    (hostWeightsA_at _ b h r j).trans (congrArg (fun s => weight s j) (funext (hostScoresA_at q k b h r)))
  exact (hostMeansA_at _ v b r h d).trans (Finset.sum_congr rfl fun j _ => congrArg (fun a : EReal => (v (ix4 b j h d) : EReal) * a)
    ((hostSoftA_at _ b h r j).trans (congrArg₂ Ideal.div (hw j) (Finset.sum_congr rfl fun j _ => hw j))))

abbrev joined (u : Vec Ideal S4x256x8x64 .f32) (v : Vec Ideal S4x2048x8x64 .f32) : Vec Ideal S9216x512 .f32 :=
  shapeCast S9216x512 (concatenate S4x2304x8x64 1 [⟨S4x256x8x64, u⟩, ⟨S4x2048x8x64, v⟩]
    concatenates_S4x256x8x64_S4x2048x8x64_S4x2304x8x64_d1) shapeCasts_S4x2304x8x64_S9216x512

theorem unfold_at (y : Vec Ideal S4x2304x8x64 .f32) (b : Fin 4) (p : Fin 2304) (h : Fin 8) (e : Fin 64) :
    shapeCast S9216x512 y shapeCasts_S4x2304x8x64_S9216x512 (ix2 (rowIn b p) (headOut h e)) = y (ix4 b p h e) := by
  pointwise [rowIn, headOut]

theorem joined_early (u : Vec Ideal S4x256x8x64 .f32) (v : Vec Ideal S4x2048x8x64 .f32) (b : Fin 4) (p : Fin 256) (h : Fin 8)
    (e : Fin 64) : joined u v (ix2 (rowIn b (early p)) (headOut h e)) = u (ix4 b p h e) := by
  refine (unfold_at _ b (early p) h e).trans ?_
  pointwise [early]

theorem joined_late (u : Vec Ideal S4x256x8x64 .f32) (v : Vec Ideal S4x2048x8x64 .f32) (b : Fin 4) (p : Fin 2048) (h : Fin 8)
    (e : Fin 64) : joined u v (ix2 (rowIn b (late p)) (headOut h e)) = v (ix4 b p h e) := by
  refine (unfold_at _ b (late p) h e).trans ?_
  pointwise [late]

theorem seq_rowIn (b : Fin 4) (p : Fin 2304) : seqOf (rowIn b p) = b :=
  Fin.ext (show (b.val * 2304 + p.val) / 2304 = b.val by omega)

theorem headCol_out (h : Fin 8) (e : Fin 64) (c : Fin 128) : headCol (headOut h e) c = headEntry h c :=
  Fin.ext (show (h.val * 64 + e.val) / 64 * 128 + c.val = h.val * 128 + c.val by omega)

/-- The reference's result is the attention's output. -/
theorem host_attention (q k : Vec Ideal S9216x1024 .bf16) (v : Vec Ideal S9216x512 .bf16)
    (hq : ∀ i, Finite (q i : EReal)) (hk : ∀ i, Finite (k i : EReal)) :
    joined (hostMeansC (hostSoftC (hostWeightsC (hostScoresC (firstRows (byHead q)) (firstRows (byHead k))))) (firstVals (valByHead v)))
      (hostMeansA (hostSoftA (hostWeightsA (hostScoresA (lastRows (byHead q)) (byHead k)))) (valByHead v)) = attention q k v := by
  refine funext fun i => ?_
  obtain ⟨a, d, rfl⟩ : ∃ (a : Fin 9216) (d : Fin 512), i = ix2 a d := ⟨i 0, i 1, eq_ix2 i⟩
  obtain ⟨b, p, rfl⟩ : ∃ (b : Fin 4) (p : Fin 2304), a = rowIn b p :=
    ⟨⟨a.val / 2304, by omega⟩, ⟨a.val % 2304, by omega⟩, Fin.ext (show a.val = a.val / 2304 * 2304 + a.val % 2304 by omega)⟩
  obtain ⟨h, e, rfl⟩ : ∃ (h : Fin 8) (e : Fin 64), d = headOut h e :=
    ⟨⟨d.val / 64, by omega⟩, ⟨d.val % 64, by omega⟩, Fin.ext (show d.val = d.val / 64 * 64 + d.val % 64 by omega)⟩
  by_cases hp : p.val < 256
  · obtain ⟨p, rfl⟩ : ∃ p' : Fin 256, p = early p' := ⟨⟨p.val, hp⟩, rfl⟩
    refine (joined_early _ _ b p h e).trans ((hostHeadC_at _ _ _ b p h e).trans (Eq.trans ?_
      (attention_early q k v (rowIn b (early p)) (headOut h e)
        (show (b.val * 2304 + p.val) % 2304 < 256 by omega)).symm))
    unfold ctxAt
    rw [seq_rowIn]
    simp only [headCol_out]
    refine Eq.trans ?_ (soft_eq _ _ _ (fun c => hq _) (fun j c => hk _))
    exact soft_congr (fun c => (firstRows_at _ b p h c).trans (byHead_at q b _ h c))
      (fun j c => (firstRows_at _ b j h c).trans (byHead_at k b _ h c))
      (fun j => (firstVals_at _ b j h e).trans (valByHead_at v b _ h e))
  · obtain ⟨p, rfl⟩ : ∃ p' : Fin 2048, p = late p' := ⟨⟨p.val - 256, by omega⟩, Fin.ext (show p.val = 256 + (p.val - 256) by omega)⟩
    refine (joined_late _ _ b p h e).trans ((hostHeadA_at _ _ _ b p h e).trans (Eq.trans ?_
      (attention_late q k v (rowIn b (late p)) (headOut h e)
        (show ¬(b.val * 2304 + (256 + p.val)) % 2304 < 256 by omega)).symm))
    unfold allAt
    rw [seq_rowIn]
    simp only [headCol_out]
    refine Eq.trans ?_ (soft_eq _ _ _ (fun c => hq _) (fun j c => hk _))
    exact soft_congr (fun c => (lastRows_at _ b p h c).trans (byHead_at q b _ h c))
      (fun j c => byHead_at k b j h c) (fun j => valByHead_at v b j h e)

end Host

/-- The shapes the precondition states. -/
instance pre_facts : Cert.Pre_finite_scores.Facts :=
  ⟨by decide, by decide⟩

/-- A comparison below infinity that came out one. -/
theorem finite_of_cmp {x : EReal} (h : Ideal.cmp .olt (max x (-x)) (Ideal.ofBits .f32 0x7F800000#32) = 1#1) : Finite x := by
  rw [posInf_eq] at h
  refine finite_of_abs_lt ?_
  by_contra hn
  simp [Ideal.cmp, hn] at h

theorem and_one {a b : BitVec 1} (h : a &&& b = 1#1) : a = 1#1 ∧ b = 1#1 := by
  revert a b
  decide

/-- Under the precondition queries and keys are finite. -/
theorem finite_of_pre [Cert.Pre_finite_scores.Facts] (q k : Vec Ideal S9216x1024 .bf16) (v : Vec Ideal S9216x512 .bf16)
    (h : Cert.Pre_finite_scores.fn (F := Ideal) q k v = fun _ => 1#1) (i : S9216x1024.Idx) :
    Finite (q i : EReal) ∧ Finite (k i : EReal) := by
  have hi := and_one (congrFun h i)
  exact ⟨finite_of_cmp hi.1, finite_of_cmp hi.2⟩

/-- With equal arguments, the queries and keys finite, the call and its reference end with equal results. -/
theorem meets [Cert.Pre_finite_scores.Facts] : Cert.algebraic_AttentionIdeal_AttentionRefIdeal_pre_finite_scores := fun m g m' g' hpre hw =>
  ⟨fun c => attention (m ((c : Thread nD τ).loc main_arg0)) (m ((c : Thread nD τ).loc main_arg1))
      (m ((c : Thread nD τ).loc main_arg2)),
    run m g,
    (θ_run Cert.AttentionRefIdeal.defs _ _).mono (fun r h c => by
      obtain ⟨h0, hk⟩ := h c
      obtain ⟨e0, e1, e2⟩ := hw c
      have hf := finite_of_pre _ _ _ (hpre c)
      refine ⟨h0.trans ?_, hk⟩
      unfold Cert.AttentionRefIdeal.Value.res_main_v39
      rw [e0, e1, e2]
      exact host_attention _ _ _ (fun i => (hf i).1) (fun i => (hf i).2))
      (Cert.AttentionRefIdeal.Value.run (F := Ideal) m' g')⟩

end Cert.Attend

end
-- ==== Proof.PostNorm.lean ====
/-
  The layer norm of a row of 1024 entries, as a function of the row, and the two ways it is written: over a tile of 256 rows and
  over the whole stream. Both read, at an entry, as that function of the entry's row.
-/
module

public import proofs.«01_k».proof.Proof.Gen.MixIdeal.Skeleton
public import proofs.«01_k».proof.Proof.Gen.MixRefIdeal
public import proofs.«01_k».proof.Proof.InputGrad
public import Idealize.ShloMosaic.Lib.Pointwise.Reduce
public import Idealize.ShloMosaic.Lib.Pointwise

@[expose] public section

set_option maxRecDepth 16384

noncomputable section

namespace Cert.PostNorm

open Cert.MixIdeal Cert.MixIdeal.Gen Idealize.ShloMosaic

open Cert.DxProj (rowOf tileOf tile_row row_tile tiled tiled_at rows_at)

/-- The number added under the root. -/
def eps : EReal := Ideal.ofBits .f32 0x358637BD#32

/-- The residual's factor. -/
def alpha : EReal := Ideal.ofBits .f32 0x3FD744FD#32

def mean (z : Fin 1024 → EReal) : EReal := Ideal.div (∑ k, z k) (Ideal.ofBits .f32 0x44800000#32)

/-- An entry's distance from the mean of its row. -/
def dev (z : Fin 1024 → EReal) (d : Fin 1024) : EReal := z d - mean z

/-- The reciprocal root of a row's variance. -/
def scale (z : Fin 1024 → EReal) : EReal := Ideal.rsqrt (mean (fun k => dev z k * dev z k) + eps)

def normed (z g b : Fin 1024 → EReal) (d : Fin 1024) : EReal := dev z d * scale z * g d + b d

/-- A number times its logistic. -/
def gate (x : EReal) : EReal := x * Ideal.logistic x

/-! ## Over a tile -/

abbrev meanK (z : Vec Ideal S256x1024 .f32) : Vec Ideal S256x1 .f32 :=
  divf (F := Ideal) (φ := .f32) (shapeCast S256x1 (multiReduction (F := Ideal) (φ := .f32) .add [1] S256 z 0x00000000#32 Facts₀.reduces_S256x1024_S256 (.inl rfl) rfl)
    Facts₀.shapeCasts_S256_S256x1) (broadcast S256x1 (Scalar.ofBits (F := Ideal) .f32 0x44800000#32))

theorem meanK_at (z : Vec Ideal S256x1024 .f32) (r : Fin 256) (u : Fin 1) :
    meanK z (ix2 r u) = (mean fun k => z (ix2 r k) : EReal) := by
  unfold mean
  pointwise

abbrev devK (z : Vec Ideal S256x1024 .f32) : Vec Ideal S256x1024 .f32 :=
  subf (F := Ideal) (φ := .f32) z (broadcastTo S256x1024 (meanK z) Facts₀.broadcasts_S256x1_S256x1024)

theorem devK_at (z : Vec Ideal S256x1024 .f32) (r : Fin 256) (d : Fin 1024) :
    devK z (ix2 r d) = (dev (fun k => z (ix2 r k)) d : EReal) := by
  unfold dev mean
  pointwise

abbrev scaleK (z : Vec Ideal S256x1024 .f32) : Vec Ideal S256x1 .f32 :=
  rsqrt (F := Ideal) (φ := .f32) (addf (F := Ideal) (φ := .f32) (meanK (mulf (F := Ideal) (φ := .f32) (devK z) (devK z)))
    (broadcast S256x1 (Scalar.ofBits (F := Ideal) .f32 0x358637BD#32)))

theorem scaleK_at (z : Vec Ideal S256x1024 .f32) (r : Fin 256) (u : Fin 1) :
    scaleK z (ix2 r u) = (scale fun k => z (ix2 r k) : EReal) := by
  refine congrArg (fun a : EReal => Ideal.rsqrt (a + eps)) ((meanK_at _ r u).trans (congrArg mean (funext fun k => ?_)))
  exact congrArg₂ (fun a b : EReal => a * b) (devK_at z r k) (devK_at z r k)

abbrev normK (z : Vec Ideal S256x1024 .f32) (g b : Vec Ideal S1x1024 .f32) : Vec Ideal S256x1024 .f32 :=
  addf (F := Ideal) (φ := .f32) (mulf (F := Ideal) (φ := .f32) (mulf (F := Ideal) (φ := .f32) (devK z)
    (broadcastTo S256x1024 (scaleK z) Facts₀.broadcasts_S256x1_S256x1024)) (broadcastTo S256x1024 g Facts₀.broadcasts_S1x1024_S256x1024))
    (broadcastTo S256x1024 b Facts₀.broadcasts_S1x1024_S256x1024)

theorem spread_at (x : Vec Ideal S256x1 .f32) (r : Fin 256) (d : Fin 1024) :
    broadcastTo S256x1024 x Facts₀.broadcasts_S256x1_S256x1024 (ix2 r d) = x (ix2 r 0) := by
  pointwise

theorem par_at (x : Vec Ideal S1x1024 .f32) (r : Fin 256) (d : Fin 1024) :
    broadcastTo S256x1024 x Facts₀.broadcasts_S1x1024_S256x1024 (ix2 r d) = x (ix2 0 d) := by
  pointwise

theorem normK_at (z : Vec Ideal S256x1024 .f32) (g b : Vec Ideal S1x1024 .f32) (r : Fin 256) (d : Fin 1024) :
    normK z g b (ix2 r d) = (normed (fun k => z (ix2 r k)) (fun k => g (ix2 0 k)) (fun k => b (ix2 0 k)) d : EReal) :=
  congrArg₂ (fun a b : EReal => a + b) (congrArg₂ (fun a b : EReal => a * b) (congrArg₂ (fun a b : EReal => a * b) (devK_at z r d)
    ((spread_at _ r d).trans (scaleK_at z r 0))) (par_at g r d)) (par_at b r d)

/-! ## Over the stream -/

section Host

open Cert.MixRefIdeal (S9216x1 S9216 S_ S36x1x1024 S36x256x1024)
open Cert.MixRefIdeal.Facts₀

abbrev meanH (z : Vec Ideal S9216x1024 .f32) : Vec Ideal S9216x1 .f32 :=
  Host.divf (F := Ideal) (φ := .f32) (broadcastInDim S9216x1 ![0] bcast_S9216_S9216x1_0
    (Host.reduceAdd z (constant (F := Ideal) S_ .f32 0x00000000#32) reducesTo_S9216x1024_S9216_d1 h_S_))
    (broadcastInDim S9216x1 ![] bcast_S_S9216x1 (constant (F := Ideal) S_ .f32 0x44800000#32))

theorem meanH_at (z : Vec Ideal S9216x1024 .f32) (r : Fin 9216) (u : Fin 1) :
    meanH z (ix2 r u) = (mean fun k => z (ix2 r k) : EReal) := by
  unfold mean
  pointwise

abbrev spreadH (x : Vec Ideal S9216x1 .f32) : Vec Ideal S9216x1024 .f32 :=
  broadcastInDim S9216x1024 ![0, 1] bcast_S9216x1_S9216x1024_0_1 x

theorem spreadH_at (x : Vec Ideal S9216x1 .f32) (r : Fin 9216) (d : Fin 1024) : spreadH x (ix2 r d) = x (ix2 r 0) := by
  pointwise

abbrev parH (x : Vec Ideal S1x1024 .f32) : Vec Ideal S9216x1024 .f32 :=
  broadcastInDim S9216x1024 ![0, 1] bcast_S1x1024_S9216x1024_0_1 x

theorem parH_at (x : Vec Ideal S1x1024 .f32) (r : Fin 9216) (d : Fin 1024) : parH x (ix2 r d) = x (ix2 0 d) := by
  pointwise

abbrev devH (z : Vec Ideal S9216x1024 .f32) : Vec Ideal S9216x1024 .f32 := subf (F := Ideal) (φ := .f32) z (spreadH (meanH z))

theorem devH_at (z : Vec Ideal S9216x1024 .f32) (r : Fin 9216) (d : Fin 1024) :
    devH z (ix2 r d) = (dev (fun k => z (ix2 r k)) d : EReal) :=
  congrArg (fun a : EReal => (z (ix2 r d) : EReal) - a) ((spreadH_at _ r d).trans (meanH_at z r 0))

abbrev scaleH (z : Vec Ideal S9216x1024 .f32) : Vec Ideal S9216x1 .f32 :=
  Host.rsqrt (F := Ideal) (φ := .f32) (addf (F := Ideal) (φ := .f32) (meanH (mulf (F := Ideal) (φ := .f32) (devH z) (devH z)))
    (broadcastInDim S9216x1 ![] bcast_S_S9216x1 (constant (F := Ideal) S_ .f32 0x358637BD#32)))

theorem scaleH_at (z : Vec Ideal S9216x1024 .f32) (r : Fin 9216) (u : Fin 1) :
    scaleH z (ix2 r u) = (scale fun k => z (ix2 r k) : EReal) := by
  refine congrArg (fun a : EReal => Ideal.rsqrt (a + eps)) ((meanH_at _ r u).trans (congrArg mean (funext fun k => ?_)))
  exact congrArg₂ (fun a b : EReal => a * b) (devH_at z r k) (devH_at z r k)

abbrev normH (z : Vec Ideal S9216x1024 .f32) (g b : Vec Ideal S1x1024 .f32) : Vec Ideal S9216x1024 .f32 :=
  addf (F := Ideal) (φ := .f32) (mulf (F := Ideal) (φ := .f32) (mulf (F := Ideal) (φ := .f32) (devH z) (spreadH (scaleH z))) (parH g)) (parH b)

theorem normH_at (z : Vec Ideal S9216x1024 .f32) (g b : Vec Ideal S1x1024 .f32) (r : Fin 9216) (d : Fin 1024) :
    normH z g b (ix2 r d) = (normed (fun k => z (ix2 r k)) (fun k => g (ix2 0 k)) (fun k => b (ix2 0 k)) d : EReal) :=
  congrArg₂ (fun a b : EReal => a + b) (congrArg₂ (fun a b : EReal => a * b) (congrArg₂ (fun a b : EReal => a * b) (devH_at z r d)
    ((spreadH_at _ r d).trans (scaleH_at z r 0))) (parH_at g r d)) (parH_at b r d)

/-- A tile's row of the modulation, repeated over the tile's rows. -/
abbrev modH (s : ℕ) (mod : Vec Ideal S36x8x1024 .f32) (h : S36x8x1024.Slices ![0, s, 0] S36x1x1024) : Vec Ideal S36x256x1024 .f32 :=
  broadcastInDim S36x256x1024 ![0, 1, 2] bcast_S36x1x1024_S36x256x1024_0_1_2 (extractStridedSlice S36x1x1024 ![0, s, 0] mod h)

/-- The residual with the gated branch. -/
abbrev resH (x y : Vec Ideal S9216x1024 .f32) (w : Vec Ideal S36x256x1024 .f32) : Vec Ideal S9216x1024 .f32 :=
  shapeCast S9216x1024 (addf (F := Ideal) (φ := .f32) (mulf (F := Ideal) (φ := .f32)
    (broadcastInDim S36x256x1024 ![] bcast_S_S36x256x1024 (constant (F := Ideal) S_ .f32 0x3FD744FD#32)) (tiled x))
    (mulf (F := Ideal) (φ := .f32) w (tiled y))) shapeCasts_S36x256x1024_S9216x1024

theorem resH_at (x y : Vec Ideal S9216x1024 .f32) (w : Vec Ideal S36x256x1024 .f32) (t : Fin 36) (r : Fin 256) (d : Fin 1024) :
    resH x y w (ix2 (rowOf t r) d)
      = (alpha * x (ix2 (rowOf t r) d) + w (ix3 t r d) * y (ix2 (rowOf t r) d) : EReal) := by
  have hr : (⟨(rowOf t r).val % 256, by omega⟩ : Fin 256) = r :=
    Fin.ext (show (t.val * 256 + r.val) % 256 = r.val by omega)
  refine (rows_at _ (rowOf t r) d).trans ?_
  rw [tile_row, hr]
  exact congrArg₂ (fun a b : EReal => alpha * a + w (ix3 t r d) * b) (tiled_at x t r d) (tiled_at y t r d)

end Host

end Cert.PostNorm

end
-- ==== Proof.FfnConv.lean ====
/-
  The convolution of the feed-forward layer over neighbouring rows, and the gated activation of its columns: as functions of the
  arrays, as a tile of 256 rows with the rows before and after it computes them, and as the whole segments do.
-/
module

public import proofs.«01_k».proof.Proof.Gen.DownIdeal.Skeleton
public import proofs.«01_k».proof.Proof.Gen.DownRefIdeal
public import proofs.«01_k».proof.Proof.PostNorm
public import Idealize.ShloMosaic.Lib.Pointwise.Reduce
public import Idealize.ShloMosaic.Lib.Pointwise

@[expose] public section

set_option maxRecDepth 16384

noncomputable section

namespace Cert.FfnConv

open Cert.DownIdeal Cert.DownIdeal.Gen Idealize.ShloMosaic

open Cert.DxProj (rowOf tileOf tile_row row_tile)
open Cert.PostNorm (gate)

/-- The row before, in the segment of 256 or of 2048 rows, and zero before its first. -/
def before (u : Vec Ideal S9216x5632 .bf16) (a : Fin 9216) (e : Fin 5632) : EReal :=
  if a.val % 2304 = 0 ∨ a.val % 2304 = 256 then 0 else u (ix2 ⟨a.val - 1, by omega⟩ e)

/-- The row after, and zero after the segment's last. -/
def after (u : Vec Ideal S9216x5632 .bf16) (a : Fin 9216) (e : Fin 5632) : EReal :=
  if h : a.val % 2304 = 255 ∨ a.val % 2304 = 2303 then 0 else u (ix2 ⟨a.val + 1, by omega⟩ e)

/-- The convolution. -/
def conv (u : Vec Ideal S9216x5632 .bf16) (cw : Vec Ideal S8x5632 .f32) (cb : Vec Ideal S1x5632 .f32) (a : Fin 9216) (e : Fin 5632) : EReal :=
  cw (ix2 0 e) * before u a e + cw (ix2 1 e) * u (ix2 a e) + cw (ix2 2 e) * after u a e + cb (ix2 0 e)

/-- The column of the gate's argument and the column that it multiplies. -/
def colA (q : Fin 2) (k : Fin 1408) : Fin 5632 := ⟨q.val * 2816 + k.val, by omega⟩

def colB (q : Fin 2) (k : Fin 1408) : Fin 5632 := ⟨q.val * 2816 + 1408 + k.val, by omega⟩

/-- The gated activation. -/
def act (x : Fin 5632 → EReal) (q : Fin 2) (k : Fin 1408) : EReal := gate (x (colA q k)) * x (colB q k)

/-! ## Over a tile -/

theorem pay5_at (v0 : Vec Ideal S256x2816 .bf16) (r : Fin 256) (e : Fin 2816) : k0_pay5 v0 (ix2 r e) = v0 (ix2 r e) := by
  pointwise [k0_pay5]

/-- A tile's place among the nine of its sequence, as the call computes it. -/
abbrev nth (n : BitVec 32) : BitVec 32 :=
  Scalar.select (Scalar.andi (Scalar.xori (Scalar.cmpi .slt (Scalar.remsi n (Scalar.select (Scalar.cmpi .eq 9#32 0#32) 1#32 9#32)) 0#32)
      (Scalar.cmpi .slt (Scalar.select (Scalar.cmpi .eq 9#32 0#32) 1#32 9#32) 0#32))
      (Scalar.cmpi .ne (Scalar.remsi n (Scalar.select (Scalar.cmpi .eq 9#32 0#32) 1#32 9#32)) 0#32))
    (Scalar.addi (Scalar.remsi n (Scalar.select (Scalar.cmpi .eq 9#32 0#32) 1#32 9#32)) (Scalar.select (Scalar.cmpi .eq 9#32 0#32) 1#32 9#32))
    (Scalar.remsi n (Scalar.select (Scalar.cmpi .eq 9#32 0#32) 1#32 9#32))

abbrev flagP (n : BitVec 32) : BitVec 32 := Scalar.extui (Scalar.cmpi .sge (nth n) 2#32)

abbrev flagN (n : BitVec 32) : BitVec 32 := Scalar.extui (Scalar.andi (Scalar.cmpi .sge (nth n) 1#32) (Scalar.cmpi .sle (nth n) 7#32))

theorem flagP_eq : ∀ n : Fin 36, flagP (BitVec.ofNat 32 n.val) = if 2 ≤ n.val % 9 then 1#32 else 0#32 := by
  decide +kernel

theorem flagN_eq : ∀ n : Fin 36, flagN (BitVec.ofNat 32 n.val) = if 1 ≤ n.val % 9 ∧ n.val % 9 ≤ 7 then 1#32 else 0#32 := by
  decide +kernel

theorem num (p : Prop) [Decidable p] (v : BitVec 32) (h : v = if p then 1#32 else 0#32) :
    (Scalar.sitofp (F := Ideal) .f32 v : EReal) = if p then 1 else 0 := by
  show (((v.toInt : ℝ) : EReal)) = _
  rw [h]
  by_cases hp : p
  · rw [if_pos hp, if_pos hp, show ((1#32 : BitVec 32).toInt : ℤ) = 1 by decide]; simp
  · rw [if_neg hp, if_neg hp, show ((0#32 : BitVec 32).toInt : ℤ) = 0 by decide]; simp

theorem sel_at (n : BitVec 32) (x y : Vec Ideal S256x2816 .f32) (r : Fin 256) (e : Fin 2816) :
    select (cmpi .eq (iota .tc S256x2816 32 [0] Facts₀.iota_S256x2816_d0_w32) (broadcast S256x2816 n)) x y (ix2 r e)
      = (if BitVec.ofNat 32 r.val = n then x (ix2 r e) else y (ix2 r e) : EReal) := by
  pointwise
  by_cases hc : BitVec.ofNat 32 r.val = n
  · rw [if_pos hc, show IntOp.cmpi .eq (BitVec.ofNat 32 r.val) n = 1#1 by rw [hc]; simp [IntOp.cmpi]]
    rfl
  · rw [if_neg hc, show IntOp.cmpi .eq (BitVec.ofNat 32 r.val) n = 0#1 from congrArg BitVec.ofBool (beq_false_of_ne hc)]
    rfl

abbrev prevK (f : EReal) (v2 : Vec Ideal S16x2816 .bf16) : Vec Ideal S256x2816 .f32 :=
  broadcastTo S256x2816 (shapeCast S1x2816 (mulf (F := Ideal) (φ := .f32) (extractStridedSlice S1x2816 ![15, 0] (extf (F := Ideal) .f32 v2 Facts₀.bitsLt_bf16_f32)
    Facts₀.slices_S16x2816_o15_0_S1x2816) (broadcast S1x2816 f)) Facts₀.shapeCasts_S1x2816_S1x2816) Facts₀.broadcasts_S1x2816_S256x2816

theorem prevK_at (f : EReal) (v2 : Vec Ideal S16x2816 .bf16) (r : Fin 256) (e : Fin 2816) :
    prevK f v2 (ix2 r e) = (v2 (ix2 15 e) * f : EReal) := by
  pointwise

theorem rot1_at (x : Vec Ideal S256x2816 .f32) (r : Fin 256) (e : Fin 2816) (h : r.val ≠ 0) :
    dynamicRotate 0 1#32 none x Facts₀.rotates_S256x2816_d0 (ix2 r e) = x (ix2 ⟨r.val - 1, by omega⟩ e) := by
  pointwise
  refine congrArg (fun j => x (ix2 j e)) (Fin.ext ?_)
  show (r.val + 256 - 1 % 256) % 256 = r.val - 1
  omega

theorem rot255_at (x : Vec Ideal S256x2816 .f32) (r : Fin 256) (e : Fin 2816) (h : r.val ≠ 255) :
    dynamicRotate 0 255#32 none x Facts₀.rotates_S256x2816_d0 (ix2 r e) = x (ix2 ⟨r.val + 1, by omega⟩ e) := by
  pointwise
  refine congrArg (fun j => x (ix2 j e)) (Fin.ext ?_)
  show (r.val + 256 - 255 % 256) % 256 = r.val + 1
  omega

theorem pay6_at (i : grid0.Coords) (v0 : Vec Ideal S256x2816 .bf16) (v2 : Vec Ideal S16x2816 .bf16) (r : Fin 256) (e : Fin 2816) :
    k0_pay6 i v0 v2 (ix2 r e) = (if h : r.val = 0 then v2 (ix2 15 e) * (if 2 ≤ (i 0).val % 9 then 1 else 0)
      else v0 (ix2 ⟨r.val - 1, by omega⟩ e) : EReal) := by
  have hd : k0_pay6 i v0 v2 = select (cmpi .eq (iota .tc S256x2816 32 [0] Facts₀.iota_S256x2816_d0_w32) (broadcast S256x2816 0#32))
      (prevK (Scalar.sitofp (F := Ideal) .f32 (flagP (BitVec.ofNat 32 (i 0).val))) v2)
      (dynamicRotate 0 1#32 none (k0_pay5 v0) Facts₀.rotates_S256x2816_d0) := by
    unfold k0_pay6
    rfl
  rw [hd, sel_at]
  by_cases h : r.val = 0
  · rw [dif_pos h, if_pos (by rw [h]), prevK_at]
    exact congrArg (fun f : EReal => v2 (ix2 15 e) * f) (num _ _ (flagP_eq (i 0)))
  · rw [dif_neg h, if_neg (fun hc => h (by have := congrArg BitVec.toNat hc; simp only [BitVec.toNat_ofNat] at this; omega)),
      rot1_at _ r e h, pay5_at]

abbrev nextK (x : Vec Ideal S256x2816 .f32) (w : Vec Ideal S1x2816 .f32) : Vec Ideal S256x2816 .f32 :=
  select (k0_pay7) (broadcastTo S256x2816 (shapeCast S1x2816 w Facts₀.shapeCasts_S1x2816_S1x2816) Facts₀.broadcasts_S1x2816_S256x2816)
    (dynamicRotate 0 255#32 none x Facts₀.rotates_S256x2816_d0)

theorem lay_at (w : Vec Ideal S1x2816 .f32) (r : Fin 256) (e : Fin 2816) :
    broadcastTo S256x2816 (shapeCast S1x2816 w Facts₀.shapeCasts_S1x2816_S1x2816) Facts₀.broadcasts_S1x2816_S256x2816 (ix2 r e) = w (ix2 0 e) := by
  pointwise

theorem pay8_at (i : grid0.Coords) (v4 : Vec Ideal S16x2816 .bf16) (e : Fin 2816) :
    k0_pay8 i v4 (ix2 0 e) = (v4 (ix2 0 e) * (if 1 ≤ (i 0).val % 9 ∧ (i 0).val % 9 ≤ 7 then 1 else 0) : EReal) := by
  have hd : k0_pay8 i v4 (ix2 0 e) = (v4 (ix2 0 e) * Scalar.sitofp (F := Ideal) .f32 (flagN (BitVec.ofNat 32 (i 0).val)) : EReal) := by
    pointwise [k0_pay8]
  exact hd.trans (congrArg (fun f : EReal => v4 (ix2 0 e) * f) (num _ _ (flagN_eq (i 0))))

theorem nextK_at (i : grid0.Coords) (v0 : Vec Ideal S256x2816 .bf16) (v4 : Vec Ideal S16x2816 .bf16) (r : Fin 256) (e : Fin 2816) :
    nextK (k0_pay5 v0) (k0_pay8 i v4) (ix2 r e)
      = (if h : r.val = 255 then v4 (ix2 0 e) * (if 1 ≤ (i 0).val % 9 ∧ (i 0).val % 9 ≤ 7 then 1 else 0)
        else v0 (ix2 ⟨r.val + 1, by omega⟩ e) : EReal) := by
  refine (sel_at 255#32 _ _ r e).trans ?_
  by_cases h : r.val = 255
  · rw [dif_pos h, if_pos (by rw [h]), lay_at, pay8_at]
  · rw [dif_neg h, if_neg (fun hc => h (by have := congrArg BitVec.toNat hc; simp only [BitVec.toNat_ofNat] at this; omega)),
      rot255_at _ r e h, pay5_at]

abbrev convK (x p n : Vec Ideal S256x2816 .f32) (cw : Vec Ideal S8x2816 .f32) (cb : Vec Ideal S1x2816 .f32) : Vec Ideal S256x2816 .f32 :=
  addf (F := Ideal) (φ := .f32) (addf (F := Ideal) (φ := .f32) (addf (F := Ideal) (φ := .f32)
      (mulf (F := Ideal) (φ := .f32) (broadcastTo S256x2816 (extractStridedSlice S1x2816 ![0, 0] cw Facts₀.slices_S8x2816_o0_0_S1x2816) Facts₀.broadcasts_S1x2816_S256x2816) p)
      (mulf (F := Ideal) (φ := .f32) (broadcastTo S256x2816 (extractStridedSlice S1x2816 ![1, 0] cw Facts₀.slices_S8x2816_o1_0_S1x2816) Facts₀.broadcasts_S1x2816_S256x2816) x))
      (mulf (F := Ideal) (φ := .f32) (broadcastTo S256x2816 (extractStridedSlice S1x2816 ![2, 0] cw Facts₀.slices_S8x2816_o2_0_S1x2816) Facts₀.broadcasts_S1x2816_S256x2816) n))
    (broadcastTo S256x2816 cb Facts₀.broadcasts_S1x2816_S256x2816)

theorem convK_at (x p n : Vec Ideal S256x2816 .f32) (cw : Vec Ideal S8x2816 .f32) (cb : Vec Ideal S1x2816 .f32) (r : Fin 256) (e : Fin 2816) :
    convK x p n cw cb (ix2 r e) = (cw (ix2 0 e) * p (ix2 r e) + cw (ix2 1 e) * x (ix2 r e) + cw (ix2 2 e) * n (ix2 r e) + cb (ix2 0 e) : EReal) := by
  pointwise

/-- The columns of one group. -/
def locA (k : Fin 1408) : Fin 2816 := ⟨k.val, by omega⟩

def locB (k : Fin 1408) : Fin 2816 := ⟨1408 + k.val, by omega⟩

abbrev partK (a : Vec Ideal S256x2816 .f32) (w : Vec Ideal S1408x1024 .bf16) : Vec Ideal S256x1024 .f32 :=
  matmul (F := Ideal) (φ₁ := .bf16) (φ₂ := .bf16) dot_S256x1408_S1408x1024_S256x1024_1_0_0_1_n_n none
    (truncf (F := Ideal) .bf16 (mulf (F := Ideal) (φ := .f32) (mulf (F := Ideal) (φ := .f32) (extractStridedSlice S256x1408 ![0, 0] a Facts₀.slices_S256x2816_o0_0_S256x1408)
      (logistic (F := Ideal) (φ := .f32) (extractStridedSlice S256x1408 ![0, 0] a Facts₀.slices_S256x2816_o0_0_S256x1408)))
      (extractStridedSlice S256x1408 ![0, 1408] a Facts₀.slices_S256x2816_o0_1408_S256x1408)) Facts₀.bitsLt_bf16_f32) w (constant (F := Ideal) S256x1024 .f32 0x00000000#32)

theorem partK_at (a : Vec Ideal S256x2816 .f32) (w : Vec Ideal S1408x1024 .bf16) (r : Fin 256) (d : Fin 1024) :
    partK a w (ix2 r d) = (∑ k : Fin 1408, gate (a (ix2 r (locA k))) * a (ix2 r (locB k)) * w (ix2 k d) : EReal) := by
  unfold gate
  pointwise [locA, locB]

theorem pay1_def (x p : Vec Ideal S256x2816 .f32) (n : Vec Ideal S1x2816 .f32) (cw : Vec Ideal S8x2816 .f32) (cb : Vec Ideal S1x2816 .f32)
    (w : Vec Ideal S1408x1024 .bf16) :
    k0_pay1 x p k0_pay7 n 255#32 cw cb w = partK (convK x p (nextK x n) cw cb) w := by
  unfold k0_pay1
  rfl

/-! ## Over the stream -/

section Host

open Cert.DownRefIdeal (S_ S4x2304x5632 S4x256x5632 S4x2048x5632 S4x258x5632 S4x2050x5632 S4x1x5632 S5632 S1x1x5632 S9216x2x2x1408 S9216x2x1x1408 S9216x2x1408 S9216x2816)
open Cert.DownRefIdeal.Facts₀

/-- Row `p` of sequence `s`. -/
def rowSeq (s : Fin 4) (p : Fin 2304) : Fin 9216 := ⟨s.val * 2304 + p.val, by omega⟩

abbrev seqH (u : Vec Ideal S9216x5632 .bf16) : Vec Ideal S4x2304x5632 .f32 :=
  shapeCast S4x2304x5632 (extf (F := Ideal) .f32 u Cert.DownRefIdeal.Facts₀.bitsLt_bf16_f32) shapeCasts_S9216x5632_S4x2304x5632

theorem seqH_at (u : Vec Ideal S9216x5632 .bf16) (s : Fin 4) (p : Fin 2304) (e : Fin 5632) : seqH u (ix3 s p e) = u (ix2 (rowSeq s p) e) := by
  pointwise [rowSeq]

abbrev zeroH : Vec Ideal S4x1x5632 .f32 := broadcastInDim S4x1x5632 ![] bcast_S_S4x1x5632 (constant (F := Ideal) S_ .f32 0x00000000#32)

abbrev padS (y : Vec Ideal S4x2304x5632 .f32) : Vec Ideal S4x258x5632 .f32 :=
  concatenate S4x258x5632 1 [⟨S4x1x5632, zeroH⟩, ⟨S4x256x5632, extractStridedSlice S4x256x5632 ![0, 0, 0] y slices_S4x2304x5632_S4x256x5632_0_0_0⟩,
    ⟨S4x1x5632, zeroH⟩] concatenates_S4x1x5632_S4x256x5632_S4x1x5632_S4x258x5632_d1

abbrev padL (y : Vec Ideal S4x2304x5632 .f32) : Vec Ideal S4x2050x5632 .f32 :=
  concatenate S4x2050x5632 1 [⟨S4x1x5632, zeroH⟩, ⟨S4x2048x5632, extractStridedSlice S4x2048x5632 ![0, 256, 0] y slices_S4x2304x5632_S4x2048x5632_0_256_0⟩,
    ⟨S4x1x5632, zeroH⟩] concatenates_S4x1x5632_S4x2048x5632_S4x1x5632_S4x2050x5632_d1

theorem padS_at (y : Vec Ideal S4x2304x5632 .f32) (s : Fin 4) (j : Fin 258) (e : Fin 5632) :
    padS y (ix3 s j e) = (if h : j.val = 0 ∨ j.val = 257 then 0 else y (ix3 s ⟨j.val - 1, by omega⟩ e) : EReal) := by
  pointwise
  by_cases h : j.val < 1
  · rw [dif_pos h, dif_pos (by omega)]
  · rw [dif_neg h]
    by_cases h' : j.val - 1 < 256
    · rw [dif_pos h', dif_neg (by omega)]
    · rw [dif_neg h', dif_pos (by omega)]

theorem padL_at (y : Vec Ideal S4x2304x5632 .f32) (s : Fin 4) (j : Fin 2050) (e : Fin 5632) :
    padL y (ix3 s j e) = (if h : j.val = 0 ∨ j.val = 2049 then 0 else y (ix3 s ⟨256 + (j.val - 1), by omega⟩ e) : EReal) := by
  pointwise
  by_cases h : j.val < 1
  · rw [dif_pos h, dif_pos (by omega)]
  · rw [dif_neg h]
    by_cases h' : j.val - 1 < 2048
    · rw [dif_pos h', dif_neg (by omega)]
    · rw [dif_neg h', dif_pos (by omega)]

abbrev tapS (cw : Vec Ideal S8x5632 .f32) (i : ℕ) (h : S8x5632.Slices ![i, 0] S1x5632) : Vec Ideal S4x256x5632 .f32 :=
  broadcastInDim S4x256x5632 ![0, 1, 2] bcast_S1x1x5632_S4x256x5632_0_1_2 (broadcastInDim S1x1x5632 ![2] bcast_S5632_S1x1x5632_2
    (shapeCast S5632 (extractStridedSlice S1x5632 ![i, 0] cw h) shapeCasts_S1x5632_S5632))

abbrev tapL (cw : Vec Ideal S8x5632 .f32) (i : ℕ) (h : S8x5632.Slices ![i, 0] S1x5632) : Vec Ideal S4x2048x5632 .f32 :=
  broadcastInDim S4x2048x5632 ![0, 1, 2] bcast_S1x1x5632_S4x2048x5632_0_1_2 (broadcastInDim S1x1x5632 ![2] bcast_S5632_S1x1x5632_2
    (shapeCast S5632 (extractStridedSlice S1x5632 ![i, 0] cw h) shapeCasts_S1x5632_S5632))

abbrev convS (P : Vec Ideal S4x258x5632 .f32) (cw : Vec Ideal S8x5632 .f32) (cb : Vec Ideal S1x5632 .f32) : Vec Ideal S4x256x5632 .f32 :=
  addf (F := Ideal) (φ := .f32) (addf (F := Ideal) (φ := .f32) (addf (F := Ideal) (φ := .f32)
    (mulf (F := Ideal) (φ := .f32) (tapS cw 0 slices_S8x5632_S1x5632_0_0) (extractStridedSlice S4x256x5632 ![0, 0, 0] P slices_S4x258x5632_S4x256x5632_0_0_0))
    (mulf (F := Ideal) (φ := .f32) (tapS cw 1 slices_S8x5632_S1x5632_1_0) (extractStridedSlice S4x256x5632 ![0, 1, 0] P slices_S4x258x5632_S4x256x5632_0_1_0)))
    (mulf (F := Ideal) (φ := .f32) (tapS cw 2 slices_S8x5632_S1x5632_2_0) (extractStridedSlice S4x256x5632 ![0, 2, 0] P slices_S4x258x5632_S4x256x5632_0_2_0)))
    (broadcastInDim S4x256x5632 ![0, 1, 2] bcast_S1x1x5632_S4x256x5632_0_1_2 (broadcastInDim S1x1x5632 ![1, 2] bcast_S1x5632_S1x1x5632_1_2 cb))

abbrev convL (P : Vec Ideal S4x2050x5632 .f32) (cw : Vec Ideal S8x5632 .f32) (cb : Vec Ideal S1x5632 .f32) : Vec Ideal S4x2048x5632 .f32 :=
  addf (F := Ideal) (φ := .f32) (addf (F := Ideal) (φ := .f32) (addf (F := Ideal) (φ := .f32)
    (mulf (F := Ideal) (φ := .f32) (tapL cw 0 slices_S8x5632_S1x5632_0_0) (extractStridedSlice S4x2048x5632 ![0, 0, 0] P slices_S4x2050x5632_S4x2048x5632_0_0_0))
    (mulf (F := Ideal) (φ := .f32) (tapL cw 1 slices_S8x5632_S1x5632_1_0) (extractStridedSlice S4x2048x5632 ![0, 1, 0] P slices_S4x2050x5632_S4x2048x5632_0_1_0)))
    (mulf (F := Ideal) (φ := .f32) (tapL cw 2 slices_S8x5632_S1x5632_2_0) (extractStridedSlice S4x2048x5632 ![0, 2, 0] P slices_S4x2050x5632_S4x2048x5632_0_2_0)))
    (broadcastInDim S4x2048x5632 ![0, 1, 2] bcast_S1x1x5632_S4x2048x5632_0_1_2 (broadcastInDim S1x1x5632 ![1, 2] bcast_S1x5632_S1x1x5632_1_2 cb))

theorem convS_at (P : Vec Ideal S4x258x5632 .f32) (cw : Vec Ideal S8x5632 .f32) (cb : Vec Ideal S1x5632 .f32) (s : Fin 4) (j : Fin 256) (e : Fin 5632) :
    convS P cw cb (ix3 s j e) = (cw (ix2 0 e) * P (ix3 s ⟨j.val, by omega⟩ e) + cw (ix2 1 e) * P (ix3 s ⟨1 + j.val, by omega⟩ e)
      + cw (ix2 2 e) * P (ix3 s ⟨2 + j.val, by omega⟩ e) + cb (ix2 0 e) : EReal) := by
  pointwise

theorem convL_at (P : Vec Ideal S4x2050x5632 .f32) (cw : Vec Ideal S8x5632 .f32) (cb : Vec Ideal S1x5632 .f32) (s : Fin 4) (j : Fin 2048) (e : Fin 5632) :
    convL P cw cb (ix3 s j e) = (cw (ix2 0 e) * P (ix3 s ⟨j.val, by omega⟩ e) + cw (ix2 1 e) * P (ix3 s ⟨1 + j.val, by omega⟩ e)
      + cw (ix2 2 e) * P (ix3 s ⟨2 + j.val, by omega⟩ e) + cb (ix2 0 e) : EReal) := by
  pointwise

variable (u : Vec Ideal S9216x5632 .bf16) (cw : Vec Ideal S8x5632 .f32) (cb : Vec Ideal S1x5632 .f32)

theorem short_before (s : Fin 4) (j : Fin 256) (e : Fin 5632) :
    padS (seqH u) (ix3 s ⟨j.val, by omega⟩ e) = before u (rowSeq s ⟨j.val, by omega⟩) e := by
  refine (padS_at _ s _ e).trans ?_
  unfold before
  have hv : (rowSeq s ⟨j.val, by omega⟩).val = s.val * 2304 + j.val := rfl
  by_cases h : j.val = 0
  · rw [dif_pos (Or.inl h), if_pos (by omega)]
  · rw [dif_neg (by dsimp only; omega), if_neg (by omega), seqH_at]
    exact congrArg (fun a => u (ix2 a e)) (Fin.ext (show s.val * 2304 + (j.val - 1) = s.val * 2304 + j.val - 1 by omega))

theorem short_same (s : Fin 4) (j : Fin 256) (e : Fin 5632) :
    padS (seqH u) (ix3 s ⟨1 + j.val, by omega⟩ e) = u (ix2 (rowSeq s ⟨j.val, by omega⟩) e) := by
  refine (padS_at _ s _ e).trans ?_
  rw [dif_neg (by dsimp only; omega), seqH_at]
  exact congrArg (fun a => u (ix2 a e)) (Fin.ext (show s.val * 2304 + (1 + j.val - 1) = s.val * 2304 + j.val by omega))

theorem short_after (s : Fin 4) (j : Fin 256) (e : Fin 5632) :
    padS (seqH u) (ix3 s ⟨2 + j.val, by omega⟩ e) = after u (rowSeq s ⟨j.val, by omega⟩) e := by
  refine (padS_at _ s _ e).trans ?_
  unfold after
  have hv : (rowSeq s ⟨j.val, by omega⟩).val = s.val * 2304 + j.val := rfl
  by_cases h : j.val = 255
  · rw [dif_pos (by dsimp only; omega), dif_pos (by omega)]
  · rw [dif_neg (by dsimp only; omega), dif_neg (by omega), seqH_at]
    exact congrArg (fun a => u (ix2 a e)) (Fin.ext (show s.val * 2304 + (2 + j.val - 1) = s.val * 2304 + j.val + 1 by omega))

theorem short_at (s : Fin 4) (j : Fin 256) (e : Fin 5632) :
    convS (padS (seqH u)) cw cb (ix3 s j e) = (conv u cw cb (rowSeq s ⟨j.val, by omega⟩) e : EReal) := by
  refine (convS_at _ cw cb s j e).trans ?_
  rw [short_before, short_same, short_after]
  rfl

theorem long_before (s : Fin 4) (j : Fin 2048) (e : Fin 5632) :
    padL (seqH u) (ix3 s ⟨j.val, by omega⟩ e) = before u (rowSeq s ⟨256 + j.val, by omega⟩) e := by
  refine (padL_at _ s _ e).trans ?_
  unfold before
  have hv : (rowSeq s ⟨256 + j.val, by omega⟩).val = s.val * 2304 + (256 + j.val) := rfl
  by_cases h : j.val = 0
  · rw [dif_pos (Or.inl h), if_pos (by omega)]
  · rw [dif_neg (by dsimp only; omega), if_neg (by omega), seqH_at]
    exact congrArg (fun a => u (ix2 a e)) (Fin.ext (show s.val * 2304 + (256 + (j.val - 1)) = s.val * 2304 + (256 + j.val) - 1 by omega))

theorem long_same (s : Fin 4) (j : Fin 2048) (e : Fin 5632) :
    padL (seqH u) (ix3 s ⟨1 + j.val, by omega⟩ e) = u (ix2 (rowSeq s ⟨256 + j.val, by omega⟩) e) := by
  refine (padL_at _ s _ e).trans ?_
  rw [dif_neg (by dsimp only; omega), seqH_at]
  exact congrArg (fun a => u (ix2 a e)) (Fin.ext (show s.val * 2304 + (256 + (1 + j.val - 1)) = s.val * 2304 + (256 + j.val) by omega))

theorem long_after (s : Fin 4) (j : Fin 2048) (e : Fin 5632) :
    padL (seqH u) (ix3 s ⟨2 + j.val, by omega⟩ e) = after u (rowSeq s ⟨256 + j.val, by omega⟩) e := by
  refine (padL_at _ s _ e).trans ?_
  unfold after
  have hv : (rowSeq s ⟨256 + j.val, by omega⟩).val = s.val * 2304 + (256 + j.val) := rfl
  by_cases h : j.val = 2047
  · rw [dif_pos (by dsimp only; omega), dif_pos (by omega)]
  · rw [dif_neg (by dsimp only; omega), dif_neg (by omega), seqH_at]
    exact congrArg (fun a => u (ix2 a e)) (Fin.ext (show s.val * 2304 + (256 + (2 + j.val - 1)) = s.val * 2304 + (256 + j.val) + 1 by omega))

theorem long_at (s : Fin 4) (j : Fin 2048) (e : Fin 5632) :
    convL (padL (seqH u)) cw cb (ix3 s j e) = (conv u cw cb (rowSeq s ⟨256 + j.val, by omega⟩) e : EReal) := by
  refine (convL_at _ cw cb s j e).trans ?_
  rw [long_before, long_same, long_after]
  rfl

abbrev wholeH (x : Vec Ideal S4x256x5632 .f32) (y : Vec Ideal S4x2048x5632 .f32) : Vec Ideal S9216x2x2x1408 .f32 :=
  shapeCast S9216x2x2x1408 (concatenate S4x2304x5632 1 [⟨S4x256x5632, x⟩, ⟨S4x2048x5632, y⟩] concatenates_S4x256x5632_S4x2048x5632_S4x2304x5632_d1)
    shapeCasts_S4x2304x5632_S9216x2x2x1408

theorem cat_at (x : Vec Ideal S4x256x5632 .f32) (y : Vec Ideal S4x2048x5632 .f32) (s : Fin 4) (p : Fin 2304) (e : Fin 5632) :
    concatenate S4x2304x5632 1 [⟨S4x256x5632, x⟩, ⟨S4x2048x5632, y⟩] concatenates_S4x256x5632_S4x2048x5632_S4x2304x5632_d1 (ix3 s p e)
      = (if h : p.val < 256 then x (ix3 s ⟨p.val, h⟩ e) else y (ix3 s ⟨p.val - 256, by omega⟩ e) : EReal) := by
  pointwise

/-- Column `k` of half `z` of group `q`. -/
def colPt (q z : Fin 2) (k : Fin 1408) : Fin 5632 := ⟨q.val * 2816 + z.val * 1408 + k.val, by omega⟩

theorem split_at (w : Vec Ideal S4x2304x5632 .f32) (a : Fin 9216) (q z : Fin 2) (k : Fin 1408) :
    shapeCast S9216x2x2x1408 w shapeCasts_S4x2304x5632_S9216x2x2x1408 (ix4 a q z k)
      = w (ix3 ⟨a.val / 2304, by omega⟩ ⟨a.val % 2304, by omega⟩ (colPt q z k)) := by
  pointwise [colPt]

theorem wholeH_at (a : Fin 9216) (q z : Fin 2) (k : Fin 1408) :
    wholeH (convS (padS (seqH u)) cw cb) (convL (padL (seqH u)) cw cb) (ix4 a q z k) = (conv u cw cb a (colPt q z k) : EReal) := by
  refine (split_at _ a q z k).trans ((cat_at _ _ _ _ _).trans ?_)
  by_cases h : a.val % 2304 < 256
  · rw [dif_pos h, short_at]
    exact congrArg (fun a => conv u cw cb a _) (Fin.ext (show a.val / 2304 * 2304 + a.val % 2304 = a.val by omega))
  · rw [dif_neg h, long_at]
    exact congrArg (fun a => conv u cw cb a _) (Fin.ext (show a.val / 2304 * 2304 + (256 + (a.val % 2304 - 256)) = a.val by omega))

abbrev halfA (a : Vec Ideal S9216x2x2x1408 .f32) : Vec Ideal S9216x2x1408 .f32 :=
  shapeCast S9216x2x1408 (extractStridedSlice S9216x2x1x1408 ![0, 0, 0, 0] a slices_S9216x2x2x1408_S9216x2x1x1408_0_0_0_0) shapeCasts_S9216x2x1x1408_S9216x2x1408

abbrev halfB (a : Vec Ideal S9216x2x2x1408 .f32) : Vec Ideal S9216x2x1408 .f32 :=
  shapeCast S9216x2x1408 (extractStridedSlice S9216x2x1x1408 ![0, 0, 1, 0] a slices_S9216x2x2x1408_S9216x2x1x1408_0_0_1_0) shapeCasts_S9216x2x1x1408_S9216x2x1408

theorem halfA_at (x : Vec Ideal S9216x2x2x1408 .f32) (a : Fin 9216) (q : Fin 2) (k : Fin 1408) : halfA x (ix3 a q k) = x (ix4 a q 0 k) := by
  pointwise

theorem halfB_at (x : Vec Ideal S9216x2x2x1408 .f32) (a : Fin 9216) (q : Fin 2) (k : Fin 1408) : halfB x (ix3 a q k) = x (ix4 a q 1 k) := by
  pointwise

abbrev gateH (x : Vec Ideal S9216x2x1408 .f32) : Vec Ideal S9216x2x1408 .f32 :=
  mulf (F := Ideal) (φ := .f32) x (Host.divf (F := Ideal) (φ := .f32) (broadcastInDim S9216x2x1408 ![] bcast_S_S9216x2x1408 (constant (F := Ideal) S_ .f32 0x3F800000#32))
    (addf (F := Ideal) (φ := .f32) (broadcastInDim S9216x2x1408 ![] bcast_S_S9216x2x1408 (constant (F := Ideal) S_ .f32 0x3F800000#32))
      (Host.exp (F := Ideal) (φ := .f32) (Host.negf (F := Ideal) (φ := .f32) x))))

theorem gateH_at (x : Vec Ideal S9216x2x1408 .f32) (a : Fin 9216) (q : Fin 2) (k : Fin 1408) : gateH x (ix3 a q k) = (gate (x (ix3 a q k)) : EReal) := by
  have h : gateH x (ix3 a q k) = (x (ix3 a q k) * Ideal.div 1 (1 + Ideal.exp (-(x (ix3 a q k)))) : EReal) := by
    pointwise
  refine h.trans ?_
  unfold gate Ideal.logistic
  rfl

theorem flat_at (x : Vec Ideal S9216x2x1408 .f32) (a : Fin 9216) (k : Fin 2816) :
    shapeCast S9216x2816 x shapeCasts_S9216x2x1408_S9216x2816 (ix2 a k) = x (ix3 a ⟨k.val / 1408, by omega⟩ ⟨k.val % 1408, by omega⟩) := by
  pointwise

abbrev actH (x : Vec Ideal S9216x2x2x1408 .f32) : Vec Ideal S9216x2816 .f32 :=
  shapeCast S9216x2816 (mulf (F := Ideal) (φ := .f32) (gateH (halfA x)) (halfB x)) shapeCasts_S9216x2x1408_S9216x2816

theorem actH_at (a : Fin 9216) (k : Fin 2816) :
    actH (wholeH (convS (padS (seqH u)) cw cb) (convL (padL (seqH u)) cw cb)) (ix2 a k)
      = (act (conv u cw cb a) ⟨k.val / 1408, by omega⟩ ⟨k.val % 1408, by omega⟩ : EReal) := by
  refine (flat_at _ a k).trans ?_
  refine congrArg₂ (fun x y : EReal => x * y) ((gateH_at _ a _ _).trans (congrArg gate ((halfA_at _ a _ _).trans (wholeH_at u cw cb a _ _ _))))
    ((halfB_at _ a _ _).trans (wholeH_at u cw cb a _ _ _)) |>.trans ?_
  unfold act
  have hA : ∀ (q : Fin 2) (k : Fin 1408), colPt q 0 k = colA q k := fun q k => Fin.ext (show q.val * 2816 + 0 * 1408 + k.val = q.val * 2816 + k.val by omega)
  have hB : ∀ (q : Fin 2) (k : Fin 1408), colPt q 1 k = colB q k := fun q k => Fin.ext (show q.val * 2816 + 1 * 1408 + k.val = q.val * 2816 + 1408 + k.val by omega)
  rw [hA, hB]

/-- Row `k` of group `q` of the downward weight. -/
def rowW (q : Fin 2) (k : Fin 1408) : Fin 2816 := ⟨q.val * 1408 + k.val, by omega⟩

/-- The downward projection. -/
def down (wd : Vec Ideal S2816x1024 .bf16) (a : Fin 9216) (d : Fin 1024) : EReal :=
  ∑ q : Fin 2, ∑ k : Fin 1408, act (conv u cw cb a) q k * wd (ix2 (rowW q k) d)

theorem dot_at (h : Vec Ideal S9216x2816 .f32) (w : Vec Ideal S2816x1024 .bf16) (a : Fin 9216) (d : Fin 1024) :
    Host.dotGeneral (F := Ideal) (φ₁ := .f32) (φ₂ := .f32) Cert.DownRefIdeal.dot_S9216x2816_S2816x1024_S9216x1024_1_0_0_1_n_n none h
        (extf .f32 w Cert.DownRefIdeal.Facts₀.bitsLt_bf16_f32) (ix2 a d)
      = (∑ k : Fin 2816, (h (ix2 a k) : EReal) * w (ix2 k d) : EReal) := by
  pointwise

theorem sum_groups (f : Fin 2816 → EReal) : (∑ k : Fin 2816, f k) = ∑ q : Fin 2, ∑ k : Fin 1408, f (rowW q k) := by
  rw [← Fintype.sum_prod_type' (f := fun (q : Fin 2) (k : Fin 1408) => f (rowW q k))]
  symm
  refine Fintype.sum_equiv (finProdFinEquiv : Fin 2 × Fin 1408 ≃ Fin (2 * 1408)) _ _ fun p => congrArg f (Fin.ext ?_)
  have hv : (finProdFinEquiv p : Fin (2 * 1408)).val = p.2.val + 1408 * p.1.val := rfl
  show p.1.val * 1408 + p.2.val = (finProdFinEquiv p : Fin (2 * 1408)).val
  rw [hv]; omega

theorem downH_at (wd : Vec Ideal S2816x1024 .bf16) (a : Fin 9216) (d : Fin 1024) :
    Host.dotGeneral (F := Ideal) (φ₁ := .f32) (φ₂ := .f32) Cert.DownRefIdeal.dot_S9216x2816_S2816x1024_S9216x1024_1_0_0_1_n_n none
        (actH (wholeH (convS (padS (seqH u)) cw cb) (convL (padL (seqH u)) cw cb)))
        (extf .f32 wd Cert.DownRefIdeal.Facts₀.bitsLt_bf16_f32) (ix2 a d)
      = (down u cw cb wd a d : EReal) := by
  refine (dot_at _ wd a d).trans ((sum_groups _).trans ?_)
  refine Finset.sum_congr rfl fun q _ => Finset.sum_congr rfl fun k _ => congrArg (fun b : EReal => b * wd (ix2 (rowW q k) d)) ?_
  refine (actH_at u cw cb a (rowW q k)).trans ?_
  have hq : (⟨(rowW q k).val / 1408, by omega⟩ : Fin 2) = q := Fin.ext (show (q.val * 1408 + k.val) / 1408 = q.val by omega)
  have hk : (⟨(rowW q k).val % 1408, by omega⟩ : Fin 1408) = k := Fin.ext (show (q.val * 1408 + k.val) % 1408 = k.val by omega)
  rw [hq, hk]

end Host

end Cert.FfnConv

end
-- ==== Proof.FfnDown.lean ====
/-
  The feed-forward layer's second half: the convolution over neighbouring rows, the gated activation, the downward projection in
  two groups of columns added one after the other, and the layer norm of the residual. Each of its two results ends at the same
  function of its arguments as the reference's.
-/
module

public import proofs.«01_k».proof.Defs
public import proofs.«01_k».proof.Proof.Gen.DownIdeal.Frame
public import proofs.«01_k».proof.Proof.Gen.DownRefIdeal.Run
public import proofs.«01_k».proof.Proof.FfnConv
public import Idealize.ShloMosaic.Lib.Pipeline.Value

@[expose] public section

set_option maxRecDepth 16384

noncomputable section

namespace Cert.FfnDown

open Cert.DownIdeal Cert.DownIdeal.Gen Idealize.ShloMosaic Idealize.ShloMosaic.TcCoe Idealize.SL.Sem
open Idealize.ShloMosaic.Pipeline (Dat)

open Cert.DxProj (hz3 rowOf tileOf tile_row row_tile)
open Cert.Adam (hz)
open Cert.PostNorm
open Cert.FfnConv

/-- A tile's part of the projection. -/
abbrev tileK (i : grid0.Coords) (x0 : Vec Ideal S256x2816 .bf16) (x1 x2 : Vec Ideal S16x2816 .bf16) (x3 : Vec Ideal S8x2816 .f32)
    (x4 : Vec Ideal S1x2816 .f32) (x5 : Vec Ideal S1408x1024 .bf16) : Vec Ideal S256x1024 .f32 :=
  partK (convK (k0_pay5 x0) (k0_pay6 i x0 x1) (nextK (k0_pay5 x0) (k0_pay8 i x2)) x3 x4) x5

/-- Column `e` of group `q`. -/
def grp (q : Fin 2) (e : Fin 2816) : Fin 5632 := ⟨q.val * 2816 + e.val, by omega⟩

section Tile

variable (u : Vec Ideal S9216x5632 .bf16) (cw : Vec Ideal S8x5632 .f32) (cb : Vec Ideal S1x5632 .f32) (wd : Vec Ideal S2816x1024 .bf16)
  (i : grid0.Coords) (j : Fin 36) (q : Fin 2) (hi : (i 0).val = j.val)
  (x0 : Vec Ideal S256x2816 .bf16) (x1 x2 : Vec Ideal S16x2816 .bf16) (x3 : Vec Ideal S8x2816 .f32)
  (x4 : Vec Ideal S1x2816 .f32) (x5 : Vec Ideal S1408x1024 .bf16)
  (h0 : ∀ r e, x0 (ix2 r e) = u (ix2 (rowOf j r) (grp q e)))
  (h1 : ∀ (a : Fin 9216) e, a.val + 1 = j.val * 256 → x1 (ix2 15 e) = u (ix2 a (grp q e)))
  (h2 : ∀ (a : Fin 9216) e, a.val = j.val * 256 + 256 → x2 (ix2 0 e) = u (ix2 a (grp q e)))
  (h3 : ∀ s e, x3 (ix2 s e) = cw (ix2 s (grp q e)))
  (h4 : ∀ e, x4 (ix2 0 e) = cb (ix2 0 (grp q e)))
  (h5 : ∀ k d, x5 (ix2 k d) = wd (ix2 (rowW q k) d))

include hi h0 h1 in
theorem before_at (r : Fin 256) (e : Fin 2816) : k0_pay6 i x0 x1 (ix2 r e) = (before u (rowOf j r) (grp q e) : EReal) := by
  refine (pay6_at i x0 x1 r e).trans ?_
  have hv : (rowOf j r).val = j.val * 256 + r.val := rfl
  rw [hi]
  unfold before
  by_cases h : r.val = 0
  · rw [dif_pos h]
    by_cases hj : 2 ≤ j.val % 9
    · rw [if_pos hj, if_neg (by omega), mul_one]
      exact h1 _ e (by dsimp only; omega)
    · rw [if_neg hj, if_pos (by omega), mul_zero]
  · rw [dif_neg h, if_neg (by omega)]
    refine (h0 _ e).trans (congrArg (fun a => u (ix2 a _)) (Fin.ext ?_))
    show j.val * 256 + (r.val - 1) = j.val * 256 + r.val - 1
    omega

include hi h0 h2 in
theorem after_at (r : Fin 256) (e : Fin 2816) :
    nextK (k0_pay5 x0) (k0_pay8 i x2) (ix2 r e) = (after u (rowOf j r) (grp q e) : EReal) := by
  refine (nextK_at i x0 x2 r e).trans ?_
  have hv : (rowOf j r).val = j.val * 256 + r.val := rfl
  rw [hi]
  unfold after
  by_cases h : r.val = 255
  · rw [dif_pos h]
    by_cases hj : 1 ≤ j.val % 9 ∧ j.val % 9 ≤ 7
    · rw [if_pos hj, dif_neg (by omega), mul_one]
      exact h2 _ e (by dsimp only; omega)
    · rw [if_neg hj, dif_pos (by omega), mul_zero]
  · rw [dif_neg h, dif_neg (by omega)]
    refine (h0 _ e).trans (congrArg (fun a => u (ix2 a _)) (Fin.ext ?_))
    show j.val * 256 + (r.val + 1) = j.val * 256 + r.val + 1
    omega

include hi h0 h1 h2 h3 h4 in
theorem tile_conv (r : Fin 256) (e : Fin 2816) :
    convK (k0_pay5 x0) (k0_pay6 i x0 x1) (nextK (k0_pay5 x0) (k0_pay8 i x2)) x3 x4 (ix2 r e) = (conv u cw cb (rowOf j r) (grp q e) : EReal) := by
  refine (convK_at _ _ _ x3 x4 r e).trans ?_
  rw [before_at u i j q hi x0 x1 h0 h1 r e, after_at u i j q hi x0 x2 h0 h2 r e, pay5_at, h0, h3, h3, h3, h4]
  rfl

include hi h0 h1 h2 h3 h4 h5 in
theorem tile_at (r : Fin 256) (d : Fin 1024) : tileK i x0 x1 x2 x3 x4 x5 (ix2 r d)
    = (∑ k : Fin 1408, act (conv u cw cb (rowOf j r)) q k * wd (ix2 (rowW q k) d) : EReal) := by
  refine (partK_at _ x5 r d).trans (Finset.sum_congr rfl fun k _ => ?_)
  have hA : grp q (locA k) = colA q k := rfl
  have hB : grp q (locB k) = colB q k := Fin.ext (show q.val * 2816 + (1408 + k.val) = q.val * 2816 + 1408 + k.val by omega)
  rw [tile_conv u cw cb i j q hi x0 x1 x2 x3 x4 h0 h1 h2 h3 h4 r (locA k), tile_conv u cw cb i j q hi x0 x1 x2 x3 x4 h0 h1 h2 h3 h4 r (locB k), h5, hA, hB]
  rfl

end Tile

/-! ## What a block leaves -/

abbrev resK (x y : Vec Ideal S256x1024 .f32) (md : Vec Ideal S1x8x1024 .f32) : Vec Ideal S256x1024 .f32 :=
  addf (F := Ideal) (φ := .f32) (mulf (F := Ideal) (φ := .f32) (broadcast S256x1024 (Scalar.ofBits (F := Ideal) .f32 0x3FD744FD#32)) x)
    (mulf (F := Ideal) (φ := .f32) (broadcastTo S256x1024 (extractStridedSlice S1x1024 ![5, 0] (shapeCast S8x1024 md Facts₀.shapeCasts_S1x8x1024_S8x1024)
      Facts₀.slices_S8x1024_o5_0_S1x1024) Facts₀.broadcasts_S1x1024_S256x1024) y)

theorem resK_at (x y : Vec Ideal S256x1024 .f32) (md : Vec Ideal S1x8x1024 .f32) (r : Fin 256) (d : Fin 1024) :
    resK x y md (ix2 r d) = (alpha * x (ix2 r d) + md (ix3 0 5 d) * y (ix2 r d) : EReal) := by
  unfold alpha
  pointwise

theorem pay2_at (x p : Vec Ideal S256x2816 .f32) (y : IVec S256x2816 1) (n : Vec Ideal S1x2816 .f32) (b : BitVec 32) (cw : Vec Ideal S8x2816 .f32)
    (cb : Vec Ideal S1x2816 .f32) (w : Vec Ideal S1408x1024 .bf16) (r : Fin 256) (d : Fin 1024) :
    k0_pay2 x p y n b cw cb w (ix2 r d) = k0_pay1 x p y n b cw cb w (ix2 r d) := by
  unfold k0_pay2
  generalize k0_pay1 x p y n b cw cb w = v
  pointwise

theorem pay4_def (x p : Vec Ideal S256x2816 .f32) (y : IVec S256x2816 1) (n : Vec Ideal S1x2816 .f32) (b : BitVec 32) (cw : Vec Ideal S8x2816 .f32)
    (cb : Vec Ideal S1x2816 .f32) (w : Vec Ideal S1408x1024 .bf16) (s : Vec Ideal S256x1024 .f32) (x6 : Vec Ideal S256x1024 .f32)
    (x7 : Vec Ideal S1x8x1024 .f32) (x8 x9 : Vec Ideal S1x1024 .f32) :
    k0_pay4 x p y n b cw cb w s x6 x7 x8 x9 = normK (resK x6 (k0_pay3 x p y n b cw cb w s) x7) x8 x9 := by
  unfold k0_pay4
  rfl

theorem pay3_def (x p : Vec Ideal S256x2816 .f32) (y : IVec S256x2816 1) (n : Vec Ideal S1x2816 .f32) (b : BitVec 32) (cw : Vec Ideal S8x2816 .f32)
    (cb : Vec Ideal S1x2816 .f32) (w : Vec Ideal S1408x1024 .bf16) (s : Vec Ideal S256x1024 .f32) :
    k0_pay3 x p y n b cw cb w s = addf (F := Ideal) (φ := .f32) s (k0_pay1 x p y n b cw cb w) := rfl

theorem ldU (x : Vec Ideal S256x2816 .bf16) (h) : View.ld x (Rect.unit (s := S256x2816) ![0, 0] S256x2816.size h) = x := by rw [View.ld_unit_zero hz]

theorem ldE (x : Vec Ideal S16x2816 .bf16) (h) : View.ld x (Rect.unit (s := S16x2816) ![0, 0] S16x2816.size h) = x := by rw [View.ld_unit_zero hz]

theorem ldC (x : Vec Ideal S8x2816 .f32) (h) : View.ld x (Rect.unit (s := S8x2816) ![0, 0] S8x2816.size h) = x := by rw [View.ld_unit_zero hz]

theorem ldB (x : Vec Ideal S1x2816 .f32) (h) : View.ld x (Rect.unit (s := S1x2816) ![0, 0] S1x2816.size h) = x := by rw [View.ld_unit_zero hz]

theorem ldW (x : Vec Ideal S1408x1024 .bf16) (h) : View.ld x (Rect.unit (s := S1408x1024) ![0, 0] S1408x1024.size h) = x := by rw [View.ld_unit_zero hz]

theorem ldX (x : Vec Ideal S256x1024 .f32) (h) : View.ld x (Rect.unit (s := S256x1024) ![0, 0] S256x1024.size h) = x := by rw [View.ld_unit_zero hz]

theorem ldM (x : Vec Ideal S1x8x1024 .f32) (h) : View.ld x (Rect.unit (s := S1x8x1024) ![0, 0, 0] S1x8x1024.size h) = x := by rw [View.ld_unit_zero hz3]

theorem ldG (x : Vec Ideal S1x1024 .f32) (h) : View.ld x (Rect.unit (s := S1x1024) ![0, 0] S1x1024.size h) = x := by rw [View.ld_unit_zero hz]

variable (x0 : Vec Ideal S256x2816 .bf16) (x1 x2 : Vec Ideal S16x2816 .bf16) (x3 : Vec Ideal S8x2816 .f32) (x4 : Vec Ideal S1x2816 .f32) (x5 : Vec Ideal S1408x1024 .bf16)
  (x6 : Vec Ideal S256x1024 .f32) (x7 : Vec Ideal S1x8x1024 .f32) (x8 x9 : Vec Ideal S1x1024 .f32)

variable (arg2 : Memref sig .tc .vmem S256x2816 .bf16) (harg2 : arg2.IsWhole) (arg3 : Memref sig .tc .vmem S16x2816 .bf16) (harg3 :
  arg3.IsWhole) (arg4 : Memref sig .tc .vmem S16x2816 .bf16) (harg4 : arg4.IsWhole) (arg5 : Memref sig .tc .vmem S8x2816 .f32) (harg5 :
  arg5.IsWhole) (arg6 : Memref sig .tc .vmem S1x2816 .f32) (harg6 : arg6.IsWhole) (arg7 : Memref sig .tc .vmem S1408x1024 .bf16) (harg7 :
  arg7.IsWhole) (arg8 : Memref sig .tc .vmem S256x1024 .f32) (harg8 : arg8.IsWhole) (arg9 : Memref sig .tc .vmem S1x8x1024 .f32) (harg9 :
  arg9.IsWhole) (arg10 : Memref sig .tc .vmem S1x1024 .f32) (harg10 : arg10.IsWhole) (arg11 : Memref sig .tc .vmem S1x1024 .f32) (harg11 :
  arg11.IsWhole) (arg12 : Memref sig .tc .vmem S256x1024 .f32) (harg12 : arg12.IsWhole) (arg13 : Memref sig .tc .vmem S256x1024 .f32)
  (harg13 : arg13.IsWhole) (arg14 : Memref sig .tc .vmem S256x1024 .f32) (harg14 : arg14.IsWhole)

/-- After the first group. -/
theorem outA_eq (c : Dev nD) (i : grid0.Coords) (hc0 : cond0_0 i) (hc1 : ¬cond0_1 i)
    (r : Fin 256) (d : Fin 1024) :
    sout0_A_0 c i _ harg2 _ harg3 _ harg4 _ harg5 _ harg6 _ harg7 _ harg8 _ harg9 _ harg10 _ harg11 _ harg12 _ harg13 _ harg14 hc0 hc1 x0 x1 x2 x3 x4 x5 x6 x7 x8 x9 (ix2 r d) = tileK i x0 x1 x2 x3 x4 x5 (ix2 r d) := by
  unfold sout0_A_0
  rw [View.read_writes_eq_canon _ _ _ ?w]
  case w => apply scover0_A_0
  unfold kernelRun0_A
  dsimp only
  rw [View.canon_unit_zero hz]
  unfold kernelRun0_A.sl.r kernelRun0_A.sl.r_1 kernelRun0_A.sl.r_2
  simp only [View.readAt_eq_ld, Memref.IsWhole.read_unread]
  rw [ldU x0, ldE x1, ldE x2, ldC x3, ldB x4, ldW x5]
  rw [pay2_at, pay1_def]

/-- After the second group, the projection. -/
theorem outF_eq (c : Dev nD) (i : grid0.Coords) (hc0 : ¬cond0_0 i) (hc1 : cond0_1 i)
    (s : Vec Ideal S256x1024 .f32) :
    out0_B_10 c i _ harg2 _ harg3 _ harg4 _ harg5 _ harg6 _ harg7 _ harg8 _ harg9 _ harg10 _ harg11 _ harg12 _ harg13 _ harg14 hc0 hc1 x0 x1 x2 x3 x4 x5 x6 x7 x8 x9 s = addf (F := Ideal) (φ := .f32) s (tileK i x0 x1 x2 x3 x4 x5) := by
  unfold out0_B_10
  rw [View.read_writes_eq_canon _ _ _ ?w]
  case w => apply cover0_B_10
  unfold kernelRun0_B
  dsimp only
  rw [View.canon_unit_zero hz]
  unfold kernelRun0_B.sl.r kernelRun0_B.sl.r_1 kernelRun0_B.sl.r_2
  simp only [View.readAt_eq_ld, Memref.IsWhole.read_unread]
  rw [ldU x0, ldE x1, ldE x2, ldC x3, ldB x4, ldW x5, ldX s]
  rw [pay3_def, pay1_def]

/-- And the norm of the residual. -/
theorem outX_eq (c : Dev nD) (i : grid0.Coords) (hc0 : ¬cond0_0 i) (hc1 : cond0_1 i)
    (s : Vec Ideal S256x1024 .f32) :
    out0_B_11 c i _ harg2 _ harg3 _ harg4 _ harg5 _ harg6 _ harg7 _ harg8 _ harg9 _ harg10 _ harg11 _ harg12 _ harg13 _ harg14 hc0 hc1 x0 x1 x2 x3 x4 x5 x6 x7 x8 x9 s
      = normK (resK x6 (addf (F := Ideal) (φ := .f32) s (tileK i x0 x1 x2 x3 x4 x5)) x7) x8 x9 := by
  unfold out0_B_11
  rw [View.read_writes_eq_canon _ _ _ ?w]
  case w => apply cover0_B_11
  unfold kernelRun0_B
  dsimp only
  rw [View.canon_unit_zero hz]
  unfold kernelRun0_B.sl.r kernelRun0_B.sl.r_1 kernelRun0_B.sl.r_2
  simp only [View.readAt_eq_ld, Memref.IsWhole.read_unread]
  rw [ldU x0, ldE x1, ldE x2, ldC x3, ldB x4, ldW x5, ldX s, ldX x6, ldM x7, ldG x8, ldG x9]
  rw [pay4_def, pay3_def, pay1_def]

/-! ## The grid's blocks -/

variable (m : (ℓ : Loc nD τ sig) → Buf (Elt Ideal) ℓ) (ρ : Dev nD → PrngReg)

/-- The projection, and the norm of the residual. -/
def outputF (u : Vec Ideal S9216x5632 .bf16) (cw : Vec Ideal S8x5632 .f32) (cb : Vec Ideal S1x5632 .f32) (wd : Vec Ideal S2816x1024 .bf16) :
    Vec Ideal S9216x1024 .f32 := fun i => down u cw cb wd (i 0) (i 1)

def outputX (u : Vec Ideal S9216x5632 .bf16) (cw : Vec Ideal S8x5632 .f32) (cb : Vec Ideal S1x5632 .f32) (wd : Vec Ideal S2816x1024 .bf16)
    (x : Vec Ideal S9216x1024 .f32) (md : Vec Ideal S36x8x1024 .f32) (g b : Vec Ideal S1x1024 .f32) : Vec Ideal S9216x1024 .f32 := fun i =>
  normed (fun k => alpha * x (ix2 (i 0) k) + md (ix3 (tileOf (i 0)) 5 k) * down u cw cb wd (i 0) k) (fun k => g (ix2 0 k)) (fun k => b (ix2 0 k)) (i 1)

/-- A point's tile and its group of columns. -/
def rowPt (t : Fin cfg0.N) : Fin 36 := ⟨t.val / 2, by have := lt_of_lt_of_eq t.isLt (show cfg0.N = 72 from N_0); omega⟩

def colPart (t : Fin cfg0.N) : Fin 2 := ⟨t.val % 2, by omega⟩

theorem coord_eq : ∀ t : Fin cfg0.N, (grid0.coords t 0).val = t.val / 2 := (by decide +kernel : ∀ t : Fin grid0.N, _)

theorem idx_facts : ∀ t : Fin cfg0.N,
    (win0_0.index t (0 : Fin 2) = t.val / 2 ∧ win0_0.index t (1 : Fin 2) = t.val % 2)
    ∧ (win0_1.index t (0 : Fin 2) = t.val / 2 * 16 - 1 ∧ win0_1.index t (1 : Fin 2) = t.val % 2)
    ∧ (win0_2.index t (0 : Fin 2) = min (t.val / 2 * 16 + 16) 575 ∧ win0_2.index t (1 : Fin 2) = t.val % 2)
    ∧ (win0_3.index t (0 : Fin 2) = 0 ∧ win0_3.index t (1 : Fin 2) = t.val % 2)
    ∧ (win0_4.index t (0 : Fin 2) = 0 ∧ win0_4.index t (1 : Fin 2) = t.val % 2)
    ∧ (win0_5.index t (0 : Fin 2) = t.val % 2 ∧ win0_5.index t (1 : Fin 2) = 0)
    ∧ (win0_6.index t (0 : Fin 2) = t.val / 2 ∧ win0_6.index t (1 : Fin 2) = 0)
    ∧ (win0_7.index t (0 : Fin 3) = t.val / 2 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val / 2 ∧ win0_10.index t (1 : Fin 2) = 0)
    ∧ (win0_11.index t (0 : Fin 2) = t.val / 2 ∧ win0_11.index t (1 : Fin 2) = 0) :=
  (by decide +kernel : ∀ t : Fin grid0.N, _)

theorem emb0 (t : Fin cfg0.N) (r : Fin 256) (e : Fin 2816) :
    ((cfg0.win 0).blk t).view.emb (ix2 r e) = (ix2 (rowOf (rowPt t) r) (grp (colPart t) e) : S9216x5632.Idx) := by
  obtain ⟨⟨h, h'⟩, -⟩ := idx_facts t
  refine funext fun a => Fin.ext ?_
  match a with
  | ⟨0, _⟩ => show win0_0.index t (0 : Fin 2) * 256 + 1 * r.val = t.val / 2 * 256 + r.val; rw [h]; omega
  | ⟨1, _⟩ => show win0_0.index t (1 : Fin 2) * 2816 + 1 * e.val = t.val % 2 * 2816 + e.val; rw [h']; omega

theorem emb1 (t : Fin cfg0.N) (a : Fin 9216) (e : Fin 2816) (ha : a.val + 1 = (rowPt t).val * 256) :
    ((cfg0.win 1).blk t).view.emb (ix2 (15 : Fin 16) e) = (ix2 a (grp (colPart t) e) : S9216x5632.Idx) := by
  obtain ⟨-, ⟨h, h'⟩, -⟩ := idx_facts t
  have ha : a.val + 1 = t.val / 2 * 256 := ha
  refine funext fun z => Fin.ext ?_
  match z with
  | ⟨0, _⟩ => show win0_1.index t (0 : Fin 2) * 16 + 1 * 15 = a.val; rw [h]; omega
  | ⟨1, _⟩ => show win0_1.index t (1 : Fin 2) * 2816 + 1 * e.val = t.val % 2 * 2816 + e.val; rw [h']; omega

theorem emb2 (t : Fin cfg0.N) (a : Fin 9216) (e : Fin 2816) (ha : a.val = (rowPt t).val * 256 + 256) :
    ((cfg0.win 2).blk t).view.emb (ix2 (0 : Fin 16) e) = (ix2 a (grp (colPart t) e) : S9216x5632.Idx) := by
  obtain ⟨-, -, ⟨h, h'⟩, -⟩ := idx_facts t
  have ha : a.val = t.val / 2 * 256 + 256 := ha
  have hN := a.isLt
  refine funext fun z => Fin.ext ?_
  match z with
  | ⟨0, _⟩ => show win0_2.index t (0 : Fin 2) * 16 + 1 * 0 = a.val; rw [h, Nat.min_eq_left (by omega)]; omega
  | ⟨1, _⟩ => show win0_2.index t (1 : Fin 2) * 2816 + 1 * e.val = t.val % 2 * 2816 + e.val; rw [h']; omega

theorem emb3 (t : Fin cfg0.N) (s : Fin 8) (e : Fin 2816) :
    ((cfg0.win 3).blk t).view.emb (ix2 s e) = (ix2 s (grp (colPart t) e) : S8x5632.Idx) := by
  obtain ⟨-, -, -, ⟨h, h'⟩, -⟩ := idx_facts t
  refine funext fun a => Fin.ext ?_
  match a with
  | ⟨0, _⟩ => show win0_3.index t (0 : Fin 2) * 8 + 1 * s.val = s.val; rw [h]; omega
  | ⟨1, _⟩ => show win0_3.index t (1 : Fin 2) * 2816 + 1 * e.val = t.val % 2 * 2816 + e.val; rw [h']; omega

theorem emb4 (t : Fin cfg0.N) (s : Fin 1) (e : Fin 2816) :
    ((cfg0.win 4).blk t).view.emb (ix2 s e) = (ix2 s (grp (colPart t) e) : S1x5632.Idx) := by
  obtain ⟨-, -, -, -, ⟨h, h'⟩, -⟩ := idx_facts t
  refine funext fun a => Fin.ext ?_
  match a with
  | ⟨0, _⟩ => show win0_4.index t (0 : Fin 2) * 1 + 1 * s.val = s.val; rw [h]; omega
  | ⟨1, _⟩ => show win0_4.index t (1 : Fin 2) * 2816 + 1 * e.val = t.val % 2 * 2816 + e.val; rw [h']; omega

theorem emb5 (t : Fin cfg0.N) (k : Fin 1408) (d : Fin 1024) :
    ((cfg0.win 5).blk t).view.emb (ix2 k d) = (ix2 (rowW (colPart t) k) d : S2816x1024.Idx) := by
  obtain ⟨-, -, -, -, -, ⟨h, h'⟩, -⟩ := idx_facts t
  refine funext fun a => Fin.ext ?_
  match a with
  | ⟨0, _⟩ => show win0_5.index t (0 : Fin 2) * 1408 + 1 * k.val = t.val % 2 * 1408 + k.val; rw [h]; omega
  | ⟨1, _⟩ => show win0_5.index t (1 : Fin 2) * 1024 + 1 * d.val = d.val; rw [h']; omega

theorem emb6 (t : Fin cfg0.N) (r : Fin 256) (d : Fin 1024) :
    ((cfg0.win 6).blk t).view.emb (ix2 r d) = (ix2 (rowOf (rowPt t) r) d : S9216x1024.Idx) := by
  obtain ⟨-, -, -, -, -, -, ⟨h, h'⟩, -⟩ := idx_facts t
  refine funext fun a => Fin.ext ?_
  match a with
  | ⟨0, _⟩ => show win0_6.index t (0 : Fin 2) * 256 + 1 * r.val = t.val / 2 * 256 + r.val; rw [h]; omega
  | ⟨1, _⟩ => show win0_6.index t (1 : Fin 2) * 1024 + 1 * d.val = d.val; rw [h']; omega

theorem emb7 (t : Fin cfg0.N) (z : Fin 1) (s : Fin 8) (d : Fin 1024) :
    ((cfg0.win 7).blk t).view.emb (ix3 z s d) = (ix3 (rowPt t) s d : S36x8x1024.Idx) := by
  obtain ⟨-, -, -, -, -, -, -, ⟨h, h', h''⟩, -⟩ := idx_facts t
  refine funext fun a => Fin.ext ?_
  match a with
  | ⟨0, _⟩ => show win0_7.index t (0 : Fin 3) * 1 + 1 * z.val = t.val / 2; rw [h]; omega
  | ⟨1, _⟩ => show win0_7.index t (1 : Fin 3) * 8 + 1 * s.val = s.val; rw [h']; omega
  | ⟨2, _⟩ => show win0_7.index t (2 : Fin 3) * 1024 + 1 * d.val = d.val; rw [h'']; omega

theorem emb8 (t : Fin cfg0.N) (s : Fin 1) (d : Fin 1024) :
    ((cfg0.win 8).blk t).view.emb (ix2 s d) = (ix2 s d : S1x1024.Idx) := by
  obtain ⟨-, -, -, -, -, -, -, -, ⟨h, h'⟩, -⟩ := idx_facts t
  refine funext fun a => Fin.ext ?_
  match a with
  | ⟨0, _⟩ => show win0_8.index t (0 : Fin 2) * 1 + 1 * s.val = s.val; rw [h]; omega
  | ⟨1, _⟩ => show win0_8.index t (1 : Fin 2) * 1024 + 1 * d.val = d.val; rw [h']; omega

theorem emb9 (t : Fin cfg0.N) (s : Fin 1) (d : Fin 1024) :
    ((cfg0.win 9).blk t).view.emb (ix2 s d) = (ix2 s d : S1x1024.Idx) := by
  obtain ⟨-, -, -, -, -, -, -, -, -, ⟨h, h'⟩, -⟩ := idx_facts t
  refine funext fun a => Fin.ext ?_
  match a with
  | ⟨0, _⟩ => show win0_9.index t (0 : Fin 2) * 1 + 1 * s.val = s.val; rw [h]; omega
  | ⟨1, _⟩ => show win0_9.index t (1 : Fin 2) * 1024 + 1 * d.val = d.val; rw [h']; omega

theorem emb10 (t : Fin cfg0.N) (r : Fin 256) (d : Fin 1024) :
    ((cfg0.win 10).blk t).view.emb (ix2 r d) = (ix2 (rowOf (rowPt t) r) d : S9216x1024.Idx) := by
  obtain ⟨-, -, -, -, -, -, -, -, -, -, ⟨h, h'⟩, -⟩ := idx_facts t
  refine funext fun a => Fin.ext ?_
  match a with
  | ⟨0, _⟩ => show win0_10.index t (0 : Fin 2) * 256 + 1 * r.val = t.val / 2 * 256 + r.val; rw [h]; omega
  | ⟨1, _⟩ => show win0_10.index t (1 : Fin 2) * 1024 + 1 * d.val = d.val; rw [h']; omega

theorem emb11 (t : Fin cfg0.N) (r : Fin 256) (d : Fin 1024) :
    ((cfg0.win 11).blk t).view.emb (ix2 r d) = (ix2 (rowOf (rowPt t) r) d : S9216x1024.Idx) := by
  obtain ⟨-, -, -, -, -, -, -, -, -, -, -, h, h'⟩ := idx_facts t
  refine funext fun a => Fin.ext ?_
  match a with
  | ⟨0, _⟩ => show win0_11.index t (0 : Fin 2) * 256 + 1 * r.val = t.val / 2 * 256 + r.val; rw [h]; omega
  | ⟨1, _⟩ => show win0_11.index t (1 : Fin 2) * 1024 + 1 * d.val = d.val; rw [h']; omega

/-- A point's part of the projection, at an entry. -/
theorem part_at (c : Dev nD) (t : Fin cfg0.N) (r : Fin 256) (d : Fin 1024) :
    tileK (grid0.coords t) (iblk m c 0 t) (iblk m c 1 t) (iblk m c 2 t) (iblk m c 3 t) (iblk m c 4 t) (iblk m c 5 t) (ix2 r d)
      = (∑ k : Fin 1408, act (conv (V m c main_arg0) (V m c main_arg1) (V m c main_arg2) (rowOf (rowPt t) r)) (colPart t) k * V m c main_arg3 (ix2 (rowW (colPart t) k) d) : EReal) :=
  tile_at (V m c main_arg0) (V m c main_arg1) (V m c main_arg2) (V m c main_arg3) (grid0.coords t) (rowPt t) (colPart t) (coord_eq t) (iblk m c 0 t) (iblk m c 1 t) (iblk m c 2 t) (iblk m c 3 t) (iblk m c 4 t) (iblk m c 5 t)
    (fun r e => congrArg (V m c main_arg0) (emb0 t r e)) (fun a e ha => congrArg (V m c main_arg0) (emb1 t a e ha))
    (fun a e ha => congrArg (V m c main_arg0) (emb2 t a e ha)) (fun s e => congrArg (V m c main_arg1) (emb3 t s e))
    (fun e => congrArg (V m c main_arg2) (emb4 t 0 e)) (fun k d => congrArg (V m c main_arg3) (emb5 t k d)) r d

/-- What the point before a tile's second leaves. -/
theorem carried (c : Dev nD) (t : Fin cfg0.N) (h : t.val % 2 = 1) (hp : t.val - 1 < cfg0.N) (r : Fin 256) (d : Fin 1024) :
    (outsAt0 m c (t.val - 1) hp).2.2 (ix2 r d)
      = (∑ k : Fin 1408, act (conv (V m c main_arg0) (V m c main_arg1) (V m c main_arg2) (rowOf (rowPt t) r)) 0 k * V m c main_arg3 (ix2 (rowW 0 k) d) : EReal) := by
  have e := outsAt0_A m c ⟨t.val - 1, hp⟩ (by dsimp only; omega) (by dsimp only; omega)
  refine (congrFun (congrArg (fun p => p.2.2) e) (ix2 r d)).trans ?_
  dsimp only
  refine (outA_eq ..).trans ?_
  refine (part_at m c ⟨t.val - 1, hp⟩ r d).trans ?_
  have hr : rowPt ⟨t.val - 1, hp⟩ = rowPt t := Fin.ext (show (t.val - 1) / 2 = t.val / 2 by omega)
  have hq : colPart ⟨t.val - 1, hp⟩ = 0 := Fin.ext (show (t.val - 1) % 2 = 0 by omega)
  rw [hr, hq]

/-- So both groups together are the projection. -/
theorem both (c : Dev nD) (t : Fin cfg0.N) (h : t.val % 2 = 1) (hp : t.val - 1 < cfg0.N) (r : Fin 256) (d : Fin 1024) :
    addf (F := Ideal) (φ := .f32) (outsAt0 m c (t.val - 1) hp).2.2 (tileK (grid0.coords t) (iblk m c 0 t) (iblk m c 1 t) (iblk m c 2 t) (iblk m c 3 t) (iblk m c 4 t) (iblk m c 5 t)) (ix2 r d)
      = (down (V m c main_arg0) (V m c main_arg1) (V m c main_arg2) (V m c main_arg3) (rowOf (rowPt t) r) d : EReal) := by
  refine (congrArg₂ (fun a b : EReal => a + b) (carried m c t h hp r d) (part_at m c t r d)).trans ?_
  have hq : colPart t = 1 := Fin.ext h
  rw [hq]
  unfold down
  exact (Fin.sum_univ_two fun q : Fin 2 => (∑ k : Fin 1408, act (conv (V m c main_arg0) (V m c main_arg1) (V m c main_arg2) (rowOf (rowPt t) r)) q k * V m c main_arg3 (ix2 (rowW q k) d) : EReal)).symm

theorem outs10 (c : Dev nD) (t : Fin cfg0.N) (h : t.val % 2 = 1) (r : Fin 256) (d : Fin 1024) :
    (outsAt0 m c t.val t.isLt).1 (ix2 r d) = (down (V m c main_arg0) (V m c main_arg1) (V m c main_arg2) (V m c main_arg3) (rowOf (rowPt t) r) d : EReal) := by
  rw [outsAt0_B m c t (by omega) h]
  dsimp only
  rw [outF_eq]
  exact both m c t h _ r d

theorem outputX_at (u : Vec Ideal S9216x5632 .bf16) (cw : Vec Ideal S8x5632 .f32) (cb : Vec Ideal S1x5632 .f32) (wd : Vec Ideal S2816x1024 .bf16) (x : Vec Ideal S9216x1024 .f32) (mod : Vec Ideal S36x8x1024 .f32)
    (g b : Vec Ideal S1x1024 .f32) (t : Fin 36) (r : Fin 256) (d : Fin 1024) :
    outputX u cw cb wd x mod g b (ix2 (rowOf t r) d) = normed (fun k => alpha * x (ix2 (rowOf t r) k) + mod (ix3 t 5 k) * down u cw cb wd (rowOf t r) k) (fun k => g (ix2 0 k)) (fun k => b (ix2 0 k)) d := by
  unfold outputX
  show normed (fun k => alpha * x (ix2 (rowOf t r) k) + mod (ix3 (tileOf (rowOf t r)) 5 k) * down u cw cb wd (rowOf t r) k) _ _ d = _
  rw [tile_row]

theorem outs11 (c : Dev nD) (t : Fin cfg0.N) (h : t.val % 2 = 1) (r : Fin 256) (d : Fin 1024) :
    (outsAt0 m c t.val t.isLt).2.1 (ix2 r d) = outputX (V m c main_arg0) (V m c main_arg1) (V m c main_arg2) (V m c main_arg3) (V m c main_arg4) (V m c main_arg5) (V m c main_arg6) (V m c main_arg7) (ix2 (rowOf (rowPt t) r) d) := by
  rw [outsAt0_B m c t (by omega) h]
  dsimp only
  rw [outX_eq]
  refine (normK_at _ _ _ r d).trans (Eq.trans ?_ (outputX_at (V m c main_arg0) (V m c main_arg1) (V m c main_arg2) (V m c main_arg3) (V m c main_arg4) (V m c main_arg5) (V m c main_arg6) (V m c main_arg7) (rowPt t) r d).symm)
  refine congrArg₂ (fun a b => a b d) (congrArg₂ (fun a b => normed a b) (funext fun k => (resK_at _ _ _ r k).trans ?_)
    (funext fun k => congrArg (V m c main_arg6) (emb8 t 0 k))) (funext fun k => congrArg (V m c main_arg7) (emb9 t 0 k))
  exact congrArg₂ (fun a b : EReal => a + b) (congrArg (fun a : EReal => alpha * a) (congrArg (V m c main_arg4) (emb6 t r k)))
    (congrArg₂ (fun a b : EReal => a * b) (congrArg (V m c main_arg5) (emb7 t 0 5 k)) (both m c t h _ r k))

theorem flushed_10 (c : Dev nD) (t : Fin cfg0.N) (p : Vec Ideal S256x1024 .f32) (h : (dats m 0 c).after 10 t = p) :
    (dats m 0 c).flushed 10 t = p := by
  show (cfg0.win 10).cut (grid0.coords t) ((dats m 0 c).after 10 t) = _
  rw [h]
  rfl

theorem read_10 (t : Fin cfg0.N) (p : Vec Ideal S256x1024 .f32) (G : Vec Ideal S9216x1024 .f32)
    (h : ∀ (r : Fin 256) (d : Fin 1024), p (ix2 r d) = G (ix2 (rowOf (rowPt t) r) d)) :
    p = ((cfg0.win 10).blk t).view.read (Elt Ideal) G := by
  refine funext fun y => ?_
  obtain ⟨r, d, rfl⟩ : ∃ (r : Fin 256) (d : Fin 1024), y = ix2 r d := ⟨y 0, y 1, eq_ix2 y⟩
  exact (h r d).trans (congrArg G (emb10 t r d).symm)

theorem written10 (c : Dev nD) (t : Fin cfg0.N) (hf : (cfg0.win 10).flush t = true) :
    (dats m 0 c).flushed 10 t = ((cfg0.win 10).blk t).view.read (Elt Ideal) (outputF (V m c main_arg0) (V m c main_arg1) (V m c main_arg2) (V m c main_arg3)) := by
  have ho := outs10 m c t ((flush0_10 t).mp hf)
  exact (flushed_10 m c t _ (after0_10 m c t)).trans (read_10 t _ (outputF (V m c main_arg0) (V m c main_arg1) (V m c main_arg2) (V m c main_arg3)) ho)

theorem flushed_11 (c : Dev nD) (t : Fin cfg0.N) (p : Vec Ideal S256x1024 .f32) (h : (dats m 0 c).after 11 t = p) :
    (dats m 0 c).flushed 11 t = p := by
  show (cfg0.win 11).cut (grid0.coords t) ((dats m 0 c).after 11 t) = _
  rw [h]
  rfl

theorem read_11 (t : Fin cfg0.N) (p : Vec Ideal S256x1024 .f32) (G : Vec Ideal S9216x1024 .f32)
    (h : ∀ (r : Fin 256) (d : Fin 1024), p (ix2 r d) = G (ix2 (rowOf (rowPt t) r) d)) :
    p = ((cfg0.win 11).blk t).view.read (Elt Ideal) G := by
  refine funext fun y => ?_
  obtain ⟨r, d, rfl⟩ : ∃ (r : Fin 256) (d : Fin 1024), y = ix2 r d := ⟨y 0, y 1, eq_ix2 y⟩
  exact (h r d).trans (congrArg G (emb11 t r d).symm)

theorem written11 (c : Dev nD) (t : Fin cfg0.N) (hf : (cfg0.win 11).flush t = true) :
    (dats m 0 c).flushed 11 t = ((cfg0.win 11).blk t).view.read (Elt Ideal)
      (outputX (V m c main_arg0) (V m c main_arg1) (V m c main_arg2) (V m c main_arg3) (V m c main_arg4) (V m c main_arg5) (V m c main_arg6) (V m c main_arg7)) := by
  have ho := outs11 m c t ((flush0_11 t).mp hf)
  exact (flushed_11 m c t _ (after0_11 m c t)).trans (read_11 t _ (outputX (V m c main_arg0) (V m c main_arg1) (V m c main_arg2) (V m c main_arg3) (V m c main_arg4) (V m c main_arg5) (V m c main_arg6) (V m c main_arg7)) ho)

/-- The second point of the tile that holds row `a`. -/
def lastPt (a : Fin 9216) : Fin cfg0.N := ⟨2 * (a.val / 256) + 1, lt_of_lt_of_eq (by omega : 2 * (a.val / 256) + 1 < 72) N_0.symm⟩

theorem row_last (a : Fin 9216) : rowOf (rowPt (lastPt a)) ⟨a.val % 256, by omega⟩ = a :=
  Fin.ext (show (2 * (a.val / 256) + 1) / 2 * 256 + a.val % 256 = a.val by omega)

theorem odd_last (a : Fin 9216) : (lastPt a).val % 2 = 1 := show (2 * (a.val / 256) + 1) % 2 = 1 by omega

theorem mem10 (i : S9216x1024.Idx) : ∃ t : Fin cfg0.N, (cfg0.win 10).flush t = true ∧ i ∈ ((cfg0.win 10).blk t).view.set := by
  obtain ⟨a, d, rfl⟩ : ∃ (a : Fin 9216) (d : Fin 1024), i = ix2 a d := ⟨i 0, i 1, eq_ix2 i⟩
  have h := ((cfg0.win 10).blk (lastPt a)).view.emb_mem_set (ix2 (⟨a.val % 256, by omega⟩ : Fin 256) d)
  rw [show ((cfg0.win 10).blk (lastPt a)).view.emb (ix2 (⟨a.val % 256, by omega⟩ : Fin 256) d) = ix2 a d from
    (emb10 (lastPt a) _ d).trans (congrArg (fun a => ix2 a d) (row_last a))] at h
  exact ⟨lastPt a, (flush0_10 _).mpr (odd_last a), h⟩

theorem mem11 (i : S9216x1024.Idx) : ∃ t : Fin cfg0.N, (cfg0.win 11).flush t = true ∧ i ∈ ((cfg0.win 11).blk t).view.set := by
  obtain ⟨a, d, rfl⟩ : ∃ (a : Fin 9216) (d : Fin 1024), i = ix2 a d := ⟨i 0, i 1, eq_ix2 i⟩
  have h := ((cfg0.win 11).blk (lastPt a)).view.emb_mem_set (ix2 (⟨a.val % 256, by omega⟩ : Fin 256) d)
  rw [show ((cfg0.win 11).blk (lastPt a)).view.emb (ix2 (⟨a.val % 256, by omega⟩ : Fin 256) d) = ix2 a d from
    (emb11 (lastPt a) _ d).trans (congrArg (fun a => ix2 a d) (row_last a))] at h
  exact ⟨lastPt a, (flush0_11 _).mpr (odd_last a), h⟩

/-- The call ends with its results at these functions of its arguments, and the arguments unchanged. -/
theorem run : θ_run defs (onTc (τ := τ) (main (F := Ideal))) ⟨m, fun _ => 0, ρ⟩ fun r => ∀ c : Dev nD,
      r.2.mem ((c : Thread nD τ).loc main_v0_0) = outputF (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = outputX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_main m ρ)
  refine ⟨((h c).1 10).trans ?_, ((h c).1 11).trans ?_,
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).1 4).trans (((dats m 0 c).arrAt_in 4 rfl _).trans ((A_eq m c 4).trans (V_main_arg2 m c))),
    ((h c).1 5).trans (((dats m 0 c).arrAt_in 5 rfl _).trans ((A_eq m c 5).trans (V_main_arg3 m c))),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).1 9).trans (((dats m 0 c).arrAt_in 9 rfl _).trans ((A_eq m c 9).trans (V_main_arg7 m c)))⟩
  · rw [(dats m 0 c).arrAt_eq_of_cover 10 _ (fun t hf => written10 m c t hf) mem10, V_main_arg0, V_main_arg1, V_main_arg2, V_main_arg3]
  · rw [(dats m 0 c).arrAt_eq_of_cover 11 _ (fun t hf => written11 m c t hf) mem11, V_main_arg0, V_main_arg1, V_main_arg2, V_main_arg3, V_main_arg4, V_main_arg5, V_main_arg6, V_main_arg7]

section Host

open Cert.DownRefIdeal.Facts₀

theorem mod5_at (md : Vec Ideal S36x8x1024 .f32) (t : Fin 36) (r : Fin 256) (d : Fin 1024) :
    modH 5 md slices_S36x8x1024_S36x1x1024_0_5_0 (ix3 t r d) = md (ix3 t 5 d) := by
  pointwise

variable (y0 : Vec Ideal S9216x5632 .bf16) (y1 : Vec Ideal S8x5632 .f32) (y2 : Vec Ideal S1x5632 .f32) (y3 : Vec Ideal S2816x1024 .bf16)
  (y4 : Vec Ideal S9216x1024 .f32) (y5 : Vec Ideal S36x8x1024 .f32) (y6 y7 : Vec Ideal S1x1024 .f32)

abbrev downH : Vec Ideal S9216x1024 .f32 :=
  Host.dotGeneral (F := Ideal) (φ₁ := .f32) (φ₂ := .f32) Cert.DownRefIdeal.dot_S9216x2816_S2816x1024_S9216x1024_1_0_0_1_n_n none
    (actH (wholeH (convS (padS (seqH y0)) y1 y2) (convL (padL (seqH y0)) y1 y2)))
    (extf .f32 y3 Cert.DownRefIdeal.Facts₀.bitsLt_bf16_f32)

theorem host_down : downH y0 y1 y2 y3 = outputF y0 y1 y2 y3 := by
  refine funext fun i => ?_
  obtain ⟨a, d, rfl⟩ : ∃ (a : Fin 9216) (d : Fin 1024), i = ix2 a d := ⟨i 0, i 1, eq_ix2 i⟩
  exact downH_at y0 y1 y2 y3 a d

theorem host_norm : normH (resH y4 (downH y0 y1 y2 y3) (modH 5 y5 slices_S36x8x1024_S36x1x1024_0_5_0)) y6 y7 = outputX y0 y1 y2 y3 y4 y5 y6 y7 := by
  refine funext fun i => ?_
  obtain ⟨a, d, rfl⟩ : ∃ (a : Fin 9216) (d : Fin 1024), i = ix2 a d := ⟨i 0, i 1, eq_ix2 i⟩
  refine (normH_at _ _ _ a d).trans ?_
  refine congrArg (fun z => normed z _ _ d) (funext fun k => ?_)
  have hr := resH_at y4 (downH y0 y1 y2 y3) (modH 5 y5 slices_S36x8x1024_S36x1x1024_0_5_0) (tileOf a) ⟨a.val % 256, by omega⟩ k
  rw [row_tile] at hr
  refine hr.trans ?_
  exact congrArg₂ (fun b s : EReal => alpha * y4 (ix2 a k) + b * s) (mod5_at y5 (tileOf a) _ k) (downH_at y0 y1 y2 y3 a k)

end Host

/-- With equal arguments the call and its reference end with equal results. -/
theorem meets : Cert.algebraic_DownIdeal_DownRefIdeal := fun m g m' g' _ hw =>
  ⟨fun c => outputF (m ((c : Thread nD τ).loc main_arg0)) (m ((c : Thread nD τ).loc main_arg1)) (m ((c : Thread nD τ).loc main_arg2)) (m ((c : Thread nD τ).loc main_arg3)),
    fun c => outputX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    run m g,
    (θ_run Cert.DownRefIdeal.defs _ _).mono (fun r h c => by
      obtain ⟨h0, h1, hk⟩ := h c
      obtain ⟨e0, e1, e2, e3, e4, e5, e6, e7⟩ := hw c
      refine ⟨h0.trans ?_, h1.trans ?_, hk⟩
      · unfold Cert.DownRefIdeal.Value.res_main_v55 Cert.DownRefIdeal.Value.res_main_v4 Cert.DownRefIdeal.Value.res_main_v30
          Cert.DownRefIdeal.Value.res_main_v3 Cert.DownRefIdeal.Value.res_main_v29 Cert.DownRefIdeal.Value.res_main_v1
        refine (host_down (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2)) (m' ((c.tc : Thread Cert.DownRefIdeal.nD Cert.DownRefIdeal.τ).loc Cert.DownRefIdeal.main_arg3))).trans ?_
        rw [e0, e1, e2, e3]
      · unfold Cert.DownRefIdeal.Value.res_main_v87 Cert.DownRefIdeal.Value.res_main_v81
          Cert.DownRefIdeal.Value.res_main_v55 Cert.DownRefIdeal.Value.res_main_v4 Cert.DownRefIdeal.Value.res_main_v30
          Cert.DownRefIdeal.Value.res_main_v3 Cert.DownRefIdeal.Value.res_main_v29 Cert.DownRefIdeal.Value.res_main_v1
        refine (host_norm (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2)) (m' ((c.tc : Thread Cert.DownRefIdeal.nD Cert.DownRefIdeal.τ).loc Cert.DownRefIdeal.main_arg3)) (m' ((c.tc : Thread Cert.DownRefIdeal.nD Cert.DownRefIdeal.τ).loc Cert.DownRefIdeal.main_arg4)) (m' ((c.tc : Thread Cert.DownRefIdeal.nD Cert.DownRefIdeal.τ).loc Cert.DownRefIdeal.main_arg5)) (m' ((c.tc : Thread Cert.DownRefIdeal.nD Cert.DownRefIdeal.τ).loc Cert.DownRefIdeal.main_arg6)) (m' ((c.tc : Thread Cert.DownRefIdeal.nD Cert.DownRefIdeal.τ).loc Cert.DownRefIdeal.main_arg7))).trans ?_
        rw [e0, e1, e2, e3, e4, e5, e6, e7])
      (Cert.DownRefIdeal.Value.run (F := Ideal) m' g')⟩

end Cert.FfnDown

end
-- ==== Proof.ConvTap.lean ====
/-
  The gradient of the convolution over neighbouring rows: the cotangent shifted back for the input, and the sums over the rows for the
  taps and the shift. As functions of the arrays, as a tile of 256 rows with the rows before and after it computes them, and as the
  whole segments of 256 and of 2048 rows do.
-/
module

public import proofs.«01_k».proof.Proof.Gen.ConvGradIdeal.Skeleton
public import proofs.«01_k».proof.Proof.Gen.ConvGradRefIdeal
public import proofs.«01_k».proof.Proof.FfnConv
public import Idealize.ShloMosaic.Lib.Pointwise.Reduce
public import Idealize.ShloMosaic.Lib.Pointwise

@[expose] public section

set_option maxRecDepth 16384

noncomputable section

namespace Cert.ConvTap

open Cert.ConvGradIdeal Cert.ConvGradIdeal.Gen Idealize.ShloMosaic

open Cert.DxProj (rowOf tileOf tile_row row_tile)
open Cert.FfnConv (before after flagP flagN flagP_eq flagN_eq num sel_at prevK prevK_at rot1_at rot255_at lay_at)

/-- Column `e` of group `q`. -/
def grp (q : Fin 2) (e : Fin 2816) : Fin 5632 := ⟨q.val * 2816 + e.val, by omega⟩

/-- The gradient of the convolution's input. -/
def gradU (g : Vec Ideal S9216x5632 .bf16) (cw : Vec Ideal S8x5632 .f32) : Vec Ideal S9216x5632 .bf16 := fun i =>
  (cw (ix2 0 (i 1)) * after g (i 0) (i 1) + cw (ix2 1 (i 1)) * g i + cw (ix2 2 (i 1)) * before g (i 0) (i 1) : EReal)

/-- A row's part of a tap's gradient: the cotangent times the row that the tap meets; the array's other five rows are no taps. -/
def tap (g u : Vec Ideal S9216x5632 .bf16) (s : Fin 8) (e : Fin 5632) (a : Fin 9216) : EReal :=
  if s.val = 0 then g (ix2 a e) * before u a e
  else if s.val = 1 then g (ix2 a e) * u (ix2 a e)
  else if s.val = 2 then g (ix2 a e) * after u a e
  else 0

/-- The gradient of the taps. -/
def gradT (g u : Vec Ideal S9216x5632 .bf16) : Vec Ideal S8x5632 .f32 := fun i => (∑ a : Fin 9216, tap g u (i 0) (i 1) a : EReal)

/-- The gradient of the shift. -/
def gradS (g : Vec Ideal S9216x5632 .bf16) : Vec Ideal S1x5632 .f32 := fun i => (∑ a : Fin 9216, (g (ix2 a (i 1)) : EReal) : EReal)

/-! ## Over a tile -/

theorem pay5_at (v0 : Vec Ideal S256x2816 .bf16) (r : Fin 256) (e : Fin 2816) : k0_pay5 v0 (ix2 r e) = v0 (ix2 r e) := by
  pointwise [k0_pay5]

theorem pay10_at (v0 : Vec Ideal S256x2816 .bf16) (r : Fin 256) (e : Fin 2816) : k0_pay10 v0 (ix2 r e) = v0 (ix2 r e) := by
  pointwise [k0_pay10]

/-- The tile moved down by one row, its first row from the tile before. -/
abbrev downK (n : ℕ) (x : Vec Ideal S256x2816 .f32) (w : Vec Ideal S16x2816 .bf16) : Vec Ideal S256x2816 .f32 :=
  select (cmpi .eq (iota .tc S256x2816 32 [0] Facts₀.iota_S256x2816_d0_w32) (broadcast S256x2816 0#32))
    (prevK (Scalar.sitofp (F := Ideal) .f32 (flagP (BitVec.ofNat 32 n))) w) (dynamicRotate 0 1#32 none x Facts₀.rotates_S256x2816_d0)

theorem downK_at (n : Fin 36) (x : Vec Ideal S256x2816 .f32) (w : Vec Ideal S16x2816 .bf16) (r : Fin 256) (e : Fin 2816) :
    downK n.val x w (ix2 r e) = (if h : r.val = 0 then w (ix2 15 e) * (if 2 ≤ n.val % 9 then 1 else 0)
      else x (ix2 ⟨r.val - 1, by omega⟩ e) : EReal) := by
  refine (sel_at 0#32 _ _ r e).trans ?_
  by_cases h : r.val = 0
  · rw [dif_pos h, if_pos (by rw [h])]
    refine (prevK_at _ w r e).trans ?_
    exact congrArg (fun f : EReal => w (ix2 15 e) * f) (num _ _ (flagP_eq n))
  · rw [dif_neg h, if_neg (fun hc => h (by have := congrArg BitVec.toNat hc; simp only [BitVec.toNat_ofNat] at this; omega))]
    exact rot1_at x r e h

/-- The tile moved up by one row, its last row from the tile after. -/
abbrev upK (n : ℕ) (x : Vec Ideal S256x2816 .f32) (w : Vec Ideal S16x2816 .bf16) : Vec Ideal S256x2816 .f32 :=
  select (cmpi .eq (iota .tc S256x2816 32 [0] Facts₀.iota_S256x2816_d0_w32) (broadcast S256x2816 255#32))
    (broadcastTo S256x2816 (shapeCast S1x2816 (mulf (F := Ideal) (φ := .f32) (extractStridedSlice S1x2816 ![0, 0] (extf (F := Ideal) .f32 w Facts₀.bitsLt_bf16_f32)
      Facts₀.slices_S16x2816_o0_0_S1x2816) (broadcast S1x2816 (Scalar.sitofp (F := Ideal) .f32 (flagN (BitVec.ofNat 32 n))))) Facts₀.shapeCasts_S1x2816_S1x2816)
      Facts₀.broadcasts_S1x2816_S256x2816)
    (dynamicRotate 0 255#32 none x Facts₀.rotates_S256x2816_d0)

theorem firstK_at (f : EReal) (w : Vec Ideal S16x2816 .bf16) (e : Fin 2816) :
    mulf (F := Ideal) (φ := .f32) (extractStridedSlice S1x2816 ![0, 0] (extf (F := Ideal) .f32 w Facts₀.bitsLt_bf16_f32)
      Facts₀.slices_S16x2816_o0_0_S1x2816) (broadcast S1x2816 f) (ix2 0 e) = (w (ix2 0 e) * f : EReal) := by
  pointwise

theorem upK_at (n : Fin 36) (x : Vec Ideal S256x2816 .f32) (w : Vec Ideal S16x2816 .bf16) (r : Fin 256) (e : Fin 2816) :
    upK n.val x w (ix2 r e) = (if h : r.val = 255 then w (ix2 0 e) * (if 1 ≤ n.val % 9 ∧ n.val % 9 ≤ 7 then 1 else 0)
      else x (ix2 ⟨r.val + 1, by omega⟩ e) : EReal) := by
  refine (sel_at 255#32 _ _ r e).trans ?_
  by_cases h : r.val = 255
  · rw [dif_pos h, if_pos (by rw [h])]
    refine (lay_at _ r e).trans ((firstK_at _ w e).trans ?_)
    exact congrArg (fun f : EReal => w (ix2 0 e) * f) (num _ _ (flagN_eq n))
  · rw [dif_neg h, if_neg (fun hc => h (by have := congrArg BitVec.toNat hc; simp only [BitVec.toNat_ofNat] at this; omega))]
    exact rot255_at x r e h

theorem pay6_def (i : grid0.Coords) (v0 : Vec Ideal S256x2816 .bf16) (v2 : Vec Ideal S16x2816 .bf16) :
    k0_pay6 i v0 v2 = downK (i 1).val (k0_pay5 v0) v2 := by
  unfold k0_pay6
  rfl

theorem pay9_def (i : grid0.Coords) (v1 : Vec Ideal S256x2816 .f32) (v4 : Vec Ideal S16x2816 .bf16) :
    k0_pay9 v1 k0_pay7 (k0_pay8 i v4) 255#32 = upK (i 1).val v1 v4 := by
  unfold k0_pay9 k0_pay7 k0_pay8
  rfl

theorem pay11_def (n : ℕ) (v0 : Vec Ideal S256x2816 .bf16) (v2 : Vec Ideal S16x2816 .bf16) :
    k0_pay11 (BitVec.ofNat 32 n) v0 v2 = downK n (k0_pay10 v0) v2 := by
  unfold k0_pay11
  rfl

/-- The sum over the rows of a product. -/
abbrev sumK (x y : Vec Ideal S256x2816 .f32) : Vec Ideal S1x2816 .f32 :=
  shapeCast S1x2816 (shapeCast S1x2816 (multiReduction (F := Ideal) (φ := .f32) .add [0] S2816 (mulf (F := Ideal) (φ := .f32) x y) 0x00000000#32
    Facts₀.reduces_S256x2816_S2816 (.inl rfl) rfl) Facts₀.shapeCasts_S2816_S1x2816) Facts₀.shapeCasts_S1x2816_S1x2816

theorem sumK_at (x y : Vec Ideal S256x2816 .f32) (s : Fin 1) (e : Fin 2816) :
    sumK x y (ix2 s e) = (∑ r : Fin 256, (x (ix2 r e) : EReal) * y (ix2 r e) : EReal) := by
  pointwise

theorem pay18_def (n : ℕ) (v1 v44 : Vec Ideal S256x2816 .f32) (v47 : Vec Ideal S16x2816 .bf16) :
    k0_pay18 v1 v44 k0_pay12 (k0_pay13 v47) (k0_pay14 (BitVec.ofNat 32 n)) = sumK v1 (upK n v44 v47) := by
  unfold k0_pay18 k0_pay12 k0_pay13 k0_pay14
  rfl

theorem pay15_at (x p n : Vec Ideal S256x2816 .f32) (cw : Vec Ideal S8x2816 .f32) (r : Fin 256) (e : Fin 2816) :
    k0_pay15 x p n cw (ix2 r e) = (cw (ix2 0 e) * n (ix2 r e) + cw (ix2 1 e) * x (ix2 r e) + cw (ix2 2 e) * p (ix2 r e) : EReal) := by
  pointwise [k0_pay15]

/-- A row laid on row `k` of the array of taps, the other rows zero. -/
abbrev onRow (k : BitVec 32) (w : Vec Ideal S1x2816 .f32) : Vec Ideal S8x2816 .f32 :=
  select (cmpi .eq (iota .tc S8x2816 32 [0] Facts₀.iota_S8x2816_d0_w32) (broadcast S8x2816 k))
    (broadcastTo S8x2816 w Facts₀.broadcasts_S1x2816_S8x2816) (broadcast S8x2816 (Scalar.ofBits (F := Ideal) .f32 0x00000000#32))

theorem onRow_at (k : Fin 3) (w : Vec Ideal S1x2816 .f32) (s : Fin 8) (e : Fin 2816) :
    onRow (BitVec.ofNat 32 k.val) w (ix2 s e) = (if s.val = k.val then w (ix2 0 e) else 0 : EReal) := by
  pointwise
  fin_cases k <;> fin_cases s <;> simp <;> rfl

theorem pay3_def (x y p : Vec Ideal S256x2816 .f32) (w : Vec Ideal S1x2816 .f32) (old : Vec Ideal S8x2816 .f32) :
    k0_pay3 (k0_pay16 x y p) k0_pay17 (Scalar.ofBits .f32 0x00000000#32) w old
      = addf (F := Ideal) (φ := .f32) (shapeCast S8x2816 old Facts₀.shapeCasts_S8x2816_S8x2816)
        (addf (F := Ideal) (φ := .f32) (addf (F := Ideal) (φ := .f32) (onRow (BitVec.ofNat 32 (0 : Fin 3).val) (sumK x p)) (onRow (BitVec.ofNat 32 (1 : Fin 3).val) (sumK x y))) (onRow (BitVec.ofNat 32 (2 : Fin 3).val) w)) := by
  unfold k0_pay3 k0_pay16 k0_pay17
  rfl

theorem four_at (old a b c : Vec Ideal S8x2816 .f32) (s : Fin 8) (e : Fin 2816) :
    addf (F := Ideal) (φ := .f32) (shapeCast S8x2816 old Facts₀.shapeCasts_S8x2816_S8x2816) (addf (F := Ideal) (φ := .f32) (addf (F := Ideal) (φ := .f32) a b) c) (ix2 s e)
      = (old (ix2 s e) + (a (ix2 s e) + b (ix2 s e) + c (ix2 s e)) : EReal) := by
  pointwise

theorem pay4_at (x : Vec Ideal S256x2816 .f32) (old : Vec Ideal S1x2816 .f32) (s : Fin 1) (e : Fin 2816) :
    k0_pay4 x old (ix2 s e) = (old (ix2 s e) + ∑ r : Fin 256, (x (ix2 r e) : EReal) : EReal) := by
  pointwise [k0_pay4]

theorem pay1_at (s : Fin 8) (e : Fin 2816) : k0_pay1 (F := Ideal) (ix2 s e) = (0 : EReal) := by
  pointwise [k0_pay1]

theorem pay2_at (s : Fin 1) (e : Fin 2816) : k0_pay2 (F := Ideal) (ix2 s e) = (0 : EReal) := by
  pointwise [k0_pay2]

section Tile

variable (g u : Vec Ideal S9216x5632 .bf16) (cw : Vec Ideal S8x5632 .f32) (j : Fin 36) (q : Fin 2)
  (x : Vec Ideal S256x2816 .f32) (w w' : Vec Ideal S16x2816 .bf16)
  (h0 : ∀ r e, x (ix2 r e) = u (ix2 (rowOf j r) (grp q e)))
  (h1 : ∀ (a : Fin 9216) e, a.val + 1 = j.val * 256 → w (ix2 15 e) = u (ix2 a (grp q e)))
  (h2 : ∀ (a : Fin 9216) e, a.val = j.val * 256 + 256 → w' (ix2 0 e) = u (ix2 a (grp q e)))

include h0 h1 in
theorem before_at (r : Fin 256) (e : Fin 2816) : downK j.val x w (ix2 r e) = (before u (rowOf j r) (grp q e) : EReal) := by
  refine (downK_at j x w r e).trans ?_
  have hv : (rowOf j r).val = j.val * 256 + r.val := rfl
  unfold before
  by_cases h : r.val = 0
  · rw [dif_pos h]
    by_cases hj : 2 ≤ j.val % 9
    · rw [if_pos hj, if_neg (by omega), mul_one]
      exact h1 _ e (by dsimp only; omega)
    · rw [if_neg hj, if_pos (by omega), mul_zero]
  · rw [dif_neg h, if_neg (by omega)]
    refine (h0 _ e).trans (congrArg (fun a => u (ix2 a _)) (Fin.ext ?_))
    show j.val * 256 + (r.val - 1) = j.val * 256 + r.val - 1
    omega

include h0 h2 in
theorem after_at (r : Fin 256) (e : Fin 2816) : upK j.val x w' (ix2 r e) = (after u (rowOf j r) (grp q e) : EReal) := by
  refine (upK_at j x w' r e).trans ?_
  have hv : (rowOf j r).val = j.val * 256 + r.val := rfl
  unfold after
  by_cases h : r.val = 255
  · rw [dif_pos h]
    by_cases hj : 1 ≤ j.val % 9 ∧ j.val % 9 ≤ 7
    · rw [if_pos hj, dif_neg (by omega), mul_one]
      exact h2 _ e (by dsimp only; omega)
    · rw [if_neg hj, dif_pos (by omega), mul_zero]
  · rw [dif_neg h, dif_neg (by omega)]
    refine (h0 _ e).trans (congrArg (fun a => u (ix2 a _)) (Fin.ext ?_))
    show j.val * 256 + (r.val + 1) = j.val * 256 + r.val + 1
    omega

end Tile

section Part

variable (g u : Vec Ideal S9216x5632 .bf16) (cw : Vec Ideal S8x5632 .f32) (i : grid0.Coords) (j : Fin 36) (q : Fin 2) (hi : (i 1).val = j.val)
  (x0 : Vec Ideal S256x2816 .bf16) (x1 x2 : Vec Ideal S16x2816 .bf16) (x3 : Vec Ideal S256x2816 .bf16) (x4 x5 : Vec Ideal S16x2816 .bf16)
  (x6 : Vec Ideal S8x2816 .f32)
  (h0 : ∀ r e, x0 (ix2 r e) = g (ix2 (rowOf j r) (grp q e)))
  (h1 : ∀ (a : Fin 9216) e, a.val + 1 = j.val * 256 → x1 (ix2 15 e) = g (ix2 a (grp q e)))
  (h2 : ∀ (a : Fin 9216) e, a.val = j.val * 256 + 256 → x2 (ix2 0 e) = g (ix2 a (grp q e)))
  (h3 : ∀ r e, x3 (ix2 r e) = u (ix2 (rowOf j r) (grp q e)))
  (h4 : ∀ (a : Fin 9216) e, a.val + 1 = j.val * 256 → x4 (ix2 15 e) = u (ix2 a (grp q e)))
  (h5 : ∀ (a : Fin 9216) e, a.val = j.val * 256 + 256 → x5 (ix2 0 e) = u (ix2 a (grp q e)))
  (h6 : ∀ s e, x6 (ix2 s e) = cw (ix2 s (grp q e)))

include hi h0 h1 h2 h6 in
theorem tile_U (r : Fin 256) (e : Fin 2816) :
    k0_pay15 (k0_pay5 x0) (k0_pay6 i x0 x1) (k0_pay9 (k0_pay5 x0) k0_pay7 (k0_pay8 i x2) 255#32) x6 (ix2 r e)
      = gradU g cw (ix2 (rowOf j r) (grp q e)) := by
  refine (pay15_at _ _ _ x6 r e).trans ?_
  have hx : ∀ r e, k0_pay5 x0 (ix2 r e) = g (ix2 (rowOf j r) (grp q e)) := fun r e => (pay5_at x0 r e).trans (h0 r e)
  rw [pay6_def, pay9_def, hi, before_at g j q (k0_pay5 x0) x1 hx h1 r e, after_at g j q (k0_pay5 x0) x2 hx h2 r e, hx, h6, h6, h6]
  rfl

/-- A tile's part of a tap's gradient. -/
def part (s : Fin 8) (e : Fin 5632) (t : Fin 36) : EReal := ∑ r : Fin 256, tap g u s e (rowOf t r)

include hi h0 h3 h4 h5 in
theorem tile_T (old : Vec Ideal S8x2816 .f32) (s : Fin 8) (e : Fin 2816) :
    k0_pay3 (k0_pay16 (k0_pay5 x0) (k0_pay10 x3) (k0_pay11 (BitVec.ofNat 32 (i 1).val) x3 x4)) k0_pay17 (Scalar.ofBits .f32 0x00000000#32)
        (k0_pay18 (k0_pay5 x0) (k0_pay10 x3) k0_pay12 (k0_pay13 x5) (k0_pay14 (BitVec.ofNat 32 (i 1).val))) old (ix2 s e)
      = (old (ix2 s e) + part g u s (grp q e) j : EReal) := by
  rw [pay3_def, pay11_def, pay18_def, hi]
  refine (four_at _ _ _ _ s e).trans (congrArg (fun b : EReal => old (ix2 s e) + b) ?_)
  refine (congrArg₂ (fun a b : EReal => a + b) (congrArg₂ (fun a b : EReal => a + b) (onRow_at 0 _ s e) (onRow_at 1 _ s e)) (onRow_at 2 _ s e)).trans ?_
  have hx : ∀ r e, k0_pay5 x0 (ix2 r e) = g (ix2 (rowOf j r) (grp q e)) := fun r e => (pay5_at x0 r e).trans (h0 r e)
  have hy : ∀ r e, k0_pay10 x3 (ix2 r e) = u (ix2 (rowOf j r) (grp q e)) := fun r e => (pay10_at x3 r e).trans (h3 r e)
  have s0 : sumK (k0_pay5 x0) (downK j.val (k0_pay10 x3) x4) (ix2 0 e) = (∑ r : Fin 256, g (ix2 (rowOf j r) (grp q e)) * before u (rowOf j r) (grp q e) : EReal) :=
    (sumK_at _ _ 0 e).trans (Finset.sum_congr rfl fun r _ => congrArg₂ (fun a b : EReal => a * b) (hx r e) (before_at u j q (k0_pay10 x3) x4 hy h4 r e))
  have s1 : sumK (k0_pay5 x0) (k0_pay10 x3) (ix2 0 e) = (∑ r : Fin 256, g (ix2 (rowOf j r) (grp q e)) * u (ix2 (rowOf j r) (grp q e)) : EReal) :=
    (sumK_at _ _ 0 e).trans (Finset.sum_congr rfl fun r _ => congrArg₂ (fun a b : EReal => a * b) (hx r e) (hy r e))
  have s2 : sumK (k0_pay5 x0) (upK j.val (k0_pay10 x3) x5) (ix2 0 e) = (∑ r : Fin 256, g (ix2 (rowOf j r) (grp q e)) * after u (rowOf j r) (grp q e) : EReal) :=
    (sumK_at _ _ 0 e).trans (Finset.sum_congr rfl fun r _ => congrArg₂ (fun a b : EReal => a * b) (hx r e) (after_at u j q (k0_pay10 x3) x5 hy h5 r e))
  rw [s0, s1, s2]
  unfold part tap
  fin_cases s <;> simp

include h0 in
theorem tile_S (old : Vec Ideal S1x2816 .f32) (s : Fin 1) (e : Fin 2816) :
    k0_pay4 (k0_pay5 x0) old (ix2 s e) = (old (ix2 s e) + ∑ r : Fin 256, (g (ix2 (rowOf j r) (grp q e)) : EReal) : EReal) :=
  (pay4_at _ old s e).trans (congrArg (fun b : EReal => old (ix2 s e) + b) (Finset.sum_congr rfl fun r _ => (pay5_at x0 r e).trans (h0 r e)))

end Part

end Cert.ConvTap

end
-- ==== Proof.ConvRef.lean ====
/-
  The gradient of the convolution over neighbouring rows as the whole segments of 256 and of 2048 rows give it: the shifted
  cotangents added, and the sums over the rows, are the functions of the arrays that the tiles compute.
-/
module

public import proofs.«01_k».proof.Proof.ConvTap

@[expose] public section

set_option maxRecDepth 16384

noncomputable section

namespace Cert.ConvRef

open Cert.ConvGradRefIdeal Cert.ConvGradRefIdeal.Facts₀ Idealize.ShloMosaic

open Cert.FfnConv (before after seqH seqH_at padS padL tapS tapL rowSeq short_before short_same short_after long_before long_same long_after)
open Cert.ConvTap (gradU gradT gradS tap)

abbrev nil : Vec Ideal S_ .f32 := constant (F := Ideal) S_ .f32 0x00000000#32

/-! ## The cotangent's segments and their shifts -/

/-- The short segments of the sequences. -/
abbrev cutS (y : Vec Ideal S4x2304x5632 .f32) : Vec Ideal S4x256x5632 .f32 :=
  extractStridedSlice S4x256x5632 ![0, 0, 0] y slices_S4x2304x5632_S4x256x5632_0_0_0

theorem cutS_at (y : Vec Ideal S4x2304x5632 .f32) (s : Fin 4) (j : Fin 256) (e : Fin 5632) :
    cutS y (ix3 s j e) = (y (ix3 s ⟨j.val, by omega⟩ e) : EReal) := by
  pointwise

abbrev padSA (w : Vec Ideal S4x256x5632 .f32) : Vec Ideal S4x258x5632 .f32 :=
  pad S4x258x5632 ![0, 2, 0] ![0, 0, 0] ![0, 0, 0] w nil pads_S4x256x5632_S4x258x5632_000_200_000 h_S_

theorem padSA_at (w : Vec Ideal S4x256x5632 .f32) (s : Fin 4) (j : Fin 258) (e : Fin 5632) :
    padSA w (ix3 s j e) = (if h : 2 ≤ j.val then w (ix3 s ⟨j.val - 2, by omega⟩ e) else 0 : EReal) := by
  pointwise
  by_cases h : 2 ≤ j.val
  · rw [dif_pos h, dif_pos ⟨h, by omega⟩]
  · rw [dif_neg h, dif_neg (fun c => h c.1)]

abbrev padSB (w : Vec Ideal S4x256x5632 .f32) : Vec Ideal S4x258x5632 .f32 :=
  pad S4x258x5632 ![0, 1, 0] ![0, 1, 0] ![0, 0, 0] w nil pads_S4x256x5632_S4x258x5632_000_110_000 h_S_

theorem padSB_at (w : Vec Ideal S4x256x5632 .f32) (s : Fin 4) (j : Fin 258) (e : Fin 5632) :
    padSB w (ix3 s j e) = (if h : 1 ≤ j.val ∧ j.val - 1 < 256 then w (ix3 s ⟨j.val - 1, by omega⟩ e) else 0 : EReal) := by
  pointwise

abbrev padSC (w : Vec Ideal S4x256x5632 .f32) : Vec Ideal S4x258x5632 .f32 :=
  pad S4x258x5632 ![0, 0, 0] ![0, 2, 0] ![0, 0, 0] w nil pads_S4x256x5632_S4x258x5632_000_020_000 h_S_

theorem padSC_at (w : Vec Ideal S4x256x5632 .f32) (s : Fin 4) (j : Fin 258) (e : Fin 5632) :
    padSC w (ix3 s j e) = (if h : j.val < 256 then w (ix3 s ⟨j.val, by omega⟩ e) else 0 : EReal) := by
  pointwise

/-- A segment's cotangent taken back through the three taps. -/
abbrev backS (cw : Vec Ideal S8x5632 .f32) (w : Vec Ideal S4x256x5632 .f32) : Vec Ideal S4x258x5632 .f32 :=
  addf (F := Ideal) (φ := .f32) (addf (F := Ideal) (φ := .f32)
    (padSA (mulf (F := Ideal) (φ := .f32) (tapS cw 2 slices_S8x5632_S1x5632_2_0) w))
    (padSB (mulf (F := Ideal) (φ := .f32) (tapS cw 1 slices_S8x5632_S1x5632_1_0) w)))
    (padSC (mulf (F := Ideal) (φ := .f32) (tapS cw 0 slices_S8x5632_S1x5632_0_0) w))

theorem mulS0_at (cw : Vec Ideal S8x5632 .f32) (w : Vec Ideal S4x256x5632 .f32) (s : Fin 4) (j : Fin 256) (e : Fin 5632) :
    mulf (F := Ideal) (φ := .f32) (tapS cw 0 slices_S8x5632_S1x5632_0_0) w (ix3 s j e) = (cw (ix2 0 e) * w (ix3 s j e) : EReal) := by
  pointwise

theorem mulS1_at (cw : Vec Ideal S8x5632 .f32) (w : Vec Ideal S4x256x5632 .f32) (s : Fin 4) (j : Fin 256) (e : Fin 5632) :
    mulf (F := Ideal) (φ := .f32) (tapS cw 1 slices_S8x5632_S1x5632_1_0) w (ix3 s j e) = (cw (ix2 1 e) * w (ix3 s j e) : EReal) := by
  pointwise

theorem mulS2_at (cw : Vec Ideal S8x5632 .f32) (w : Vec Ideal S4x256x5632 .f32) (s : Fin 4) (j : Fin 256) (e : Fin 5632) :
    mulf (F := Ideal) (φ := .f32) (tapS cw 2 slices_S8x5632_S1x5632_2_0) w (ix3 s j e) = (cw (ix2 2 e) * w (ix3 s j e) : EReal) := by
  pointwise

/-- The segment's rows of it. -/
abbrev midS (w : Vec Ideal S4x258x5632 .f32) : Vec Ideal S4x256x5632 .f32 := extractStridedSlice S4x256x5632 ![0, 1, 0] w slices_S4x258x5632_S4x256x5632_0_1_0

theorem midS_at (a b c : Vec Ideal S4x258x5632 .f32) (s : Fin 4) (j : Fin 256) (e : Fin 5632) :
    midS (addf (F := Ideal) (φ := .f32) (addf (F := Ideal) (φ := .f32) a b) c) (ix3 s j e)
      = (a (ix3 s ⟨1 + j.val, by omega⟩ e) + b (ix3 s ⟨1 + j.val, by omega⟩ e) + c (ix3 s ⟨1 + j.val, by omega⟩ e) : EReal) := by
  pointwise

theorem backS_at (g : Vec Ideal S9216x5632 .bf16) (cw : Vec Ideal S8x5632 .f32) (s : Fin 4) (j : Fin 256) (e : Fin 5632) :
    midS (backS cw (cutS (seqH g))) (ix3 s j e) = (gradU g cw (ix2 (rowSeq s ⟨j.val, by omega⟩) e) : EReal) := by
  refine (midS_at _ _ _ s j e).trans ?_
  have hv : (rowSeq s ⟨j.val, by omega⟩).val = s.val * 2304 + (j.val) := rfl
  have hc : ∀ (k : Fin 256), cutS (seqH g) (ix3 s k e) = (g (ix2 (rowSeq s ⟨k.val, by omega⟩) e) : EReal) := fun k => (cutS_at _ s k e).trans (seqH_at g s _ e)
  have ha : padSA (mulf (F := Ideal) (φ := .f32) (tapS cw 2 slices_S8x5632_S1x5632_2_0) (cutS (seqH g))) (ix3 s ⟨1 + j.val, by omega⟩ e)
      = (cw (ix2 2 e) * before g (rowSeq s ⟨j.val, by omega⟩) e : EReal) := by
    refine (padSA_at _ s _ e).trans ?_
    unfold before
    by_cases h : j.val = 0
    · rw [dif_neg (by dsimp only; omega), if_pos (by omega), mul_zero]
    · rw [dif_pos (by dsimp only; omega), if_neg (by omega), mulS2_at, hc]
      exact congrArg (fun a => (cw (ix2 2 e) * g (ix2 a e) : EReal)) (Fin.ext (show s.val * 2304 + ((1 + j.val - 2)) = s.val * 2304 + (j.val) - 1 by omega))
  have hb : padSB (mulf (F := Ideal) (φ := .f32) (tapS cw 1 slices_S8x5632_S1x5632_1_0) (cutS (seqH g))) (ix3 s ⟨1 + j.val, by omega⟩ e)
      = (cw (ix2 1 e) * g (ix2 (rowSeq s ⟨j.val, by omega⟩) e) : EReal) := by
    refine (padSB_at _ s _ e).trans ?_
    rw [dif_pos (by dsimp only; omega), mulS1_at, hc]
    exact congrArg (fun a => (cw (ix2 1 e) * g (ix2 a e) : EReal)) (Fin.ext (show s.val * 2304 + ((1 + j.val - 1)) = s.val * 2304 + (j.val) by omega))
  have hd : padSC (mulf (F := Ideal) (φ := .f32) (tapS cw 0 slices_S8x5632_S1x5632_0_0) (cutS (seqH g))) (ix3 s ⟨1 + j.val, by omega⟩ e)
      = (cw (ix2 0 e) * after g (rowSeq s ⟨j.val, by omega⟩) e : EReal) := by
    refine (padSC_at _ s _ e).trans ?_
    unfold after
    by_cases h : j.val = 255
    · rw [dif_neg (by dsimp only; omega), dif_pos (by omega), mul_zero]
    · rw [dif_pos (by dsimp only; omega), dif_neg (by omega), mulS0_at, hc]
      exact congrArg (fun a => (cw (ix2 0 e) * g (ix2 a e) : EReal)) (Fin.ext (show s.val * 2304 + ((1 + j.val)) = s.val * 2304 + (j.val) + 1 by omega))
  rw [ha, hb, hd, add_comm, ← add_assoc, add_right_comm]
  rfl

/-- The long segments of the sequences. -/
abbrev cutL (y : Vec Ideal S4x2304x5632 .f32) : Vec Ideal S4x2048x5632 .f32 :=
  extractStridedSlice S4x2048x5632 ![0, 256, 0] y slices_S4x2304x5632_S4x2048x5632_0_256_0

theorem cutL_at (y : Vec Ideal S4x2304x5632 .f32) (s : Fin 4) (j : Fin 2048) (e : Fin 5632) :
    cutL y (ix3 s j e) = (y (ix3 s ⟨256 + j.val, by omega⟩ e) : EReal) := by
  pointwise

abbrev padLA (w : Vec Ideal S4x2048x5632 .f32) : Vec Ideal S4x2050x5632 .f32 :=
  pad S4x2050x5632 ![0, 2, 0] ![0, 0, 0] ![0, 0, 0] w nil pads_S4x2048x5632_S4x2050x5632_000_200_000 h_S_

theorem padLA_at (w : Vec Ideal S4x2048x5632 .f32) (s : Fin 4) (j : Fin 2050) (e : Fin 5632) :
    padLA w (ix3 s j e) = (if h : 2 ≤ j.val then w (ix3 s ⟨j.val - 2, by omega⟩ e) else 0 : EReal) := by
  pointwise
  by_cases h : 2 ≤ j.val
  · rw [dif_pos h, dif_pos ⟨h, by omega⟩]
  · rw [dif_neg h, dif_neg (fun c => h c.1)]

abbrev padLB (w : Vec Ideal S4x2048x5632 .f32) : Vec Ideal S4x2050x5632 .f32 :=
  pad S4x2050x5632 ![0, 1, 0] ![0, 1, 0] ![0, 0, 0] w nil pads_S4x2048x5632_S4x2050x5632_000_110_000 h_S_

theorem padLB_at (w : Vec Ideal S4x2048x5632 .f32) (s : Fin 4) (j : Fin 2050) (e : Fin 5632) :
    padLB w (ix3 s j e) = (if h : 1 ≤ j.val ∧ j.val - 1 < 2048 then w (ix3 s ⟨j.val - 1, by omega⟩ e) else 0 : EReal) := by
  pointwise

abbrev padLC (w : Vec Ideal S4x2048x5632 .f32) : Vec Ideal S4x2050x5632 .f32 :=
  pad S4x2050x5632 ![0, 0, 0] ![0, 2, 0] ![0, 0, 0] w nil pads_S4x2048x5632_S4x2050x5632_000_020_000 h_S_

theorem padLC_at (w : Vec Ideal S4x2048x5632 .f32) (s : Fin 4) (j : Fin 2050) (e : Fin 5632) :
    padLC w (ix3 s j e) = (if h : j.val < 2048 then w (ix3 s ⟨j.val, by omega⟩ e) else 0 : EReal) := by
  pointwise

/-- A segment's cotangent taken back through the three taps. -/
abbrev backL (cw : Vec Ideal S8x5632 .f32) (w : Vec Ideal S4x2048x5632 .f32) : Vec Ideal S4x2050x5632 .f32 :=
  addf (F := Ideal) (φ := .f32) (addf (F := Ideal) (φ := .f32)
    (padLA (mulf (F := Ideal) (φ := .f32) (tapL cw 2 slices_S8x5632_S1x5632_2_0) w))
    (padLB (mulf (F := Ideal) (φ := .f32) (tapL cw 1 slices_S8x5632_S1x5632_1_0) w)))
    (padLC (mulf (F := Ideal) (φ := .f32) (tapL cw 0 slices_S8x5632_S1x5632_0_0) w))

theorem mulL0_at (cw : Vec Ideal S8x5632 .f32) (w : Vec Ideal S4x2048x5632 .f32) (s : Fin 4) (j : Fin 2048) (e : Fin 5632) :
    mulf (F := Ideal) (φ := .f32) (tapL cw 0 slices_S8x5632_S1x5632_0_0) w (ix3 s j e) = (cw (ix2 0 e) * w (ix3 s j e) : EReal) := by
  pointwise

theorem mulL1_at (cw : Vec Ideal S8x5632 .f32) (w : Vec Ideal S4x2048x5632 .f32) (s : Fin 4) (j : Fin 2048) (e : Fin 5632) :
    mulf (F := Ideal) (φ := .f32) (tapL cw 1 slices_S8x5632_S1x5632_1_0) w (ix3 s j e) = (cw (ix2 1 e) * w (ix3 s j e) : EReal) := by
  pointwise

theorem mulL2_at (cw : Vec Ideal S8x5632 .f32) (w : Vec Ideal S4x2048x5632 .f32) (s : Fin 4) (j : Fin 2048) (e : Fin 5632) :
    mulf (F := Ideal) (φ := .f32) (tapL cw 2 slices_S8x5632_S1x5632_2_0) w (ix3 s j e) = (cw (ix2 2 e) * w (ix3 s j e) : EReal) := by
  pointwise

/-- The segment's rows of it. -/
abbrev midL (w : Vec Ideal S4x2050x5632 .f32) : Vec Ideal S4x2048x5632 .f32 := extractStridedSlice S4x2048x5632 ![0, 1, 0] w slices_S4x2050x5632_S4x2048x5632_0_1_0

theorem midL_at (a b c : Vec Ideal S4x2050x5632 .f32) (s : Fin 4) (j : Fin 2048) (e : Fin 5632) :
    midL (addf (F := Ideal) (φ := .f32) (addf (F := Ideal) (φ := .f32) a b) c) (ix3 s j e)
      = (a (ix3 s ⟨1 + j.val, by omega⟩ e) + b (ix3 s ⟨1 + j.val, by omega⟩ e) + c (ix3 s ⟨1 + j.val, by omega⟩ e) : EReal) := by
  pointwise

theorem backL_at (g : Vec Ideal S9216x5632 .bf16) (cw : Vec Ideal S8x5632 .f32) (s : Fin 4) (j : Fin 2048) (e : Fin 5632) :
    midL (backL cw (cutL (seqH g))) (ix3 s j e) = (gradU g cw (ix2 (rowSeq s ⟨256 + j.val, by omega⟩) e) : EReal) := by
  refine (midL_at _ _ _ s j e).trans ?_
  have hv : (rowSeq s ⟨256 + j.val, by omega⟩).val = s.val * 2304 + (256 + j.val) := rfl
  have hc : ∀ (k : Fin 2048), cutL (seqH g) (ix3 s k e) = (g (ix2 (rowSeq s ⟨256 + k.val, by omega⟩) e) : EReal) := fun k => (cutL_at _ s k e).trans (seqH_at g s _ e)
  have ha : padLA (mulf (F := Ideal) (φ := .f32) (tapL cw 2 slices_S8x5632_S1x5632_2_0) (cutL (seqH g))) (ix3 s ⟨1 + j.val, by omega⟩ e)
      = (cw (ix2 2 e) * before g (rowSeq s ⟨256 + j.val, by omega⟩) e : EReal) := by
    refine (padLA_at _ s _ e).trans ?_
    unfold before
    by_cases h : j.val = 0
    · rw [dif_neg (by dsimp only; omega), if_pos (by omega), mul_zero]
    · rw [dif_pos (by dsimp only; omega), if_neg (by omega), mulL2_at, hc]
      exact congrArg (fun a => (cw (ix2 2 e) * g (ix2 a e) : EReal)) (Fin.ext (show s.val * 2304 + (256 + (1 + j.val - 2)) = s.val * 2304 + (256 + j.val) - 1 by omega))
  have hb : padLB (mulf (F := Ideal) (φ := .f32) (tapL cw 1 slices_S8x5632_S1x5632_1_0) (cutL (seqH g))) (ix3 s ⟨1 + j.val, by omega⟩ e)
      = (cw (ix2 1 e) * g (ix2 (rowSeq s ⟨256 + j.val, by omega⟩) e) : EReal) := by
    refine (padLB_at _ s _ e).trans ?_
    rw [dif_pos (by dsimp only; omega), mulL1_at, hc]
    exact congrArg (fun a => (cw (ix2 1 e) * g (ix2 a e) : EReal)) (Fin.ext (show s.val * 2304 + (256 + (1 + j.val - 1)) = s.val * 2304 + (256 + j.val) by omega))
  have hd : padLC (mulf (F := Ideal) (φ := .f32) (tapL cw 0 slices_S8x5632_S1x5632_0_0) (cutL (seqH g))) (ix3 s ⟨1 + j.val, by omega⟩ e)
      = (cw (ix2 0 e) * after g (rowSeq s ⟨256 + j.val, by omega⟩) e : EReal) := by
    refine (padLC_at _ s _ e).trans ?_
    unfold after
    by_cases h : j.val = 2047
    · rw [dif_neg (by dsimp only; omega), dif_pos (by omega), mul_zero]
    · rw [dif_pos (by dsimp only; omega), dif_neg (by omega), mulL0_at, hc]
      exact congrArg (fun a => (cw (ix2 0 e) * g (ix2 a e) : EReal)) (Fin.ext (show s.val * 2304 + (256 + (1 + j.val)) = s.val * 2304 + (256 + j.val) + 1 by omega))
  rw [ha, hb, hd, add_comm, ← add_assoc, add_right_comm]
  rfl

/-- Both segments together. -/
abbrev joinH (l : Vec Ideal S4x2048x5632 .f32) (s : Vec Ideal S4x256x5632 .f32) : Vec Ideal S9216x5632 .bf16 :=
  truncf (F := Ideal) .bf16 (shapeCast S9216x5632 (addf (F := Ideal) (φ := .f32)
    (pad S4x2304x5632 ![0, 256, 0] ![0, 0, 0] ![0, 0, 0] l nil pads_S4x2048x5632_S4x2304x5632_000_25600_000 h_S_)
    (pad S4x2304x5632 ![0, 0, 0] ![0, 2048, 0] ![0, 0, 0] s nil pads_S4x256x5632_S4x2304x5632_000_020480_000 h_S_))
    shapeCasts_S4x2304x5632_S9216x5632) bitsLt_bf16_f32

theorem joinH_at (l : Vec Ideal S4x2048x5632 .f32) (s : Vec Ideal S4x256x5632 .f32) (a : Fin 9216) (e : Fin 5632) :
    joinH l s (ix2 a e) = (if h : a.val % 2304 < 256 then s (ix3 ⟨a.val / 2304, by omega⟩ ⟨a.val % 2304, h⟩ e)
      else l (ix3 ⟨a.val / 2304, by omega⟩ ⟨a.val % 2304 - 256, by omega⟩ e) : EReal) := by
  pointwise
  by_cases h : a.val % 2304 < 256
  · rw [dif_pos h, dif_neg (by omega), dif_pos (by omega), zero_add]
  · rw [dif_neg h, dif_pos (by omega), dif_neg (by omega), add_zero]

theorem host_gradU (g : Vec Ideal S9216x5632 .bf16) (cw : Vec Ideal S8x5632 .f32) :
    joinH (midL (backL cw (cutL (seqH g)))) (midS (backS cw (cutS (seqH g)))) = gradU g cw := by
  refine funext fun i => ?_
  obtain ⟨a, e, rfl⟩ : ∃ (a : Fin 9216) (e : Fin 5632), i = ix2 a e := ⟨i 0, i 1, eq_ix2 i⟩
  refine (joinH_at _ _ a e).trans ?_
  by_cases h : a.val % 2304 < 256
  · rw [dif_pos h]
    refine (backS_at g cw _ _ e).trans (congrArg (fun a => gradU g cw (ix2 a e)) (Fin.ext ?_))
    show a.val / 2304 * 2304 + a.val % 2304 = a.val
    omega
  · rw [dif_neg h]
    refine (backL_at g cw _ _ e).trans (congrArg (fun a => gradU g cw (ix2 a e)) (Fin.ext ?_))
    show a.val / 2304 * 2304 + (256 + (a.val % 2304 - 256)) = a.val
    omega

/-! ## The sums over the rows -/

theorem one_at (w : Vec Ideal S1x1x5632 .f32) (e : Fin 5632) :
    Host.reduceAdd (F := Ideal) (φ := .f32) w nil reducesTo_S1x1x5632_S5632_d0_1 h_S_ (ix1 e) = (w (ix3 0 0 e) : EReal) := by
  show (Ideal.hostReduceAdd reducesTo_S1x1x5632_S5632_d0_1 w _ (ix1 e) : EReal) = _
  unfold Ideal.hostReduceAdd
  rw [Finset.sum_filter_eq_sum_of_fiber _ (fun _ : Fin 1 => (ix3 0 0 e : S1x1x5632.Idx)) (fun _ _ _ => Subsingleton.elim _ _) ?_ w]
  · rw [Fin.sum_univ_one]
    pointwise
  · intro i
    obtain ⟨a, b, d, rfl⟩ : ∃ (a b : Fin 1) (d : Fin 5632), i = ix3 a b d := ⟨i 0, i 1, i 2, eq_ix3 i⟩
    obtain rfl : a = 0 := Subsingleton.elim _ _
    obtain rfl : b = 0 := Subsingleton.elim _ _
    refine ⟨fun h => ⟨0, congrArg (fun d : Fin 5632 => (ix3 0 0 d : S1x1x5632.Idx)) (congrFun h 0).symm⟩, fun ⟨_, h⟩ => ?_⟩
    rw [show d = e from (congrFun h 2).symm]
    exact funext fun c => Fin.ext (by match c with | ⟨0, _⟩ => rfl)

theorem allS_at (w : Vec Ideal S4x256x5632 .f32) (e : Fin 5632) :
    Host.reduceAdd (F := Ideal) (φ := .f32) w nil reducesTo_S4x256x5632_S5632_d0_1 h_S_ (ix1 e) = (∑ s : Fin 4, ∑ j : Fin 256, (w (ix3 s j e) : EReal) : EReal) := by
  show (Ideal.hostReduceAdd reducesTo_S4x256x5632_S5632_d0_1 w _ (ix1 e) : EReal) = _
  unfold Ideal.hostReduceAdd
  rw [Finset.sum_filter_eq_sum_of_fiber _ (fun k : Fin 4 × Fin 256 => (ix3 k.1 k.2 e : S4x256x5632.Idx))
    (fun _ _ h => Prod.ext (congrFun h 0) (congrFun h 1)) ?_ w]
  · rw [Fintype.sum_prod_type]
    pointwise
  · intro i
    obtain ⟨a, b, d, rfl⟩ : ∃ (a : Fin 4) (b : Fin 256) (d : Fin 5632), i = ix3 a b d := ⟨i 0, i 1, i 2, eq_ix3 i⟩
    refine ⟨fun h => ⟨(a, b), congrArg (fun d : Fin 5632 => (ix3 a b d : S4x256x5632.Idx)) (congrFun h 0).symm⟩, fun ⟨_, h⟩ => ?_⟩
    rw [show d = e from (congrFun h 2).symm]
    exact funext fun c => Fin.ext (by match c with | ⟨0, _⟩ => rfl)

/-- The sum over a segment's rows, through a row of its own. -/
abbrev rowS (w : Vec Ideal S4x256x5632 .f32) : Vec Ideal S1x5632 .f32 :=
  broadcastInDim S1x5632 ![1] bcast_S5632_S1x5632_1 (Host.reduceAdd (F := Ideal) (φ := .f32) (shapeCast S1x1x5632
    (Host.reduceAdd (F := Ideal) (φ := .f32) w nil reducesTo_S4x256x5632_S5632_d0_1 h_S_) shapeCasts_S5632_S1x1x5632) nil reducesTo_S1x1x5632_S5632_d0_1 h_S_)

theorem allL_at (w : Vec Ideal S4x2048x5632 .f32) (e : Fin 5632) :
    Host.reduceAdd (F := Ideal) (φ := .f32) w nil reducesTo_S4x2048x5632_S5632_d0_1 h_S_ (ix1 e) = (∑ s : Fin 4, ∑ j : Fin 2048, (w (ix3 s j e) : EReal) : EReal) := by
  show (Ideal.hostReduceAdd reducesTo_S4x2048x5632_S5632_d0_1 w _ (ix1 e) : EReal) = _
  unfold Ideal.hostReduceAdd
  rw [Finset.sum_filter_eq_sum_of_fiber _ (fun k : Fin 4 × Fin 2048 => (ix3 k.1 k.2 e : S4x2048x5632.Idx))
    (fun _ _ h => Prod.ext (congrFun h 0) (congrFun h 1)) ?_ w]
  · rw [Fintype.sum_prod_type]
    pointwise
  · intro i
    obtain ⟨a, b, d, rfl⟩ : ∃ (a : Fin 4) (b : Fin 2048) (d : Fin 5632), i = ix3 a b d := ⟨i 0, i 1, i 2, eq_ix3 i⟩
    refine ⟨fun h => ⟨(a, b), congrArg (fun d : Fin 5632 => (ix3 a b d : S4x2048x5632.Idx)) (congrFun h 0).symm⟩, fun ⟨_, h⟩ => ?_⟩
    rw [show d = e from (congrFun h 2).symm]
    exact funext fun c => Fin.ext (by match c with | ⟨0, _⟩ => rfl)

/-- The sum over a segment's rows, through a row of its own. -/
abbrev rowL (w : Vec Ideal S4x2048x5632 .f32) : Vec Ideal S1x5632 .f32 :=
  broadcastInDim S1x5632 ![1] bcast_S5632_S1x5632_1 (Host.reduceAdd (F := Ideal) (φ := .f32) (shapeCast S1x1x5632
    (Host.reduceAdd (F := Ideal) (φ := .f32) w nil reducesTo_S4x2048x5632_S5632_d0_1 h_S_) shapeCasts_S5632_S1x1x5632) nil reducesTo_S1x1x5632_S5632_d0_1 h_S_)

theorem lay_at (v : Vec Ideal S5632 .f32) (u : Fin 1) (e : Fin 5632) :
    broadcastInDim S1x5632 ![1] bcast_S5632_S1x5632_1 v (ix2 u e) = (v (ix1 e) : EReal) := by
  pointwise

theorem cast_at (v : Vec Ideal S5632 .f32) (e : Fin 5632) :
    shapeCast S1x1x5632 v shapeCasts_S5632_S1x1x5632 (ix3 0 0 e) = (v (ix1 e) : EReal) := by
  pointwise

theorem rowS_at (w : Vec Ideal S4x256x5632 .f32) (u : Fin 1) (e : Fin 5632) :
    rowS w (ix2 u e) = (∑ s : Fin 4, ∑ j : Fin 256, (w (ix3 s j e) : EReal) : EReal) :=
  (lay_at _ u e).trans ((one_at _ e).trans ((cast_at _ e).trans (allS_at w e)))

theorem rowL_at (w : Vec Ideal S4x2048x5632 .f32) (u : Fin 1) (e : Fin 5632) :
    rowL w (ix2 u e) = (∑ s : Fin 4, ∑ j : Fin 2048, (w (ix3 s j e) : EReal) : EReal) :=
  (lay_at _ u e).trans ((one_at _ e).trans ((cast_at _ e).trans (allL_at w e)))

/-- A row of the stream is a row of a sequence. -/
def pairs : Fin 4 × Fin 2304 ≃ Fin 9216 where
  toFun k := rowSeq k.1 k.2
  invFun a := (⟨a.val / 2304, by omega⟩, ⟨a.val % 2304, by omega⟩)
  left_inv k := by
    refine Prod.ext (Fin.ext ?_) (Fin.ext ?_)
    · show (k.1.val * 2304 + k.2.val) / 2304 = k.1.val
      omega
    · show (k.1.val * 2304 + k.2.val) % 2304 = k.2.val
      omega
  right_inv a := by
    refine Fin.ext ?_
    show a.val / 2304 * 2304 + a.val % 2304 = a.val
    omega

theorem pairs_apply (k : Fin 4 × Fin 2304) : pairs k = rowSeq k.1 k.2 := rfl

/-- The rows of the stream are those of its sequences, and a sequence's are those of its two segments. -/
theorem sum_segs (f : Fin 9216 → EReal) :
    (∑ s : Fin 4, ∑ j : Fin 2048, f (rowSeq s ⟨256 + j.val, by omega⟩)) + (∑ s : Fin 4, ∑ j : Fin 256, f (rowSeq s ⟨j.val, by omega⟩)) = ∑ a : Fin 9216, f a := by
  have hs : ∀ s : Fin 4, (∑ p : Fin 2304, f (rowSeq s p)) = (∑ j : Fin 256, f (rowSeq s ⟨j.val, by omega⟩)) + ∑ j : Fin 2048, f (rowSeq s ⟨256 + j.val, by omega⟩) := fun s =>
    Fin.sum_univ_add (a := 256) (b := 2048) fun p : Fin 2304 => f (rowSeq s p)
  rw [add_comm, ← Finset.sum_add_distrib]
  refine (Finset.sum_congr rfl fun s _ => (hs s).symm).trans ?_
  rw [← Fintype.sum_prod_type' (f := fun (s : Fin 4) (p : Fin 2304) => f (rowSeq s p))]
  exact Fintype.sum_equiv pairs (fun k : Fin 4 × Fin 2304 => f (rowSeq k.1 k.2)) f fun k => congrArg f (pairs_apply k).symm

abbrev sumH (l : Vec Ideal S4x2048x5632 .f32) (s : Vec Ideal S4x256x5632 .f32) : Vec Ideal S1x5632 .f32 := addf (F := Ideal) (φ := .f32) (rowL l) (rowS s)

theorem sumH_at (l : Vec Ideal S4x2048x5632 .f32) (s : Vec Ideal S4x256x5632 .f32) (f : Fin 9216 → EReal) (e : Fin 5632)
    (hl : ∀ k (j : Fin 2048), l (ix3 k j e) = f (rowSeq k ⟨256 + j.val, by omega⟩)) (hs : ∀ k (j : Fin 256), s (ix3 k j e) = f (rowSeq k ⟨j.val, by omega⟩)) (u : Fin 1) :
    (rowL l (ix2 u e) + rowS s (ix2 u e) : EReal) = ∑ a : Fin 9216, f a := by
  refine (congrArg₂ (fun a b : EReal => a + b) ((rowL_at l u e).trans ?_) ((rowS_at s u e).trans ?_)).trans (sum_segs f)
  · exact Finset.sum_congr rfl fun k _ => Finset.sum_congr rfl fun j _ => hl k j
  · exact Finset.sum_congr rfl fun k _ => Finset.sum_congr rfl fun j _ => hs k j

variable (g u : Vec Ideal S9216x5632 .bf16)

theorem longG (k : Fin 4) (j : Fin 2048) (e : Fin 5632) : cutL (seqH g) (ix3 k j e) = (g (ix2 (rowSeq k ⟨256 + j.val, by omega⟩) e) : EReal) :=
  (cutL_at _ k j e).trans (seqH_at g k _ e)

theorem shortG (k : Fin 4) (j : Fin 256) (e : Fin 5632) : cutS (seqH g) (ix3 k j e) = (g (ix2 (rowSeq k ⟨j.val, by omega⟩) e) : EReal) :=
  (cutS_at _ k j e).trans (seqH_at g k _ e)

theorem host_gradS : sumH (cutL (seqH g)) (cutS (seqH g)) = gradS g := by
  refine funext fun i => ?_
  obtain ⟨z, e, rfl⟩ : ∃ (z : Fin 1) (e : Fin 5632), i = ix2 z e := ⟨i 0, i 1, eq_ix2 i⟩
  exact sumH_at _ _ (fun a => g (ix2 a e)) e (fun k j => longG g k j e) (fun k j => shortG g k j e) z

/-- A short segment's cotangent times the rows that a tap meets. -/
abbrev prodS (k : ℕ) (h : S4x258x5632.Slices ![0, k, 0] S4x256x5632) : Vec Ideal S4x256x5632 .f32 :=
  mulf (F := Ideal) (φ := .f32) (cutS (seqH g)) (extractStridedSlice S4x256x5632 ![0, k, 0] (padS (seqH u)) h)

theorem winS0_at (y : Vec Ideal S4x258x5632 .f32) (s : Fin 4) (j : Fin 256) (e : Fin 5632) :
    extractStridedSlice S4x256x5632 ![0, 0, 0] y slices_S4x258x5632_S4x256x5632_0_0_0 (ix3 s j e) = (y (ix3 s ⟨j.val, by omega⟩ e) : EReal) := by
  pointwise

theorem prodS0_at (s : Fin 4) (j : Fin 256) (e : Fin 5632) :
    prodS g u 0 slices_S4x258x5632_S4x256x5632_0_0_0 (ix3 s j e) = (tap g u 0 e (rowSeq s ⟨j.val, by omega⟩) : EReal) := by
  exact (congrArg₂ (fun a b : EReal => a * b) (shortG g s j e) ((winS0_at _ s j e).trans (short_before u s j e))).trans
    (show (g (ix2 (rowSeq s ⟨j.val, by omega⟩) e) * before u (rowSeq s ⟨j.val, by omega⟩) e : EReal) = _ from rfl)

theorem winS1_at (y : Vec Ideal S4x258x5632 .f32) (s : Fin 4) (j : Fin 256) (e : Fin 5632) :
    extractStridedSlice S4x256x5632 ![0, 1, 0] y slices_S4x258x5632_S4x256x5632_0_1_0 (ix3 s j e) = (y (ix3 s ⟨1 + j.val, by omega⟩ e) : EReal) := by
  pointwise

theorem prodS1_at (s : Fin 4) (j : Fin 256) (e : Fin 5632) :
    prodS g u 1 slices_S4x258x5632_S4x256x5632_0_1_0 (ix3 s j e) = (tap g u 1 e (rowSeq s ⟨j.val, by omega⟩) : EReal) := by
  exact (congrArg₂ (fun a b : EReal => a * b) (shortG g s j e) ((winS1_at _ s j e).trans (short_same u s j e))).trans
    (show (g (ix2 (rowSeq s ⟨j.val, by omega⟩) e) * u (ix2 (rowSeq s ⟨j.val, by omega⟩) e) : EReal) = _ from rfl)

theorem winS2_at (y : Vec Ideal S4x258x5632 .f32) (s : Fin 4) (j : Fin 256) (e : Fin 5632) :
    extractStridedSlice S4x256x5632 ![0, 2, 0] y slices_S4x258x5632_S4x256x5632_0_2_0 (ix3 s j e) = (y (ix3 s ⟨2 + j.val, by omega⟩ e) : EReal) := by
  pointwise

theorem prodS2_at (s : Fin 4) (j : Fin 256) (e : Fin 5632) :
    prodS g u 2 slices_S4x258x5632_S4x256x5632_0_2_0 (ix3 s j e) = (tap g u 2 e (rowSeq s ⟨j.val, by omega⟩) : EReal) := by
  exact (congrArg₂ (fun a b : EReal => a * b) (shortG g s j e) ((winS2_at _ s j e).trans (short_after u s j e))).trans
    (show (g (ix2 (rowSeq s ⟨j.val, by omega⟩) e) * after u (rowSeq s ⟨j.val, by omega⟩) e : EReal) = _ from rfl)

/-- A long segment's cotangent times the rows that a tap meets. -/
abbrev prodL (k : ℕ) (h : S4x2050x5632.Slices ![0, k, 0] S4x2048x5632) : Vec Ideal S4x2048x5632 .f32 :=
  mulf (F := Ideal) (φ := .f32) (cutL (seqH g)) (extractStridedSlice S4x2048x5632 ![0, k, 0] (padL (seqH u)) h)

theorem winL0_at (y : Vec Ideal S4x2050x5632 .f32) (s : Fin 4) (j : Fin 2048) (e : Fin 5632) :
    extractStridedSlice S4x2048x5632 ![0, 0, 0] y slices_S4x2050x5632_S4x2048x5632_0_0_0 (ix3 s j e) = (y (ix3 s ⟨j.val, by omega⟩ e) : EReal) := by
  pointwise

theorem prodL0_at (s : Fin 4) (j : Fin 2048) (e : Fin 5632) :
    prodL g u 0 slices_S4x2050x5632_S4x2048x5632_0_0_0 (ix3 s j e) = (tap g u 0 e (rowSeq s ⟨256 + j.val, by omega⟩) : EReal) := by
  exact (congrArg₂ (fun a b : EReal => a * b) (longG g s j e) ((winL0_at _ s j e).trans (long_before u s j e))).trans
    (show (g (ix2 (rowSeq s ⟨256 + j.val, by omega⟩) e) * before u (rowSeq s ⟨256 + j.val, by omega⟩) e : EReal) = _ from rfl)

theorem winL1_at (y : Vec Ideal S4x2050x5632 .f32) (s : Fin 4) (j : Fin 2048) (e : Fin 5632) :
    extractStridedSlice S4x2048x5632 ![0, 1, 0] y slices_S4x2050x5632_S4x2048x5632_0_1_0 (ix3 s j e) = (y (ix3 s ⟨1 + j.val, by omega⟩ e) : EReal) := by
  pointwise

theorem prodL1_at (s : Fin 4) (j : Fin 2048) (e : Fin 5632) :
    prodL g u 1 slices_S4x2050x5632_S4x2048x5632_0_1_0 (ix3 s j e) = (tap g u 1 e (rowSeq s ⟨256 + j.val, by omega⟩) : EReal) := by
  exact (congrArg₂ (fun a b : EReal => a * b) (longG g s j e) ((winL1_at _ s j e).trans (long_same u s j e))).trans
    (show (g (ix2 (rowSeq s ⟨256 + j.val, by omega⟩) e) * u (ix2 (rowSeq s ⟨256 + j.val, by omega⟩) e) : EReal) = _ from rfl)

theorem winL2_at (y : Vec Ideal S4x2050x5632 .f32) (s : Fin 4) (j : Fin 2048) (e : Fin 5632) :
    extractStridedSlice S4x2048x5632 ![0, 2, 0] y slices_S4x2050x5632_S4x2048x5632_0_2_0 (ix3 s j e) = (y (ix3 s ⟨2 + j.val, by omega⟩ e) : EReal) := by
  pointwise

theorem prodL2_at (s : Fin 4) (j : Fin 2048) (e : Fin 5632) :
    prodL g u 2 slices_S4x2050x5632_S4x2048x5632_0_2_0 (ix3 s j e) = (tap g u 2 e (rowSeq s ⟨256 + j.val, by omega⟩) : EReal) := by
  exact (congrArg₂ (fun a b : EReal => a * b) (longG g s j e) ((winL2_at _ s j e).trans (long_after u s j e))).trans
    (show (g (ix2 (rowSeq s ⟨256 + j.val, by omega⟩) e) * after u (rowSeq s ⟨256 + j.val, by omega⟩) e : EReal) = _ from rfl)

abbrev lay0 (w : Vec Ideal S1x5632 .f32) : Vec Ideal S8x5632 .f32 :=
  pad S8x5632 ![0, 0] ![7, 0] ![0, 0] w nil pads_S1x5632_S8x5632_070_000 h_S_

theorem lay0_at (w : Vec Ideal S1x5632 .f32) (s : Fin 8) (e : Fin 5632) : lay0 w (ix2 s e) = (if s.val = 0 then w (ix2 0 e) else 0 : EReal) := by
  pointwise
  fin_cases s <;> simp

abbrev lay1 (w : Vec Ideal S1x5632 .f32) : Vec Ideal S8x5632 .f32 :=
  pad S8x5632 ![1, 0] ![6, 0] ![0, 0] w nil pads_S1x5632_S8x5632_160_000 h_S_

theorem lay1_at (w : Vec Ideal S1x5632 .f32) (s : Fin 8) (e : Fin 5632) : lay1 w (ix2 s e) = (if s.val = 1 then w (ix2 0 e) else 0 : EReal) := by
  pointwise
  fin_cases s <;> simp

abbrev lay2 (w : Vec Ideal S1x5632 .f32) : Vec Ideal S8x5632 .f32 :=
  pad S8x5632 ![2, 0] ![5, 0] ![0, 0] w nil pads_S1x5632_S8x5632_250_000 h_S_

theorem lay2_at (w : Vec Ideal S1x5632 .f32) (s : Fin 8) (e : Fin 5632) : lay2 w (ix2 s e) = (if s.val = 2 then w (ix2 0 e) else 0 : EReal) := by
  pointwise
  fin_cases s <;> simp

/-- The six rows laid on the array of taps and added. -/
abbrev sixH (l0 l1 l2 s0 s1 s2 : Vec Ideal S1x5632 .f32) : Vec Ideal S8x5632 .f32 :=
  addf (F := Ideal) (φ := .f32) (addf (F := Ideal) (φ := .f32) (addf (F := Ideal) (φ := .f32) (addf (F := Ideal) (φ := .f32) (addf (F := Ideal) (φ := .f32)
    (lay2 l2) (lay1 l1)) (lay0 l0)) (lay2 s2)) (lay1 s1)) (lay0 s0)

theorem add6_at (a b c d e f : Vec Ideal S8x5632 .f32) (i : S8x5632.Idx) :
    addf (F := Ideal) (φ := .f32) (addf (F := Ideal) (φ := .f32) (addf (F := Ideal) (φ := .f32) (addf (F := Ideal) (φ := .f32) (addf (F := Ideal) (φ := .f32)
      a b) c) d) e) f i = (a i + b i + c i + d i + e i + f i : EReal) := rfl

theorem sixH_at (l0 l1 l2 s0 s1 s2 : Vec Ideal S1x5632 .f32) (s : Fin 8) (e : Fin 5632) :
    sixH l0 l1 l2 s0 s1 s2 (ix2 s e) = (if s.val = 0 then l0 (ix2 0 e) + s0 (ix2 0 e) else if s.val = 1 then l1 (ix2 0 e) + s1 (ix2 0 e)
      else if s.val = 2 then l2 (ix2 0 e) + s2 (ix2 0 e) else 0 : EReal) := by
  refine (add6_at _ _ _ _ _ _ _).trans ?_
  rw [lay0_at, lay1_at, lay2_at, lay0_at, lay1_at, lay2_at]
  fin_cases s <;> simp

theorem host_gradT :
    sixH (rowL (prodL g u 0 slices_S4x2050x5632_S4x2048x5632_0_0_0)) (rowL (prodL g u 1 slices_S4x2050x5632_S4x2048x5632_0_1_0))
      (rowL (prodL g u 2 slices_S4x2050x5632_S4x2048x5632_0_2_0)) (rowS (prodS g u 0 slices_S4x258x5632_S4x256x5632_0_0_0))
      (rowS (prodS g u 1 slices_S4x258x5632_S4x256x5632_0_1_0)) (rowS (prodS g u 2 slices_S4x258x5632_S4x256x5632_0_2_0)) = gradT g u := by
  refine funext fun i => ?_
  obtain ⟨s, e, rfl⟩ : ∃ (s : Fin 8) (e : Fin 5632), i = ix2 s e := ⟨i 0, i 1, eq_ix2 i⟩
  refine (sixH_at _ _ _ _ _ _ s e).trans ?_
  rw [sumH_at _ _ (tap g u 0 e) e (fun k j => prodL0_at g u k j e) (fun k j => prodS0_at g u k j e) 0,
    sumH_at _ _ (tap g u 1 e) e (fun k j => prodL1_at g u k j e) (fun k j => prodS1_at g u k j e) 0,
    sumH_at _ _ (tap g u 2 e) e (fun k j => prodL2_at g u k j e) (fun k j => prodS2_at g u k j e) 0]
  show _ = (∑ a : Fin 9216, tap g u s e a : EReal)
  by_cases h0 : s.val = 0
  · rw [if_pos h0, show s = 0 from Fin.ext h0]
  rw [if_neg h0]
  by_cases h1 : s.val = 1
  · rw [if_pos h1, show s = 1 from Fin.ext h1]
  rw [if_neg h1]
  by_cases h2 : s.val = 2
  · rw [if_pos h2, show s = 2 from Fin.ext h2]
  rw [if_neg h2]
  refine (Finset.sum_eq_zero fun a _ => ?_).symm
  unfold tap
  rw [if_neg h0, if_neg h1, if_neg h2]

end Cert.ConvRef

end
-- ==== Proof.ConvBack.lean ====
/-
  The gradient of the convolution over neighbouring rows: the convolution's input, its taps and its shift, in 36 tiles of 256 rows
  for each of two groups of columns. The call and its reference end with the same arrays over the extended reals.
-/
module

public import proofs.«01_k».proof.Proof.Gen.ConvGradIdeal.Value
public import proofs.«01_k».proof.Proof.ConvRef
public import proofs.«01_k».proof.Proof.InProjGrad
public import proofs.«01_k».proof.Proof.Adam
public import proofs.«01_k».proof.Defs
public import proofs.«01_k».proof.Proof.Gen.ConvGradRefIdeal.Run
public import Idealize.ShloMosaic.Lib.Claim

@[expose] public section

set_option maxRecDepth 16384

noncomputable section

namespace Cert.ConvBack

open Cert.ConvGradIdeal Cert.ConvGradIdeal.Gen Cert.ConvGradIdeal.Value Idealize.ShloMosaic Idealize.ShloMosaic.TcCoe Idealize.SL.Sem

open Cert.DxProj (rowOf tileOf)
open Cert.Adam (hz)
open Cert.InProjGrad (sum_tiles)
open Cert.ConvTap
open Cert.ConvRef (host_gradU host_gradT host_gradS)

theorem ldU (x : Vec Ideal S256x2816 .bf16) (h) : View.ld x (Rect.unit (s := S256x2816) ![0, 0] S256x2816.size h) = x := by rw [View.ld_unit_zero hz]

theorem ldE (x : Vec Ideal S16x2816 .bf16) (h) : View.ld x (Rect.unit (s := S16x2816) ![0, 0] S16x2816.size h) = x := by rw [View.ld_unit_zero hz]

theorem ldC (x : Vec Ideal S8x2816 .f32) (h) : View.ld x (Rect.unit (s := S8x2816) ![0, 0] S8x2816.size h) = x := by rw [View.ld_unit_zero hz]

theorem ldB (x : Vec Ideal S1x2816 .f32) (h) : View.ld x (Rect.unit (s := S1x2816) ![0, 0] S1x2816.size h) = x := by rw [View.ld_unit_zero hz]

/-! ## What a point leaves -/

section Outs

variable (x0 : Vec Ideal S256x2816 .bf16) (x1 x2 : Vec Ideal S16x2816 .bf16) (x3 : Vec Ideal S256x2816 .bf16) (x4 x5 : Vec Ideal S16x2816 .bf16)
  (x6 : Vec Ideal S8x2816 .f32) (xo8 : Vec Ideal S8x2816 .f32) (xo9 : Vec Ideal S1x2816 .f32)

variable (arg2 : Memref sig .tc .vmem S256x2816 .bf16) (harg2 : arg2.IsWhole) (arg3 : Memref sig .tc .vmem S16x2816 .bf16) (harg3 :
  arg3.IsWhole) (arg4 : Memref sig .tc .vmem S16x2816 .bf16) (harg4 : arg4.IsWhole) (arg5 : Memref sig .tc .vmem S256x2816 .bf16) (harg5 :
  arg5.IsWhole) (arg6 : Memref sig .tc .vmem S16x2816 .bf16) (harg6 : arg6.IsWhole) (arg7 : Memref sig .tc .vmem S16x2816 .bf16) (harg7 :
  arg7.IsWhole) (arg8 : Memref sig .tc .vmem S8x2816 .f32) (harg8 : arg8.IsWhole) (arg9 : Memref sig .tc .vmem S256x2816 .bf16) (harg9 :
  arg9.IsWhole) (arg10 : Memref sig .tc .vmem S8x2816 .f32) (harg10 : arg10.IsWhole) (arg11 : Memref sig .tc .vmem S1x2816 .f32) (harg11 :
  arg11.IsWhole)

theorem outA7_eq (c : Dev nD) (i : grid0.Coords) (hc0 : cond0_0 i) :
    out0_A_7 c i _ harg2 _ harg3 _ harg4 _ harg5 _ harg6 _ harg7 _ harg8 _ harg9 _ harg10 _ harg11 hc0 x0 x1 x2 x3 x4 x5 x6 = k0_pay15 (k0_pay5 x0) (k0_pay6 i x0 x1) (k0_pay9 (k0_pay5 x0) k0_pay7 (k0_pay8 i x2) 255#32) x6 := by
  unfold out0_A_7
  rw [View.read_writes_eq_canon _ _ _ ?w]
  case w => apply cover0_A_7
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_42]
  simp only [View.readAt_eq_ld, Memref.IsWhole.read_unread]
  rw [ldU x0, ldE x1, ldE x2, ldC x6]

theorem outB7_eq (c : Dev nD) (i : grid0.Coords) (hc0 : ¬cond0_0 i) :
    out0_B_7 c i _ harg2 _ harg3 _ harg4 _ harg5 _ harg6 _ harg7 _ harg8 _ harg9 _ harg10 _ harg11 hc0 x0 x1 x2 x3 x4 x5 x6 xo8 xo9 = k0_pay15 (k0_pay5 x0) (k0_pay6 i x0 x1) (k0_pay9 (k0_pay5 x0) k0_pay7 (k0_pay8 i x2) 255#32) x6 := by
  unfold out0_B_7
  rw [View.read_writes_eq_canon _ _ _ ?w]
  case w => apply cover0_B_7
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.cst_42]
  simp only [View.readAt_eq_ld, Memref.IsWhole.read_unread]
  rw [ldU x0, ldE x1, ldE x2, ldC x6]

theorem outA8_eq (c : Dev nD) (i : grid0.Coords) (hc0 : cond0_0 i) :
    out0_A_8 c i _ harg2 _ harg3 _ harg4 _ harg5 _ harg6 _ harg7 _ harg8 _ harg9 _ harg10 _ harg11 hc0 x0 x1 x2 x3 x4 x5 x6 = k0_pay3 (k0_pay16 (k0_pay5 x0) (k0_pay10 x3) (k0_pay11 (BitVec.ofNat 32 (i 1).val) x3 x4)) k0_pay17 (Scalar.ofBits .f32 0x00000000#32)
        (k0_pay18 (k0_pay5 x0) (k0_pay10 x3) k0_pay12 (k0_pay13 x5) (k0_pay14 (BitVec.ofNat 32 (i 1).val))) (k0_pay1 (F := Ideal)) := by
  unfold out0_A_8
  rw [View.read_writes_eq_canon _ _ _ ?w]
  case w => apply cover0_A_8
  unfold kernelRun0_A
  dsimp only
  rw [View.canon_cons_unit_zero (S := S8x2816) hz]
  unfold kernelRun0_A.sl.v133 kernelRun0_A.sl.H8_1
  rw [View.readCov_unit_zero (S := S8x2816) _ hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_42]
  simp only [View.readAt_eq_ld, Memref.IsWhole.read_unread]
  rw [ldU x0, ldU x3, ldE x4, ldE x5]

theorem outB8_eq (c : Dev nD) (i : grid0.Coords) (hc0 : ¬cond0_0 i) :
    out0_B_8 c i _ harg2 _ harg3 _ harg4 _ harg5 _ harg6 _ harg7 _ harg8 _ harg9 _ harg10 _ harg11 hc0 x0 x1 x2 x3 x4 x5 x6 xo8 xo9 = k0_pay3 (k0_pay16 (k0_pay5 x0) (k0_pay10 x3) (k0_pay11 (BitVec.ofNat 32 (i 1).val) x3 x4)) k0_pay17 (Scalar.ofBits .f32 0x00000000#32)
        (k0_pay18 (k0_pay5 x0) (k0_pay10 x3) k0_pay12 (k0_pay13 x5) (k0_pay14 (BitVec.ofNat 32 (i 1).val))) xo8 := by
  unfold out0_B_8
  rw [View.read_writes_eq_canon _ _ _ ?w]
  case w => apply cover0_B_8
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.cst_42]
  simp only [View.readAt_eq_ld, Memref.IsWhole.read_unread]
  rw [ldU x0, ldU x3, ldE x4, ldE x5, ldC xo8]

theorem outA9_eq (c : Dev nD) (i : grid0.Coords) (hc0 : cond0_0 i) :
    out0_A_9 c i _ harg2 _ harg3 _ harg4 _ harg5 _ harg6 _ harg7 _ harg8 _ harg9 _ harg10 _ harg11 hc0 x0 x1 x2 x3 x4 x5 x6 = k0_pay4 (k0_pay5 x0) (k0_pay2 (F := Ideal)) := by
  unfold out0_A_9
  rw [View.read_writes_eq_canon _ _ _ ?w]
  case w => apply cover0_A_9
  unfold kernelRun0_A
  dsimp only
  rw [View.canon_cons_unit_zero (S := S1x2816) hz]
  unfold kernelRun0_A.sl.v137 kernelRun0_A.sl.H9_1
  rw [View.readCov_unit_zero (S := S1x2816) _ hz]
  simp only [kernelRun0_A.sl.r]
  simp only [View.readAt_eq_ld, Memref.IsWhole.read_unread]
  rw [ldU x0]

theorem outB9_eq (c : Dev nD) (i : grid0.Coords) (hc0 : ¬cond0_0 i) :
    out0_B_9 c i _ harg2 _ harg3 _ harg4 _ harg5 _ harg6 _ harg7 _ harg8 _ harg9 _ harg10 _ harg11 hc0 x0 x1 x2 x3 x4 x5 x6 xo8 xo9 = k0_pay4 (k0_pay5 x0) xo9 := by
  unfold out0_B_9
  rw [View.read_writes_eq_canon _ _ _ ?w]
  case w => apply cover0_B_9
  unfold kernelRun0_B
  dsimp only
  rw [View.canon_unit_zero hz]
  simp only [kernelRun0_B.sl.r]
  simp only [View.readAt_eq_ld, Memref.IsWhole.read_unread]
  rw [ldU x0, ldB xo9]

end Outs

variable (m : (ℓ : Loc nD τ sig) → Buf (Elt Ideal) ℓ) (ρ : Dev nD → PrngReg)

/-- A point's tile and its group of columns. -/
def rowPt (t : Fin cfg0.N) : Fin 36 := ⟨t.val % 36, by omega⟩

def colPart (t : Fin cfg0.N) : Fin 2 := ⟨t.val / 36, by have := lt_of_lt_of_eq t.isLt (show cfg0.N = 72 from N_0); omega⟩

theorem coord_eq : ∀ t : Fin cfg0.N, (grid0.coords t 1).val = t.val % 36 := (by decide +kernel : ∀ t : Fin grid0.N, _)

/-- Point `t`'s blocks are its tile of 256 rows, the 16 rows before and after it, and its group of columns. -/
theorem idx_facts : ∀ t : Fin cfg0.N,
    (win0_0.index t (0 : Fin 2) = t.val % 36 ∧ win0_0.index t (1 : Fin 2) = t.val / 36)
    ∧ (win0_1.index t (0 : Fin 2) = t.val % 36 * 16 - 1 ∧ win0_1.index t (1 : Fin 2) = t.val / 36)
    ∧ (win0_2.index t (0 : Fin 2) = min (t.val % 36 * 16 + 16) 575 ∧ win0_2.index t (1 : Fin 2) = t.val / 36)
    ∧ (win0_3.index t (0 : Fin 2) = t.val % 36 ∧ win0_3.index t (1 : Fin 2) = t.val / 36)
    ∧ (win0_4.index t (0 : Fin 2) = t.val % 36 * 16 - 1 ∧ win0_4.index t (1 : Fin 2) = t.val / 36)
    ∧ (win0_5.index t (0 : Fin 2) = min (t.val % 36 * 16 + 16) 575 ∧ win0_5.index t (1 : Fin 2) = t.val / 36)
    ∧ (win0_6.index t (0 : Fin 2) = 0 ∧ win0_6.index t (1 : Fin 2) = t.val / 36)
    ∧ (win0_7.index t (0 : Fin 2) = t.val % 36 ∧ win0_7.index t (1 : Fin 2) = t.val / 36)
    ∧ (win0_8.index t (0 : Fin 2) = 0 ∧ win0_8.index t (1 : Fin 2) = t.val / 36)
    ∧ (win0_9.index t (0 : Fin 2) = 0 ∧ win0_9.index t (1 : Fin 2) = t.val / 36) :=
  (by decide +kernel : ∀ t : Fin grid0.N, _)

theorem emb0 (t : Fin cfg0.N) (r : Fin 256) (e : Fin 2816) :
    ((cfg0.win 0).blk t).view.emb (ix2 r e) = (ix2 (rowOf (rowPt t) r) (grp (colPart t) e) : S9216x5632.Idx) := by
  obtain ⟨⟨h, h'⟩, -⟩ := idx_facts t
  refine funext fun a => Fin.ext ?_
  match a with
  | ⟨0, _⟩ => show win0_0.index t (0 : Fin 2) * 256 + 1 * r.val = t.val % 36 * 256 + r.val; rw [h]; omega
  | ⟨1, _⟩ => show win0_0.index t (1 : Fin 2) * 2816 + 1 * e.val = t.val / 36 * 2816 + e.val; rw [h']; omega

theorem emb1 (t : Fin cfg0.N) (a : Fin 9216) (e : Fin 2816) (ha : a.val + 1 = (rowPt t).val * 256) :
    ((cfg0.win 1).blk t).view.emb (ix2 (15 : Fin 16) e) = (ix2 a (grp (colPart t) e) : S9216x5632.Idx) := by
  obtain ⟨-, ⟨h, h'⟩, -⟩ := idx_facts t
  have ha : a.val + 1 = t.val % 36 * 256 := ha
  refine funext fun z => Fin.ext ?_
  match z with
  | ⟨0, _⟩ => show win0_1.index t (0 : Fin 2) * 16 + 1 * 15 = a.val; rw [h]; omega
  | ⟨1, _⟩ => show win0_1.index t (1 : Fin 2) * 2816 + 1 * e.val = t.val / 36 * 2816 + e.val; rw [h']; omega

theorem emb2 (t : Fin cfg0.N) (a : Fin 9216) (e : Fin 2816) (ha : a.val = (rowPt t).val * 256 + 256) :
    ((cfg0.win 2).blk t).view.emb (ix2 (0 : Fin 16) e) = (ix2 a (grp (colPart t) e) : S9216x5632.Idx) := by
  obtain ⟨-, -, ⟨h, h'⟩, -⟩ := idx_facts t
  have ha : a.val = t.val % 36 * 256 + 256 := ha
  have hN := a.isLt
  refine funext fun z => Fin.ext ?_
  match z with
  | ⟨0, _⟩ => show win0_2.index t (0 : Fin 2) * 16 + 1 * 0 = a.val; rw [h, Nat.min_eq_left (by omega)]; omega
  | ⟨1, _⟩ => show win0_2.index t (1 : Fin 2) * 2816 + 1 * e.val = t.val / 36 * 2816 + e.val; rw [h']; omega

theorem emb3 (t : Fin cfg0.N) (r : Fin 256) (e : Fin 2816) :
    ((cfg0.win 3).blk t).view.emb (ix2 r e) = (ix2 (rowOf (rowPt t) r) (grp (colPart t) e) : S9216x5632.Idx) := by
  obtain ⟨-, -, -, ⟨h, h'⟩, -⟩ := idx_facts t
  refine funext fun a => Fin.ext ?_
  match a with
  | ⟨0, _⟩ => show win0_3.index t (0 : Fin 2) * 256 + 1 * r.val = t.val % 36 * 256 + r.val; rw [h]; omega
  | ⟨1, _⟩ => show win0_3.index t (1 : Fin 2) * 2816 + 1 * e.val = t.val / 36 * 2816 + e.val; rw [h']; omega

theorem emb4 (t : Fin cfg0.N) (a : Fin 9216) (e : Fin 2816) (ha : a.val + 1 = (rowPt t).val * 256) :
    ((cfg0.win 4).blk t).view.emb (ix2 (15 : Fin 16) e) = (ix2 a (grp (colPart t) e) : S9216x5632.Idx) := by
  obtain ⟨-, -, -, -, ⟨h, h'⟩, -⟩ := idx_facts t
  have ha : a.val + 1 = t.val % 36 * 256 := ha
  refine funext fun z => Fin.ext ?_
  match z with
  | ⟨0, _⟩ => show win0_4.index t (0 : Fin 2) * 16 + 1 * 15 = a.val; rw [h]; omega
  | ⟨1, _⟩ => show win0_4.index t (1 : Fin 2) * 2816 + 1 * e.val = t.val / 36 * 2816 + e.val; rw [h']; omega

theorem emb5 (t : Fin cfg0.N) (a : Fin 9216) (e : Fin 2816) (ha : a.val = (rowPt t).val * 256 + 256) :
    ((cfg0.win 5).blk t).view.emb (ix2 (0 : Fin 16) e) = (ix2 a (grp (colPart t) e) : S9216x5632.Idx) := by
  obtain ⟨-, -, -, -, -, ⟨h, h'⟩, -⟩ := idx_facts t
  have ha : a.val = t.val % 36 * 256 + 256 := ha
  have hN := a.isLt
  refine funext fun z => Fin.ext ?_
  match z with
  | ⟨0, _⟩ => show win0_5.index t (0 : Fin 2) * 16 + 1 * 0 = a.val; rw [h, Nat.min_eq_left (by omega)]; omega
  | ⟨1, _⟩ => show win0_5.index t (1 : Fin 2) * 2816 + 1 * e.val = t.val / 36 * 2816 + e.val; rw [h']; omega

theorem emb6 (t : Fin cfg0.N) (s : Fin 8) (e : Fin 2816) :
    ((cfg0.win 6).blk t).view.emb (ix2 s e) = (ix2 s (grp (colPart t) e) : S8x5632.Idx) := by
  obtain ⟨-, -, -, -, -, -, ⟨h, h'⟩, -⟩ := idx_facts t
  refine funext fun a => Fin.ext ?_
  match a with
  | ⟨0, _⟩ => show win0_6.index t (0 : Fin 2) * 8 + 1 * s.val = s.val; rw [h]; omega
  | ⟨1, _⟩ => show win0_6.index t (1 : Fin 2) * 2816 + 1 * e.val = t.val / 36 * 2816 + e.val; rw [h']; omega

theorem emb7 (t : Fin cfg0.N) (r : Fin 256) (e : Fin 2816) :
    ((cfg0.win 7).blk t).view.emb (ix2 r e) = (ix2 (rowOf (rowPt t) r) (grp (colPart t) e) : S9216x5632.Idx) := by
  obtain ⟨-, -, -, -, -, -, -, ⟨h, h'⟩, -⟩ := idx_facts t
  refine funext fun a => Fin.ext ?_
  match a with
  | ⟨0, _⟩ => show win0_7.index t (0 : Fin 2) * 256 + 1 * r.val = t.val % 36 * 256 + r.val; rw [h]; omega
  | ⟨1, _⟩ => show win0_7.index t (1 : Fin 2) * 2816 + 1 * e.val = t.val / 36 * 2816 + e.val; rw [h']; omega

theorem emb8 (t : Fin cfg0.N) (s : Fin 8) (e : Fin 2816) :
    ((cfg0.win 8).blk t).view.emb (ix2 s e) = (ix2 s (grp (colPart t) e) : S8x5632.Idx) := by
  obtain ⟨-, -, -, -, -, -, -, -, ⟨h, h'⟩, -⟩ := idx_facts t
  refine funext fun a => Fin.ext ?_
  match a with
  | ⟨0, _⟩ => show win0_8.index t (0 : Fin 2) * 8 + 1 * s.val = s.val; rw [h]; omega
  | ⟨1, _⟩ => show win0_8.index t (1 : Fin 2) * 2816 + 1 * e.val = t.val / 36 * 2816 + e.val; rw [h']; omega

theorem emb9 (t : Fin cfg0.N) (s : Fin 1) (e : Fin 2816) :
    ((cfg0.win 9).blk t).view.emb (ix2 s e) = (ix2 s (grp (colPart t) e) : S1x5632.Idx) := by
  obtain ⟨-, -, -, -, -, -, -, -, -, h, h'⟩ := idx_facts t
  refine funext fun a => Fin.ext ?_
  match a with
  | ⟨0, _⟩ => show win0_9.index t (0 : Fin 2) * 1 + 1 * s.val = s.val; rw [h]; omega
  | ⟨1, _⟩ => show win0_9.index t (1 : Fin 2) * 2816 + 1 * e.val = t.val / 36 * 2816 + e.val; rw [h']; omega

/-- A point's tile of the input's gradient. -/
theorem at_U (c : Dev nD) (t : Fin cfg0.N) (r : Fin 256) (e : Fin 2816) :
    k0_pay15 (k0_pay5 (iblk m c 0 t)) (k0_pay6 (grid0.coords t) (iblk m c 0 t) (iblk m c 1 t))
        (k0_pay9 (k0_pay5 (iblk m c 0 t)) k0_pay7 (k0_pay8 (grid0.coords t) (iblk m c 2 t)) 255#32) (iblk m c 6 t) (ix2 r e)
      = gradU (V m c main_arg0) (V m c main_arg2) (ix2 (rowOf (rowPt t) r) (grp (colPart t) e)) :=
  tile_U (V m c main_arg0) (V m c main_arg2) (grid0.coords t) (rowPt t) (colPart t) (coord_eq t) (iblk m c 0 t) (iblk m c 1 t) (iblk m c 2 t) (iblk m c 6 t)
    (fun r e => congrArg (V m c main_arg0) (emb0 t r e)) (fun a e ha => congrArg (V m c main_arg0) (emb1 t a e ha))
    (fun a e ha => congrArg (V m c main_arg0) (emb2 t a e ha)) (fun s e => congrArg (V m c main_arg2) (emb6 t s e)) r e

/-- A point's part of the taps' gradient, added to what came before. -/
theorem at_T (c : Dev nD) (t : Fin cfg0.N) (old : Vec Ideal S8x2816 .f32) (s : Fin 8) (e : Fin 2816) :
    k0_pay3 (k0_pay16 (k0_pay5 (iblk m c 0 t)) (k0_pay10 (iblk m c 3 t)) (k0_pay11 (BitVec.ofNat 32 (grid0.coords t 1).val) (iblk m c 3 t) (iblk m c 4 t)))
        k0_pay17 (Scalar.ofBits .f32 0x00000000#32) (k0_pay18 (k0_pay5 (iblk m c 0 t)) (k0_pay10 (iblk m c 3 t)) k0_pay12 (k0_pay13 (iblk m c 5 t))
          (k0_pay14 (BitVec.ofNat 32 (grid0.coords t 1).val))) old (ix2 s e)
      = (old (ix2 s e) + part (V m c main_arg0) (V m c main_arg1) s (grp (colPart t) e) (rowPt t) : EReal) :=
  tile_T (V m c main_arg0) (V m c main_arg1) (grid0.coords t) (rowPt t) (colPart t) (coord_eq t) (iblk m c 0 t) (iblk m c 3 t) (iblk m c 4 t) (iblk m c 5 t)
    (fun r e => congrArg (V m c main_arg0) (emb0 t r e)) (fun r e => congrArg (V m c main_arg1) (emb3 t r e))
    (fun a e ha => congrArg (V m c main_arg1) (emb4 t a e ha)) (fun a e ha => congrArg (V m c main_arg1) (emb5 t a e ha)) old s e

/-- A tile's part of the shift's gradient. -/
def partS (g : Vec Ideal S9216x5632 .bf16) (e : Fin 5632) (t : Fin 36) : EReal := ∑ r : Fin 256, g (ix2 (rowOf t r) e)

theorem at_S (c : Dev nD) (t : Fin cfg0.N) (old : Vec Ideal S1x2816 .f32) (s : Fin 1) (e : Fin 2816) :
    k0_pay4 (k0_pay5 (iblk m c 0 t)) old (ix2 s e) = (old (ix2 s e) + partS (V m c main_arg0) (grp (colPart t) e) (rowPt t) : EReal) :=
  tile_S (V m c main_arg0) (rowPt t) (colPart t) (iblk m c 0 t) (fun r e => congrArg (V m c main_arg0) (emb0 t r e)) old s e

theorem outs7 (c : Dev nD) (t : Fin cfg0.N) (r : Fin 256) (e : Fin 2816) :
    (outsAt0 m c t.val t.isLt).1 (ix2 r e) = gradU (V m c main_arg0) (V m c main_arg2) (ix2 (rowOf (rowPt t) r) (grp (colPart t) e)) := by
  by_cases h : t.val % 36 = 0
  · rw [outsAt0_A m c t h]
    dsimp only
    rw [outA7_eq]
    exact at_U m c t r e
  · rw [outsAt0_B m c t h]
    dsimp only
    rw [outB7_eq]
    exact at_U m c t r e

/-- The first point of a group of columns starts from zero. -/
theorem start8 (c : Dev nD) (t : Fin cfg0.N) (h : t.val % 36 = 0) (s : Fin 8) (e : Fin 2816) :
    (outsAt0 m c t.val t.isLt).2.1 (ix2 s e) = (part (V m c main_arg0) (V m c main_arg1) s (grp (colPart t) e) (rowPt t) : EReal) := by
  rw [outsAt0_A m c t h]
  dsimp only
  rw [outA8_eq]
  refine (at_T m c t _ s e).trans ((congrArg (fun a : EReal => a + part (V m c main_arg0) (V m c main_arg1) s (grp (colPart t) e) (rowPt t)) (pay1_at s e)).trans (zero_add _))

/-- A later point adds its part. -/
theorem step8 (c : Dev nD) (t : Fin cfg0.N) (h : ¬t.val % 36 = 0) (s : Fin 8) (e : Fin 2816) :
    (outsAt0 m c t.val t.isLt).2.1 (ix2 s e)
      = ((outsAt0 m c (t.val - 1) (Nat.lt_of_le_of_lt (Nat.sub_le _ _) t.isLt)).2.1 (ix2 s e) + part (V m c main_arg0) (V m c main_arg1) s (grp (colPart t) e) (rowPt t) : EReal) := by
  rw [outsAt0_B m c t h]
  dsimp only
  rw [outB8_eq]
  exact at_T m c t _ s e

def partTN (c : Dev nD) (q : Fin 2) (s : Fin 8) (e : Fin 2816) (j : ℕ) : EReal := if h : j < 36 then part (V m c main_arg0) (V m c main_arg1) s (grp q e) ⟨j, h⟩ else 0

theorem acc8 (c : Dev nD) (q : Fin 2) (s : Fin 8) (e : Fin 2816) (j : ℕ) (hj : j < 36) (hn : q.val * 36 + j < cfg0.N) :
    (outsAt0 m c (q.val * 36 + j) hn).2.1 (ix2 s e) = (∑ k ∈ Finset.range (j + 1), partTN m c q s e k : EReal) := by
  have hq : colPart ⟨q.val * 36 + j, hn⟩ = q := Fin.ext (show (q.val * 36 + j) / 36 = q.val by omega)
  have hr : rowPt ⟨q.val * 36 + j, hn⟩ = ⟨j, hj⟩ := Fin.ext (show (q.val * 36 + j) % 36 = j by omega)
  induction j with
  | zero =>
    rw [zero_add, Finset.sum_range_one]
    refine (start8 m c ⟨q.val * 36 + 0, hn⟩ (show (q.val * 36 + 0) % 36 = 0 by omega) s e).trans ?_
    unfold partTN
    rw [hq, hr, dif_pos hj]
  | succ j ih =>
    have hp : q.val * 36 + j < cfg0.N := lt_of_le_of_lt (by omega) hn
    rw [Finset.sum_range_succ, ← ih (by omega) hp (Fin.ext (show (q.val * 36 + j) / 36 = q.val by omega)) (Fin.ext (show (q.val * 36 + j) % 36 = j by omega))]
    refine (step8 m c ⟨q.val * 36 + (j + 1), hn⟩ (show ¬(q.val * 36 + (j + 1)) % 36 = 0 by omega) s e).trans (congrArg (fun b : EReal => _ + b) ?_)
    unfold partTN
    rw [hq, hr, dif_pos hj]

theorem outs8 (c : Dev nD) (t : Fin cfg0.N) (h : t.val % 36 = 35) (s : Fin 8) (e : Fin 2816) :
    (outsAt0 m c t.val t.isLt).2.1 (ix2 s e) = gradT (V m c main_arg0) (V m c main_arg1) (ix2 s (grp (colPart t) e)) := by
  have ht : t.val = (colPart t).val * 36 + 35 := show t.val = t.val / 36 * 36 + 35 by omega
  have hb : (colPart t).val * 36 + 35 < cfg0.N := ht ▸ t.isLt
  have e1 : (outsAt0 m c t.val t.isLt) = outsAt0 m c ((colPart t).val * 36 + 35) hb := by congr 1
  refine (congrArg (fun p => p.2.1 (ix2 s e)) e1).trans ((acc8 m c (colPart t) s e 35 (by omega) hb).trans ?_)
  rw [Finset.sum_range]
  refine (Finset.sum_congr rfl fun j _ => dif_pos j.isLt).trans ?_
  exact sum_tiles (fun a => tap (V m c main_arg0) (V m c main_arg1) s (grp (colPart t) e) a)

/-- The first point of a group of columns starts from zero. -/
theorem start9 (c : Dev nD) (t : Fin cfg0.N) (h : t.val % 36 = 0) (s : Fin 1) (e : Fin 2816) :
    (outsAt0 m c t.val t.isLt).2.2 (ix2 s e) = (partS (V m c main_arg0) (grp (colPart t) e) (rowPt t) : EReal) := by
  rw [outsAt0_A m c t h]
  dsimp only
  rw [outA9_eq]
  refine (at_S m c t _ s e).trans ((congrArg (fun a : EReal => a + partS (V m c main_arg0) (grp (colPart t) e) (rowPt t)) (pay2_at s e)).trans (zero_add _))

/-- A later point adds its part. -/
theorem step9 (c : Dev nD) (t : Fin cfg0.N) (h : ¬t.val % 36 = 0) (s : Fin 1) (e : Fin 2816) :
    (outsAt0 m c t.val t.isLt).2.2 (ix2 s e)
      = ((outsAt0 m c (t.val - 1) (Nat.lt_of_le_of_lt (Nat.sub_le _ _) t.isLt)).2.2 (ix2 s e) + partS (V m c main_arg0) (grp (colPart t) e) (rowPt t) : EReal) := by
  rw [outsAt0_B m c t h]
  dsimp only
  rw [outB9_eq]
  exact at_S m c t _ s e

def partSN (c : Dev nD) (q : Fin 2) (s : Fin 1) (e : Fin 2816) (j : ℕ) : EReal := if h : j < 36 then partS (V m c main_arg0) (grp q e) ⟨j, h⟩ else 0

theorem acc9 (c : Dev nD) (q : Fin 2) (s : Fin 1) (e : Fin 2816) (j : ℕ) (hj : j < 36) (hn : q.val * 36 + j < cfg0.N) :
    (outsAt0 m c (q.val * 36 + j) hn).2.2 (ix2 s e) = (∑ k ∈ Finset.range (j + 1), partSN m c q s e k : EReal) := by
  have hq : colPart ⟨q.val * 36 + j, hn⟩ = q := Fin.ext (show (q.val * 36 + j) / 36 = q.val by omega)
  have hr : rowPt ⟨q.val * 36 + j, hn⟩ = ⟨j, hj⟩ := Fin.ext (show (q.val * 36 + j) % 36 = j by omega)
  induction j with
  | zero =>
    rw [zero_add, Finset.sum_range_one]
    refine (start9 m c ⟨q.val * 36 + 0, hn⟩ (show (q.val * 36 + 0) % 36 = 0 by omega) s e).trans ?_
    unfold partSN
    rw [hq, hr, dif_pos hj]
  | succ j ih =>
    have hp : q.val * 36 + j < cfg0.N := lt_of_le_of_lt (by omega) hn
    rw [Finset.sum_range_succ, ← ih (by omega) hp (Fin.ext (show (q.val * 36 + j) / 36 = q.val by omega)) (Fin.ext (show (q.val * 36 + j) % 36 = j by omega))]
    refine (step9 m c ⟨q.val * 36 + (j + 1), hn⟩ (show ¬(q.val * 36 + (j + 1)) % 36 = 0 by omega) s e).trans (congrArg (fun b : EReal => _ + b) ?_)
    unfold partSN
    rw [hq, hr, dif_pos hj]

theorem outs9 (c : Dev nD) (t : Fin cfg0.N) (h : t.val % 36 = 35) (s : Fin 1) (e : Fin 2816) :
    (outsAt0 m c t.val t.isLt).2.2 (ix2 s e) = gradS (V m c main_arg0) (ix2 s (grp (colPart t) e)) := by
  have ht : t.val = (colPart t).val * 36 + 35 := show t.val = t.val / 36 * 36 + 35 by omega
  have hb : (colPart t).val * 36 + 35 < cfg0.N := ht ▸ t.isLt
  have e1 : (outsAt0 m c t.val t.isLt) = outsAt0 m c ((colPart t).val * 36 + 35) hb := by congr 1
  refine (congrArg (fun p => p.2.2 (ix2 s e)) e1).trans ((acc9 m c (colPart t) s e 35 (by omega) hb).trans ?_)
  rw [Finset.sum_range]
  refine (Finset.sum_congr rfl fun j _ => dif_pos j.isLt).trans ?_
  exact sum_tiles (fun a => (V m c main_arg0) (ix2 a (grp (colPart t) e)))

theorem flushed_7 (c : Dev nD) (t : Fin cfg0.N) (p : Vec Ideal S256x2816 .bf16) (h : (dats m 0 c).after 7 t = p) :
    (dats m 0 c).flushed 7 t = p := by
  show (cfg0.win 7).cut (grid0.coords t) ((dats m 0 c).after 7 t) = _
  rw [h]
  rfl

theorem read_7 (t : Fin cfg0.N) (p : Vec Ideal S256x2816 .bf16) (G : Vec Ideal S9216x5632 .bf16)
    (h : ∀ (r : Fin 256) (e : Fin 2816), p (ix2 r e) = G (ix2 (rowOf (rowPt t) r) (grp (colPart t) e))) :
    p = ((cfg0.win 7).blk t).view.read (Elt Ideal) G := by
  refine funext fun y => ?_
  obtain ⟨r, e, rfl⟩ : ∃ (r : Fin 256) (e : Fin 2816), y = ix2 r e := ⟨y 0, y 1, eq_ix2 y⟩
  exact (h r e).trans (congrArg G (emb7 t r e).symm)

theorem written7 (c : Dev nD) (t : Fin cfg0.N) :
    (dats m 0 c).flushed 7 t = ((cfg0.win 7).blk t).view.read (Elt Ideal) (gradU (V m c main_arg0) (V m c main_arg2)) :=
  (flushed_7 m c t _ (after0_7 m c t)).trans (read_7 t _ (gradU (V m c main_arg0) (V m c main_arg2)) (outs7 m c t))

theorem flushed_8 (c : Dev nD) (t : Fin cfg0.N) (p : Vec Ideal S8x2816 .f32) (h : (dats m 0 c).after 8 t = p) :
    (dats m 0 c).flushed 8 t = p := by
  show (cfg0.win 8).cut (grid0.coords t) ((dats m 0 c).after 8 t) = _
  rw [h]
  rfl

theorem read_8 (t : Fin cfg0.N) (p : Vec Ideal S8x2816 .f32) (G : Vec Ideal S8x5632 .f32)
    (h : ∀ (s : Fin 8) (e : Fin 2816), p (ix2 s e) = G (ix2 s (grp (colPart t) e))) :
    p = ((cfg0.win 8).blk t).view.read (Elt Ideal) G := by
  refine funext fun y => ?_
  obtain ⟨s, e, rfl⟩ : ∃ (s : Fin 8) (e : Fin 2816), y = ix2 s e := ⟨y 0, y 1, eq_ix2 y⟩
  exact (h s e).trans (congrArg G (emb8 t s e).symm)

theorem written8 (c : Dev nD) (t : Fin cfg0.N) (hf : (cfg0.win 8).flush t = true) :
    (dats m 0 c).flushed 8 t = ((cfg0.win 8).blk t).view.read (Elt Ideal) (gradT (V m c main_arg0) (V m c main_arg1)) :=
  (flushed_8 m c t _ (after0_8 m c t)).trans (read_8 t _ (gradT (V m c main_arg0) (V m c main_arg1)) (outs8 m c t ((flush0_8 t).mp hf)))

theorem flushed_9 (c : Dev nD) (t : Fin cfg0.N) (p : Vec Ideal S1x2816 .f32) (h : (dats m 0 c).after 9 t = p) :
    (dats m 0 c).flushed 9 t = p := by
  show (cfg0.win 9).cut (grid0.coords t) ((dats m 0 c).after 9 t) = _
  rw [h]
  rfl

theorem read_9 (t : Fin cfg0.N) (p : Vec Ideal S1x2816 .f32) (G : Vec Ideal S1x5632 .f32)
    (h : ∀ (s : Fin 1) (e : Fin 2816), p (ix2 s e) = G (ix2 s (grp (colPart t) e))) :
    p = ((cfg0.win 9).blk t).view.read (Elt Ideal) G := by
  refine funext fun y => ?_
  obtain ⟨s, e, rfl⟩ : ∃ (s : Fin 1) (e : Fin 2816), y = ix2 s e := ⟨y 0, y 1, eq_ix2 y⟩
  exact (h s e).trans (congrArg G (emb9 t s e).symm)

theorem written9 (c : Dev nD) (t : Fin cfg0.N) (hf : (cfg0.win 9).flush t = true) :
    (dats m 0 c).flushed 9 t = ((cfg0.win 9).blk t).view.read (Elt Ideal) (gradS (V m c main_arg0)) :=
  (flushed_9 m c t _ (after0_9 m c t)).trans (read_9 t _ (gradS (V m c main_arg0)) (outs9 m c t ((flush0_9 t).mp hf)))

/-- The point of a tile and a group of columns. -/
def ptOf (j : Fin 36) (q : Fin 2) : Fin cfg0.N := ⟨q.val * 36 + j.val, lt_of_lt_of_eq (by omega : q.val * 36 + j.val < 72) (show 72 = cfg0.N from N_0.symm)⟩

theorem rowPt_ptOf (j : Fin 36) (q : Fin 2) : rowPt (ptOf j q) = j := Fin.ext (show (q.val * 36 + j.val) % 36 = j.val by omega)

theorem colPart_ptOf (j : Fin 36) (q : Fin 2) : colPart (ptOf j q) = q := Fin.ext (show (q.val * 36 + j.val) / 36 = q.val by omega)

theorem grp_split (e : Fin 5632) : grp ⟨e.val / 2816, by omega⟩ ⟨e.val % 2816, by omega⟩ = e :=
  Fin.ext (show e.val / 2816 * 2816 + e.val % 2816 = e.val by omega)

theorem mem7 (i : S9216x5632.Idx) : ∃ t : Fin cfg0.N, (cfg0.win 7).flush t = true ∧ i ∈ ((cfg0.win 7).blk t).view.set := by
  obtain ⟨a, e, rfl⟩ : ∃ (a : Fin 9216) (e : Fin 5632), i = ix2 a e := ⟨i 0, i 1, eq_ix2 i⟩
  have h := ((cfg0.win 7).blk (ptOf (tileOf a) ⟨e.val / 2816, by omega⟩)).view.emb_mem_set (ix2 (⟨a.val % 256, by omega⟩ : Fin 256) (⟨e.val % 2816, by omega⟩ : Fin 2816))
  rw [emb7, rowPt_ptOf, colPart_ptOf, grp_split, show rowOf (tileOf a) ⟨a.val % 256, by omega⟩ = a from Fin.ext (show a.val / 256 * 256 + a.val % 256 = a.val by omega)] at h
  exact ⟨_, flush0_7 _, h⟩

theorem mem8 (i : S8x5632.Idx) : ∃ t : Fin cfg0.N, (cfg0.win 8).flush t = true ∧ i ∈ ((cfg0.win 8).blk t).view.set := by
  obtain ⟨s, e, rfl⟩ : ∃ (s : Fin 8) (e : Fin 5632), i = ix2 s e := ⟨i 0, i 1, eq_ix2 i⟩
  have h := ((cfg0.win 8).blk (ptOf 35 ⟨e.val / 2816, by omega⟩)).view.emb_mem_set (ix2 s (⟨e.val % 2816, by omega⟩ : Fin 2816))
  rw [emb8, colPart_ptOf, grp_split] at h
  exact ⟨_, (flush0_8 _).mpr (show (e.val / 2816 * 36 + 35) % 36 = 35 by omega), h⟩

theorem mem9 (i : S1x5632.Idx) : ∃ t : Fin cfg0.N, (cfg0.win 9).flush t = true ∧ i ∈ ((cfg0.win 9).blk t).view.set := by
  obtain ⟨s, e, rfl⟩ : ∃ (s : Fin 1) (e : Fin 5632), i = ix2 s e := ⟨i 0, i 1, eq_ix2 i⟩
  have h := ((cfg0.win 9).blk (ptOf 35 ⟨e.val / 2816, by omega⟩)).view.emb_mem_set (ix2 s (⟨e.val % 2816, by omega⟩ : Fin 2816))
  rw [emb9, colPart_ptOf, grp_split] at h
  exact ⟨_, (flush0_9 _).mpr (show (e.val / 2816 * 36 + 35) % 36 = 35 by omega), h⟩

/-- The call ends with its results at these functions of its arguments, and the arguments unchanged. -/
theorem run : θ_run defs (onTc (τ := τ) (main (F := Ideal))) ⟨m, fun _ => 0, ρ⟩ fun r => ∀ c : Dev nD,
      r.2.mem ((c : Thread nD τ).loc main_v0_0) = gradU (m ((c : Thread nD τ).loc main_arg0)) (m ((c : Thread nD τ).loc main_arg2))
      ∧ r.2.mem ((c : Thread nD τ).loc main_v0_1) = gradT (m ((c : Thread nD τ).loc main_arg0)) (m ((c : Thread nD τ).loc main_arg1))
      ∧ r.2.mem ((c : Thread nD τ).loc main_v0_2) = gradS (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run_blocks m ρ)
  obtain ⟨h7, h8, h9, hk⟩ := h c
  refine ⟨h7.trans ?_, h8.trans ?_, h9.trans ?_, hk⟩
  · rw [(dats m 0 c).arrAt_eq_of_cover 7 _ (fun t _ => written7 m c t) mem7, V_main_arg0, V_main_arg2]
  · rw [(dats m 0 c).arrAt_eq_of_cover 8 _ (fun t hf => written8 m c t hf) mem8, V_main_arg0, V_main_arg1]
  · rw [(dats m 0 c).arrAt_eq_of_cover 9 _ (fun t hf => written9 m c t hf) mem9, V_main_arg0]

/-- With equal arguments the call and its reference end with equal results. -/
theorem meets : Cert.algebraic_ConvGradIdeal_ConvGradRefIdeal := fun m g m' g' _ hw =>
  ⟨fun c => gradU (m ((c : Thread nD τ).loc main_arg0)) (m ((c : Thread nD τ).loc main_arg2)),
    fun c => gradT (m ((c : Thread nD τ).loc main_arg0)) (m ((c : Thread nD τ).loc main_arg1)),
    fun c => gradS (m ((c : Thread nD τ).loc main_arg0)),
    run m g,
    (θ_run Cert.ConvGradRefIdeal.defs _ _).mono (fun r h c => by
      obtain ⟨h0, h1, h2, hk⟩ := h c
      obtain ⟨e0, e1, e2⟩ := hw c
      refine ⟨h0.trans ?_, h1.trans ?_, h2.trans ?_, hk⟩
      · refine (host_gradU (m' ((c.tc : Thread Cert.ConvGradRefIdeal.nD Cert.ConvGradRefIdeal.τ).loc Cert.ConvGradRefIdeal.main_arg0)) (m' ((c.tc : Thread Cert.ConvGradRefIdeal.nD Cert.ConvGradRefIdeal.τ).loc Cert.ConvGradRefIdeal.main_arg2))).trans ?_
        rw [e0, e2]
      · refine (host_gradT (m' ((c.tc : Thread Cert.ConvGradRefIdeal.nD Cert.ConvGradRefIdeal.τ).loc Cert.ConvGradRefIdeal.main_arg0)) (m' ((c.tc : Thread Cert.ConvGradRefIdeal.nD Cert.ConvGradRefIdeal.τ).loc Cert.ConvGradRefIdeal.main_arg1))).trans ?_
        rw [e0, e1]
      · refine (host_gradS (m' ((c.tc : Thread Cert.ConvGradRefIdeal.nD Cert.ConvGradRefIdeal.τ).loc Cert.ConvGradRefIdeal.main_arg0))).trans ?_
        rw [e0])
      (Cert.ConvGradRefIdeal.Value.run (F := Ideal) m' g')⟩

end Cert.ConvBack

end
-- ==== Proof.NormSlope.lean ====
/-
  The gradient of a layer norm of a row of 1024 entries, as a function of the row and of the cotangent, and the two ways it is
  written: over a tile of 256 rows and over the whole stream. Both read, at an entry, as that function of the entry's row.
-/
module

public import proofs.«01_k».proof.Proof.Gen.NormGradIdeal.Skeleton
public import proofs.«01_k».proof.Proof.Gen.NormGradRefIdeal
public import proofs.«01_k».proof.Proof.PostNorm
public import Idealize.ShloMosaic.Lib.Pointwise.Reduce
public import Idealize.ShloMosaic.Lib.Pointwise

@[expose] public section

set_option maxRecDepth 16384

noncomputable section

namespace Cert.NormSlope

open Cert.NormGradIdeal Cert.NormGradIdeal.Gen Idealize.ShloMosaic

open Cert.DxProj (rowOf tileOf tile_row row_tile tiled tiled_at rows_at)
open Cert.PostNorm

/-- A row's variance with the number added to it. -/
def spreadOf (z : Fin 1024 → EReal) : EReal := mean (fun k => dev z k * dev z k) + eps

/-- The factor that the root's derivative brings. -/
def half : EReal := Ideal.ofBits .f32 0xBF000000#32

/-- The cotangent of the row's variance, over the row's length. -/
def wgt (z p : Fin 1024 → EReal) : EReal :=
  Ideal.div ((∑ k, dev z k * p k) * (half * Ideal.div (scale z) (spreadOf z))) (Ideal.ofBits .f32 0x44800000#32)

/-- The cotangent of an entry's distance from the mean. -/
def mid (z p : Fin 1024 → EReal) (d : Fin 1024) : EReal := p d * scale z + wgt z p * (2 * dev z d)

/-- The cotangent of an entry. -/
def slope (z p : Fin 1024 → EReal) (d : Fin 1024) : EReal :=
  mid z p d + Ideal.div (∑ k, -(mid z p k)) (Ideal.ofBits .f32 0x44800000#32)

/-- A number added to itself is its double. -/
theorem double (x : EReal) : x + x = 2 * x := by
  have h2 : (2 : EReal) = ((2 : ℝ) : EReal) := rfl
  induction x with
  | bot => rw [h2, EReal.coe_mul_bot_of_pos (by norm_num)]; rfl
  | top => rw [h2, EReal.coe_mul_top_of_pos (by norm_num)]; rfl
  | coe x => rw [h2, ← EReal.coe_add, ← EReal.coe_mul, two_mul]

theorem two_real : Ideal.ofBits .f32 0x40000000#32 = ((2 : ℝ) : EReal) := by
  simp [Ideal.ofBits, Ideal.ieee, -EReal.coe_mul]; norm_num

theorem two_eq : Ideal.ofBits .f32 0x40000000#32 = (2 : EReal) := two_real.trans rfl

/-- The two products of the square's derivative are the doubled one. -/
theorem both_sides (a v w : EReal) : a + v * w + w * v = a + w * (2 * v) := by
  rw [add_assoc, mul_comm v w, double, mul_left_comm]

/-! ## Over a tile -/

abbrev resK (x y : Vec Ideal S256x1024 .f32) (md : Vec Ideal S1x8x1024 .f32) : Vec Ideal S256x1024 .f32 :=
  addf (F := Ideal) (φ := .f32) (mulf (F := Ideal) (φ := .f32) (broadcast S256x1024 (Scalar.ofBits (F := Ideal) .f32 0x3FD744FD#32)) x)
    (mulf (F := Ideal) (φ := .f32) (broadcastTo S256x1024 (k0_pay6 md) Facts₀.broadcasts_S1x1024_S256x1024) y)

theorem row5_at (md : Vec Ideal S1x8x1024 .f32) (u : Fin 1) (d : Fin 1024) : k0_pay6 md (ix2 u d) = md (ix3 0 5 d) := by
  pointwise [k0_pay6]

theorem resK_at (x y : Vec Ideal S256x1024 .f32) (md : Vec Ideal S1x8x1024 .f32) (r : Fin 256) (d : Fin 1024) :
    resK x y md (ix2 r d) = (alpha * x (ix2 r d) + md (ix3 0 5 d) * y (ix2 r d) : EReal) :=
  congrArg (fun a : EReal => alpha * x (ix2 r d) + a * y (ix2 r d)) ((par_at _ r d).trans (row5_at md 0 d))

theorem pay7_def (x y : Vec Ideal S256x1024 .f32) (md : Vec Ideal S1x8x1024 .f32) : k0_pay7 x y md = devK (resK x y md) := rfl

theorem pay8_def (x y : Vec Ideal S256x1024 .f32) (md : Vec Ideal S1x8x1024 .f32) : k0_pay8 x y md
    = addf (F := Ideal) (φ := .f32) (meanK (mulf (F := Ideal) (φ := .f32) (devK (resK x y md)) (devK (resK x y md))))
      (broadcast S256x1 (Scalar.ofBits (F := Ideal) .f32 0x358637BD#32)) := rfl

theorem pay9_def (x y : Vec Ideal S256x1024 .f32) (md : Vec Ideal S1x8x1024 .f32) : k0_pay9 x y md = scaleK (resK x y md) := rfl

theorem pay8_at (x y : Vec Ideal S256x1024 .f32) (md : Vec Ideal S1x8x1024 .f32) (r : Fin 256) (u : Fin 1) :
    k0_pay8 x y md (ix2 r u) = (spreadOf fun k => resK x y md (ix2 r k) : EReal) := by
  rw [pay8_def]
  refine congrArg (fun a : EReal => a + eps) ((meanK_at _ r u).trans (congrArg mean (funext fun k => ?_)))
  exact congrArg₂ (fun a b : EReal => a * b) (devK_at _ r k) (devK_at _ r k)

theorem pay10_at (x y : Vec Ideal S256x1024 .f32) (md : Vec Ideal S1x8x1024 .f32) (r : Fin 256) (u : Fin 1) :
    k0_pay10 x y md (ix2 r u) = (half * Ideal.div (scale fun k => resK x y md (ix2 r k)) (spreadOf fun k => resK x y md (ix2 r k)) : EReal) := by
  unfold k0_pay10
  exact congrArg₂ (fun a b : EReal => half * Ideal.div a b) (scaleK_at (resK x y md) r u) (pay8_at x y md r u)

theorem pay14_at (g : Vec Ideal S1x1024 .f32) (p : Vec Ideal S256x1024 .f32) (r : Fin 256) (d : Fin 1024) :
    k0_pay14 g p (ix2 r d) = (p (ix2 r d) * g (ix2 0 d) : EReal) := by
  pointwise [k0_pay14, k0_pay11]

abbrev oneK (x : Vec Ideal S256x1 .f32) : Vec Ideal S256x1 .f32 :=
  shapeCast S256x1 (multiReduction (F := Ideal) (φ := .f32) .add [1] S256 x 0x00000000#32 Facts₀.reduces_S256x1_S256 (.inl rfl) rfl)
    Facts₀.shapeCasts_S256_S256x1

theorem oneK_at (x : Vec Ideal S256x1 .f32) (r : Fin 256) (u : Fin 1) : oneK x (ix2 r u) = x (ix2 r 0) := by
  pointwise
  exact Fin.sum_univ_one fun k : Fin 1 => (x (ix2 r k) : EReal)

abbrev wgtK (v : Vec Ideal S256x1024 .f32) (h : Vec Ideal S256x1 .f32) (p : Vec Ideal S256x1024 .f32) : Vec Ideal S256x1 .f32 :=
  divf (F := Ideal) (φ := .f32) (mulf (F := Ideal) (φ := .f32) (shapeCast S256x1 (multiReduction (F := Ideal) (φ := .f32) .add [1] S256
    (mulf (F := Ideal) (φ := .f32) v p) 0x00000000#32 Facts₀.reduces_S256x1024_S256 (.inl rfl) rfl) Facts₀.shapeCasts_S256_S256x1) h)
    (broadcast S256x1 (Scalar.ofBits (F := Ideal) .f32 0x44800000#32))

theorem wgtK_at (v : Vec Ideal S256x1024 .f32) (h : Vec Ideal S256x1 .f32) (p : Vec Ideal S256x1024 .f32) (r : Fin 256) (u : Fin 1) :
    wgtK v h p (ix2 r u) = (Ideal.div ((∑ k : Fin 1024, (v (ix2 r k) : EReal) * p (ix2 r k)) * h (ix2 r u)) (Ideal.ofBits .f32 0x44800000#32) : EReal) := by
  pointwise

abbrev midK (v : Vec Ideal S256x1024 .f32) (s h : Vec Ideal S256x1 .f32) (p : Vec Ideal S256x1024 .f32) : Vec Ideal S256x1024 .f32 :=
  addf (F := Ideal) (φ := .f32) (addf (F := Ideal) (φ := .f32)
    (mulf (F := Ideal) (φ := .f32) p (broadcastTo S256x1024 s Facts₀.broadcasts_S256x1_S256x1024))
    (mulf (F := Ideal) (φ := .f32) v (broadcastTo S256x1024 (oneK (wgtK v h p)) Facts₀.broadcasts_S256x1_S256x1024)))
    (mulf (F := Ideal) (φ := .f32) (broadcastTo S256x1024 (oneK (wgtK v h p)) Facts₀.broadcasts_S256x1_S256x1024) v)

theorem pay15_def (v : Vec Ideal S256x1024 .f32) (s h : Vec Ideal S256x1 .f32) (p : Vec Ideal S256x1024 .f32) :
    k0_pay15 (F := Ideal) v s h p = addf (F := Ideal) (φ := .f32) (midK v s h p) (broadcastTo S256x1024 (oneK (meanK (subf (F := Ideal) (φ := .f32)
      (broadcast S256x1024 (Scalar.ofBits (F := Ideal) .f32 0x00000000#32)) (midK v s h p)))) Facts₀.broadcasts_S256x1_S256x1024) := rfl

section Row

variable (v : Vec Ideal S256x1024 .f32) (s h : Vec Ideal S256x1 .f32) (p : Vec Ideal S256x1024 .f32) (r : Fin 256) (z q : Fin 1024 → EReal)
  (hv : ∀ k, v (ix2 r k) = dev z k) (hs : s (ix2 r 0) = scale z) (hh : h (ix2 r 0) = half * Ideal.div (scale z) (spreadOf z))
  (hp : ∀ k, p (ix2 r k) = q k)

include hv hs hh hp

theorem midK_at (d : Fin 1024) : midK v s h p (ix2 r d) = (mid z q d : EReal) := by
  have hw : broadcastTo S256x1024 (oneK (wgtK v h p)) Facts₀.broadcasts_S256x1_S256x1024 (ix2 r d) = (wgt z q : EReal) := by
    refine (spread_at _ r d).trans ((oneK_at _ r 0).trans ((wgtK_at v h p r 0).trans ?_))
    unfold wgt
    rw [hh]
    simp only [hv, hp]
  have hc : broadcastTo S256x1024 s Facts₀.broadcasts_S256x1_S256x1024 (ix2 r d) = (scale z : EReal) := (spread_at s r d).trans hs
  show (p (ix2 r d) * broadcastTo S256x1024 s Facts₀.broadcasts_S256x1_S256x1024 (ix2 r d)
    + v (ix2 r d) * broadcastTo S256x1024 (oneK (wgtK v h p)) Facts₀.broadcasts_S256x1_S256x1024 (ix2 r d)
    + broadcastTo S256x1024 (oneK (wgtK v h p)) Facts₀.broadcasts_S256x1_S256x1024 (ix2 r d) * v (ix2 r d) : EReal) = _
  rw [hw, hc, hv, hp]
  exact both_sides _ _ _

theorem pay15_at (d : Fin 1024) : k0_pay15 (F := Ideal) v s h p (ix2 r d) = (slope z q d : EReal) := by
  rw [pay15_def]
  refine congrArg₂ (fun a b : EReal => a + b) (midK_at v s h p r z q hv hs hh hp d) ((spread_at _ r d).trans ((oneK_at _ r 0).trans ((meanK_at _ r 0).trans ?_)))
  unfold mean
  refine congrArg (fun a : EReal => Ideal.div a (Ideal.ofBits .f32 0x44800000#32)) (Finset.sum_congr rfl fun k _ => ?_)
  have h0 : (Scalar.ofBits (F := Ideal) .f32 0x00000000#32 : EReal) = 0 := by simp
  show (Scalar.ofBits (F := Ideal) .f32 0x00000000#32 - midK v s h p (ix2 r k) : EReal) = _
  rw [h0, midK_at v s h p r z q hv hs hh hp k, zero_sub]

end Row

/-- The row that a tile normalises. -/
def rowK (x y : Vec Ideal S256x1024 .f32) (md : Vec Ideal S1x8x1024 .f32) (r : Fin 256) (k : Fin 1024) : EReal :=
  alpha * x (ix2 r k) + md (ix3 0 5 k) * y (ix2 r k)

theorem rowK_eq (x y : Vec Ideal S256x1024 .f32) (md : Vec Ideal S1x8x1024 .f32) (r : Fin 256) :
    (fun k => (resK x y md (ix2 r k) : EReal)) = rowK x y md r := funext fun k => resK_at x y md r k

/-- A tile's cotangent at an entry. -/
theorem tile_slope (x y : Vec Ideal S256x1024 .f32) (md : Vec Ideal S1x8x1024 .f32) (g : Vec Ideal S1x1024 .f32) (p : Vec Ideal S256x1024 .f32)
    (r : Fin 256) (d : Fin 1024) :
    k0_pay15 (k0_pay7 x y md) (k0_pay9 x y md) (k0_pay10 x y md) (k0_pay14 g p) (ix2 r d)
      = (slope (rowK x y md r) (fun k => p (ix2 r k) * g (ix2 0 k)) d : EReal) := by
  refine pay15_at _ _ _ _ r (rowK x y md r) (fun k => p (ix2 r k) * g (ix2 0 k)) (fun k => ?_) ?_ ?_ (fun k => pay14_at g p r k) d
  · rw [← rowK_eq]; exact devK_at (resK x y md) r k
  · rw [← rowK_eq]; exact scaleK_at (resK x y md) r 0
  · rw [← rowK_eq]; exact pay10_at x y md r 0

section Pays

variable (x y : Vec Ideal S256x1024 .f32) (md : Vec Ideal S1x8x1024 .f32) (g : Vec Ideal S1x1024 .f32) (p v : Vec Ideal S256x1024 .f32)
  (s h : Vec Ideal S256x1 .f32) (old n : Vec Ideal S1x1024 .f32)

theorem pay18_at (r : Fin 256) (d : Fin 1024) : k0_pay18 (F := Ideal) v s h p (ix2 r d) = (alpha * k0_pay15 (F := Ideal) v s h p (ix2 r d) : EReal) := rfl

theorem pay16_at (r : Fin 256) (d : Fin 1024) :
    k0_pay16 (F := Ideal) (k0_pay6 md) v s h p (ix2 r d) = (md (ix3 0 5 d) * k0_pay15 (F := Ideal) v s h p (ix2 r d) : EReal) :=
  congrArg (fun a : EReal => a * k0_pay15 (F := Ideal) v s h p (ix2 r d)) ((par_at _ r d).trans (row5_at md 0 d))

theorem pay17_at (u : Fin 1) (j : Fin 8) (d : Fin 1024) : k0_pay1 (k0_pay17 (F := Ideal) y v s h p) (ix3 u j d)
    = (if j.val = 5 then ∑ r : Fin 256, (k0_pay15 (F := Ideal) v s h p (ix2 r d) : EReal) * y (ix2 r d) else 0 : EReal) := by
  unfold k0_pay17
  generalize k0_pay15 (F := Ideal) v s h p = w
  pointwise [k0_pay1]
  fin_cases j <;> simp

theorem pay12_at (u : Fin 1) (d : Fin 1024) : k0_pay12 p (ix2 u d) = (∑ r : Fin 256, (p (ix2 r d) : EReal) : EReal) := by
  pointwise [k0_pay12]

theorem sumK_at (w q : Vec Ideal S256x1024 .f32) (c : Vec Ideal S256x1 .f32) (u : Fin 1) (d : Fin 1024) :
    shapeCast S1x1024 (multiReduction (F := Ideal) (φ := .f32) .add [0] S1024 (mulf (F := Ideal) (φ := .f32) (mulf (F := Ideal) (φ := .f32) w
      (broadcastTo S256x1024 c Facts₀.broadcasts_S256x1_S256x1024)) (k0_pay11 q)) 0x00000000#32 Facts₀.reduces_S256x1024_S1024 (.inl rfl) rfl)
      Facts₀.shapeCasts_S1024_S1x1024 (ix2 u d) = (∑ r : Fin 256, (w (ix2 r d) : EReal) * c (ix2 r 0) * q (ix2 r d) : EReal) := by
  pointwise [k0_pay11]

theorem pay13_at (u : Fin 1) (d : Fin 1024) : k0_pay13 x y md p (ix2 u d)
    = (∑ r : Fin 256, dev (rowK x y md r) d * scale (rowK x y md r) * p (ix2 r d) : EReal) := by
  unfold k0_pay13
  refine (sumK_at _ p _ u d).trans (Finset.sum_congr rfl fun r _ => ?_)
  rw [← rowK_eq]
  exact congrArg₂ (fun a b : EReal => a * b * p (ix2 r d)) (devK_at (resK x y md) r d) (scaleK_at (resK x y md) r 0)

theorem pay3_at (u : Fin 1) (d : Fin 1024) : k0_pay3 n old (ix2 u d) = (old (ix2 u d) + n (ix2 u d) : EReal) := by
  pointwise [k0_pay3]

theorem pay5_at (u : Fin 1) (d : Fin 1024) : k0_pay5 n old (ix2 u d) = (old (ix2 u d) + n (ix2 u d) : EReal) := by
  pointwise [k0_pay5]

theorem pay2_at (u : Fin 1) (d : Fin 1024) : k0_pay2 (F := Ideal) (ix2 u d) = (0 : EReal) := by
  pointwise [k0_pay2]

theorem pay4_at (u : Fin 1) (d : Fin 1024) : k0_pay4 (F := Ideal) (ix2 u d) = (0 : EReal) := by
  pointwise [k0_pay4]

end Pays

/-! ## Over the stream -/

section Host

open Cert.NormGradRefIdeal (S9216x1 S9216 S_ S36x1x1024 S36x256x1024 S36x1024)
open Cert.NormGradRefIdeal.Facts₀

abbrev oneH (x : Vec Ideal S9216x1 .f32) : Vec Ideal S9216x1024 .f32 :=
  broadcastInDim S9216x1024 ![0] bcast_S9216_S9216x1024_0
    (Host.reduceAdd x (constant (F := Ideal) S_ .f32 0x00000000#32) reducesTo_S9216x1_S9216_d1 h_S_)

theorem oneH_at (x : Vec Ideal S9216x1 .f32) (r : Fin 9216) (d : Fin 1024) : oneH x (ix2 r d) = x (ix2 r 0) := by
  pointwise
  exact Fin.sum_univ_one fun k : Fin 1 => (x (ix2 r k) : EReal)

abbrev sumH (x : Vec Ideal S9216x1024 .f32) : Vec Ideal S9216x1 .f32 :=
  shapeCast S9216x1 (Host.reduceAdd x (constant (F := Ideal) S_ .f32 0x00000000#32) reducesTo_S9216x1024_S9216_d1 h_S_) shapeCasts_S9216_S9216x1

theorem sumH_at (x : Vec Ideal S9216x1024 .f32) (r : Fin 9216) (u : Fin 1) : sumH x (ix2 r u) = (∑ k : Fin 1024, (x (ix2 r k) : EReal) : EReal) := by
  pointwise

abbrev varH (z : Vec Ideal S9216x1024 .f32) : Vec Ideal S9216x1 .f32 :=
  addf (F := Ideal) (φ := .f32) (meanH (mulf (F := Ideal) (φ := .f32) (devH z) (devH z)))
    (broadcastInDim S9216x1 ![] bcast_S_S9216x1 (constant (F := Ideal) S_ .f32 0x358637BD#32))

theorem varH_at (z : Vec Ideal S9216x1024 .f32) (r : Fin 9216) (u : Fin 1) :
    varH z (ix2 r u) = (spreadOf fun k => z (ix2 r k) : EReal) := by
  refine congrArg (fun a : EReal => a + eps) ((meanH_at _ r u).trans (congrArg mean (funext fun k => ?_)))
  exact congrArg₂ (fun a b : EReal => a * b) (devH_at z r k) (devH_at z r k)

abbrev wgtH (z p : Vec Ideal S9216x1024 .f32) : Vec Ideal S9216x1 .f32 :=
  Host.divf (F := Ideal) (φ := .f32) (mulf (F := Ideal) (φ := .f32) (sumH (mulf (F := Ideal) (φ := .f32) (devH z) p))
    (mulf (F := Ideal) (φ := .f32) (broadcastInDim S9216x1 ![] bcast_S_S9216x1 (constant (F := Ideal) S_ .f32 0xBF000000#32))
      (Host.divf (F := Ideal) (φ := .f32) (scaleH z) (varH z))))
    (broadcastInDim S9216x1 ![] bcast_S_S9216x1 (constant (F := Ideal) S_ .f32 0x44800000#32))

theorem wgtH_at (z p : Vec Ideal S9216x1024 .f32) (r : Fin 9216) (u : Fin 1) :
    wgtH z p (ix2 r u) = (wgt (fun k => z (ix2 r k)) (fun k => p (ix2 r k)) : EReal) := by
  unfold wgt
  refine congrArg (fun a : EReal => Ideal.div a (Ideal.ofBits .f32 0x44800000#32)) (congrArg₂ (fun a b : EReal => a * b) ?_
    (congrArg₂ (fun a b : EReal => half * Ideal.div a b) (scaleH_at z r u) (varH_at z r u)))
  exact (sumH_at _ r u).trans (Finset.sum_congr rfl fun k _ => congrArg (fun a : EReal => a * p (ix2 r k)) (devH_at z r k))

abbrev midH (z p : Vec Ideal S9216x1024 .f32) : Vec Ideal S9216x1024 .f32 :=
  addf (F := Ideal) (φ := .f32) (mulf (F := Ideal) (φ := .f32) p (spreadH (scaleH z)))
    (mulf (F := Ideal) (φ := .f32) (oneH (wgtH z p)) (mulf (F := Ideal) (φ := .f32)
      (broadcastInDim S9216x1024 ![] bcast_S_S9216x1024 (constant (F := Ideal) S_ .f32 0x40000000#32)) (devH z)))

theorem midH_at (z p : Vec Ideal S9216x1024 .f32) (r : Fin 9216) (d : Fin 1024) :
    midH z p (ix2 r d) = (mid (fun k => z (ix2 r k)) (fun k => p (ix2 r k)) d : EReal) := by
  unfold mid
  refine congrArg₂ (fun a b : EReal => a + b) (congrArg (fun a : EReal => p (ix2 r d) * a) ((spreadH_at _ r d).trans (scaleH_at z r 0)))
    (congrArg₂ (fun a b : EReal => a * b) ((oneH_at _ r d).trans (wgtH_at z p r 0)) ?_)
  exact congrArg₂ (fun a b : EReal => a * b) two_eq (devH_at z r d)

abbrev slopeH (z p : Vec Ideal S9216x1024 .f32) : Vec Ideal S9216x1024 .f32 :=
  addf (F := Ideal) (φ := .f32) (midH z p) (oneH (Host.divf (F := Ideal) (φ := .f32) (sumH (Host.negf (F := Ideal) (φ := .f32) (midH z p)))
    (broadcastInDim S9216x1 ![] bcast_S_S9216x1 (constant (F := Ideal) S_ .f32 0x44800000#32))))

theorem slopeH_at (z p : Vec Ideal S9216x1024 .f32) (r : Fin 9216) (d : Fin 1024) :
    slopeH z p (ix2 r d) = (slope (fun k => z (ix2 r k)) (fun k => p (ix2 r k)) d : EReal) := by
  unfold slope
  refine congrArg₂ (fun a b : EReal => a + b) (midH_at z p r d) ((oneH_at _ r d).trans ?_)
  refine congrArg (fun a : EReal => Ideal.div a (Ideal.ofBits .f32 0x44800000#32)) ((sumH_at _ r 0).trans (Finset.sum_congr rfl fun k _ => ?_))
  exact congrArg (fun a : EReal => -a) (midH_at z p r k)

/-- The cotangent times the scale. -/
abbrev cotH (p : Vec Ideal S9216x1024 .f32) (g : Vec Ideal S1x1024 .f32) : Vec Ideal S9216x1024 .f32 :=
  mulf (F := Ideal) (φ := .f32) (shapeCast S9216x1024 p shapeCasts_S9216x1024_S9216x1024) (parH g)

theorem cotH_at (p : Vec Ideal S9216x1024 .f32) (g : Vec Ideal S1x1024 .f32) (r : Fin 9216) (d : Fin 1024) :
    cotH p g (ix2 r d) = (p (ix2 r d) * g (ix2 0 d) : EReal) := by
  refine congrArg₂ (fun a b : EReal => a * b) ?_ (parH_at g r d)
  pointwise

theorem mod5_at (md : Vec Ideal S36x8x1024 .f32) (t : Fin 36) (r : Fin 256) (d : Fin 1024) :
    modH 5 md slices_S36x8x1024_S36x1x1024_0_5_0 (ix3 t r d) = md (ix3 t 5 d) := by
  pointwise

/-- Row `a` of the stream that is normalised. -/
def rowH (x y : Vec Ideal S9216x1024 .f32) (md : Vec Ideal S36x8x1024 .f32) (a : Fin 9216) (k : Fin 1024) : EReal :=
  alpha * x (ix2 a k) + md (ix3 (tileOf a) 5 k) * y (ix2 a k)

/-- Row `a` of the cotangent times the scale. -/
def cot (p : Vec Ideal S9216x1024 .f32) (g : Vec Ideal S1x1024 .f32) (a : Fin 9216) (k : Fin 1024) : EReal := p (ix2 a k) * g (ix2 0 k)

abbrev zH (x y : Vec Ideal S9216x1024 .f32) (md : Vec Ideal S36x8x1024 .f32) : Vec Ideal S9216x1024 .f32 :=
  resH x y (modH 5 md slices_S36x8x1024_S36x1x1024_0_5_0)

theorem zH_at (x y : Vec Ideal S9216x1024 .f32) (md : Vec Ideal S36x8x1024 .f32) (a : Fin 9216) (k : Fin 1024) :
    zH x y md (ix2 a k) = (rowH x y md a k : EReal) := by
  have hr := resH_at x y (modH 5 md slices_S36x8x1024_S36x1x1024_0_5_0) (tileOf a) ⟨a.val % 256, by omega⟩ k
  rw [row_tile] at hr
  exact hr.trans (congrArg (fun b : EReal => alpha * x (ix2 a k) + b * y (ix2 a k)) (mod5_at md (tileOf a) _ k))

variable (x y : Vec Ideal S9216x1024 .f32) (md : Vec Ideal S36x8x1024 .f32) (g : Vec Ideal S1x1024 .f32) (p : Vec Ideal S9216x1024 .f32)

theorem stream_slope (a : Fin 9216) (d : Fin 1024) :
    slopeH (zH x y md) (cotH p g) (ix2 a d) = (slope (rowH x y md a) (cot p g a) d : EReal) :=
  (slopeH_at _ _ a d).trans (congrArg₂ (fun z q => slope z q d) (funext fun k => zH_at x y md a k) (funext fun k => cotH_at p g a k))

/-! ## The five results -/

/-- The gradient of the residual's first part. -/
def gradX : Vec Ideal S9216x1024 .f32 := fun i => (alpha * slope (rowH x y md (i 0)) (cot p g (i 0)) (i 1) : EReal)

/-- The gradient of the gated branch. -/
def gradF : Vec Ideal S9216x1024 .f32 := fun i =>
  (md (ix3 (tileOf (i 0)) 5 (i 1)) * slope (rowH x y md (i 0)) (cot p g (i 0)) (i 1) : EReal)

/-- The gradient of the modulation: zero but for the gate's row. -/
def gradM : Vec Ideal S36x8x1024 .f32 := fun j =>
  (if (j 1).val = 5 then ∑ r : Fin 256, slope (rowH x y md (rowOf (j 0) r)) (cot p g (rowOf (j 0) r)) (j 2) * y (ix2 (rowOf (j 0) r) (j 2))
    else 0 : EReal)

/-- The gradient of the norm's scale. -/
def gradG : Vec Ideal S1x1024 .f32 := fun i =>
  (∑ a : Fin 9216, dev (rowH x y md a) (i 1) * scale (rowH x y md a) * p (ix2 a (i 1)) : EReal)

/-- The gradient of the norm's shift. -/
def gradB : Vec Ideal S1x1024 .f32 := fun i => (∑ a : Fin 9216, p (ix2 a (i 1)) : EReal)

theorem host_gradX : shapeCast S9216x1024 (mulf (F := Ideal) (φ := .f32)
      (broadcastInDim S36x256x1024 ![] bcast_S_S36x256x1024 (constant (F := Ideal) S_ .f32 0x3FD744FD#32)) (tiled (slopeH (zH x y md) (cotH p g))))
      shapeCasts_S36x256x1024_S9216x1024 = gradX x y md g p := by
  refine funext fun i => ?_
  obtain ⟨a, d, rfl⟩ : ∃ (a : Fin 9216) (d : Fin 1024), i = ix2 a d := ⟨i 0, i 1, eq_ix2 i⟩
  refine (rows_at _ a d).trans (congrArg (fun b : EReal => alpha * b) ((tiled_at _ _ _ d).trans ?_))
  rw [row_tile]
  exact stream_slope x y md g p a d

theorem host_gradF : shapeCast S9216x1024 (mulf (F := Ideal) (φ := .f32) (modH 5 md slices_S36x8x1024_S36x1x1024_0_5_0)
      (tiled (slopeH (zH x y md) (cotH p g)))) shapeCasts_S36x256x1024_S9216x1024 = gradF x y md g p := by
  refine funext fun i => ?_
  obtain ⟨a, d, rfl⟩ : ∃ (a : Fin 9216) (d : Fin 1024), i = ix2 a d := ⟨i 0, i 1, eq_ix2 i⟩
  refine (rows_at _ a d).trans (congrArg₂ (fun b s : EReal => b * s) (mod5_at md _ _ d) ((tiled_at _ _ _ d).trans ?_))
  rw [row_tile]
  exact stream_slope x y md g p a d

abbrev padH (w : Vec Ideal S36x1x1024 .f32) : Vec Ideal S36x8x1024 .f32 :=
  pad S36x8x1024 ![0, 5, 0] ![0, 2, 0] ![0, 0, 0] w (constant (F := Ideal) S_ .f32 0x00000000#32) pads_S36x1x1024_S36x8x1024_000_520_000 h_S_

theorem padH_at (w : Vec Ideal S36x1x1024 .f32) (t : Fin 36) (j : Fin 8) (d : Fin 1024) :
    padH w (ix3 t j d) = (if j.val = 5 then w (ix3 t 0 d) else 0 : EReal) := by
  pointwise
  fin_cases j <;> simp

abbrev tilesH (w : Vec Ideal S36x256x1024 .f32) : Vec Ideal S36x1x1024 .f32 :=
  shapeCast S36x1x1024 (Host.reduceAdd w (constant (F := Ideal) S_ .f32 0x00000000#32) reducesTo_S36x256x1024_S36x1024_d1 h_S_)
    shapeCasts_S36x1024_S36x1x1024

theorem tilesH_at (w : Vec Ideal S36x256x1024 .f32) (t : Fin 36) (u : Fin 1) (d : Fin 1024) :
    tilesH w (ix3 t u d) = (∑ r : Fin 256, (w (ix3 t r d) : EReal) : EReal) := by
  pointwise

theorem host_gradM : padH (tilesH (mulf (F := Ideal) (φ := .f32) (tiled (slopeH (zH x y md) (cotH p g))) (tiled y))) = gradM x y md g p := by
  refine funext fun i => ?_
  obtain ⟨t, j, d, rfl⟩ : ∃ (t : Fin 36) (j : Fin 8) (d : Fin 1024), i = ix3 t j d := ⟨i 0, i 1, i 2, eq_ix3 i⟩
  refine (padH_at _ t j d).trans (congrArg (fun a : EReal => if j.val = 5 then a else 0) ((tilesH_at _ t 0 d).trans ?_))
  refine Finset.sum_congr rfl fun r _ => congrArg₂ (fun a b : EReal => a * b) ((tiled_at _ t r d).trans ?_) (tiled_at y t r d)
  exact stream_slope x y md g p (rowOf t r) d

abbrev colsH (w : Vec Ideal S9216x1024 .f32) : Vec Ideal S1x1024 .f32 :=
  shapeCast S1x1024 (Host.reduceAdd w (constant (F := Ideal) S_ .f32 0x00000000#32) reducesTo_S9216x1024_S1024_d0 h_S_)
    Cert.NormGradRefIdeal.Facts₀.shapeCasts_S1024_S1x1024

theorem colsH_at (w : Vec Ideal S9216x1024 .f32) (u : Fin 1) (d : Fin 1024) :
    colsH w (ix2 u d) = (∑ a : Fin 9216, (w (ix2 a d) : EReal) : EReal) := by
  pointwise

theorem host_gradG : colsH (mulf (F := Ideal) (φ := .f32) (mulf (F := Ideal) (φ := .f32) (devH (zH x y md)) (spreadH (scaleH (zH x y md))))
      (shapeCast S9216x1024 p shapeCasts_S9216x1024_S9216x1024)) = gradG x y md p := by
  refine funext fun i => ?_
  obtain ⟨u, d, rfl⟩ : ∃ (u : Fin 1) (d : Fin 1024), i = ix2 u d := ⟨i 0, i 1, eq_ix2 i⟩
  refine (colsH_at _ u d).trans (Finset.sum_congr rfl fun a _ => ?_)
  have hz : (fun k => (zH x y md (ix2 a k) : EReal)) = rowH x y md a := funext fun k => zH_at x y md a k
  have hp : (shapeCast S9216x1024 p shapeCasts_S9216x1024_S9216x1024 (ix2 a d) : EReal) = p (ix2 a d) := by pointwise
  refine congrArg₂ (fun b s : EReal => b * s) (congrArg₂ (fun b s : EReal => b * s) ?_ ?_) hp
  · rw [← hz]; exact devH_at _ a d
  · rw [← hz]; exact (spreadH_at _ a d).trans (scaleH_at _ a 0)

theorem host_gradB : colsH p = gradB p := by
  refine funext fun i => ?_
  obtain ⟨u, d, rfl⟩ : ∃ (u : Fin 1) (d : Fin 1024), i = ix2 u d := ⟨i 0, i 1, eq_ix2 i⟩
  exact colsH_at p u d

end Host

end Cert.NormSlope

end
-- ==== Proof.NormBack.lean ====
/-
  The gradient of the feed-forward layer's norm: the layer norm of the residual taken back to the two parts of the residual, the
  gate, and the norm's scale and shift, in 36 tiles of 256 rows. The call and its reference end with the same arrays over the
  extended reals.
-/
module

public import proofs.«01_k».proof.Proof.Gen.NormGradIdeal.Value
public import proofs.«01_k».proof.Proof.NormSlope
public import proofs.«01_k».proof.Proof.InProjGrad
public import proofs.«01_k».proof.Proof.Adam
public import proofs.«01_k».proof.Defs
public import proofs.«01_k».proof.Proof.Gen.NormGradRefIdeal.Run
public import Idealize.ShloMosaic.Lib.Claim

@[expose] public section

set_option maxRecDepth 16384

noncomputable section

namespace Cert.NormBack

open Cert.NormGradIdeal Cert.NormGradIdeal.Gen Cert.NormGradIdeal.Value Idealize.ShloMosaic Idealize.ShloMosaic.TcCoe Idealize.SL.Sem

open Cert.DxProj (hz3 rowOf tileOf tile_row row_tile)
open Cert.Adam (hz)
open Cert.InProjGrad (sum_tiles)
open Cert.PostNorm (alpha dev scale)
open Cert.NormSlope

/-- A tile's part of the scale's gradient. -/
def partG (X Y : Vec Ideal S9216x1024 .f32) (M : Vec Ideal S36x8x1024 .f32) (P : Vec Ideal S9216x1024 .f32) (d : Fin 1024) (t : Fin 36) : EReal :=
  ∑ r : Fin 256, dev (rowH X Y M (rowOf t r)) d * scale (rowH X Y M (rowOf t r)) * P (ix2 (rowOf t r) d)

/-- A tile's part of the shift's gradient. -/
def partB (P : Vec Ideal S9216x1024 .f32) (d : Fin 1024) (t : Fin 36) : EReal := ∑ r : Fin 256, P (ix2 (rowOf t r) d)

section Tile

variable (X Y : Vec Ideal S9216x1024 .f32) (M : Vec Ideal S36x8x1024 .f32) (G : Vec Ideal S1x1024 .f32) (P : Vec Ideal S9216x1024 .f32)
  (t : Fin 36) (x y : Vec Ideal S256x1024 .f32) (md : Vec Ideal S1x8x1024 .f32) (g : Vec Ideal S1x1024 .f32) (p : Vec Ideal S256x1024 .f32)
  (hx : ∀ r k, x (ix2 r k) = X (ix2 (rowOf t r) k)) (hy : ∀ r k, y (ix2 r k) = Y (ix2 (rowOf t r) k))
  (hm : ∀ j k, md (ix3 0 j k) = M (ix3 t j k)) (hg : ∀ k, g (ix2 0 k) = G (ix2 0 k))
  (hp : ∀ r k, p (ix2 r k) = P (ix2 (rowOf t r) k))

include hx hy hm in
theorem row_tile_eq (r : Fin 256) : rowK x y md r = rowH X Y M (rowOf t r) := by
  refine funext fun k => ?_
  unfold rowK rowH
  rw [tile_row, hx, hy, hm]

include hx hy hm hp in
theorem part_G (u : Fin 1) (d : Fin 1024) : k0_pay13 x y md p (ix2 u d) = partG X Y M P d t := by
  refine (pay13_at x y md p u d).trans (Finset.sum_congr rfl fun r _ => ?_)
  rw [row_tile_eq X Y M t x y md hx hy hm r, hp]

include hp in
theorem part_B (u : Fin 1) (d : Fin 1024) : k0_pay12 p (ix2 u d) = partB P d t :=
  (pay12_at p u d).trans (Finset.sum_congr rfl fun r _ => hp r d)

include hx hy hm hg hp

theorem slope_tile (r : Fin 256) (d : Fin 1024) :
    k0_pay15 (k0_pay7 x y md) (k0_pay9 x y md) (k0_pay10 x y md) (k0_pay14 g p) (ix2 r d)
      = (slope (rowH X Y M (rowOf t r)) (cot P G (rowOf t r)) d : EReal) := by
  refine (tile_slope x y md g p r d).trans (congrArg₂ (fun z q => slope z q d) (row_tile_eq X Y M t x y md hx hy hm r) (funext fun k => ?_))
  unfold cot
  rw [hp, hg]

theorem tile_X (r : Fin 256) (d : Fin 1024) :
    k0_pay18 (k0_pay7 x y md) (k0_pay9 x y md) (k0_pay10 x y md) (k0_pay14 g p) (ix2 r d) = gradX X Y M G P (ix2 (rowOf t r) d) :=
  (pay18_at _ _ _ _ r d).trans (congrArg (fun a : EReal => alpha * a) (slope_tile X Y M G P t x y md g p hx hy hm hg hp r d))

theorem tile_F (r : Fin 256) (d : Fin 1024) :
    k0_pay16 (k0_pay6 md) (k0_pay7 x y md) (k0_pay9 x y md) (k0_pay10 x y md) (k0_pay14 g p) (ix2 r d) = gradF X Y M G P (ix2 (rowOf t r) d) := by
  refine (pay16_at md _ _ _ _ r d).trans ?_
  show _ = (M (ix3 (tileOf (rowOf t r)) 5 d) * slope (rowH X Y M (rowOf t r)) (cot P G (rowOf t r)) d : EReal)
  rw [tile_row, hm, slope_tile X Y M G P t x y md g p hx hy hm hg hp r d]

theorem tile_M (u : Fin 1) (j : Fin 8) (d : Fin 1024) :
    k0_pay1 (k0_pay17 y (k0_pay7 x y md) (k0_pay9 x y md) (k0_pay10 x y md) (k0_pay14 g p)) (ix3 u j d) = gradM X Y M G P (ix3 t j d) := by
  refine (pay17_at y _ _ _ _ u j d).trans (congrArg (fun a : EReal => if j.val = 5 then a else 0) (Finset.sum_congr rfl fun r _ => ?_))
  exact congrArg₂ (fun a b : EReal => a * b) (slope_tile X Y M G P t x y md g p hx hy hm hg hp r d) (hy r d)

end Tile

theorem ldX (x : Vec Ideal S256x1024 .f32) (h) : View.ld x (Rect.unit (s := S256x1024) ![0, 0] S256x1024.size h) = x := by rw [View.ld_unit_zero hz]

theorem ldM (x : Vec Ideal S1x8x1024 .f32) (h) : View.ld x (Rect.unit (s := S1x8x1024) ![0, 0, 0] S1x8x1024.size h) = x := by rw [View.ld_unit_zero hz3]

theorem ldG (x : Vec Ideal S1x1024 .f32) (h) : View.ld x (Rect.unit (s := S1x1024) ![0, 0] S1x1024.size h) = x := by rw [View.ld_unit_zero hz]

/-! ## What a point leaves -/

section Outs

variable (x0 x1 : Vec Ideal S256x1024 .f32) (x2 : Vec Ideal S1x8x1024 .f32) (x3 x4 : Vec Ideal S1x1024 .f32) (x5 : Vec Ideal S256x1024 .f32)
  (xo9 xo10 : Vec Ideal S1x1024 .f32)

variable (arg1 : Memref sig .tc .vmem S256x1024 .f32) (harg1 : arg1.IsWhole) (arg2 : Memref sig .tc .vmem S256x1024 .f32) (harg2 :
  arg2.IsWhole) (arg3 : Memref sig .tc .vmem S1x8x1024 .f32) (harg3 : arg3.IsWhole) (arg4 : Memref sig .tc .vmem S1x1024 .f32) (harg4 :
  arg4.IsWhole) (arg5 : Memref sig .tc .vmem S1x1024 .f32) (harg5 : arg5.IsWhole) (arg6 : Memref sig .tc .vmem S256x1024 .f32) (harg6 :
  arg6.IsWhole) (arg7 : Memref sig .tc .vmem S256x1024 .f32) (harg7 : arg7.IsWhole) (arg8 : Memref sig .tc .vmem S256x1024 .f32) (harg8 :
  arg8.IsWhole) (arg9 : Memref sig .tc .vmem S1x8x1024 .f32) (harg9 : arg9.IsWhole) (arg10 : Memref sig .tc .vmem S1x1024 .f32) (harg10 :
  arg10.IsWhole) (arg11 : Memref sig .tc .vmem S1x1024 .f32) (harg11 : arg11.IsWhole)

theorem outA6_eq (c : Dev nD) (i : grid0.Coords) (hc0 : cond0_0 i) (hc1 : cond0_1 i) :
    out0_A_6 c i _ harg1 _ harg2 _ harg3 _ harg4 _ harg5 _ harg6 _ harg7 _ harg8 _ harg9 _ harg10 _ harg11 hc0 hc1 x0 x1 x2 x3 x4 x5 = k0_pay18 (k0_pay7 x0 x1 x2) (k0_pay9 x0 x1 x2) (k0_pay10 x0 x1 x2) (k0_pay14 x3 x5) := by
  unfold out0_A_6
  rw [View.read_writes_eq_canon _ _ _ ?w]
  case w => apply cover0_A_6
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  simp only [View.readAt_eq_ld, Memref.IsWhole.read_unread]
  rw [ldX x0, ldX x1, ldM x2, ldG x3, ldX x5]

theorem outB6_eq (c : Dev nD) (i : grid0.Coords) (hc0 : ¬cond0_0 i) (hc1 : ¬cond0_1 i) :
    out0_B_6 c i _ harg1 _ harg2 _ harg3 _ harg4 _ harg5 _ harg6 _ harg7 _ harg8 _ harg9 _ harg10 _ harg11 hc0 hc1 x0 x1 x2 x3 x4 x5 xo9 xo10 = k0_pay18 (k0_pay7 x0 x1 x2) (k0_pay9 x0 x1 x2) (k0_pay10 x0 x1 x2) (k0_pay14 x3 x5) := by
  unfold out0_B_6
  rw [View.read_writes_eq_canon _ _ _ ?w]
  case w => apply cover0_B_6
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8]
  simp only [View.readAt_eq_ld, Memref.IsWhole.read_unread]
  rw [ldX x0, ldX x1, ldM x2, ldG x3, ldX x5]

theorem outA7_eq (c : Dev nD) (i : grid0.Coords) (hc0 : cond0_0 i) (hc1 : cond0_1 i) :
    out0_A_7 c i _ harg1 _ harg2 _ harg3 _ harg4 _ harg5 _ harg6 _ harg7 _ harg8 _ harg9 _ harg10 _ harg11 hc0 hc1 x0 x1 x2 x3 x4 x5 = k0_pay16 (k0_pay6 x2) (k0_pay7 x0 x1 x2) (k0_pay9 x0 x1 x2) (k0_pay10 x0 x1 x2) (k0_pay14 x3 x5) := by
  unfold out0_A_7
  rw [View.read_writes_eq_canon _ _ _ ?w]
  case w => apply cover0_A_7
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  simp only [View.readAt_eq_ld, Memref.IsWhole.read_unread]
  rw [ldX x0, ldX x1, ldM x2, ldG x3, ldX x5]

theorem outB7_eq (c : Dev nD) (i : grid0.Coords) (hc0 : ¬cond0_0 i) (hc1 : ¬cond0_1 i) :
    out0_B_7 c i _ harg1 _ harg2 _ harg3 _ harg4 _ harg5 _ harg6 _ harg7 _ harg8 _ harg9 _ harg10 _ harg11 hc0 hc1 x0 x1 x2 x3 x4 x5 xo9 xo10 = k0_pay16 (k0_pay6 x2) (k0_pay7 x0 x1 x2) (k0_pay9 x0 x1 x2) (k0_pay10 x0 x1 x2) (k0_pay14 x3 x5) := by
  unfold out0_B_7
  rw [View.read_writes_eq_canon _ _ _ ?w]
  case w => apply cover0_B_7
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8]
  simp only [View.readAt_eq_ld, Memref.IsWhole.read_unread]
  rw [ldX x0, ldX x1, ldM x2, ldG x3, ldX x5]

theorem outA8_eq (c : Dev nD) (i : grid0.Coords) (hc0 : cond0_0 i) (hc1 : cond0_1 i) :
    out0_A_8 c i _ harg1 _ harg2 _ harg3 _ harg4 _ harg5 _ harg6 _ harg7 _ harg8 _ harg9 _ harg10 _ harg11 hc0 hc1 x0 x1 x2 x3 x4 x5 = k0_pay1 (k0_pay17 x1 (k0_pay7 x0 x1 x2) (k0_pay9 x0 x1 x2) (k0_pay10 x0 x1 x2) (k0_pay14 x3 x5)) := by
  unfold out0_A_8
  rw [View.read_writes_eq_canon _ _ _ ?w]
  case w => apply cover0_A_8
  unfold kernelRun0_A
  dsimp only
  rw [View.canon_unit_zero hz3]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  simp only [View.readAt_eq_ld, Memref.IsWhole.read_unread]
  rw [ldX x0, ldX x1, ldM x2, ldG x3, ldX x5]

theorem outB8_eq (c : Dev nD) (i : grid0.Coords) (hc0 : ¬cond0_0 i) (hc1 : ¬cond0_1 i) :
    out0_B_8 c i _ harg1 _ harg2 _ harg3 _ harg4 _ harg5 _ harg6 _ harg7 _ harg8 _ harg9 _ harg10 _ harg11 hc0 hc1 x0 x1 x2 x3 x4 x5 xo9 xo10 = k0_pay1 (k0_pay17 x1 (k0_pay7 x0 x1 x2) (k0_pay9 x0 x1 x2) (k0_pay10 x0 x1 x2) (k0_pay14 x3 x5)) := by
  unfold out0_B_8
  rw [View.read_writes_eq_canon _ _ _ ?w]
  case w => apply cover0_B_8
  unfold kernelRun0_B
  dsimp only
  rw [View.canon_unit_zero hz3]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8]
  simp only [View.readAt_eq_ld, Memref.IsWhole.read_unread]
  rw [ldX x0, ldX x1, ldM x2, ldG x3, ldX x5]

theorem outA9_eq (c : Dev nD) (i : grid0.Coords) (hc0 : cond0_0 i) (hc1 : cond0_1 i) :
    out0_A_9 c i _ harg1 _ harg2 _ harg3 _ harg4 _ harg5 _ harg6 _ harg7 _ harg8 _ harg9 _ harg10 _ harg11 hc0 hc1 x0 x1 x2 x3 x4 x5 = k0_pay3 (k0_pay13 x0 x1 x2 x5) (k0_pay2 (F := Ideal)) := by
  unfold out0_A_9
  rw [View.read_writes_eq_canon _ _ _ ?w]
  case w => apply cover0_A_9
  unfold kernelRun0_A
  dsimp only
  rw [View.canon_cons_unit_zero (S := S1x1024) hz]
  unfold kernelRun0_A.sl.v83 kernelRun0_A.sl.H9_1
  rw [View.readCov_unit_zero (S := S1x1024) _ hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  simp only [View.readAt_eq_ld, Memref.IsWhole.read_unread]
  rw [ldX x0, ldX x1, ldM x2, ldX x5]

theorem outB9_eq (c : Dev nD) (i : grid0.Coords) (hc0 : ¬cond0_0 i) (hc1 : ¬cond0_1 i) :
    out0_B_9 c i _ harg1 _ harg2 _ harg3 _ harg4 _ harg5 _ harg6 _ harg7 _ harg8 _ harg9 _ harg10 _ harg11 hc0 hc1 x0 x1 x2 x3 x4 x5 xo9 xo10 = k0_pay3 (k0_pay13 x0 x1 x2 x5) xo9 := by
  unfold out0_B_9
  rw [View.read_writes_eq_canon _ _ _ ?w]
  case w => apply cover0_B_9
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8]
  simp only [View.readAt_eq_ld, Memref.IsWhole.read_unread]
  rw [ldX x0, ldX x1, ldM x2, ldX x5, ldG xo9]

theorem outA10_eq (c : Dev nD) (i : grid0.Coords) (hc0 : cond0_0 i) (hc1 : cond0_1 i) :
    out0_A_10 c i _ harg1 _ harg2 _ harg3 _ harg4 _ harg5 _ harg6 _ harg7 _ harg8 _ harg9 _ harg10 _ harg11 hc0 hc1 x0 x1 x2 x3 x4 x5 = k0_pay5 (k0_pay12 x5) (k0_pay4 (F := Ideal)) := by
  unfold out0_A_10
  rw [View.read_writes_eq_canon _ _ _ ?w]
  case w => apply cover0_A_10
  unfold kernelRun0_A
  dsimp only
  rw [View.canon_cons_unit_zero (S := S1x1024) hz]
  unfold kernelRun0_A.sl.v89 kernelRun0_A.sl.H10_1
  rw [View.readCov_unit_zero (S := S1x1024) _ hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
  simp only [View.readAt_eq_ld, Memref.IsWhole.read_unread]
  rw [ldX x5]

theorem outB10_eq (c : Dev nD) (i : grid0.Coords) (hc0 : ¬cond0_0 i) (hc1 : ¬cond0_1 i) :
    out0_B_10 c i _ harg1 _ harg2 _ harg3 _ harg4 _ harg5 _ harg6 _ harg7 _ harg8 _ harg9 _ harg10 _ harg11 hc0 hc1 x0 x1 x2 x3 x4 x5 xo9 xo10 = k0_pay5 (k0_pay12 x5) xo10 := by
  unfold out0_B_10
  rw [View.read_writes_eq_canon _ _ _ ?w]
  case w => apply cover0_B_10
  unfold kernelRun0_B
  dsimp only
  rw [View.canon_unit_zero hz]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8]
  simp only [View.readAt_eq_ld, Memref.IsWhole.read_unread]
  rw [ldX x5, ldG xo10]

end Outs

variable (m : (ℓ : Loc nD τ sig) → Buf (Elt Ideal) ℓ) (ρ : Dev nD → PrngReg)

/-- Point `t`'s blocks are the `t`-th group of 256 rows and the `t`-th modulation. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 3) = t.val ∧ win0_8.index t (1 : Fin 3) = 0 ∧ win0_8.index t (2 : Fin 3) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem emb0 (t : Fin cfg0.N) (r : Fin 256) (d : Fin 1024) :
    ((cfg0.win 0).blk t).view.emb (ix2 r d) = (ix2 (rowOf t r) d : S9216x1024.Idx) := by
  obtain ⟨⟨h, h'⟩, -⟩ := idx_facts t
  refine funext fun a => Fin.ext ?_
  match a with
  | ⟨0, _⟩ => show win0_0.index t (0 : Fin 2) * 256 + 1 * r.val = t.val * 256 + r.val; rw [h, Nat.one_mul]
  | ⟨1, _⟩ => show win0_0.index t (1 : Fin 2) * 1024 + 1 * d.val = d.val; rw [h']; omega

theorem emb1 (t : Fin cfg0.N) (r : Fin 256) (d : Fin 1024) :
    ((cfg0.win 1).blk t).view.emb (ix2 r d) = (ix2 (rowOf t r) d : S9216x1024.Idx) := by
  obtain ⟨-, ⟨h, h'⟩, -⟩ := idx_facts t
  refine funext fun a => Fin.ext ?_
  match a with
  | ⟨0, _⟩ => show win0_1.index t (0 : Fin 2) * 256 + 1 * r.val = t.val * 256 + r.val; rw [h, Nat.one_mul]
  | ⟨1, _⟩ => show win0_1.index t (1 : Fin 2) * 1024 + 1 * d.val = d.val; rw [h']; omega

theorem emb2 (t : Fin cfg0.N) (u : Fin 1) (j : Fin 8) (d : Fin 1024) :
    ((cfg0.win 2).blk t).view.emb (ix3 u j d) = (ix3 t j d : S36x8x1024.Idx) := by
  obtain ⟨-, -, ⟨h, h', h''⟩, -⟩ := idx_facts t
  refine funext fun a => Fin.ext ?_
  match a with
  | ⟨0, _⟩ => show win0_2.index t (0 : Fin 3) * 1 + 1 * u.val = t.val; rw [h]; omega
  | ⟨1, _⟩ => show win0_2.index t (1 : Fin 3) * 8 + 1 * j.val = j.val; rw [h']; omega
  | ⟨2, _⟩ => show win0_2.index t (2 : Fin 3) * 1024 + 1 * d.val = d.val; rw [h'']; omega

theorem emb3 (t : Fin cfg0.N) (u : Fin 1) (d : Fin 1024) :
    ((cfg0.win 3).blk t).view.emb (ix2 u d) = (ix2 u d : S1x1024.Idx) := by
  obtain ⟨-, -, -, ⟨h, h'⟩, -⟩ := idx_facts t
  refine funext fun a => Fin.ext ?_
  match a with
  | ⟨0, _⟩ => show win0_3.index t (0 : Fin 2) * 1 + 1 * u.val = u.val; rw [h]; omega
  | ⟨1, _⟩ => show win0_3.index t (1 : Fin 2) * 1024 + 1 * d.val = d.val; rw [h']; omega

theorem emb4 (t : Fin cfg0.N) (u : Fin 1) (d : Fin 1024) :
    ((cfg0.win 4).blk t).view.emb (ix2 u d) = (ix2 u d : S1x1024.Idx) := by
  obtain ⟨-, -, -, -, ⟨h, h'⟩, -⟩ := idx_facts t
  refine funext fun a => Fin.ext ?_
  match a with
  | ⟨0, _⟩ => show win0_4.index t (0 : Fin 2) * 1 + 1 * u.val = u.val; rw [h]; omega
  | ⟨1, _⟩ => show win0_4.index t (1 : Fin 2) * 1024 + 1 * d.val = d.val; rw [h']; omega

theorem emb5 (t : Fin cfg0.N) (r : Fin 256) (d : Fin 1024) :
    ((cfg0.win 5).blk t).view.emb (ix2 r d) = (ix2 (rowOf t r) d : S9216x1024.Idx) := by
  obtain ⟨-, -, -, -, -, ⟨h, h'⟩, -⟩ := idx_facts t
  refine funext fun a => Fin.ext ?_
  match a with
  | ⟨0, _⟩ => show win0_5.index t (0 : Fin 2) * 256 + 1 * r.val = t.val * 256 + r.val; rw [h, Nat.one_mul]
  | ⟨1, _⟩ => show win0_5.index t (1 : Fin 2) * 1024 + 1 * d.val = d.val; rw [h']; omega

theorem emb6 (t : Fin cfg0.N) (r : Fin 256) (d : Fin 1024) :
    ((cfg0.win 6).blk t).view.emb (ix2 r d) = (ix2 (rowOf t r) d : S9216x1024.Idx) := by
  obtain ⟨-, -, -, -, -, -, ⟨h, h'⟩, -⟩ := idx_facts t
  refine funext fun a => Fin.ext ?_
  match a with
  | ⟨0, _⟩ => show win0_6.index t (0 : Fin 2) * 256 + 1 * r.val = t.val * 256 + r.val; rw [h, Nat.one_mul]
  | ⟨1, _⟩ => show win0_6.index t (1 : Fin 2) * 1024 + 1 * d.val = d.val; rw [h']; omega

theorem emb7 (t : Fin cfg0.N) (r : Fin 256) (d : Fin 1024) :
    ((cfg0.win 7).blk t).view.emb (ix2 r d) = (ix2 (rowOf t r) d : S9216x1024.Idx) := by
  obtain ⟨-, -, -, -, -, -, -, ⟨h, h'⟩, -⟩ := idx_facts t
  refine funext fun a => Fin.ext ?_
  match a with
  | ⟨0, _⟩ => show win0_7.index t (0 : Fin 2) * 256 + 1 * r.val = t.val * 256 + r.val; rw [h, Nat.one_mul]
  | ⟨1, _⟩ => show win0_7.index t (1 : Fin 2) * 1024 + 1 * d.val = d.val; rw [h']; omega

theorem emb8 (t : Fin cfg0.N) (u : Fin 1) (j : Fin 8) (d : Fin 1024) :
    ((cfg0.win 8).blk t).view.emb (ix3 u j d) = (ix3 t j d : S36x8x1024.Idx) := by
  obtain ⟨-, -, -, -, -, -, -, -, ⟨h, h', h''⟩, -⟩ := idx_facts t
  refine funext fun a => Fin.ext ?_
  match a with
  | ⟨0, _⟩ => show win0_8.index t (0 : Fin 3) * 1 + 1 * u.val = t.val; rw [h]; omega
  | ⟨1, _⟩ => show win0_8.index t (1 : Fin 3) * 8 + 1 * j.val = j.val; rw [h']; omega
  | ⟨2, _⟩ => show win0_8.index t (2 : Fin 3) * 1024 + 1 * d.val = d.val; rw [h'']; omega

theorem emb9 (t : Fin cfg0.N) (u : Fin 1) (d : Fin 1024) :
    ((cfg0.win 9).blk t).view.emb (ix2 u d) = (ix2 u d : S1x1024.Idx) := by
  obtain ⟨-, -, -, -, -, -, -, -, -, ⟨h, h'⟩, -⟩ := idx_facts t
  refine funext fun a => Fin.ext ?_
  match a with
  | ⟨0, _⟩ => show win0_9.index t (0 : Fin 2) * 1 + 1 * u.val = u.val; rw [h]; omega
  | ⟨1, _⟩ => show win0_9.index t (1 : Fin 2) * 1024 + 1 * d.val = d.val; rw [h']; omega

theorem emb10 (t : Fin cfg0.N) (u : Fin 1) (d : Fin 1024) :
    ((cfg0.win 10).blk t).view.emb (ix2 u d) = (ix2 u d : S1x1024.Idx) := by
  obtain ⟨-, -, -, -, -, -, -, -, -, -, h, h'⟩ := idx_facts t
  refine funext fun a => Fin.ext ?_
  match a with
  | ⟨0, _⟩ => show win0_10.index t (0 : Fin 2) * 1 + 1 * u.val = u.val; rw [h]; omega
  | ⟨1, _⟩ => show win0_10.index t (1 : Fin 2) * 1024 + 1 * d.val = d.val; rw [h']; omega

theorem outs6 (c : Dev nD) (t : Fin cfg0.N) (r : Fin 256) (d : Fin 1024) :
    (outsAt0 m c t.val t.isLt).1 (ix2 r d) = gradX (V m c main_arg0) (V m c main_arg1) (V m c main_arg2) (V m c main_arg3) (V m c main_arg5) (ix2 (rowOf t r) d) := by
  have e := tile_X (V m c main_arg0) (V m c main_arg1) (V m c main_arg2) (V m c main_arg3) (V m c main_arg5) t (iblk m c 0 t) (iblk m c 1 t) (iblk m c 2 t) (iblk m c 3 t) (iblk m c 5 t) (fun r k => congrArg (V m c main_arg0) (emb0 t r k)) (fun r k => congrArg (V m c main_arg1) (emb1 t r k)) (fun j k => congrArg (V m c main_arg2) (emb2 t 0 j k)) (fun k => congrArg (V m c main_arg3) (emb3 t 0 k)) (fun r k => congrArg (V m c main_arg5) (emb5 t r k)) r d
  by_cases h : t.val % 36 = 0
  · rw [outsAt0_A m c t h h]
    dsimp only
    rw [outA6_eq]
    exact e
  · rw [outsAt0_B m c t h h]
    dsimp only
    rw [outB6_eq]
    exact e

theorem outs7 (c : Dev nD) (t : Fin cfg0.N) (r : Fin 256) (d : Fin 1024) :
    (outsAt0 m c t.val t.isLt).2.1 (ix2 r d) = gradF (V m c main_arg0) (V m c main_arg1) (V m c main_arg2) (V m c main_arg3) (V m c main_arg5) (ix2 (rowOf t r) d) := by
  have e := tile_F (V m c main_arg0) (V m c main_arg1) (V m c main_arg2) (V m c main_arg3) (V m c main_arg5) t (iblk m c 0 t) (iblk m c 1 t) (iblk m c 2 t) (iblk m c 3 t) (iblk m c 5 t) (fun r k => congrArg (V m c main_arg0) (emb0 t r k)) (fun r k => congrArg (V m c main_arg1) (emb1 t r k)) (fun j k => congrArg (V m c main_arg2) (emb2 t 0 j k)) (fun k => congrArg (V m c main_arg3) (emb3 t 0 k)) (fun r k => congrArg (V m c main_arg5) (emb5 t r k)) r d
  by_cases h : t.val % 36 = 0
  · rw [outsAt0_A m c t h h]
    dsimp only
    rw [outA7_eq]
    exact e
  · rw [outsAt0_B m c t h h]
    dsimp only
    rw [outB7_eq]
    exact e

theorem outs8 (c : Dev nD) (t : Fin cfg0.N) (u : Fin 1) (j : Fin 8) (d : Fin 1024) :
    (outsAt0 m c t.val t.isLt).2.2.1 (ix3 u j d) = gradM (V m c main_arg0) (V m c main_arg1) (V m c main_arg2) (V m c main_arg3) (V m c main_arg5) (ix3 t j d) := by
  have e := tile_M (V m c main_arg0) (V m c main_arg1) (V m c main_arg2) (V m c main_arg3) (V m c main_arg5) t (iblk m c 0 t) (iblk m c 1 t) (iblk m c 2 t) (iblk m c 3 t) (iblk m c 5 t) (fun r k => congrArg (V m c main_arg0) (emb0 t r k)) (fun r k => congrArg (V m c main_arg1) (emb1 t r k)) (fun j k => congrArg (V m c main_arg2) (emb2 t 0 j k)) (fun k => congrArg (V m c main_arg3) (emb3 t 0 k)) (fun r k => congrArg (V m c main_arg5) (emb5 t r k)) u j d
  by_cases h : t.val % 36 = 0
  · rw [outsAt0_A m c t h h]
    dsimp only
    rw [outA8_eq]
    exact e
  · rw [outsAt0_B m c t h h]
    dsimp only
    rw [outB8_eq]
    exact e

/-- The first point starts from zero. -/
theorem start9 (c : Dev nD) (t : Fin cfg0.N) (h : t.val % 36 = 0) (d : Fin 1024) :
    (outsAt0 m c t.val t.isLt).2.2.2.1 (ix2 0 d) = (partG (V m c main_arg0) (V m c main_arg1) (V m c main_arg2) (V m c main_arg5) d t : EReal) := by
  rw [outsAt0_A m c t h h]
  dsimp only
  rw [outA9_eq]
  refine (pay3_at _ _ 0 d).trans ((congrArg₂ (fun a b : EReal => a + b) (pay2_at 0 d)
    (part_G (V m c main_arg0) (V m c main_arg1) (V m c main_arg2) (V m c main_arg5) t (iblk m c 0 t) (iblk m c 1 t) (iblk m c 2 t) (iblk m c 5 t) (fun r k => congrArg (V m c main_arg0) (emb0 t r k)) (fun r k => congrArg (V m c main_arg1) (emb1 t r k)) (fun j k => congrArg (V m c main_arg2) (emb2 t 0 j k)) (fun r k => congrArg (V m c main_arg5) (emb5 t r k)) 0 d)).trans (zero_add _))

/-- A later point adds its part. -/
theorem step9 (c : Dev nD) (t : Fin cfg0.N) (h : ¬t.val % 36 = 0) (d : Fin 1024) :
    (outsAt0 m c t.val t.isLt).2.2.2.1 (ix2 0 d)
      = ((outsAt0 m c (t.val - 1) (Nat.lt_of_le_of_lt (Nat.sub_le _ _) t.isLt)).2.2.2.1 (ix2 0 d) + partG (V m c main_arg0) (V m c main_arg1) (V m c main_arg2) (V m c main_arg5) d t : EReal) := by
  rw [outsAt0_B m c t h h]
  dsimp only
  rw [outB9_eq]
  exact (pay3_at _ _ 0 d).trans (congrArg (fun b : EReal => _ + b)
    (part_G (V m c main_arg0) (V m c main_arg1) (V m c main_arg2) (V m c main_arg5) t (iblk m c 0 t) (iblk m c 1 t) (iblk m c 2 t) (iblk m c 5 t) (fun r k => congrArg (V m c main_arg0) (emb0 t r k)) (fun r k => congrArg (V m c main_arg1) (emb1 t r k)) (fun j k => congrArg (V m c main_arg2) (emb2 t 0 j k)) (fun r k => congrArg (V m c main_arg5) (emb5 t r k)) 0 d))

def partGN (c : Dev nD) (d : Fin 1024) (n : ℕ) : EReal := if h : n < 36 then partG (V m c main_arg0) (V m c main_arg1) (V m c main_arg2) (V m c main_arg5) d ⟨n, h⟩ else 0

theorem acc9 (c : Dev nD) (d : Fin 1024) (n : ℕ) (hn : n < cfg0.N) :
    (outsAt0 m c n hn).2.2.2.1 (ix2 0 d) = (∑ j ∈ Finset.range (n + 1), partGN m c d j : EReal) := by
  induction n with
  | zero =>
    rw [zero_add, Finset.sum_range_one]
    refine (start9 m c ⟨0, hn⟩ rfl d).trans ?_
    unfold partGN
    rw [dif_pos (by omega : 0 < 36)]
    rfl
  | succ n ih =>
    have h36 : n + 1 < 36 := lt_of_lt_of_eq hn N_0
    rw [Finset.sum_range_succ, ← ih (Nat.lt_of_succ_lt hn)]
    refine (step9 m c ⟨n + 1, hn⟩ (show ¬(n + 1) % 36 = 0 by omega) d).trans (congrArg (fun b : EReal => _ + b) ?_)
    unfold partGN
    rw [dif_pos h36]
    rfl

theorem outs9 (c : Dev nD) (t : Fin cfg0.N) (h : t.val % 36 = 35) (u : Fin 1) (d : Fin 1024) :
    (outsAt0 m c t.val t.isLt).2.2.2.1 (ix2 u d) = gradG (V m c main_arg0) (V m c main_arg1) (V m c main_arg2) (V m c main_arg5) (ix2 u d) := by
  have h36 : t.val < 36 := lt_of_lt_of_eq t.isLt N_0
  have hu : u = 0 := Subsingleton.elim u 0
  subst hu
  rw [acc9 m c d t.val t.isLt, show t.val + 1 = 36 by omega, Finset.sum_range]
  refine (Finset.sum_congr rfl fun j _ => dif_pos j.isLt).trans ?_
  exact sum_tiles fun a => dev (rowH (V m c main_arg0) (V m c main_arg1) (V m c main_arg2) a) d * scale (rowH (V m c main_arg0) (V m c main_arg1) (V m c main_arg2) a) * (V m c main_arg5) (ix2 a d)

/-- The first point starts from zero. -/
theorem start10 (c : Dev nD) (t : Fin cfg0.N) (h : t.val % 36 = 0) (d : Fin 1024) :
    (outsAt0 m c t.val t.isLt).2.2.2.2 (ix2 0 d) = (partB (V m c main_arg5) d t : EReal) := by
  rw [outsAt0_A m c t h h]
  dsimp only
  rw [outA10_eq]
  refine (pay5_at _ _ 0 d).trans ((congrArg₂ (fun a b : EReal => a + b) (pay4_at 0 d)
    (part_B (V m c main_arg5) t (iblk m c 5 t) (fun r k => congrArg (V m c main_arg5) (emb5 t r k)) 0 d)).trans (zero_add _))

/-- A later point adds its part. -/
theorem step10 (c : Dev nD) (t : Fin cfg0.N) (h : ¬t.val % 36 = 0) (d : Fin 1024) :
    (outsAt0 m c t.val t.isLt).2.2.2.2 (ix2 0 d)
      = ((outsAt0 m c (t.val - 1) (Nat.lt_of_le_of_lt (Nat.sub_le _ _) t.isLt)).2.2.2.2 (ix2 0 d) + partB (V m c main_arg5) d t : EReal) := by
  rw [outsAt0_B m c t h h]
  dsimp only
  rw [outB10_eq]
  exact (pay5_at _ _ 0 d).trans (congrArg (fun b : EReal => _ + b)
    (part_B (V m c main_arg5) t (iblk m c 5 t) (fun r k => congrArg (V m c main_arg5) (emb5 t r k)) 0 d))

def partBN (c : Dev nD) (d : Fin 1024) (n : ℕ) : EReal := if h : n < 36 then partB (V m c main_arg5) d ⟨n, h⟩ else 0

theorem acc10 (c : Dev nD) (d : Fin 1024) (n : ℕ) (hn : n < cfg0.N) :
    (outsAt0 m c n hn).2.2.2.2 (ix2 0 d) = (∑ j ∈ Finset.range (n + 1), partBN m c d j : EReal) := by
  induction n with
  | zero =>
    rw [zero_add, Finset.sum_range_one]
    refine (start10 m c ⟨0, hn⟩ rfl d).trans ?_
    unfold partBN
    rw [dif_pos (by omega : 0 < 36)]
    rfl
  | succ n ih =>
    have h36 : n + 1 < 36 := lt_of_lt_of_eq hn N_0
    rw [Finset.sum_range_succ, ← ih (Nat.lt_of_succ_lt hn)]
    refine (step10 m c ⟨n + 1, hn⟩ (show ¬(n + 1) % 36 = 0 by omega) d).trans (congrArg (fun b : EReal => _ + b) ?_)
    unfold partBN
    rw [dif_pos h36]
    rfl

theorem outs10 (c : Dev nD) (t : Fin cfg0.N) (h : t.val % 36 = 35) (u : Fin 1) (d : Fin 1024) :
    (outsAt0 m c t.val t.isLt).2.2.2.2 (ix2 u d) = gradB (V m c main_arg5) (ix2 u d) := by
  have h36 : t.val < 36 := lt_of_lt_of_eq t.isLt N_0
  have hu : u = 0 := Subsingleton.elim u 0
  subst hu
  rw [acc10 m c d t.val t.isLt, show t.val + 1 = 36 by omega, Finset.sum_range]
  refine (Finset.sum_congr rfl fun j _ => dif_pos j.isLt).trans ?_
  exact sum_tiles fun a => (V m c main_arg5) (ix2 a d)

theorem flushed_6 (c : Dev nD) (t : Fin cfg0.N) (p : Vec Ideal S256x1024 .f32) (h : (dats m 0 c).after 6 t = p) :
    (dats m 0 c).flushed 6 t = p := by
  show (cfg0.win 6).cut (grid0.coords t) ((dats m 0 c).after 6 t) = _
  rw [h]
  rfl

theorem read_6 (t : Fin cfg0.N) (p : Vec Ideal S256x1024 .f32) (G : Vec Ideal S9216x1024 .f32)
    (h : ∀ (r : Fin 256) (d : Fin 1024), p (ix2 r d) = G (ix2 (rowOf t r) d)) :
    p = ((cfg0.win 6).blk t).view.read (Elt Ideal) G := by
  refine funext fun y => ?_
  obtain ⟨r, d, rfl⟩ : ∃ (r : Fin 256) (d : Fin 1024), y = ix2 r d := ⟨y 0, y 1, eq_ix2 y⟩
  exact (h r d).trans (congrArg G (emb6 t r d).symm)

theorem written6 (c : Dev nD) (t : Fin cfg0.N) :
    (dats m 0 c).flushed 6 t = ((cfg0.win 6).blk t).view.read (Elt Ideal) (gradX (V m c main_arg0) (V m c main_arg1) (V m c main_arg2) (V m c main_arg3) (V m c main_arg5)) :=
  (flushed_6 m c t _ (after0_6 m c t)).trans (read_6 t _ (gradX (V m c main_arg0) (V m c main_arg1) (V m c main_arg2) (V m c main_arg3) (V m c main_arg5)) (outs6 m c t))

theorem flushed_7 (c : Dev nD) (t : Fin cfg0.N) (p : Vec Ideal S256x1024 .f32) (h : (dats m 0 c).after 7 t = p) :
    (dats m 0 c).flushed 7 t = p := by
  show (cfg0.win 7).cut (grid0.coords t) ((dats m 0 c).after 7 t) = _
  rw [h]
  rfl

theorem read_7 (t : Fin cfg0.N) (p : Vec Ideal S256x1024 .f32) (G : Vec Ideal S9216x1024 .f32)
    (h : ∀ (r : Fin 256) (d : Fin 1024), p (ix2 r d) = G (ix2 (rowOf t r) d)) :
    p = ((cfg0.win 7).blk t).view.read (Elt Ideal) G := by
  refine funext fun y => ?_
  obtain ⟨r, d, rfl⟩ : ∃ (r : Fin 256) (d : Fin 1024), y = ix2 r d := ⟨y 0, y 1, eq_ix2 y⟩
  exact (h r d).trans (congrArg G (emb7 t r d).symm)

theorem written7 (c : Dev nD) (t : Fin cfg0.N) :
    (dats m 0 c).flushed 7 t = ((cfg0.win 7).blk t).view.read (Elt Ideal) (gradF (V m c main_arg0) (V m c main_arg1) (V m c main_arg2) (V m c main_arg3) (V m c main_arg5)) :=
  (flushed_7 m c t _ (after0_7 m c t)).trans (read_7 t _ (gradF (V m c main_arg0) (V m c main_arg1) (V m c main_arg2) (V m c main_arg3) (V m c main_arg5)) (outs7 m c t))

theorem flushed_8 (c : Dev nD) (t : Fin cfg0.N) (p : Vec Ideal S1x8x1024 .f32) (h : (dats m 0 c).after 8 t = p) :
    (dats m 0 c).flushed 8 t = p := by
  show (cfg0.win 8).cut (grid0.coords t) ((dats m 0 c).after 8 t) = _
  rw [h]
  rfl

theorem read_8 (t : Fin cfg0.N) (p : Vec Ideal S1x8x1024 .f32) (G : Vec Ideal S36x8x1024 .f32)
    (h : ∀ (u : Fin 1) (j : Fin 8) (d : Fin 1024), p (ix3 u j d) = G (ix3 t j d)) :
    p = ((cfg0.win 8).blk t).view.read (Elt Ideal) G := by
  refine funext fun y => ?_
  obtain ⟨u, j, d, rfl⟩ : ∃ (u : Fin 1) (j : Fin 8) (d : Fin 1024), y = ix3 u j d := ⟨y 0, y 1, y 2, eq_ix3 y⟩
  exact (h u j d).trans (congrArg G (emb8 t u j d).symm)

theorem written8 (c : Dev nD) (t : Fin cfg0.N) :
    (dats m 0 c).flushed 8 t = ((cfg0.win 8).blk t).view.read (Elt Ideal) (gradM (V m c main_arg0) (V m c main_arg1) (V m c main_arg2) (V m c main_arg3) (V m c main_arg5)) :=
  (flushed_8 m c t _ (after0_8 m c t)).trans (read_8 t _ (gradM (V m c main_arg0) (V m c main_arg1) (V m c main_arg2) (V m c main_arg3) (V m c main_arg5)) (outs8 m c t))

theorem flushed_9 (c : Dev nD) (t : Fin cfg0.N) (p : Vec Ideal S1x1024 .f32) (h : (dats m 0 c).after 9 t = p) :
    (dats m 0 c).flushed 9 t = p := by
  show (cfg0.win 9).cut (grid0.coords t) ((dats m 0 c).after 9 t) = _
  rw [h]
  rfl

theorem read_9 (t : Fin cfg0.N) (p : Vec Ideal S1x1024 .f32) (G : Vec Ideal S1x1024 .f32)
    (h : ∀ (u : Fin 1) (d : Fin 1024), p (ix2 u d) = G (ix2 u d)) :
    p = ((cfg0.win 9).blk t).view.read (Elt Ideal) G := by
  refine funext fun y => ?_
  obtain ⟨u, d, rfl⟩ : ∃ (u : Fin 1) (d : Fin 1024), y = ix2 u d := ⟨y 0, y 1, eq_ix2 y⟩
  exact (h u d).trans (congrArg G (emb9 t u d).symm)

theorem written9 (c : Dev nD) (t : Fin cfg0.N) (hf : (cfg0.win 9).flush t = true) :
    (dats m 0 c).flushed 9 t = ((cfg0.win 9).blk t).view.read (Elt Ideal) (gradG (V m c main_arg0) (V m c main_arg1) (V m c main_arg2) (V m c main_arg5)) :=
  (flushed_9 m c t _ (after0_9 m c t)).trans (read_9 t _ (gradG (V m c main_arg0) (V m c main_arg1) (V m c main_arg2) (V m c main_arg5)) (outs9 m c t ((flush0_9 t).mp hf)))

theorem flushed_10 (c : Dev nD) (t : Fin cfg0.N) (p : Vec Ideal S1x1024 .f32) (h : (dats m 0 c).after 10 t = p) :
    (dats m 0 c).flushed 10 t = p := by
  show (cfg0.win 10).cut (grid0.coords t) ((dats m 0 c).after 10 t) = _
  rw [h]
  rfl

theorem read_10 (t : Fin cfg0.N) (p : Vec Ideal S1x1024 .f32) (G : Vec Ideal S1x1024 .f32)
    (h : ∀ (u : Fin 1) (d : Fin 1024), p (ix2 u d) = G (ix2 u d)) :
    p = ((cfg0.win 10).blk t).view.read (Elt Ideal) G := by
  refine funext fun y => ?_
  obtain ⟨u, d, rfl⟩ : ∃ (u : Fin 1) (d : Fin 1024), y = ix2 u d := ⟨y 0, y 1, eq_ix2 y⟩
  exact (h u d).trans (congrArg G (emb10 t u d).symm)

theorem written10 (c : Dev nD) (t : Fin cfg0.N) (hf : (cfg0.win 10).flush t = true) :
    (dats m 0 c).flushed 10 t = ((cfg0.win 10).blk t).view.read (Elt Ideal) (gradB (V m c main_arg5)) :=
  (flushed_10 m c t _ (after0_10 m c t)).trans (read_10 t _ (gradB (V m c main_arg5)) (outs10 m c t ((flush0_10 t).mp hf)))

theorem mem6 (i : S9216x1024.Idx) : ∃ t : Fin cfg0.N, (cfg0.win 6).flush t = true ∧ i ∈ ((cfg0.win 6).blk t).view.set := by
  obtain ⟨a, d, rfl⟩ : ∃ (a : Fin 9216) (d : Fin 1024), i = ix2 a d := ⟨i 0, i 1, eq_ix2 i⟩
  have h := ((cfg0.win 6).blk (tileOf a)).view.emb_mem_set (ix2 (⟨a.val % 256, by omega⟩ : Fin 256) d)
  rw [show ((cfg0.win 6).blk (tileOf a)).view.emb (ix2 (⟨a.val % 256, by omega⟩ : Fin 256) d) = ix2 a d from
    (emb6 (tileOf a) _ d).trans (congrArg (fun a => ix2 a d) (Fin.ext (show a.val / 256 * 256 + a.val % 256 = a.val by omega)))] at h
  exact ⟨tileOf a, flush0_6 _, h⟩

theorem mem7 (i : S9216x1024.Idx) : ∃ t : Fin cfg0.N, (cfg0.win 7).flush t = true ∧ i ∈ ((cfg0.win 7).blk t).view.set := by
  obtain ⟨a, d, rfl⟩ : ∃ (a : Fin 9216) (d : Fin 1024), i = ix2 a d := ⟨i 0, i 1, eq_ix2 i⟩
  have h := ((cfg0.win 7).blk (tileOf a)).view.emb_mem_set (ix2 (⟨a.val % 256, by omega⟩ : Fin 256) d)
  rw [show ((cfg0.win 7).blk (tileOf a)).view.emb (ix2 (⟨a.val % 256, by omega⟩ : Fin 256) d) = ix2 a d from
    (emb7 (tileOf a) _ d).trans (congrArg (fun a => ix2 a d) (Fin.ext (show a.val / 256 * 256 + a.val % 256 = a.val by omega)))] at h
  exact ⟨tileOf a, flush0_7 _, h⟩

theorem mem8 (i : S36x8x1024.Idx) : ∃ t : Fin cfg0.N, (cfg0.win 8).flush t = true ∧ i ∈ ((cfg0.win 8).blk t).view.set := by
  obtain ⟨t, j, d, rfl⟩ : ∃ (t : Fin 36) (j : Fin 8) (d : Fin 1024), i = ix3 t j d := ⟨i 0, i 1, i 2, eq_ix3 i⟩
  have h := ((cfg0.win 8).blk t).view.emb_mem_set (ix3 (0 : Fin 1) j d)
  rw [show ((cfg0.win 8).blk t).view.emb (ix3 (0 : Fin 1) j d) = ix3 t j d from emb8 t 0 j d] at h
  exact ⟨t, flush0_8 _, h⟩

/-- The last point. -/
def lastPt : Fin cfg0.N := ⟨35, lt_of_lt_of_eq (by omega : 35 < 36) N_0.symm⟩

theorem mem9 (i : S1x1024.Idx) : ∃ t : Fin cfg0.N, (cfg0.win 9).flush t = true ∧ i ∈ ((cfg0.win 9).blk t).view.set := by
  obtain ⟨u, d, rfl⟩ : ∃ (u : Fin 1) (d : Fin 1024), i = ix2 u d := ⟨i 0, i 1, eq_ix2 i⟩
  have h := ((cfg0.win 9).blk lastPt).view.emb_mem_set (ix2 u d)
  rw [show ((cfg0.win 9).blk lastPt).view.emb (ix2 u d) = ix2 u d from emb9 lastPt u d] at h
  exact ⟨lastPt, (flush0_9 _).mpr rfl, h⟩

theorem mem10 (i : S1x1024.Idx) : ∃ t : Fin cfg0.N, (cfg0.win 10).flush t = true ∧ i ∈ ((cfg0.win 10).blk t).view.set := by
  obtain ⟨u, d, rfl⟩ : ∃ (u : Fin 1) (d : Fin 1024), i = ix2 u d := ⟨i 0, i 1, eq_ix2 i⟩
  have h := ((cfg0.win 10).blk lastPt).view.emb_mem_set (ix2 u d)
  rw [show ((cfg0.win 10).blk lastPt).view.emb (ix2 u d) = ix2 u d from emb10 lastPt u d] at h
  exact ⟨lastPt, (flush0_10 _).mpr rfl, h⟩

/-- The call ends with its results at these functions of its arguments, and the arguments unchanged. -/
theorem run : θ_run defs (onTc (τ := τ) (main (F := Ideal))) ⟨m, fun _ => 0, ρ⟩ fun r => ∀ c : Dev nD,
      r.2.mem ((c : Thread nD τ).loc main_v0_0) = gradX (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v0_1) = gradF (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v0_2) = gradM (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v0_3) = gradG (m ((c : Thread nD τ).loc main_arg0)) (m ((c : Thread nD τ).loc main_arg1)) (m ((c : Thread nD τ).loc main_arg2)) (m ((c : Thread nD τ).loc main_arg5))
      ∧ r.2.mem ((c : Thread nD τ).loc main_v0_4) = gradB (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_blocks m ρ)
  obtain ⟨h6, h7, h8, h9, h10, hk⟩ := h c
  refine ⟨h6.trans ?_, h7.trans ?_, h8.trans ?_, h9.trans ?_, h10.trans ?_, hk⟩
  · rw [(dats m 0 c).arrAt_eq_of_cover 6 _ (fun t _ => written6 m c t) mem6, V_main_arg0, V_main_arg1, V_main_arg2, V_main_arg3, V_main_arg5]
  · rw [(dats m 0 c).arrAt_eq_of_cover 7 _ (fun t _ => written7 m c t) mem7, V_main_arg0, V_main_arg1, V_main_arg2, V_main_arg3, V_main_arg5]
  · rw [(dats m 0 c).arrAt_eq_of_cover 8 _ (fun t _ => written8 m c t) mem8, V_main_arg0, V_main_arg1, V_main_arg2, V_main_arg3, V_main_arg5]
  · rw [(dats m 0 c).arrAt_eq_of_cover 9 _ (fun t hf => written9 m c t hf) mem9, V_main_arg0, V_main_arg1, V_main_arg2, V_main_arg5]
  · rw [(dats m 0 c).arrAt_eq_of_cover 10 _ (fun t hf => written10 m c t hf) mem10, V_main_arg5]

/-- With equal arguments the call and its reference end with equal results. -/
theorem meets : Cert.algebraic_NormGradIdeal_NormGradRefIdeal := fun m g m' g' _ hw =>
  ⟨fun c => gradX (m ((c : Thread nD τ).loc main_arg0)) (m ((c : Thread nD τ).loc main_arg1)) (m ((c : Thread nD τ).loc main_arg2)) (m ((c : Thread nD τ).loc main_arg3)) (m ((c : Thread nD τ).loc main_arg5)),
    fun c => gradF (m ((c : Thread nD τ).loc main_arg0)) (m ((c : Thread nD τ).loc main_arg1)) (m ((c : Thread nD τ).loc main_arg2)) (m ((c : Thread nD τ).loc main_arg3)) (m ((c : Thread nD τ).loc main_arg5)),
    fun c => gradM (m ((c : Thread nD τ).loc main_arg0)) (m ((c : Thread nD τ).loc main_arg1)) (m ((c : Thread nD τ).loc main_arg2)) (m ((c : Thread nD τ).loc main_arg3)) (m ((c : Thread nD τ).loc main_arg5)),
    fun c => gradG (m ((c : Thread nD τ).loc main_arg0)) (m ((c : Thread nD τ).loc main_arg1)) (m ((c : Thread nD τ).loc main_arg2)) (m ((c : Thread nD τ).loc main_arg5)),
    fun c => gradB (m ((c : Thread nD τ).loc main_arg5)),
    run m g,
    (θ_run Cert.NormGradRefIdeal.defs _ _).mono (fun r h c => by
      obtain ⟨h0, h1, h2, h3, h4, hk⟩ := h c
      obtain ⟨e0, e1, e2, e3, e4, e5⟩ := hw c
      refine ⟨h0.trans ?_, h1.trans ?_, h2.trans ?_, h3.trans ?_, h4.trans ?_, hk⟩
      · refine (host_gradX (m' ((c.tc : Thread Cert.NormGradRefIdeal.nD Cert.NormGradRefIdeal.τ).loc Cert.NormGradRefIdeal.main_arg0)) (m' ((c.tc : Thread Cert.NormGradRefIdeal.nD Cert.NormGradRefIdeal.τ).loc Cert.NormGradRefIdeal.main_arg1)) (m' ((c.tc : Thread Cert.NormGradRefIdeal.nD Cert.NormGradRefIdeal.τ).loc Cert.NormGradRefIdeal.main_arg2)) (m' ((c.tc : Thread Cert.NormGradRefIdeal.nD Cert.NormGradRefIdeal.τ).loc Cert.NormGradRefIdeal.main_arg3)) (m' ((c.tc : Thread Cert.NormGradRefIdeal.nD Cert.NormGradRefIdeal.τ).loc Cert.NormGradRefIdeal.main_arg5))).trans ?_
        rw [e0, e1, e2, e3, e5]
      · refine (host_gradF (m' ((c.tc : Thread Cert.NormGradRefIdeal.nD Cert.NormGradRefIdeal.τ).loc Cert.NormGradRefIdeal.main_arg0)) (m' ((c.tc : Thread Cert.NormGradRefIdeal.nD Cert.NormGradRefIdeal.τ).loc Cert.NormGradRefIdeal.main_arg1)) (m' ((c.tc : Thread Cert.NormGradRefIdeal.nD Cert.NormGradRefIdeal.τ).loc Cert.NormGradRefIdeal.main_arg2)) (m' ((c.tc : Thread Cert.NormGradRefIdeal.nD Cert.NormGradRefIdeal.τ).loc Cert.NormGradRefIdeal.main_arg3)) (m' ((c.tc : Thread Cert.NormGradRefIdeal.nD Cert.NormGradRefIdeal.τ).loc Cert.NormGradRefIdeal.main_arg5))).trans ?_
        rw [e0, e1, e2, e3, e5]
      · refine (host_gradM (m' ((c.tc : Thread Cert.NormGradRefIdeal.nD Cert.NormGradRefIdeal.τ).loc Cert.NormGradRefIdeal.main_arg0)) (m' ((c.tc : Thread Cert.NormGradRefIdeal.nD Cert.NormGradRefIdeal.τ).loc Cert.NormGradRefIdeal.main_arg1)) (m' ((c.tc : Thread Cert.NormGradRefIdeal.nD Cert.NormGradRefIdeal.τ).loc Cert.NormGradRefIdeal.main_arg2)) (m' ((c.tc : Thread Cert.NormGradRefIdeal.nD Cert.NormGradRefIdeal.τ).loc Cert.NormGradRefIdeal.main_arg3)) (m' ((c.tc : Thread Cert.NormGradRefIdeal.nD Cert.NormGradRefIdeal.τ).loc Cert.NormGradRefIdeal.main_arg5))).trans ?_
        rw [e0, e1, e2, e3, e5]
      · refine (host_gradG (m' ((c.tc : Thread Cert.NormGradRefIdeal.nD Cert.NormGradRefIdeal.τ).loc Cert.NormGradRefIdeal.main_arg0)) (m' ((c.tc : Thread Cert.NormGradRefIdeal.nD Cert.NormGradRefIdeal.τ).loc Cert.NormGradRefIdeal.main_arg1)) (m' ((c.tc : Thread Cert.NormGradRefIdeal.nD Cert.NormGradRefIdeal.τ).loc Cert.NormGradRefIdeal.main_arg2)) (m' ((c.tc : Thread Cert.NormGradRefIdeal.nD Cert.NormGradRefIdeal.τ).loc Cert.NormGradRefIdeal.main_arg5))).trans ?_
        rw [e0, e1, e2, e5]
      · refine (host_gradB (m' ((c.tc : Thread Cert.NormGradRefIdeal.nD Cert.NormGradRefIdeal.τ).loc Cert.NormGradRefIdeal.main_arg5))).trans ?_
        rw [e5])
      (Cert.NormGradRefIdeal.Value.run (F := Ideal) m' g')⟩

end Cert.NormBack

end
-- ==== Proof.Mix.lean ====
/-
  The mixers' output: the two directions of the linear mixers added, each head of 64 columns normalized and gated, set beside the
  attention's output, projected, and added to the residual before a layer norm. The call takes the means over a head by a product
  with a matrix of 1/64 inside a head and 0 outside; the reference takes them head by head. Both end with the same array over the
  extended reals.
-/
module

public import proofs.«01_k».proof.Proof.Gen.MixIdeal.Value
public import proofs.«01_k».proof.Proof.PostNorm
public import proofs.«01_k».proof.Proof.Attend
public import proofs.«01_k».proof.Defs
public import proofs.«01_k».proof.Proof.Gen.MixRefIdeal.Run
public import Idealize.ShloMosaic.Lib.Pointwise.Reduce
public import Idealize.ShloMosaic.Lib.Pointwise
public import Idealize.ShloMosaic.Lib.Claim

@[expose] public section

set_option maxRecDepth 16384

noncomputable section

namespace Cert.Mixed

open Cert.MixIdeal Cert.MixIdeal.Gen Cert.MixIdeal.Value Idealize.ShloMosaic Idealize.ShloMosaic.TcCoe Idealize.SL.Sem

open Cert.Adam (hz)
open Cert.DxProj (hz3 rowOf tileOf tile_row row_tile tiled tiled_at rows_at)
open Cert.PostNorm

/-! ## A row -/

/-- Entry `e` of the head of column `j`. -/
def inHead (j : Fin 256) (e : Fin 64) : Fin 256 := ⟨j.val / 64 * 64 + e.val, by omega⟩

/-- The mean of the head of column `j`. -/
def headMean (x : Fin 256 → EReal) (j : Fin 256) : EReal := Ideal.div (∑ e : Fin 64, x (inHead j e)) (Ideal.ofBits .f32 0x42800000#32)

/-- An entry over the root of its head's mean square. -/
def rms (x : Fin 256 → EReal) (j : Fin 256) : EReal := x j * Ideal.rsqrt (headMean (fun k => x k * x k) j + eps)

def centred (x : Fin 256 → EReal) (j : Fin 256) : EReal := x j - headMean x j

/-- The gated heads of both linear mixers and the attention's output. -/
def mixed (og orr tg tr g : Fin 256 → EReal) (om : Fin 512 → EReal) (k : Fin 1024) : EReal :=
  if h : k.val < 256 then rms og ⟨k.val, h⟩ * g ⟨k.val, h⟩ * gate (tg ⟨k.val, h⟩)
  else if h' : k.val < 512 then rms (centred orr) ⟨k.val - 256, by omega⟩ * gate (tr ⟨k.val - 256, by omega⟩)
  else om ⟨k.val - 512, by omega⟩

/-- The residual with the gated projection. -/
def resid (x md p : Fin 1024 → EReal) (w : Vec Ideal S1024x1024 .bf16) (d : Fin 1024) : EReal :=
  alpha * x d + md d * ∑ k : Fin 1024, p k * w (ix2 k d)

/-! ## The product with the matrix of means -/

theorem sixty_four : Ideal.ofBits .f32 0x42800000#32 = ((64 : ℝ) : EReal) := by
  simp [Ideal.ofBits, Ideal.ieee, -EReal.coe_mul]; norm_num

theorem one_64th : Ideal.ofBits .f32 0x3C800000#32 = ((1 / 64 : ℝ) : EReal) := by
  simp [Ideal.ofBits, Ideal.ieee, -EReal.coe_mul]; norm_num

/-- A sum over the columns that keeps one head's, a 64th of each, is the head's mean. -/
theorem sum_head (x : Fin 256 → EReal) (j : Fin 256) :
    (∑ k : Fin 256, x k * (if k.val / 64 = j.val / 64 then Ideal.ofBits .f32 0x3C800000#32 else 0) : EReal) = headMean x j := by
  unfold headMean
  rw [sixty_four, Cert.Attend.div_sum _ _ (by norm_num : (0 : ℝ) < 64)]
  have hs : (∑ k : Fin 256, x k * (if k.val / 64 = j.val / 64 then Ideal.ofBits .f32 0x3C800000#32 else 0) : EReal)
      = ∑ h : Fin 4, ∑ e : Fin 64, (if h.val = j.val / 64 then Ideal.div (x (inHead j e)) ((64 : ℝ) : EReal) else 0) := by
    rw [← Fintype.sum_prod_type' (f := fun (h : Fin 4) (e : Fin 64) =>
      (if h.val = j.val / 64 then Ideal.div (x (inHead j e)) ((64 : ℝ) : EReal) else 0 : EReal))]
    symm
    refine Fintype.sum_equiv (finProdFinEquiv : Fin 4 × Fin 64 ≃ Fin (4 * 64)) _ _ fun p => ?_
    have hv : (finProdFinEquiv p : Fin (4 * 64)).val = p.2.val + 64 * p.1.val := rfl
    have hd : (finProdFinEquiv p : Fin (4 * 64)).val / 64 = p.1.val := by rw [hv]; omega
    show _ = x (finProdFinEquiv p) * (if (finProdFinEquiv p : Fin (4 * 64)).val / 64 = j.val / 64 then _ else _)
    rw [hd]
    by_cases hc : p.1.val = j.val / 64
    · rw [if_pos hc, if_pos hc, Ideal.div_coe (by norm_num : (64 : ℝ) ≠ 0), one_64th]
      refine congrArg (fun k => x k * ((1 / 64 : ℝ) : EReal)) (Fin.ext ?_)
      show j.val / 64 * 64 + p.2.val = (finProdFinEquiv p : Fin (4 * 64)).val
      rw [hv]; omega
    · rw [if_neg hc, if_neg hc, mul_zero]
  rw [hs, Finset.sum_eq_single (⟨j.val / 64, by omega⟩ : Fin 4)]
  · exact Finset.sum_congr rfl fun e _ => if_pos rfl
  · intro h _ hn
    exact Finset.sum_eq_zero fun e _ => if_neg fun hc => hn (Fin.ext hc)
  · exact fun hn => absurd (Finset.mem_univ _) hn

/-- The head of a row index and of a column index, as the call computes them. -/
abbrev headOf (v : IVec S256x256 32) : IVec S256x256 32 :=
  select (andi (cmpi .ne (subi (extui 32 (cmpi .sgt v (broadcast S256x256 0#32)) Facts₀.natLt_1_32)
      (extui 32 (cmpi .slt v (broadcast S256x256 0#32)) Facts₀.natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32)) (divsi v (broadcast S256x256 64#32))

theorem headRow : ∀ k : Fin 256, headOf (iota .tc S256x256 32 [0] Facts₀.iota_S256x256_d0_w32) (ix2 k 0) = BitVec.ofNat 32 (k.val / 64) := by
  decide +kernel

theorem headCol : ∀ k : Fin 256, headOf (iota .tc S256x256 32 [1] Facts₀.iota_S256x256_d1_w32) (ix2 0 k) = BitVec.ofNat 32 (k.val / 64) := by
  decide +kernel

/-- The matrix of means. -/
abbrev means (a b : IVec S256x256 32) : Vec Ideal S256x256 .f32 :=
  mulf (F := Ideal) (φ := .f32) (sitofp (F := Ideal) .f32 (extui 32 (cmpi .eq a b) Facts₀.natLt_1_32))
    (broadcast S256x256 (Scalar.ofBits (F := Ideal) .f32 0x3C800000#32))

theorem means_at (a b : IVec S256x256 32) (i : S256x256.Idx) :
    means a b i = (if a i = b i then Ideal.ofBits .f32 0x3C800000#32 else 0 : EReal) := by
  show ((((BitVec.setWidth 32 (IntOp.cmpi .eq (a i) (b i))).toInt : ℝ) : EReal) * Ideal.ofBits .f32 0x3C800000#32 : EReal) = _
  by_cases hc : a i = b i
  · rw [if_pos hc, hc, show IntOp.cmpi .eq (b i) (b i) = 1#1 by simp [IntOp.cmpi]]
    have : ((BitVec.setWidth 32 (1#1 : BitVec 1)).toInt : ℤ) = 1 := by decide
    rw [this]; simp
  · rw [if_neg hc, show IntOp.cmpi .eq (a i) (b i) = 0#1 from congrArg BitVec.ofBool (beq_false_of_ne hc)]
    have : ((BitVec.setWidth 32 (0#1 : BitVec 1)).toInt : ℤ) = 0 := by decide
    rw [this]; simp

abbrev avg : Vec Ideal S256x256 .f32 :=
  means (headOf (iota .tc S256x256 32 [0] Facts₀.iota_S256x256_d0_w32)) (headOf (iota .tc S256x256 32 [1] Facts₀.iota_S256x256_d1_w32))

theorem avg_at (k j : Fin 256) :
    avg (ix2 k j) = (if k.val / 64 = j.val / 64 then Ideal.ofBits .f32 0x3C800000#32 else 0 : EReal) := by
  refine (means_at _ _ _).trans ?_
  have hr : headOf (iota .tc S256x256 32 [0] Facts₀.iota_S256x256_d0_w32) (ix2 k j) = BitVec.ofNat 32 (k.val / 64) := headRow k
  have hc : headOf (iota .tc S256x256 32 [1] Facts₀.iota_S256x256_d1_w32) (ix2 k j) = BitVec.ofNat 32 (j.val / 64) := headCol j
  rw [hr, hc]
  refine if_congr ⟨fun h => ?_, fun h => by rw [h]⟩ rfl rfl
  have := congrArg BitVec.toNat h
  simp only [BitVec.toNat_ofNat] at this
  omega

abbrev headK (x : Vec Ideal S256x256 .f32) (a : Vec Ideal S256x256 .f32) : Vec Ideal S256x256 .f32 :=
  matmul (F := Ideal) (φ₁ := .f32) (φ₂ := .f32) dot_S256x256_S256x256_S256x256_1_0_0_1_n_n (some .fp32) x a (constant (F := Ideal) S256x256 .f32 0x00000000#32)

theorem headK_dot (x a : Vec Ideal S256x256 .f32) (r j : Fin 256) :
    headK x a (ix2 r j) = (∑ k : Fin 256, (x (ix2 r k) : EReal) * a (ix2 k j) : EReal) := by
  pointwise

theorem headK_at (x : Vec Ideal S256x256 .f32) (r j : Fin 256) :
    headK x avg (ix2 r j) = (headMean (fun k => x (ix2 r k)) j : EReal) :=
  (headK_dot x avg r j).trans ((Finset.sum_congr rfl fun k _ => congrArg (fun a : EReal => x (ix2 r k) * a) (avg_at k j)).trans
    (sum_head (fun k => x (ix2 r k)) j))

/-- An entry over the root of its head's mean square, in a tile. -/
abbrev rmsK (x a : Vec Ideal S256x256 .f32) : Vec Ideal S256x256 .f32 :=
  mulf (F := Ideal) (φ := .f32) x (rsqrt (F := Ideal) (φ := .f32) (addf (F := Ideal) (φ := .f32) (headK (mulf (F := Ideal) (φ := .f32) x x) a)
    (broadcast S256x256 (Scalar.ofBits (F := Ideal) .f32 0x358637BD#32))))

theorem rmsK_at (x : Vec Ideal S256x256 .f32) (r j : Fin 256) :
    rmsK x avg (ix2 r j) = (rms (fun k => x (ix2 r k)) j : EReal) :=
  congrArg (fun a : EReal => (x (ix2 r j) : EReal) * Ideal.rsqrt (a + eps)) (headK_at _ r j)

abbrev cenK (x a : Vec Ideal S256x256 .f32) : Vec Ideal S256x256 .f32 := subf (F := Ideal) (φ := .f32) x (headK x a)

theorem cenK_at (x : Vec Ideal S256x256 .f32) (r j : Fin 256) :
    cenK x avg (ix2 r j) = (centred (fun k => x (ix2 r k)) j : EReal) :=
  congrArg (fun a : EReal => (x (ix2 r j) : EReal) - a) (headK_at _ r j)

abbrev gateK (x : Vec Ideal S256x256 .f32) : Vec Ideal S256x256 .f32 := mulf (F := Ideal) (φ := .f32) x (logistic (F := Ideal) (φ := .f32) x)

abbrev glaK (x a t : Vec Ideal S256x256 .f32) (g : Vec Ideal S1x256 .f32) : Vec Ideal S256x256 .f32 :=
  mulf (F := Ideal) (φ := .f32) (mulf (F := Ideal) (φ := .f32) (rmsK x a) (broadcastTo S256x256 g Facts₀.broadcasts_S1x256_S256x256)) (gateK t)

theorem row256_at (g : Vec Ideal S1x256 .f32) (r j : Fin 256) :
    broadcastTo S256x256 g Facts₀.broadcasts_S1x256_S256x256 (ix2 r j) = g (ix2 0 j) := by
  pointwise

theorem glaK_at (x t : Vec Ideal S256x256 .f32) (g : Vec Ideal S1x256 .f32) (r j : Fin 256) :
    glaK x avg t g (ix2 r j) = (rms (fun k => x (ix2 r k)) j * g (ix2 0 j) * gate (t (ix2 r j)) : EReal) :=
  congrArg₂ (fun a b : EReal => a * b * gate (t (ix2 r j))) (rmsK_at x r j) (row256_at g r j)

abbrev retK (x a t : Vec Ideal S256x256 .f32) : Vec Ideal S256x256 .f32 := mulf (F := Ideal) (φ := .f32) (rmsK (cenK x a) a) (gateK t)

theorem retK_at (x t : Vec Ideal S256x256 .f32) (r j : Fin 256) :
    retK x avg t (ix2 r j) = (rms (centred fun k => x (ix2 r k)) j * gate (t (ix2 r j)) : EReal) := by
  refine congrArg (fun a : EReal => a * gate (t (ix2 r j))) ((rmsK_at (cenK x avg) r j).trans ?_)
  exact congrArg (fun f : Fin 256 → EReal => rms f j) (funext fun k => cenK_at x r k)

/-- The three pieces one after another. -/
theorem pieces_at (u v : Vec Ideal S256x256 .f32) (w : Vec Ideal S256x512 .f32) (r : Fin 256) (k : Fin 1024) :
    concatenate S256x1024 1 [⟨S256x256, u⟩, ⟨S256x256, v⟩, ⟨S256x512, w⟩] Facts₀.concatenates_S256x256_S256x256_S256x512_S256x1024_d1 (ix2 r k)
      = (if h : k.val < 256 then u (ix2 r ⟨k.val, h⟩) else if h' : k.val < 512 then v (ix2 r ⟨k.val - 256, by omega⟩)
        else w (ix2 r ⟨k.val - 512, by omega⟩) : EReal) := by
  pointwise
  by_cases h : k.val < 256
  · rw [dif_pos h, dif_pos h]
  · rw [dif_neg h, dif_neg h]
    by_cases h' : k.val < 512
    · rw [dif_pos h', dif_pos (by omega)]
    · rw [dif_neg h', dif_neg (by omega)]
      exact congrArg (fun j => w (ix2 r j)) (Fin.ext (show k.val - 256 - 256 = k.val - 512 by omega))

abbrev projK (p : Vec Ideal S256x1024 .f32) (w : Vec Ideal S1024x1024 .bf16) : Vec Ideal S256x1024 .f32 :=
  matmul (F := Ideal) (φ₁ := .bf16) (φ₂ := .bf16) dot_S256x1024_S1024x1024_S256x1024_1_0_0_1_n_n none (truncf (F := Ideal) .bf16 p Facts₀.bitsLt_bf16_f32)
    (truncf (F := Ideal) .bf16 (k0_pay2 w) Facts₀.bitsLt_bf16_f32) (constant (F := Ideal) S256x1024 .f32 0x00000000#32)

theorem projK_at (p : Vec Ideal S256x1024 .f32) (w : Vec Ideal S1024x1024 .bf16) (r : Fin 256) (d : Fin 1024) :
    projK p w (ix2 r d) = (∑ k : Fin 1024, (p (ix2 r k) : EReal) * w (ix2 k d) : EReal) := by
  pointwise [k0_pay2]

abbrev resK (x y : Vec Ideal S256x1024 .f32) (md : Vec Ideal S1x8x1024 .f32) : Vec Ideal S256x1024 .f32 :=
  addf (F := Ideal) (φ := .f32) (mulf (F := Ideal) (φ := .f32) (broadcast S256x1024 (Scalar.ofBits (F := Ideal) .f32 0x3FD744FD#32)) x)
    (mulf (F := Ideal) (φ := .f32) (broadcastTo S256x1024 (extractStridedSlice S1x1024 ![2, 0] (k0_pay1 md) Facts₀.slices_S8x1024_o2_0_S1x1024)
      Facts₀.broadcasts_S1x1024_S256x1024) y)

theorem resK_at (x y : Vec Ideal S256x1024 .f32) (md : Vec Ideal S1x8x1024 .f32) (r : Fin 256) (d : Fin 1024) :
    resK x y md (ix2 r d) = (alpha * x (ix2 r d) + md (ix3 0 2 d) * y (ix2 r d) : EReal) := by
  unfold alpha
  pointwise [k0_pay1]

variable (x0 x1 x2 x3 : Vec Ideal S256x256 .f32) (x4 : Vec Ideal S256x512 .f32) (x5 x6 : Vec Ideal S256x256 .f32)
  (x7 : Vec Ideal S256x1024 .f32) (x8 : Vec Ideal S1x8x1024 .f32) (x9 : Vec Ideal S1x256 .f32) (x10 : Vec Ideal S1024x1024 .bf16)
  (x11 x12 : Vec Ideal S1x1024 .f32)

abbrev mixK : Vec Ideal S256x1024 .f32 :=
  concatenate S256x1024 1 [⟨S256x256, glaK (addf (F := Ideal) (φ := .f32) x0 x1) avg x5 x9⟩, ⟨S256x256, retK (addf (F := Ideal) (φ := .f32) x2 x3) avg x6⟩,
    ⟨S256x512, x4⟩] Facts₀.concatenates_S256x256_S256x256_S256x512_S256x1024_d1

theorem mixK_at (r : Fin 256) (k : Fin 1024) : mixK x0 x1 x2 x3 x4 x5 x6 x9 (ix2 r k)
    = (mixed (fun k => x0 (ix2 r k) + x1 (ix2 r k)) (fun k => x2 (ix2 r k) + x3 (ix2 r k)) (fun k => x5 (ix2 r k)) (fun k => x6 (ix2 r k))
      (fun k => x9 (ix2 0 k)) (fun k => x4 (ix2 r k)) k : EReal) := by
  refine (pieces_at _ _ _ r k).trans ?_
  unfold mixed
  by_cases h : k.val < 256
  · rw [dif_pos h, dif_pos h]; exact glaK_at _ _ _ r _
  · rw [dif_neg h, dif_neg h]
    by_cases h' : k.val < 512
    · rw [dif_pos h', dif_pos h']; exact retK_at _ _ r _
    · rw [dif_neg h', dif_neg h']

theorem post_def (v69 v70 v74 : Vec Ideal S256x256 .f32) :
    k0_pay8 x2 x3 x4 x5 x6 x7 (k0_pay1 x8) x9 (k0_pay2 x10) x11 x12 v69 v70 v74
      = normK (resK x7 (projK (concatenate S256x1024 1 [⟨S256x256, mulf (F := Ideal) (φ := .f32) (mulf (F := Ideal) (φ := .f32)
          (mulf (F := Ideal) (φ := .f32) v70 (rsqrt (F := Ideal) (φ := .f32) v74)) (broadcastTo S256x256 x9 Facts₀.broadcasts_S1x256_S256x256)) (gateK x5)⟩,
        ⟨S256x256, retK (addf (F := Ideal) (φ := .f32) x2 x3) v69 x6⟩, ⟨S256x512, x4⟩]
        Facts₀.concatenates_S256x256_S256x256_S256x512_S256x1024_d1) x10) x8) x11 x12 := by
  unfold k0_pay8
  rfl

theorem avg_def : k0_pay5 (F := Ideal) (iota .tc S256x256 32 [0] Facts₀.iota_S256x256_d0_w32) 64#32 k0_pay3 k0_pay4
    (Scalar.extui (Scalar.cmpi .sgt 64#32 0#32)) 0#32 = avg := by
  unfold k0_pay5 k0_pay3 k0_pay4
  rfl

theorem var_def : k0_pay7 (F := Ideal) x0 x1 (iota .tc S256x256 32 [0] Facts₀.iota_S256x256_d0_w32) 64#32 k0_pay3 k0_pay4
    (Scalar.extui (Scalar.cmpi .sgt 64#32 0#32)) 0#32
      = addf (F := Ideal) (φ := .f32) (headK (mulf (F := Ideal) (φ := .f32) (addf (F := Ideal) (φ := .f32) x0 x1) (addf (F := Ideal) (φ := .f32) x0 x1)) avg)
        (broadcast S256x256 (Scalar.ofBits (F := Ideal) .f32 0x358637BD#32)) := by
  unfold k0_pay7 k0_pay6
  rw [avg_def]

theorem ldA (x : Vec Ideal S256x256 .f32) : View.ld x r0_0 = x := by rw [View.ld_unit_zero hz]

theorem ldB (x : Vec Ideal S256x512 .f32) : View.ld x r0_1 = x := by rw [View.ld_unit_zero hz]

theorem ldC (x : Vec Ideal S256x1024 .f32) : View.ld x r0_2 = x := by rw [View.ld_unit_zero hz]

theorem ldD (x : Vec Ideal S1x8x1024 .f32) : View.ld x r0_3 = x := by rw [View.ld_unit_zero hz3]

theorem ldE (x : Vec Ideal S1x256 .f32) : View.ld x r0_4 = x := by rw [View.ld_unit_zero hz]

theorem ldF (x : Vec Ideal S1024x1024 .bf16) : View.ld x r0_5 = x := by rw [View.ld_unit_zero hz]

theorem ldG (x : Vec Ideal S1x1024 .f32) : View.ld x r0_6 = x := by rw [View.ld_unit_zero hz]

theorem out13_def : out0_13 x0 x1 x2 x3 x4 x5 x6 x7 x8 x9 x10 x11 x12
    = normK (resK x7 (projK (mixK x0 x1 x2 x3 x4 x5 x6 x9) x10) x8) x11 x12 := by
  unfold out0_13
  rw [View.canon_unit_zero hz, ldA x0, ldA x1, ldA x2, ldA x3, ldA x5, ldA x6, ldB, ldC, ldD, ldE, ldF, ldG x11, ldG x12]
  refine (post_def x2 x3 x4 x5 x6 x7 x8 x9 x10 x11 x12 _ _ _).trans ?_
  rw [show k0_pay9 x0 x1 x2 x3 x4 x5 x6 x7 x8 x9 x10 x11 x12 = iota .tc S256x256 32 [0] Facts₀.iota_S256x256_d0_w32 from rfl,
    show k0_pay10 x0 x1 x2 x3 x4 x5 x6 x7 x8 x9 x10 x11 x12 = k0_pay3 from rfl,
    show k0_pay11 x0 x1 x2 x3 x4 x5 x6 x7 x8 x9 x10 x11 x12 = k0_pay4 from rfl, avg_def, var_def]
  rfl

/-- A block of the result, at an entry. -/
theorem out13_eq (r : Fin 256) (d : Fin 1024) : out0_13 x0 x1 x2 x3 x4 x5 x6 x7 x8 x9 x10 x11 x12 (ix2 r d)
    = (normed (resid (fun k => x7 (ix2 r k)) (fun k => x8 (ix3 0 2 k))
        (mixed (fun k => x0 (ix2 r k) + x1 (ix2 r k)) (fun k => x2 (ix2 r k) + x3 (ix2 r k)) (fun k => x5 (ix2 r k)) (fun k => x6 (ix2 r k))
          (fun k => x9 (ix2 0 k)) (fun k => x4 (ix2 r k))) x10) (fun k => x11 (ix2 0 k)) (fun k => x12 (ix2 0 k)) d : EReal) := by
  rw [out13_def]
  refine (normK_at _ _ _ r d).trans ?_
  refine congrArg (fun z => normed z _ _ d) (funext fun k => (resK_at _ _ _ r k).trans ?_)
  refine congrArg (fun a : EReal => alpha * x7 (ix2 r k) + x8 (ix3 0 2 k) * a) ((projK_at _ _ r k).trans ?_)
  exact Finset.sum_congr rfl fun e _ => congrArg (fun a : EReal => a * x10 (ix2 e k)) (mixK_at x0 x1 x2 x3 x4 x5 x6 x9 r e)

variable (m : (ℓ : Loc nD τ sig) → Buf (Elt Ideal) ℓ) (ρ : Dev nD → PrngReg)

/-- Columns 512 to 767 of the projected row, and columns 1280 to 1535. -/
def colG (j : Fin 256) : Fin 2048 := ⟨512 + j.val, by omega⟩

def colR (j : Fin 256) : Fin 2048 := ⟨1280 + j.val, by omega⟩

/-- The mixers' output. -/
def output (y0 y1 y2 y3 : Vec Ideal S9216x256 .f32) (y4 : Vec Ideal S9216x512 .f32) (y5 : Vec Ideal S9216x2048 .f32)
    (y6 : Vec Ideal S9216x1024 .f32) (y7 : Vec Ideal S36x8x1024 .f32) (y8 : Vec Ideal S1x256 .f32) (y9 : Vec Ideal S1024x1024 .bf16)
    (y10 y11 : Vec Ideal S1x1024 .f32) : Vec Ideal S9216x1024 .f32 := fun i =>
  normed (resid (fun k => y6 (ix2 (i 0) k)) (fun k => y7 (ix3 (tileOf (i 0)) 2 k))
    (mixed (fun k => (y0 (ix2 (i 0) k) + y1 (ix2 (i 0) k) : EReal)) (fun k => (y2 (ix2 (i 0) k) + y3 (ix2 (i 0) k) : EReal))
      (fun k => y5 (ix2 (i 0) (colG k))) (fun k => y5 (ix2 (i 0) (colR k)))
      (fun k => y8 (ix2 0 k)) (fun k => y4 (ix2 (i 0) k))) y9) (fun k => y10 (ix2 0 k)) (fun k => y11 (ix2 0 k)) (i 1)

/-- Point `t`'s blocks are its tile's rows and modulation, and the parameters whole. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 2)
    ∧ (win0_6.index t (0 : Fin 2) = t.val ∧ win0_6.index t (1 : Fin 2) = 5)
    ∧ (win0_7.index t (0 : Fin 2) = t.val ∧ win0_7.index t (1 : Fin 2) = 0)
    ∧ (win0_8.index t (0 : Fin 3) = t.val ∧ win0_8.index t (1 : Fin 3) = 0 ∧ win0_8.index t (2 : Fin 3) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0) :=
  (by decide +kernel : ∀ t : Fin grid0.N, _)

theorem emb0 (t : Fin cfg0.N) (r : Fin 256) (k : Fin 256) :
    ((cfg0.win 0).blk t).view.emb (ix2 r k) = (ix2 (rowOf t r) k : S9216x256.Idx) := by
  obtain ⟨⟨h, h'⟩, -⟩ := idx_facts t
  refine funext fun a => Fin.ext ?_
  match a with
  | ⟨0, _⟩ => show win0_0.index t (0 : Fin 2) * 256 + 1 * r.val = t.val * 256 + r.val; rw [h, Nat.one_mul]
  | ⟨1, _⟩ => show win0_0.index t (1 : Fin 2) * 256 + 1 * k.val = k.val; rw [h']; omega

theorem emb1 (t : Fin cfg0.N) (r : Fin 256) (k : Fin 256) :
    ((cfg0.win 1).blk t).view.emb (ix2 r k) = (ix2 (rowOf t r) k : S9216x256.Idx) := by
  obtain ⟨-, ⟨h, h'⟩, -⟩ := idx_facts t
  refine funext fun a => Fin.ext ?_
  match a with
  | ⟨0, _⟩ => show win0_1.index t (0 : Fin 2) * 256 + 1 * r.val = t.val * 256 + r.val; rw [h, Nat.one_mul]
  | ⟨1, _⟩ => show win0_1.index t (1 : Fin 2) * 256 + 1 * k.val = k.val; rw [h']; omega

theorem emb2 (t : Fin cfg0.N) (r : Fin 256) (k : Fin 256) :
    ((cfg0.win 2).blk t).view.emb (ix2 r k) = (ix2 (rowOf t r) k : S9216x256.Idx) := by
  obtain ⟨-, -, ⟨h, h'⟩, -⟩ := idx_facts t
  refine funext fun a => Fin.ext ?_
  match a with
  | ⟨0, _⟩ => show win0_2.index t (0 : Fin 2) * 256 + 1 * r.val = t.val * 256 + r.val; rw [h, Nat.one_mul]
  | ⟨1, _⟩ => show win0_2.index t (1 : Fin 2) * 256 + 1 * k.val = k.val; rw [h']; omega

theorem emb3 (t : Fin cfg0.N) (r : Fin 256) (k : Fin 256) :
    ((cfg0.win 3).blk t).view.emb (ix2 r k) = (ix2 (rowOf t r) k : S9216x256.Idx) := by
  obtain ⟨-, -, -, ⟨h, h'⟩, -⟩ := idx_facts t
  refine funext fun a => Fin.ext ?_
  match a with
  | ⟨0, _⟩ => show win0_3.index t (0 : Fin 2) * 256 + 1 * r.val = t.val * 256 + r.val; rw [h, Nat.one_mul]
  | ⟨1, _⟩ => show win0_3.index t (1 : Fin 2) * 256 + 1 * k.val = k.val; rw [h']; omega

theorem emb4 (t : Fin cfg0.N) (r : Fin 256) (k : Fin 512) :
    ((cfg0.win 4).blk t).view.emb (ix2 r k) = (ix2 (rowOf t r) k : S9216x512.Idx) := by
  obtain ⟨-, -, -, -, ⟨h, h'⟩, -⟩ := idx_facts t
  refine funext fun a => Fin.ext ?_
  match a with
  | ⟨0, _⟩ => show win0_4.index t (0 : Fin 2) * 256 + 1 * r.val = t.val * 256 + r.val; rw [h, Nat.one_mul]
  | ⟨1, _⟩ => show win0_4.index t (1 : Fin 2) * 512 + 1 * k.val = k.val; rw [h']; omega

theorem emb5 (t : Fin cfg0.N) (r : Fin 256) (k : Fin 256) :
    ((cfg0.win 5).blk t).view.emb (ix2 r k) = (ix2 (rowOf t r) (colG k) : S9216x2048.Idx) := by
  obtain ⟨-, -, -, -, -, ⟨h, h'⟩, -⟩ := idx_facts t
  refine funext fun a => Fin.ext ?_
  match a with
  | ⟨0, _⟩ => show win0_5.index t (0 : Fin 2) * 256 + 1 * r.val = t.val * 256 + r.val; rw [h, Nat.one_mul]
  | ⟨1, _⟩ => show win0_5.index t (1 : Fin 2) * 256 + 1 * k.val = 512 + k.val; rw [h']; omega

theorem emb6 (t : Fin cfg0.N) (r : Fin 256) (k : Fin 256) :
    ((cfg0.win 6).blk t).view.emb (ix2 r k) = (ix2 (rowOf t r) (colR k) : S9216x2048.Idx) := by
  obtain ⟨-, -, -, -, -, -, ⟨h, h'⟩, -⟩ := idx_facts t
  refine funext fun a => Fin.ext ?_
  match a with
  | ⟨0, _⟩ => show win0_6.index t (0 : Fin 2) * 256 + 1 * r.val = t.val * 256 + r.val; rw [h, Nat.one_mul]
  | ⟨1, _⟩ => show win0_6.index t (1 : Fin 2) * 256 + 1 * k.val = 1280 + k.val; rw [h']; omega

theorem emb7 (t : Fin cfg0.N) (r : Fin 256) (k : Fin 1024) :
    ((cfg0.win 7).blk t).view.emb (ix2 r k) = (ix2 (rowOf t r) k : S9216x1024.Idx) := by
  obtain ⟨-, -, -, -, -, -, -, ⟨h, h'⟩, -⟩ := idx_facts t
  refine funext fun a => Fin.ext ?_
  match a with
  | ⟨0, _⟩ => show win0_7.index t (0 : Fin 2) * 256 + 1 * r.val = t.val * 256 + r.val; rw [h, Nat.one_mul]
  | ⟨1, _⟩ => show win0_7.index t (1 : Fin 2) * 1024 + 1 * k.val = k.val; rw [h']; omega

theorem emb13 (t : Fin cfg0.N) (r : Fin 256) (k : Fin 1024) :
    ((cfg0.win 13).blk t).view.emb (ix2 r k) = (ix2 (rowOf t r) k : S9216x1024.Idx) := by
  obtain ⟨-, -, -, -, -, -, -, -, -, -, -, -, -, h, h'⟩ := idx_facts t
  refine funext fun a => Fin.ext ?_
  match a with
  | ⟨0, _⟩ => show win0_13.index t (0 : Fin 2) * 256 + 1 * r.val = t.val * 256 + r.val; rw [h, Nat.one_mul]
  | ⟨1, _⟩ => show win0_13.index t (1 : Fin 2) * 1024 + 1 * k.val = k.val; rw [h']; omega

theorem emb8 (t : Fin cfg0.N) (z : Fin 1) (j : Fin 8) (k : Fin 1024) :
    ((cfg0.win 8).blk t).view.emb (ix3 z j k) = (ix3 (t : Fin 36) j k : S36x8x1024.Idx) := by
  obtain ⟨-, -, -, -, -, -, -, -, ⟨h, h', h''⟩, -⟩ := idx_facts t
  refine funext fun a => Fin.ext ?_
  match a with
  | ⟨0, _⟩ => show win0_8.index t (0 : Fin 3) * 1 + 1 * z.val = t.val; rw [h]; omega
  | ⟨1, _⟩ => show win0_8.index t (1 : Fin 3) * 8 + 1 * j.val = j.val; rw [h']; omega
  | ⟨2, _⟩ => show win0_8.index t (2 : Fin 3) * 1024 + 1 * k.val = k.val; rw [h'']; omega

theorem emb9 (t : Fin cfg0.N) (r : Fin 1) (k : Fin 256) :
    ((cfg0.win 9).blk t).view.emb (ix2 r k) = (ix2 r k : S1x256.Idx) := by
  obtain ⟨-, -, -, -, -, -, -, -, -, ⟨h, h'⟩, -⟩ := idx_facts t
  refine funext fun a => Fin.ext ?_
  match a with
  | ⟨0, _⟩ => show win0_9.index t (0 : Fin 2) * 1 + 1 * r.val = r.val; rw [h]; omega
  | ⟨1, _⟩ => show win0_9.index t (1 : Fin 2) * 256 + 1 * k.val = k.val; rw [h']; omega

theorem blk9 (c : Dev nD) (t : Fin cfg0.N) : iblk m c 9 t = V m c main_arg8 := funext fun y => by
  obtain ⟨r, k, rfl⟩ : ∃ (r : Fin 1) (k : Fin 256), y = ix2 r k := ⟨y 0, y 1, eq_ix2 y⟩
  exact congrArg (V m c main_arg8) (emb9 t r k)

theorem emb10 (t : Fin cfg0.N) (r : Fin 1024) (k : Fin 1024) :
    ((cfg0.win 10).blk t).view.emb (ix2 r k) = (ix2 r k : S1024x1024.Idx) := by
  obtain ⟨-, -, -, -, -, -, -, -, -, -, ⟨h, h'⟩, -⟩ := idx_facts t
  refine funext fun a => Fin.ext ?_
  match a with
  | ⟨0, _⟩ => show win0_10.index t (0 : Fin 2) * 1024 + 1 * r.val = r.val; rw [h]; omega
  | ⟨1, _⟩ => show win0_10.index t (1 : Fin 2) * 1024 + 1 * k.val = k.val; rw [h']; omega

theorem blk10 (c : Dev nD) (t : Fin cfg0.N) : iblk m c 10 t = V m c main_arg9 := funext fun y => by
  obtain ⟨r, k, rfl⟩ : ∃ (r : Fin 1024) (k : Fin 1024), y = ix2 r k := ⟨y 0, y 1, eq_ix2 y⟩
  exact congrArg (V m c main_arg9) (emb10 t r k)

theorem emb11 (t : Fin cfg0.N) (r : Fin 1) (k : Fin 1024) :
    ((cfg0.win 11).blk t).view.emb (ix2 r k) = (ix2 r k : S1x1024.Idx) := by
  obtain ⟨-, -, -, -, -, -, -, -, -, -, -, ⟨h, h'⟩, -⟩ := idx_facts t
  refine funext fun a => Fin.ext ?_
  match a with
  | ⟨0, _⟩ => show win0_11.index t (0 : Fin 2) * 1 + 1 * r.val = r.val; rw [h]; omega
  | ⟨1, _⟩ => show win0_11.index t (1 : Fin 2) * 1024 + 1 * k.val = k.val; rw [h']; omega

theorem blk11 (c : Dev nD) (t : Fin cfg0.N) : iblk m c 11 t = V m c main_arg10 := funext fun y => by
  obtain ⟨r, k, rfl⟩ : ∃ (r : Fin 1) (k : Fin 1024), y = ix2 r k := ⟨y 0, y 1, eq_ix2 y⟩
  exact congrArg (V m c main_arg10) (emb11 t r k)

theorem emb12 (t : Fin cfg0.N) (r : Fin 1) (k : Fin 1024) :
    ((cfg0.win 12).blk t).view.emb (ix2 r k) = (ix2 r k : S1x1024.Idx) := by
  obtain ⟨-, -, -, -, -, -, -, -, -, -, -, -, ⟨h, h'⟩, -⟩ := idx_facts t
  refine funext fun a => Fin.ext ?_
  match a with
  | ⟨0, _⟩ => show win0_12.index t (0 : Fin 2) * 1 + 1 * r.val = r.val; rw [h]; omega
  | ⟨1, _⟩ => show win0_12.index t (1 : Fin 2) * 1024 + 1 * k.val = k.val; rw [h']; omega

theorem blk12 (c : Dev nD) (t : Fin cfg0.N) : iblk m c 12 t = V m c main_arg11 := funext fun y => by
  obtain ⟨r, k, rfl⟩ : ∃ (r : Fin 1) (k : Fin 1024), y = ix2 r k := ⟨y 0, y 1, eq_ix2 y⟩
  exact congrArg (V m c main_arg11) (emb12 t r k)

theorem blk0 (c : Dev nD) (t : Fin cfg0.N) (r : Fin 256) (k : Fin 256) :
    iblk m c 0 t (ix2 r k) = V m c main_arg0 (ix2 (rowOf t r) k) := congrArg (V m c main_arg0) (emb0 t r k)

theorem blk1 (c : Dev nD) (t : Fin cfg0.N) (r : Fin 256) (k : Fin 256) :
    iblk m c 1 t (ix2 r k) = V m c main_arg1 (ix2 (rowOf t r) k) := congrArg (V m c main_arg1) (emb1 t r k)

theorem blk2 (c : Dev nD) (t : Fin cfg0.N) (r : Fin 256) (k : Fin 256) :
    iblk m c 2 t (ix2 r k) = V m c main_arg2 (ix2 (rowOf t r) k) := congrArg (V m c main_arg2) (emb2 t r k)

theorem blk3 (c : Dev nD) (t : Fin cfg0.N) (r : Fin 256) (k : Fin 256) :
    iblk m c 3 t (ix2 r k) = V m c main_arg3 (ix2 (rowOf t r) k) := congrArg (V m c main_arg3) (emb3 t r k)

theorem blk4 (c : Dev nD) (t : Fin cfg0.N) (r : Fin 256) (k : Fin 512) :
    iblk m c 4 t (ix2 r k) = V m c main_arg4 (ix2 (rowOf t r) k) := congrArg (V m c main_arg4) (emb4 t r k)

theorem blk5 (c : Dev nD) (t : Fin cfg0.N) (r : Fin 256) (k : Fin 256) :
    iblk m c 5 t (ix2 r k) = V m c main_arg5 (ix2 (rowOf t r) (colG k)) := congrArg (V m c main_arg5) (emb5 t r k)

theorem blk6 (c : Dev nD) (t : Fin cfg0.N) (r : Fin 256) (k : Fin 256) :
    iblk m c 6 t (ix2 r k) = V m c main_arg5 (ix2 (rowOf t r) (colR k)) := congrArg (V m c main_arg5) (emb6 t r k)

theorem blk7 (c : Dev nD) (t : Fin cfg0.N) (r : Fin 256) (k : Fin 1024) :
    iblk m c 7 t (ix2 r k) = V m c main_arg6 (ix2 (rowOf t r) k) := congrArg (V m c main_arg6) (emb7 t r k)

theorem blk8 (c : Dev nD) (t : Fin cfg0.N) (z : Fin 1) (j : Fin 8) (k : Fin 1024) :
    iblk m c 8 t (ix3 z j k) = V m c main_arg7 (ix3 (t : Fin 36) j k) := congrArg (V m c main_arg7) (emb8 t z j k)

theorem flushed13_eq (c : Dev nD) (t : Fin cfg0.N) :
    (dats m 0 c).flushed 13 t = ((cfg0.win 13).blk t).view.read (Elt Ideal)
      (output (V m c main_arg0) (V m c main_arg1) (V m c main_arg2) (V m c main_arg3) (V m c main_arg4) (V m c main_arg5) (V m c main_arg6)
        (V m c main_arg7) (V m c main_arg8) (V m c main_arg9) (V m c main_arg10) (V m c main_arg11)) := by
  rw [flushed13, blk9, blk10, blk11, blk12]
  refine funext fun y => ?_
  obtain ⟨r, d, rfl⟩ : ∃ (r : Fin 256) (d : Fin 1024), y = ix2 r d := ⟨y 0, y 1, eq_ix2 y⟩
  refine (out13_eq _ _ _ _ _ _ _ _ _ _ _ _ _ r d).trans (Eq.trans ?_ (congrArg (output _ _ _ _ _ _ _ _ _ _ _ _) (emb13 t r d).symm))
  have ht : tileOf (rowOf t r) = t := tile_row t r
  unfold output
  show normed (resid _ _ _ _) _ _ d = normed (resid _ (fun k => V m c main_arg7 (ix3 (tileOf (rowOf t r)) 2 k)) _ _) _ _ d
  rw [ht]
  refine congrArg (fun z => normed z _ _ d) ?_
  have e7 := funext fun k => blk7 m c t r k
  have e8 := funext fun k => blk8 m c t 0 2 k
  have eg := funext fun k => congrArg₂ (fun a b : EReal => a + b) (blk0 m c t r k) (blk1 m c t r k)
  have er := funext fun k => congrArg₂ (fun a b : EReal => a + b) (blk2 m c t r k) (blk3 m c t r k)
  have e4 := funext fun k => blk4 m c t r k
  have e5 := funext fun k => blk5 m c t r k
  have e6 := funext fun k => blk6 m c t r k
  refine congrArg₂ (fun a b => a b) (congrArg₂ (fun a b => a b) (congrArg₂ resid e7 e8) ?_) rfl
  exact congrArg₂ (fun a b => a b) (congrArg₂ (fun a b => a b) (congrArg₂ (fun a b => a b) (congrArg₂ (fun a b => a b) (congrArg₂ mixed eg er) e5) e6) rfl) e4

/-- Every entry is in some block. -/
theorem mem13 (i : S9216x1024.Idx) : ∃ t : Fin cfg0.N, i ∈ ((cfg0.win 13).blk t).view.set := by
  obtain ⟨a, d, rfl⟩ : ∃ (a : Fin 9216) (d : Fin 1024), i = ix2 a d := ⟨i 0, i 1, eq_ix2 i⟩
  have h := ((cfg0.win 13).blk (tileOf a)).view.emb_mem_set (ix2 (⟨a.val % 256, by omega⟩ : Fin 256) d)
  rw [show ((cfg0.win 13).blk (tileOf a)).view.emb (ix2 (⟨a.val % 256, by omega⟩ : Fin 256) d) = ix2 a d from
    (emb13 (tileOf a) _ d).trans (congrArg (fun a => ix2 a d) (row_tile a))] at h
  exact ⟨tileOf a, h⟩

/-- The call ends with its result at this function of its arguments, and the arguments unchanged. -/
theorem run : θ_run defs (onTc (τ := τ) (main (F := Ideal))) ⟨m, fun _ => 0, ρ⟩ fun r => ∀ c : Dev nD,
      r.2.mem ((c : Thread nD τ).loc main_v0) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (run_blocks m ρ)
  obtain ⟨h13, hk⟩ := h c
  refine ⟨h13.trans ?_, hk⟩
  rw [(dats m 0 c).arrAt_eq_of_cover 13 _ (fun t _ => flushed13_eq m c t)
    fun i => (mem13 i).imp fun t h => ⟨flush0_13 t, h⟩, V_main_arg0, V_main_arg1, V_main_arg2, V_main_arg3, V_main_arg4, V_main_arg5, V_main_arg6, V_main_arg7, V_main_arg8, V_main_arg9, V_main_arg10, V_main_arg11]

section Host

open Cert.MixRefIdeal (S9216x4x64 S9216x4x1 S9216x4 S4x64 S1x4x64 S_ S36x256x1024)
open Cert.MixRefIdeal.Facts₀

abbrev headsH (x : Vec Ideal S9216x256 .f32) : Vec Ideal S9216x4x64 .f32 := shapeCast S9216x4x64 x shapeCasts_S9216x256_S9216x4x64

abbrev flatH (x : Vec Ideal S9216x4x64 .f32) : Vec Ideal S9216x256 .f32 := shapeCast S9216x256 x shapeCasts_S9216x4x64_S9216x256

/-- Column `e` of head `h`. -/
def colOf (h : Fin 4) (e : Fin 64) : Fin 256 := ⟨h.val * 64 + e.val, by omega⟩

theorem headsH_at (x : Vec Ideal S9216x256 .f32) (a : Fin 9216) (h : Fin 4) (e : Fin 64) : headsH x (ix3 a h e) = x (ix2 a (colOf h e)) := by
  pointwise [colOf]

theorem flatH_at (x : Vec Ideal S9216x4x64 .f32) (a : Fin 9216) (j : Fin 256) :
    flatH x (ix2 a j) = x (ix3 a ⟨j.val / 64, by omega⟩ ⟨j.val % 64, by omega⟩) := by
  pointwise

theorem col_head (j : Fin 256) : colOf ⟨j.val / 64, by omega⟩ ⟨j.val % 64, by omega⟩ = j :=
  Fin.ext (show j.val / 64 * 64 + j.val % 64 = j.val by omega)

abbrev meanH4 (x : Vec Ideal S9216x4x64 .f32) : Vec Ideal S9216x4x1 .f32 :=
  Host.divf (F := Ideal) (φ := .f32) (broadcastInDim S9216x4x1 ![0, 1] bcast_S9216x4_S9216x4x1_0_1
    (Host.reduceAdd x (constant (F := Ideal) S_ .f32 0x00000000#32) reducesTo_S9216x4x64_S9216x4_d2 h_S_))
    (broadcastInDim S9216x4x1 ![] bcast_S_S9216x4x1 (constant (F := Ideal) S_ .f32 0x42800000#32))

theorem meanH4_at (x : Vec Ideal S9216x4x64 .f32) (y : Fin 256 → EReal) (a : Fin 9216) (h : Fin 4) (u : Fin 1) (e : Fin 64)
    (hx : ∀ e, x (ix3 a h e) = y (colOf h e)) : meanH4 x (ix3 a h u) = (headMean y (colOf h e) : EReal) := by
  have h1 : meanH4 x (ix3 a h u) = (Ideal.div (∑ e : Fin 64, x (ix3 a h e)) (Ideal.ofBits .f32 0x42800000#32) : EReal) := by
    pointwise
  refine h1.trans ?_
  unfold headMean
  refine congrArg (fun s => Ideal.div s _) (Finset.sum_congr rfl fun e' _ => (hx e').trans (congrArg y (Fin.ext ?_)))
  show h.val * 64 + e'.val = (h.val * 64 + e.val) / 64 * 64 + e'.val
  omega

abbrev wideH (x : Vec Ideal S9216x4x1 .f32) : Vec Ideal S9216x4x64 .f32 :=
  broadcastInDim S9216x4x64 ![0, 1, 2] bcast_S9216x4x1_S9216x4x64_0_1_2 x

theorem wideH_at (x : Vec Ideal S9216x4x1 .f32) (a : Fin 9216) (h : Fin 4) (e : Fin 64) : wideH x (ix3 a h e) = x (ix3 a h 0) := by
  pointwise

abbrev rmsH (x : Vec Ideal S9216x4x64 .f32) : Vec Ideal S9216x4x64 .f32 :=
  mulf (F := Ideal) (φ := .f32) x (wideH (Host.rsqrt (F := Ideal) (φ := .f32) (addf (F := Ideal) (φ := .f32)
    (meanH4 (mulf (F := Ideal) (φ := .f32) x x)) (broadcastInDim S9216x4x1 ![] bcast_S_S9216x4x1 (constant (F := Ideal) S_ .f32 0x358637BD#32)))))

theorem rmsH_at (x : Vec Ideal S9216x4x64 .f32) (y : Fin 256 → EReal) (a : Fin 9216) (h : Fin 4) (e : Fin 64)
    (hx : ∀ e, x (ix3 a h e) = y (colOf h e)) : rmsH x (ix3 a h e) = (rms y (colOf h e) : EReal) := by
  refine congrArg₂ (fun a b : EReal => a * b) (hx e) ((wideH_at _ a h e).trans ?_)
  refine congrArg (fun a : EReal => Ideal.rsqrt (a + eps)) (meanH4_at _ (fun k => y k * y k) a h 0 e fun e' => ?_)
  exact congrArg₂ (fun a b : EReal => a * b) (hx e') (hx e')

abbrev cenH (x : Vec Ideal S9216x4x64 .f32) : Vec Ideal S9216x4x64 .f32 := subf (F := Ideal) (φ := .f32) x (wideH (meanH4 x))

theorem cenH_at (x : Vec Ideal S9216x4x64 .f32) (y : Fin 256 → EReal) (a : Fin 9216) (h : Fin 4) (e : Fin 64)
    (hx : ∀ e, x (ix3 a h e) = y (colOf h e)) : cenH x (ix3 a h e) = (centred y (colOf h e) : EReal) :=
  congrArg₂ (fun a b : EReal => a - b) (hx e) ((wideH_at _ a h e).trans (meanH4_at x y a h 0 e hx))

abbrev gateH (x : Vec Ideal S9216x256 .f32) : Vec Ideal S9216x256 .f32 :=
  mulf (F := Ideal) (φ := .f32) x (Host.divf (F := Ideal) (φ := .f32) (broadcastInDim S9216x256 ![] bcast_S_S9216x256 (constant (F := Ideal) S_ .f32 0x3F800000#32))
    (addf (F := Ideal) (φ := .f32) (broadcastInDim S9216x256 ![] bcast_S_S9216x256 (constant (F := Ideal) S_ .f32 0x3F800000#32))
      (Host.exp (F := Ideal) (φ := .f32) (Host.negf (F := Ideal) (φ := .f32) x))))

theorem gateH_at (x : Vec Ideal S9216x256 .f32) (a : Fin 9216) (j : Fin 256) : gateH x (ix2 a j) = (gate (x (ix2 a j)) : EReal) := by
  have h : gateH x (ix2 a j) = (x (ix2 a j) * Ideal.div 1 (1 + Ideal.exp (-(x (ix2 a j)))) : EReal) := by
    pointwise
  refine h.trans ?_
  unfold gate Ideal.logistic
  rfl

abbrev glaH (x t : Vec Ideal S9216x256 .f32) (g : Vec Ideal S1x256 .f32) : Vec Ideal S9216x256 .f32 :=
  flatH (mulf (F := Ideal) (φ := .f32) (mulf (F := Ideal) (φ := .f32) (rmsH (headsH x)) (broadcastInDim S9216x4x64 ![0, 1, 2] bcast_S1x4x64_S9216x4x64_0_1_2
    (broadcastInDim S1x4x64 ![1, 2] bcast_S4x64_S1x4x64_1_2 (shapeCast S4x64 g shapeCasts_S1x256_S4x64)))) (headsH (gateH t)))

theorem parH4_at (g : Vec Ideal S1x256 .f32) (a : Fin 9216) (h : Fin 4) (e : Fin 64) :
    broadcastInDim S9216x4x64 ![0, 1, 2] bcast_S1x4x64_S9216x4x64_0_1_2
      (broadcastInDim S1x4x64 ![1, 2] bcast_S4x64_S1x4x64_1_2 (shapeCast S4x64 g shapeCasts_S1x256_S4x64)) (ix3 a h e)
      = g (ix2 0 (colOf h e)) := by
  pointwise [colOf]

theorem glaH_at (x t : Vec Ideal S9216x256 .f32) (g : Vec Ideal S1x256 .f32) (a : Fin 9216) (j : Fin 256) :
    glaH x t g (ix2 a j) = (rms (fun k => x (ix2 a k)) j * g (ix2 0 j) * gate (t (ix2 a j)) : EReal) := by
  refine (flatH_at _ a j).trans ?_
  refine (congrArg₂ (fun a b : EReal => a * b) (congrArg₂ (fun a b : EReal => a * b)
    (rmsH_at (headsH x) (fun k => x (ix2 a k)) a _ _ fun e => headsH_at x a _ e) (parH4_at g a _ _))
    ((headsH_at (gateH t) a _ _).trans (gateH_at t a _))).trans ?_
  rw [col_head]

abbrev retH (x t : Vec Ideal S9216x256 .f32) : Vec Ideal S9216x256 .f32 :=
  flatH (mulf (F := Ideal) (φ := .f32) (rmsH (cenH (headsH x))) (headsH (gateH t)))

theorem retH_at (x t : Vec Ideal S9216x256 .f32) (a : Fin 9216) (j : Fin 256) :
    retH x t (ix2 a j) = (rms (centred fun k => x (ix2 a k)) j * gate (t (ix2 a j)) : EReal) := by
  refine (flatH_at _ a j).trans ?_
  refine (congrArg₂ (fun a b : EReal => a * b)
    (rmsH_at (cenH (headsH x)) (centred fun k => x (ix2 a k)) a _ _ fun e => cenH_at (headsH x) (fun k => x (ix2 a k)) a _ e fun e => headsH_at x a _ e)
    ((headsH_at (gateH t) a _ _).trans (gateH_at t a _))).trans ?_
  rw [col_head]

theorem piecesH_at (u v : Vec Ideal S9216x256 .f32) (w : Vec Ideal S9216x512 .f32) (r : Fin 9216) (k : Fin 1024) :
    concatenate S9216x1024 1 [⟨S9216x256, u⟩, ⟨S9216x256, v⟩, ⟨S9216x512, w⟩] concatenates_S9216x256_S9216x256_S9216x512_S9216x1024_d1 (ix2 r k)
      = (if h : k.val < 256 then u (ix2 r ⟨k.val, h⟩) else if h' : k.val < 512 then v (ix2 r ⟨k.val - 256, by omega⟩)
        else w (ix2 r ⟨k.val - 512, by omega⟩) : EReal) := by
  pointwise
  by_cases h : k.val < 256
  · rw [dif_pos h, dif_pos h]
  · rw [dif_neg h, dif_neg h]
    by_cases h' : k.val < 512
    · rw [dif_pos h', dif_pos (by omega)]
    · rw [dif_neg h', dif_neg (by omega)]
      exact congrArg (fun j => w (ix2 r j)) (Fin.ext (show k.val - 256 - 256 = k.val - 512 by omega))

theorem projH_at (h : Vec Ideal S9216x1024 .f32) (w : Vec Ideal S1024x1024 .bf16) (a : Fin 9216) (d : Fin 1024) :
    Host.dotGeneral (F := Ideal) (φ₁ := .f32) (φ₂ := .f32) Cert.MixRefIdeal.dot_S9216x1024_S1024x1024_S9216x1024_1_0_0_1_n_n none h
        (extf .f32 w Cert.MixRefIdeal.Facts₀.bitsLt_bf16_f32) (ix2 a d)
      = (∑ k : Fin 1024, (h (ix2 a k) : EReal) * w (ix2 k d) : EReal) := by
  pointwise

theorem mod2_at (mod : Vec Ideal S36x8x1024 .f32) (t : Fin 36) (r : Fin 256) (d : Fin 1024) :
    modH 2 mod slices_S36x8x1024_S36x1x1024_0_2_0 (ix3 t r d) = mod (ix3 t 2 d) := by
  pointwise

theorem gSlice_at (y : Vec Ideal S9216x2048 .f32) (a : Fin 9216) (k : Fin 256) :
    extractStridedSlice S9216x256 ![0, 512] y slices_S9216x2048_S9216x256_0_512 (ix2 a k) = y (ix2 a (colG k)) := by
  pointwise [colG]

theorem rSlice_at (y : Vec Ideal S9216x2048 .f32) (a : Fin 9216) (k : Fin 256) :
    extractStridedSlice S9216x256 ![0, 1280] y slices_S9216x2048_S9216x256_0_1280 (ix2 a k) = y (ix2 a (colR k)) := by
  pointwise [colR]

variable (y0 y1 y2 y3 : Vec Ideal S9216x256 .f32) (y4 : Vec Ideal S9216x512 .f32) (y5 : Vec Ideal S9216x2048 .f32)
  (y6 : Vec Ideal S9216x1024 .f32) (y7 : Vec Ideal S36x8x1024 .f32) (y8 : Vec Ideal S1x256 .f32) (y9 : Vec Ideal S1024x1024 .bf16)
  (y10 y11 : Vec Ideal S1x1024 .f32)

abbrev mixH : Vec Ideal S9216x1024 .f32 :=
  concatenate S9216x1024 1 [⟨S9216x256, glaH (addf (F := Ideal) (φ := .f32) y0 y1) (extractStridedSlice S9216x256 ![0, 512] y5 slices_S9216x2048_S9216x256_0_512) y8⟩,
    ⟨S9216x256, retH (addf (F := Ideal) (φ := .f32) y2 y3) (extractStridedSlice S9216x256 ![0, 1280] y5 slices_S9216x2048_S9216x256_0_1280)⟩,
    ⟨S9216x512, y4⟩] concatenates_S9216x256_S9216x256_S9216x512_S9216x1024_d1

theorem mixH_at (a : Fin 9216) (k : Fin 1024) : mixH y0 y1 y2 y3 y4 y5 y8 (ix2 a k)
    = (mixed (fun k => y0 (ix2 a k) + y1 (ix2 a k)) (fun k => y2 (ix2 a k) + y3 (ix2 a k)) (fun k => y5 (ix2 a (colG k)))
      (fun k => y5 (ix2 a (colR k))) (fun k => y8 (ix2 0 k)) (fun k => y4 (ix2 a k)) k : EReal) := by
  refine (piecesH_at _ _ _ a k).trans ?_
  unfold mixed
  by_cases h : k.val < 256
  · rw [dif_pos h, dif_pos h, glaH_at, gSlice_at]
    rfl
  · rw [dif_neg h, dif_neg h]
    by_cases h' : k.val < 512
    · rw [dif_pos h', dif_pos h', retH_at, rSlice_at]
      rfl
    · rw [dif_neg h', dif_neg h']

theorem host_output : normH (resH y6 (Host.dotGeneral (F := Ideal) (φ₁ := .f32) (φ₂ := .f32)
      Cert.MixRefIdeal.dot_S9216x1024_S1024x1024_S9216x1024_1_0_0_1_n_n none (mixH y0 y1 y2 y3 y4 y5 y8)
      (extf .f32 y9 Cert.MixRefIdeal.Facts₀.bitsLt_bf16_f32)) (modH 2 y7 slices_S36x8x1024_S36x1x1024_0_2_0)) y10 y11
    = output y0 y1 y2 y3 y4 y5 y6 y7 y8 y9 y10 y11 := by
  refine funext fun i => ?_
  obtain ⟨a, d, rfl⟩ : ∃ (a : Fin 9216) (d : Fin 1024), i = ix2 a d := ⟨i 0, i 1, eq_ix2 i⟩
  refine (normH_at _ _ _ a d).trans ?_
  refine congrArg (fun z => normed z _ _ d) (funext fun k => ?_)
  have hr := resH_at y6 (Host.dotGeneral (F := Ideal) (φ₁ := .f32) (φ₂ := .f32)
      Cert.MixRefIdeal.dot_S9216x1024_S1024x1024_S9216x1024_1_0_0_1_n_n none (mixH y0 y1 y2 y3 y4 y5 y8)
      (extf .f32 y9 Cert.MixRefIdeal.Facts₀.bitsLt_bf16_f32)) (modH 2 y7 slices_S36x8x1024_S36x1x1024_0_2_0) (tileOf a) ⟨a.val % 256, by omega⟩ k
  rw [row_tile] at hr
  refine hr.trans ?_
  refine congrArg₂ (fun b s : EReal => alpha * y6 (ix2 a k) + b * s) (mod2_at y7 (tileOf a) _ k) ((projH_at _ _ a k).trans ?_)
  exact Finset.sum_congr rfl fun e _ => congrArg (fun b : EReal => b * y9 (ix2 e k)) (mixH_at y0 y1 y2 y3 y4 y5 y8 a e)

end Host

/-- With equal arguments the call and its reference end with equal results. -/
theorem meets : Cert.algebraic_MixIdeal_MixRefIdeal := fun m g m' g' _ hw =>
  ⟨fun c => output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)),
    run m g,
    (θ_run Cert.MixRefIdeal.defs _ _).mono (fun r h c => by
      obtain ⟨h0, hk⟩ := h c
      obtain ⟨e0, e1, e2, e3, e4, e5, e6, e7, e8, e9, e10, e11⟩ := hw c
      refine ⟨h0.trans ?_, hk⟩
      unfold Cert.MixRefIdeal.Value.res_main_v87
      rw [e0, e1, e2, e3, e4, e5, e6, e7, e8, e9, e10, e11]
      exact host_output _ _ _ _ _ _ _ _ _ _ _ _)
      (Cert.MixRefIdeal.Value.run (F := Ideal) m' g')⟩

end Cert.Mixed

end
-- ==== Proof.lean ====
/-
  The claims: the two exchanges of eight devices that move the big weights. The all-to-all of the packed weight gradients
  ends with the eight blocks of what its reference computes on one device; the all-gather of the updated weights ends, on
  every device, with what its reference holds on one. Each runs to a quiet end with its argument unchanged, and meets
  its reference bit for bit and over the extended reals. The five AdamW updates of the packed weights, the big ones' from
  the gradients so exchanged, run to a quiet end too, and meet their reference over the extended reals. So do the loss and
  the last step of the input's gradient; the conditioning and its gradients; the input projection and the feed-forward
  layer's upward projection, the gradients of their weights and the latter's of its input; and the attention.
-/
module

public import proofs.«01_k».proof.Defs
public import proofs.«01_k».proof.Proof.Gen.Exchange
public import proofs.«01_k».proof.Proof.Gen.Exchange.Skeleton
public import proofs.«01_k».proof.Proof.Gen.Exchange.Launch
public import proofs.«01_k».proof.Proof.Gen.Exchange.Points
public import proofs.«01_k».proof.Proof.Gen.Exchange.Frame
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeIdeal.Frame
public import proofs.«01_k».proof.Proof.Gen.ExchangeRefIdeal
public import proofs.«01_k».proof.Proof.Gen.ExchangeRefIdeal.Run
public import proofs.«01_k».proof.Proof.Gen.ExchangeRef
public import proofs.«01_k».proof.Proof.Gen.ExchangeRef.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRef
public import proofs.«01_k».proof.Proof.Gen.Update.Frame
public import proofs.«01_k».proof.Proof.Gen.UpdateIdeal.Value
public import proofs.«01_k».proof.Proof.Gen.UpdateRefIdeal.Run
public import proofs.«01_k».proof.Proof.Gen.UpdateSmall.Frame
public import proofs.«01_k».proof.Proof.Gen.UpdateSmallIdeal.Value
public import proofs.«01_k».proof.Proof.Gen.UpdateSmallRefIdeal.Run
public import proofs.«01_k».proof.Proof.Gen.UpdateConv.Frame
public import proofs.«01_k».proof.Proof.Gen.UpdateConvIdeal.Value
public import proofs.«01_k».proof.Proof.Gen.UpdateConvRefIdeal.Run
public import proofs.«01_k».proof.Proof.Gen.UpdateAda.Frame
public import proofs.«01_k».proof.Proof.Gen.UpdateAdaIdeal.Value
public import proofs.«01_k».proof.Proof.Gen.UpdateAdaRefIdeal.Run
public import proofs.«01_k».proof.Proof.Gen.UpdateCctx.Frame
public import proofs.«01_k».proof.Proof.Gen.UpdateCctxIdeal.Value
public import proofs.«01_k».proof.Proof.Gen.UpdateCctxRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.InputGrad.Frame
public import proofs.«01_k».proof.Proof.Gen.InputGradIdeal.Value
public import proofs.«01_k».proof.Proof.Gen.InputGradRefIdeal.Run
public import proofs.«01_k».proof.Proof.Gen.Modulation.Frame
public import proofs.«01_k».proof.Proof.Gen.ModulationIdeal.Value
public import proofs.«01_k».proof.Proof.Gen.ModulationRefIdeal.Run
public import proofs.«01_k».proof.Proof.Gen.ModulationGrad.Frame
public import proofs.«01_k».proof.Proof.Gen.ModulationGradIdeal.Value
public import proofs.«01_k».proof.Proof.Gen.ModulationGradRefIdeal.Run
public import proofs.«01_k».proof.Proof.Gen.Project.Frame
public import proofs.«01_k».proof.Proof.Gen.ProjectIdeal.Value
public import proofs.«01_k».proof.Proof.Gen.ProjectRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.ProjectGrad.Frame
public import proofs.«01_k».proof.Proof.Gen.ProjectGradIdeal.Value
public import proofs.«01_k».proof.Proof.Gen.ProjectGradRefIdeal.Run
public import proofs.«01_k».proof.Proof.Gen.UpGrad.Frame
public import proofs.«01_k».proof.Proof.Gen.UpGradIdeal.Value
public import proofs.«01_k».proof.Proof.Gen.UpGradRefIdeal.Run
public import proofs.«01_k».proof.Proof.Gen.UpInputGrad.Frame
public import proofs.«01_k».proof.Proof.Gen.UpInputGradIdeal.Value
public import proofs.«01_k».proof.Proof.Gen.UpInputGradRefIdeal.Run
public import proofs.«01_k».proof.Proof.Gen.Attention.Frame
public import proofs.«01_k».proof.Proof.Gen.AttentionIdeal.Value
public import proofs.«01_k».proof.Proof.Gen.AttentionRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.ConvGrad.Frame
public import proofs.«01_k».proof.Proof.Gen.ConvGradIdeal.Value
public import proofs.«01_k».proof.Proof.Gen.ConvGradRefIdeal.Run
public import proofs.«01_k».proof.Proof.Gen.NormGrad.Frame
public import proofs.«01_k».proof.Proof.Gen.NormGradIdeal.Value
public import proofs.«01_k».proof.Proof.Gen.NormGradRefIdeal.Run
public import proofs.«01_k».proof.Proof.Gen.Mix.Frame
public import proofs.«01_k».proof.Proof.Gen.MixIdeal.Value
public import proofs.«01_k».proof.Proof.Gen.MixRefIdeal.Run
public import proofs.«01_k».proof.Proof.AllToAllClaims
public import proofs.«01_k».proof.Proof.AllGatherClaims
public import proofs.«01_k».proof.Proof.AdamBig
public import proofs.«01_k».proof.Proof.AdamOneBlock
public import proofs.«01_k».proof.Proof.AdamAda
public import proofs.«01_k».proof.Proof.InputGrad
public import proofs.«01_k».proof.Proof.LossHead
public import proofs.«01_k».proof.Proof.Conditioning
public import proofs.«01_k».proof.Proof.CondGrad
public import proofs.«01_k».proof.Proof.InProj
public import proofs.«01_k».proof.Proof.FfnUp
public import proofs.«01_k».proof.Proof.InProjGrad
public import proofs.«01_k».proof.Proof.FfnUpGrad
public import proofs.«01_k».proof.Proof.FfnUpDx
public import proofs.«01_k».proof.Proof.Attend
public import proofs.«01_k».proof.Proof.FfnDown
public import proofs.«01_k».proof.Proof.ConvBack
public import proofs.«01_k».proof.Proof.NormBack
public import proofs.«01_k».proof.Proof.Mix
public import Idealize.ShloMosaic.Lib.Claim
public import Idealize.ShloMosaic.Adequacy
public import Idealize.ShloMosaic.Init

@[expose] public section

noncomputable section

namespace Cert.Proof

open Idealize.ShloMosaic Idealize.SL.Sem Cert.Exchange

/-- Whatever the values of the format are, the all-to-all runs to a quiet end, its argument unchanged. -/
theorem frame_exchange : Cert.quiescent_Exchange := fun m g _ =>
  (θ_run Cert.ExchangeIdeal.defs _ _).mono (fun _ h => ⟨fun c => (h.1 c).1, h.2⟩) (Cert.AllToAll.run_main (F := Bits) m g)

/-- The same of its idealization. -/
theorem frame_exchangeIdeal : Cert.quiescent_ExchangeIdeal := fun m g _ =>
  (θ_run Cert.ExchangeIdeal.defs _ _).mono (fun _ h => ⟨fun c => (h.1 c).1, h.2⟩) (Cert.AllToAll.run_main (F := Ideal) m g)

/-- The all-to-all's reference, which has no semaphore, runs, its argument unchanged. -/
theorem frame_exchangeRef : Cert.quiescent_ExchangeRef := fun m g _ =>
  (θ_run Cert.ExchangeRefIdeal.defs _ _).mono (fun r h => ⟨fun c => (h c).2, sem_eq_zero_of_no_sems (by decide) r.2⟩) (Cert.ExchangeRefIdeal.Value.run (F := Bits) m g)

/-- The same of its idealization. -/
theorem frame_exchangeRefIdeal : Cert.quiescent_ExchangeRefIdeal := fun m g _ =>
  (θ_run Cert.ExchangeRefIdeal.defs _ _).mono (fun r h => ⟨fun c => (h c).2, sem_eq_zero_of_no_sems (by decide) r.2⟩) (Cert.ExchangeRefIdeal.Value.run (F := Ideal) m g)

/-- Bit for bit, the devices end with the blocks of the reference's result. -/
theorem bitexact_exchange : Cert.bitexact_Exchange_ExchangeRef := fun m g m' g' _ hw => Cert.AllToAll.pair (F := Bits) m g m' g' hw

/-- The same over the extended reals. -/
theorem algebraic_exchange : Cert.algebraic_ExchangeIdeal_ExchangeRefIdeal := fun m g m' g' _ hw => Cert.AllToAll.pair (F := Ideal) m g m' g' hw

/-- Whatever the values of the format are, the all-gather runs to a quiet end, its argument unchanged. -/
theorem frame_gather : Cert.quiescent_Gather := fun m g _ =>
  (θ_run Cert.GatherIdeal.defs _ _).mono (fun _ h => ⟨fun c => (h.1 c).1, h.2⟩) (Cert.AllGather.run_main (F := Bits) m g)

/-- The same of its idealization. -/
theorem frame_gatherIdeal : Cert.quiescent_GatherIdeal := fun m g _ =>
  (θ_run Cert.GatherIdeal.defs _ _).mono (fun _ h => ⟨fun c => (h.1 c).1, h.2⟩) (Cert.AllGather.run_main (F := Ideal) m g)

/-- The all-gather's reference, which has no semaphore, runs, its argument unchanged. -/
theorem frame_gatherRef : Cert.quiescent_GatherRef := fun m g _ =>
  (θ_run Cert.GatherRefIdeal.defs _ _).mono (fun r h => ⟨fun c => h c, sem_eq_zero_of_no_sems (by decide) r.2⟩) (Cert.AllGather.ref_run (F := Bits) m g)

/-- The same of its idealization. -/
theorem frame_gatherRefIdeal : Cert.quiescent_GatherRefIdeal := fun m g _ =>
  (θ_run Cert.GatherRefIdeal.defs _ _).mono (fun r h => ⟨fun c => h c, sem_eq_zero_of_no_sems (by decide) r.2⟩) (Cert.AllGather.ref_run (F := Ideal) m g)

/-- Bit for bit, every device ends with the reference's result. -/
theorem bitexact_gather : Cert.bitexact_Gather_GatherRef := fun m g m' g' _ hw => Cert.AllGather.pair (F := Bits) m g m' g' hw

/-- The same over the extended reals. -/
theorem algebraic_gather : Cert.algebraic_GatherIdeal_GatherRefIdeal := fun m g m' g' _ hw => Cert.AllGather.pair (F := Ideal) m g m' g' hw

/-- Whatever the values of the format are, the update of the packed big weights runs to a quiet end, its arguments
    unchanged. -/
theorem frame_update : Cert.quiescent_Update := fun m g _ => Cert.Update.Gen.frame m g

/-- The same of its idealization. -/
theorem frame_updateIdeal : Cert.quiescent_UpdateIdeal := fun m g _ => Cert.UpdateIdeal.Gen.frame m g

/-- The update's reference, which has no semaphore, runs, its arguments unchanged. -/
theorem frame_updateRefIdeal : Cert.quiescent_UpdateRefIdeal := fun m g _ =>
  (θ_run Cert.UpdateRefIdeal.defs _ _).mono (fun r h => ⟨fun c => (h c).2.2.2.2, sem_eq_zero_of_no_sems (by decide) r.2⟩) (Cert.UpdateRefIdeal.Value.run (F := Ideal) m g)

/-- The update of the small weights runs to a quiet end, its arguments unchanged. -/
theorem frame_updateSmall : Cert.quiescent_UpdateSmall := fun m g _ => Cert.UpdateSmall.Gen.frame m g

/-- The same of its idealization. -/
theorem frame_updateSmallIdeal : Cert.quiescent_UpdateSmallIdeal := fun m g _ => Cert.UpdateSmallIdeal.Gen.frame m g

/-- Its reference runs, its arguments unchanged. -/
theorem frame_updateSmallRefIdeal : Cert.quiescent_UpdateSmallRefIdeal := fun m g _ =>
  (θ_run Cert.UpdateSmallRefIdeal.defs _ _).mono (fun r h => ⟨fun c => (h c).2.2.2.2, sem_eq_zero_of_no_sems (by decide) r.2⟩) (Cert.UpdateSmallRefIdeal.Value.run (F := Ideal) m g)

/-- The update of the convolution's weights runs to a quiet end, its arguments unchanged. -/
theorem frame_updateConv : Cert.quiescent_UpdateConv := fun m g _ => Cert.UpdateConv.Gen.frame m g

/-- The same of its idealization. -/
theorem frame_updateConvIdeal : Cert.quiescent_UpdateConvIdeal := fun m g _ => Cert.UpdateConvIdeal.Gen.frame m g

/-- Its reference runs, its arguments unchanged. -/
theorem frame_updateConvRefIdeal : Cert.quiescent_UpdateConvRefIdeal := fun m g _ =>
  (θ_run Cert.UpdateConvRefIdeal.defs _ _).mono (fun r h => ⟨fun c => (h c).2.2.2.2, sem_eq_zero_of_no_sems (by decide) r.2⟩) (Cert.UpdateConvRefIdeal.Value.run (F := Ideal) m g)

/-- The update of the conditioning's projection runs to a quiet end, its arguments unchanged. -/
theorem frame_updateAda : Cert.quiescent_UpdateAda := fun m g _ => Cert.UpdateAda.Gen.frame m g

/-- The same of its idealization. -/
theorem frame_updateAdaIdeal : Cert.quiescent_UpdateAdaIdeal := fun m g _ => Cert.UpdateAdaIdeal.Gen.frame m g

/-- Its reference runs, its arguments unchanged. -/
theorem frame_updateAdaRefIdeal : Cert.quiescent_UpdateAdaRefIdeal := fun m g _ =>
  (θ_run Cert.UpdateAdaRefIdeal.defs _ _).mono (fun r h => ⟨fun c => (h c).2.2.2.2, sem_eq_zero_of_no_sems (by decide) r.2⟩) (Cert.UpdateAdaRefIdeal.Value.run (F := Ideal) m g)

/-- The update of the context's conditioning runs to a quiet end, its arguments unchanged. -/
theorem frame_updateCctx : Cert.quiescent_UpdateCctx := fun m g _ => Cert.UpdateCctx.Gen.frame m g

/-- The same of its idealization. -/
theorem frame_updateCctxIdeal : Cert.quiescent_UpdateCctxIdeal := fun m g _ => Cert.UpdateCctxIdeal.Gen.frame m g

/-- Its reference runs, its arguments unchanged. -/
theorem frame_updateCctxRefIdeal : Cert.quiescent_UpdateCctxRefIdeal := fun m g _ =>
  (θ_run Cert.UpdateCctxRefIdeal.defs _ _).mono (fun r h => ⟨fun c => (h c).2.2.2.2, sem_eq_zero_of_no_sems (by decide) r.2⟩) (Cert.UpdateCctxRefIdeal.Value.run (F := Ideal) m g)

/-- The loss runs to a quiet end, its arguments unchanged. -/
theorem frame_loss : Cert.quiescent_Loss := fun m g _ => Cert.Loss.Gen.frame m g

/-- The same of its idealization. -/
theorem frame_lossIdeal : Cert.quiescent_LossIdeal := fun m g _ => Cert.LossIdeal.Gen.frame m g

/-- Its reference runs, its arguments unchanged. -/
theorem frame_lossRefIdeal : Cert.quiescent_LossRefIdeal := fun m g _ =>
  (θ_run Cert.LossRefIdeal.defs _ _).mono (fun r h => ⟨fun c => (h c).2.2, sem_eq_zero_of_no_sems (by decide) r.2⟩) (Cert.LossRefIdeal.Value.run (F := Ideal) m g)

/-- The input's gradient runs to a quiet end, its arguments unchanged. -/
theorem frame_inputGrad : Cert.quiescent_InputGrad := fun m g _ => Cert.InputGrad.Gen.frame m g

/-- The same of its idealization. -/
theorem frame_inputGradIdeal : Cert.quiescent_InputGradIdeal := fun m g _ => Cert.InputGradIdeal.Gen.frame m g

/-- Its reference runs, its arguments unchanged. -/
theorem frame_inputGradRefIdeal : Cert.quiescent_InputGradRefIdeal := fun m g _ =>
  (θ_run Cert.InputGradRefIdeal.defs _ _).mono (fun r h => ⟨fun c => (h c).2.2, sem_eq_zero_of_no_sems (by decide) r.2⟩) (Cert.InputGradRefIdeal.Value.run (F := Ideal) m g)

/-- The conditioning runs to a quiet end, its arguments unchanged. -/
theorem frame_modulation : Cert.quiescent_Modulation := fun m g _ => Cert.Modulation.Gen.frame m g

/-- The same of its idealization. -/
theorem frame_modulationIdeal : Cert.quiescent_ModulationIdeal := fun m g _ => Cert.ModulationIdeal.Gen.frame m g

/-- Its reference runs, its arguments unchanged. -/
theorem frame_modulationRefIdeal : Cert.quiescent_ModulationRefIdeal := fun m g _ =>
  (θ_run Cert.ModulationRefIdeal.defs _ _).mono (fun r h => ⟨fun c => (h c).2, sem_eq_zero_of_no_sems (by decide) r.2⟩) (Cert.ModulationRefIdeal.Value.run (F := Ideal) m g)

/-- The conditioning's gradients run to a quiet end, their arguments unchanged. -/
theorem frame_modulationGrad : Cert.quiescent_ModulationGrad := fun m g _ => Cert.ModulationGrad.Gen.frame m g

/-- The same of their idealization. -/
theorem frame_modulationGradIdeal : Cert.quiescent_ModulationGradIdeal := fun m g _ => Cert.ModulationGradIdeal.Gen.frame m g

/-- Their reference runs, its arguments unchanged. -/
theorem frame_modulationGradRefIdeal : Cert.quiescent_ModulationGradRefIdeal := fun m g _ =>
  (θ_run Cert.ModulationGradRefIdeal.defs _ _).mono (fun r h => ⟨fun c => (h c).2.2, sem_eq_zero_of_no_sems (by decide) r.2⟩) (Cert.ModulationGradRefIdeal.Value.run (F := Ideal) m g)

/-- The input projection runs to a quiet end, its arguments unchanged. -/
theorem frame_project : Cert.quiescent_Project := fun m g _ => Cert.Project.Gen.frame m g

/-- The same of its idealization. -/
theorem frame_projectIdeal : Cert.quiescent_ProjectIdeal := fun m g _ => Cert.ProjectIdeal.Gen.frame m g

/-- Its reference runs, its arguments unchanged. -/
theorem frame_projectRefIdeal : Cert.quiescent_ProjectRefIdeal := fun m g _ =>
  (θ_run Cert.ProjectRefIdeal.defs _ _).mono (fun r h => ⟨fun c => (h c).2, sem_eq_zero_of_no_sems (by decide) r.2⟩) (Cert.ProjectRefIdeal.Value.run (F := Ideal) m g)

/-- The upward projection runs to a quiet end, its arguments unchanged. -/
theorem frame_up : Cert.quiescent_Up := fun m g _ => Cert.Up.Gen.frame m g

/-- The same of its idealization. -/
theorem frame_upIdeal : Cert.quiescent_UpIdeal := fun m g _ => Cert.UpIdeal.Gen.frame m g

/-- Its reference runs, its arguments unchanged. -/
theorem frame_upRefIdeal : Cert.quiescent_UpRefIdeal := fun m g _ =>
  (θ_run Cert.UpRefIdeal.defs _ _).mono (fun r h => ⟨fun c => (h c).2, sem_eq_zero_of_no_sems (by decide) r.2⟩) (Cert.UpRefIdeal.Value.run (F := Ideal) m g)

/-- The gradient of the input projection's weight runs to a quiet end, its arguments unchanged. -/
theorem frame_projectGrad : Cert.quiescent_ProjectGrad := fun m g _ => Cert.ProjectGrad.Gen.frame m g

/-- The same of its idealization. -/
theorem frame_projectGradIdeal : Cert.quiescent_ProjectGradIdeal := fun m g _ => Cert.ProjectGradIdeal.Gen.frame m g

/-- Its reference runs, its arguments unchanged. -/
theorem frame_projectGradRefIdeal : Cert.quiescent_ProjectGradRefIdeal := fun m g _ =>
  (θ_run Cert.ProjectGradRefIdeal.defs _ _).mono (fun r h => ⟨fun c => (h c).2, sem_eq_zero_of_no_sems (by decide) r.2⟩) (Cert.ProjectGradRefIdeal.Value.run (F := Ideal) m g)

/-- The gradient of the upward projection's weight runs to a quiet end, its arguments unchanged. -/
theorem frame_upGrad : Cert.quiescent_UpGrad := fun m g _ => Cert.UpGrad.Gen.frame m g

/-- The same of its idealization. -/
theorem frame_upGradIdeal : Cert.quiescent_UpGradIdeal := fun m g _ => Cert.UpGradIdeal.Gen.frame m g

/-- Its reference runs, its arguments unchanged. -/
theorem frame_upGradRefIdeal : Cert.quiescent_UpGradRefIdeal := fun m g _ =>
  (θ_run Cert.UpGradRefIdeal.defs _ _).mono (fun r h => ⟨fun c => (h c).2, sem_eq_zero_of_no_sems (by decide) r.2⟩) (Cert.UpGradRefIdeal.Value.run (F := Ideal) m g)

/-- The gradient of the feed-forward layer's input runs to a quiet end, its arguments unchanged. -/
theorem frame_upInputGrad : Cert.quiescent_UpInputGrad := fun m g _ => Cert.UpInputGrad.Gen.frame m g

/-- The same of its idealization. -/
theorem frame_upInputGradIdeal : Cert.quiescent_UpInputGradIdeal := fun m g _ => Cert.UpInputGradIdeal.Gen.frame m g

/-- Its reference runs, its arguments unchanged. -/
theorem frame_upInputGradRefIdeal : Cert.quiescent_UpInputGradRefIdeal := fun m g _ =>
  (θ_run Cert.UpInputGradRefIdeal.defs _ _).mono (fun r h => ⟨fun c => (h c).2.2, sem_eq_zero_of_no_sems (by decide) r.2⟩) (Cert.UpInputGradRefIdeal.Value.run (F := Ideal) m g)

/-- The attention runs to a quiet end, its arguments unchanged. -/
theorem frame_attention : Cert.quiescent_Attention := fun m g _ => Cert.Attention.Gen.frame m g

/-- The same of its idealization. -/
theorem frame_attentionIdeal : Cert.quiescent_AttentionIdeal := fun m g _ => Cert.AttentionIdeal.Gen.frame m g

/-- Its reference runs, its arguments unchanged. -/
theorem frame_attentionRefIdeal : Cert.quiescent_AttentionRefIdeal := fun m g _ =>
  (θ_run Cert.AttentionRefIdeal.defs _ _).mono (fun r h => ⟨fun c => (h c).2, sem_eq_zero_of_no_sems (by decide) r.2⟩) (Cert.AttentionRefIdeal.Value.run (F := Ideal) m g)

/-- The idealization under the precondition of finite queries and keys. -/
theorem frame_attentionIdeal_pre [Cert.Pre_finite_scores.Facts] : Cert.quiescent_AttentionIdeal_pre_finite_scores := fun m g _ =>
  Cert.AttentionIdeal.Gen.frame m g

/-- The reference under it. -/
theorem frame_attentionRefIdeal_pre [Cert.Pre_finite_scores.Facts] : Cert.quiescent_AttentionRefIdeal_pre_finite_scores := fun m g _ =>
  frame_attentionRefIdeal m g trivial

/-- The downward half of the feed-forward layer runs without fault, its arguments unchanged. -/
theorem frame_down : Cert.quiescent_Down := fun m g _ => Cert.Down.Gen.frame m g

/-- The same of its idealization. -/
theorem frame_downIdeal : Cert.quiescent_DownIdeal := fun m g _ => Cert.DownIdeal.Gen.frame m g

/-- Its reference runs, its arguments unchanged. -/
theorem frame_downRefIdeal : Cert.quiescent_DownRefIdeal := fun m g _ =>
  (θ_run Cert.DownRefIdeal.defs _ _).mono (fun r h => ⟨fun c => (h c).2.2, sem_eq_zero_of_no_sems (by decide) r.2⟩) (Cert.DownRefIdeal.Value.run (F := Ideal) m g)

/-- The convolution's gradient runs without fault, its arguments unchanged. -/
theorem frame_convGrad : Cert.quiescent_ConvGrad := fun m g _ => Cert.ConvGrad.Gen.frame m g

/-- The same of its idealization. -/
theorem frame_convGradIdeal : Cert.quiescent_ConvGradIdeal := fun m g _ => Cert.ConvGradIdeal.Gen.frame m g

/-- Its reference runs, its arguments unchanged. -/
theorem frame_convGradRefIdeal : Cert.quiescent_ConvGradRefIdeal := fun m g _ =>
  (θ_run Cert.ConvGradRefIdeal.defs _ _).mono (fun r h => ⟨fun c => (h c).2.2.2, sem_eq_zero_of_no_sems (by decide) r.2⟩) (Cert.ConvGradRefIdeal.Value.run (F := Ideal) m g)

/-- The second layer norm's gradient runs without fault, its arguments unchanged. -/
theorem frame_normGrad : Cert.quiescent_NormGrad := fun m g _ => Cert.NormGrad.Gen.frame m g

/-- The same of its idealization. -/
theorem frame_normGradIdeal : Cert.quiescent_NormGradIdeal := fun m g _ => Cert.NormGradIdeal.Gen.frame m g

/-- Its reference runs, its arguments unchanged. -/
theorem frame_normGradRefIdeal : Cert.quiescent_NormGradRefIdeal := fun m g _ =>
  (θ_run Cert.NormGradRefIdeal.defs _ _).mono (fun r h => ⟨fun c => (h c).2.2.2.2.2, sem_eq_zero_of_no_sems (by decide) r.2⟩) (Cert.NormGradRefIdeal.Value.run (F := Ideal) m g)

/-- The mixers' output runs without fault, its arguments unchanged. -/
theorem frame_mix : Cert.quiescent_Mix := fun m g _ => Cert.Mix.Gen.frame m g

/-- The same of its idealization. -/
theorem frame_mixIdeal : Cert.quiescent_MixIdeal := fun m g _ => Cert.MixIdeal.Gen.frame m g

/-- Its reference runs, its arguments unchanged. -/
theorem frame_mixRefIdeal : Cert.quiescent_MixRefIdeal := fun m g _ =>
  (θ_run Cert.MixRefIdeal.defs _ _).mono (fun r h => ⟨fun c => (h c).2, sem_eq_zero_of_no_sems (by decide) r.2⟩) (Cert.MixRefIdeal.Value.run (F := Ideal) m g)

/-- Everything that is claimed. -/
theorem claim : Cert.Claim := ⟨Cert.Exchange.Gen.facts, Cert.ExchangeIdeal.Gen.facts, Cert.ExchangeRefIdeal.Gen.facts, Cert.ExchangeRef.Gen.facts,
  Cert.Gather.Gen.facts, Cert.GatherIdeal.Gen.facts, Cert.GatherRefIdeal.Gen.facts, Cert.GatherRef.Gen.facts,
  Cert.Update.Gen.facts, Cert.UpdateIdeal.Gen.facts, Cert.UpdateRefIdeal.Gen.facts,
  Cert.UpdateSmall.Gen.facts, Cert.UpdateSmallIdeal.Gen.facts, Cert.UpdateSmallRefIdeal.Gen.facts,
  Cert.UpdateConv.Gen.facts, Cert.UpdateConvIdeal.Gen.facts, Cert.UpdateConvRefIdeal.Gen.facts,
  Cert.UpdateAda.Gen.facts, Cert.UpdateAdaIdeal.Gen.facts, Cert.UpdateAdaRefIdeal.Gen.facts,
  Cert.UpdateCctx.Gen.facts, Cert.UpdateCctxIdeal.Gen.facts, Cert.UpdateCctxRefIdeal.Gen.facts,
  Cert.Loss.Gen.facts, Cert.LossIdeal.Gen.facts, Cert.LossRefIdeal.Gen.facts,
  Cert.InputGrad.Gen.facts, Cert.InputGradIdeal.Gen.facts, Cert.InputGradRefIdeal.Gen.facts,
  Cert.Modulation.Gen.facts, Cert.ModulationIdeal.Gen.facts, Cert.ModulationRefIdeal.Gen.facts,
  Cert.ModulationGrad.Gen.facts, Cert.ModulationGradIdeal.Gen.facts, Cert.ModulationGradRefIdeal.Gen.facts,
  Cert.Project.Gen.facts, Cert.ProjectIdeal.Gen.facts, Cert.ProjectRefIdeal.Gen.facts,
  Cert.Up.Gen.facts, Cert.UpIdeal.Gen.facts, Cert.UpRefIdeal.Gen.facts,
  Cert.ProjectGrad.Gen.facts, Cert.ProjectGradIdeal.Gen.facts, Cert.ProjectGradRefIdeal.Gen.facts,
  Cert.UpGrad.Gen.facts, Cert.UpGradIdeal.Gen.facts, Cert.UpGradRefIdeal.Gen.facts,
  Cert.UpInputGrad.Gen.facts, Cert.UpInputGradIdeal.Gen.facts, Cert.UpInputGradRefIdeal.Gen.facts,
  Cert.Attention.Gen.facts, Cert.AttentionIdeal.Gen.facts, Cert.AttentionRefIdeal.Gen.facts,
  Cert.Down.Gen.facts, Cert.DownIdeal.Gen.facts, Cert.DownRefIdeal.Gen.facts,
  Cert.ConvGrad.Gen.facts, Cert.ConvGradIdeal.Gen.facts, Cert.ConvGradRefIdeal.Gen.facts,
  Cert.NormGrad.Gen.facts, Cert.NormGradIdeal.Gen.facts, Cert.NormGradRefIdeal.Gen.facts,
  Cert.Mix.Gen.facts, Cert.MixIdeal.Gen.facts, Cert.MixRefIdeal.Gen.facts,
  Cert.Attend.pre_facts,
  frame_exchange, frame_exchangeIdeal, frame_exchangeRefIdeal, frame_exchangeRef,
  frame_gather, frame_gatherIdeal, frame_gatherRefIdeal, frame_gatherRef,
  frame_update, frame_updateIdeal, frame_updateRefIdeal,
  frame_updateSmall, frame_updateSmallIdeal, frame_updateSmallRefIdeal,
  frame_updateConv, frame_updateConvIdeal, frame_updateConvRefIdeal,
  frame_updateAda, frame_updateAdaIdeal, frame_updateAdaRefIdeal,
  frame_updateCctx, frame_updateCctxIdeal, frame_updateCctxRefIdeal,
  frame_loss, frame_lossIdeal, frame_lossRefIdeal,
  frame_inputGrad, frame_inputGradIdeal, frame_inputGradRefIdeal,
  frame_modulation, frame_modulationIdeal, frame_modulationRefIdeal,
  frame_modulationGrad, frame_modulationGradIdeal, frame_modulationGradRefIdeal,
  frame_project, frame_projectIdeal, frame_projectRefIdeal,
  frame_up, frame_upIdeal, frame_upRefIdeal,
  frame_projectGrad, frame_projectGradIdeal, frame_projectGradRefIdeal,
  frame_upGrad, frame_upGradIdeal, frame_upGradRefIdeal,
  frame_upInputGrad, frame_upInputGradIdeal, frame_upInputGradRefIdeal,
  frame_attention, frame_attentionIdeal, frame_attentionIdeal_pre, frame_attentionRefIdeal, frame_attentionRefIdeal_pre,
  frame_down, frame_downIdeal, frame_downRefIdeal,
  frame_convGrad, frame_convGradIdeal, frame_convGradRefIdeal,
  frame_normGrad, frame_normGradIdeal, frame_normGradRefIdeal,
  frame_mix, frame_mixIdeal, frame_mixRefIdeal,
  trivial, bitexact_exchange, algebraic_exchange, trivial, bitexact_gather, algebraic_gather, trivial, Cert.Adam.Big.meets, trivial, Cert.Adam.Small.meets, trivial, Cert.Adam.Conv.meets, trivial, Cert.Adam.Ada.meets, trivial, Cert.Adam.Cctx.meets,
  trivial, Cert.LossHead.meets, trivial, Cert.DxProj.meets,
  trivial, Cert.Conditioning.meets, trivial, Cert.CondGrad.meets, trivial, Cert.InProj.meets, trivial, Cert.FfnUp.meets, trivial, Cert.InProjGrad.meets, trivial, Cert.FfnUpGrad.meets, trivial, Cert.FfnUpDx.meets, trivial, Cert.Attend.meets, trivial, Cert.FfnDown.meets, trivial, Cert.ConvBack.meets, trivial, Cert.NormBack.meets, trivial, Cert.Mixed.meets⟩

end Cert.Proof

end
